-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelQb (m : (ℓ : Loc Cert.KernelQb.nD Cert.KernelQb.τ Cert.KernelQb.sig) → Buf (Elt Bits) ℓ) : Prop :=
  True

def Pre_KernelQbIdeal (m : (ℓ : Loc Cert.KernelQbIdeal.nD Cert.KernelQbIdeal.τ Cert.KernelQbIdeal.sig) → Buf (Elt Ideal) ℓ) : Prop :=
  True

def Pre_ReferenceQbIdeal (m : (ℓ : Loc Cert.ReferenceQbIdeal.nD Cert.ReferenceQbIdeal.τ Cert.ReferenceQbIdeal.sig) → Buf (Elt Ideal) ℓ) : Prop :=
  True

def Pre_KernelKvb (m : (ℓ : Loc Cert.KernelKvb.nD Cert.KernelKvb.τ Cert.KernelKvb.sig) → Buf (Elt Bits) ℓ) : Prop :=
  True

def Pre_KernelKvbIdeal (m : (ℓ : Loc Cert.KernelKvbIdeal.nD Cert.KernelKvbIdeal.τ Cert.KernelKvbIdeal.sig) → Buf (Elt Ideal) ℓ) : Prop :=
  True

def Pre_ReferenceKvbIdeal (m : (ℓ : Loc Cert.ReferenceKvbIdeal.nD Cert.ReferenceKvbIdeal.τ Cert.ReferenceKvbIdeal.sig) → Buf (Elt Ideal) ℓ) : Prop :=
  True

def Pre_KernelInBwd (m : (ℓ : Loc Cert.KernelInBwd.nD Cert.KernelInBwd.τ Cert.KernelInBwd.sig) → Buf (Elt Bits) ℓ) : Prop :=
  True

def Pre_KernelInBwdIdeal (m : (ℓ : Loc Cert.KernelInBwdIdeal.nD Cert.KernelInBwdIdeal.τ Cert.KernelInBwdIdeal.sig) → Buf (Elt Ideal) ℓ) : Prop :=
  True

def Pre_KernelInBwdIdeal_finite_in_bwd [hPre_finite_in_bwd : Cert.Pre_finite_in_bwd.Facts] (m : (ℓ : Loc Cert.KernelInBwdIdeal.nD Cert.KernelInBwdIdeal.τ Cert.KernelInBwdIdeal.sig) → Buf (Elt Ideal) ℓ) : Prop :=
  ∀ c : Dev Cert.KernelInBwdIdeal.nD,
    (Cert.Pre_finite_in_bwd.fn (F := Ideal) (m ((c.tc : Thread Cert.KernelInBwdIdeal.nD Cert.KernelInBwdIdeal.τ).loc Cert.KernelInBwdIdeal.main_arg0)) (m ((c.tc : Thread Cert.KernelInBwdIdeal.nD Cert.KernelInBwdIdeal.τ).loc Cert.KernelInBwdIdeal.main_arg1)) (m ((c.tc : Thread Cert.KernelInBwdIdeal.nD Cert.KernelInBwdIdeal.τ).loc Cert.KernelInBwdIdeal.main_arg2)) (m ((c.tc : Thread Cert.KernelInBwdIdeal.nD Cert.KernelInBwdIdeal.τ).loc Cert.KernelInBwdIdeal.main_arg3)) (m ((c.tc : Thread Cert.KernelInBwdIdeal.nD Cert.KernelInBwdIdeal.τ).loc Cert.KernelInBwdIdeal.main_arg4)) (m ((c.tc : Thread Cert.KernelInBwdIdeal.nD Cert.KernelInBwdIdeal.τ).loc Cert.KernelInBwdIdeal.main_arg5)) (m ((c.tc : Thread Cert.KernelInBwdIdeal.nD Cert.KernelInBwdIdeal.τ).loc Cert.KernelInBwdIdeal.main_arg6)) (m ((c.tc : Thread Cert.KernelInBwdIdeal.nD Cert.KernelInBwdIdeal.τ).loc Cert.KernelInBwdIdeal.main_arg7)) (m ((c.tc : Thread Cert.KernelInBwdIdeal.nD Cert.KernelInBwdIdeal.τ).loc Cert.KernelInBwdIdeal.main_arg8)) (m ((c.tc : Thread Cert.KernelInBwdIdeal.nD Cert.KernelInBwdIdeal.τ).loc Cert.KernelInBwdIdeal.main_arg9)) (m ((c.tc : Thread Cert.KernelInBwdIdeal.nD Cert.KernelInBwdIdeal.τ).loc Cert.KernelInBwdIdeal.main_arg10)) (m ((c.tc : Thread Cert.KernelInBwdIdeal.nD Cert.KernelInBwdIdeal.τ).loc Cert.KernelInBwdIdeal.main_arg11)) (m ((c.tc : Thread Cert.KernelInBwdIdeal.nD Cert.KernelInBwdIdeal.τ).loc Cert.KernelInBwdIdeal.main_arg12)) (m ((c.tc : Thread Cert.KernelInBwdIdeal.nD Cert.KernelInBwdIdeal.τ).loc Cert.KernelInBwdIdeal.main_arg13)) (m ((c.tc : Thread Cert.KernelInBwdIdeal.nD Cert.KernelInBwdIdeal.τ).loc Cert.KernelInBwdIdeal.main_arg14))) = (fun _ => 1#1)

def Pre_ReferenceInBwdIdeal (m : (ℓ : Loc Cert.ReferenceInBwdIdeal.nD Cert.ReferenceInBwdIdeal.τ Cert.ReferenceInBwdIdeal.sig) → Buf (Elt Ideal) ℓ) : Prop :=
  True

def Pre_ReferenceInBwdIdeal_finite_in_bwd [hPre_finite_in_bwd : Cert.Pre_finite_in_bwd.Facts] (m : (ℓ : Loc Cert.ReferenceInBwdIdeal.nD Cert.ReferenceInBwdIdeal.τ Cert.ReferenceInBwdIdeal.sig) → Buf (Elt Ideal) ℓ) : Prop :=
  ∀ c : Dev Cert.ReferenceInBwdIdeal.nD,
    (Cert.Pre_finite_in_bwd.fn (F := Ideal) (m ((c.tc : Thread Cert.ReferenceInBwdIdeal.nD Cert.ReferenceInBwdIdeal.τ).loc Cert.ReferenceInBwdIdeal.main_arg0)) (m ((c.tc : Thread Cert.ReferenceInBwdIdeal.nD Cert.ReferenceInBwdIdeal.τ).loc Cert.ReferenceInBwdIdeal.main_arg1)) (m ((c.tc : Thread Cert.ReferenceInBwdIdeal.nD Cert.ReferenceInBwdIdeal.τ).loc Cert.ReferenceInBwdIdeal.main_arg2)) (m ((c.tc : Thread Cert.ReferenceInBwdIdeal.nD Cert.ReferenceInBwdIdeal.τ).loc Cert.ReferenceInBwdIdeal.main_arg3)) (m ((c.tc : Thread Cert.ReferenceInBwdIdeal.nD Cert.ReferenceInBwdIdeal.τ).loc Cert.ReferenceInBwdIdeal.main_arg4)) (m ((c.tc : Thread Cert.ReferenceInBwdIdeal.nD Cert.ReferenceInBwdIdeal.τ).loc Cert.ReferenceInBwdIdeal.main_arg5)) (m ((c.tc : Thread Cert.ReferenceInBwdIdeal.nD Cert.ReferenceInBwdIdeal.τ).loc Cert.ReferenceInBwdIdeal.main_arg6)) (m ((c.tc : Thread Cert.ReferenceInBwdIdeal.nD Cert.ReferenceInBwdIdeal.τ).loc Cert.ReferenceInBwdIdeal.main_arg7)) (m ((c.tc : Thread Cert.ReferenceInBwdIdeal.nD Cert.ReferenceInBwdIdeal.τ).loc Cert.ReferenceInBwdIdeal.main_arg8)) (m ((c.tc : Thread Cert.ReferenceInBwdIdeal.nD Cert.ReferenceInBwdIdeal.τ).loc Cert.ReferenceInBwdIdeal.main_arg9)) (m ((c.tc : Thread Cert.ReferenceInBwdIdeal.nD Cert.ReferenceInBwdIdeal.τ).loc Cert.ReferenceInBwdIdeal.main_arg10)) (m ((c.tc : Thread Cert.ReferenceInBwdIdeal.nD Cert.ReferenceInBwdIdeal.τ).loc Cert.ReferenceInBwdIdeal.main_arg11)) (m ((c.tc : Thread Cert.ReferenceInBwdIdeal.nD Cert.ReferenceInBwdIdeal.τ).loc Cert.ReferenceInBwdIdeal.main_arg12)) (m ((c.tc : Thread Cert.ReferenceInBwdIdeal.nD Cert.ReferenceInBwdIdeal.τ).loc Cert.ReferenceInBwdIdeal.main_arg13)) (m ((c.tc : Thread Cert.ReferenceInBwdIdeal.nD Cert.ReferenceInBwdIdeal.τ).loc Cert.ReferenceInBwdIdeal.main_arg14))) = (fun _ => 1#1)

def Pre_KernelInFwd (m : (ℓ : Loc Cert.KernelInFwd.nD Cert.KernelInFwd.τ Cert.KernelInFwd.sig) → Buf (Elt Bits) ℓ) : Prop :=
  True

def Pre_KernelInFwdIdeal (m : (ℓ : Loc Cert.KernelInFwdIdeal.nD Cert.KernelInFwdIdeal.τ Cert.KernelInFwdIdeal.sig) → Buf (Elt Ideal) ℓ) : Prop :=
  True

def Pre_ReferenceInFwdIdeal (m : (ℓ : Loc Cert.ReferenceInFwdIdeal.nD Cert.ReferenceInFwdIdeal.τ Cert.ReferenceInFwdIdeal.sig) → Buf (Elt Ideal) ℓ) : Prop :=
  True

def Pre_KernelOutBwd (m : (ℓ : Loc Cert.KernelOutBwd.nD Cert.KernelOutBwd.τ Cert.KernelOutBwd.sig) → Buf (Elt Bits) ℓ) : Prop :=
  True

def Pre_KernelOutBwdIdeal (m : (ℓ : Loc Cert.KernelOutBwdIdeal.nD Cert.KernelOutBwdIdeal.τ Cert.KernelOutBwdIdeal.sig) → Buf (Elt Ideal) ℓ) : Prop :=
  True

def Pre_KernelOutBwdIdeal_finite_out_bwd [hPre_finite_out_bwd : Cert.Pre_finite_out_bwd.Facts] (m : (ℓ : Loc Cert.KernelOutBwdIdeal.nD Cert.KernelOutBwdIdeal.τ Cert.KernelOutBwdIdeal.sig) → Buf (Elt Ideal) ℓ) : Prop :=
  ∀ c : Dev Cert.KernelOutBwdIdeal.nD,
    (Cert.Pre_finite_out_bwd.fn (F := Ideal) (m ((c.tc : Thread Cert.KernelOutBwdIdeal.nD Cert.KernelOutBwdIdeal.τ).loc Cert.KernelOutBwdIdeal.main_arg0)) (m ((c.tc : Thread Cert.KernelOutBwdIdeal.nD Cert.KernelOutBwdIdeal.τ).loc Cert.KernelOutBwdIdeal.main_arg1)) (m ((c.tc : Thread Cert.KernelOutBwdIdeal.nD Cert.KernelOutBwdIdeal.τ).loc Cert.KernelOutBwdIdeal.main_arg2)) (m ((c.tc : Thread Cert.KernelOutBwdIdeal.nD Cert.KernelOutBwdIdeal.τ).loc Cert.KernelOutBwdIdeal.main_arg3)) (m ((c.tc : Thread Cert.KernelOutBwdIdeal.nD Cert.KernelOutBwdIdeal.τ).loc Cert.KernelOutBwdIdeal.main_arg4)) (m ((c.tc : Thread Cert.KernelOutBwdIdeal.nD Cert.KernelOutBwdIdeal.τ).loc Cert.KernelOutBwdIdeal.main_arg5)) (m ((c.tc : Thread Cert.KernelOutBwdIdeal.nD Cert.KernelOutBwdIdeal.τ).loc Cert.KernelOutBwdIdeal.main_arg6)) (m ((c.tc : Thread Cert.KernelOutBwdIdeal.nD Cert.KernelOutBwdIdeal.τ).loc Cert.KernelOutBwdIdeal.main_arg7))) = (fun _ => 1#1)

def Pre_ReferenceOutBwdIdeal (m : (ℓ : Loc Cert.ReferenceOutBwdIdeal.nD Cert.ReferenceOutBwdIdeal.τ Cert.ReferenceOutBwdIdeal.sig) → Buf (Elt Ideal) ℓ) : Prop :=
  True

def Pre_ReferenceOutBwdIdeal_finite_out_bwd [hPre_finite_out_bwd : Cert.Pre_finite_out_bwd.Facts] (m : (ℓ : Loc Cert.ReferenceOutBwdIdeal.nD Cert.ReferenceOutBwdIdeal.τ Cert.ReferenceOutBwdIdeal.sig) → Buf (Elt Ideal) ℓ) : Prop :=
  ∀ c : Dev Cert.ReferenceOutBwdIdeal.nD,
    (Cert.Pre_finite_out_bwd.fn (F := Ideal) (m ((c.tc : Thread Cert.ReferenceOutBwdIdeal.nD Cert.ReferenceOutBwdIdeal.τ).loc Cert.ReferenceOutBwdIdeal.main_arg0)) (m ((c.tc : Thread Cert.ReferenceOutBwdIdeal.nD Cert.ReferenceOutBwdIdeal.τ).loc Cert.ReferenceOutBwdIdeal.main_arg1)) (m ((c.tc : Thread Cert.ReferenceOutBwdIdeal.nD Cert.ReferenceOutBwdIdeal.τ).loc Cert.ReferenceOutBwdIdeal.main_arg2)) (m ((c.tc : Thread Cert.ReferenceOutBwdIdeal.nD Cert.ReferenceOutBwdIdeal.τ).loc Cert.ReferenceOutBwdIdeal.main_arg3)) (m ((c.tc : Thread Cert.ReferenceOutBwdIdeal.nD Cert.ReferenceOutBwdIdeal.τ).loc Cert.ReferenceOutBwdIdeal.main_arg4)) (m ((c.tc : Thread Cert.ReferenceOutBwdIdeal.nD Cert.ReferenceOutBwdIdeal.τ).loc Cert.ReferenceOutBwdIdeal.main_arg5)) (m ((c.tc : Thread Cert.ReferenceOutBwdIdeal.nD Cert.ReferenceOutBwdIdeal.τ).loc Cert.ReferenceOutBwdIdeal.main_arg6)) (m ((c.tc : Thread Cert.ReferenceOutBwdIdeal.nD Cert.ReferenceOutBwdIdeal.τ).loc Cert.ReferenceOutBwdIdeal.main_arg7))) = (fun _ => 1#1)

def Pre_KernelAdaW (m : (ℓ : Loc Cert.KernelAdaW.nD Cert.KernelAdaW.τ Cert.KernelAdaW.sig) → Buf (Elt Bits) ℓ) : Prop :=
  True

def Pre_KernelAdaWIdeal (m : (ℓ : Loc Cert.KernelAdaWIdeal.nD Cert.KernelAdaWIdeal.τ Cert.KernelAdaWIdeal.sig) → Buf (Elt Ideal) ℓ) : Prop :=
  True

def Pre_ReferenceAdaWIdeal (m : (ℓ : Loc Cert.ReferenceAdaWIdeal.nD Cert.ReferenceAdaWIdeal.τ Cert.ReferenceAdaWIdeal.sig) → Buf (Elt Ideal) ℓ) : Prop :=
  True

def Pre_KernelAdaDown (m : (ℓ : Loc Cert.KernelAdaDown.nD Cert.KernelAdaDown.τ Cert.KernelAdaDown.sig) → Buf (Elt Bits) ℓ) : Prop :=
  True

def Pre_KernelAdaDownIdeal (m : (ℓ : Loc Cert.KernelAdaDownIdeal.nD Cert.KernelAdaDownIdeal.τ Cert.KernelAdaDownIdeal.sig) → Buf (Elt Ideal) ℓ) : Prop :=
  True

def Pre_ReferenceAdaDownIdeal (m : (ℓ : Loc Cert.ReferenceAdaDownIdeal.nD Cert.ReferenceAdaDownIdeal.τ Cert.ReferenceAdaDownIdeal.sig) → Buf (Elt Ideal) ℓ) : Prop :=
  True

def Pre_KernelAdaOut (m : (ℓ : Loc Cert.KernelAdaOut.nD Cert.KernelAdaOut.τ Cert.KernelAdaOut.sig) → Buf (Elt Bits) ℓ) : Prop :=
  True

def Pre_KernelAdaOutIdeal (m : (ℓ : Loc Cert.KernelAdaOutIdeal.nD Cert.KernelAdaOutIdeal.τ Cert.KernelAdaOutIdeal.sig) → Buf (Elt Ideal) ℓ) : Prop :=
  True

def Pre_ReferenceAdaOutIdeal (m : (ℓ : Loc Cert.ReferenceAdaOutIdeal.nD Cert.ReferenceAdaOutIdeal.τ Cert.ReferenceAdaOutIdeal.sig) → Buf (Elt Ideal) ℓ) : Prop :=
  True

def Pre_KernelAdaKvb (m : (ℓ : Loc Cert.KernelAdaKvb.nD Cert.KernelAdaKvb.τ Cert.KernelAdaKvb.sig) → Buf (Elt Bits) ℓ) : Prop :=
  True

def Pre_KernelAdaKvbIdeal (m : (ℓ : Loc Cert.KernelAdaKvbIdeal.nD Cert.KernelAdaKvbIdeal.τ Cert.KernelAdaKvbIdeal.sig) → Buf (Elt Ideal) ℓ) : Prop :=
  True

def Pre_ReferenceAdaKvbIdeal (m : (ℓ : Loc Cert.ReferenceAdaKvbIdeal.nD Cert.ReferenceAdaKvbIdeal.τ Cert.ReferenceAdaKvbIdeal.sig) → Buf (Elt Ideal) ℓ) : Prop :=
  True

def Pre_KernelAdaIn (m : (ℓ : Loc Cert.KernelAdaIn.nD Cert.KernelAdaIn.τ Cert.KernelAdaIn.sig) → Buf (Elt Bits) ℓ) : Prop :=
  True

def Pre_KernelAdaInIdeal (m : (ℓ : Loc Cert.KernelAdaInIdeal.nD Cert.KernelAdaInIdeal.τ Cert.KernelAdaInIdeal.sig) → Buf (Elt Ideal) ℓ) : Prop :=
  True

def Pre_ReferenceAdaInIdeal (m : (ℓ : Loc Cert.ReferenceAdaInIdeal.nD Cert.ReferenceAdaInIdeal.τ Cert.ReferenceAdaInIdeal.sig) → Buf (Elt Ideal) ℓ) : Prop :=
  True

def Pre_KernelAdaQb (m : (ℓ : Loc Cert.KernelAdaQb.nD Cert.KernelAdaQb.τ Cert.KernelAdaQb.sig) → Buf (Elt Bits) ℓ) : Prop :=
  True

def Pre_KernelAdaQbIdeal (m : (ℓ : Loc Cert.KernelAdaQbIdeal.nD Cert.KernelAdaQbIdeal.τ Cert.KernelAdaQbIdeal.sig) → Buf (Elt Ideal) ℓ) : Prop :=
  True

def Pre_ReferenceAdaQbIdeal (m : (ℓ : Loc Cert.ReferenceAdaQbIdeal.nD Cert.ReferenceAdaQbIdeal.τ Cert.ReferenceAdaQbIdeal.sig) → Buf (Elt Ideal) ℓ) : Prop :=
  True

def Pre_KernelAdaSmall (m : (ℓ : Loc Cert.KernelAdaSmall.nD Cert.KernelAdaSmall.τ Cert.KernelAdaSmall.sig) → Buf (Elt Bits) ℓ) : Prop :=
  True

def Pre_KernelAdaSmallIdeal (m : (ℓ : Loc Cert.KernelAdaSmallIdeal.nD Cert.KernelAdaSmallIdeal.τ Cert.KernelAdaSmallIdeal.sig) → Buf (Elt Ideal) ℓ) : Prop :=
  True

def Pre_ReferenceAdaSmallIdeal (m : (ℓ : Loc Cert.ReferenceAdaSmallIdeal.nD Cert.ReferenceAdaSmallIdeal.τ Cert.ReferenceAdaSmallIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_KernelOutFwdIdeal_finite_out_fwd [hPre_finite_out_fwd : Cert.Pre_finite_out_fwd.Facts] (m : (ℓ : Loc Cert.KernelOutFwdIdeal.nD Cert.KernelOutFwdIdeal.τ Cert.KernelOutFwdIdeal.sig) → Buf (Elt Ideal) ℓ) : Prop :=
  ∀ c : Dev Cert.KernelOutFwdIdeal.nD,
    (Cert.Pre_finite_out_fwd.fn (F := Ideal) (m ((c.tc : Thread Cert.KernelOutFwdIdeal.nD Cert.KernelOutFwdIdeal.τ).loc Cert.KernelOutFwdIdeal.main_arg0)) (m ((c.tc : Thread Cert.KernelOutFwdIdeal.nD Cert.KernelOutFwdIdeal.τ).loc Cert.KernelOutFwdIdeal.main_arg1)) (m ((c.tc : Thread Cert.KernelOutFwdIdeal.nD Cert.KernelOutFwdIdeal.τ).loc Cert.KernelOutFwdIdeal.main_arg2)) (m ((c.tc : Thread Cert.KernelOutFwdIdeal.nD Cert.KernelOutFwdIdeal.τ).loc Cert.KernelOutFwdIdeal.main_arg3)) (m ((c.tc : Thread Cert.KernelOutFwdIdeal.nD Cert.KernelOutFwdIdeal.τ).loc Cert.KernelOutFwdIdeal.main_arg4)) (m ((c.tc : Thread Cert.KernelOutFwdIdeal.nD Cert.KernelOutFwdIdeal.τ).loc Cert.KernelOutFwdIdeal.main_arg5)) (m ((c.tc : Thread Cert.KernelOutFwdIdeal.nD Cert.KernelOutFwdIdeal.τ).loc Cert.KernelOutFwdIdeal.main_arg6)) (m ((c.tc : Thread Cert.KernelOutFwdIdeal.nD Cert.KernelOutFwdIdeal.τ).loc Cert.KernelOutFwdIdeal.main_arg7)) (m ((c.tc : Thread Cert.KernelOutFwdIdeal.nD Cert.KernelOutFwdIdeal.τ).loc Cert.KernelOutFwdIdeal.main_arg8))) = (fun _ => 1#1)

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_ReferenceOutFwdIdeal_finite_out_fwd [hPre_finite_out_fwd : Cert.Pre_finite_out_fwd.Facts] (m : (ℓ : Loc Cert.ReferenceOutFwdIdeal.nD Cert.ReferenceOutFwdIdeal.τ Cert.ReferenceOutFwdIdeal.sig) → Buf (Elt Ideal) ℓ) : Prop :=
  ∀ c : Dev Cert.ReferenceOutFwdIdeal.nD,
    (Cert.Pre_finite_out_fwd.fn (F := Ideal) (m ((c.tc : Thread Cert.ReferenceOutFwdIdeal.nD Cert.ReferenceOutFwdIdeal.τ).loc Cert.ReferenceOutFwdIdeal.main_arg0)) (m ((c.tc : Thread Cert.ReferenceOutFwdIdeal.nD Cert.ReferenceOutFwdIdeal.τ).loc Cert.ReferenceOutFwdIdeal.main_arg1)) (m ((c.tc : Thread Cert.ReferenceOutFwdIdeal.nD Cert.ReferenceOutFwdIdeal.τ).loc Cert.ReferenceOutFwdIdeal.main_arg2)) (m ((c.tc : Thread Cert.ReferenceOutFwdIdeal.nD Cert.ReferenceOutFwdIdeal.τ).loc Cert.ReferenceOutFwdIdeal.main_arg3)) (m ((c.tc : Thread Cert.ReferenceOutFwdIdeal.nD Cert.ReferenceOutFwdIdeal.τ).loc Cert.ReferenceOutFwdIdeal.main_arg4)) (m ((c.tc : Thread Cert.ReferenceOutFwdIdeal.nD Cert.ReferenceOutFwdIdeal.τ).loc Cert.ReferenceOutFwdIdeal.main_arg5)) (m ((c.tc : Thread Cert.ReferenceOutFwdIdeal.nD Cert.ReferenceOutFwdIdeal.τ).loc Cert.ReferenceOutFwdIdeal.main_arg6)) (m ((c.tc : Thread Cert.ReferenceOutFwdIdeal.nD Cert.ReferenceOutFwdIdeal.τ).loc Cert.ReferenceOutFwdIdeal.main_arg7)) (m ((c.tc : Thread Cert.ReferenceOutFwdIdeal.nD Cert.ReferenceOutFwdIdeal.τ).loc Cert.ReferenceOutFwdIdeal.main_arg8))) = (fun _ => 1#1)

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelPrepBwd (m : (ℓ : Loc Cert.KernelPrepBwd.nD Cert.KernelPrepBwd.τ Cert.KernelPrepBwd.sig) → Buf (Elt Bits) ℓ) : Prop :=
  True

def Pre_KernelPrepBwdIdeal (m : (ℓ : Loc Cert.KernelPrepBwdIdeal.nD Cert.KernelPrepBwdIdeal.τ Cert.KernelPrepBwdIdeal.sig) → Buf (Elt Ideal) ℓ) : Prop :=
  True

def Pre_KernelPrepBwdIdeal_finite_mla_prep_bwd [hPre_finite_mla_prep_bwd : Cert.Pre_finite_mla_prep_bwd.Facts] (m : (ℓ : Loc Cert.KernelPrepBwdIdeal.nD Cert.KernelPrepBwdIdeal.τ Cert.KernelPrepBwdIdeal.sig) → Buf (Elt Ideal) ℓ) : Prop :=
  ∀ c : Dev Cert.KernelPrepBwdIdeal.nD,
    (Cert.Pre_finite_mla_prep_bwd.fn (F := Ideal) (m ((c.tc : Thread Cert.KernelPrepBwdIdeal.nD Cert.KernelPrepBwdIdeal.τ).loc Cert.KernelPrepBwdIdeal.main_arg0)) (m ((c.tc : Thread Cert.KernelPrepBwdIdeal.nD Cert.KernelPrepBwdIdeal.τ).loc Cert.KernelPrepBwdIdeal.main_arg1)) (m ((c.tc : Thread Cert.KernelPrepBwdIdeal.nD Cert.KernelPrepBwdIdeal.τ).loc Cert.KernelPrepBwdIdeal.main_arg2)) (m ((c.tc : Thread Cert.KernelPrepBwdIdeal.nD Cert.KernelPrepBwdIdeal.τ).loc Cert.KernelPrepBwdIdeal.main_arg3)) (m ((c.tc : Thread Cert.KernelPrepBwdIdeal.nD Cert.KernelPrepBwdIdeal.τ).loc Cert.KernelPrepBwdIdeal.main_arg4)) (m ((c.tc : Thread Cert.KernelPrepBwdIdeal.nD Cert.KernelPrepBwdIdeal.τ).loc Cert.KernelPrepBwdIdeal.main_arg5)) (m ((c.tc : Thread Cert.KernelPrepBwdIdeal.nD Cert.KernelPrepBwdIdeal.τ).loc Cert.KernelPrepBwdIdeal.main_arg6)) (m ((c.tc : Thread Cert.KernelPrepBwdIdeal.nD Cert.KernelPrepBwdIdeal.τ).loc Cert.KernelPrepBwdIdeal.main_arg7)) (m ((c.tc : Thread Cert.KernelPrepBwdIdeal.nD Cert.KernelPrepBwdIdeal.τ).loc Cert.KernelPrepBwdIdeal.main_arg8)) (m ((c.tc : Thread Cert.KernelPrepBwdIdeal.nD Cert.KernelPrepBwdIdeal.τ).loc Cert.KernelPrepBwdIdeal.main_arg9)) (m ((c.tc : Thread Cert.KernelPrepBwdIdeal.nD Cert.KernelPrepBwdIdeal.τ).loc Cert.KernelPrepBwdIdeal.main_arg10))) = (fun _ => 1#1)

def Pre_ReferencePrepBwdIdeal (m : (ℓ : Loc Cert.ReferencePrepBwdIdeal.nD Cert.ReferencePrepBwdIdeal.τ Cert.ReferencePrepBwdIdeal.sig) → Buf (Elt Ideal) ℓ) : Prop :=
  True

def Pre_ReferencePrepBwdIdeal_finite_mla_prep_bwd [hPre_finite_mla_prep_bwd : Cert.Pre_finite_mla_prep_bwd.Facts] (m : (ℓ : Loc Cert.ReferencePrepBwdIdeal.nD Cert.ReferencePrepBwdIdeal.τ Cert.ReferencePrepBwdIdeal.sig) → Buf (Elt Ideal) ℓ) : Prop :=
  ∀ c : Dev Cert.ReferencePrepBwdIdeal.nD,
    (Cert.Pre_finite_mla_prep_bwd.fn (F := Ideal) (m ((c.tc : Thread Cert.ReferencePrepBwdIdeal.nD Cert.ReferencePrepBwdIdeal.τ).loc Cert.ReferencePrepBwdIdeal.main_arg0)) (m ((c.tc : Thread Cert.ReferencePrepBwdIdeal.nD Cert.ReferencePrepBwdIdeal.τ).loc Cert.ReferencePrepBwdIdeal.main_arg1)) (m ((c.tc : Thread Cert.ReferencePrepBwdIdeal.nD Cert.ReferencePrepBwdIdeal.τ).loc Cert.ReferencePrepBwdIdeal.main_arg2)) (m ((c.tc : Thread Cert.ReferencePrepBwdIdeal.nD Cert.ReferencePrepBwdIdeal.τ).loc Cert.ReferencePrepBwdIdeal.main_arg3)) (m ((c.tc : Thread Cert.ReferencePrepBwdIdeal.nD Cert.ReferencePrepBwdIdeal.τ).loc Cert.ReferencePrepBwdIdeal.main_arg4)) (m ((c.tc : Thread Cert.ReferencePrepBwdIdeal.nD Cert.ReferencePrepBwdIdeal.τ).loc Cert.ReferencePrepBwdIdeal.main_arg5)) (m ((c.tc : Thread Cert.ReferencePrepBwdIdeal.nD Cert.ReferencePrepBwdIdeal.τ).loc Cert.ReferencePrepBwdIdeal.main_arg6)) (m ((c.tc : Thread Cert.ReferencePrepBwdIdeal.nD Cert.ReferencePrepBwdIdeal.τ).loc Cert.ReferencePrepBwdIdeal.main_arg7)) (m ((c.tc : Thread Cert.ReferencePrepBwdIdeal.nD Cert.ReferencePrepBwdIdeal.τ).loc Cert.ReferencePrepBwdIdeal.main_arg8)) (m ((c.tc : Thread Cert.ReferencePrepBwdIdeal.nD Cert.ReferencePrepBwdIdeal.τ).loc Cert.ReferencePrepBwdIdeal.main_arg9)) (m ((c.tc : Thread Cert.ReferencePrepBwdIdeal.nD Cert.ReferencePrepBwdIdeal.τ).loc Cert.ReferencePrepBwdIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelQb [hKernelQb : Cert.KernelQb.Facts] : Prop :=
  ∀ (m : (ℓ : Loc Cert.KernelQb.nD Cert.KernelQb.τ Cert.KernelQb.sig) → Buf (Elt Bits) ℓ) (g : Dev Cert.KernelQb.nD → PrngReg), Pre_KernelQb m →
    θ_run (Cert.KernelQb.defs (F := Bits)) (onTc (τ := Cert.KernelQb.τ) (Cert.KernelQb.main (F := Bits))) ⟨m, fun _ => 0, g⟩ (fun r => (∀ c : Dev Cert.KernelQb.nD,
      r.2.mem ((c.tc : Thread Cert.KernelQb.nD Cert.KernelQb.τ).loc Cert.KernelQb.main_arg0) = m ((c.tc : Thread Cert.KernelQb.nD Cert.KernelQb.τ).loc Cert.KernelQb.main_arg0)
      ∧ r.2.mem ((c.tc : Thread Cert.KernelQb.nD Cert.KernelQb.τ).loc Cert.KernelQb.main_arg1) = m ((c.tc : Thread Cert.KernelQb.nD Cert.KernelQb.τ).loc Cert.KernelQb.main_arg1))
      ∧ r.2.sem = fun _ => 0)

def quiescent_KernelQbIdeal [hKernelQbIdeal : Cert.KernelQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg), Pre_KernelQbIdeal m →
    θ_run (Cert.KernelQbIdeal.defs (F := Ideal)) (onTc (τ := Cert.KernelQbIdeal.τ) (Cert.KernelQbIdeal.main (F := Ideal))) ⟨m, fun _ => 0, g⟩ (fun r => (∀ c : Dev Cert.KernelQbIdeal.nD,
      r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
      ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ r.2.sem = fun _ => 0)

def quiescent_ReferenceQbIdeal [hReferenceQbIdeal : Cert.ReferenceQbIdeal.Facts] : Prop :=
  ∀ (m : (ℓ : Loc Cert.ReferenceQbIdeal.nD Cert.ReferenceQbIdeal.τ Cert.ReferenceQbIdeal.sig) → Buf (Elt Ideal) ℓ) (g : Dev Cert.ReferenceQbIdeal.nD → PrngReg), Pre_ReferenceQbIdeal m →
    θ_run (Cert.ReferenceQbIdeal.defs (F := Ideal)) (onTc (τ := Cert.ReferenceQbIdeal.τ) (Cert.ReferenceQbIdeal.main (F := Ideal))) ⟨m, fun _ => 0, g⟩ (fun r => (∀ c : Dev Cert.ReferenceQbIdeal.nD,
      r.2.mem ((c.tc : Thread Cert.ReferenceQbIdeal.nD Cert.ReferenceQbIdeal.τ).loc Cert.ReferenceQbIdeal.main_arg0) = m ((c.tc : Thread Cert.ReferenceQbIdeal.nD Cert.ReferenceQbIdeal.τ).loc Cert.ReferenceQbIdeal.main_arg0)
      ∧ r.2.mem ((c.tc : Thread Cert.ReferenceQbIdeal.nD Cert.ReferenceQbIdeal.τ).loc Cert.ReferenceQbIdeal.main_arg1) = m ((c.tc : Thread Cert.ReferenceQbIdeal.nD Cert.ReferenceQbIdeal.τ).loc Cert.ReferenceQbIdeal.main_arg1))
      ∧ r.2.sem = fun _ => 0)

def quiescent_KernelKvb [hKernelKvb : Cert.KernelKvb.Facts] : Prop :=
  ∀ (m : (ℓ : Loc Cert.KernelKvb.nD Cert.KernelKvb.τ Cert.KernelKvb.sig) → Buf (Elt Bits) ℓ) (g : Dev Cert.KernelKvb.nD → PrngReg), Pre_KernelKvb m →
    θ_run (Cert.KernelKvb.defs (F := Bits)) (onTc (τ := Cert.KernelKvb.τ) (Cert.KernelKvb.main (F := Bits))) ⟨m, fun _ => 0, g⟩ (fun r => (∀ c : Dev Cert.KernelKvb.nD,
      r.2.mem ((c.tc : Thread Cert.KernelKvb.nD Cert.KernelKvb.τ).loc Cert.KernelKvb.main_arg0) = m ((c.tc : Thread Cert.KernelKvb.nD Cert.KernelKvb.τ).loc Cert.KernelKvb.main_arg0)
      ∧ r.2.mem ((c.tc : Thread Cert.KernelKvb.nD Cert.KernelKvb.τ).loc Cert.KernelKvb.main_arg1) = m ((c.tc : Thread Cert.KernelKvb.nD Cert.KernelKvb.τ).loc Cert.KernelKvb.main_arg1))
      ∧ r.2.sem = fun _ => 0)

def quiescent_KernelKvbIdeal [hKernelKvbIdeal : Cert.KernelKvbIdeal.Facts] : Prop :=
  ∀ (m : (ℓ : Loc Cert.KernelKvbIdeal.nD Cert.KernelKvbIdeal.τ Cert.KernelKvbIdeal.sig) → Buf (Elt Ideal) ℓ) (g : Dev Cert.KernelKvbIdeal.nD → PrngReg), Pre_KernelKvbIdeal m →
    θ_run (Cert.KernelKvbIdeal.defs (F := Ideal)) (onTc (τ := Cert.KernelKvbIdeal.τ) (Cert.KernelKvbIdeal.main (F := Ideal))) ⟨m, fun _ => 0, g⟩ (fun r => (∀ c : Dev Cert.KernelKvbIdeal.nD,
      r.2.mem ((c.tc : Thread Cert.KernelKvbIdeal.nD Cert.KernelKvbIdeal.τ).loc Cert.KernelKvbIdeal.main_arg0) = m ((c.tc : Thread Cert.KernelKvbIdeal.nD Cert.KernelKvbIdeal.τ).loc Cert.KernelKvbIdeal.main_arg0)
      ∧ r.2.mem ((c.tc : Thread Cert.KernelKvbIdeal.nD Cert.KernelKvbIdeal.τ).loc Cert.KernelKvbIdeal.main_arg1) = m ((c.tc : Thread Cert.KernelKvbIdeal.nD Cert.KernelKvbIdeal.τ).loc Cert.KernelKvbIdeal.main_arg1))
      ∧ r.2.sem = fun _ => 0)

def quiescent_ReferenceKvbIdeal [hReferenceKvbIdeal : Cert.ReferenceKvbIdeal.Facts] : Prop :=
  ∀ (m : (ℓ : Loc Cert.ReferenceKvbIdeal.nD Cert.ReferenceKvbIdeal.τ Cert.ReferenceKvbIdeal.sig) → Buf (Elt Ideal) ℓ) (g : Dev Cert.ReferenceKvbIdeal.nD → PrngReg), Pre_ReferenceKvbIdeal m →
    θ_run (Cert.ReferenceKvbIdeal.defs (F := Ideal)) (onTc (τ := Cert.ReferenceKvbIdeal.τ) (Cert.ReferenceKvbIdeal.main (F := Ideal))) ⟨m, fun _ => 0, g⟩ (fun r => (∀ c : Dev Cert.ReferenceKvbIdeal.nD,
      r.2.mem ((c.tc : Thread Cert.ReferenceKvbIdeal.nD Cert.ReferenceKvbIdeal.τ).loc Cert.ReferenceKvbIdeal.main_arg0) = m ((c.tc : Thread Cert.ReferenceKvbIdeal.nD Cert.ReferenceKvbIdeal.τ).loc Cert.ReferenceKvbIdeal.main_arg0)
      ∧ r.2.mem ((c.tc : Thread Cert.ReferenceKvbIdeal.nD Cert.ReferenceKvbIdeal.τ).loc Cert.ReferenceKvbIdeal.main_arg1) = m ((c.tc : Thread Cert.ReferenceKvbIdeal.nD Cert.ReferenceKvbIdeal.τ).loc Cert.ReferenceKvbIdeal.main_arg1))
      ∧ r.2.sem = fun _ => 0)

def quiescent_KernelInBwd [hKernelInBwd : Cert.KernelInBwd.Facts] : Prop :=
  ∀ (m : (ℓ : Loc Cert.KernelInBwd.nD Cert.KernelInBwd.τ Cert.KernelInBwd.sig) → Buf (Elt Bits) ℓ) (g : Dev Cert.KernelInBwd.nD → PrngReg), Pre_KernelInBwd m →
    θ_run (Cert.KernelInBwd.defs (F := Bits)) (onTc (τ := Cert.KernelInBwd.τ) (Cert.KernelInBwd.main (F := Bits))) ⟨m, fun _ => 0, g⟩ (fun r => (∀ c : Dev Cert.KernelInBwd.nD,
      r.2.mem ((c.tc : Thread Cert.KernelInBwd.nD Cert.KernelInBwd.τ).loc Cert.KernelInBwd.main_arg0) = m ((c.tc : Thread Cert.KernelInBwd.nD Cert.KernelInBwd.τ).loc Cert.KernelInBwd.main_arg0)
      ∧ r.2.mem ((c.tc : Thread Cert.KernelInBwd.nD Cert.KernelInBwd.τ).loc Cert.KernelInBwd.main_arg1) = m ((c.tc : Thread Cert.KernelInBwd.nD Cert.KernelInBwd.τ).loc Cert.KernelInBwd.main_arg1)
      ∧ r.2.mem ((c.tc : Thread Cert.KernelInBwd.nD Cert.KernelInBwd.τ).loc Cert.KernelInBwd.main_arg2) = m ((c.tc : Thread Cert.KernelInBwd.nD Cert.KernelInBwd.τ).loc Cert.KernelInBwd.main_arg2)
      ∧ r.2.mem ((c.tc : Thread Cert.KernelInBwd.nD Cert.KernelInBwd.τ).loc Cert.KernelInBwd.main_arg3) = m ((c.tc : Thread Cert.KernelInBwd.nD Cert.KernelInBwd.τ).loc Cert.KernelInBwd.main_arg3)
      ∧ r.2.mem ((c.tc : Thread Cert.KernelInBwd.nD Cert.KernelInBwd.τ).loc Cert.KernelInBwd.main_arg4) = m ((c.tc : Thread Cert.KernelInBwd.nD Cert.KernelInBwd.τ).loc Cert.KernelInBwd.main_arg4)
      ∧ r.2.mem ((c.tc : Thread Cert.KernelInBwd.nD Cert.KernelInBwd.τ).loc Cert.KernelInBwd.main_arg5) = m ((c.tc : Thread Cert.KernelInBwd.nD Cert.KernelInBwd.τ).loc Cert.KernelInBwd.main_arg5)
      ∧ r.2.mem ((c.tc : Thread Cert.KernelInBwd.nD Cert.KernelInBwd.τ).loc Cert.KernelInBwd.main_arg6) = m ((c.tc : Thread Cert.KernelInBwd.nD Cert.KernelInBwd.τ).loc Cert.KernelInBwd.main_arg6)
      ∧ r.2.mem ((c.tc : Thread Cert.KernelInBwd.nD Cert.KernelInBwd.τ).loc Cert.KernelInBwd.main_arg7) = m ((c.tc : Thread Cert.KernelInBwd.nD Cert.KernelInBwd.τ).loc Cert.KernelInBwd.main_arg7)
      ∧ r.2.mem ((c.tc : Thread Cert.KernelInBwd.nD Cert.KernelInBwd.τ).loc Cert.KernelInBwd.main_arg8) = m ((c.tc : Thread Cert.KernelInBwd.nD Cert.KernelInBwd.τ).loc Cert.KernelInBwd.main_arg8)
      ∧ r.2.mem ((c.tc : Thread Cert.KernelInBwd.nD Cert.KernelInBwd.τ).loc Cert.KernelInBwd.main_arg9) = m ((c.tc : Thread Cert.KernelInBwd.nD Cert.KernelInBwd.τ).loc Cert.KernelInBwd.main_arg9)
      ∧ r.2.mem ((c.tc : Thread Cert.KernelInBwd.nD Cert.KernelInBwd.τ).loc Cert.KernelInBwd.main_arg10) = m ((c.tc : Thread Cert.KernelInBwd.nD Cert.KernelInBwd.τ).loc Cert.KernelInBwd.main_arg10)
      ∧ r.2.mem ((c.tc : Thread Cert.KernelInBwd.nD Cert.KernelInBwd.τ).loc Cert.KernelInBwd.main_arg11) = m ((c.tc : Thread Cert.KernelInBwd.nD Cert.KernelInBwd.τ).loc Cert.KernelInBwd.main_arg11)
      ∧ r.2.mem ((c.tc : Thread Cert.KernelInBwd.nD Cert.KernelInBwd.τ).loc Cert.KernelInBwd.main_arg12) = m ((c.tc : Thread Cert.KernelInBwd.nD Cert.KernelInBwd.τ).loc Cert.KernelInBwd.main_arg12)
      ∧ r.2.mem ((c.tc : Thread Cert.KernelInBwd.nD Cert.KernelInBwd.τ).loc Cert.KernelInBwd.main_arg13) = m ((c.tc : Thread Cert.KernelInBwd.nD Cert.KernelInBwd.τ).loc Cert.KernelInBwd.main_arg13)
      ∧ r.2.mem ((c.tc : Thread Cert.KernelInBwd.nD Cert.KernelInBwd.τ).loc Cert.KernelInBwd.main_arg14) = m ((c.tc : Thread Cert.KernelInBwd.nD Cert.KernelInBwd.τ).loc Cert.KernelInBwd.main_arg14))
      ∧ r.2.sem = fun _ => 0)

def quiescent_KernelInBwdIdeal [hKernelInBwdIdeal : Cert.KernelInBwdIdeal.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg), Pre_KernelInBwdIdeal m →
    θ_run (Cert.KernelInBwdIdeal.defs (F := Ideal)) (onTc (τ := Cert.KernelInBwdIdeal.τ) (Cert.KernelInBwdIdeal.main (F := Ideal))) ⟨m, fun _ => 0, g⟩ (fun r => (∀ c : Dev Cert.KernelInBwdIdeal.nD,
      r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
      ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
      ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
      ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
      ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4)
      ∧ r.2.mem ((c.tc : Thread Cert.KernelInBwdIdeal.nD Cert.KernelInBwdIdeal.τ).loc Cert.KernelInBwdIdeal.main_arg5) = m ((c.tc : Thread Cert.KernelInBwdIdeal.nD Cert.KernelInBwdIdeal.τ).loc Cert.KernelInBwdIdeal.main_arg5)
      ∧ r.2.mem ((c.tc : Thread Cert.KernelInBwdIdeal.nD Cert.KernelInBwdIdeal.τ).loc Cert.KernelInBwdIdeal.main_arg6) = m ((c.tc : Thread Cert.KernelInBwdIdeal.nD Cert.KernelInBwdIdeal.τ).loc Cert.KernelInBwdIdeal.main_arg6)
      ∧ r.2.mem ((c.tc : Thread Cert.KernelInBwdIdeal.nD Cert.KernelInBwdIdeal.τ).loc Cert.KernelInBwdIdeal.main_arg7) = m ((c.tc : Thread Cert.KernelInBwdIdeal.nD Cert.KernelInBwdIdeal.τ).loc Cert.KernelInBwdIdeal.main_arg7)
      ∧ r.2.mem ((c.tc : Thread Cert.KernelInBwdIdeal.nD Cert.KernelInBwdIdeal.τ).loc Cert.KernelInBwdIdeal.main_arg8) = m ((c.tc : Thread Cert.KernelInBwdIdeal.nD Cert.KernelInBwdIdeal.τ).loc Cert.KernelInBwdIdeal.main_arg8)
      ∧ r.2.mem ((c.tc : Thread Cert.KernelInBwdIdeal.nD Cert.KernelInBwdIdeal.τ).loc Cert.KernelInBwdIdeal.main_arg9) = m ((c.tc : Thread Cert.KernelInBwdIdeal.nD Cert.KernelInBwdIdeal.τ).loc Cert.KernelInBwdIdeal.main_arg9)
      ∧ r.2.mem ((c.tc : Thread Cert.KernelInBwdIdeal.nD Cert.KernelInBwdIdeal.τ).loc Cert.KernelInBwdIdeal.main_arg10) = m ((c.tc : Thread Cert.KernelInBwdIdeal.nD Cert.KernelInBwdIdeal.τ).loc Cert.KernelInBwdIdeal.main_arg10)
      ∧ r.2.mem ((c.tc : Thread Cert.KernelInBwdIdeal.nD Cert.KernelInBwdIdeal.τ).loc Cert.KernelInBwdIdeal.main_arg11) = m ((c.tc : Thread Cert.KernelInBwdIdeal.nD Cert.KernelInBwdIdeal.τ).loc Cert.KernelInBwdIdeal.main_arg11)
      ∧ r.2.mem ((c.tc : Thread Cert.KernelInBwdIdeal.nD Cert.KernelInBwdIdeal.τ).loc Cert.KernelInBwdIdeal.main_arg12) = m ((c.tc : Thread Cert.KernelInBwdIdeal.nD Cert.KernelInBwdIdeal.τ).loc Cert.KernelInBwdIdeal.main_arg12)
      ∧ r.2.mem ((c.tc : Thread Cert.KernelInBwdIdeal.nD Cert.KernelInBwdIdeal.τ).loc Cert.KernelInBwdIdeal.main_arg13) = m ((c.tc : Thread Cert.KernelInBwdIdeal.nD Cert.KernelInBwdIdeal.τ).loc Cert.KernelInBwdIdeal.main_arg13)
      ∧ r.2.mem ((c.tc : Thread Cert.KernelInBwdIdeal.nD Cert.KernelInBwdIdeal.τ).loc Cert.KernelInBwdIdeal.main_arg14) = m ((c.tc : Thread Cert.KernelInBwdIdeal.nD Cert.KernelInBwdIdeal.τ).loc Cert.KernelInBwdIdeal.main_arg14))
      ∧ r.2.sem = fun _ => 0)

def quiescent_KernelInBwdIdeal_pre_finite_in_bwd [hKernelInBwdIdeal : Cert.KernelInBwdIdeal.Facts] [hPre_finite_in_bwd : Cert.Pre_finite_in_bwd.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg), Pre_KernelInBwdIdeal_finite_in_bwd m →
    θ_run (Cert.KernelInBwdIdeal.defs (F := Ideal)) (onTc (τ := Cert.KernelInBwdIdeal.τ) (Cert.KernelInBwdIdeal.main (F := Ideal))) ⟨m, fun _ => 0, g⟩ (fun r => (∀ c : Dev Cert.KernelInBwdIdeal.nD,
      r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
      ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
      ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
      ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
      ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4)
      ∧ r.2.mem ((c.tc : Thread Cert.KernelInBwdIdeal.nD Cert.KernelInBwdIdeal.τ).loc Cert.KernelInBwdIdeal.main_arg5) = m ((c.tc : Thread Cert.KernelInBwdIdeal.nD Cert.KernelInBwdIdeal.τ).loc Cert.KernelInBwdIdeal.main_arg5)
      ∧ r.2.mem ((c.tc : Thread Cert.KernelInBwdIdeal.nD Cert.KernelInBwdIdeal.τ).loc Cert.KernelInBwdIdeal.main_arg6) = m ((c.tc : Thread Cert.KernelInBwdIdeal.nD Cert.KernelInBwdIdeal.τ).loc Cert.KernelInBwdIdeal.main_arg6)
      ∧ r.2.mem ((c.tc : Thread Cert.KernelInBwdIdeal.nD Cert.KernelInBwdIdeal.τ).loc Cert.KernelInBwdIdeal.main_arg7) = m ((c.tc : Thread Cert.KernelInBwdIdeal.nD Cert.KernelInBwdIdeal.τ).loc Cert.KernelInBwdIdeal.main_arg7)
      ∧ r.2.mem ((c.tc : Thread Cert.KernelInBwdIdeal.nD Cert.KernelInBwdIdeal.τ).loc Cert.KernelInBwdIdeal.main_arg8) = m ((c.tc : Thread Cert.KernelInBwdIdeal.nD Cert.KernelInBwdIdeal.τ).loc Cert.KernelInBwdIdeal.main_arg8)
      ∧ r.2.mem ((c.tc : Thread Cert.KernelInBwdIdeal.nD Cert.KernelInBwdIdeal.τ).loc Cert.KernelInBwdIdeal.main_arg9) = m ((c.tc : Thread Cert.KernelInBwdIdeal.nD Cert.KernelInBwdIdeal.τ).loc Cert.KernelInBwdIdeal.main_arg9)
      ∧ r.2.mem ((c.tc : Thread Cert.KernelInBwdIdeal.nD Cert.KernelInBwdIdeal.τ).loc Cert.KernelInBwdIdeal.main_arg10) = m ((c.tc : Thread Cert.KernelInBwdIdeal.nD Cert.KernelInBwdIdeal.τ).loc Cert.KernelInBwdIdeal.main_arg10)
      ∧ r.2.mem ((c.tc : Thread Cert.KernelInBwdIdeal.nD Cert.KernelInBwdIdeal.τ).loc Cert.KernelInBwdIdeal.main_arg11) = m ((c.tc : Thread Cert.KernelInBwdIdeal.nD Cert.KernelInBwdIdeal.τ).loc Cert.KernelInBwdIdeal.main_arg11)
      ∧ r.2.mem ((c.tc : Thread Cert.KernelInBwdIdeal.nD Cert.KernelInBwdIdeal.τ).loc Cert.KernelInBwdIdeal.main_arg12) = m ((c.tc : Thread Cert.KernelInBwdIdeal.nD Cert.KernelInBwdIdeal.τ).loc Cert.KernelInBwdIdeal.main_arg12)
      ∧ r.2.mem ((c.tc : Thread Cert.KernelInBwdIdeal.nD Cert.KernelInBwdIdeal.τ).loc Cert.KernelInBwdIdeal.main_arg13) = m ((c.tc : Thread Cert.KernelInBwdIdeal.nD Cert.KernelInBwdIdeal.τ).loc Cert.KernelInBwdIdeal.main_arg13)
      ∧ r.2.mem ((c.tc : Thread Cert.KernelInBwdIdeal.nD Cert.KernelInBwdIdeal.τ).loc Cert.KernelInBwdIdeal.main_arg14) = m ((c.tc : Thread Cert.KernelInBwdIdeal.nD Cert.KernelInBwdIdeal.τ).loc Cert.KernelInBwdIdeal.main_arg14))
      ∧ r.2.sem = fun _ => 0)

def quiescent_ReferenceInBwdIdeal [hReferenceInBwdIdeal : Cert.ReferenceInBwdIdeal.Facts] : Prop :=
  ∀ (m : (ℓ : Loc Cert.ReferenceInBwdIdeal.nD Cert.ReferenceInBwdIdeal.τ Cert.ReferenceInBwdIdeal.sig) → Buf (Elt Ideal) ℓ) (g : Dev Cert.ReferenceInBwdIdeal.nD → PrngReg), Pre_ReferenceInBwdIdeal m →
    θ_run (Cert.ReferenceInBwdIdeal.defs (F := Ideal)) (onTc (τ := Cert.ReferenceInBwdIdeal.τ) (Cert.ReferenceInBwdIdeal.main (F := Ideal))) ⟨m, fun _ => 0, g⟩ (fun r => (∀ c : Dev Cert.ReferenceInBwdIdeal.nD,
      r.2.mem ((c.tc : Thread Cert.ReferenceInBwdIdeal.nD Cert.ReferenceInBwdIdeal.τ).loc Cert.ReferenceInBwdIdeal.main_arg0) = m ((c.tc : Thread Cert.ReferenceInBwdIdeal.nD Cert.ReferenceInBwdIdeal.τ).loc Cert.ReferenceInBwdIdeal.main_arg0)
      ∧ r.2.mem ((c.tc : Thread Cert.ReferenceInBwdIdeal.nD Cert.ReferenceInBwdIdeal.τ).loc Cert.ReferenceInBwdIdeal.main_arg1) = m ((c.tc : Thread Cert.ReferenceInBwdIdeal.nD Cert.ReferenceInBwdIdeal.τ).loc Cert.ReferenceInBwdIdeal.main_arg1)
      ∧ r.2.mem ((c.tc : Thread Cert.ReferenceInBwdIdeal.nD Cert.ReferenceInBwdIdeal.τ).loc Cert.ReferenceInBwdIdeal.main_arg2) = m ((c.tc : Thread Cert.ReferenceInBwdIdeal.nD Cert.ReferenceInBwdIdeal.τ).loc Cert.ReferenceInBwdIdeal.main_arg2)
      ∧ r.2.mem ((c.tc : Thread Cert.ReferenceInBwdIdeal.nD Cert.ReferenceInBwdIdeal.τ).loc Cert.ReferenceInBwdIdeal.main_arg3) = m ((c.tc : Thread Cert.ReferenceInBwdIdeal.nD Cert.ReferenceInBwdIdeal.τ).loc Cert.ReferenceInBwdIdeal.main_arg3)
      ∧ r.2.mem ((c.tc : Thread Cert.ReferenceInBwdIdeal.nD Cert.ReferenceInBwdIdeal.τ).loc Cert.ReferenceInBwdIdeal.main_arg4) = m ((c.tc : Thread Cert.ReferenceInBwdIdeal.nD Cert.ReferenceInBwdIdeal.τ).loc Cert.ReferenceInBwdIdeal.main_arg4)
      ∧ r.2.mem ((c.tc : Thread Cert.ReferenceInBwdIdeal.nD Cert.ReferenceInBwdIdeal.τ).loc Cert.ReferenceInBwdIdeal.main_arg5) = m ((c.tc : Thread Cert.ReferenceInBwdIdeal.nD Cert.ReferenceInBwdIdeal.τ).loc Cert.ReferenceInBwdIdeal.main_arg5)
      ∧ r.2.mem ((c.tc : Thread Cert.ReferenceInBwdIdeal.nD Cert.ReferenceInBwdIdeal.τ).loc Cert.ReferenceInBwdIdeal.main_arg6) = m ((c.tc : Thread Cert.ReferenceInBwdIdeal.nD Cert.ReferenceInBwdIdeal.τ).loc Cert.ReferenceInBwdIdeal.main_arg6)
      ∧ r.2.mem ((c.tc : Thread Cert.ReferenceInBwdIdeal.nD Cert.ReferenceInBwdIdeal.τ).loc Cert.ReferenceInBwdIdeal.main_arg7) = m ((c.tc : Thread Cert.ReferenceInBwdIdeal.nD Cert.ReferenceInBwdIdeal.τ).loc Cert.ReferenceInBwdIdeal.main_arg7)
      ∧ r.2.mem ((c.tc : Thread Cert.ReferenceInBwdIdeal.nD Cert.ReferenceInBwdIdeal.τ).loc Cert.ReferenceInBwdIdeal.main_arg8) = m ((c.tc : Thread Cert.ReferenceInBwdIdeal.nD Cert.ReferenceInBwdIdeal.τ).loc Cert.ReferenceInBwdIdeal.main_arg8)
      ∧ r.2.mem ((c.tc : Thread Cert.ReferenceInBwdIdeal.nD Cert.ReferenceInBwdIdeal.τ).loc Cert.ReferenceInBwdIdeal.main_arg9) = m ((c.tc : Thread Cert.ReferenceInBwdIdeal.nD Cert.ReferenceInBwdIdeal.τ).loc Cert.ReferenceInBwdIdeal.main_arg9)
      ∧ r.2.mem ((c.tc : Thread Cert.ReferenceInBwdIdeal.nD Cert.ReferenceInBwdIdeal.τ).loc Cert.ReferenceInBwdIdeal.main_arg10) = m ((c.tc : Thread Cert.ReferenceInBwdIdeal.nD Cert.ReferenceInBwdIdeal.τ).loc Cert.ReferenceInBwdIdeal.main_arg10)
      ∧ r.2.mem ((c.tc : Thread Cert.ReferenceInBwdIdeal.nD Cert.ReferenceInBwdIdeal.τ).loc Cert.ReferenceInBwdIdeal.main_arg11) = m ((c.tc : Thread Cert.ReferenceInBwdIdeal.nD Cert.ReferenceInBwdIdeal.τ).loc Cert.ReferenceInBwdIdeal.main_arg11)
      ∧ r.2.mem ((c.tc : Thread Cert.ReferenceInBwdIdeal.nD Cert.ReferenceInBwdIdeal.τ).loc Cert.ReferenceInBwdIdeal.main_arg12) = m ((c.tc : Thread Cert.ReferenceInBwdIdeal.nD Cert.ReferenceInBwdIdeal.τ).loc Cert.ReferenceInBwdIdeal.main_arg12)
      ∧ r.2.mem ((c.tc : Thread Cert.ReferenceInBwdIdeal.nD Cert.ReferenceInBwdIdeal.τ).loc Cert.ReferenceInBwdIdeal.main_arg13) = m ((c.tc : Thread Cert.ReferenceInBwdIdeal.nD Cert.ReferenceInBwdIdeal.τ).loc Cert.ReferenceInBwdIdeal.main_arg13)
      ∧ r.2.mem ((c.tc : Thread Cert.ReferenceInBwdIdeal.nD Cert.ReferenceInBwdIdeal.τ).loc Cert.ReferenceInBwdIdeal.main_arg14) = m ((c.tc : Thread Cert.ReferenceInBwdIdeal.nD Cert.ReferenceInBwdIdeal.τ).loc Cert.ReferenceInBwdIdeal.main_arg14))
      ∧ r.2.sem = fun _ => 0)

def quiescent_ReferenceInBwdIdeal_pre_finite_in_bwd [hReferenceInBwdIdeal : Cert.ReferenceInBwdIdeal.Facts] [hPre_finite_in_bwd : Cert.Pre_finite_in_bwd.Facts] : Prop :=
  ∀ (m : (ℓ : Loc Cert.ReferenceInBwdIdeal.nD Cert.ReferenceInBwdIdeal.τ Cert.ReferenceInBwdIdeal.sig) → Buf (Elt Ideal) ℓ) (g : Dev Cert.ReferenceInBwdIdeal.nD → PrngReg), Pre_ReferenceInBwdIdeal_finite_in_bwd m →
    θ_run (Cert.ReferenceInBwdIdeal.defs (F := Ideal)) (onTc (τ := Cert.ReferenceInBwdIdeal.τ) (Cert.ReferenceInBwdIdeal.main (F := Ideal))) ⟨m, fun _ => 0, g⟩ (fun r => (∀ c : Dev Cert.ReferenceInBwdIdeal.nD,
      r.2.mem ((c.tc : Thread Cert.ReferenceInBwdIdeal.nD Cert.ReferenceInBwdIdeal.τ).loc Cert.ReferenceInBwdIdeal.main_arg0) = m ((c.tc : Thread Cert.ReferenceInBwdIdeal.nD Cert.ReferenceInBwdIdeal.τ).loc Cert.ReferenceInBwdIdeal.main_arg0)
      ∧ r.2.mem ((c.tc : Thread Cert.ReferenceInBwdIdeal.nD Cert.ReferenceInBwdIdeal.τ).loc Cert.ReferenceInBwdIdeal.main_arg1) = m ((c.tc : Thread Cert.ReferenceInBwdIdeal.nD Cert.ReferenceInBwdIdeal.τ).loc Cert.ReferenceInBwdIdeal.main_arg1)
      ∧ r.2.mem ((c.tc : Thread Cert.ReferenceInBwdIdeal.nD Cert.ReferenceInBwdIdeal.τ).loc Cert.ReferenceInBwdIdeal.main_arg2) = m ((c.tc : Thread Cert.ReferenceInBwdIdeal.nD Cert.ReferenceInBwdIdeal.τ).loc Cert.ReferenceInBwdIdeal.main_arg2)
      ∧ r.2.mem ((c.tc : Thread Cert.ReferenceInBwdIdeal.nD Cert.ReferenceInBwdIdeal.τ).loc Cert.ReferenceInBwdIdeal.main_arg3) = m ((c.tc : Thread Cert.ReferenceInBwdIdeal.nD Cert.ReferenceInBwdIdeal.τ).loc Cert.ReferenceInBwdIdeal.main_arg3)
      ∧ r.2.mem ((c.tc : Thread Cert.ReferenceInBwdIdeal.nD Cert.ReferenceInBwdIdeal.τ).loc Cert.ReferenceInBwdIdeal.main_arg4) = m ((c.tc : Thread Cert.ReferenceInBwdIdeal.nD Cert.ReferenceInBwdIdeal.τ).loc Cert.ReferenceInBwdIdeal.main_arg4)
      ∧ r.2.mem ((c.tc : Thread Cert.ReferenceInBwdIdeal.nD Cert.ReferenceInBwdIdeal.τ).loc Cert.ReferenceInBwdIdeal.main_arg5) = m ((c.tc : Thread Cert.ReferenceInBwdIdeal.nD Cert.ReferenceInBwdIdeal.τ).loc Cert.ReferenceInBwdIdeal.main_arg5)
      ∧ r.2.mem ((c.tc : Thread Cert.ReferenceInBwdIdeal.nD Cert.ReferenceInBwdIdeal.τ).loc Cert.ReferenceInBwdIdeal.main_arg6) = m ((c.tc : Thread Cert.ReferenceInBwdIdeal.nD Cert.ReferenceInBwdIdeal.τ).loc Cert.ReferenceInBwdIdeal.main_arg6)
      ∧ r.2.mem ((c.tc : Thread Cert.ReferenceInBwdIdeal.nD Cert.ReferenceInBwdIdeal.τ).loc Cert.ReferenceInBwdIdeal.main_arg7) = m ((c.tc : Thread Cert.ReferenceInBwdIdeal.nD Cert.ReferenceInBwdIdeal.τ).loc Cert.ReferenceInBwdIdeal.main_arg7)
      ∧ r.2.mem ((c.tc : Thread Cert.ReferenceInBwdIdeal.nD Cert.ReferenceInBwdIdeal.τ).loc Cert.ReferenceInBwdIdeal.main_arg8) = m ((c.tc : Thread Cert.ReferenceInBwdIdeal.nD Cert.ReferenceInBwdIdeal.τ).loc Cert.ReferenceInBwdIdeal.main_arg8)
      ∧ r.2.mem ((c.tc : Thread Cert.ReferenceInBwdIdeal.nD Cert.ReferenceInBwdIdeal.τ).loc Cert.ReferenceInBwdIdeal.main_arg9) = m ((c.tc : Thread Cert.ReferenceInBwdIdeal.nD Cert.ReferenceInBwdIdeal.τ).loc Cert.ReferenceInBwdIdeal.main_arg9)
      ∧ r.2.mem ((c.tc : Thread Cert.ReferenceInBwdIdeal.nD Cert.ReferenceInBwdIdeal.τ).loc Cert.ReferenceInBwdIdeal.main_arg10) = m ((c.tc : Thread Cert.ReferenceInBwdIdeal.nD Cert.ReferenceInBwdIdeal.τ).loc Cert.ReferenceInBwdIdeal.main_arg10)
      ∧ r.2.mem ((c.tc : Thread Cert.ReferenceInBwdIdeal.nD Cert.ReferenceInBwdIdeal.τ).loc Cert.ReferenceInBwdIdeal.main_arg11) = m ((c.tc : Thread Cert.ReferenceInBwdIdeal.nD Cert.ReferenceInBwdIdeal.τ).loc Cert.ReferenceInBwdIdeal.main_arg11)
      ∧ r.2.mem ((c.tc : Thread Cert.ReferenceInBwdIdeal.nD Cert.ReferenceInBwdIdeal.τ).loc Cert.ReferenceInBwdIdeal.main_arg12) = m ((c.tc : Thread Cert.ReferenceInBwdIdeal.nD Cert.ReferenceInBwdIdeal.τ).loc Cert.ReferenceInBwdIdeal.main_arg12)
      ∧ r.2.mem ((c.tc : Thread Cert.ReferenceInBwdIdeal.nD Cert.ReferenceInBwdIdeal.τ).loc Cert.ReferenceInBwdIdeal.main_arg13) = m ((c.tc : Thread Cert.ReferenceInBwdIdeal.nD Cert.ReferenceInBwdIdeal.τ).loc Cert.ReferenceInBwdIdeal.main_arg13)
      ∧ r.2.mem ((c.tc : Thread Cert.ReferenceInBwdIdeal.nD Cert.ReferenceInBwdIdeal.τ).loc Cert.ReferenceInBwdIdeal.main_arg14) = m ((c.tc : Thread Cert.ReferenceInBwdIdeal.nD Cert.ReferenceInBwdIdeal.τ).loc Cert.ReferenceInBwdIdeal.main_arg14))
      ∧ r.2.sem = fun _ => 0)

def quiescent_KernelInFwd [hKernelInFwd : Cert.KernelInFwd.Facts] : Prop :=
  ∀ (m : (ℓ : Loc Cert.KernelInFwd.nD Cert.KernelInFwd.τ Cert.KernelInFwd.sig) → Buf (Elt Bits) ℓ) (g : Dev Cert.KernelInFwd.nD → PrngReg), Pre_KernelInFwd m →
    θ_run (Cert.KernelInFwd.defs (F := Bits)) (onTc (τ := Cert.KernelInFwd.τ) (Cert.KernelInFwd.main (F := Bits))) ⟨m, fun _ => 0, g⟩ (fun r => (∀ c : Dev Cert.KernelInFwd.nD,
      r.2.mem ((c.tc : Thread Cert.KernelInFwd.nD Cert.KernelInFwd.τ).loc Cert.KernelInFwd.main_arg0) = m ((c.tc : Thread Cert.KernelInFwd.nD Cert.KernelInFwd.τ).loc Cert.KernelInFwd.main_arg0)
      ∧ r.2.mem ((c.tc : Thread Cert.KernelInFwd.nD Cert.KernelInFwd.τ).loc Cert.KernelInFwd.main_arg1) = m ((c.tc : Thread Cert.KernelInFwd.nD Cert.KernelInFwd.τ).loc Cert.KernelInFwd.main_arg1)
      ∧ r.2.mem ((c.tc : Thread Cert.KernelInFwd.nD Cert.KernelInFwd.τ).loc Cert.KernelInFwd.main_arg2) = m ((c.tc : Thread Cert.KernelInFwd.nD Cert.KernelInFwd.τ).loc Cert.KernelInFwd.main_arg2))
      ∧ r.2.sem = fun _ => 0)

def quiescent_KernelInFwdIdeal [hKernelInFwdIdeal : Cert.KernelInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg), Pre_KernelInFwdIdeal m →
    θ_run (Cert.KernelInFwdIdeal.defs (F := Ideal)) (onTc (τ := Cert.KernelInFwdIdeal.τ) (Cert.KernelInFwdIdeal.main (F := Ideal))) ⟨m, fun _ => 0, g⟩ (fun r => (∀ c : Dev Cert.KernelInFwdIdeal.nD,
      r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
      ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
      ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ r.2.sem = fun _ => 0)

def quiescent_ReferenceInFwdIdeal [hReferenceInFwdIdeal : Cert.ReferenceInFwdIdeal.Facts] : Prop :=
  ∀ (m : (ℓ : Loc Cert.ReferenceInFwdIdeal.nD Cert.ReferenceInFwdIdeal.τ Cert.ReferenceInFwdIdeal.sig) → Buf (Elt Ideal) ℓ) (g : Dev Cert.ReferenceInFwdIdeal.nD → PrngReg), Pre_ReferenceInFwdIdeal m →
    θ_run (Cert.ReferenceInFwdIdeal.defs (F := Ideal)) (onTc (τ := Cert.ReferenceInFwdIdeal.τ) (Cert.ReferenceInFwdIdeal.main (F := Ideal))) ⟨m, fun _ => 0, g⟩ (fun r => (∀ c : Dev Cert.ReferenceInFwdIdeal.nD,
      r.2.mem ((c.tc : Thread Cert.ReferenceInFwdIdeal.nD Cert.ReferenceInFwdIdeal.τ).loc Cert.ReferenceInFwdIdeal.main_arg0) = m ((c.tc : Thread Cert.ReferenceInFwdIdeal.nD Cert.ReferenceInFwdIdeal.τ).loc Cert.ReferenceInFwdIdeal.main_arg0)
      ∧ r.2.mem ((c.tc : Thread Cert.ReferenceInFwdIdeal.nD Cert.ReferenceInFwdIdeal.τ).loc Cert.ReferenceInFwdIdeal.main_arg1) = m ((c.tc : Thread Cert.ReferenceInFwdIdeal.nD Cert.ReferenceInFwdIdeal.τ).loc Cert.ReferenceInFwdIdeal.main_arg1)
      ∧ r.2.mem ((c.tc : Thread Cert.ReferenceInFwdIdeal.nD Cert.ReferenceInFwdIdeal.τ).loc Cert.ReferenceInFwdIdeal.main_arg2) = m ((c.tc : Thread Cert.ReferenceInFwdIdeal.nD Cert.ReferenceInFwdIdeal.τ).loc Cert.ReferenceInFwdIdeal.main_arg2))
      ∧ r.2.sem = fun _ => 0)

def quiescent_KernelOutBwd [hKernelOutBwd : Cert.KernelOutBwd.Facts] : Prop :=
  ∀ (m : (ℓ : Loc Cert.KernelOutBwd.nD Cert.KernelOutBwd.τ Cert.KernelOutBwd.sig) → Buf (Elt Bits) ℓ) (g : Dev Cert.KernelOutBwd.nD → PrngReg), Pre_KernelOutBwd m →
    θ_run (Cert.KernelOutBwd.defs (F := Bits)) (onTc (τ := Cert.KernelOutBwd.τ) (Cert.KernelOutBwd.main (F := Bits))) ⟨m, fun _ => 0, g⟩ (fun r => (∀ c : Dev Cert.KernelOutBwd.nD,
      r.2.mem ((c.tc : Thread Cert.KernelOutBwd.nD Cert.KernelOutBwd.τ).loc Cert.KernelOutBwd.main_arg0) = m ((c.tc : Thread Cert.KernelOutBwd.nD Cert.KernelOutBwd.τ).loc Cert.KernelOutBwd.main_arg0)
      ∧ r.2.mem ((c.tc : Thread Cert.KernelOutBwd.nD Cert.KernelOutBwd.τ).loc Cert.KernelOutBwd.main_arg1) = m ((c.tc : Thread Cert.KernelOutBwd.nD Cert.KernelOutBwd.τ).loc Cert.KernelOutBwd.main_arg1)
      ∧ r.2.mem ((c.tc : Thread Cert.KernelOutBwd.nD Cert.KernelOutBwd.τ).loc Cert.KernelOutBwd.main_arg2) = m ((c.tc : Thread Cert.KernelOutBwd.nD Cert.KernelOutBwd.τ).loc Cert.KernelOutBwd.main_arg2)
      ∧ r.2.mem ((c.tc : Thread Cert.KernelOutBwd.nD Cert.KernelOutBwd.τ).loc Cert.KernelOutBwd.main_arg3) = m ((c.tc : Thread Cert.KernelOutBwd.nD Cert.KernelOutBwd.τ).loc Cert.KernelOutBwd.main_arg3)
      ∧ r.2.mem ((c.tc : Thread Cert.KernelOutBwd.nD Cert.KernelOutBwd.τ).loc Cert.KernelOutBwd.main_arg4) = m ((c.tc : Thread Cert.KernelOutBwd.nD Cert.KernelOutBwd.τ).loc Cert.KernelOutBwd.main_arg4)
      ∧ r.2.mem ((c.tc : Thread Cert.KernelOutBwd.nD Cert.KernelOutBwd.τ).loc Cert.KernelOutBwd.main_arg5) = m ((c.tc : Thread Cert.KernelOutBwd.nD Cert.KernelOutBwd.τ).loc Cert.KernelOutBwd.main_arg5)
      ∧ r.2.mem ((c.tc : Thread Cert.KernelOutBwd.nD Cert.KernelOutBwd.τ).loc Cert.KernelOutBwd.main_arg6) = m ((c.tc : Thread Cert.KernelOutBwd.nD Cert.KernelOutBwd.τ).loc Cert.KernelOutBwd.main_arg6)
      ∧ r.2.mem ((c.tc : Thread Cert.KernelOutBwd.nD Cert.KernelOutBwd.τ).loc Cert.KernelOutBwd.main_arg7) = m ((c.tc : Thread Cert.KernelOutBwd.nD Cert.KernelOutBwd.τ).loc Cert.KernelOutBwd.main_arg7))
      ∧ r.2.sem = fun _ => 0)

def quiescent_KernelOutBwdIdeal [hKernelOutBwdIdeal : Cert.KernelOutBwdIdeal.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg), Pre_KernelOutBwdIdeal m →
    θ_run (Cert.KernelOutBwdIdeal.defs (F := Ideal)) (onTc (τ := Cert.KernelOutBwdIdeal.τ) (Cert.KernelOutBwdIdeal.main (F := Ideal))) ⟨m, fun _ => 0, g⟩ (fun r => (∀ c : Dev Cert.KernelOutBwdIdeal.nD,
      r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
      ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1)
      ∧ r.2.mem ((c.tc : Thread Cert.KernelOutBwdIdeal.nD Cert.KernelOutBwdIdeal.τ).loc Cert.KernelOutBwdIdeal.main_arg2) = m ((c.tc : Thread Cert.KernelOutBwdIdeal.nD Cert.KernelOutBwdIdeal.τ).loc Cert.KernelOutBwdIdeal.main_arg2)
      ∧ r.2.mem ((c.tc : Thread Cert.KernelOutBwdIdeal.nD Cert.KernelOutBwdIdeal.τ).loc Cert.KernelOutBwdIdeal.main_arg3) = m ((c.tc : Thread Cert.KernelOutBwdIdeal.nD Cert.KernelOutBwdIdeal.τ).loc Cert.KernelOutBwdIdeal.main_arg3)
      ∧ r.2.mem ((c.tc : Thread Cert.KernelOutBwdIdeal.nD Cert.KernelOutBwdIdeal.τ).loc Cert.KernelOutBwdIdeal.main_arg4) = m ((c.tc : Thread Cert.KernelOutBwdIdeal.nD Cert.KernelOutBwdIdeal.τ).loc Cert.KernelOutBwdIdeal.main_arg4)
      ∧ r.2.mem ((c.tc : Thread Cert.KernelOutBwdIdeal.nD Cert.KernelOutBwdIdeal.τ).loc Cert.KernelOutBwdIdeal.main_arg5) = m ((c.tc : Thread Cert.KernelOutBwdIdeal.nD Cert.KernelOutBwdIdeal.τ).loc Cert.KernelOutBwdIdeal.main_arg5)
      ∧ r.2.mem ((c.tc : Thread Cert.KernelOutBwdIdeal.nD Cert.KernelOutBwdIdeal.τ).loc Cert.KernelOutBwdIdeal.main_arg6) = m ((c.tc : Thread Cert.KernelOutBwdIdeal.nD Cert.KernelOutBwdIdeal.τ).loc Cert.KernelOutBwdIdeal.main_arg6)
      ∧ r.2.mem ((c.tc : Thread Cert.KernelOutBwdIdeal.nD Cert.KernelOutBwdIdeal.τ).loc Cert.KernelOutBwdIdeal.main_arg7) = m ((c.tc : Thread Cert.KernelOutBwdIdeal.nD Cert.KernelOutBwdIdeal.τ).loc Cert.KernelOutBwdIdeal.main_arg7))
      ∧ r.2.sem = fun _ => 0)

def quiescent_KernelOutBwdIdeal_pre_finite_out_bwd [hKernelOutBwdIdeal : Cert.KernelOutBwdIdeal.Facts] [hPre_finite_out_bwd : Cert.Pre_finite_out_bwd.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg), Pre_KernelOutBwdIdeal_finite_out_bwd m →
    θ_run (Cert.KernelOutBwdIdeal.defs (F := Ideal)) (onTc (τ := Cert.KernelOutBwdIdeal.τ) (Cert.KernelOutBwdIdeal.main (F := Ideal))) ⟨m, fun _ => 0, g⟩ (fun r => (∀ c : Dev Cert.KernelOutBwdIdeal.nD,
      r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
      ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1)
      ∧ r.2.mem ((c.tc : Thread Cert.KernelOutBwdIdeal.nD Cert.KernelOutBwdIdeal.τ).loc Cert.KernelOutBwdIdeal.main_arg2) = m ((c.tc : Thread Cert.KernelOutBwdIdeal.nD Cert.KernelOutBwdIdeal.τ).loc Cert.KernelOutBwdIdeal.main_arg2)
      ∧ r.2.mem ((c.tc : Thread Cert.KernelOutBwdIdeal.nD Cert.KernelOutBwdIdeal.τ).loc Cert.KernelOutBwdIdeal.main_arg3) = m ((c.tc : Thread Cert.KernelOutBwdIdeal.nD Cert.KernelOutBwdIdeal.τ).loc Cert.KernelOutBwdIdeal.main_arg3)
      ∧ r.2.mem ((c.tc : Thread Cert.KernelOutBwdIdeal.nD Cert.KernelOutBwdIdeal.τ).loc Cert.KernelOutBwdIdeal.main_arg4) = m ((c.tc : Thread Cert.KernelOutBwdIdeal.nD Cert.KernelOutBwdIdeal.τ).loc Cert.KernelOutBwdIdeal.main_arg4)
      ∧ r.2.mem ((c.tc : Thread Cert.KernelOutBwdIdeal.nD Cert.KernelOutBwdIdeal.τ).loc Cert.KernelOutBwdIdeal.main_arg5) = m ((c.tc : Thread Cert.KernelOutBwdIdeal.nD Cert.KernelOutBwdIdeal.τ).loc Cert.KernelOutBwdIdeal.main_arg5)
      ∧ r.2.mem ((c.tc : Thread Cert.KernelOutBwdIdeal.nD Cert.KernelOutBwdIdeal.τ).loc Cert.KernelOutBwdIdeal.main_arg6) = m ((c.tc : Thread Cert.KernelOutBwdIdeal.nD Cert.KernelOutBwdIdeal.τ).loc Cert.KernelOutBwdIdeal.main_arg6)
      ∧ r.2.mem ((c.tc : Thread Cert.KernelOutBwdIdeal.nD Cert.KernelOutBwdIdeal.τ).loc Cert.KernelOutBwdIdeal.main_arg7) = m ((c.tc : Thread Cert.KernelOutBwdIdeal.nD Cert.KernelOutBwdIdeal.τ).loc Cert.KernelOutBwdIdeal.main_arg7))
      ∧ r.2.sem = fun _ => 0)

def quiescent_ReferenceOutBwdIdeal [hReferenceOutBwdIdeal : Cert.ReferenceOutBwdIdeal.Facts] : Prop :=
  ∀ (m : (ℓ : Loc Cert.ReferenceOutBwdIdeal.nD Cert.ReferenceOutBwdIdeal.τ Cert.ReferenceOutBwdIdeal.sig) → Buf (Elt Ideal) ℓ) (g : Dev Cert.ReferenceOutBwdIdeal.nD → PrngReg), Pre_ReferenceOutBwdIdeal m →
    θ_run (Cert.ReferenceOutBwdIdeal.defs (F := Ideal)) (onTc (τ := Cert.ReferenceOutBwdIdeal.τ) (Cert.ReferenceOutBwdIdeal.main (F := Ideal))) ⟨m, fun _ => 0, g⟩ (fun r => (∀ c : Dev Cert.ReferenceOutBwdIdeal.nD,
      r.2.mem ((c.tc : Thread Cert.ReferenceOutBwdIdeal.nD Cert.ReferenceOutBwdIdeal.τ).loc Cert.ReferenceOutBwdIdeal.main_arg0) = m ((c.tc : Thread Cert.ReferenceOutBwdIdeal.nD Cert.ReferenceOutBwdIdeal.τ).loc Cert.ReferenceOutBwdIdeal.main_arg0)
      ∧ r.2.mem ((c.tc : Thread Cert.ReferenceOutBwdIdeal.nD Cert.ReferenceOutBwdIdeal.τ).loc Cert.ReferenceOutBwdIdeal.main_arg1) = m ((c.tc : Thread Cert.ReferenceOutBwdIdeal.nD Cert.ReferenceOutBwdIdeal.τ).loc Cert.ReferenceOutBwdIdeal.main_arg1)
      ∧ r.2.mem ((c.tc : Thread Cert.ReferenceOutBwdIdeal.nD Cert.ReferenceOutBwdIdeal.τ).loc Cert.ReferenceOutBwdIdeal.main_arg2) = m ((c.tc : Thread Cert.ReferenceOutBwdIdeal.nD Cert.ReferenceOutBwdIdeal.τ).loc Cert.ReferenceOutBwdIdeal.main_arg2)
      ∧ r.2.mem ((c.tc : Thread Cert.ReferenceOutBwdIdeal.nD Cert.ReferenceOutBwdIdeal.τ).loc Cert.ReferenceOutBwdIdeal.main_arg3) = m ((c.tc : Thread Cert.ReferenceOutBwdIdeal.nD Cert.ReferenceOutBwdIdeal.τ).loc Cert.ReferenceOutBwdIdeal.main_arg3)
      ∧ r.2.mem ((c.tc : Thread Cert.ReferenceOutBwdIdeal.nD Cert.ReferenceOutBwdIdeal.τ).loc Cert.ReferenceOutBwdIdeal.main_arg4) = m ((c.tc : Thread Cert.ReferenceOutBwdIdeal.nD Cert.ReferenceOutBwdIdeal.τ).loc Cert.ReferenceOutBwdIdeal.main_arg4)
      ∧ r.2.mem ((c.tc : Thread Cert.ReferenceOutBwdIdeal.nD Cert.ReferenceOutBwdIdeal.τ).loc Cert.ReferenceOutBwdIdeal.main_arg5) = m ((c.tc : Thread Cert.ReferenceOutBwdIdeal.nD Cert.ReferenceOutBwdIdeal.τ).loc Cert.ReferenceOutBwdIdeal.main_arg5)
      ∧ r.2.mem ((c.tc : Thread Cert.ReferenceOutBwdIdeal.nD Cert.ReferenceOutBwdIdeal.τ).loc Cert.ReferenceOutBwdIdeal.main_arg6) = m ((c.tc : Thread Cert.ReferenceOutBwdIdeal.nD Cert.ReferenceOutBwdIdeal.τ).loc Cert.ReferenceOutBwdIdeal.main_arg6)
      ∧ r.2.mem ((c.tc : Thread Cert.ReferenceOutBwdIdeal.nD Cert.ReferenceOutBwdIdeal.τ).loc Cert.ReferenceOutBwdIdeal.main_arg7) = m ((c.tc : Thread Cert.ReferenceOutBwdIdeal.nD Cert.ReferenceOutBwdIdeal.τ).loc Cert.ReferenceOutBwdIdeal.main_arg7))
      ∧ r.2.sem = fun _ => 0)

def quiescent_ReferenceOutBwdIdeal_pre_finite_out_bwd [hReferenceOutBwdIdeal : Cert.ReferenceOutBwdIdeal.Facts] [hPre_finite_out_bwd : Cert.Pre_finite_out_bwd.Facts] : Prop :=
  ∀ (m : (ℓ : Loc Cert.ReferenceOutBwdIdeal.nD Cert.ReferenceOutBwdIdeal.τ Cert.ReferenceOutBwdIdeal.sig) → Buf (Elt Ideal) ℓ) (g : Dev Cert.ReferenceOutBwdIdeal.nD → PrngReg), Pre_ReferenceOutBwdIdeal_finite_out_bwd m →
    θ_run (Cert.ReferenceOutBwdIdeal.defs (F := Ideal)) (onTc (τ := Cert.ReferenceOutBwdIdeal.τ) (Cert.ReferenceOutBwdIdeal.main (F := Ideal))) ⟨m, fun _ => 0, g⟩ (fun r => (∀ c : Dev Cert.ReferenceOutBwdIdeal.nD,
      r.2.mem ((c.tc : Thread Cert.ReferenceOutBwdIdeal.nD Cert.ReferenceOutBwdIdeal.τ).loc Cert.ReferenceOutBwdIdeal.main_arg0) = m ((c.tc : Thread Cert.ReferenceOutBwdIdeal.nD Cert.ReferenceOutBwdIdeal.τ).loc Cert.ReferenceOutBwdIdeal.main_arg0)
      ∧ r.2.mem ((c.tc : Thread Cert.ReferenceOutBwdIdeal.nD Cert.ReferenceOutBwdIdeal.τ).loc Cert.ReferenceOutBwdIdeal.main_arg1) = m ((c.tc : Thread Cert.ReferenceOutBwdIdeal.nD Cert.ReferenceOutBwdIdeal.τ).loc Cert.ReferenceOutBwdIdeal.main_arg1)
      ∧ r.2.mem ((c.tc : Thread Cert.ReferenceOutBwdIdeal.nD Cert.ReferenceOutBwdIdeal.τ).loc Cert.ReferenceOutBwdIdeal.main_arg2) = m ((c.tc : Thread Cert.ReferenceOutBwdIdeal.nD Cert.ReferenceOutBwdIdeal.τ).loc Cert.ReferenceOutBwdIdeal.main_arg2)
      ∧ r.2.mem ((c.tc : Thread Cert.ReferenceOutBwdIdeal.nD Cert.ReferenceOutBwdIdeal.τ).loc Cert.ReferenceOutBwdIdeal.main_arg3) = m ((c.tc : Thread Cert.ReferenceOutBwdIdeal.nD Cert.ReferenceOutBwdIdeal.τ).loc Cert.ReferenceOutBwdIdeal.main_arg3)
      ∧ r.2.mem ((c.tc : Thread Cert.ReferenceOutBwdIdeal.nD Cert.ReferenceOutBwdIdeal.τ).loc Cert.ReferenceOutBwdIdeal.main_arg4) = m ((c.tc : Thread Cert.ReferenceOutBwdIdeal.nD Cert.ReferenceOutBwdIdeal.τ).loc Cert.ReferenceOutBwdIdeal.main_arg4)
      ∧ r.2.mem ((c.tc : Thread Cert.ReferenceOutBwdIdeal.nD Cert.ReferenceOutBwdIdeal.τ).loc Cert.ReferenceOutBwdIdeal.main_arg5) = m ((c.tc : Thread Cert.ReferenceOutBwdIdeal.nD Cert.ReferenceOutBwdIdeal.τ).loc Cert.ReferenceOutBwdIdeal.main_arg5)
      ∧ r.2.mem ((c.tc : Thread Cert.ReferenceOutBwdIdeal.nD Cert.ReferenceOutBwdIdeal.τ).loc Cert.ReferenceOutBwdIdeal.main_arg6) = m ((c.tc : Thread Cert.ReferenceOutBwdIdeal.nD Cert.ReferenceOutBwdIdeal.τ).loc Cert.ReferenceOutBwdIdeal.main_arg6)
      ∧ r.2.mem ((c.tc : Thread Cert.ReferenceOutBwdIdeal.nD Cert.ReferenceOutBwdIdeal.τ).loc Cert.ReferenceOutBwdIdeal.main_arg7) = m ((c.tc : Thread Cert.ReferenceOutBwdIdeal.nD Cert.ReferenceOutBwdIdeal.τ).loc Cert.ReferenceOutBwdIdeal.main_arg7))
      ∧ r.2.sem = fun _ => 0)

def quiescent_KernelAdaW [hKernelAdaW : Cert.KernelAdaW.Facts] : Prop :=
  ∀ (m : (ℓ : Loc Cert.KernelAdaW.nD Cert.KernelAdaW.τ Cert.KernelAdaW.sig) → Buf (Elt Bits) ℓ) (g : Dev Cert.KernelAdaW.nD → PrngReg), Pre_KernelAdaW m →
    θ_run (Cert.KernelAdaW.defs (F := Bits)) (onTc (τ := Cert.KernelAdaW.τ) (Cert.KernelAdaW.main (F := Bits))) ⟨m, fun _ => 0, g⟩ (fun r => (∀ c : Dev Cert.KernelAdaW.nD,
      r.2.mem ((c.tc : Thread Cert.KernelAdaW.nD Cert.KernelAdaW.τ).loc Cert.KernelAdaW.main_arg0) = m ((c.tc : Thread Cert.KernelAdaW.nD Cert.KernelAdaW.τ).loc Cert.KernelAdaW.main_arg0)
      ∧ r.2.mem ((c.tc : Thread Cert.KernelAdaW.nD Cert.KernelAdaW.τ).loc Cert.KernelAdaW.main_arg1) = m ((c.tc : Thread Cert.KernelAdaW.nD Cert.KernelAdaW.τ).loc Cert.KernelAdaW.main_arg1)
      ∧ r.2.mem ((c.tc : Thread Cert.KernelAdaW.nD Cert.KernelAdaW.τ).loc Cert.KernelAdaW.main_arg2) = m ((c.tc : Thread Cert.KernelAdaW.nD Cert.KernelAdaW.τ).loc Cert.KernelAdaW.main_arg2)
      ∧ r.2.mem ((c.tc : Thread Cert.KernelAdaW.nD Cert.KernelAdaW.τ).loc Cert.KernelAdaW.main_arg3) = m ((c.tc : Thread Cert.KernelAdaW.nD Cert.KernelAdaW.τ).loc Cert.KernelAdaW.main_arg3)
      ∧ r.2.mem ((c.tc : Thread Cert.KernelAdaW.nD Cert.KernelAdaW.τ).loc Cert.KernelAdaW.main_arg4) = m ((c.tc : Thread Cert.KernelAdaW.nD Cert.KernelAdaW.τ).loc Cert.KernelAdaW.main_arg4))
      ∧ r.2.sem = fun _ => 0)

def quiescent_KernelAdaWIdeal [hKernelAdaWIdeal : Cert.KernelAdaWIdeal.Facts] : Prop :=
  ∀ (m : (ℓ : Loc Cert.KernelAdaWIdeal.nD Cert.KernelAdaWIdeal.τ Cert.KernelAdaWIdeal.sig) → Buf (Elt Ideal) ℓ) (g : Dev Cert.KernelAdaWIdeal.nD → PrngReg), Pre_KernelAdaWIdeal m →
    θ_run (Cert.KernelAdaWIdeal.defs (F := Ideal)) (onTc (τ := Cert.KernelAdaWIdeal.τ) (Cert.KernelAdaWIdeal.main (F := Ideal))) ⟨m, fun _ => 0, g⟩ (fun r => (∀ c : Dev Cert.KernelAdaWIdeal.nD,
      r.2.mem ((c.tc : Thread Cert.KernelAdaWIdeal.nD Cert.KernelAdaWIdeal.τ).loc Cert.KernelAdaWIdeal.main_arg0) = m ((c.tc : Thread Cert.KernelAdaWIdeal.nD Cert.KernelAdaWIdeal.τ).loc Cert.KernelAdaWIdeal.main_arg0)
      ∧ r.2.mem ((c.tc : Thread Cert.KernelAdaWIdeal.nD Cert.KernelAdaWIdeal.τ).loc Cert.KernelAdaWIdeal.main_arg1) = m ((c.tc : Thread Cert.KernelAdaWIdeal.nD Cert.KernelAdaWIdeal.τ).loc Cert.KernelAdaWIdeal.main_arg1)
      ∧ r.2.mem ((c.tc : Thread Cert.KernelAdaWIdeal.nD Cert.KernelAdaWIdeal.τ).loc Cert.KernelAdaWIdeal.main_arg2) = m ((c.tc : Thread Cert.KernelAdaWIdeal.nD Cert.KernelAdaWIdeal.τ).loc Cert.KernelAdaWIdeal.main_arg2)
      ∧ r.2.mem ((c.tc : Thread Cert.KernelAdaWIdeal.nD Cert.KernelAdaWIdeal.τ).loc Cert.KernelAdaWIdeal.main_arg3) = m ((c.tc : Thread Cert.KernelAdaWIdeal.nD Cert.KernelAdaWIdeal.τ).loc Cert.KernelAdaWIdeal.main_arg3)
      ∧ r.2.mem ((c.tc : Thread Cert.KernelAdaWIdeal.nD Cert.KernelAdaWIdeal.τ).loc Cert.KernelAdaWIdeal.main_arg4) = m ((c.tc : Thread Cert.KernelAdaWIdeal.nD Cert.KernelAdaWIdeal.τ).loc Cert.KernelAdaWIdeal.main_arg4))
      ∧ r.2.sem = fun _ => 0)

def quiescent_ReferenceAdaWIdeal [hReferenceAdaWIdeal : Cert.ReferenceAdaWIdeal.Facts] : Prop :=
  ∀ (m : (ℓ : Loc Cert.ReferenceAdaWIdeal.nD Cert.ReferenceAdaWIdeal.τ Cert.ReferenceAdaWIdeal.sig) → Buf (Elt Ideal) ℓ) (g : Dev Cert.ReferenceAdaWIdeal.nD → PrngReg), Pre_ReferenceAdaWIdeal m →
    θ_run (Cert.ReferenceAdaWIdeal.defs (F := Ideal)) (onTc (τ := Cert.ReferenceAdaWIdeal.τ) (Cert.ReferenceAdaWIdeal.main (F := Ideal))) ⟨m, fun _ => 0, g⟩ (fun r => (∀ c : Dev Cert.ReferenceAdaWIdeal.nD,
      r.2.mem ((c.tc : Thread Cert.ReferenceAdaWIdeal.nD Cert.ReferenceAdaWIdeal.τ).loc Cert.ReferenceAdaWIdeal.main_arg0) = m ((c.tc : Thread Cert.ReferenceAdaWIdeal.nD Cert.ReferenceAdaWIdeal.τ).loc Cert.ReferenceAdaWIdeal.main_arg0)
      ∧ r.2.mem ((c.tc : Thread Cert.ReferenceAdaWIdeal.nD Cert.ReferenceAdaWIdeal.τ).loc Cert.ReferenceAdaWIdeal.main_arg1) = m ((c.tc : Thread Cert.ReferenceAdaWIdeal.nD Cert.ReferenceAdaWIdeal.τ).loc Cert.ReferenceAdaWIdeal.main_arg1)
      ∧ r.2.mem ((c.tc : Thread Cert.ReferenceAdaWIdeal.nD Cert.ReferenceAdaWIdeal.τ).loc Cert.ReferenceAdaWIdeal.main_arg2) = m ((c.tc : Thread Cert.ReferenceAdaWIdeal.nD Cert.ReferenceAdaWIdeal.τ).loc Cert.ReferenceAdaWIdeal.main_arg2)
      ∧ r.2.mem ((c.tc : Thread Cert.ReferenceAdaWIdeal.nD Cert.ReferenceAdaWIdeal.τ).loc Cert.ReferenceAdaWIdeal.main_arg3) = m ((c.tc : Thread Cert.ReferenceAdaWIdeal.nD Cert.ReferenceAdaWIdeal.τ).loc Cert.ReferenceAdaWIdeal.main_arg3)
      ∧ r.2.mem ((c.tc : Thread Cert.ReferenceAdaWIdeal.nD Cert.ReferenceAdaWIdeal.τ).loc Cert.ReferenceAdaWIdeal.main_arg4) = m ((c.tc : Thread Cert.ReferenceAdaWIdeal.nD Cert.ReferenceAdaWIdeal.τ).loc Cert.ReferenceAdaWIdeal.main_arg4))
      ∧ r.2.sem = fun _ => 0)

def quiescent_KernelAdaDown [hKernelAdaDown : Cert.KernelAdaDown.Facts] : Prop :=
  ∀ (m : (ℓ : Loc Cert.KernelAdaDown.nD Cert.KernelAdaDown.τ Cert.KernelAdaDown.sig) → Buf (Elt Bits) ℓ) (g : Dev Cert.KernelAdaDown.nD → PrngReg), Pre_KernelAdaDown m →
    θ_run (Cert.KernelAdaDown.defs (F := Bits)) (onTc (τ := Cert.KernelAdaDown.τ) (Cert.KernelAdaDown.main (F := Bits))) ⟨m, fun _ => 0, g⟩ (fun r => (∀ c : Dev Cert.KernelAdaDown.nD,
      r.2.mem ((c.tc : Thread Cert.KernelAdaDown.nD Cert.KernelAdaDown.τ).loc Cert.KernelAdaDown.main_arg0) = m ((c.tc : Thread Cert.KernelAdaDown.nD Cert.KernelAdaDown.τ).loc Cert.KernelAdaDown.main_arg0)
      ∧ r.2.mem ((c.tc : Thread Cert.KernelAdaDown.nD Cert.KernelAdaDown.τ).loc Cert.KernelAdaDown.main_arg1) = m ((c.tc : Thread Cert.KernelAdaDown.nD Cert.KernelAdaDown.τ).loc Cert.KernelAdaDown.main_arg1)
      ∧ r.2.mem ((c.tc : Thread Cert.KernelAdaDown.nD Cert.KernelAdaDown.τ).loc Cert.KernelAdaDown.main_arg2) = m ((c.tc : Thread Cert.KernelAdaDown.nD Cert.KernelAdaDown.τ).loc Cert.KernelAdaDown.main_arg2)
      ∧ r.2.mem ((c.tc : Thread Cert.KernelAdaDown.nD Cert.KernelAdaDown.τ).loc Cert.KernelAdaDown.main_arg3) = m ((c.tc : Thread Cert.KernelAdaDown.nD Cert.KernelAdaDown.τ).loc Cert.KernelAdaDown.main_arg3)
      ∧ r.2.mem ((c.tc : Thread Cert.KernelAdaDown.nD Cert.KernelAdaDown.τ).loc Cert.KernelAdaDown.main_arg4) = m ((c.tc : Thread Cert.KernelAdaDown.nD Cert.KernelAdaDown.τ).loc Cert.KernelAdaDown.main_arg4))
      ∧ r.2.sem = fun _ => 0)

def quiescent_KernelAdaDownIdeal [hKernelAdaDownIdeal : Cert.KernelAdaDownIdeal.Facts] : Prop :=
  ∀ (m : (ℓ : Loc Cert.KernelAdaDownIdeal.nD Cert.KernelAdaDownIdeal.τ Cert.KernelAdaDownIdeal.sig) → Buf (Elt Ideal) ℓ) (g : Dev Cert.KernelAdaDownIdeal.nD → PrngReg), Pre_KernelAdaDownIdeal m →
    θ_run (Cert.KernelAdaDownIdeal.defs (F := Ideal)) (onTc (τ := Cert.KernelAdaDownIdeal.τ) (Cert.KernelAdaDownIdeal.main (F := Ideal))) ⟨m, fun _ => 0, g⟩ (fun r => (∀ c : Dev Cert.KernelAdaDownIdeal.nD,
      r.2.mem ((c.tc : Thread Cert.KernelAdaDownIdeal.nD Cert.KernelAdaDownIdeal.τ).loc Cert.KernelAdaDownIdeal.main_arg0) = m ((c.tc : Thread Cert.KernelAdaDownIdeal.nD Cert.KernelAdaDownIdeal.τ).loc Cert.KernelAdaDownIdeal.main_arg0)
      ∧ r.2.mem ((c.tc : Thread Cert.KernelAdaDownIdeal.nD Cert.KernelAdaDownIdeal.τ).loc Cert.KernelAdaDownIdeal.main_arg1) = m ((c.tc : Thread Cert.KernelAdaDownIdeal.nD Cert.KernelAdaDownIdeal.τ).loc Cert.KernelAdaDownIdeal.main_arg1)
      ∧ r.2.mem ((c.tc : Thread Cert.KernelAdaDownIdeal.nD Cert.KernelAdaDownIdeal.τ).loc Cert.KernelAdaDownIdeal.main_arg2) = m ((c.tc : Thread Cert.KernelAdaDownIdeal.nD Cert.KernelAdaDownIdeal.τ).loc Cert.KernelAdaDownIdeal.main_arg2)
      ∧ r.2.mem ((c.tc : Thread Cert.KernelAdaDownIdeal.nD Cert.KernelAdaDownIdeal.τ).loc Cert.KernelAdaDownIdeal.main_arg3) = m ((c.tc : Thread Cert.KernelAdaDownIdeal.nD Cert.KernelAdaDownIdeal.τ).loc Cert.KernelAdaDownIdeal.main_arg3)
      ∧ r.2.mem ((c.tc : Thread Cert.KernelAdaDownIdeal.nD Cert.KernelAdaDownIdeal.τ).loc Cert.KernelAdaDownIdeal.main_arg4) = m ((c.tc : Thread Cert.KernelAdaDownIdeal.nD Cert.KernelAdaDownIdeal.τ).loc Cert.KernelAdaDownIdeal.main_arg4))
      ∧ r.2.sem = fun _ => 0)

def quiescent_ReferenceAdaDownIdeal [hReferenceAdaDownIdeal : Cert.ReferenceAdaDownIdeal.Facts] : Prop :=
  ∀ (m : (ℓ : Loc Cert.ReferenceAdaDownIdeal.nD Cert.ReferenceAdaDownIdeal.τ Cert.ReferenceAdaDownIdeal.sig) → Buf (Elt Ideal) ℓ) (g : Dev Cert.ReferenceAdaDownIdeal.nD → PrngReg), Pre_ReferenceAdaDownIdeal m →
    θ_run (Cert.ReferenceAdaDownIdeal.defs (F := Ideal)) (onTc (τ := Cert.ReferenceAdaDownIdeal.τ) (Cert.ReferenceAdaDownIdeal.main (F := Ideal))) ⟨m, fun _ => 0, g⟩ (fun r => (∀ c : Dev Cert.ReferenceAdaDownIdeal.nD,
      r.2.mem ((c.tc : Thread Cert.ReferenceAdaDownIdeal.nD Cert.ReferenceAdaDownIdeal.τ).loc Cert.ReferenceAdaDownIdeal.main_arg0) = m ((c.tc : Thread Cert.ReferenceAdaDownIdeal.nD Cert.ReferenceAdaDownIdeal.τ).loc Cert.ReferenceAdaDownIdeal.main_arg0)
      ∧ r.2.mem ((c.tc : Thread Cert.ReferenceAdaDownIdeal.nD Cert.ReferenceAdaDownIdeal.τ).loc Cert.ReferenceAdaDownIdeal.main_arg1) = m ((c.tc : Thread Cert.ReferenceAdaDownIdeal.nD Cert.ReferenceAdaDownIdeal.τ).loc Cert.ReferenceAdaDownIdeal.main_arg1)
      ∧ r.2.mem ((c.tc : Thread Cert.ReferenceAdaDownIdeal.nD Cert.ReferenceAdaDownIdeal.τ).loc Cert.ReferenceAdaDownIdeal.main_arg2) = m ((c.tc : Thread Cert.ReferenceAdaDownIdeal.nD Cert.ReferenceAdaDownIdeal.τ).loc Cert.ReferenceAdaDownIdeal.main_arg2)
      ∧ r.2.mem ((c.tc : Thread Cert.ReferenceAdaDownIdeal.nD Cert.ReferenceAdaDownIdeal.τ).loc Cert.ReferenceAdaDownIdeal.main_arg3) = m ((c.tc : Thread Cert.ReferenceAdaDownIdeal.nD Cert.ReferenceAdaDownIdeal.τ).loc Cert.ReferenceAdaDownIdeal.main_arg3)
      ∧ r.2.mem ((c.tc : Thread Cert.ReferenceAdaDownIdeal.nD Cert.ReferenceAdaDownIdeal.τ).loc Cert.ReferenceAdaDownIdeal.main_arg4) = m ((c.tc : Thread Cert.ReferenceAdaDownIdeal.nD Cert.ReferenceAdaDownIdeal.τ).loc Cert.ReferenceAdaDownIdeal.main_arg4))
      ∧ r.2.sem = fun _ => 0)

def quiescent_KernelAdaOut [hKernelAdaOut : Cert.KernelAdaOut.Facts] : Prop :=
  ∀ (m : (ℓ : Loc Cert.KernelAdaOut.nD Cert.KernelAdaOut.τ Cert.KernelAdaOut.sig) → Buf (Elt Bits) ℓ) (g : Dev Cert.KernelAdaOut.nD → PrngReg), Pre_KernelAdaOut m →
    θ_run (Cert.KernelAdaOut.defs (F := Bits)) (onTc (τ := Cert.KernelAdaOut.τ) (Cert.KernelAdaOut.main (F := Bits))) ⟨m, fun _ => 0, g⟩ (fun r => (∀ c : Dev Cert.KernelAdaOut.nD,
      r.2.mem ((c.tc : Thread Cert.KernelAdaOut.nD Cert.KernelAdaOut.τ).loc Cert.KernelAdaOut.main_arg0) = m ((c.tc : Thread Cert.KernelAdaOut.nD Cert.KernelAdaOut.τ).loc Cert.KernelAdaOut.main_arg0)
      ∧ r.2.mem ((c.tc : Thread Cert.KernelAdaOut.nD Cert.KernelAdaOut.τ).loc Cert.KernelAdaOut.main_arg1) = m ((c.tc : Thread Cert.KernelAdaOut.nD Cert.KernelAdaOut.τ).loc Cert.KernelAdaOut.main_arg1)
      ∧ r.2.mem ((c.tc : Thread Cert.KernelAdaOut.nD Cert.KernelAdaOut.τ).loc Cert.KernelAdaOut.main_arg2) = m ((c.tc : Thread Cert.KernelAdaOut.nD Cert.KernelAdaOut.τ).loc Cert.KernelAdaOut.main_arg2)
      ∧ r.2.mem ((c.tc : Thread Cert.KernelAdaOut.nD Cert.KernelAdaOut.τ).loc Cert.KernelAdaOut.main_arg3) = m ((c.tc : Thread Cert.KernelAdaOut.nD Cert.KernelAdaOut.τ).loc Cert.KernelAdaOut.main_arg3)
      ∧ r.2.mem ((c.tc : Thread Cert.KernelAdaOut.nD Cert.KernelAdaOut.τ).loc Cert.KernelAdaOut.main_arg4) = m ((c.tc : Thread Cert.KernelAdaOut.nD Cert.KernelAdaOut.τ).loc Cert.KernelAdaOut.main_arg4))
      ∧ r.2.sem = fun _ => 0)

def quiescent_KernelAdaOutIdeal [hKernelAdaOutIdeal : Cert.KernelAdaOutIdeal.Facts] : Prop :=
  ∀ (m : (ℓ : Loc Cert.KernelAdaOutIdeal.nD Cert.KernelAdaOutIdeal.τ Cert.KernelAdaOutIdeal.sig) → Buf (Elt Ideal) ℓ) (g : Dev Cert.KernelAdaOutIdeal.nD → PrngReg), Pre_KernelAdaOutIdeal m →
    θ_run (Cert.KernelAdaOutIdeal.defs (F := Ideal)) (onTc (τ := Cert.KernelAdaOutIdeal.τ) (Cert.KernelAdaOutIdeal.main (F := Ideal))) ⟨m, fun _ => 0, g⟩ (fun r => (∀ c : Dev Cert.KernelAdaOutIdeal.nD,
      r.2.mem ((c.tc : Thread Cert.KernelAdaOutIdeal.nD Cert.KernelAdaOutIdeal.τ).loc Cert.KernelAdaOutIdeal.main_arg0) = m ((c.tc : Thread Cert.KernelAdaOutIdeal.nD Cert.KernelAdaOutIdeal.τ).loc Cert.KernelAdaOutIdeal.main_arg0)
      ∧ r.2.mem ((c.tc : Thread Cert.KernelAdaOutIdeal.nD Cert.KernelAdaOutIdeal.τ).loc Cert.KernelAdaOutIdeal.main_arg1) = m ((c.tc : Thread Cert.KernelAdaOutIdeal.nD Cert.KernelAdaOutIdeal.τ).loc Cert.KernelAdaOutIdeal.main_arg1)
      ∧ r.2.mem ((c.tc : Thread Cert.KernelAdaOutIdeal.nD Cert.KernelAdaOutIdeal.τ).loc Cert.KernelAdaOutIdeal.main_arg2) = m ((c.tc : Thread Cert.KernelAdaOutIdeal.nD Cert.KernelAdaOutIdeal.τ).loc Cert.KernelAdaOutIdeal.main_arg2)
      ∧ r.2.mem ((c.tc : Thread Cert.KernelAdaOutIdeal.nD Cert.KernelAdaOutIdeal.τ).loc Cert.KernelAdaOutIdeal.main_arg3) = m ((c.tc : Thread Cert.KernelAdaOutIdeal.nD Cert.KernelAdaOutIdeal.τ).loc Cert.KernelAdaOutIdeal.main_arg3)
      ∧ r.2.mem ((c.tc : Thread Cert.KernelAdaOutIdeal.nD Cert.KernelAdaOutIdeal.τ).loc Cert.KernelAdaOutIdeal.main_arg4) = m ((c.tc : Thread Cert.KernelAdaOutIdeal.nD Cert.KernelAdaOutIdeal.τ).loc Cert.KernelAdaOutIdeal.main_arg4))
      ∧ r.2.sem = fun _ => 0)

def quiescent_ReferenceAdaOutIdeal [hReferenceAdaOutIdeal : Cert.ReferenceAdaOutIdeal.Facts] : Prop :=
  ∀ (m : (ℓ : Loc Cert.ReferenceAdaOutIdeal.nD Cert.ReferenceAdaOutIdeal.τ Cert.ReferenceAdaOutIdeal.sig) → Buf (Elt Ideal) ℓ) (g : Dev Cert.ReferenceAdaOutIdeal.nD → PrngReg), Pre_ReferenceAdaOutIdeal m →
    θ_run (Cert.ReferenceAdaOutIdeal.defs (F := Ideal)) (onTc (τ := Cert.ReferenceAdaOutIdeal.τ) (Cert.ReferenceAdaOutIdeal.main (F := Ideal))) ⟨m, fun _ => 0, g⟩ (fun r => (∀ c : Dev Cert.ReferenceAdaOutIdeal.nD,
      r.2.mem ((c.tc : Thread Cert.ReferenceAdaOutIdeal.nD Cert.ReferenceAdaOutIdeal.τ).loc Cert.ReferenceAdaOutIdeal.main_arg0) = m ((c.tc : Thread Cert.ReferenceAdaOutIdeal.nD Cert.ReferenceAdaOutIdeal.τ).loc Cert.ReferenceAdaOutIdeal.main_arg0)
      ∧ r.2.mem ((c.tc : Thread Cert.ReferenceAdaOutIdeal.nD Cert.ReferenceAdaOutIdeal.τ).loc Cert.ReferenceAdaOutIdeal.main_arg1) = m ((c.tc : Thread Cert.ReferenceAdaOutIdeal.nD Cert.ReferenceAdaOutIdeal.τ).loc Cert.ReferenceAdaOutIdeal.main_arg1)
      ∧ r.2.mem ((c.tc : Thread Cert.ReferenceAdaOutIdeal.nD Cert.ReferenceAdaOutIdeal.τ).loc Cert.ReferenceAdaOutIdeal.main_arg2) = m ((c.tc : Thread Cert.ReferenceAdaOutIdeal.nD Cert.ReferenceAdaOutIdeal.τ).loc Cert.ReferenceAdaOutIdeal.main_arg2)
      ∧ r.2.mem ((c.tc : Thread Cert.ReferenceAdaOutIdeal.nD Cert.ReferenceAdaOutIdeal.τ).loc Cert.ReferenceAdaOutIdeal.main_arg3) = m ((c.tc : Thread Cert.ReferenceAdaOutIdeal.nD Cert.ReferenceAdaOutIdeal.τ).loc Cert.ReferenceAdaOutIdeal.main_arg3)
      ∧ r.2.mem ((c.tc : Thread Cert.ReferenceAdaOutIdeal.nD Cert.ReferenceAdaOutIdeal.τ).loc Cert.ReferenceAdaOutIdeal.main_arg4) = m ((c.tc : Thread Cert.ReferenceAdaOutIdeal.nD Cert.ReferenceAdaOutIdeal.τ).loc Cert.ReferenceAdaOutIdeal.main_arg4))
      ∧ r.2.sem = fun _ => 0)

def quiescent_KernelAdaKvb [hKernelAdaKvb : Cert.KernelAdaKvb.Facts] : Prop :=
  ∀ (m : (ℓ : Loc Cert.KernelAdaKvb.nD Cert.KernelAdaKvb.τ Cert.KernelAdaKvb.sig) → Buf (Elt Bits) ℓ) (g : Dev Cert.KernelAdaKvb.nD → PrngReg), Pre_KernelAdaKvb m →
    θ_run (Cert.KernelAdaKvb.defs (F := Bits)) (onTc (τ := Cert.KernelAdaKvb.τ) (Cert.KernelAdaKvb.main (F := Bits))) ⟨m, fun _ => 0, g⟩ (fun r => (∀ c : Dev Cert.KernelAdaKvb.nD,
      r.2.mem ((c.tc : Thread Cert.KernelAdaKvb.nD Cert.KernelAdaKvb.τ).loc Cert.KernelAdaKvb.main_arg0) = m ((c.tc : Thread Cert.KernelAdaKvb.nD Cert.KernelAdaKvb.τ).loc Cert.KernelAdaKvb.main_arg0)
      ∧ r.2.mem ((c.tc : Thread Cert.KernelAdaKvb.nD Cert.KernelAdaKvb.τ).loc Cert.KernelAdaKvb.main_arg1) = m ((c.tc : Thread Cert.KernelAdaKvb.nD Cert.KernelAdaKvb.τ).loc Cert.KernelAdaKvb.main_arg1)
      ∧ r.2.mem ((c.tc : Thread Cert.KernelAdaKvb.nD Cert.KernelAdaKvb.τ).loc Cert.KernelAdaKvb.main_arg2) = m ((c.tc : Thread Cert.KernelAdaKvb.nD Cert.KernelAdaKvb.τ).loc Cert.KernelAdaKvb.main_arg2)
      ∧ r.2.mem ((c.tc : Thread Cert.KernelAdaKvb.nD Cert.KernelAdaKvb.τ).loc Cert.KernelAdaKvb.main_arg3) = m ((c.tc : Thread Cert.KernelAdaKvb.nD Cert.KernelAdaKvb.τ).loc Cert.KernelAdaKvb.main_arg3)
      ∧ r.2.mem ((c.tc : Thread Cert.KernelAdaKvb.nD Cert.KernelAdaKvb.τ).loc Cert.KernelAdaKvb.main_arg4) = m ((c.tc : Thread Cert.KernelAdaKvb.nD Cert.KernelAdaKvb.τ).loc Cert.KernelAdaKvb.main_arg4))
      ∧ r.2.sem = fun _ => 0)

def quiescent_KernelAdaKvbIdeal [hKernelAdaKvbIdeal : Cert.KernelAdaKvbIdeal.Facts] : Prop :=
  ∀ (m : (ℓ : Loc Cert.KernelAdaKvbIdeal.nD Cert.KernelAdaKvbIdeal.τ Cert.KernelAdaKvbIdeal.sig) → Buf (Elt Ideal) ℓ) (g : Dev Cert.KernelAdaKvbIdeal.nD → PrngReg), Pre_KernelAdaKvbIdeal m →
    θ_run (Cert.KernelAdaKvbIdeal.defs (F := Ideal)) (onTc (τ := Cert.KernelAdaKvbIdeal.τ) (Cert.KernelAdaKvbIdeal.main (F := Ideal))) ⟨m, fun _ => 0, g⟩ (fun r => (∀ c : Dev Cert.KernelAdaKvbIdeal.nD,
      r.2.mem ((c.tc : Thread Cert.KernelAdaKvbIdeal.nD Cert.KernelAdaKvbIdeal.τ).loc Cert.KernelAdaKvbIdeal.main_arg0) = m ((c.tc : Thread Cert.KernelAdaKvbIdeal.nD Cert.KernelAdaKvbIdeal.τ).loc Cert.KernelAdaKvbIdeal.main_arg0)
      ∧ r.2.mem ((c.tc : Thread Cert.KernelAdaKvbIdeal.nD Cert.KernelAdaKvbIdeal.τ).loc Cert.KernelAdaKvbIdeal.main_arg1) = m ((c.tc : Thread Cert.KernelAdaKvbIdeal.nD Cert.KernelAdaKvbIdeal.τ).loc Cert.KernelAdaKvbIdeal.main_arg1)
      ∧ r.2.mem ((c.tc : Thread Cert.KernelAdaKvbIdeal.nD Cert.KernelAdaKvbIdeal.τ).loc Cert.KernelAdaKvbIdeal.main_arg2) = m ((c.tc : Thread Cert.KernelAdaKvbIdeal.nD Cert.KernelAdaKvbIdeal.τ).loc Cert.KernelAdaKvbIdeal.main_arg2)
      ∧ r.2.mem ((c.tc : Thread Cert.KernelAdaKvbIdeal.nD Cert.KernelAdaKvbIdeal.τ).loc Cert.KernelAdaKvbIdeal.main_arg3) = m ((c.tc : Thread Cert.KernelAdaKvbIdeal.nD Cert.KernelAdaKvbIdeal.τ).loc Cert.KernelAdaKvbIdeal.main_arg3)
      ∧ r.2.mem ((c.tc : Thread Cert.KernelAdaKvbIdeal.nD Cert.KernelAdaKvbIdeal.τ).loc Cert.KernelAdaKvbIdeal.main_arg4) = m ((c.tc : Thread Cert.KernelAdaKvbIdeal.nD Cert.KernelAdaKvbIdeal.τ).loc Cert.KernelAdaKvbIdeal.main_arg4))
      ∧ r.2.sem = fun _ => 0)

def quiescent_ReferenceAdaKvbIdeal [hReferenceAdaKvbIdeal : Cert.ReferenceAdaKvbIdeal.Facts] : Prop :=
  ∀ (m : (ℓ : Loc Cert.ReferenceAdaKvbIdeal.nD Cert.ReferenceAdaKvbIdeal.τ Cert.ReferenceAdaKvbIdeal.sig) → Buf (Elt Ideal) ℓ) (g : Dev Cert.ReferenceAdaKvbIdeal.nD → PrngReg), Pre_ReferenceAdaKvbIdeal m →
    θ_run (Cert.ReferenceAdaKvbIdeal.defs (F := Ideal)) (onTc (τ := Cert.ReferenceAdaKvbIdeal.τ) (Cert.ReferenceAdaKvbIdeal.main (F := Ideal))) ⟨m, fun _ => 0, g⟩ (fun r => (∀ c : Dev Cert.ReferenceAdaKvbIdeal.nD,
      r.2.mem ((c.tc : Thread Cert.ReferenceAdaKvbIdeal.nD Cert.ReferenceAdaKvbIdeal.τ).loc Cert.ReferenceAdaKvbIdeal.main_arg0) = m ((c.tc : Thread Cert.ReferenceAdaKvbIdeal.nD Cert.ReferenceAdaKvbIdeal.τ).loc Cert.ReferenceAdaKvbIdeal.main_arg0)
      ∧ r.2.mem ((c.tc : Thread Cert.ReferenceAdaKvbIdeal.nD Cert.ReferenceAdaKvbIdeal.τ).loc Cert.ReferenceAdaKvbIdeal.main_arg1) = m ((c.tc : Thread Cert.ReferenceAdaKvbIdeal.nD Cert.ReferenceAdaKvbIdeal.τ).loc Cert.ReferenceAdaKvbIdeal.main_arg1)
      ∧ r.2.mem ((c.tc : Thread Cert.ReferenceAdaKvbIdeal.nD Cert.ReferenceAdaKvbIdeal.τ).loc Cert.ReferenceAdaKvbIdeal.main_arg2) = m ((c.tc : Thread Cert.ReferenceAdaKvbIdeal.nD Cert.ReferenceAdaKvbIdeal.τ).loc Cert.ReferenceAdaKvbIdeal.main_arg2)
      ∧ r.2.mem ((c.tc : Thread Cert.ReferenceAdaKvbIdeal.nD Cert.ReferenceAdaKvbIdeal.τ).loc Cert.ReferenceAdaKvbIdeal.main_arg3) = m ((c.tc : Thread Cert.ReferenceAdaKvbIdeal.nD Cert.ReferenceAdaKvbIdeal.τ).loc Cert.ReferenceAdaKvbIdeal.main_arg3)
      ∧ r.2.mem ((c.tc : Thread Cert.ReferenceAdaKvbIdeal.nD Cert.ReferenceAdaKvbIdeal.τ).loc Cert.ReferenceAdaKvbIdeal.main_arg4) = m ((c.tc : Thread Cert.ReferenceAdaKvbIdeal.nD Cert.ReferenceAdaKvbIdeal.τ).loc Cert.ReferenceAdaKvbIdeal.main_arg4))
      ∧ r.2.sem = fun _ => 0)

def quiescent_KernelAdaIn [hKernelAdaIn : Cert.KernelAdaIn.Facts] : Prop :=
  ∀ (m : (ℓ : Loc Cert.KernelAdaIn.nD Cert.KernelAdaIn.τ Cert.KernelAdaIn.sig) → Buf (Elt Bits) ℓ) (g : Dev Cert.KernelAdaIn.nD → PrngReg), Pre_KernelAdaIn m →
    θ_run (Cert.KernelAdaIn.defs (F := Bits)) (onTc (τ := Cert.KernelAdaIn.τ) (Cert.KernelAdaIn.main (F := Bits))) ⟨m, fun _ => 0, g⟩ (fun r => (∀ c : Dev Cert.KernelAdaIn.nD,
      r.2.mem ((c.tc : Thread Cert.KernelAdaIn.nD Cert.KernelAdaIn.τ).loc Cert.KernelAdaIn.main_arg0) = m ((c.tc : Thread Cert.KernelAdaIn.nD Cert.KernelAdaIn.τ).loc Cert.KernelAdaIn.main_arg0)
      ∧ r.2.mem ((c.tc : Thread Cert.KernelAdaIn.nD Cert.KernelAdaIn.τ).loc Cert.KernelAdaIn.main_arg1) = m ((c.tc : Thread Cert.KernelAdaIn.nD Cert.KernelAdaIn.τ).loc Cert.KernelAdaIn.main_arg1)
      ∧ r.2.mem ((c.tc : Thread Cert.KernelAdaIn.nD Cert.KernelAdaIn.τ).loc Cert.KernelAdaIn.main_arg2) = m ((c.tc : Thread Cert.KernelAdaIn.nD Cert.KernelAdaIn.τ).loc Cert.KernelAdaIn.main_arg2)
      ∧ r.2.mem ((c.tc : Thread Cert.KernelAdaIn.nD Cert.KernelAdaIn.τ).loc Cert.KernelAdaIn.main_arg3) = m ((c.tc : Thread Cert.KernelAdaIn.nD Cert.KernelAdaIn.τ).loc Cert.KernelAdaIn.main_arg3)
      ∧ r.2.mem ((c.tc : Thread Cert.KernelAdaIn.nD Cert.KernelAdaIn.τ).loc Cert.KernelAdaIn.main_arg4) = m ((c.tc : Thread Cert.KernelAdaIn.nD Cert.KernelAdaIn.τ).loc Cert.KernelAdaIn.main_arg4))
      ∧ r.2.sem = fun _ => 0)

def quiescent_KernelAdaInIdeal [hKernelAdaInIdeal : Cert.KernelAdaInIdeal.Facts] : Prop :=
  ∀ (m : (ℓ : Loc Cert.KernelAdaInIdeal.nD Cert.KernelAdaInIdeal.τ Cert.KernelAdaInIdeal.sig) → Buf (Elt Ideal) ℓ) (g : Dev Cert.KernelAdaInIdeal.nD → PrngReg), Pre_KernelAdaInIdeal m →
    θ_run (Cert.KernelAdaInIdeal.defs (F := Ideal)) (onTc (τ := Cert.KernelAdaInIdeal.τ) (Cert.KernelAdaInIdeal.main (F := Ideal))) ⟨m, fun _ => 0, g⟩ (fun r => (∀ c : Dev Cert.KernelAdaInIdeal.nD,
      r.2.mem ((c.tc : Thread Cert.KernelAdaInIdeal.nD Cert.KernelAdaInIdeal.τ).loc Cert.KernelAdaInIdeal.main_arg0) = m ((c.tc : Thread Cert.KernelAdaInIdeal.nD Cert.KernelAdaInIdeal.τ).loc Cert.KernelAdaInIdeal.main_arg0)
      ∧ r.2.mem ((c.tc : Thread Cert.KernelAdaInIdeal.nD Cert.KernelAdaInIdeal.τ).loc Cert.KernelAdaInIdeal.main_arg1) = m ((c.tc : Thread Cert.KernelAdaInIdeal.nD Cert.KernelAdaInIdeal.τ).loc Cert.KernelAdaInIdeal.main_arg1)
      ∧ r.2.mem ((c.tc : Thread Cert.KernelAdaInIdeal.nD Cert.KernelAdaInIdeal.τ).loc Cert.KernelAdaInIdeal.main_arg2) = m ((c.tc : Thread Cert.KernelAdaInIdeal.nD Cert.KernelAdaInIdeal.τ).loc Cert.KernelAdaInIdeal.main_arg2)
      ∧ r.2.mem ((c.tc : Thread Cert.KernelAdaInIdeal.nD Cert.KernelAdaInIdeal.τ).loc Cert.KernelAdaInIdeal.main_arg3) = m ((c.tc : Thread Cert.KernelAdaInIdeal.nD Cert.KernelAdaInIdeal.τ).loc Cert.KernelAdaInIdeal.main_arg3)
      ∧ r.2.mem ((c.tc : Thread Cert.KernelAdaInIdeal.nD Cert.KernelAdaInIdeal.τ).loc Cert.KernelAdaInIdeal.main_arg4) = m ((c.tc : Thread Cert.KernelAdaInIdeal.nD Cert.KernelAdaInIdeal.τ).loc Cert.KernelAdaInIdeal.main_arg4))
      ∧ r.2.sem = fun _ => 0)

def quiescent_ReferenceAdaInIdeal [hReferenceAdaInIdeal : Cert.ReferenceAdaInIdeal.Facts] : Prop :=
  ∀ (m : (ℓ : Loc Cert.ReferenceAdaInIdeal.nD Cert.ReferenceAdaInIdeal.τ Cert.ReferenceAdaInIdeal.sig) → Buf (Elt Ideal) ℓ) (g : Dev Cert.ReferenceAdaInIdeal.nD → PrngReg), Pre_ReferenceAdaInIdeal m →
    θ_run (Cert.ReferenceAdaInIdeal.defs (F := Ideal)) (onTc (τ := Cert.ReferenceAdaInIdeal.τ) (Cert.ReferenceAdaInIdeal.main (F := Ideal))) ⟨m, fun _ => 0, g⟩ (fun r => (∀ c : Dev Cert.ReferenceAdaInIdeal.nD,
      r.2.mem ((c.tc : Thread Cert.ReferenceAdaInIdeal.nD Cert.ReferenceAdaInIdeal.τ).loc Cert.ReferenceAdaInIdeal.main_arg0) = m ((c.tc : Thread Cert.ReferenceAdaInIdeal.nD Cert.ReferenceAdaInIdeal.τ).loc Cert.ReferenceAdaInIdeal.main_arg0)
      ∧ r.2.mem ((c.tc : Thread Cert.ReferenceAdaInIdeal.nD Cert.ReferenceAdaInIdeal.τ).loc Cert.ReferenceAdaInIdeal.main_arg1) = m ((c.tc : Thread Cert.ReferenceAdaInIdeal.nD Cert.ReferenceAdaInIdeal.τ).loc Cert.ReferenceAdaInIdeal.main_arg1)
      ∧ r.2.mem ((c.tc : Thread Cert.ReferenceAdaInIdeal.nD Cert.ReferenceAdaInIdeal.τ).loc Cert.ReferenceAdaInIdeal.main_arg2) = m ((c.tc : Thread Cert.ReferenceAdaInIdeal.nD Cert.ReferenceAdaInIdeal.τ).loc Cert.ReferenceAdaInIdeal.main_arg2)
      ∧ r.2.mem ((c.tc : Thread Cert.ReferenceAdaInIdeal.nD Cert.ReferenceAdaInIdeal.τ).loc Cert.ReferenceAdaInIdeal.main_arg3) = m ((c.tc : Thread Cert.ReferenceAdaInIdeal.nD Cert.ReferenceAdaInIdeal.τ).loc Cert.ReferenceAdaInIdeal.main_arg3)
      ∧ r.2.mem ((c.tc : Thread Cert.ReferenceAdaInIdeal.nD Cert.ReferenceAdaInIdeal.τ).loc Cert.ReferenceAdaInIdeal.main_arg4) = m ((c.tc : Thread Cert.ReferenceAdaInIdeal.nD Cert.ReferenceAdaInIdeal.τ).loc Cert.ReferenceAdaInIdeal.main_arg4))
      ∧ r.2.sem = fun _ => 0)

def quiescent_KernelAdaQb [hKernelAdaQb : Cert.KernelAdaQb.Facts] : Prop :=
  ∀ (m : (ℓ : Loc Cert.KernelAdaQb.nD Cert.KernelAdaQb.τ Cert.KernelAdaQb.sig) → Buf (Elt Bits) ℓ) (g : Dev Cert.KernelAdaQb.nD → PrngReg), Pre_KernelAdaQb m →
    θ_run (Cert.KernelAdaQb.defs (F := Bits)) (onTc (τ := Cert.KernelAdaQb.τ) (Cert.KernelAdaQb.main (F := Bits))) ⟨m, fun _ => 0, g⟩ (fun r => (∀ c : Dev Cert.KernelAdaQb.nD,
      r.2.mem ((c.tc : Thread Cert.KernelAdaQb.nD Cert.KernelAdaQb.τ).loc Cert.KernelAdaQb.main_arg0) = m ((c.tc : Thread Cert.KernelAdaQb.nD Cert.KernelAdaQb.τ).loc Cert.KernelAdaQb.main_arg0)
      ∧ r.2.mem ((c.tc : Thread Cert.KernelAdaQb.nD Cert.KernelAdaQb.τ).loc Cert.KernelAdaQb.main_arg1) = m ((c.tc : Thread Cert.KernelAdaQb.nD Cert.KernelAdaQb.τ).loc Cert.KernelAdaQb.main_arg1)
      ∧ r.2.mem ((c.tc : Thread Cert.KernelAdaQb.nD Cert.KernelAdaQb.τ).loc Cert.KernelAdaQb.main_arg2) = m ((c.tc : Thread Cert.KernelAdaQb.nD Cert.KernelAdaQb.τ).loc Cert.KernelAdaQb.main_arg2)
      ∧ r.2.mem ((c.tc : Thread Cert.KernelAdaQb.nD Cert.KernelAdaQb.τ).loc Cert.KernelAdaQb.main_arg3) = m ((c.tc : Thread Cert.KernelAdaQb.nD Cert.KernelAdaQb.τ).loc Cert.KernelAdaQb.main_arg3)
      ∧ r.2.mem ((c.tc : Thread Cert.KernelAdaQb.nD Cert.KernelAdaQb.τ).loc Cert.KernelAdaQb.main_arg4) = m ((c.tc : Thread Cert.KernelAdaQb.nD Cert.KernelAdaQb.τ).loc Cert.KernelAdaQb.main_arg4))
      ∧ r.2.sem = fun _ => 0)

def quiescent_KernelAdaQbIdeal [hKernelAdaQbIdeal : Cert.KernelAdaQbIdeal.Facts] : Prop :=
  ∀ (m : (ℓ : Loc Cert.KernelAdaQbIdeal.nD Cert.KernelAdaQbIdeal.τ Cert.KernelAdaQbIdeal.sig) → Buf (Elt Ideal) ℓ) (g : Dev Cert.KernelAdaQbIdeal.nD → PrngReg), Pre_KernelAdaQbIdeal m →
    θ_run (Cert.KernelAdaQbIdeal.defs (F := Ideal)) (onTc (τ := Cert.KernelAdaQbIdeal.τ) (Cert.KernelAdaQbIdeal.main (F := Ideal))) ⟨m, fun _ => 0, g⟩ (fun r => (∀ c : Dev Cert.KernelAdaQbIdeal.nD,
      r.2.mem ((c.tc : Thread Cert.KernelAdaQbIdeal.nD Cert.KernelAdaQbIdeal.τ).loc Cert.KernelAdaQbIdeal.main_arg0) = m ((c.tc : Thread Cert.KernelAdaQbIdeal.nD Cert.KernelAdaQbIdeal.τ).loc Cert.KernelAdaQbIdeal.main_arg0)
      ∧ r.2.mem ((c.tc : Thread Cert.KernelAdaQbIdeal.nD Cert.KernelAdaQbIdeal.τ).loc Cert.KernelAdaQbIdeal.main_arg1) = m ((c.tc : Thread Cert.KernelAdaQbIdeal.nD Cert.KernelAdaQbIdeal.τ).loc Cert.KernelAdaQbIdeal.main_arg1)
      ∧ r.2.mem ((c.tc : Thread Cert.KernelAdaQbIdeal.nD Cert.KernelAdaQbIdeal.τ).loc Cert.KernelAdaQbIdeal.main_arg2) = m ((c.tc : Thread Cert.KernelAdaQbIdeal.nD Cert.KernelAdaQbIdeal.τ).loc Cert.KernelAdaQbIdeal.main_arg2)
      ∧ r.2.mem ((c.tc : Thread Cert.KernelAdaQbIdeal.nD Cert.KernelAdaQbIdeal.τ).loc Cert.KernelAdaQbIdeal.main_arg3) = m ((c.tc : Thread Cert.KernelAdaQbIdeal.nD Cert.KernelAdaQbIdeal.τ).loc Cert.KernelAdaQbIdeal.main_arg3)
      ∧ r.2.mem ((c.tc : Thread Cert.KernelAdaQbIdeal.nD Cert.KernelAdaQbIdeal.τ).loc Cert.KernelAdaQbIdeal.main_arg4) = m ((c.tc : Thread Cert.KernelAdaQbIdeal.nD Cert.KernelAdaQbIdeal.τ).loc Cert.KernelAdaQbIdeal.main_arg4))
      ∧ r.2.sem = fun _ => 0)

def quiescent_ReferenceAdaQbIdeal [hReferenceAdaQbIdeal : Cert.ReferenceAdaQbIdeal.Facts] : Prop :=
  ∀ (m : (ℓ : Loc Cert.ReferenceAdaQbIdeal.nD Cert.ReferenceAdaQbIdeal.τ Cert.ReferenceAdaQbIdeal.sig) → Buf (Elt Ideal) ℓ) (g : Dev Cert.ReferenceAdaQbIdeal.nD → PrngReg), Pre_ReferenceAdaQbIdeal m →
    θ_run (Cert.ReferenceAdaQbIdeal.defs (F := Ideal)) (onTc (τ := Cert.ReferenceAdaQbIdeal.τ) (Cert.ReferenceAdaQbIdeal.main (F := Ideal))) ⟨m, fun _ => 0, g⟩ (fun r => (∀ c : Dev Cert.ReferenceAdaQbIdeal.nD,
      r.2.mem ((c.tc : Thread Cert.ReferenceAdaQbIdeal.nD Cert.ReferenceAdaQbIdeal.τ).loc Cert.ReferenceAdaQbIdeal.main_arg0) = m ((c.tc : Thread Cert.ReferenceAdaQbIdeal.nD Cert.ReferenceAdaQbIdeal.τ).loc Cert.ReferenceAdaQbIdeal.main_arg0)
      ∧ r.2.mem ((c.tc : Thread Cert.ReferenceAdaQbIdeal.nD Cert.ReferenceAdaQbIdeal.τ).loc Cert.ReferenceAdaQbIdeal.main_arg1) = m ((c.tc : Thread Cert.ReferenceAdaQbIdeal.nD Cert.ReferenceAdaQbIdeal.τ).loc Cert.ReferenceAdaQbIdeal.main_arg1)
      ∧ r.2.mem ((c.tc : Thread Cert.ReferenceAdaQbIdeal.nD Cert.ReferenceAdaQbIdeal.τ).loc Cert.ReferenceAdaQbIdeal.main_arg2) = m ((c.tc : Thread Cert.ReferenceAdaQbIdeal.nD Cert.ReferenceAdaQbIdeal.τ).loc Cert.ReferenceAdaQbIdeal.main_arg2)
      ∧ r.2.mem ((c.tc : Thread Cert.ReferenceAdaQbIdeal.nD Cert.ReferenceAdaQbIdeal.τ).loc Cert.ReferenceAdaQbIdeal.main_arg3) = m ((c.tc : Thread Cert.ReferenceAdaQbIdeal.nD Cert.ReferenceAdaQbIdeal.τ).loc Cert.ReferenceAdaQbIdeal.main_arg3)
      ∧ r.2.mem ((c.tc : Thread Cert.ReferenceAdaQbIdeal.nD Cert.ReferenceAdaQbIdeal.τ).loc Cert.ReferenceAdaQbIdeal.main_arg4) = m ((c.tc : Thread Cert.ReferenceAdaQbIdeal.nD Cert.ReferenceAdaQbIdeal.τ).loc Cert.ReferenceAdaQbIdeal.main_arg4))
      ∧ r.2.sem = fun _ => 0)

def quiescent_KernelAdaSmall [hKernelAdaSmall : Cert.KernelAdaSmall.Facts] : Prop :=
  ∀ (m : (ℓ : Loc Cert.KernelAdaSmall.nD Cert.KernelAdaSmall.τ Cert.KernelAdaSmall.sig) → Buf (Elt Bits) ℓ) (g : Dev Cert.KernelAdaSmall.nD → PrngReg), Pre_KernelAdaSmall m →
    θ_run (Cert.KernelAdaSmall.defs (F := Bits)) (onTc (τ := Cert.KernelAdaSmall.τ) (Cert.KernelAdaSmall.main (F := Bits))) ⟨m, fun _ => 0, g⟩ (fun r => (∀ c : Dev Cert.KernelAdaSmall.nD,
      r.2.mem ((c.tc : Thread Cert.KernelAdaSmall.nD Cert.KernelAdaSmall.τ).loc Cert.KernelAdaSmall.main_arg0) = m ((c.tc : Thread Cert.KernelAdaSmall.nD Cert.KernelAdaSmall.τ).loc Cert.KernelAdaSmall.main_arg0)
      ∧ r.2.mem ((c.tc : Thread Cert.KernelAdaSmall.nD Cert.KernelAdaSmall.τ).loc Cert.KernelAdaSmall.main_arg1) = m ((c.tc : Thread Cert.KernelAdaSmall.nD Cert.KernelAdaSmall.τ).loc Cert.KernelAdaSmall.main_arg1)
      ∧ r.2.mem ((c.tc : Thread Cert.KernelAdaSmall.nD Cert.KernelAdaSmall.τ).loc Cert.KernelAdaSmall.main_arg2) = m ((c.tc : Thread Cert.KernelAdaSmall.nD Cert.KernelAdaSmall.τ).loc Cert.KernelAdaSmall.main_arg2)
      ∧ r.2.mem ((c.tc : Thread Cert.KernelAdaSmall.nD Cert.KernelAdaSmall.τ).loc Cert.KernelAdaSmall.main_arg3) = m ((c.tc : Thread Cert.KernelAdaSmall.nD Cert.KernelAdaSmall.τ).loc Cert.KernelAdaSmall.main_arg3))
      ∧ r.2.sem = fun _ => 0)

def quiescent_KernelAdaSmallIdeal [hKernelAdaSmallIdeal : Cert.KernelAdaSmallIdeal.Facts] : Prop :=
  ∀ (m : (ℓ : Loc Cert.KernelAdaSmallIdeal.nD Cert.KernelAdaSmallIdeal.τ Cert.KernelAdaSmallIdeal.sig) → Buf (Elt Ideal) ℓ) (g : Dev Cert.KernelAdaSmallIdeal.nD → PrngReg), Pre_KernelAdaSmallIdeal m →
    θ_run (Cert.KernelAdaSmallIdeal.defs (F := Ideal)) (onTc (τ := Cert.KernelAdaSmallIdeal.τ) (Cert.KernelAdaSmallIdeal.main (F := Ideal))) ⟨m, fun _ => 0, g⟩ (fun r => (∀ c : Dev Cert.KernelAdaSmallIdeal.nD,
      r.2.mem ((c.tc : Thread Cert.KernelAdaSmallIdeal.nD Cert.KernelAdaSmallIdeal.τ).loc Cert.KernelAdaSmallIdeal.main_arg0) = m ((c.tc : Thread Cert.KernelAdaSmallIdeal.nD Cert.KernelAdaSmallIdeal.τ).loc Cert.KernelAdaSmallIdeal.main_arg0)
      ∧ r.2.mem ((c.tc : Thread Cert.KernelAdaSmallIdeal.nD Cert.KernelAdaSmallIdeal.τ).loc Cert.KernelAdaSmallIdeal.main_arg1) = m ((c.tc : Thread Cert.KernelAdaSmallIdeal.nD Cert.KernelAdaSmallIdeal.τ).loc Cert.KernelAdaSmallIdeal.main_arg1)
      ∧ r.2.mem ((c.tc : Thread Cert.KernelAdaSmallIdeal.nD Cert.KernelAdaSmallIdeal.τ).loc Cert.KernelAdaSmallIdeal.main_arg2) = m ((c.tc : Thread Cert.KernelAdaSmallIdeal.nD Cert.KernelAdaSmallIdeal.τ).loc Cert.KernelAdaSmallIdeal.main_arg2)
      ∧ r.2.mem ((c.tc : Thread Cert.KernelAdaSmallIdeal.nD Cert.KernelAdaSmallIdeal.τ).loc Cert.KernelAdaSmallIdeal.main_arg3) = m ((c.tc : Thread Cert.KernelAdaSmallIdeal.nD Cert.KernelAdaSmallIdeal.τ).loc Cert.KernelAdaSmallIdeal.main_arg3))
      ∧ r.2.sem = fun _ => 0)

def quiescent_ReferenceAdaSmallIdeal [hReferenceAdaSmallIdeal : Cert.ReferenceAdaSmallIdeal.Facts] : Prop :=
  ∀ (m : (ℓ : Loc Cert.ReferenceAdaSmallIdeal.nD Cert.ReferenceAdaSmallIdeal.τ Cert.ReferenceAdaSmallIdeal.sig) → Buf (Elt Ideal) ℓ) (g : Dev Cert.ReferenceAdaSmallIdeal.nD → PrngReg), Pre_ReferenceAdaSmallIdeal m →
    θ_run (Cert.ReferenceAdaSmallIdeal.defs (F := Ideal)) (onTc (τ := Cert.ReferenceAdaSmallIdeal.τ) (Cert.ReferenceAdaSmallIdeal.main (F := Ideal))) ⟨m, fun _ => 0, g⟩ (fun r => (∀ c : Dev Cert.ReferenceAdaSmallIdeal.nD,
      r.2.mem ((c.tc : Thread Cert.ReferenceAdaSmallIdeal.nD Cert.ReferenceAdaSmallIdeal.τ).loc Cert.ReferenceAdaSmallIdeal.main_arg0) = m ((c.tc : Thread Cert.ReferenceAdaSmallIdeal.nD Cert.ReferenceAdaSmallIdeal.τ).loc Cert.ReferenceAdaSmallIdeal.main_arg0)
      ∧ r.2.mem ((c.tc : Thread Cert.ReferenceAdaSmallIdeal.nD Cert.ReferenceAdaSmallIdeal.τ).loc Cert.ReferenceAdaSmallIdeal.main_arg1) = m ((c.tc : Thread Cert.ReferenceAdaSmallIdeal.nD Cert.ReferenceAdaSmallIdeal.τ).loc Cert.ReferenceAdaSmallIdeal.main_arg1)
      ∧ r.2.mem ((c.tc : Thread Cert.ReferenceAdaSmallIdeal.nD Cert.ReferenceAdaSmallIdeal.τ).loc Cert.ReferenceAdaSmallIdeal.main_arg2) = m ((c.tc : Thread Cert.ReferenceAdaSmallIdeal.nD Cert.ReferenceAdaSmallIdeal.τ).loc Cert.ReferenceAdaSmallIdeal.main_arg2)
      ∧ r.2.mem ((c.tc : Thread Cert.ReferenceAdaSmallIdeal.nD Cert.ReferenceAdaSmallIdeal.τ).loc Cert.ReferenceAdaSmallIdeal.main_arg3) = m ((c.tc : Thread Cert.ReferenceAdaSmallIdeal.nD Cert.ReferenceAdaSmallIdeal.τ).loc Cert.ReferenceAdaSmallIdeal.main_arg3))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2)
      ∧ r.2.mem ((c.tc : Thread Cert.KernelOutFwd.nD Cert.KernelOutFwd.τ).loc Cert.KernelOutFwd.main_arg3) = m ((c.tc : Thread Cert.KernelOutFwd.nD Cert.KernelOutFwd.τ).loc Cert.KernelOutFwd.main_arg3)
      ∧ r.2.mem ((c.tc : Thread Cert.KernelOutFwd.nD Cert.KernelOutFwd.τ).loc Cert.KernelOutFwd.main_arg4) = m ((c.tc : Thread Cert.KernelOutFwd.nD Cert.KernelOutFwd.τ).loc Cert.KernelOutFwd.main_arg4)
      ∧ r.2.mem ((c.tc : Thread Cert.KernelOutFwd.nD Cert.KernelOutFwd.τ).loc Cert.KernelOutFwd.main_arg5) = m ((c.tc : Thread Cert.KernelOutFwd.nD Cert.KernelOutFwd.τ).loc Cert.KernelOutFwd.main_arg5)
      ∧ r.2.mem ((c.tc : Thread Cert.KernelOutFwd.nD Cert.KernelOutFwd.τ).loc Cert.KernelOutFwd.main_arg6) = m ((c.tc : Thread Cert.KernelOutFwd.nD Cert.KernelOutFwd.τ).loc Cert.KernelOutFwd.main_arg6)
      ∧ r.2.mem ((c.tc : Thread Cert.KernelOutFwd.nD Cert.KernelOutFwd.τ).loc Cert.KernelOutFwd.main_arg7) = m ((c.tc : Thread Cert.KernelOutFwd.nD Cert.KernelOutFwd.τ).loc Cert.KernelOutFwd.main_arg7)
      ∧ r.2.mem ((c.tc : Thread Cert.KernelOutFwd.nD Cert.KernelOutFwd.τ).loc Cert.KernelOutFwd.main_arg8) = m ((c.tc : Thread Cert.KernelOutFwd.nD Cert.KernelOutFwd.τ).loc Cert.KernelOutFwd.main_arg8))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2)
      ∧ r.2.mem ((c.tc : Thread Cert.KernelOutFwdIdeal.nD Cert.KernelOutFwdIdeal.τ).loc Cert.KernelOutFwdIdeal.main_arg3) = m ((c.tc : Thread Cert.KernelOutFwdIdeal.nD Cert.KernelOutFwdIdeal.τ).loc Cert.KernelOutFwdIdeal.main_arg3)
      ∧ r.2.mem ((c.tc : Thread Cert.KernelOutFwdIdeal.nD Cert.KernelOutFwdIdeal.τ).loc Cert.KernelOutFwdIdeal.main_arg4) = m ((c.tc : Thread Cert.KernelOutFwdIdeal.nD Cert.KernelOutFwdIdeal.τ).loc Cert.KernelOutFwdIdeal.main_arg4)
      ∧ r.2.mem ((c.tc : Thread Cert.KernelOutFwdIdeal.nD Cert.KernelOutFwdIdeal.τ).loc Cert.KernelOutFwdIdeal.main_arg5) = m ((c.tc : Thread Cert.KernelOutFwdIdeal.nD Cert.KernelOutFwdIdeal.τ).loc Cert.KernelOutFwdIdeal.main_arg5)
      ∧ r.2.mem ((c.tc : Thread Cert.KernelOutFwdIdeal.nD Cert.KernelOutFwdIdeal.τ).loc Cert.KernelOutFwdIdeal.main_arg6) = m ((c.tc : Thread Cert.KernelOutFwdIdeal.nD Cert.KernelOutFwdIdeal.τ).loc Cert.KernelOutFwdIdeal.main_arg6)
      ∧ r.2.mem ((c.tc : Thread Cert.KernelOutFwdIdeal.nD Cert.KernelOutFwdIdeal.τ).loc Cert.KernelOutFwdIdeal.main_arg7) = m ((c.tc : Thread Cert.KernelOutFwdIdeal.nD Cert.KernelOutFwdIdeal.τ).loc Cert.KernelOutFwdIdeal.main_arg7)
      ∧ r.2.mem ((c.tc : Thread Cert.KernelOutFwdIdeal.nD Cert.KernelOutFwdIdeal.τ).loc Cert.KernelOutFwdIdeal.main_arg8) = m ((c.tc : Thread Cert.KernelOutFwdIdeal.nD Cert.KernelOutFwdIdeal.τ).loc Cert.KernelOutFwdIdeal.main_arg8))
      ∧ r.2.sem = fun _ => 0)

def quiescent_KernelOutFwdIdeal_pre_finite_out_fwd [hKernelOutFwdIdeal : Cert.KernelOutFwdIdeal.Facts] [hPre_finite_out_fwd : Cert.Pre_finite_out_fwd.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal_finite_out_fwd m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2)
      ∧ r.2.mem ((c.tc : Thread Cert.KernelOutFwdIdeal.nD Cert.KernelOutFwdIdeal.τ).loc Cert.KernelOutFwdIdeal.main_arg3) = m ((c.tc : Thread Cert.KernelOutFwdIdeal.nD Cert.KernelOutFwdIdeal.τ).loc Cert.KernelOutFwdIdeal.main_arg3)
      ∧ r.2.mem ((c.tc : Thread Cert.KernelOutFwdIdeal.nD Cert.KernelOutFwdIdeal.τ).loc Cert.KernelOutFwdIdeal.main_arg4) = m ((c.tc : Thread Cert.KernelOutFwdIdeal.nD Cert.KernelOutFwdIdeal.τ).loc Cert.KernelOutFwdIdeal.main_arg4)
      ∧ r.2.mem ((c.tc : Thread Cert.KernelOutFwdIdeal.nD Cert.KernelOutFwdIdeal.τ).loc Cert.KernelOutFwdIdeal.main_arg5) = m ((c.tc : Thread Cert.KernelOutFwdIdeal.nD Cert.KernelOutFwdIdeal.τ).loc Cert.KernelOutFwdIdeal.main_arg5)
      ∧ r.2.mem ((c.tc : Thread Cert.KernelOutFwdIdeal.nD Cert.KernelOutFwdIdeal.τ).loc Cert.KernelOutFwdIdeal.main_arg6) = m ((c.tc : Thread Cert.KernelOutFwdIdeal.nD Cert.KernelOutFwdIdeal.τ).loc Cert.KernelOutFwdIdeal.main_arg6)
      ∧ r.2.mem ((c.tc : Thread Cert.KernelOutFwdIdeal.nD Cert.KernelOutFwdIdeal.τ).loc Cert.KernelOutFwdIdeal.main_arg7) = m ((c.tc : Thread Cert.KernelOutFwdIdeal.nD Cert.KernelOutFwdIdeal.τ).loc Cert.KernelOutFwdIdeal.main_arg7)
      ∧ r.2.mem ((c.tc : Thread Cert.KernelOutFwdIdeal.nD Cert.KernelOutFwdIdeal.τ).loc Cert.KernelOutFwdIdeal.main_arg8) = m ((c.tc : Thread Cert.KernelOutFwdIdeal.nD Cert.KernelOutFwdIdeal.τ).loc Cert.KernelOutFwdIdeal.main_arg8))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2)
      ∧ r.2.mem ((c.tc : Thread Cert.ReferenceOutFwdIdeal.nD Cert.ReferenceOutFwdIdeal.τ).loc Cert.ReferenceOutFwdIdeal.main_arg3) = m ((c.tc : Thread Cert.ReferenceOutFwdIdeal.nD Cert.ReferenceOutFwdIdeal.τ).loc Cert.ReferenceOutFwdIdeal.main_arg3)
      ∧ r.2.mem ((c.tc : Thread Cert.ReferenceOutFwdIdeal.nD Cert.ReferenceOutFwdIdeal.τ).loc Cert.ReferenceOutFwdIdeal.main_arg4) = m ((c.tc : Thread Cert.ReferenceOutFwdIdeal.nD Cert.ReferenceOutFwdIdeal.τ).loc Cert.ReferenceOutFwdIdeal.main_arg4)
      ∧ r.2.mem ((c.tc : Thread Cert.ReferenceOutFwdIdeal.nD Cert.ReferenceOutFwdIdeal.τ).loc Cert.ReferenceOutFwdIdeal.main_arg5) = m ((c.tc : Thread Cert.ReferenceOutFwdIdeal.nD Cert.ReferenceOutFwdIdeal.τ).loc Cert.ReferenceOutFwdIdeal.main_arg5)
      ∧ r.2.mem ((c.tc : Thread Cert.ReferenceOutFwdIdeal.nD Cert.ReferenceOutFwdIdeal.τ).loc Cert.ReferenceOutFwdIdeal.main_arg6) = m ((c.tc : Thread Cert.ReferenceOutFwdIdeal.nD Cert.ReferenceOutFwdIdeal.τ).loc Cert.ReferenceOutFwdIdeal.main_arg6)
      ∧ r.2.mem ((c.tc : Thread Cert.ReferenceOutFwdIdeal.nD Cert.ReferenceOutFwdIdeal.τ).loc Cert.ReferenceOutFwdIdeal.main_arg7) = m ((c.tc : Thread Cert.ReferenceOutFwdIdeal.nD Cert.ReferenceOutFwdIdeal.τ).loc Cert.ReferenceOutFwdIdeal.main_arg7)
      ∧ r.2.mem ((c.tc : Thread Cert.ReferenceOutFwdIdeal.nD Cert.ReferenceOutFwdIdeal.τ).loc Cert.ReferenceOutFwdIdeal.main_arg8) = m ((c.tc : Thread Cert.ReferenceOutFwdIdeal.nD Cert.ReferenceOutFwdIdeal.τ).loc Cert.ReferenceOutFwdIdeal.main_arg8))
      ∧ r.2.sem = fun _ => 0)

def quiescent_ReferenceOutFwdIdeal_pre_finite_out_fwd [hReferenceOutFwdIdeal : Cert.ReferenceOutFwdIdeal.Facts] [hPre_finite_out_fwd : Cert.Pre_finite_out_fwd.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal_finite_out_fwd m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2)
      ∧ r.2.mem ((c.tc : Thread Cert.ReferenceOutFwdIdeal.nD Cert.ReferenceOutFwdIdeal.τ).loc Cert.ReferenceOutFwdIdeal.main_arg3) = m ((c.tc : Thread Cert.ReferenceOutFwdIdeal.nD Cert.ReferenceOutFwdIdeal.τ).loc Cert.ReferenceOutFwdIdeal.main_arg3)
      ∧ r.2.mem ((c.tc : Thread Cert.ReferenceOutFwdIdeal.nD Cert.ReferenceOutFwdIdeal.τ).loc Cert.ReferenceOutFwdIdeal.main_arg4) = m ((c.tc : Thread Cert.ReferenceOutFwdIdeal.nD Cert.ReferenceOutFwdIdeal.τ).loc Cert.ReferenceOutFwdIdeal.main_arg4)
      ∧ r.2.mem ((c.tc : Thread Cert.ReferenceOutFwdIdeal.nD Cert.ReferenceOutFwdIdeal.τ).loc Cert.ReferenceOutFwdIdeal.main_arg5) = m ((c.tc : Thread Cert.ReferenceOutFwdIdeal.nD Cert.ReferenceOutFwdIdeal.τ).loc Cert.ReferenceOutFwdIdeal.main_arg5)
      ∧ r.2.mem ((c.tc : Thread Cert.ReferenceOutFwdIdeal.nD Cert.ReferenceOutFwdIdeal.τ).loc Cert.ReferenceOutFwdIdeal.main_arg6) = m ((c.tc : Thread Cert.ReferenceOutFwdIdeal.nD Cert.ReferenceOutFwdIdeal.τ).loc Cert.ReferenceOutFwdIdeal.main_arg6)
      ∧ r.2.mem ((c.tc : Thread Cert.ReferenceOutFwdIdeal.nD Cert.ReferenceOutFwdIdeal.τ).loc Cert.ReferenceOutFwdIdeal.main_arg7) = m ((c.tc : Thread Cert.ReferenceOutFwdIdeal.nD Cert.ReferenceOutFwdIdeal.τ).loc Cert.ReferenceOutFwdIdeal.main_arg7)
      ∧ r.2.mem ((c.tc : Thread Cert.ReferenceOutFwdIdeal.nD Cert.ReferenceOutFwdIdeal.τ).loc Cert.ReferenceOutFwdIdeal.main_arg8) = m ((c.tc : Thread Cert.ReferenceOutFwdIdeal.nD Cert.ReferenceOutFwdIdeal.τ).loc Cert.ReferenceOutFwdIdeal.main_arg8))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7)
      ∧ r.2.mem ((c.tc : Thread Cert.KernelPrep.nD Cert.KernelPrep.τ).loc Cert.KernelPrep.main_arg8) = m ((c.tc : Thread Cert.KernelPrep.nD Cert.KernelPrep.τ).loc Cert.KernelPrep.main_arg8))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8))
      ∧ r.2.sem = fun _ => 0)

def quiescent_KernelPrepBwd [hKernelPrepBwd : Cert.KernelPrepBwd.Facts] : Prop :=
  ∀ (m : (ℓ : Loc Cert.KernelPrepBwd.nD Cert.KernelPrepBwd.τ Cert.KernelPrepBwd.sig) → Buf (Elt Bits) ℓ) (g : Dev Cert.KernelPrepBwd.nD → PrngReg), Pre_KernelPrepBwd m →
    θ_run (Cert.KernelPrepBwd.defs (F := Bits)) (onTc (τ := Cert.KernelPrepBwd.τ) (Cert.KernelPrepBwd.main (F := Bits))) ⟨m, fun _ => 0, g⟩ (fun r => (∀ c : Dev Cert.KernelPrepBwd.nD,
      r.2.mem ((c.tc : Thread Cert.KernelPrepBwd.nD Cert.KernelPrepBwd.τ).loc Cert.KernelPrepBwd.main_arg0) = m ((c.tc : Thread Cert.KernelPrepBwd.nD Cert.KernelPrepBwd.τ).loc Cert.KernelPrepBwd.main_arg0)
      ∧ r.2.mem ((c.tc : Thread Cert.KernelPrepBwd.nD Cert.KernelPrepBwd.τ).loc Cert.KernelPrepBwd.main_arg1) = m ((c.tc : Thread Cert.KernelPrepBwd.nD Cert.KernelPrepBwd.τ).loc Cert.KernelPrepBwd.main_arg1)
      ∧ r.2.mem ((c.tc : Thread Cert.KernelPrepBwd.nD Cert.KernelPrepBwd.τ).loc Cert.KernelPrepBwd.main_arg2) = m ((c.tc : Thread Cert.KernelPrepBwd.nD Cert.KernelPrepBwd.τ).loc Cert.KernelPrepBwd.main_arg2)
      ∧ r.2.mem ((c.tc : Thread Cert.KernelPrepBwd.nD Cert.KernelPrepBwd.τ).loc Cert.KernelPrepBwd.main_arg3) = m ((c.tc : Thread Cert.KernelPrepBwd.nD Cert.KernelPrepBwd.τ).loc Cert.KernelPrepBwd.main_arg3)
      ∧ r.2.mem ((c.tc : Thread Cert.KernelPrepBwd.nD Cert.KernelPrepBwd.τ).loc Cert.KernelPrepBwd.main_arg4) = m ((c.tc : Thread Cert.KernelPrepBwd.nD Cert.KernelPrepBwd.τ).loc Cert.KernelPrepBwd.main_arg4)
      ∧ r.2.mem ((c.tc : Thread Cert.KernelPrepBwd.nD Cert.KernelPrepBwd.τ).loc Cert.KernelPrepBwd.main_arg5) = m ((c.tc : Thread Cert.KernelPrepBwd.nD Cert.KernelPrepBwd.τ).loc Cert.KernelPrepBwd.main_arg5)
      ∧ r.2.mem ((c.tc : Thread Cert.KernelPrepBwd.nD Cert.KernelPrepBwd.τ).loc Cert.KernelPrepBwd.main_arg6) = m ((c.tc : Thread Cert.KernelPrepBwd.nD Cert.KernelPrepBwd.τ).loc Cert.KernelPrepBwd.main_arg6)
      ∧ r.2.mem ((c.tc : Thread Cert.KernelPrepBwd.nD Cert.KernelPrepBwd.τ).loc Cert.KernelPrepBwd.main_arg7) = m ((c.tc : Thread Cert.KernelPrepBwd.nD Cert.KernelPrepBwd.τ).loc Cert.KernelPrepBwd.main_arg7)
      ∧ r.2.mem ((c.tc : Thread Cert.KernelPrepBwd.nD Cert.KernelPrepBwd.τ).loc Cert.KernelPrepBwd.main_arg8) = m ((c.tc : Thread Cert.KernelPrepBwd.nD Cert.KernelPrepBwd.τ).loc Cert.KernelPrepBwd.main_arg8)
      ∧ r.2.mem ((c.tc : Thread Cert.KernelPrepBwd.nD Cert.KernelPrepBwd.τ).loc Cert.KernelPrepBwd.main_arg9) = m ((c.tc : Thread Cert.KernelPrepBwd.nD Cert.KernelPrepBwd.τ).loc Cert.KernelPrepBwd.main_arg9)
      ∧ r.2.mem ((c.tc : Thread Cert.KernelPrepBwd.nD Cert.KernelPrepBwd.τ).loc Cert.KernelPrepBwd.main_arg10) = m ((c.tc : Thread Cert.KernelPrepBwd.nD Cert.KernelPrepBwd.τ).loc Cert.KernelPrepBwd.main_arg10))
      ∧ r.2.sem = fun _ => 0)

def quiescent_KernelPrepBwdIdeal [hKernelPrepBwdIdeal : Cert.KernelPrepBwdIdeal.Facts] : Prop :=
  ∀ (m : (ℓ : Loc Cert.KernelPrepBwdIdeal.nD Cert.KernelPrepBwdIdeal.τ Cert.KernelPrepBwdIdeal.sig) → Buf (Elt Ideal) ℓ) (g : Dev Cert.KernelPrepBwdIdeal.nD → PrngReg), Pre_KernelPrepBwdIdeal m →
    θ_run (Cert.KernelPrepBwdIdeal.defs (F := Ideal)) (onTc (τ := Cert.KernelPrepBwdIdeal.τ) (Cert.KernelPrepBwdIdeal.main (F := Ideal))) ⟨m, fun _ => 0, g⟩ (fun r => (∀ c : Dev Cert.KernelPrepBwdIdeal.nD,
      r.2.mem ((c.tc : Thread Cert.KernelPrepBwdIdeal.nD Cert.KernelPrepBwdIdeal.τ).loc Cert.KernelPrepBwdIdeal.main_arg0) = m ((c.tc : Thread Cert.KernelPrepBwdIdeal.nD Cert.KernelPrepBwdIdeal.τ).loc Cert.KernelPrepBwdIdeal.main_arg0)
      ∧ r.2.mem ((c.tc : Thread Cert.KernelPrepBwdIdeal.nD Cert.KernelPrepBwdIdeal.τ).loc Cert.KernelPrepBwdIdeal.main_arg1) = m ((c.tc : Thread Cert.KernelPrepBwdIdeal.nD Cert.KernelPrepBwdIdeal.τ).loc Cert.KernelPrepBwdIdeal.main_arg1)
      ∧ r.2.mem ((c.tc : Thread Cert.KernelPrepBwdIdeal.nD Cert.KernelPrepBwdIdeal.τ).loc Cert.KernelPrepBwdIdeal.main_arg2) = m ((c.tc : Thread Cert.KernelPrepBwdIdeal.nD Cert.KernelPrepBwdIdeal.τ).loc Cert.KernelPrepBwdIdeal.main_arg2)
      ∧ r.2.mem ((c.tc : Thread Cert.KernelPrepBwdIdeal.nD Cert.KernelPrepBwdIdeal.τ).loc Cert.KernelPrepBwdIdeal.main_arg3) = m ((c.tc : Thread Cert.KernelPrepBwdIdeal.nD Cert.KernelPrepBwdIdeal.τ).loc Cert.KernelPrepBwdIdeal.main_arg3)
      ∧ r.2.mem ((c.tc : Thread Cert.KernelPrepBwdIdeal.nD Cert.KernelPrepBwdIdeal.τ).loc Cert.KernelPrepBwdIdeal.main_arg4) = m ((c.tc : Thread Cert.KernelPrepBwdIdeal.nD Cert.KernelPrepBwdIdeal.τ).loc Cert.KernelPrepBwdIdeal.main_arg4)
      ∧ r.2.mem ((c.tc : Thread Cert.KernelPrepBwdIdeal.nD Cert.KernelPrepBwdIdeal.τ).loc Cert.KernelPrepBwdIdeal.main_arg5) = m ((c.tc : Thread Cert.KernelPrepBwdIdeal.nD Cert.KernelPrepBwdIdeal.τ).loc Cert.KernelPrepBwdIdeal.main_arg5)
      ∧ r.2.mem ((c.tc : Thread Cert.KernelPrepBwdIdeal.nD Cert.KernelPrepBwdIdeal.τ).loc Cert.KernelPrepBwdIdeal.main_arg6) = m ((c.tc : Thread Cert.KernelPrepBwdIdeal.nD Cert.KernelPrepBwdIdeal.τ).loc Cert.KernelPrepBwdIdeal.main_arg6)
      ∧ r.2.mem ((c.tc : Thread Cert.KernelPrepBwdIdeal.nD Cert.KernelPrepBwdIdeal.τ).loc Cert.KernelPrepBwdIdeal.main_arg7) = m ((c.tc : Thread Cert.KernelPrepBwdIdeal.nD Cert.KernelPrepBwdIdeal.τ).loc Cert.KernelPrepBwdIdeal.main_arg7)
      ∧ r.2.mem ((c.tc : Thread Cert.KernelPrepBwdIdeal.nD Cert.KernelPrepBwdIdeal.τ).loc Cert.KernelPrepBwdIdeal.main_arg8) = m ((c.tc : Thread Cert.KernelPrepBwdIdeal.nD Cert.KernelPrepBwdIdeal.τ).loc Cert.KernelPrepBwdIdeal.main_arg8)
      ∧ r.2.mem ((c.tc : Thread Cert.KernelPrepBwdIdeal.nD Cert.KernelPrepBwdIdeal.τ).loc Cert.KernelPrepBwdIdeal.main_arg9) = m ((c.tc : Thread Cert.KernelPrepBwdIdeal.nD Cert.KernelPrepBwdIdeal.τ).loc Cert.KernelPrepBwdIdeal.main_arg9)
      ∧ r.2.mem ((c.tc : Thread Cert.KernelPrepBwdIdeal.nD Cert.KernelPrepBwdIdeal.τ).loc Cert.KernelPrepBwdIdeal.main_arg10) = m ((c.tc : Thread Cert.KernelPrepBwdIdeal.nD Cert.KernelPrepBwdIdeal.τ).loc Cert.KernelPrepBwdIdeal.main_arg10))
      ∧ r.2.sem = fun _ => 0)

def quiescent_KernelPrepBwdIdeal_pre_finite_mla_prep_bwd [hKernelPrepBwdIdeal : Cert.KernelPrepBwdIdeal.Facts] [hPre_finite_mla_prep_bwd : Cert.Pre_finite_mla_prep_bwd.Facts] : Prop :=
  ∀ (m : (ℓ : Loc Cert.KernelPrepBwdIdeal.nD Cert.KernelPrepBwdIdeal.τ Cert.KernelPrepBwdIdeal.sig) → Buf (Elt Ideal) ℓ) (g : Dev Cert.KernelPrepBwdIdeal.nD → PrngReg), Pre_KernelPrepBwdIdeal_finite_mla_prep_bwd m →
    θ_run (Cert.KernelPrepBwdIdeal.defs (F := Ideal)) (onTc (τ := Cert.KernelPrepBwdIdeal.τ) (Cert.KernelPrepBwdIdeal.main (F := Ideal))) ⟨m, fun _ => 0, g⟩ (fun r => (∀ c : Dev Cert.KernelPrepBwdIdeal.nD,
      r.2.mem ((c.tc : Thread Cert.KernelPrepBwdIdeal.nD Cert.KernelPrepBwdIdeal.τ).loc Cert.KernelPrepBwdIdeal.main_arg0) = m ((c.tc : Thread Cert.KernelPrepBwdIdeal.nD Cert.KernelPrepBwdIdeal.τ).loc Cert.KernelPrepBwdIdeal.main_arg0)
      ∧ r.2.mem ((c.tc : Thread Cert.KernelPrepBwdIdeal.nD Cert.KernelPrepBwdIdeal.τ).loc Cert.KernelPrepBwdIdeal.main_arg1) = m ((c.tc : Thread Cert.KernelPrepBwdIdeal.nD Cert.KernelPrepBwdIdeal.τ).loc Cert.KernelPrepBwdIdeal.main_arg1)
      ∧ r.2.mem ((c.tc : Thread Cert.KernelPrepBwdIdeal.nD Cert.KernelPrepBwdIdeal.τ).loc Cert.KernelPrepBwdIdeal.main_arg2) = m ((c.tc : Thread Cert.KernelPrepBwdIdeal.nD Cert.KernelPrepBwdIdeal.τ).loc Cert.KernelPrepBwdIdeal.main_arg2)
      ∧ r.2.mem ((c.tc : Thread Cert.KernelPrepBwdIdeal.nD Cert.KernelPrepBwdIdeal.τ).loc Cert.KernelPrepBwdIdeal.main_arg3) = m ((c.tc : Thread Cert.KernelPrepBwdIdeal.nD Cert.KernelPrepBwdIdeal.τ).loc Cert.KernelPrepBwdIdeal.main_arg3)
      ∧ r.2.mem ((c.tc : Thread Cert.KernelPrepBwdIdeal.nD Cert.KernelPrepBwdIdeal.τ).loc Cert.KernelPrepBwdIdeal.main_arg4) = m ((c.tc : Thread Cert.KernelPrepBwdIdeal.nD Cert.KernelPrepBwdIdeal.τ).loc Cert.KernelPrepBwdIdeal.main_arg4)
      ∧ r.2.mem ((c.tc : Thread Cert.KernelPrepBwdIdeal.nD Cert.KernelPrepBwdIdeal.τ).loc Cert.KernelPrepBwdIdeal.main_arg5) = m ((c.tc : Thread Cert.KernelPrepBwdIdeal.nD Cert.KernelPrepBwdIdeal.τ).loc Cert.KernelPrepBwdIdeal.main_arg5)
      ∧ r.2.mem ((c.tc : Thread Cert.KernelPrepBwdIdeal.nD Cert.KernelPrepBwdIdeal.τ).loc Cert.KernelPrepBwdIdeal.main_arg6) = m ((c.tc : Thread Cert.KernelPrepBwdIdeal.nD Cert.KernelPrepBwdIdeal.τ).loc Cert.KernelPrepBwdIdeal.main_arg6)
      ∧ r.2.mem ((c.tc : Thread Cert.KernelPrepBwdIdeal.nD Cert.KernelPrepBwdIdeal.τ).loc Cert.KernelPrepBwdIdeal.main_arg7) = m ((c.tc : Thread Cert.KernelPrepBwdIdeal.nD Cert.KernelPrepBwdIdeal.τ).loc Cert.KernelPrepBwdIdeal.main_arg7)
      ∧ r.2.mem ((c.tc : Thread Cert.KernelPrepBwdIdeal.nD Cert.KernelPrepBwdIdeal.τ).loc Cert.KernelPrepBwdIdeal.main_arg8) = m ((c.tc : Thread Cert.KernelPrepBwdIdeal.nD Cert.KernelPrepBwdIdeal.τ).loc Cert.KernelPrepBwdIdeal.main_arg8)
      ∧ r.2.mem ((c.tc : Thread Cert.KernelPrepBwdIdeal.nD Cert.KernelPrepBwdIdeal.τ).loc Cert.KernelPrepBwdIdeal.main_arg9) = m ((c.tc : Thread Cert.KernelPrepBwdIdeal.nD Cert.KernelPrepBwdIdeal.τ).loc Cert.KernelPrepBwdIdeal.main_arg9)
      ∧ r.2.mem ((c.tc : Thread Cert.KernelPrepBwdIdeal.nD Cert.KernelPrepBwdIdeal.τ).loc Cert.KernelPrepBwdIdeal.main_arg10) = m ((c.tc : Thread Cert.KernelPrepBwdIdeal.nD Cert.KernelPrepBwdIdeal.τ).loc Cert.KernelPrepBwdIdeal.main_arg10))
      ∧ r.2.sem = fun _ => 0)

def quiescent_ReferencePrepBwdIdeal [hReferencePrepBwdIdeal : Cert.ReferencePrepBwdIdeal.Facts] : Prop :=
  ∀ (m : (ℓ : Loc Cert.ReferencePrepBwdIdeal.nD Cert.ReferencePrepBwdIdeal.τ Cert.ReferencePrepBwdIdeal.sig) → Buf (Elt Ideal) ℓ) (g : Dev Cert.ReferencePrepBwdIdeal.nD → PrngReg), Pre_ReferencePrepBwdIdeal m →
    θ_run (Cert.ReferencePrepBwdIdeal.defs (F := Ideal)) (onTc (τ := Cert.ReferencePrepBwdIdeal.τ) (Cert.ReferencePrepBwdIdeal.main (F := Ideal))) ⟨m, fun _ => 0, g⟩ (fun r => (∀ c : Dev Cert.ReferencePrepBwdIdeal.nD,
      r.2.mem ((c.tc : Thread Cert.ReferencePrepBwdIdeal.nD Cert.ReferencePrepBwdIdeal.τ).loc Cert.ReferencePrepBwdIdeal.main_arg0) = m ((c.tc : Thread Cert.ReferencePrepBwdIdeal.nD Cert.ReferencePrepBwdIdeal.τ).loc Cert.ReferencePrepBwdIdeal.main_arg0)
      ∧ r.2.mem ((c.tc : Thread Cert.ReferencePrepBwdIdeal.nD Cert.ReferencePrepBwdIdeal.τ).loc Cert.ReferencePrepBwdIdeal.main_arg1) = m ((c.tc : Thread Cert.ReferencePrepBwdIdeal.nD Cert.ReferencePrepBwdIdeal.τ).loc Cert.ReferencePrepBwdIdeal.main_arg1)
      ∧ r.2.mem ((c.tc : Thread Cert.ReferencePrepBwdIdeal.nD Cert.ReferencePrepBwdIdeal.τ).loc Cert.ReferencePrepBwdIdeal.main_arg2) = m ((c.tc : Thread Cert.ReferencePrepBwdIdeal.nD Cert.ReferencePrepBwdIdeal.τ).loc Cert.ReferencePrepBwdIdeal.main_arg2)
      ∧ r.2.mem ((c.tc : Thread Cert.ReferencePrepBwdIdeal.nD Cert.ReferencePrepBwdIdeal.τ).loc Cert.ReferencePrepBwdIdeal.main_arg3) = m ((c.tc : Thread Cert.ReferencePrepBwdIdeal.nD Cert.ReferencePrepBwdIdeal.τ).loc Cert.ReferencePrepBwdIdeal.main_arg3)
      ∧ r.2.mem ((c.tc : Thread Cert.ReferencePrepBwdIdeal.nD Cert.ReferencePrepBwdIdeal.τ).loc Cert.ReferencePrepBwdIdeal.main_arg4) = m ((c.tc : Thread Cert.ReferencePrepBwdIdeal.nD Cert.ReferencePrepBwdIdeal.τ).loc Cert.ReferencePrepBwdIdeal.main_arg4)
      ∧ r.2.mem ((c.tc : Thread Cert.ReferencePrepBwdIdeal.nD Cert.ReferencePrepBwdIdeal.τ).loc Cert.ReferencePrepBwdIdeal.main_arg5) = m ((c.tc : Thread Cert.ReferencePrepBwdIdeal.nD Cert.ReferencePrepBwdIdeal.τ).loc Cert.ReferencePrepBwdIdeal.main_arg5)
      ∧ r.2.mem ((c.tc : Thread Cert.ReferencePrepBwdIdeal.nD Cert.ReferencePrepBwdIdeal.τ).loc Cert.ReferencePrepBwdIdeal.main_arg6) = m ((c.tc : Thread Cert.ReferencePrepBwdIdeal.nD Cert.ReferencePrepBwdIdeal.τ).loc Cert.ReferencePrepBwdIdeal.main_arg6)
      ∧ r.2.mem ((c.tc : Thread Cert.ReferencePrepBwdIdeal.nD Cert.ReferencePrepBwdIdeal.τ).loc Cert.ReferencePrepBwdIdeal.main_arg7) = m ((c.tc : Thread Cert.ReferencePrepBwdIdeal.nD Cert.ReferencePrepBwdIdeal.τ).loc Cert.ReferencePrepBwdIdeal.main_arg7)
      ∧ r.2.mem ((c.tc : Thread Cert.ReferencePrepBwdIdeal.nD Cert.ReferencePrepBwdIdeal.τ).loc Cert.ReferencePrepBwdIdeal.main_arg8) = m ((c.tc : Thread Cert.ReferencePrepBwdIdeal.nD Cert.ReferencePrepBwdIdeal.τ).loc Cert.ReferencePrepBwdIdeal.main_arg8)
      ∧ r.2.mem ((c.tc : Thread Cert.ReferencePrepBwdIdeal.nD Cert.ReferencePrepBwdIdeal.τ).loc Cert.ReferencePrepBwdIdeal.main_arg9) = m ((c.tc : Thread Cert.ReferencePrepBwdIdeal.nD Cert.ReferencePrepBwdIdeal.τ).loc Cert.ReferencePrepBwdIdeal.main_arg9)
      ∧ r.2.mem ((c.tc : Thread Cert.ReferencePrepBwdIdeal.nD Cert.ReferencePrepBwdIdeal.τ).loc Cert.ReferencePrepBwdIdeal.main_arg10) = m ((c.tc : Thread Cert.ReferencePrepBwdIdeal.nD Cert.ReferencePrepBwdIdeal.τ).loc Cert.ReferencePrepBwdIdeal.main_arg10))
      ∧ r.2.sem = fun _ => 0)

def quiescent_ReferencePrepBwdIdeal_pre_finite_mla_prep_bwd [hReferencePrepBwdIdeal : Cert.ReferencePrepBwdIdeal.Facts] [hPre_finite_mla_prep_bwd : Cert.Pre_finite_mla_prep_bwd.Facts] : Prop :=
  ∀ (m : (ℓ : Loc Cert.ReferencePrepBwdIdeal.nD Cert.ReferencePrepBwdIdeal.τ Cert.ReferencePrepBwdIdeal.sig) → Buf (Elt Ideal) ℓ) (g : Dev Cert.ReferencePrepBwdIdeal.nD → PrngReg), Pre_ReferencePrepBwdIdeal_finite_mla_prep_bwd m →
    θ_run (Cert.ReferencePrepBwdIdeal.defs (F := Ideal)) (onTc (τ := Cert.ReferencePrepBwdIdeal.τ) (Cert.ReferencePrepBwdIdeal.main (F := Ideal))) ⟨m, fun _ => 0, g⟩ (fun r => (∀ c : Dev Cert.ReferencePrepBwdIdeal.nD,
      r.2.mem ((c.tc : Thread Cert.ReferencePrepBwdIdeal.nD Cert.ReferencePrepBwdIdeal.τ).loc Cert.ReferencePrepBwdIdeal.main_arg0) = m ((c.tc : Thread Cert.ReferencePrepBwdIdeal.nD Cert.ReferencePrepBwdIdeal.τ).loc Cert.ReferencePrepBwdIdeal.main_arg0)
      ∧ r.2.mem ((c.tc : Thread Cert.ReferencePrepBwdIdeal.nD Cert.ReferencePrepBwdIdeal.τ).loc Cert.ReferencePrepBwdIdeal.main_arg1) = m ((c.tc : Thread Cert.ReferencePrepBwdIdeal.nD Cert.ReferencePrepBwdIdeal.τ).loc Cert.ReferencePrepBwdIdeal.main_arg1)
      ∧ r.2.mem ((c.tc : Thread Cert.ReferencePrepBwdIdeal.nD Cert.ReferencePrepBwdIdeal.τ).loc Cert.ReferencePrepBwdIdeal.main_arg2) = m ((c.tc : Thread Cert.ReferencePrepBwdIdeal.nD Cert.ReferencePrepBwdIdeal.τ).loc Cert.ReferencePrepBwdIdeal.main_arg2)
      ∧ r.2.mem ((c.tc : Thread Cert.ReferencePrepBwdIdeal.nD Cert.ReferencePrepBwdIdeal.τ).loc Cert.ReferencePrepBwdIdeal.main_arg3) = m ((c.tc : Thread Cert.ReferencePrepBwdIdeal.nD Cert.ReferencePrepBwdIdeal.τ).loc Cert.ReferencePrepBwdIdeal.main_arg3)
      ∧ r.2.mem ((c.tc : Thread Cert.ReferencePrepBwdIdeal.nD Cert.ReferencePrepBwdIdeal.τ).loc Cert.ReferencePrepBwdIdeal.main_arg4) = m ((c.tc : Thread Cert.ReferencePrepBwdIdeal.nD Cert.ReferencePrepBwdIdeal.τ).loc Cert.ReferencePrepBwdIdeal.main_arg4)
      ∧ r.2.mem ((c.tc : Thread Cert.ReferencePrepBwdIdeal.nD Cert.ReferencePrepBwdIdeal.τ).loc Cert.ReferencePrepBwdIdeal.main_arg5) = m ((c.tc : Thread Cert.ReferencePrepBwdIdeal.nD Cert.ReferencePrepBwdIdeal.τ).loc Cert.ReferencePrepBwdIdeal.main_arg5)
      ∧ r.2.mem ((c.tc : Thread Cert.ReferencePrepBwdIdeal.nD Cert.ReferencePrepBwdIdeal.τ).loc Cert.ReferencePrepBwdIdeal.main_arg6) = m ((c.tc : Thread Cert.ReferencePrepBwdIdeal.nD Cert.ReferencePrepBwdIdeal.τ).loc Cert.ReferencePrepBwdIdeal.main_arg6)
      ∧ r.2.mem ((c.tc : Thread Cert.ReferencePrepBwdIdeal.nD Cert.ReferencePrepBwdIdeal.τ).loc Cert.ReferencePrepBwdIdeal.main_arg7) = m ((c.tc : Thread Cert.ReferencePrepBwdIdeal.nD Cert.ReferencePrepBwdIdeal.τ).loc Cert.ReferencePrepBwdIdeal.main_arg7)
      ∧ r.2.mem ((c.tc : Thread Cert.ReferencePrepBwdIdeal.nD Cert.ReferencePrepBwdIdeal.τ).loc Cert.ReferencePrepBwdIdeal.main_arg8) = m ((c.tc : Thread Cert.ReferencePrepBwdIdeal.nD Cert.ReferencePrepBwdIdeal.τ).loc Cert.ReferencePrepBwdIdeal.main_arg8)
      ∧ r.2.mem ((c.tc : Thread Cert.ReferencePrepBwdIdeal.nD Cert.ReferencePrepBwdIdeal.τ).loc Cert.ReferencePrepBwdIdeal.main_arg9) = m ((c.tc : Thread Cert.ReferencePrepBwdIdeal.nD Cert.ReferencePrepBwdIdeal.τ).loc Cert.ReferencePrepBwdIdeal.main_arg9)
      ∧ r.2.mem ((c.tc : Thread Cert.ReferencePrepBwdIdeal.nD Cert.ReferencePrepBwdIdeal.τ).loc Cert.ReferencePrepBwdIdeal.main_arg10) = m ((c.tc : Thread Cert.ReferencePrepBwdIdeal.nD Cert.ReferencePrepBwdIdeal.τ).loc Cert.ReferencePrepBwdIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v21_6)) (v7 : (c : Dev Cert.KernelIdeal.nD) → Buf (Elt Ideal) ((c.tc : Thread Cert.KernelIdeal.nD Cert.KernelIdeal.τ).loc Cert.KernelIdeal.main_v21_7)) (v8 : (c : Dev Cert.KernelIdeal.nD) → Buf (Elt Ideal) ((c.tc : Thread Cert.KernelIdeal.nD Cert.KernelIdeal.τ).loc Cert.KernelIdeal.main_v21_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v21_6) = v6 c
          ∧ r.2.mem ((c.tc : Thread Cert.KernelIdeal.nD Cert.KernelIdeal.τ).loc Cert.KernelIdeal.main_v21_7) = v7 c
          ∧ r.2.mem ((c.tc : Thread Cert.KernelIdeal.nD Cert.KernelIdeal.τ).loc Cert.KernelIdeal.main_v21_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_v107) = v7 c
          ∧ r.2.mem ((c.tc : Thread Cert.ReferenceIdeal.nD Cert.ReferenceIdeal.τ).loc Cert.ReferenceIdeal.main_v108) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v2_0)) (v1 : (c : Dev Cert.KernelGateIdeal.nD) → Buf (Elt Ideal) ((c.tc : Thread Cert.KernelGateIdeal.nD Cert.KernelGateIdeal.τ).loc Cert.KernelGateIdeal.main_v2_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v2_0) = v0 c
          ∧ r.2.mem ((c.tc : Thread Cert.KernelGateIdeal.nD Cert.KernelGateIdeal.τ).loc Cert.KernelGateIdeal.main_v2_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v4) = v0 c
          ∧ r.2.mem ((c.tc : Thread Cert.ReferenceGateIdeal.nD Cert.ReferenceGateIdeal.τ).loc Cert.ReferenceGateIdeal.main_v5) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_v4) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_v4) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2_0)) (v1 : (c : Dev Cert.KernelInIdeal.nD) → Buf (Elt Ideal) ((c.tc : Thread Cert.KernelInIdeal.nD Cert.KernelInIdeal.τ).loc Cert.KernelInIdeal.main_v2_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2_0) = v0 c
          ∧ r.2.mem ((c.tc : Thread Cert.KernelInIdeal.nD Cert.KernelInIdeal.τ).loc Cert.KernelInIdeal.main_v2_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_v5) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelQb_KernelQbIdeal : Prop :=
  True

def algebraic_KernelQbIdeal_ReferenceQbIdeal [hKernelQbIdeal : Cert.KernelQbIdeal.Facts] [hReferenceQbIdeal : Cert.ReferenceQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg)
    (m' : (ℓ : Loc Cert.ReferenceQbIdeal.nD Cert.ReferenceQbIdeal.τ Cert.ReferenceQbIdeal.sig) → Buf (Elt Ideal) ℓ) (g' : Dev Cert.ReferenceQbIdeal.nD → PrngReg), Pre_KernelQbIdeal m →
    (∀ c : Dev Cert.KernelQbIdeal.nD,
      m' ((c.tc : Thread Cert.ReferenceQbIdeal.nD Cert.ReferenceQbIdeal.τ).loc Cert.ReferenceQbIdeal.main_arg0) = m ((c.tc : Thread Cert.KernelQbIdeal.nD Cert.KernelQbIdeal.τ).loc Cert.KernelQbIdeal.main_arg0)
      ∧ m' ((c.tc : Thread Cert.ReferenceQbIdeal.nD Cert.ReferenceQbIdeal.τ).loc Cert.ReferenceQbIdeal.main_arg1) = m ((c.tc : Thread Cert.KernelQbIdeal.nD Cert.KernelQbIdeal.τ).loc Cert.KernelQbIdeal.main_arg1)) →
    ∃ (v0 : (c : Dev Cert.KernelQbIdeal.nD) → Buf (Elt Ideal) ((c.tc : Thread Cert.KernelQbIdeal.nD Cert.KernelQbIdeal.τ).loc Cert.KernelQbIdeal.main_v2_0)) (v1 : (c : Dev Cert.KernelQbIdeal.nD) → Buf (Elt Ideal) ((c.tc : Thread Cert.KernelQbIdeal.nD Cert.KernelQbIdeal.τ).loc Cert.KernelQbIdeal.main_v2_1)),
      θ_run (Cert.KernelQbIdeal.defs (F := Ideal)) (onTc (τ := Cert.KernelQbIdeal.τ) (Cert.KernelQbIdeal.main (F := Ideal))) ⟨m, fun _ => 0, g⟩ (fun r => ∀ c : Dev Cert.KernelQbIdeal.nD,
          r.2.mem ((c.tc : Thread Cert.KernelQbIdeal.nD Cert.KernelQbIdeal.τ).loc Cert.KernelQbIdeal.main_v2_0) = v0 c
          ∧ r.2.mem ((c.tc : Thread Cert.KernelQbIdeal.nD Cert.KernelQbIdeal.τ).loc Cert.KernelQbIdeal.main_v2_1) = v1 c
          ∧ r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
          ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ θ_run (Cert.ReferenceQbIdeal.defs (F := Ideal)) (onTc (τ := Cert.ReferenceQbIdeal.τ) (Cert.ReferenceQbIdeal.main (F := Ideal))) ⟨m', fun _ => 0, g'⟩ (fun r => ∀ c : Dev Cert.ReferenceQbIdeal.nD,
          r.2.mem ((c.tc : Thread Cert.ReferenceQbIdeal.nD Cert.ReferenceQbIdeal.τ).loc Cert.ReferenceQbIdeal.main_v4) = v0 c
          ∧ r.2.mem ((c.tc : Thread Cert.ReferenceQbIdeal.nD Cert.ReferenceQbIdeal.τ).loc Cert.ReferenceQbIdeal.main_v5) = v1 c
          ∧ r.2.mem ((c.tc : Thread Cert.ReferenceQbIdeal.nD Cert.ReferenceQbIdeal.τ).loc Cert.ReferenceQbIdeal.main_arg0) = m' ((c.tc : Thread Cert.ReferenceQbIdeal.nD Cert.ReferenceQbIdeal.τ).loc Cert.ReferenceQbIdeal.main_arg0)
          ∧ r.2.mem ((c.tc : Thread Cert.ReferenceQbIdeal.nD Cert.ReferenceQbIdeal.τ).loc Cert.ReferenceQbIdeal.main_arg1) = m' ((c.tc : Thread Cert.ReferenceQbIdeal.nD Cert.ReferenceQbIdeal.τ).loc Cert.ReferenceQbIdeal.main_arg1))

def preserves_KernelKvb_KernelKvbIdeal : Prop :=
  True

def algebraic_KernelKvbIdeal_ReferenceKvbIdeal [hKernelKvbIdeal : Cert.KernelKvbIdeal.Facts] [hReferenceKvbIdeal : Cert.ReferenceKvbIdeal.Facts] : Prop :=
  ∀ (m : (ℓ : Loc Cert.KernelKvbIdeal.nD Cert.KernelKvbIdeal.τ Cert.KernelKvbIdeal.sig) → Buf (Elt Ideal) ℓ) (g : Dev Cert.KernelKvbIdeal.nD → PrngReg)
    (m' : (ℓ : Loc Cert.ReferenceKvbIdeal.nD Cert.ReferenceKvbIdeal.τ Cert.ReferenceKvbIdeal.sig) → Buf (Elt Ideal) ℓ) (g' : Dev Cert.ReferenceKvbIdeal.nD → PrngReg), Pre_KernelKvbIdeal m →
    (∀ c : Dev Cert.KernelKvbIdeal.nD,
      m' ((c.tc : Thread Cert.ReferenceKvbIdeal.nD Cert.ReferenceKvbIdeal.τ).loc Cert.ReferenceKvbIdeal.main_arg0) = m ((c.tc : Thread Cert.KernelKvbIdeal.nD Cert.KernelKvbIdeal.τ).loc Cert.KernelKvbIdeal.main_arg0)
      ∧ m' ((c.tc : Thread Cert.ReferenceKvbIdeal.nD Cert.ReferenceKvbIdeal.τ).loc Cert.ReferenceKvbIdeal.main_arg1) = m ((c.tc : Thread Cert.KernelKvbIdeal.nD Cert.KernelKvbIdeal.τ).loc Cert.KernelKvbIdeal.main_arg1)) →
    ∃ (v0 : (c : Dev Cert.KernelKvbIdeal.nD) → Buf (Elt Ideal) ((c.tc : Thread Cert.KernelKvbIdeal.nD Cert.KernelKvbIdeal.τ).loc Cert.KernelKvbIdeal.main_v2_0)) (v1 : (c : Dev Cert.KernelKvbIdeal.nD) → Buf (Elt Ideal) ((c.tc : Thread Cert.KernelKvbIdeal.nD Cert.KernelKvbIdeal.τ).loc Cert.KernelKvbIdeal.main_v2_1)),
      θ_run (Cert.KernelKvbIdeal.defs (F := Ideal)) (onTc (τ := Cert.KernelKvbIdeal.τ) (Cert.KernelKvbIdeal.main (F := Ideal))) ⟨m, fun _ => 0, g⟩ (fun r => ∀ c : Dev Cert.KernelKvbIdeal.nD,
          r.2.mem ((c.tc : Thread Cert.KernelKvbIdeal.nD Cert.KernelKvbIdeal.τ).loc Cert.KernelKvbIdeal.main_v2_0) = v0 c
          ∧ r.2.mem ((c.tc : Thread Cert.KernelKvbIdeal.nD Cert.KernelKvbIdeal.τ).loc Cert.KernelKvbIdeal.main_v2_1) = v1 c
          ∧ r.2.mem ((c.tc : Thread Cert.KernelKvbIdeal.nD Cert.KernelKvbIdeal.τ).loc Cert.KernelKvbIdeal.main_arg0) = m ((c.tc : Thread Cert.KernelKvbIdeal.nD Cert.KernelKvbIdeal.τ).loc Cert.KernelKvbIdeal.main_arg0)
          ∧ r.2.mem ((c.tc : Thread Cert.KernelKvbIdeal.nD Cert.KernelKvbIdeal.τ).loc Cert.KernelKvbIdeal.main_arg1) = m ((c.tc : Thread Cert.KernelKvbIdeal.nD Cert.KernelKvbIdeal.τ).loc Cert.KernelKvbIdeal.main_arg1))
      ∧ θ_run (Cert.ReferenceKvbIdeal.defs (F := Ideal)) (onTc (τ := Cert.ReferenceKvbIdeal.τ) (Cert.ReferenceKvbIdeal.main (F := Ideal))) ⟨m', fun _ => 0, g'⟩ (fun r => ∀ c : Dev Cert.ReferenceKvbIdeal.nD,
          r.2.mem ((c.tc : Thread Cert.ReferenceKvbIdeal.nD Cert.ReferenceKvbIdeal.τ).loc Cert.ReferenceKvbIdeal.main_v3) = v0 c
          ∧ r.2.mem ((c.tc : Thread Cert.ReferenceKvbIdeal.nD Cert.ReferenceKvbIdeal.τ).loc Cert.ReferenceKvbIdeal.main_v4) = v1 c
          ∧ r.2.mem ((c.tc : Thread Cert.ReferenceKvbIdeal.nD Cert.ReferenceKvbIdeal.τ).loc Cert.ReferenceKvbIdeal.main_arg0) = m' ((c.tc : Thread Cert.ReferenceKvbIdeal.nD Cert.ReferenceKvbIdeal.τ).loc Cert.ReferenceKvbIdeal.main_arg0)
          ∧ r.2.mem ((c.tc : Thread Cert.ReferenceKvbIdeal.nD Cert.ReferenceKvbIdeal.τ).loc Cert.ReferenceKvbIdeal.main_arg1) = m' ((c.tc : Thread Cert.ReferenceKvbIdeal.nD Cert.ReferenceKvbIdeal.τ).loc Cert.ReferenceKvbIdeal.main_arg1))

def preserves_KernelInBwd_KernelInBwdIdeal : Prop :=
  True

def algebraic_KernelInBwdIdeal_ReferenceInBwdIdeal_pre_finite_in_bwd [hKernelInBwdIdeal : Cert.KernelInBwdIdeal.Facts] [hReferenceInBwdIdeal : Cert.ReferenceInBwdIdeal.Facts] [hPre_finite_in_bwd : Cert.Pre_finite_in_bwd.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg)
    (m' : (ℓ : Loc Cert.ReferenceInBwdIdeal.nD Cert.ReferenceInBwdIdeal.τ Cert.ReferenceInBwdIdeal.sig) → Buf (Elt Ideal) ℓ) (g' : Dev Cert.ReferenceInBwdIdeal.nD → PrngReg), Pre_KernelInBwdIdeal_finite_in_bwd m →
    (∀ c : Dev Cert.KernelInBwdIdeal.nD,
      m' ((c.tc : Thread Cert.ReferenceInBwdIdeal.nD Cert.ReferenceInBwdIdeal.τ).loc Cert.ReferenceInBwdIdeal.main_arg0) = m ((c.tc : Thread Cert.KernelInBwdIdeal.nD Cert.KernelInBwdIdeal.τ).loc Cert.KernelInBwdIdeal.main_arg0)
      ∧ m' ((c.tc : Thread Cert.ReferenceInBwdIdeal.nD Cert.ReferenceInBwdIdeal.τ).loc Cert.ReferenceInBwdIdeal.main_arg1) = m ((c.tc : Thread Cert.KernelInBwdIdeal.nD Cert.KernelInBwdIdeal.τ).loc Cert.KernelInBwdIdeal.main_arg1)
      ∧ m' ((c.tc : Thread Cert.ReferenceInBwdIdeal.nD Cert.ReferenceInBwdIdeal.τ).loc Cert.ReferenceInBwdIdeal.main_arg2) = m ((c.tc : Thread Cert.KernelInBwdIdeal.nD Cert.KernelInBwdIdeal.τ).loc Cert.KernelInBwdIdeal.main_arg2)
      ∧ m' ((c.tc : Thread Cert.ReferenceInBwdIdeal.nD Cert.ReferenceInBwdIdeal.τ).loc Cert.ReferenceInBwdIdeal.main_arg3) = m ((c.tc : Thread Cert.KernelInBwdIdeal.nD Cert.KernelInBwdIdeal.τ).loc Cert.KernelInBwdIdeal.main_arg3)
      ∧ m' ((c.tc : Thread Cert.ReferenceInBwdIdeal.nD Cert.ReferenceInBwdIdeal.τ).loc Cert.ReferenceInBwdIdeal.main_arg4) = m ((c.tc : Thread Cert.KernelInBwdIdeal.nD Cert.KernelInBwdIdeal.τ).loc Cert.KernelInBwdIdeal.main_arg4)
      ∧ m' ((c.tc : Thread Cert.ReferenceInBwdIdeal.nD Cert.ReferenceInBwdIdeal.τ).loc Cert.ReferenceInBwdIdeal.main_arg5) = m ((c.tc : Thread Cert.KernelInBwdIdeal.nD Cert.KernelInBwdIdeal.τ).loc Cert.KernelInBwdIdeal.main_arg5)
      ∧ m' ((c.tc : Thread Cert.ReferenceInBwdIdeal.nD Cert.ReferenceInBwdIdeal.τ).loc Cert.ReferenceInBwdIdeal.main_arg6) = m ((c.tc : Thread Cert.KernelInBwdIdeal.nD Cert.KernelInBwdIdeal.τ).loc Cert.KernelInBwdIdeal.main_arg6)
      ∧ m' ((c.tc : Thread Cert.ReferenceInBwdIdeal.nD Cert.ReferenceInBwdIdeal.τ).loc Cert.ReferenceInBwdIdeal.main_arg7) = m ((c.tc : Thread Cert.KernelInBwdIdeal.nD Cert.KernelInBwdIdeal.τ).loc Cert.KernelInBwdIdeal.main_arg7)
      ∧ m' ((c.tc : Thread Cert.ReferenceInBwdIdeal.nD Cert.ReferenceInBwdIdeal.τ).loc Cert.ReferenceInBwdIdeal.main_arg8) = m ((c.tc : Thread Cert.KernelInBwdIdeal.nD Cert.KernelInBwdIdeal.τ).loc Cert.KernelInBwdIdeal.main_arg8)
      ∧ m' ((c.tc : Thread Cert.ReferenceInBwdIdeal.nD Cert.ReferenceInBwdIdeal.τ).loc Cert.ReferenceInBwdIdeal.main_arg9) = m ((c.tc : Thread Cert.KernelInBwdIdeal.nD Cert.KernelInBwdIdeal.τ).loc Cert.KernelInBwdIdeal.main_arg9)
      ∧ m' ((c.tc : Thread Cert.ReferenceInBwdIdeal.nD Cert.ReferenceInBwdIdeal.τ).loc Cert.ReferenceInBwdIdeal.main_arg10) = m ((c.tc : Thread Cert.KernelInBwdIdeal.nD Cert.KernelInBwdIdeal.τ).loc Cert.KernelInBwdIdeal.main_arg10)
      ∧ m' ((c.tc : Thread Cert.ReferenceInBwdIdeal.nD Cert.ReferenceInBwdIdeal.τ).loc Cert.ReferenceInBwdIdeal.main_arg11) = m ((c.tc : Thread Cert.KernelInBwdIdeal.nD Cert.KernelInBwdIdeal.τ).loc Cert.KernelInBwdIdeal.main_arg11)
      ∧ m' ((c.tc : Thread Cert.ReferenceInBwdIdeal.nD Cert.ReferenceInBwdIdeal.τ).loc Cert.ReferenceInBwdIdeal.main_arg12) = m ((c.tc : Thread Cert.KernelInBwdIdeal.nD Cert.KernelInBwdIdeal.τ).loc Cert.KernelInBwdIdeal.main_arg12)
      ∧ m' ((c.tc : Thread Cert.ReferenceInBwdIdeal.nD Cert.ReferenceInBwdIdeal.τ).loc Cert.ReferenceInBwdIdeal.main_arg13) = m ((c.tc : Thread Cert.KernelInBwdIdeal.nD Cert.KernelInBwdIdeal.τ).loc Cert.KernelInBwdIdeal.main_arg13)
      ∧ m' ((c.tc : Thread Cert.ReferenceInBwdIdeal.nD Cert.ReferenceInBwdIdeal.τ).loc Cert.ReferenceInBwdIdeal.main_arg14) = m ((c.tc : Thread Cert.KernelInBwdIdeal.nD Cert.KernelInBwdIdeal.τ).loc Cert.KernelInBwdIdeal.main_arg14)) →
    ∃ (v0 : (c : Dev Cert.KernelInBwdIdeal.nD) → Buf (Elt Ideal) ((c.tc : Thread Cert.KernelInBwdIdeal.nD Cert.KernelInBwdIdeal.τ).loc Cert.KernelInBwdIdeal.main_v11_0)) (v1 : (c : Dev Cert.KernelInBwdIdeal.nD) → Buf (Elt Ideal) ((c.tc : Thread Cert.KernelInBwdIdeal.nD Cert.KernelInBwdIdeal.τ).loc Cert.KernelInBwdIdeal.main_v11_1)) (v2 : (c : Dev Cert.KernelInBwdIdeal.nD) → Buf (Elt Ideal) ((c.tc : Thread Cert.KernelInBwdIdeal.nD Cert.KernelInBwdIdeal.τ).loc Cert.KernelInBwdIdeal.main_v11_2)),
      θ_run (Cert.KernelInBwdIdeal.defs (F := Ideal)) (onTc (τ := Cert.KernelInBwdIdeal.τ) (Cert.KernelInBwdIdeal.main (F := Ideal))) ⟨m, fun _ => 0, g⟩ (fun r => ∀ c : Dev Cert.KernelInBwdIdeal.nD,
          r.2.mem ((c.tc : Thread Cert.KernelInBwdIdeal.nD Cert.KernelInBwdIdeal.τ).loc Cert.KernelInBwdIdeal.main_v11_0) = v0 c
          ∧ r.2.mem ((c.tc : Thread Cert.KernelInBwdIdeal.nD Cert.KernelInBwdIdeal.τ).loc Cert.KernelInBwdIdeal.main_v11_1) = v1 c
          ∧ r.2.mem ((c.tc : Thread Cert.KernelInBwdIdeal.nD Cert.KernelInBwdIdeal.τ).loc Cert.KernelInBwdIdeal.main_v11_2) = v2 c
          ∧ r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
          ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
          ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
          ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
          ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4)
          ∧ r.2.mem ((c.tc : Thread Cert.KernelInBwdIdeal.nD Cert.KernelInBwdIdeal.τ).loc Cert.KernelInBwdIdeal.main_arg5) = m ((c.tc : Thread Cert.KernelInBwdIdeal.nD Cert.KernelInBwdIdeal.τ).loc Cert.KernelInBwdIdeal.main_arg5)
          ∧ r.2.mem ((c.tc : Thread Cert.KernelInBwdIdeal.nD Cert.KernelInBwdIdeal.τ).loc Cert.KernelInBwdIdeal.main_arg6) = m ((c.tc : Thread Cert.KernelInBwdIdeal.nD Cert.KernelInBwdIdeal.τ).loc Cert.KernelInBwdIdeal.main_arg6)
          ∧ r.2.mem ((c.tc : Thread Cert.KernelInBwdIdeal.nD Cert.KernelInBwdIdeal.τ).loc Cert.KernelInBwdIdeal.main_arg7) = m ((c.tc : Thread Cert.KernelInBwdIdeal.nD Cert.KernelInBwdIdeal.τ).loc Cert.KernelInBwdIdeal.main_arg7)
          ∧ r.2.mem ((c.tc : Thread Cert.KernelInBwdIdeal.nD Cert.KernelInBwdIdeal.τ).loc Cert.KernelInBwdIdeal.main_arg8) = m ((c.tc : Thread Cert.KernelInBwdIdeal.nD Cert.KernelInBwdIdeal.τ).loc Cert.KernelInBwdIdeal.main_arg8)
          ∧ r.2.mem ((c.tc : Thread Cert.KernelInBwdIdeal.nD Cert.KernelInBwdIdeal.τ).loc Cert.KernelInBwdIdeal.main_arg9) = m ((c.tc : Thread Cert.KernelInBwdIdeal.nD Cert.KernelInBwdIdeal.τ).loc Cert.KernelInBwdIdeal.main_arg9)
          ∧ r.2.mem ((c.tc : Thread Cert.KernelInBwdIdeal.nD Cert.KernelInBwdIdeal.τ).loc Cert.KernelInBwdIdeal.main_arg10) = m ((c.tc : Thread Cert.KernelInBwdIdeal.nD Cert.KernelInBwdIdeal.τ).loc Cert.KernelInBwdIdeal.main_arg10)
          ∧ r.2.mem ((c.tc : Thread Cert.KernelInBwdIdeal.nD Cert.KernelInBwdIdeal.τ).loc Cert.KernelInBwdIdeal.main_arg11) = m ((c.tc : Thread Cert.KernelInBwdIdeal.nD Cert.KernelInBwdIdeal.τ).loc Cert.KernelInBwdIdeal.main_arg11)
          ∧ r.2.mem ((c.tc : Thread Cert.KernelInBwdIdeal.nD Cert.KernelInBwdIdeal.τ).loc Cert.KernelInBwdIdeal.main_arg12) = m ((c.tc : Thread Cert.KernelInBwdIdeal.nD Cert.KernelInBwdIdeal.τ).loc Cert.KernelInBwdIdeal.main_arg12)
          ∧ r.2.mem ((c.tc : Thread Cert.KernelInBwdIdeal.nD Cert.KernelInBwdIdeal.τ).loc Cert.KernelInBwdIdeal.main_arg13) = m ((c.tc : Thread Cert.KernelInBwdIdeal.nD Cert.KernelInBwdIdeal.τ).loc Cert.KernelInBwdIdeal.main_arg13)
          ∧ r.2.mem ((c.tc : Thread Cert.KernelInBwdIdeal.nD Cert.KernelInBwdIdeal.τ).loc Cert.KernelInBwdIdeal.main_arg14) = m ((c.tc : Thread Cert.KernelInBwdIdeal.nD Cert.KernelInBwdIdeal.τ).loc Cert.KernelInBwdIdeal.main_arg14))
      ∧ θ_run (Cert.ReferenceInBwdIdeal.defs (F := Ideal)) (onTc (τ := Cert.ReferenceInBwdIdeal.τ) (Cert.ReferenceInBwdIdeal.main (F := Ideal))) ⟨m', fun _ => 0, g'⟩ (fun r => ∀ c : Dev Cert.ReferenceInBwdIdeal.nD,
          r.2.mem ((c.tc : Thread Cert.ReferenceInBwdIdeal.nD Cert.ReferenceInBwdIdeal.τ).loc Cert.ReferenceInBwdIdeal.main_v43) = v0 c
          ∧ r.2.mem ((c.tc : Thread Cert.ReferenceInBwdIdeal.nD Cert.ReferenceInBwdIdeal.τ).loc Cert.ReferenceInBwdIdeal.main_v45) = v1 c
          ∧ r.2.mem ((c.tc : Thread Cert.ReferenceInBwdIdeal.nD Cert.ReferenceInBwdIdeal.τ).loc Cert.ReferenceInBwdIdeal.main_v46) = v2 c
          ∧ r.2.mem ((c.tc : Thread Cert.ReferenceInBwdIdeal.nD Cert.ReferenceInBwdIdeal.τ).loc Cert.ReferenceInBwdIdeal.main_arg0) = m' ((c.tc : Thread Cert.ReferenceInBwdIdeal.nD Cert.ReferenceInBwdIdeal.τ).loc Cert.ReferenceInBwdIdeal.main_arg0)
          ∧ r.2.mem ((c.tc : Thread Cert.ReferenceInBwdIdeal.nD Cert.ReferenceInBwdIdeal.τ).loc Cert.ReferenceInBwdIdeal.main_arg1) = m' ((c.tc : Thread Cert.ReferenceInBwdIdeal.nD Cert.ReferenceInBwdIdeal.τ).loc Cert.ReferenceInBwdIdeal.main_arg1)
          ∧ r.2.mem ((c.tc : Thread Cert.ReferenceInBwdIdeal.nD Cert.ReferenceInBwdIdeal.τ).loc Cert.ReferenceInBwdIdeal.main_arg2) = m' ((c.tc : Thread Cert.ReferenceInBwdIdeal.nD Cert.ReferenceInBwdIdeal.τ).loc Cert.ReferenceInBwdIdeal.main_arg2)
          ∧ r.2.mem ((c.tc : Thread Cert.ReferenceInBwdIdeal.nD Cert.ReferenceInBwdIdeal.τ).loc Cert.ReferenceInBwdIdeal.main_arg3) = m' ((c.tc : Thread Cert.ReferenceInBwdIdeal.nD Cert.ReferenceInBwdIdeal.τ).loc Cert.ReferenceInBwdIdeal.main_arg3)
          ∧ r.2.mem ((c.tc : Thread Cert.ReferenceInBwdIdeal.nD Cert.ReferenceInBwdIdeal.τ).loc Cert.ReferenceInBwdIdeal.main_arg4) = m' ((c.tc : Thread Cert.ReferenceInBwdIdeal.nD Cert.ReferenceInBwdIdeal.τ).loc Cert.ReferenceInBwdIdeal.main_arg4)
          ∧ r.2.mem ((c.tc : Thread Cert.ReferenceInBwdIdeal.nD Cert.ReferenceInBwdIdeal.τ).loc Cert.ReferenceInBwdIdeal.main_arg5) = m' ((c.tc : Thread Cert.ReferenceInBwdIdeal.nD Cert.ReferenceInBwdIdeal.τ).loc Cert.ReferenceInBwdIdeal.main_arg5)
          ∧ r.2.mem ((c.tc : Thread Cert.ReferenceInBwdIdeal.nD Cert.ReferenceInBwdIdeal.τ).loc Cert.ReferenceInBwdIdeal.main_arg6) = m' ((c.tc : Thread Cert.ReferenceInBwdIdeal.nD Cert.ReferenceInBwdIdeal.τ).loc Cert.ReferenceInBwdIdeal.main_arg6)
          ∧ r.2.mem ((c.tc : Thread Cert.ReferenceInBwdIdeal.nD Cert.ReferenceInBwdIdeal.τ).loc Cert.ReferenceInBwdIdeal.main_arg7) = m' ((c.tc : Thread Cert.ReferenceInBwdIdeal.nD Cert.ReferenceInBwdIdeal.τ).loc Cert.ReferenceInBwdIdeal.main_arg7)
          ∧ r.2.mem ((c.tc : Thread Cert.ReferenceInBwdIdeal.nD Cert.ReferenceInBwdIdeal.τ).loc Cert.ReferenceInBwdIdeal.main_arg8) = m' ((c.tc : Thread Cert.ReferenceInBwdIdeal.nD Cert.ReferenceInBwdIdeal.τ).loc Cert.ReferenceInBwdIdeal.main_arg8)
          ∧ r.2.mem ((c.tc : Thread Cert.ReferenceInBwdIdeal.nD Cert.ReferenceInBwdIdeal.τ).loc Cert.ReferenceInBwdIdeal.main_arg9) = m' ((c.tc : Thread Cert.ReferenceInBwdIdeal.nD Cert.ReferenceInBwdIdeal.τ).loc Cert.ReferenceInBwdIdeal.main_arg9)
          ∧ r.2.mem ((c.tc : Thread Cert.ReferenceInBwdIdeal.nD Cert.ReferenceInBwdIdeal.τ).loc Cert.ReferenceInBwdIdeal.main_arg10) = m' ((c.tc : Thread Cert.ReferenceInBwdIdeal.nD Cert.ReferenceInBwdIdeal.τ).loc Cert.ReferenceInBwdIdeal.main_arg10)
          ∧ r.2.mem ((c.tc : Thread Cert.ReferenceInBwdIdeal.nD Cert.ReferenceInBwdIdeal.τ).loc Cert.ReferenceInBwdIdeal.main_arg11) = m' ((c.tc : Thread Cert.ReferenceInBwdIdeal.nD Cert.ReferenceInBwdIdeal.τ).loc Cert.ReferenceInBwdIdeal.main_arg11)
          ∧ r.2.mem ((c.tc : Thread Cert.ReferenceInBwdIdeal.nD Cert.ReferenceInBwdIdeal.τ).loc Cert.ReferenceInBwdIdeal.main_arg12) = m' ((c.tc : Thread Cert.ReferenceInBwdIdeal.nD Cert.ReferenceInBwdIdeal.τ).loc Cert.ReferenceInBwdIdeal.main_arg12)
          ∧ r.2.mem ((c.tc : Thread Cert.ReferenceInBwdIdeal.nD Cert.ReferenceInBwdIdeal.τ).loc Cert.ReferenceInBwdIdeal.main_arg13) = m' ((c.tc : Thread Cert.ReferenceInBwdIdeal.nD Cert.ReferenceInBwdIdeal.τ).loc Cert.ReferenceInBwdIdeal.main_arg13)
          ∧ r.2.mem ((c.tc : Thread Cert.ReferenceInBwdIdeal.nD Cert.ReferenceInBwdIdeal.τ).loc Cert.ReferenceInBwdIdeal.main_arg14) = m' ((c.tc : Thread Cert.ReferenceInBwdIdeal.nD Cert.ReferenceInBwdIdeal.τ).loc Cert.ReferenceInBwdIdeal.main_arg14))

def preserves_KernelInFwd_KernelInFwdIdeal : Prop :=
  True

def algebraic_KernelInFwdIdeal_ReferenceInFwdIdeal [hKernelInFwdIdeal : Cert.KernelInFwdIdeal.Facts] [hReferenceInFwdIdeal : Cert.ReferenceInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg)
    (m' : (ℓ : Loc Cert.ReferenceInFwdIdeal.nD Cert.ReferenceInFwdIdeal.τ Cert.ReferenceInFwdIdeal.sig) → Buf (Elt Ideal) ℓ) (g' : Dev Cert.ReferenceInFwdIdeal.nD → PrngReg), Pre_KernelInFwdIdeal m →
    (∀ c : Dev Cert.KernelInFwdIdeal.nD,
      m' ((c.tc : Thread Cert.ReferenceInFwdIdeal.nD Cert.ReferenceInFwdIdeal.τ).loc Cert.ReferenceInFwdIdeal.main_arg0) = m ((c.tc : Thread Cert.KernelInFwdIdeal.nD Cert.KernelInFwdIdeal.τ).loc Cert.KernelInFwdIdeal.main_arg0)
      ∧ m' ((c.tc : Thread Cert.ReferenceInFwdIdeal.nD Cert.ReferenceInFwdIdeal.τ).loc Cert.ReferenceInFwdIdeal.main_arg1) = m ((c.tc : Thread Cert.KernelInFwdIdeal.nD Cert.KernelInFwdIdeal.τ).loc Cert.KernelInFwdIdeal.main_arg1)
      ∧ m' ((c.tc : Thread Cert.ReferenceInFwdIdeal.nD Cert.ReferenceInFwdIdeal.τ).loc Cert.ReferenceInFwdIdeal.main_arg2) = m ((c.tc : Thread Cert.KernelInFwdIdeal.nD Cert.KernelInFwdIdeal.τ).loc Cert.KernelInFwdIdeal.main_arg2)) →
    ∃ (v0 : (c : Dev Cert.KernelInFwdIdeal.nD) → Buf (Elt Ideal) ((c.tc : Thread Cert.KernelInFwdIdeal.nD Cert.KernelInFwdIdeal.τ).loc Cert.KernelInFwdIdeal.main_v4_0)) (v1 : (c : Dev Cert.KernelInFwdIdeal.nD) → Buf (Elt Ideal) ((c.tc : Thread Cert.KernelInFwdIdeal.nD Cert.KernelInFwdIdeal.τ).loc Cert.KernelInFwdIdeal.main_v4_1)) (v2 : (c : Dev Cert.KernelInFwdIdeal.nD) → Buf (Elt Ideal) ((c.tc : Thread Cert.KernelInFwdIdeal.nD Cert.KernelInFwdIdeal.τ).loc Cert.KernelInFwdIdeal.main_v4_2)) (v3 : (c : Dev Cert.KernelInFwdIdeal.nD) → Buf (Elt Ideal) ((c.tc : Thread Cert.KernelInFwdIdeal.nD Cert.KernelInFwdIdeal.τ).loc Cert.KernelInFwdIdeal.main_v4_3)) (v4 : (c : Dev Cert.KernelInFwdIdeal.nD) → Buf (Elt Ideal) ((c.tc : Thread Cert.KernelInFwdIdeal.nD Cert.KernelInFwdIdeal.τ).loc Cert.KernelInFwdIdeal.main_v4_4)) (v5 : (c : Dev Cert.KernelInFwdIdeal.nD) → Buf (Elt Ideal) ((c.tc : Thread Cert.KernelInFwdIdeal.nD Cert.KernelInFwdIdeal.τ).loc Cert.KernelInFwdIdeal.main_v4_5)) (v6 : (c : Dev Cert.KernelInFwdIdeal.nD) → Buf (Elt Ideal) ((c.tc : Thread Cert.KernelInFwdIdeal.nD Cert.KernelInFwdIdeal.τ).loc Cert.KernelInFwdIdeal.main_v4_6)) (v7 : (c : Dev Cert.KernelInFwdIdeal.nD) → Buf (Elt Ideal) ((c.tc : Thread Cert.KernelInFwdIdeal.nD Cert.KernelInFwdIdeal.τ).loc Cert.KernelInFwdIdeal.main_v4_7)) (v8 : (c : Dev Cert.KernelInFwdIdeal.nD) → Buf (Elt Ideal) ((c.tc : Thread Cert.KernelInFwdIdeal.nD Cert.KernelInFwdIdeal.τ).loc Cert.KernelInFwdIdeal.main_v4_8)),
      θ_run (Cert.KernelInFwdIdeal.defs (F := Ideal)) (onTc (τ := Cert.KernelInFwdIdeal.τ) (Cert.KernelInFwdIdeal.main (F := Ideal))) ⟨m, fun _ => 0, g⟩ (fun r => ∀ c : Dev Cert.KernelInFwdIdeal.nD,
          r.2.mem ((c.tc : Thread Cert.KernelInFwdIdeal.nD Cert.KernelInFwdIdeal.τ).loc Cert.KernelInFwdIdeal.main_v4_0) = v0 c
          ∧ r.2.mem ((c.tc : Thread Cert.KernelInFwdIdeal.nD Cert.KernelInFwdIdeal.τ).loc Cert.KernelInFwdIdeal.main_v4_1) = v1 c
          ∧ r.2.mem ((c.tc : Thread Cert.KernelInFwdIdeal.nD Cert.KernelInFwdIdeal.τ).loc Cert.KernelInFwdIdeal.main_v4_2) = v2 c
          ∧ r.2.mem ((c.tc : Thread Cert.KernelInFwdIdeal.nD Cert.KernelInFwdIdeal.τ).loc Cert.KernelInFwdIdeal.main_v4_3) = v3 c
          ∧ r.2.mem ((c.tc : Thread Cert.KernelInFwdIdeal.nD Cert.KernelInFwdIdeal.τ).loc Cert.KernelInFwdIdeal.main_v4_4) = v4 c
          ∧ r.2.mem ((c.tc : Thread Cert.KernelInFwdIdeal.nD Cert.KernelInFwdIdeal.τ).loc Cert.KernelInFwdIdeal.main_v4_5) = v5 c
          ∧ r.2.mem ((c.tc : Thread Cert.KernelInFwdIdeal.nD Cert.KernelInFwdIdeal.τ).loc Cert.KernelInFwdIdeal.main_v4_6) = v6 c
          ∧ r.2.mem ((c.tc : Thread Cert.KernelInFwdIdeal.nD Cert.KernelInFwdIdeal.τ).loc Cert.KernelInFwdIdeal.main_v4_7) = v7 c
          ∧ r.2.mem ((c.tc : Thread Cert.KernelInFwdIdeal.nD Cert.KernelInFwdIdeal.τ).loc Cert.KernelInFwdIdeal.main_v4_8) = v8 c
          ∧ r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
          ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
          ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ θ_run (Cert.ReferenceInFwdIdeal.defs (F := Ideal)) (onTc (τ := Cert.ReferenceInFwdIdeal.τ) (Cert.ReferenceInFwdIdeal.main (F := Ideal))) ⟨m', fun _ => 0, g'⟩ (fun r => ∀ c : Dev Cert.ReferenceInFwdIdeal.nD,
          r.2.mem ((c.tc : Thread Cert.ReferenceInFwdIdeal.nD Cert.ReferenceInFwdIdeal.τ).loc Cert.ReferenceInFwdIdeal.main_v22) = v0 c
          ∧ r.2.mem ((c.tc : Thread Cert.ReferenceInFwdIdeal.nD Cert.ReferenceInFwdIdeal.τ).loc Cert.ReferenceInFwdIdeal.main_v14) = v1 c
          ∧ r.2.mem ((c.tc : Thread Cert.ReferenceInFwdIdeal.nD Cert.ReferenceInFwdIdeal.τ).loc Cert.ReferenceInFwdIdeal.main_v15) = v2 c
          ∧ r.2.mem ((c.tc : Thread Cert.ReferenceInFwdIdeal.nD Cert.ReferenceInFwdIdeal.τ).loc Cert.ReferenceInFwdIdeal.main_v16) = v3 c
          ∧ r.2.mem ((c.tc : Thread Cert.ReferenceInFwdIdeal.nD Cert.ReferenceInFwdIdeal.τ).loc Cert.ReferenceInFwdIdeal.main_v17) = v4 c
          ∧ r.2.mem ((c.tc : Thread Cert.ReferenceInFwdIdeal.nD Cert.ReferenceInFwdIdeal.τ).loc Cert.ReferenceInFwdIdeal.main_v18) = v5 c
          ∧ r.2.mem ((c.tc : Thread Cert.ReferenceInFwdIdeal.nD Cert.ReferenceInFwdIdeal.τ).loc Cert.ReferenceInFwdIdeal.main_v19) = v6 c
          ∧ r.2.mem ((c.tc : Thread Cert.ReferenceInFwdIdeal.nD Cert.ReferenceInFwdIdeal.τ).loc Cert.ReferenceInFwdIdeal.main_v20) = v7 c
          ∧ r.2.mem ((c.tc : Thread Cert.ReferenceInFwdIdeal.nD Cert.ReferenceInFwdIdeal.τ).loc Cert.ReferenceInFwdIdeal.main_v23) = v8 c
          ∧ r.2.mem ((c.tc : Thread Cert.ReferenceInFwdIdeal.nD Cert.ReferenceInFwdIdeal.τ).loc Cert.ReferenceInFwdIdeal.main_arg0) = m' ((c.tc : Thread Cert.ReferenceInFwdIdeal.nD Cert.ReferenceInFwdIdeal.τ).loc Cert.ReferenceInFwdIdeal.main_arg0)
          ∧ r.2.mem ((c.tc : Thread Cert.ReferenceInFwdIdeal.nD Cert.ReferenceInFwdIdeal.τ).loc Cert.ReferenceInFwdIdeal.main_arg1) = m' ((c.tc : Thread Cert.ReferenceInFwdIdeal.nD Cert.ReferenceInFwdIdeal.τ).loc Cert.ReferenceInFwdIdeal.main_arg1)
          ∧ r.2.mem ((c.tc : Thread Cert.ReferenceInFwdIdeal.nD Cert.ReferenceInFwdIdeal.τ).loc Cert.ReferenceInFwdIdeal.main_arg2) = m' ((c.tc : Thread Cert.ReferenceInFwdIdeal.nD Cert.ReferenceInFwdIdeal.τ).loc Cert.ReferenceInFwdIdeal.main_arg2))

def preserves_KernelOutBwd_KernelOutBwdIdeal : Prop :=
  True

def algebraic_KernelOutBwdIdeal_ReferenceOutBwdIdeal_pre_finite_out_bwd [hKernelOutBwdIdeal : Cert.KernelOutBwdIdeal.Facts] [hReferenceOutBwdIdeal : Cert.ReferenceOutBwdIdeal.Facts] [hPre_finite_out_bwd : Cert.Pre_finite_out_bwd.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg)
    (m' : (ℓ : Loc Cert.ReferenceOutBwdIdeal.nD Cert.ReferenceOutBwdIdeal.τ Cert.ReferenceOutBwdIdeal.sig) → Buf (Elt Ideal) ℓ) (g' : Dev Cert.ReferenceOutBwdIdeal.nD → PrngReg), Pre_KernelOutBwdIdeal_finite_out_bwd m →
    (∀ c : Dev Cert.KernelOutBwdIdeal.nD,
      m' ((c.tc : Thread Cert.ReferenceOutBwdIdeal.nD Cert.ReferenceOutBwdIdeal.τ).loc Cert.ReferenceOutBwdIdeal.main_arg0) = m ((c.tc : Thread Cert.KernelOutBwdIdeal.nD Cert.KernelOutBwdIdeal.τ).loc Cert.KernelOutBwdIdeal.main_arg0)
      ∧ m' ((c.tc : Thread Cert.ReferenceOutBwdIdeal.nD Cert.ReferenceOutBwdIdeal.τ).loc Cert.ReferenceOutBwdIdeal.main_arg1) = m ((c.tc : Thread Cert.KernelOutBwdIdeal.nD Cert.KernelOutBwdIdeal.τ).loc Cert.KernelOutBwdIdeal.main_arg1)
      ∧ m' ((c.tc : Thread Cert.ReferenceOutBwdIdeal.nD Cert.ReferenceOutBwdIdeal.τ).loc Cert.ReferenceOutBwdIdeal.main_arg2) = m ((c.tc : Thread Cert.KernelOutBwdIdeal.nD Cert.KernelOutBwdIdeal.τ).loc Cert.KernelOutBwdIdeal.main_arg2)
      ∧ m' ((c.tc : Thread Cert.ReferenceOutBwdIdeal.nD Cert.ReferenceOutBwdIdeal.τ).loc Cert.ReferenceOutBwdIdeal.main_arg3) = m ((c.tc : Thread Cert.KernelOutBwdIdeal.nD Cert.KernelOutBwdIdeal.τ).loc Cert.KernelOutBwdIdeal.main_arg3)
      ∧ m' ((c.tc : Thread Cert.ReferenceOutBwdIdeal.nD Cert.ReferenceOutBwdIdeal.τ).loc Cert.ReferenceOutBwdIdeal.main_arg4) = m ((c.tc : Thread Cert.KernelOutBwdIdeal.nD Cert.KernelOutBwdIdeal.τ).loc Cert.KernelOutBwdIdeal.main_arg4)
      ∧ m' ((c.tc : Thread Cert.ReferenceOutBwdIdeal.nD Cert.ReferenceOutBwdIdeal.τ).loc Cert.ReferenceOutBwdIdeal.main_arg5) = m ((c.tc : Thread Cert.KernelOutBwdIdeal.nD Cert.KernelOutBwdIdeal.τ).loc Cert.KernelOutBwdIdeal.main_arg5)
      ∧ m' ((c.tc : Thread Cert.ReferenceOutBwdIdeal.nD Cert.ReferenceOutBwdIdeal.τ).loc Cert.ReferenceOutBwdIdeal.main_arg6) = m ((c.tc : Thread Cert.KernelOutBwdIdeal.nD Cert.KernelOutBwdIdeal.τ).loc Cert.KernelOutBwdIdeal.main_arg6)
      ∧ m' ((c.tc : Thread Cert.ReferenceOutBwdIdeal.nD Cert.ReferenceOutBwdIdeal.τ).loc Cert.ReferenceOutBwdIdeal.main_arg7) = m ((c.tc : Thread Cert.KernelOutBwdIdeal.nD Cert.KernelOutBwdIdeal.τ).loc Cert.KernelOutBwdIdeal.main_arg7)) →
    ∃ (v0 : (c : Dev Cert.KernelOutBwdIdeal.nD) → Buf (Elt Ideal) ((c.tc : Thread Cert.KernelOutBwdIdeal.nD Cert.KernelOutBwdIdeal.τ).loc Cert.KernelOutBwdIdeal.main_v4_0)) (v1 : (c : Dev Cert.KernelOutBwdIdeal.nD) → Buf (Elt Ideal) ((c.tc : Thread Cert.KernelOutBwdIdeal.nD Cert.KernelOutBwdIdeal.τ).loc Cert.KernelOutBwdIdeal.main_v4_1)) (v2 : (c : Dev Cert.KernelOutBwdIdeal.nD) → Buf (Elt Ideal) ((c.tc : Thread Cert.KernelOutBwdIdeal.nD Cert.KernelOutBwdIdeal.τ).loc Cert.KernelOutBwdIdeal.main_v4_2)) (v3 : (c : Dev Cert.KernelOutBwdIdeal.nD) → Buf (Elt Ideal) ((c.tc : Thread Cert.KernelOutBwdIdeal.nD Cert.KernelOutBwdIdeal.τ).loc Cert.KernelOutBwdIdeal.main_v4_3)) (v4 : (c : Dev Cert.KernelOutBwdIdeal.nD) → Buf (Elt Ideal) ((c.tc : Thread Cert.KernelOutBwdIdeal.nD Cert.KernelOutBwdIdeal.τ).loc Cert.KernelOutBwdIdeal.main_v4_4)) (v5 : (c : Dev Cert.KernelOutBwdIdeal.nD) → Buf (Elt Ideal) ((c.tc : Thread Cert.KernelOutBwdIdeal.nD Cert.KernelOutBwdIdeal.τ).loc Cert.KernelOutBwdIdeal.main_v4_5)),
      θ_run (Cert.KernelOutBwdIdeal.defs (F := Ideal)) (onTc (τ := Cert.KernelOutBwdIdeal.τ) (Cert.KernelOutBwdIdeal.main (F := Ideal))) ⟨m, fun _ => 0, g⟩ (fun r => ∀ c : Dev Cert.KernelOutBwdIdeal.nD,
          r.2.mem ((c.tc : Thread Cert.KernelOutBwdIdeal.nD Cert.KernelOutBwdIdeal.τ).loc Cert.KernelOutBwdIdeal.main_v4_0) = v0 c
          ∧ r.2.mem ((c.tc : Thread Cert.KernelOutBwdIdeal.nD Cert.KernelOutBwdIdeal.τ).loc Cert.KernelOutBwdIdeal.main_v4_1) = v1 c
          ∧ r.2.mem ((c.tc : Thread Cert.KernelOutBwdIdeal.nD Cert.KernelOutBwdIdeal.τ).loc Cert.KernelOutBwdIdeal.main_v4_2) = v2 c
          ∧ r.2.mem ((c.tc : Thread Cert.KernelOutBwdIdeal.nD Cert.KernelOutBwdIdeal.τ).loc Cert.KernelOutBwdIdeal.main_v4_3) = v3 c
          ∧ r.2.mem ((c.tc : Thread Cert.KernelOutBwdIdeal.nD Cert.KernelOutBwdIdeal.τ).loc Cert.KernelOutBwdIdeal.main_v4_4) = v4 c
          ∧ r.2.mem ((c.tc : Thread Cert.KernelOutBwdIdeal.nD Cert.KernelOutBwdIdeal.τ).loc Cert.KernelOutBwdIdeal.main_v4_5) = v5 c
          ∧ r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
          ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1)
          ∧ r.2.mem ((c.tc : Thread Cert.KernelOutBwdIdeal.nD Cert.KernelOutBwdIdeal.τ).loc Cert.KernelOutBwdIdeal.main_arg2) = m ((c.tc : Thread Cert.KernelOutBwdIdeal.nD Cert.KernelOutBwdIdeal.τ).loc Cert.KernelOutBwdIdeal.main_arg2)
          ∧ r.2.mem ((c.tc : Thread Cert.KernelOutBwdIdeal.nD Cert.KernelOutBwdIdeal.τ).loc Cert.KernelOutBwdIdeal.main_arg3) = m ((c.tc : Thread Cert.KernelOutBwdIdeal.nD Cert.KernelOutBwdIdeal.τ).loc Cert.KernelOutBwdIdeal.main_arg3)
          ∧ r.2.mem ((c.tc : Thread Cert.KernelOutBwdIdeal.nD Cert.KernelOutBwdIdeal.τ).loc Cert.KernelOutBwdIdeal.main_arg4) = m ((c.tc : Thread Cert.KernelOutBwdIdeal.nD Cert.KernelOutBwdIdeal.τ).loc Cert.KernelOutBwdIdeal.main_arg4)
          ∧ r.2.mem ((c.tc : Thread Cert.KernelOutBwdIdeal.nD Cert.KernelOutBwdIdeal.τ).loc Cert.KernelOutBwdIdeal.main_arg5) = m ((c.tc : Thread Cert.KernelOutBwdIdeal.nD Cert.KernelOutBwdIdeal.τ).loc Cert.KernelOutBwdIdeal.main_arg5)
          ∧ r.2.mem ((c.tc : Thread Cert.KernelOutBwdIdeal.nD Cert.KernelOutBwdIdeal.τ).loc Cert.KernelOutBwdIdeal.main_arg6) = m ((c.tc : Thread Cert.KernelOutBwdIdeal.nD Cert.KernelOutBwdIdeal.τ).loc Cert.KernelOutBwdIdeal.main_arg6)
          ∧ r.2.mem ((c.tc : Thread Cert.KernelOutBwdIdeal.nD Cert.KernelOutBwdIdeal.τ).loc Cert.KernelOutBwdIdeal.main_arg7) = m ((c.tc : Thread Cert.KernelOutBwdIdeal.nD Cert.KernelOutBwdIdeal.τ).loc Cert.KernelOutBwdIdeal.main_arg7))
      ∧ θ_run (Cert.ReferenceOutBwdIdeal.defs (F := Ideal)) (onTc (τ := Cert.ReferenceOutBwdIdeal.τ) (Cert.ReferenceOutBwdIdeal.main (F := Ideal))) ⟨m', fun _ => 0, g'⟩ (fun r => ∀ c : Dev Cert.ReferenceOutBwdIdeal.nD,
          r.2.mem ((c.tc : Thread Cert.ReferenceOutBwdIdeal.nD Cert.ReferenceOutBwdIdeal.τ).loc Cert.ReferenceOutBwdIdeal.main_v86) = v0 c
          ∧ r.2.mem ((c.tc : Thread Cert.ReferenceOutBwdIdeal.nD Cert.ReferenceOutBwdIdeal.τ).loc Cert.ReferenceOutBwdIdeal.main_v91) = v1 c
          ∧ r.2.mem ((c.tc : Thread Cert.ReferenceOutBwdIdeal.nD Cert.ReferenceOutBwdIdeal.τ).loc Cert.ReferenceOutBwdIdeal.main_v92) = v2 c
          ∧ r.2.mem ((c.tc : Thread Cert.ReferenceOutBwdIdeal.nD Cert.ReferenceOutBwdIdeal.τ).loc Cert.ReferenceOutBwdIdeal.main_v93) = v3 c
          ∧ r.2.mem ((c.tc : Thread Cert.ReferenceOutBwdIdeal.nD Cert.ReferenceOutBwdIdeal.τ).loc Cert.ReferenceOutBwdIdeal.main_v94) = v4 c
          ∧ r.2.mem ((c.tc : Thread Cert.ReferenceOutBwdIdeal.nD Cert.ReferenceOutBwdIdeal.τ).loc Cert.ReferenceOutBwdIdeal.main_v95) = v5 c
          ∧ r.2.mem ((c.tc : Thread Cert.ReferenceOutBwdIdeal.nD Cert.ReferenceOutBwdIdeal.τ).loc Cert.ReferenceOutBwdIdeal.main_arg0) = m' ((c.tc : Thread Cert.ReferenceOutBwdIdeal.nD Cert.ReferenceOutBwdIdeal.τ).loc Cert.ReferenceOutBwdIdeal.main_arg0)
          ∧ r.2.mem ((c.tc : Thread Cert.ReferenceOutBwdIdeal.nD Cert.ReferenceOutBwdIdeal.τ).loc Cert.ReferenceOutBwdIdeal.main_arg1) = m' ((c.tc : Thread Cert.ReferenceOutBwdIdeal.nD Cert.ReferenceOutBwdIdeal.τ).loc Cert.ReferenceOutBwdIdeal.main_arg1)
          ∧ r.2.mem ((c.tc : Thread Cert.ReferenceOutBwdIdeal.nD Cert.ReferenceOutBwdIdeal.τ).loc Cert.ReferenceOutBwdIdeal.main_arg2) = m' ((c.tc : Thread Cert.ReferenceOutBwdIdeal.nD Cert.ReferenceOutBwdIdeal.τ).loc Cert.ReferenceOutBwdIdeal.main_arg2)
          ∧ r.2.mem ((c.tc : Thread Cert.ReferenceOutBwdIdeal.nD Cert.ReferenceOutBwdIdeal.τ).loc Cert.ReferenceOutBwdIdeal.main_arg3) = m' ((c.tc : Thread Cert.ReferenceOutBwdIdeal.nD Cert.ReferenceOutBwdIdeal.τ).loc Cert.ReferenceOutBwdIdeal.main_arg3)
          ∧ r.2.mem ((c.tc : Thread Cert.ReferenceOutBwdIdeal.nD Cert.ReferenceOutBwdIdeal.τ).loc Cert.ReferenceOutBwdIdeal.main_arg4) = m' ((c.tc : Thread Cert.ReferenceOutBwdIdeal.nD Cert.ReferenceOutBwdIdeal.τ).loc Cert.ReferenceOutBwdIdeal.main_arg4)
          ∧ r.2.mem ((c.tc : Thread Cert.ReferenceOutBwdIdeal.nD Cert.ReferenceOutBwdIdeal.τ).loc Cert.ReferenceOutBwdIdeal.main_arg5) = m' ((c.tc : Thread Cert.ReferenceOutBwdIdeal.nD Cert.ReferenceOutBwdIdeal.τ).loc Cert.ReferenceOutBwdIdeal.main_arg5)
          ∧ r.2.mem ((c.tc : Thread Cert.ReferenceOutBwdIdeal.nD Cert.ReferenceOutBwdIdeal.τ).loc Cert.ReferenceOutBwdIdeal.main_arg6) = m' ((c.tc : Thread Cert.ReferenceOutBwdIdeal.nD Cert.ReferenceOutBwdIdeal.τ).loc Cert.ReferenceOutBwdIdeal.main_arg6)
          ∧ r.2.mem ((c.tc : Thread Cert.ReferenceOutBwdIdeal.nD Cert.ReferenceOutBwdIdeal.τ).loc Cert.ReferenceOutBwdIdeal.main_arg7) = m' ((c.tc : Thread Cert.ReferenceOutBwdIdeal.nD Cert.ReferenceOutBwdIdeal.τ).loc Cert.ReferenceOutBwdIdeal.main_arg7))

def preserves_KernelAdaW_KernelAdaWIdeal : Prop :=
  True

def algebraic_KernelAdaWIdeal_ReferenceAdaWIdeal [hKernelAdaWIdeal : Cert.KernelAdaWIdeal.Facts] [hReferenceAdaWIdeal : Cert.ReferenceAdaWIdeal.Facts] : Prop :=
  ∀ (m : (ℓ : Loc Cert.KernelAdaWIdeal.nD Cert.KernelAdaWIdeal.τ Cert.KernelAdaWIdeal.sig) → Buf (Elt Ideal) ℓ) (g : Dev Cert.KernelAdaWIdeal.nD → PrngReg)
    (m' : (ℓ : Loc Cert.ReferenceAdaWIdeal.nD Cert.ReferenceAdaWIdeal.τ Cert.ReferenceAdaWIdeal.sig) → Buf (Elt Ideal) ℓ) (g' : Dev Cert.ReferenceAdaWIdeal.nD → PrngReg), Pre_KernelAdaWIdeal m →
    (∀ c : Dev Cert.KernelAdaWIdeal.nD,
      m' ((c.tc : Thread Cert.ReferenceAdaWIdeal.nD Cert.ReferenceAdaWIdeal.τ).loc Cert.ReferenceAdaWIdeal.main_arg0) = m ((c.tc : Thread Cert.KernelAdaWIdeal.nD Cert.KernelAdaWIdeal.τ).loc Cert.KernelAdaWIdeal.main_arg0)
      ∧ m' ((c.tc : Thread Cert.ReferenceAdaWIdeal.nD Cert.ReferenceAdaWIdeal.τ).loc Cert.ReferenceAdaWIdeal.main_arg1) = m ((c.tc : Thread Cert.KernelAdaWIdeal.nD Cert.KernelAdaWIdeal.τ).loc Cert.KernelAdaWIdeal.main_arg1)
      ∧ m' ((c.tc : Thread Cert.ReferenceAdaWIdeal.nD Cert.ReferenceAdaWIdeal.τ).loc Cert.ReferenceAdaWIdeal.main_arg2) = m ((c.tc : Thread Cert.KernelAdaWIdeal.nD Cert.KernelAdaWIdeal.τ).loc Cert.KernelAdaWIdeal.main_arg2)
      ∧ m' ((c.tc : Thread Cert.ReferenceAdaWIdeal.nD Cert.ReferenceAdaWIdeal.τ).loc Cert.ReferenceAdaWIdeal.main_arg3) = m ((c.tc : Thread Cert.KernelAdaWIdeal.nD Cert.KernelAdaWIdeal.τ).loc Cert.KernelAdaWIdeal.main_arg3)
      ∧ m' ((c.tc : Thread Cert.ReferenceAdaWIdeal.nD Cert.ReferenceAdaWIdeal.τ).loc Cert.ReferenceAdaWIdeal.main_arg4) = m ((c.tc : Thread Cert.KernelAdaWIdeal.nD Cert.KernelAdaWIdeal.τ).loc Cert.KernelAdaWIdeal.main_arg4)) →
    ∃ (v0 : (c : Dev Cert.KernelAdaWIdeal.nD) → Buf (Elt Ideal) ((c.tc : Thread Cert.KernelAdaWIdeal.nD Cert.KernelAdaWIdeal.τ).loc Cert.KernelAdaWIdeal.main_v3_0)) (v1 : (c : Dev Cert.KernelAdaWIdeal.nD) → Buf (Elt Ideal) ((c.tc : Thread Cert.KernelAdaWIdeal.nD Cert.KernelAdaWIdeal.τ).loc Cert.KernelAdaWIdeal.main_v3_1)) (v2 : (c : Dev Cert.KernelAdaWIdeal.nD) → Buf (Elt Ideal) ((c.tc : Thread Cert.KernelAdaWIdeal.nD Cert.KernelAdaWIdeal.τ).loc Cert.KernelAdaWIdeal.main_v3_2)) (v3 : (c : Dev Cert.KernelAdaWIdeal.nD) → Buf (Elt Ideal) ((c.tc : Thread Cert.KernelAdaWIdeal.nD Cert.KernelAdaWIdeal.τ).loc Cert.KernelAdaWIdeal.main_v3_3)),
      θ_run (Cert.KernelAdaWIdeal.defs (F := Ideal)) (onTc (τ := Cert.KernelAdaWIdeal.τ) (Cert.KernelAdaWIdeal.main (F := Ideal))) ⟨m, fun _ => 0, g⟩ (fun r => ∀ c : Dev Cert.KernelAdaWIdeal.nD,
          r.2.mem ((c.tc : Thread Cert.KernelAdaWIdeal.nD Cert.KernelAdaWIdeal.τ).loc Cert.KernelAdaWIdeal.main_v3_0) = v0 c
          ∧ r.2.mem ((c.tc : Thread Cert.KernelAdaWIdeal.nD Cert.KernelAdaWIdeal.τ).loc Cert.KernelAdaWIdeal.main_v3_1) = v1 c
          ∧ r.2.mem ((c.tc : Thread Cert.KernelAdaWIdeal.nD Cert.KernelAdaWIdeal.τ).loc Cert.KernelAdaWIdeal.main_v3_2) = v2 c
          ∧ r.2.mem ((c.tc : Thread Cert.KernelAdaWIdeal.nD Cert.KernelAdaWIdeal.τ).loc Cert.KernelAdaWIdeal.main_v3_3) = v3 c
          ∧ r.2.mem ((c.tc : Thread Cert.KernelAdaWIdeal.nD Cert.KernelAdaWIdeal.τ).loc Cert.KernelAdaWIdeal.main_arg0) = m ((c.tc : Thread Cert.KernelAdaWIdeal.nD Cert.KernelAdaWIdeal.τ).loc Cert.KernelAdaWIdeal.main_arg0)
          ∧ r.2.mem ((c.tc : Thread Cert.KernelAdaWIdeal.nD Cert.KernelAdaWIdeal.τ).loc Cert.KernelAdaWIdeal.main_arg1) = m ((c.tc : Thread Cert.KernelAdaWIdeal.nD Cert.KernelAdaWIdeal.τ).loc Cert.KernelAdaWIdeal.main_arg1)
          ∧ r.2.mem ((c.tc : Thread Cert.KernelAdaWIdeal.nD Cert.KernelAdaWIdeal.τ).loc Cert.KernelAdaWIdeal.main_arg2) = m ((c.tc : Thread Cert.KernelAdaWIdeal.nD Cert.KernelAdaWIdeal.τ).loc Cert.KernelAdaWIdeal.main_arg2)
          ∧ r.2.mem ((c.tc : Thread Cert.KernelAdaWIdeal.nD Cert.KernelAdaWIdeal.τ).loc Cert.KernelAdaWIdeal.main_arg3) = m ((c.tc : Thread Cert.KernelAdaWIdeal.nD Cert.KernelAdaWIdeal.τ).loc Cert.KernelAdaWIdeal.main_arg3)
          ∧ r.2.mem ((c.tc : Thread Cert.KernelAdaWIdeal.nD Cert.KernelAdaWIdeal.τ).loc Cert.KernelAdaWIdeal.main_arg4) = m ((c.tc : Thread Cert.KernelAdaWIdeal.nD Cert.KernelAdaWIdeal.τ).loc Cert.KernelAdaWIdeal.main_arg4))
      ∧ θ_run (Cert.ReferenceAdaWIdeal.defs (F := Ideal)) (onTc (τ := Cert.ReferenceAdaWIdeal.τ) (Cert.ReferenceAdaWIdeal.main (F := Ideal))) ⟨m', fun _ => 0, g'⟩ (fun r => ∀ c : Dev Cert.ReferenceAdaWIdeal.nD,
          r.2.mem ((c.tc : Thread Cert.ReferenceAdaWIdeal.nD Cert.ReferenceAdaWIdeal.τ).loc Cert.ReferenceAdaWIdeal.main_v2) = v0 c
          ∧ r.2.mem ((c.tc : Thread Cert.ReferenceAdaWIdeal.nD Cert.ReferenceAdaWIdeal.τ).loc Cert.ReferenceAdaWIdeal.main_v27) = v1 c
          ∧ r.2.mem ((c.tc : Thread Cert.ReferenceAdaWIdeal.nD Cert.ReferenceAdaWIdeal.τ).loc Cert.ReferenceAdaWIdeal.main_v28) = v2 c
          ∧ r.2.mem ((c.tc : Thread Cert.ReferenceAdaWIdeal.nD Cert.ReferenceAdaWIdeal.τ).loc Cert.ReferenceAdaWIdeal.main_v29) = v3 c
          ∧ r.2.mem ((c.tc : Thread Cert.ReferenceAdaWIdeal.nD Cert.ReferenceAdaWIdeal.τ).loc Cert.ReferenceAdaWIdeal.main_arg0) = m' ((c.tc : Thread Cert.ReferenceAdaWIdeal.nD Cert.ReferenceAdaWIdeal.τ).loc Cert.ReferenceAdaWIdeal.main_arg0)
          ∧ r.2.mem ((c.tc : Thread Cert.ReferenceAdaWIdeal.nD Cert.ReferenceAdaWIdeal.τ).loc Cert.ReferenceAdaWIdeal.main_arg1) = m' ((c.tc : Thread Cert.ReferenceAdaWIdeal.nD Cert.ReferenceAdaWIdeal.τ).loc Cert.ReferenceAdaWIdeal.main_arg1)
          ∧ r.2.mem ((c.tc : Thread Cert.ReferenceAdaWIdeal.nD Cert.ReferenceAdaWIdeal.τ).loc Cert.ReferenceAdaWIdeal.main_arg2) = m' ((c.tc : Thread Cert.ReferenceAdaWIdeal.nD Cert.ReferenceAdaWIdeal.τ).loc Cert.ReferenceAdaWIdeal.main_arg2)
          ∧ r.2.mem ((c.tc : Thread Cert.ReferenceAdaWIdeal.nD Cert.ReferenceAdaWIdeal.τ).loc Cert.ReferenceAdaWIdeal.main_arg3) = m' ((c.tc : Thread Cert.ReferenceAdaWIdeal.nD Cert.ReferenceAdaWIdeal.τ).loc Cert.ReferenceAdaWIdeal.main_arg3)
          ∧ r.2.mem ((c.tc : Thread Cert.ReferenceAdaWIdeal.nD Cert.ReferenceAdaWIdeal.τ).loc Cert.ReferenceAdaWIdeal.main_arg4) = m' ((c.tc : Thread Cert.ReferenceAdaWIdeal.nD Cert.ReferenceAdaWIdeal.τ).loc Cert.ReferenceAdaWIdeal.main_arg4))

def preserves_KernelAdaDown_KernelAdaDownIdeal : Prop :=
  True

def algebraic_KernelAdaDownIdeal_ReferenceAdaDownIdeal [hKernelAdaDownIdeal : Cert.KernelAdaDownIdeal.Facts] [hReferenceAdaDownIdeal : Cert.ReferenceAdaDownIdeal.Facts] : Prop :=
  ∀ (m : (ℓ : Loc Cert.KernelAdaDownIdeal.nD Cert.KernelAdaDownIdeal.τ Cert.KernelAdaDownIdeal.sig) → Buf (Elt Ideal) ℓ) (g : Dev Cert.KernelAdaDownIdeal.nD → PrngReg)
    (m' : (ℓ : Loc Cert.ReferenceAdaDownIdeal.nD Cert.ReferenceAdaDownIdeal.τ Cert.ReferenceAdaDownIdeal.sig) → Buf (Elt Ideal) ℓ) (g' : Dev Cert.ReferenceAdaDownIdeal.nD → PrngReg), Pre_KernelAdaDownIdeal m →
    (∀ c : Dev Cert.KernelAdaDownIdeal.nD,
      m' ((c.tc : Thread Cert.ReferenceAdaDownIdeal.nD Cert.ReferenceAdaDownIdeal.τ).loc Cert.ReferenceAdaDownIdeal.main_arg0) = m ((c.tc : Thread Cert.KernelAdaDownIdeal.nD Cert.KernelAdaDownIdeal.τ).loc Cert.KernelAdaDownIdeal.main_arg0)
      ∧ m' ((c.tc : Thread Cert.ReferenceAdaDownIdeal.nD Cert.ReferenceAdaDownIdeal.τ).loc Cert.ReferenceAdaDownIdeal.main_arg1) = m ((c.tc : Thread Cert.KernelAdaDownIdeal.nD Cert.KernelAdaDownIdeal.τ).loc Cert.KernelAdaDownIdeal.main_arg1)
      ∧ m' ((c.tc : Thread Cert.ReferenceAdaDownIdeal.nD Cert.ReferenceAdaDownIdeal.τ).loc Cert.ReferenceAdaDownIdeal.main_arg2) = m ((c.tc : Thread Cert.KernelAdaDownIdeal.nD Cert.KernelAdaDownIdeal.τ).loc Cert.KernelAdaDownIdeal.main_arg2)
      ∧ m' ((c.tc : Thread Cert.ReferenceAdaDownIdeal.nD Cert.ReferenceAdaDownIdeal.τ).loc Cert.ReferenceAdaDownIdeal.main_arg3) = m ((c.tc : Thread Cert.KernelAdaDownIdeal.nD Cert.KernelAdaDownIdeal.τ).loc Cert.KernelAdaDownIdeal.main_arg3)
      ∧ m' ((c.tc : Thread Cert.ReferenceAdaDownIdeal.nD Cert.ReferenceAdaDownIdeal.τ).loc Cert.ReferenceAdaDownIdeal.main_arg4) = m ((c.tc : Thread Cert.KernelAdaDownIdeal.nD Cert.KernelAdaDownIdeal.τ).loc Cert.KernelAdaDownIdeal.main_arg4)) →
    ∃ (v0 : (c : Dev Cert.KernelAdaDownIdeal.nD) → Buf (Elt Ideal) ((c.tc : Thread Cert.KernelAdaDownIdeal.nD Cert.KernelAdaDownIdeal.τ).loc Cert.KernelAdaDownIdeal.main_v0_0)) (v1 : (c : Dev Cert.KernelAdaDownIdeal.nD) → Buf (Elt Ideal) ((c.tc : Thread Cert.KernelAdaDownIdeal.nD Cert.KernelAdaDownIdeal.τ).loc Cert.KernelAdaDownIdeal.main_v0_1)) (v2 : (c : Dev Cert.KernelAdaDownIdeal.nD) → Buf (Elt Ideal) ((c.tc : Thread Cert.KernelAdaDownIdeal.nD Cert.KernelAdaDownIdeal.τ).loc Cert.KernelAdaDownIdeal.main_v0_2)) (v3 : (c : Dev Cert.KernelAdaDownIdeal.nD) → Buf (Elt Ideal) ((c.tc : Thread Cert.KernelAdaDownIdeal.nD Cert.KernelAdaDownIdeal.τ).loc Cert.KernelAdaDownIdeal.main_v0_3)),
      θ_run (Cert.KernelAdaDownIdeal.defs (F := Ideal)) (onTc (τ := Cert.KernelAdaDownIdeal.τ) (Cert.KernelAdaDownIdeal.main (F := Ideal))) ⟨m, fun _ => 0, g⟩ (fun r => ∀ c : Dev Cert.KernelAdaDownIdeal.nD,
          r.2.mem ((c.tc : Thread Cert.KernelAdaDownIdeal.nD Cert.KernelAdaDownIdeal.τ).loc Cert.KernelAdaDownIdeal.main_v0_0) = v0 c
          ∧ r.2.mem ((c.tc : Thread Cert.KernelAdaDownIdeal.nD Cert.KernelAdaDownIdeal.τ).loc Cert.KernelAdaDownIdeal.main_v0_1) = v1 c
          ∧ r.2.mem ((c.tc : Thread Cert.KernelAdaDownIdeal.nD Cert.KernelAdaDownIdeal.τ).loc Cert.KernelAdaDownIdeal.main_v0_2) = v2 c
          ∧ r.2.mem ((c.tc : Thread Cert.KernelAdaDownIdeal.nD Cert.KernelAdaDownIdeal.τ).loc Cert.KernelAdaDownIdeal.main_v0_3) = v3 c
          ∧ r.2.mem ((c.tc : Thread Cert.KernelAdaDownIdeal.nD Cert.KernelAdaDownIdeal.τ).loc Cert.KernelAdaDownIdeal.main_arg0) = m ((c.tc : Thread Cert.KernelAdaDownIdeal.nD Cert.KernelAdaDownIdeal.τ).loc Cert.KernelAdaDownIdeal.main_arg0)
          ∧ r.2.mem ((c.tc : Thread Cert.KernelAdaDownIdeal.nD Cert.KernelAdaDownIdeal.τ).loc Cert.KernelAdaDownIdeal.main_arg1) = m ((c.tc : Thread Cert.KernelAdaDownIdeal.nD Cert.KernelAdaDownIdeal.τ).loc Cert.KernelAdaDownIdeal.main_arg1)
          ∧ r.2.mem ((c.tc : Thread Cert.KernelAdaDownIdeal.nD Cert.KernelAdaDownIdeal.τ).loc Cert.KernelAdaDownIdeal.main_arg2) = m ((c.tc : Thread Cert.KernelAdaDownIdeal.nD Cert.KernelAdaDownIdeal.τ).loc Cert.KernelAdaDownIdeal.main_arg2)
          ∧ r.2.mem ((c.tc : Thread Cert.KernelAdaDownIdeal.nD Cert.KernelAdaDownIdeal.τ).loc Cert.KernelAdaDownIdeal.main_arg3) = m ((c.tc : Thread Cert.KernelAdaDownIdeal.nD Cert.KernelAdaDownIdeal.τ).loc Cert.KernelAdaDownIdeal.main_arg3)
          ∧ r.2.mem ((c.tc : Thread Cert.KernelAdaDownIdeal.nD Cert.KernelAdaDownIdeal.τ).loc Cert.KernelAdaDownIdeal.main_arg4) = m ((c.tc : Thread Cert.KernelAdaDownIdeal.nD Cert.KernelAdaDownIdeal.τ).loc Cert.KernelAdaDownIdeal.main_arg4))
      ∧ θ_run (Cert.ReferenceAdaDownIdeal.defs (F := Ideal)) (onTc (τ := Cert.ReferenceAdaDownIdeal.τ) (Cert.ReferenceAdaDownIdeal.main (F := Ideal))) ⟨m', fun _ => 0, g'⟩ (fun r => ∀ c : Dev Cert.ReferenceAdaDownIdeal.nD,
          r.2.mem ((c.tc : Thread Cert.ReferenceAdaDownIdeal.nD Cert.ReferenceAdaDownIdeal.τ).loc Cert.ReferenceAdaDownIdeal.main_v0) = v0 c
          ∧ r.2.mem ((c.tc : Thread Cert.ReferenceAdaDownIdeal.nD Cert.ReferenceAdaDownIdeal.τ).loc Cert.ReferenceAdaDownIdeal.main_v25) = v1 c
          ∧ r.2.mem ((c.tc : Thread Cert.ReferenceAdaDownIdeal.nD Cert.ReferenceAdaDownIdeal.τ).loc Cert.ReferenceAdaDownIdeal.main_v6) = v2 c
          ∧ r.2.mem ((c.tc : Thread Cert.ReferenceAdaDownIdeal.nD Cert.ReferenceAdaDownIdeal.τ).loc Cert.ReferenceAdaDownIdeal.main_v12) = v3 c
          ∧ r.2.mem ((c.tc : Thread Cert.ReferenceAdaDownIdeal.nD Cert.ReferenceAdaDownIdeal.τ).loc Cert.ReferenceAdaDownIdeal.main_arg0) = m' ((c.tc : Thread Cert.ReferenceAdaDownIdeal.nD Cert.ReferenceAdaDownIdeal.τ).loc Cert.ReferenceAdaDownIdeal.main_arg0)
          ∧ r.2.mem ((c.tc : Thread Cert.ReferenceAdaDownIdeal.nD Cert.ReferenceAdaDownIdeal.τ).loc Cert.ReferenceAdaDownIdeal.main_arg1) = m' ((c.tc : Thread Cert.ReferenceAdaDownIdeal.nD Cert.ReferenceAdaDownIdeal.τ).loc Cert.ReferenceAdaDownIdeal.main_arg1)
          ∧ r.2.mem ((c.tc : Thread Cert.ReferenceAdaDownIdeal.nD Cert.ReferenceAdaDownIdeal.τ).loc Cert.ReferenceAdaDownIdeal.main_arg2) = m' ((c.tc : Thread Cert.ReferenceAdaDownIdeal.nD Cert.ReferenceAdaDownIdeal.τ).loc Cert.ReferenceAdaDownIdeal.main_arg2)
          ∧ r.2.mem ((c.tc : Thread Cert.ReferenceAdaDownIdeal.nD Cert.ReferenceAdaDownIdeal.τ).loc Cert.ReferenceAdaDownIdeal.main_arg3) = m' ((c.tc : Thread Cert.ReferenceAdaDownIdeal.nD Cert.ReferenceAdaDownIdeal.τ).loc Cert.ReferenceAdaDownIdeal.main_arg3)
          ∧ r.2.mem ((c.tc : Thread Cert.ReferenceAdaDownIdeal.nD Cert.ReferenceAdaDownIdeal.τ).loc Cert.ReferenceAdaDownIdeal.main_arg4) = m' ((c.tc : Thread Cert.ReferenceAdaDownIdeal.nD Cert.ReferenceAdaDownIdeal.τ).loc Cert.ReferenceAdaDownIdeal.main_arg4))

def preserves_KernelAdaOut_KernelAdaOutIdeal : Prop :=
  True

def algebraic_KernelAdaOutIdeal_ReferenceAdaOutIdeal [hKernelAdaOutIdeal : Cert.KernelAdaOutIdeal.Facts] [hReferenceAdaOutIdeal : Cert.ReferenceAdaOutIdeal.Facts] : Prop :=
  ∀ (m : (ℓ : Loc Cert.KernelAdaOutIdeal.nD Cert.KernelAdaOutIdeal.τ Cert.KernelAdaOutIdeal.sig) → Buf (Elt Ideal) ℓ) (g : Dev Cert.KernelAdaOutIdeal.nD → PrngReg)
    (m' : (ℓ : Loc Cert.ReferenceAdaOutIdeal.nD Cert.ReferenceAdaOutIdeal.τ Cert.ReferenceAdaOutIdeal.sig) → Buf (Elt Ideal) ℓ) (g' : Dev Cert.ReferenceAdaOutIdeal.nD → PrngReg), Pre_KernelAdaOutIdeal m →
    (∀ c : Dev Cert.KernelAdaOutIdeal.nD,
      m' ((c.tc : Thread Cert.ReferenceAdaOutIdeal.nD Cert.ReferenceAdaOutIdeal.τ).loc Cert.ReferenceAdaOutIdeal.main_arg0) = m ((c.tc : Thread Cert.KernelAdaOutIdeal.nD Cert.KernelAdaOutIdeal.τ).loc Cert.KernelAdaOutIdeal.main_arg0)
      ∧ m' ((c.tc : Thread Cert.ReferenceAdaOutIdeal.nD Cert.ReferenceAdaOutIdeal.τ).loc Cert.ReferenceAdaOutIdeal.main_arg1) = m ((c.tc : Thread Cert.KernelAdaOutIdeal.nD Cert.KernelAdaOutIdeal.τ).loc Cert.KernelAdaOutIdeal.main_arg1)
      ∧ m' ((c.tc : Thread Cert.ReferenceAdaOutIdeal.nD Cert.ReferenceAdaOutIdeal.τ).loc Cert.ReferenceAdaOutIdeal.main_arg2) = m ((c.tc : Thread Cert.KernelAdaOutIdeal.nD Cert.KernelAdaOutIdeal.τ).loc Cert.KernelAdaOutIdeal.main_arg2)
      ∧ m' ((c.tc : Thread Cert.ReferenceAdaOutIdeal.nD Cert.ReferenceAdaOutIdeal.τ).loc Cert.ReferenceAdaOutIdeal.main_arg3) = m ((c.tc : Thread Cert.KernelAdaOutIdeal.nD Cert.KernelAdaOutIdeal.τ).loc Cert.KernelAdaOutIdeal.main_arg3)
      ∧ m' ((c.tc : Thread Cert.ReferenceAdaOutIdeal.nD Cert.ReferenceAdaOutIdeal.τ).loc Cert.ReferenceAdaOutIdeal.main_arg4) = m ((c.tc : Thread Cert.KernelAdaOutIdeal.nD Cert.KernelAdaOutIdeal.τ).loc Cert.KernelAdaOutIdeal.main_arg4)) →
    ∃ (v0 : (c : Dev Cert.KernelAdaOutIdeal.nD) → Buf (Elt Ideal) ((c.tc : Thread Cert.KernelAdaOutIdeal.nD Cert.KernelAdaOutIdeal.τ).loc Cert.KernelAdaOutIdeal.main_v0_0)) (v1 : (c : Dev Cert.KernelAdaOutIdeal.nD) → Buf (Elt Ideal) ((c.tc : Thread Cert.KernelAdaOutIdeal.nD Cert.KernelAdaOutIdeal.τ).loc Cert.KernelAdaOutIdeal.main_v0_1)) (v2 : (c : Dev Cert.KernelAdaOutIdeal.nD) → Buf (Elt Ideal) ((c.tc : Thread Cert.KernelAdaOutIdeal.nD Cert.KernelAdaOutIdeal.τ).loc Cert.KernelAdaOutIdeal.main_v0_2)) (v3 : (c : Dev Cert.KernelAdaOutIdeal.nD) → Buf (Elt Ideal) ((c.tc : Thread Cert.KernelAdaOutIdeal.nD Cert.KernelAdaOutIdeal.τ).loc Cert.KernelAdaOutIdeal.main_v0_3)),
      θ_run (Cert.KernelAdaOutIdeal.defs (F := Ideal)) (onTc (τ := Cert.KernelAdaOutIdeal.τ) (Cert.KernelAdaOutIdeal.main (F := Ideal))) ⟨m, fun _ => 0, g⟩ (fun r => ∀ c : Dev Cert.KernelAdaOutIdeal.nD,
          r.2.mem ((c.tc : Thread Cert.KernelAdaOutIdeal.nD Cert.KernelAdaOutIdeal.τ).loc Cert.KernelAdaOutIdeal.main_v0_0) = v0 c
          ∧ r.2.mem ((c.tc : Thread Cert.KernelAdaOutIdeal.nD Cert.KernelAdaOutIdeal.τ).loc Cert.KernelAdaOutIdeal.main_v0_1) = v1 c
          ∧ r.2.mem ((c.tc : Thread Cert.KernelAdaOutIdeal.nD Cert.KernelAdaOutIdeal.τ).loc Cert.KernelAdaOutIdeal.main_v0_2) = v2 c
          ∧ r.2.mem ((c.tc : Thread Cert.KernelAdaOutIdeal.nD Cert.KernelAdaOutIdeal.τ).loc Cert.KernelAdaOutIdeal.main_v0_3) = v3 c
          ∧ r.2.mem ((c.tc : Thread Cert.KernelAdaOutIdeal.nD Cert.KernelAdaOutIdeal.τ).loc Cert.KernelAdaOutIdeal.main_arg0) = m ((c.tc : Thread Cert.KernelAdaOutIdeal.nD Cert.KernelAdaOutIdeal.τ).loc Cert.KernelAdaOutIdeal.main_arg0)
          ∧ r.2.mem ((c.tc : Thread Cert.KernelAdaOutIdeal.nD Cert.KernelAdaOutIdeal.τ).loc Cert.KernelAdaOutIdeal.main_arg1) = m ((c.tc : Thread Cert.KernelAdaOutIdeal.nD Cert.KernelAdaOutIdeal.τ).loc Cert.KernelAdaOutIdeal.main_arg1)
          ∧ r.2.mem ((c.tc : Thread Cert.KernelAdaOutIdeal.nD Cert.KernelAdaOutIdeal.τ).loc Cert.KernelAdaOutIdeal.main_arg2) = m ((c.tc : Thread Cert.KernelAdaOutIdeal.nD Cert.KernelAdaOutIdeal.τ).loc Cert.KernelAdaOutIdeal.main_arg2)
          ∧ r.2.mem ((c.tc : Thread Cert.KernelAdaOutIdeal.nD Cert.KernelAdaOutIdeal.τ).loc Cert.KernelAdaOutIdeal.main_arg3) = m ((c.tc : Thread Cert.KernelAdaOutIdeal.nD Cert.KernelAdaOutIdeal.τ).loc Cert.KernelAdaOutIdeal.main_arg3)
          ∧ r.2.mem ((c.tc : Thread Cert.KernelAdaOutIdeal.nD Cert.KernelAdaOutIdeal.τ).loc Cert.KernelAdaOutIdeal.main_arg4) = m ((c.tc : Thread Cert.KernelAdaOutIdeal.nD Cert.KernelAdaOutIdeal.τ).loc Cert.KernelAdaOutIdeal.main_arg4))
      ∧ θ_run (Cert.ReferenceAdaOutIdeal.defs (F := Ideal)) (onTc (τ := Cert.ReferenceAdaOutIdeal.τ) (Cert.ReferenceAdaOutIdeal.main (F := Ideal))) ⟨m', fun _ => 0, g'⟩ (fun r => ∀ c : Dev Cert.ReferenceAdaOutIdeal.nD,
          r.2.mem ((c.tc : Thread Cert.ReferenceAdaOutIdeal.nD Cert.ReferenceAdaOutIdeal.τ).loc Cert.ReferenceAdaOutIdeal.main_v0) = v0 c
          ∧ r.2.mem ((c.tc : Thread Cert.ReferenceAdaOutIdeal.nD Cert.ReferenceAdaOutIdeal.τ).loc Cert.ReferenceAdaOutIdeal.main_v25) = v1 c
          ∧ r.2.mem ((c.tc : Thread Cert.ReferenceAdaOutIdeal.nD Cert.ReferenceAdaOutIdeal.τ).loc Cert.ReferenceAdaOutIdeal.main_v6) = v2 c
          ∧ r.2.mem ((c.tc : Thread Cert.ReferenceAdaOutIdeal.nD Cert.ReferenceAdaOutIdeal.τ).loc Cert.ReferenceAdaOutIdeal.main_v12) = v3 c
          ∧ r.2.mem ((c.tc : Thread Cert.ReferenceAdaOutIdeal.nD Cert.ReferenceAdaOutIdeal.τ).loc Cert.ReferenceAdaOutIdeal.main_arg0) = m' ((c.tc : Thread Cert.ReferenceAdaOutIdeal.nD Cert.ReferenceAdaOutIdeal.τ).loc Cert.ReferenceAdaOutIdeal.main_arg0)
          ∧ r.2.mem ((c.tc : Thread Cert.ReferenceAdaOutIdeal.nD Cert.ReferenceAdaOutIdeal.τ).loc Cert.ReferenceAdaOutIdeal.main_arg1) = m' ((c.tc : Thread Cert.ReferenceAdaOutIdeal.nD Cert.ReferenceAdaOutIdeal.τ).loc Cert.ReferenceAdaOutIdeal.main_arg1)
          ∧ r.2.mem ((c.tc : Thread Cert.ReferenceAdaOutIdeal.nD Cert.ReferenceAdaOutIdeal.τ).loc Cert.ReferenceAdaOutIdeal.main_arg2) = m' ((c.tc : Thread Cert.ReferenceAdaOutIdeal.nD Cert.ReferenceAdaOutIdeal.τ).loc Cert.ReferenceAdaOutIdeal.main_arg2)
          ∧ r.2.mem ((c.tc : Thread Cert.ReferenceAdaOutIdeal.nD Cert.ReferenceAdaOutIdeal.τ).loc Cert.ReferenceAdaOutIdeal.main_arg3) = m' ((c.tc : Thread Cert.ReferenceAdaOutIdeal.nD Cert.ReferenceAdaOutIdeal.τ).loc Cert.ReferenceAdaOutIdeal.main_arg3)
          ∧ r.2.mem ((c.tc : Thread Cert.ReferenceAdaOutIdeal.nD Cert.ReferenceAdaOutIdeal.τ).loc Cert.ReferenceAdaOutIdeal.main_arg4) = m' ((c.tc : Thread Cert.ReferenceAdaOutIdeal.nD Cert.ReferenceAdaOutIdeal.τ).loc Cert.ReferenceAdaOutIdeal.main_arg4))

def preserves_KernelAdaKvb_KernelAdaKvbIdeal : Prop :=
  True

def algebraic_KernelAdaKvbIdeal_ReferenceAdaKvbIdeal [hKernelAdaKvbIdeal : Cert.KernelAdaKvbIdeal.Facts] [hReferenceAdaKvbIdeal : Cert.ReferenceAdaKvbIdeal.Facts] : Prop :=
  ∀ (m : (ℓ : Loc Cert.KernelAdaKvbIdeal.nD Cert.KernelAdaKvbIdeal.τ Cert.KernelAdaKvbIdeal.sig) → Buf (Elt Ideal) ℓ) (g : Dev Cert.KernelAdaKvbIdeal.nD → PrngReg)
    (m' : (ℓ : Loc Cert.ReferenceAdaKvbIdeal.nD Cert.ReferenceAdaKvbIdeal.τ Cert.ReferenceAdaKvbIdeal.sig) → Buf (Elt Ideal) ℓ) (g' : Dev Cert.ReferenceAdaKvbIdeal.nD → PrngReg), Pre_KernelAdaKvbIdeal m →
    (∀ c : Dev Cert.KernelAdaKvbIdeal.nD,
      m' ((c.tc : Thread Cert.ReferenceAdaKvbIdeal.nD Cert.ReferenceAdaKvbIdeal.τ).loc Cert.ReferenceAdaKvbIdeal.main_arg0) = m ((c.tc : Thread Cert.KernelAdaKvbIdeal.nD Cert.KernelAdaKvbIdeal.τ).loc Cert.KernelAdaKvbIdeal.main_arg0)
      ∧ m' ((c.tc : Thread Cert.ReferenceAdaKvbIdeal.nD Cert.ReferenceAdaKvbIdeal.τ).loc Cert.ReferenceAdaKvbIdeal.main_arg1) = m ((c.tc : Thread Cert.KernelAdaKvbIdeal.nD Cert.KernelAdaKvbIdeal.τ).loc Cert.KernelAdaKvbIdeal.main_arg1)
      ∧ m' ((c.tc : Thread Cert.ReferenceAdaKvbIdeal.nD Cert.ReferenceAdaKvbIdeal.τ).loc Cert.ReferenceAdaKvbIdeal.main_arg2) = m ((c.tc : Thread Cert.KernelAdaKvbIdeal.nD Cert.KernelAdaKvbIdeal.τ).loc Cert.KernelAdaKvbIdeal.main_arg2)
      ∧ m' ((c.tc : Thread Cert.ReferenceAdaKvbIdeal.nD Cert.ReferenceAdaKvbIdeal.τ).loc Cert.ReferenceAdaKvbIdeal.main_arg3) = m ((c.tc : Thread Cert.KernelAdaKvbIdeal.nD Cert.KernelAdaKvbIdeal.τ).loc Cert.KernelAdaKvbIdeal.main_arg3)
      ∧ m' ((c.tc : Thread Cert.ReferenceAdaKvbIdeal.nD Cert.ReferenceAdaKvbIdeal.τ).loc Cert.ReferenceAdaKvbIdeal.main_arg4) = m ((c.tc : Thread Cert.KernelAdaKvbIdeal.nD Cert.KernelAdaKvbIdeal.τ).loc Cert.KernelAdaKvbIdeal.main_arg4)) →
    ∃ (v0 : (c : Dev Cert.KernelAdaKvbIdeal.nD) → Buf (Elt Ideal) ((c.tc : Thread Cert.KernelAdaKvbIdeal.nD Cert.KernelAdaKvbIdeal.τ).loc Cert.KernelAdaKvbIdeal.main_v0_0)) (v1 : (c : Dev Cert.KernelAdaKvbIdeal.nD) → Buf (Elt Ideal) ((c.tc : Thread Cert.KernelAdaKvbIdeal.nD Cert.KernelAdaKvbIdeal.τ).loc Cert.KernelAdaKvbIdeal.main_v0_1)) (v2 : (c : Dev Cert.KernelAdaKvbIdeal.nD) → Buf (Elt Ideal) ((c.tc : Thread Cert.KernelAdaKvbIdeal.nD Cert.KernelAdaKvbIdeal.τ).loc Cert.KernelAdaKvbIdeal.main_v0_2)) (v3 : (c : Dev Cert.KernelAdaKvbIdeal.nD) → Buf (Elt Ideal) ((c.tc : Thread Cert.KernelAdaKvbIdeal.nD Cert.KernelAdaKvbIdeal.τ).loc Cert.KernelAdaKvbIdeal.main_v0_3)),
      θ_run (Cert.KernelAdaKvbIdeal.defs (F := Ideal)) (onTc (τ := Cert.KernelAdaKvbIdeal.τ) (Cert.KernelAdaKvbIdeal.main (F := Ideal))) ⟨m, fun _ => 0, g⟩ (fun r => ∀ c : Dev Cert.KernelAdaKvbIdeal.nD,
          r.2.mem ((c.tc : Thread Cert.KernelAdaKvbIdeal.nD Cert.KernelAdaKvbIdeal.τ).loc Cert.KernelAdaKvbIdeal.main_v0_0) = v0 c
          ∧ r.2.mem ((c.tc : Thread Cert.KernelAdaKvbIdeal.nD Cert.KernelAdaKvbIdeal.τ).loc Cert.KernelAdaKvbIdeal.main_v0_1) = v1 c
          ∧ r.2.mem ((c.tc : Thread Cert.KernelAdaKvbIdeal.nD Cert.KernelAdaKvbIdeal.τ).loc Cert.KernelAdaKvbIdeal.main_v0_2) = v2 c
          ∧ r.2.mem ((c.tc : Thread Cert.KernelAdaKvbIdeal.nD Cert.KernelAdaKvbIdeal.τ).loc Cert.KernelAdaKvbIdeal.main_v0_3) = v3 c
          ∧ r.2.mem ((c.tc : Thread Cert.KernelAdaKvbIdeal.nD Cert.KernelAdaKvbIdeal.τ).loc Cert.KernelAdaKvbIdeal.main_arg0) = m ((c.tc : Thread Cert.KernelAdaKvbIdeal.nD Cert.KernelAdaKvbIdeal.τ).loc Cert.KernelAdaKvbIdeal.main_arg0)
          ∧ r.2.mem ((c.tc : Thread Cert.KernelAdaKvbIdeal.nD Cert.KernelAdaKvbIdeal.τ).loc Cert.KernelAdaKvbIdeal.main_arg1) = m ((c.tc : Thread Cert.KernelAdaKvbIdeal.nD Cert.KernelAdaKvbIdeal.τ).loc Cert.KernelAdaKvbIdeal.main_arg1)
          ∧ r.2.mem ((c.tc : Thread Cert.KernelAdaKvbIdeal.nD Cert.KernelAdaKvbIdeal.τ).loc Cert.KernelAdaKvbIdeal.main_arg2) = m ((c.tc : Thread Cert.KernelAdaKvbIdeal.nD Cert.KernelAdaKvbIdeal.τ).loc Cert.KernelAdaKvbIdeal.main_arg2)
          ∧ r.2.mem ((c.tc : Thread Cert.KernelAdaKvbIdeal.nD Cert.KernelAdaKvbIdeal.τ).loc Cert.KernelAdaKvbIdeal.main_arg3) = m ((c.tc : Thread Cert.KernelAdaKvbIdeal.nD Cert.KernelAdaKvbIdeal.τ).loc Cert.KernelAdaKvbIdeal.main_arg3)
          ∧ r.2.mem ((c.tc : Thread Cert.KernelAdaKvbIdeal.nD Cert.KernelAdaKvbIdeal.τ).loc Cert.KernelAdaKvbIdeal.main_arg4) = m ((c.tc : Thread Cert.KernelAdaKvbIdeal.nD Cert.KernelAdaKvbIdeal.τ).loc Cert.KernelAdaKvbIdeal.main_arg4))
      ∧ θ_run (Cert.ReferenceAdaKvbIdeal.defs (F := Ideal)) (onTc (τ := Cert.ReferenceAdaKvbIdeal.τ) (Cert.ReferenceAdaKvbIdeal.main (F := Ideal))) ⟨m', fun _ => 0, g'⟩ (fun r => ∀ c : Dev Cert.ReferenceAdaKvbIdeal.nD,
          r.2.mem ((c.tc : Thread Cert.ReferenceAdaKvbIdeal.nD Cert.ReferenceAdaKvbIdeal.τ).loc Cert.ReferenceAdaKvbIdeal.main_v0) = v0 c
          ∧ r.2.mem ((c.tc : Thread Cert.ReferenceAdaKvbIdeal.nD Cert.ReferenceAdaKvbIdeal.τ).loc Cert.ReferenceAdaKvbIdeal.main_v25) = v1 c
          ∧ r.2.mem ((c.tc : Thread Cert.ReferenceAdaKvbIdeal.nD Cert.ReferenceAdaKvbIdeal.τ).loc Cert.ReferenceAdaKvbIdeal.main_v6) = v2 c
          ∧ r.2.mem ((c.tc : Thread Cert.ReferenceAdaKvbIdeal.nD Cert.ReferenceAdaKvbIdeal.τ).loc Cert.ReferenceAdaKvbIdeal.main_v12) = v3 c
          ∧ r.2.mem ((c.tc : Thread Cert.ReferenceAdaKvbIdeal.nD Cert.ReferenceAdaKvbIdeal.τ).loc Cert.ReferenceAdaKvbIdeal.main_arg0) = m' ((c.tc : Thread Cert.ReferenceAdaKvbIdeal.nD Cert.ReferenceAdaKvbIdeal.τ).loc Cert.ReferenceAdaKvbIdeal.main_arg0)
          ∧ r.2.mem ((c.tc : Thread Cert.ReferenceAdaKvbIdeal.nD Cert.ReferenceAdaKvbIdeal.τ).loc Cert.ReferenceAdaKvbIdeal.main_arg1) = m' ((c.tc : Thread Cert.ReferenceAdaKvbIdeal.nD Cert.ReferenceAdaKvbIdeal.τ).loc Cert.ReferenceAdaKvbIdeal.main_arg1)
          ∧ r.2.mem ((c.tc : Thread Cert.ReferenceAdaKvbIdeal.nD Cert.ReferenceAdaKvbIdeal.τ).loc Cert.ReferenceAdaKvbIdeal.main_arg2) = m' ((c.tc : Thread Cert.ReferenceAdaKvbIdeal.nD Cert.ReferenceAdaKvbIdeal.τ).loc Cert.ReferenceAdaKvbIdeal.main_arg2)
          ∧ r.2.mem ((c.tc : Thread Cert.ReferenceAdaKvbIdeal.nD Cert.ReferenceAdaKvbIdeal.τ).loc Cert.ReferenceAdaKvbIdeal.main_arg3) = m' ((c.tc : Thread Cert.ReferenceAdaKvbIdeal.nD Cert.ReferenceAdaKvbIdeal.τ).loc Cert.ReferenceAdaKvbIdeal.main_arg3)
          ∧ r.2.mem ((c.tc : Thread Cert.ReferenceAdaKvbIdeal.nD Cert.ReferenceAdaKvbIdeal.τ).loc Cert.ReferenceAdaKvbIdeal.main_arg4) = m' ((c.tc : Thread Cert.ReferenceAdaKvbIdeal.nD Cert.ReferenceAdaKvbIdeal.τ).loc Cert.ReferenceAdaKvbIdeal.main_arg4))

def preserves_KernelAdaIn_KernelAdaInIdeal : Prop :=
  True

def algebraic_KernelAdaInIdeal_ReferenceAdaInIdeal [hKernelAdaInIdeal : Cert.KernelAdaInIdeal.Facts] [hReferenceAdaInIdeal : Cert.ReferenceAdaInIdeal.Facts] : Prop :=
  ∀ (m : (ℓ : Loc Cert.KernelAdaInIdeal.nD Cert.KernelAdaInIdeal.τ Cert.KernelAdaInIdeal.sig) → Buf (Elt Ideal) ℓ) (g : Dev Cert.KernelAdaInIdeal.nD → PrngReg)
    (m' : (ℓ : Loc Cert.ReferenceAdaInIdeal.nD Cert.ReferenceAdaInIdeal.τ Cert.ReferenceAdaInIdeal.sig) → Buf (Elt Ideal) ℓ) (g' : Dev Cert.ReferenceAdaInIdeal.nD → PrngReg), Pre_KernelAdaInIdeal m →
    (∀ c : Dev Cert.KernelAdaInIdeal.nD,
      m' ((c.tc : Thread Cert.ReferenceAdaInIdeal.nD Cert.ReferenceAdaInIdeal.τ).loc Cert.ReferenceAdaInIdeal.main_arg0) = m ((c.tc : Thread Cert.KernelAdaInIdeal.nD Cert.KernelAdaInIdeal.τ).loc Cert.KernelAdaInIdeal.main_arg0)
      ∧ m' ((c.tc : Thread Cert.ReferenceAdaInIdeal.nD Cert.ReferenceAdaInIdeal.τ).loc Cert.ReferenceAdaInIdeal.main_arg1) = m ((c.tc : Thread Cert.KernelAdaInIdeal.nD Cert.KernelAdaInIdeal.τ).loc Cert.KernelAdaInIdeal.main_arg1)
      ∧ m' ((c.tc : Thread Cert.ReferenceAdaInIdeal.nD Cert.ReferenceAdaInIdeal.τ).loc Cert.ReferenceAdaInIdeal.main_arg2) = m ((c.tc : Thread Cert.KernelAdaInIdeal.nD Cert.KernelAdaInIdeal.τ).loc Cert.KernelAdaInIdeal.main_arg2)
      ∧ m' ((c.tc : Thread Cert.ReferenceAdaInIdeal.nD Cert.ReferenceAdaInIdeal.τ).loc Cert.ReferenceAdaInIdeal.main_arg3) = m ((c.tc : Thread Cert.KernelAdaInIdeal.nD Cert.KernelAdaInIdeal.τ).loc Cert.KernelAdaInIdeal.main_arg3)
      ∧ m' ((c.tc : Thread Cert.ReferenceAdaInIdeal.nD Cert.ReferenceAdaInIdeal.τ).loc Cert.ReferenceAdaInIdeal.main_arg4) = m ((c.tc : Thread Cert.KernelAdaInIdeal.nD Cert.KernelAdaInIdeal.τ).loc Cert.KernelAdaInIdeal.main_arg4)) →
    ∃ (v0 : (c : Dev Cert.KernelAdaInIdeal.nD) → Buf (Elt Ideal) ((c.tc : Thread Cert.KernelAdaInIdeal.nD Cert.KernelAdaInIdeal.τ).loc Cert.KernelAdaInIdeal.main_v3_0)) (v1 : (c : Dev Cert.KernelAdaInIdeal.nD) → Buf (Elt Ideal) ((c.tc : Thread Cert.KernelAdaInIdeal.nD Cert.KernelAdaInIdeal.τ).loc Cert.KernelAdaInIdeal.main_v3_1)) (v2 : (c : Dev Cert.KernelAdaInIdeal.nD) → Buf (Elt Ideal) ((c.tc : Thread Cert.KernelAdaInIdeal.nD Cert.KernelAdaInIdeal.τ).loc Cert.KernelAdaInIdeal.main_v3_2)) (v3 : (c : Dev Cert.KernelAdaInIdeal.nD) → Buf (Elt Ideal) ((c.tc : Thread Cert.KernelAdaInIdeal.nD Cert.KernelAdaInIdeal.τ).loc Cert.KernelAdaInIdeal.main_v3_3)),
      θ_run (Cert.KernelAdaInIdeal.defs (F := Ideal)) (onTc (τ := Cert.KernelAdaInIdeal.τ) (Cert.KernelAdaInIdeal.main (F := Ideal))) ⟨m, fun _ => 0, g⟩ (fun r => ∀ c : Dev Cert.KernelAdaInIdeal.nD,
          r.2.mem ((c.tc : Thread Cert.KernelAdaInIdeal.nD Cert.KernelAdaInIdeal.τ).loc Cert.KernelAdaInIdeal.main_v3_0) = v0 c
          ∧ r.2.mem ((c.tc : Thread Cert.KernelAdaInIdeal.nD Cert.KernelAdaInIdeal.τ).loc Cert.KernelAdaInIdeal.main_v3_1) = v1 c
          ∧ r.2.mem ((c.tc : Thread Cert.KernelAdaInIdeal.nD Cert.KernelAdaInIdeal.τ).loc Cert.KernelAdaInIdeal.main_v3_2) = v2 c
          ∧ r.2.mem ((c.tc : Thread Cert.KernelAdaInIdeal.nD Cert.KernelAdaInIdeal.τ).loc Cert.KernelAdaInIdeal.main_v3_3) = v3 c
          ∧ r.2.mem ((c.tc : Thread Cert.KernelAdaInIdeal.nD Cert.KernelAdaInIdeal.τ).loc Cert.KernelAdaInIdeal.main_arg0) = m ((c.tc : Thread Cert.KernelAdaInIdeal.nD Cert.KernelAdaInIdeal.τ).loc Cert.KernelAdaInIdeal.main_arg0)
          ∧ r.2.mem ((c.tc : Thread Cert.KernelAdaInIdeal.nD Cert.KernelAdaInIdeal.τ).loc Cert.KernelAdaInIdeal.main_arg1) = m ((c.tc : Thread Cert.KernelAdaInIdeal.nD Cert.KernelAdaInIdeal.τ).loc Cert.KernelAdaInIdeal.main_arg1)
          ∧ r.2.mem ((c.tc : Thread Cert.KernelAdaInIdeal.nD Cert.KernelAdaInIdeal.τ).loc Cert.KernelAdaInIdeal.main_arg2) = m ((c.tc : Thread Cert.KernelAdaInIdeal.nD Cert.KernelAdaInIdeal.τ).loc Cert.KernelAdaInIdeal.main_arg2)
          ∧ r.2.mem ((c.tc : Thread Cert.KernelAdaInIdeal.nD Cert.KernelAdaInIdeal.τ).loc Cert.KernelAdaInIdeal.main_arg3) = m ((c.tc : Thread Cert.KernelAdaInIdeal.nD Cert.KernelAdaInIdeal.τ).loc Cert.KernelAdaInIdeal.main_arg3)
          ∧ r.2.mem ((c.tc : Thread Cert.KernelAdaInIdeal.nD Cert.KernelAdaInIdeal.τ).loc Cert.KernelAdaInIdeal.main_arg4) = m ((c.tc : Thread Cert.KernelAdaInIdeal.nD Cert.KernelAdaInIdeal.τ).loc Cert.KernelAdaInIdeal.main_arg4))
      ∧ θ_run (Cert.ReferenceAdaInIdeal.defs (F := Ideal)) (onTc (τ := Cert.ReferenceAdaInIdeal.τ) (Cert.ReferenceAdaInIdeal.main (F := Ideal))) ⟨m', fun _ => 0, g'⟩ (fun r => ∀ c : Dev Cert.ReferenceAdaInIdeal.nD,
          r.2.mem ((c.tc : Thread Cert.ReferenceAdaInIdeal.nD Cert.ReferenceAdaInIdeal.τ).loc Cert.ReferenceAdaInIdeal.main_v2) = v0 c
          ∧ r.2.mem ((c.tc : Thread Cert.ReferenceAdaInIdeal.nD Cert.ReferenceAdaInIdeal.τ).loc Cert.ReferenceAdaInIdeal.main_v27) = v1 c
          ∧ r.2.mem ((c.tc : Thread Cert.ReferenceAdaInIdeal.nD Cert.ReferenceAdaInIdeal.τ).loc Cert.ReferenceAdaInIdeal.main_v28) = v2 c
          ∧ r.2.mem ((c.tc : Thread Cert.ReferenceAdaInIdeal.nD Cert.ReferenceAdaInIdeal.τ).loc Cert.ReferenceAdaInIdeal.main_v29) = v3 c
          ∧ r.2.mem ((c.tc : Thread Cert.ReferenceAdaInIdeal.nD Cert.ReferenceAdaInIdeal.τ).loc Cert.ReferenceAdaInIdeal.main_arg0) = m' ((c.tc : Thread Cert.ReferenceAdaInIdeal.nD Cert.ReferenceAdaInIdeal.τ).loc Cert.ReferenceAdaInIdeal.main_arg0)
          ∧ r.2.mem ((c.tc : Thread Cert.ReferenceAdaInIdeal.nD Cert.ReferenceAdaInIdeal.τ).loc Cert.ReferenceAdaInIdeal.main_arg1) = m' ((c.tc : Thread Cert.ReferenceAdaInIdeal.nD Cert.ReferenceAdaInIdeal.τ).loc Cert.ReferenceAdaInIdeal.main_arg1)
          ∧ r.2.mem ((c.tc : Thread Cert.ReferenceAdaInIdeal.nD Cert.ReferenceAdaInIdeal.τ).loc Cert.ReferenceAdaInIdeal.main_arg2) = m' ((c.tc : Thread Cert.ReferenceAdaInIdeal.nD Cert.ReferenceAdaInIdeal.τ).loc Cert.ReferenceAdaInIdeal.main_arg2)
          ∧ r.2.mem ((c.tc : Thread Cert.ReferenceAdaInIdeal.nD Cert.ReferenceAdaInIdeal.τ).loc Cert.ReferenceAdaInIdeal.main_arg3) = m' ((c.tc : Thread Cert.ReferenceAdaInIdeal.nD Cert.ReferenceAdaInIdeal.τ).loc Cert.ReferenceAdaInIdeal.main_arg3)
          ∧ r.2.mem ((c.tc : Thread Cert.ReferenceAdaInIdeal.nD Cert.ReferenceAdaInIdeal.τ).loc Cert.ReferenceAdaInIdeal.main_arg4) = m' ((c.tc : Thread Cert.ReferenceAdaInIdeal.nD Cert.ReferenceAdaInIdeal.τ).loc Cert.ReferenceAdaInIdeal.main_arg4))

def preserves_KernelAdaQb_KernelAdaQbIdeal : Prop :=
  True

def algebraic_KernelAdaQbIdeal_ReferenceAdaQbIdeal [hKernelAdaQbIdeal : Cert.KernelAdaQbIdeal.Facts] [hReferenceAdaQbIdeal : Cert.ReferenceAdaQbIdeal.Facts] : Prop :=
  ∀ (m : (ℓ : Loc Cert.KernelAdaQbIdeal.nD Cert.KernelAdaQbIdeal.τ Cert.KernelAdaQbIdeal.sig) → Buf (Elt Ideal) ℓ) (g : Dev Cert.KernelAdaQbIdeal.nD → PrngReg)
    (m' : (ℓ : Loc Cert.ReferenceAdaQbIdeal.nD Cert.ReferenceAdaQbIdeal.τ Cert.ReferenceAdaQbIdeal.sig) → Buf (Elt Ideal) ℓ) (g' : Dev Cert.ReferenceAdaQbIdeal.nD → PrngReg), Pre_KernelAdaQbIdeal m →
    (∀ c : Dev Cert.KernelAdaQbIdeal.nD,
      m' ((c.tc : Thread Cert.ReferenceAdaQbIdeal.nD Cert.ReferenceAdaQbIdeal.τ).loc Cert.ReferenceAdaQbIdeal.main_arg0) = m ((c.tc : Thread Cert.KernelAdaQbIdeal.nD Cert.KernelAdaQbIdeal.τ).loc Cert.KernelAdaQbIdeal.main_arg0)
      ∧ m' ((c.tc : Thread Cert.ReferenceAdaQbIdeal.nD Cert.ReferenceAdaQbIdeal.τ).loc Cert.ReferenceAdaQbIdeal.main_arg1) = m ((c.tc : Thread Cert.KernelAdaQbIdeal.nD Cert.KernelAdaQbIdeal.τ).loc Cert.KernelAdaQbIdeal.main_arg1)
      ∧ m' ((c.tc : Thread Cert.ReferenceAdaQbIdeal.nD Cert.ReferenceAdaQbIdeal.τ).loc Cert.ReferenceAdaQbIdeal.main_arg2) = m ((c.tc : Thread Cert.KernelAdaQbIdeal.nD Cert.KernelAdaQbIdeal.τ).loc Cert.KernelAdaQbIdeal.main_arg2)
      ∧ m' ((c.tc : Thread Cert.ReferenceAdaQbIdeal.nD Cert.ReferenceAdaQbIdeal.τ).loc Cert.ReferenceAdaQbIdeal.main_arg3) = m ((c.tc : Thread Cert.KernelAdaQbIdeal.nD Cert.KernelAdaQbIdeal.τ).loc Cert.KernelAdaQbIdeal.main_arg3)
      ∧ m' ((c.tc : Thread Cert.ReferenceAdaQbIdeal.nD Cert.ReferenceAdaQbIdeal.τ).loc Cert.ReferenceAdaQbIdeal.main_arg4) = m ((c.tc : Thread Cert.KernelAdaQbIdeal.nD Cert.KernelAdaQbIdeal.τ).loc Cert.KernelAdaQbIdeal.main_arg4)) →
    ∃ (v0 : (c : Dev Cert.KernelAdaQbIdeal.nD) → Buf (Elt Ideal) ((c.tc : Thread Cert.KernelAdaQbIdeal.nD Cert.KernelAdaQbIdeal.τ).loc Cert.KernelAdaQbIdeal.main_v3_0)) (v1 : (c : Dev Cert.KernelAdaQbIdeal.nD) → Buf (Elt Ideal) ((c.tc : Thread Cert.KernelAdaQbIdeal.nD Cert.KernelAdaQbIdeal.τ).loc Cert.KernelAdaQbIdeal.main_v3_1)) (v2 : (c : Dev Cert.KernelAdaQbIdeal.nD) → Buf (Elt Ideal) ((c.tc : Thread Cert.KernelAdaQbIdeal.nD Cert.KernelAdaQbIdeal.τ).loc Cert.KernelAdaQbIdeal.main_v3_2)) (v3 : (c : Dev Cert.KernelAdaQbIdeal.nD) → Buf (Elt Ideal) ((c.tc : Thread Cert.KernelAdaQbIdeal.nD Cert.KernelAdaQbIdeal.τ).loc Cert.KernelAdaQbIdeal.main_v3_3)),
      θ_run (Cert.KernelAdaQbIdeal.defs (F := Ideal)) (onTc (τ := Cert.KernelAdaQbIdeal.τ) (Cert.KernelAdaQbIdeal.main (F := Ideal))) ⟨m, fun _ => 0, g⟩ (fun r => ∀ c : Dev Cert.KernelAdaQbIdeal.nD,
          r.2.mem ((c.tc : Thread Cert.KernelAdaQbIdeal.nD Cert.KernelAdaQbIdeal.τ).loc Cert.KernelAdaQbIdeal.main_v3_0) = v0 c
          ∧ r.2.mem ((c.tc : Thread Cert.KernelAdaQbIdeal.nD Cert.KernelAdaQbIdeal.τ).loc Cert.KernelAdaQbIdeal.main_v3_1) = v1 c
          ∧ r.2.mem ((c.tc : Thread Cert.KernelAdaQbIdeal.nD Cert.KernelAdaQbIdeal.τ).loc Cert.KernelAdaQbIdeal.main_v3_2) = v2 c
          ∧ r.2.mem ((c.tc : Thread Cert.KernelAdaQbIdeal.nD Cert.KernelAdaQbIdeal.τ).loc Cert.KernelAdaQbIdeal.main_v3_3) = v3 c
          ∧ r.2.mem ((c.tc : Thread Cert.KernelAdaQbIdeal.nD Cert.KernelAdaQbIdeal.τ).loc Cert.KernelAdaQbIdeal.main_arg0) = m ((c.tc : Thread Cert.KernelAdaQbIdeal.nD Cert.KernelAdaQbIdeal.τ).loc Cert.KernelAdaQbIdeal.main_arg0)
          ∧ r.2.mem ((c.tc : Thread Cert.KernelAdaQbIdeal.nD Cert.KernelAdaQbIdeal.τ).loc Cert.KernelAdaQbIdeal.main_arg1) = m ((c.tc : Thread Cert.KernelAdaQbIdeal.nD Cert.KernelAdaQbIdeal.τ).loc Cert.KernelAdaQbIdeal.main_arg1)
          ∧ r.2.mem ((c.tc : Thread Cert.KernelAdaQbIdeal.nD Cert.KernelAdaQbIdeal.τ).loc Cert.KernelAdaQbIdeal.main_arg2) = m ((c.tc : Thread Cert.KernelAdaQbIdeal.nD Cert.KernelAdaQbIdeal.τ).loc Cert.KernelAdaQbIdeal.main_arg2)
          ∧ r.2.mem ((c.tc : Thread Cert.KernelAdaQbIdeal.nD Cert.KernelAdaQbIdeal.τ).loc Cert.KernelAdaQbIdeal.main_arg3) = m ((c.tc : Thread Cert.KernelAdaQbIdeal.nD Cert.KernelAdaQbIdeal.τ).loc Cert.KernelAdaQbIdeal.main_arg3)
          ∧ r.2.mem ((c.tc : Thread Cert.KernelAdaQbIdeal.nD Cert.KernelAdaQbIdeal.τ).loc Cert.KernelAdaQbIdeal.main_arg4) = m ((c.tc : Thread Cert.KernelAdaQbIdeal.nD Cert.KernelAdaQbIdeal.τ).loc Cert.KernelAdaQbIdeal.main_arg4))
      ∧ θ_run (Cert.ReferenceAdaQbIdeal.defs (F := Ideal)) (onTc (τ := Cert.ReferenceAdaQbIdeal.τ) (Cert.ReferenceAdaQbIdeal.main (F := Ideal))) ⟨m', fun _ => 0, g'⟩ (fun r => ∀ c : Dev Cert.ReferenceAdaQbIdeal.nD,
          r.2.mem ((c.tc : Thread Cert.ReferenceAdaQbIdeal.nD Cert.ReferenceAdaQbIdeal.τ).loc Cert.ReferenceAdaQbIdeal.main_v2) = v0 c
          ∧ r.2.mem ((c.tc : Thread Cert.ReferenceAdaQbIdeal.nD Cert.ReferenceAdaQbIdeal.τ).loc Cert.ReferenceAdaQbIdeal.main_v27) = v1 c
          ∧ r.2.mem ((c.tc : Thread Cert.ReferenceAdaQbIdeal.nD Cert.ReferenceAdaQbIdeal.τ).loc Cert.ReferenceAdaQbIdeal.main_v28) = v2 c
          ∧ r.2.mem ((c.tc : Thread Cert.ReferenceAdaQbIdeal.nD Cert.ReferenceAdaQbIdeal.τ).loc Cert.ReferenceAdaQbIdeal.main_v29) = v3 c
          ∧ r.2.mem ((c.tc : Thread Cert.ReferenceAdaQbIdeal.nD Cert.ReferenceAdaQbIdeal.τ).loc Cert.ReferenceAdaQbIdeal.main_arg0) = m' ((c.tc : Thread Cert.ReferenceAdaQbIdeal.nD Cert.ReferenceAdaQbIdeal.τ).loc Cert.ReferenceAdaQbIdeal.main_arg0)
          ∧ r.2.mem ((c.tc : Thread Cert.ReferenceAdaQbIdeal.nD Cert.ReferenceAdaQbIdeal.τ).loc Cert.ReferenceAdaQbIdeal.main_arg1) = m' ((c.tc : Thread Cert.ReferenceAdaQbIdeal.nD Cert.ReferenceAdaQbIdeal.τ).loc Cert.ReferenceAdaQbIdeal.main_arg1)
          ∧ r.2.mem ((c.tc : Thread Cert.ReferenceAdaQbIdeal.nD Cert.ReferenceAdaQbIdeal.τ).loc Cert.ReferenceAdaQbIdeal.main_arg2) = m' ((c.tc : Thread Cert.ReferenceAdaQbIdeal.nD Cert.ReferenceAdaQbIdeal.τ).loc Cert.ReferenceAdaQbIdeal.main_arg2)
          ∧ r.2.mem ((c.tc : Thread Cert.ReferenceAdaQbIdeal.nD Cert.ReferenceAdaQbIdeal.τ).loc Cert.ReferenceAdaQbIdeal.main_arg3) = m' ((c.tc : Thread Cert.ReferenceAdaQbIdeal.nD Cert.ReferenceAdaQbIdeal.τ).loc Cert.ReferenceAdaQbIdeal.main_arg3)
          ∧ r.2.mem ((c.tc : Thread Cert.ReferenceAdaQbIdeal.nD Cert.ReferenceAdaQbIdeal.τ).loc Cert.ReferenceAdaQbIdeal.main_arg4) = m' ((c.tc : Thread Cert.ReferenceAdaQbIdeal.nD Cert.ReferenceAdaQbIdeal.τ).loc Cert.ReferenceAdaQbIdeal.main_arg4))

def preserves_KernelAdaSmall_KernelAdaSmallIdeal : Prop :=
  True

def algebraic_KernelAdaSmallIdeal_ReferenceAdaSmallIdeal [hKernelAdaSmallIdeal : Cert.KernelAdaSmallIdeal.Facts] [hReferenceAdaSmallIdeal : Cert.ReferenceAdaSmallIdeal.Facts] : Prop :=
  ∀ (m : (ℓ : Loc Cert.KernelAdaSmallIdeal.nD Cert.KernelAdaSmallIdeal.τ Cert.KernelAdaSmallIdeal.sig) → Buf (Elt Ideal) ℓ) (g : Dev Cert.KernelAdaSmallIdeal.nD → PrngReg)
    (m' : (ℓ : Loc Cert.ReferenceAdaSmallIdeal.nD Cert.ReferenceAdaSmallIdeal.τ Cert.ReferenceAdaSmallIdeal.sig) → Buf (Elt Ideal) ℓ) (g' : Dev Cert.ReferenceAdaSmallIdeal.nD → PrngReg), Pre_KernelAdaSmallIdeal m →
    (∀ c : Dev Cert.KernelAdaSmallIdeal.nD,
      m' ((c.tc : Thread Cert.ReferenceAdaSmallIdeal.nD Cert.ReferenceAdaSmallIdeal.τ).loc Cert.ReferenceAdaSmallIdeal.main_arg0) = m ((c.tc : Thread Cert.KernelAdaSmallIdeal.nD Cert.KernelAdaSmallIdeal.τ).loc Cert.KernelAdaSmallIdeal.main_arg0)
      ∧ m' ((c.tc : Thread Cert.ReferenceAdaSmallIdeal.nD Cert.ReferenceAdaSmallIdeal.τ).loc Cert.ReferenceAdaSmallIdeal.main_arg1) = m ((c.tc : Thread Cert.KernelAdaSmallIdeal.nD Cert.KernelAdaSmallIdeal.τ).loc Cert.KernelAdaSmallIdeal.main_arg1)
      ∧ m' ((c.tc : Thread Cert.ReferenceAdaSmallIdeal.nD Cert.ReferenceAdaSmallIdeal.τ).loc Cert.ReferenceAdaSmallIdeal.main_arg2) = m ((c.tc : Thread Cert.KernelAdaSmallIdeal.nD Cert.KernelAdaSmallIdeal.τ).loc Cert.KernelAdaSmallIdeal.main_arg2)
      ∧ m' ((c.tc : Thread Cert.ReferenceAdaSmallIdeal.nD Cert.ReferenceAdaSmallIdeal.τ).loc Cert.ReferenceAdaSmallIdeal.main_arg3) = m ((c.tc : Thread Cert.KernelAdaSmallIdeal.nD Cert.KernelAdaSmallIdeal.τ).loc Cert.KernelAdaSmallIdeal.main_arg3)) →
    ∃ (v0 : (c : Dev Cert.KernelAdaSmallIdeal.nD) → Buf (Elt Ideal) ((c.tc : Thread Cert.KernelAdaSmallIdeal.nD Cert.KernelAdaSmallIdeal.τ).loc Cert.KernelAdaSmallIdeal.main_v0_0)) (v1 : (c : Dev Cert.KernelAdaSmallIdeal.nD) → Buf (Elt Ideal) ((c.tc : Thread Cert.KernelAdaSmallIdeal.nD Cert.KernelAdaSmallIdeal.τ).loc Cert.KernelAdaSmallIdeal.main_v0_1)) (v2 : (c : Dev Cert.KernelAdaSmallIdeal.nD) → Buf (Elt Ideal) ((c.tc : Thread Cert.KernelAdaSmallIdeal.nD Cert.KernelAdaSmallIdeal.τ).loc Cert.KernelAdaSmallIdeal.main_v0_2)) (v3 : (c : Dev Cert.KernelAdaSmallIdeal.nD) → Buf (Elt Ideal) ((c.tc : Thread Cert.KernelAdaSmallIdeal.nD Cert.KernelAdaSmallIdeal.τ).loc Cert.KernelAdaSmallIdeal.main_v0_3)),
      θ_run (Cert.KernelAdaSmallIdeal.defs (F := Ideal)) (onTc (τ := Cert.KernelAdaSmallIdeal.τ) (Cert.KernelAdaSmallIdeal.main (F := Ideal))) ⟨m, fun _ => 0, g⟩ (fun r => ∀ c : Dev Cert.KernelAdaSmallIdeal.nD,
          r.2.mem ((c.tc : Thread Cert.KernelAdaSmallIdeal.nD Cert.KernelAdaSmallIdeal.τ).loc Cert.KernelAdaSmallIdeal.main_v0_0) = v0 c
          ∧ r.2.mem ((c.tc : Thread Cert.KernelAdaSmallIdeal.nD Cert.KernelAdaSmallIdeal.τ).loc Cert.KernelAdaSmallIdeal.main_v0_1) = v1 c
          ∧ r.2.mem ((c.tc : Thread Cert.KernelAdaSmallIdeal.nD Cert.KernelAdaSmallIdeal.τ).loc Cert.KernelAdaSmallIdeal.main_v0_2) = v2 c
          ∧ r.2.mem ((c.tc : Thread Cert.KernelAdaSmallIdeal.nD Cert.KernelAdaSmallIdeal.τ).loc Cert.KernelAdaSmallIdeal.main_v0_3) = v3 c
          ∧ r.2.mem ((c.tc : Thread Cert.KernelAdaSmallIdeal.nD Cert.KernelAdaSmallIdeal.τ).loc Cert.KernelAdaSmallIdeal.main_arg0) = m ((c.tc : Thread Cert.KernelAdaSmallIdeal.nD Cert.KernelAdaSmallIdeal.τ).loc Cert.KernelAdaSmallIdeal.main_arg0)
          ∧ r.2.mem ((c.tc : Thread Cert.KernelAdaSmallIdeal.nD Cert.KernelAdaSmallIdeal.τ).loc Cert.KernelAdaSmallIdeal.main_arg1) = m ((c.tc : Thread Cert.KernelAdaSmallIdeal.nD Cert.KernelAdaSmallIdeal.τ).loc Cert.KernelAdaSmallIdeal.main_arg1)
          ∧ r.2.mem ((c.tc : Thread Cert.KernelAdaSmallIdeal.nD Cert.KernelAdaSmallIdeal.τ).loc Cert.KernelAdaSmallIdeal.main_arg2) = m ((c.tc : Thread Cert.KernelAdaSmallIdeal.nD Cert.KernelAdaSmallIdeal.τ).loc Cert.KernelAdaSmallIdeal.main_arg2)
          ∧ r.2.mem ((c.tc : Thread Cert.KernelAdaSmallIdeal.nD Cert.KernelAdaSmallIdeal.τ).loc Cert.KernelAdaSmallIdeal.main_arg3) = m ((c.tc : Thread Cert.KernelAdaSmallIdeal.nD Cert.KernelAdaSmallIdeal.τ).loc Cert.KernelAdaSmallIdeal.main_arg3))
      ∧ θ_run (Cert.ReferenceAdaSmallIdeal.defs (F := Ideal)) (onTc (τ := Cert.ReferenceAdaSmallIdeal.τ) (Cert.ReferenceAdaSmallIdeal.main (F := Ideal))) ⟨m', fun _ => 0, g'⟩ (fun r => ∀ c : Dev Cert.ReferenceAdaSmallIdeal.nD,
          r.2.mem ((c.tc : Thread Cert.ReferenceAdaSmallIdeal.nD Cert.ReferenceAdaSmallIdeal.τ).loc Cert.ReferenceAdaSmallIdeal.main_arg3) = v0 c
          ∧ r.2.mem ((c.tc : Thread Cert.ReferenceAdaSmallIdeal.nD Cert.ReferenceAdaSmallIdeal.τ).loc Cert.ReferenceAdaSmallIdeal.main_v23) = v1 c
          ∧ r.2.mem ((c.tc : Thread Cert.ReferenceAdaSmallIdeal.nD Cert.ReferenceAdaSmallIdeal.τ).loc Cert.ReferenceAdaSmallIdeal.main_v4) = v2 c
          ∧ r.2.mem ((c.tc : Thread Cert.ReferenceAdaSmallIdeal.nD Cert.ReferenceAdaSmallIdeal.τ).loc Cert.ReferenceAdaSmallIdeal.main_v10) = v3 c
          ∧ r.2.mem ((c.tc : Thread Cert.ReferenceAdaSmallIdeal.nD Cert.ReferenceAdaSmallIdeal.τ).loc Cert.ReferenceAdaSmallIdeal.main_arg0) = m' ((c.tc : Thread Cert.ReferenceAdaSmallIdeal.nD Cert.ReferenceAdaSmallIdeal.τ).loc Cert.ReferenceAdaSmallIdeal.main_arg0)
          ∧ r.2.mem ((c.tc : Thread Cert.ReferenceAdaSmallIdeal.nD Cert.ReferenceAdaSmallIdeal.τ).loc Cert.ReferenceAdaSmallIdeal.main_arg1) = m' ((c.tc : Thread Cert.ReferenceAdaSmallIdeal.nD Cert.ReferenceAdaSmallIdeal.τ).loc Cert.ReferenceAdaSmallIdeal.main_arg1)
          ∧ r.2.mem ((c.tc : Thread Cert.ReferenceAdaSmallIdeal.nD Cert.ReferenceAdaSmallIdeal.τ).loc Cert.ReferenceAdaSmallIdeal.main_arg2) = m' ((c.tc : Thread Cert.ReferenceAdaSmallIdeal.nD Cert.ReferenceAdaSmallIdeal.τ).loc Cert.ReferenceAdaSmallIdeal.main_arg2)
          ∧ r.2.mem ((c.tc : Thread Cert.ReferenceAdaSmallIdeal.nD Cert.ReferenceAdaSmallIdeal.τ).loc Cert.ReferenceAdaSmallIdeal.main_arg3) = m' ((c.tc : Thread Cert.ReferenceAdaSmallIdeal.nD Cert.ReferenceAdaSmallIdeal.τ).loc Cert.ReferenceAdaSmallIdeal.main_arg3))

def preserves_KernelOutFwd_KernelOutFwdIdeal : Prop :=
  True

def algebraic_KernelOutFwdIdeal_ReferenceOutFwdIdeal_pre_finite_out_fwd [hKernelOutFwdIdeal : Cert.KernelOutFwdIdeal.Facts] [hReferenceOutFwdIdeal : Cert.ReferenceOutFwdIdeal.Facts] [hPre_finite_out_fwd : Cert.Pre_finite_out_fwd.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal_finite_out_fwd m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)
      ∧ m' ((c.tc : Thread Cert.ReferenceOutFwdIdeal.nD Cert.ReferenceOutFwdIdeal.τ).loc Cert.ReferenceOutFwdIdeal.main_arg3) = m ((c.tc : Thread Cert.KernelOutFwdIdeal.nD Cert.KernelOutFwdIdeal.τ).loc Cert.KernelOutFwdIdeal.main_arg3)
      ∧ m' ((c.tc : Thread Cert.ReferenceOutFwdIdeal.nD Cert.ReferenceOutFwdIdeal.τ).loc Cert.ReferenceOutFwdIdeal.main_arg4) = m ((c.tc : Thread Cert.KernelOutFwdIdeal.nD Cert.KernelOutFwdIdeal.τ).loc Cert.KernelOutFwdIdeal.main_arg4)
      ∧ m' ((c.tc : Thread Cert.ReferenceOutFwdIdeal.nD Cert.ReferenceOutFwdIdeal.τ).loc Cert.ReferenceOutFwdIdeal.main_arg5) = m ((c.tc : Thread Cert.KernelOutFwdIdeal.nD Cert.KernelOutFwdIdeal.τ).loc Cert.KernelOutFwdIdeal.main_arg5)
      ∧ m' ((c.tc : Thread Cert.ReferenceOutFwdIdeal.nD Cert.ReferenceOutFwdIdeal.τ).loc Cert.ReferenceOutFwdIdeal.main_arg6) = m ((c.tc : Thread Cert.KernelOutFwdIdeal.nD Cert.KernelOutFwdIdeal.τ).loc Cert.KernelOutFwdIdeal.main_arg6)
      ∧ m' ((c.tc : Thread Cert.ReferenceOutFwdIdeal.nD Cert.ReferenceOutFwdIdeal.τ).loc Cert.ReferenceOutFwdIdeal.main_arg7) = m ((c.tc : Thread Cert.KernelOutFwdIdeal.nD Cert.KernelOutFwdIdeal.τ).loc Cert.KernelOutFwdIdeal.main_arg7)
      ∧ m' ((c.tc : Thread Cert.ReferenceOutFwdIdeal.nD Cert.ReferenceOutFwdIdeal.τ).loc Cert.ReferenceOutFwdIdeal.main_arg8) = m ((c.tc : Thread Cert.KernelOutFwdIdeal.nD Cert.KernelOutFwdIdeal.τ).loc Cert.KernelOutFwdIdeal.main_arg8)) →
    ∃ (v0 : (c : Dev Cert.KernelOutFwdIdeal.nD) → Buf (Elt Ideal) ((c.tc : Thread Cert.KernelOutFwdIdeal.nD Cert.KernelOutFwdIdeal.τ).loc Cert.KernelOutFwdIdeal.main_v4_0)) (v1 : (c : Dev Cert.KernelOutFwdIdeal.nD) → Buf (Elt Ideal) ((c.tc : Thread Cert.KernelOutFwdIdeal.nD Cert.KernelOutFwdIdeal.τ).loc Cert.KernelOutFwdIdeal.main_v4_1)) (v2 : (c : Dev Cert.KernelOutFwdIdeal.nD) → Buf (Elt Ideal) ((c.tc : Thread Cert.KernelOutFwdIdeal.nD Cert.KernelOutFwdIdeal.τ).loc Cert.KernelOutFwdIdeal.main_v4_2)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v4_0) = v0 c
          ∧ r.2.mem ((c.tc : Thread Cert.KernelOutFwdIdeal.nD Cert.KernelOutFwdIdeal.τ).loc Cert.KernelOutFwdIdeal.main_v4_1) = v1 c
          ∧ r.2.mem ((c.tc : Thread Cert.KernelOutFwdIdeal.nD Cert.KernelOutFwdIdeal.τ).loc Cert.KernelOutFwdIdeal.main_v4_2) = v2 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2)
          ∧ r.2.mem ((c.tc : Thread Cert.KernelOutFwdIdeal.nD Cert.KernelOutFwdIdeal.τ).loc Cert.KernelOutFwdIdeal.main_arg3) = m ((c.tc : Thread Cert.KernelOutFwdIdeal.nD Cert.KernelOutFwdIdeal.τ).loc Cert.KernelOutFwdIdeal.main_arg3)
          ∧ r.2.mem ((c.tc : Thread Cert.KernelOutFwdIdeal.nD Cert.KernelOutFwdIdeal.τ).loc Cert.KernelOutFwdIdeal.main_arg4) = m ((c.tc : Thread Cert.KernelOutFwdIdeal.nD Cert.KernelOutFwdIdeal.τ).loc Cert.KernelOutFwdIdeal.main_arg4)
          ∧ r.2.mem ((c.tc : Thread Cert.KernelOutFwdIdeal.nD Cert.KernelOutFwdIdeal.τ).loc Cert.KernelOutFwdIdeal.main_arg5) = m ((c.tc : Thread Cert.KernelOutFwdIdeal.nD Cert.KernelOutFwdIdeal.τ).loc Cert.KernelOutFwdIdeal.main_arg5)
          ∧ r.2.mem ((c.tc : Thread Cert.KernelOutFwdIdeal.nD Cert.KernelOutFwdIdeal.τ).loc Cert.KernelOutFwdIdeal.main_arg6) = m ((c.tc : Thread Cert.KernelOutFwdIdeal.nD Cert.KernelOutFwdIdeal.τ).loc Cert.KernelOutFwdIdeal.main_arg6)
          ∧ r.2.mem ((c.tc : Thread Cert.KernelOutFwdIdeal.nD Cert.KernelOutFwdIdeal.τ).loc Cert.KernelOutFwdIdeal.main_arg7) = m ((c.tc : Thread Cert.KernelOutFwdIdeal.nD Cert.KernelOutFwdIdeal.τ).loc Cert.KernelOutFwdIdeal.main_arg7)
          ∧ r.2.mem ((c.tc : Thread Cert.KernelOutFwdIdeal.nD Cert.KernelOutFwdIdeal.τ).loc Cert.KernelOutFwdIdeal.main_arg8) = m ((c.tc : Thread Cert.KernelOutFwdIdeal.nD Cert.KernelOutFwdIdeal.τ).loc Cert.KernelOutFwdIdeal.main_arg8))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v34) = v0 c
          ∧ r.2.mem ((c.tc : Thread Cert.ReferenceOutFwdIdeal.nD Cert.ReferenceOutFwdIdeal.τ).loc Cert.ReferenceOutFwdIdeal.main_v33) = v1 c
          ∧ r.2.mem ((c.tc : Thread Cert.ReferenceOutFwdIdeal.nD Cert.ReferenceOutFwdIdeal.τ).loc Cert.ReferenceOutFwdIdeal.main_v48) = v2 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2)
          ∧ r.2.mem ((c.tc : Thread Cert.ReferenceOutFwdIdeal.nD Cert.ReferenceOutFwdIdeal.τ).loc Cert.ReferenceOutFwdIdeal.main_arg3) = m' ((c.tc : Thread Cert.ReferenceOutFwdIdeal.nD Cert.ReferenceOutFwdIdeal.τ).loc Cert.ReferenceOutFwdIdeal.main_arg3)
          ∧ r.2.mem ((c.tc : Thread Cert.ReferenceOutFwdIdeal.nD Cert.ReferenceOutFwdIdeal.τ).loc Cert.ReferenceOutFwdIdeal.main_arg4) = m' ((c.tc : Thread Cert.ReferenceOutFwdIdeal.nD Cert.ReferenceOutFwdIdeal.τ).loc Cert.ReferenceOutFwdIdeal.main_arg4)
          ∧ r.2.mem ((c.tc : Thread Cert.ReferenceOutFwdIdeal.nD Cert.ReferenceOutFwdIdeal.τ).loc Cert.ReferenceOutFwdIdeal.main_arg5) = m' ((c.tc : Thread Cert.ReferenceOutFwdIdeal.nD Cert.ReferenceOutFwdIdeal.τ).loc Cert.ReferenceOutFwdIdeal.main_arg5)
          ∧ r.2.mem ((c.tc : Thread Cert.ReferenceOutFwdIdeal.nD Cert.ReferenceOutFwdIdeal.τ).loc Cert.ReferenceOutFwdIdeal.main_arg6) = m' ((c.tc : Thread Cert.ReferenceOutFwdIdeal.nD Cert.ReferenceOutFwdIdeal.τ).loc Cert.ReferenceOutFwdIdeal.main_arg6)
          ∧ r.2.mem ((c.tc : Thread Cert.ReferenceOutFwdIdeal.nD Cert.ReferenceOutFwdIdeal.τ).loc Cert.ReferenceOutFwdIdeal.main_arg7) = m' ((c.tc : Thread Cert.ReferenceOutFwdIdeal.nD Cert.ReferenceOutFwdIdeal.τ).loc Cert.ReferenceOutFwdIdeal.main_arg7)
          ∧ r.2.mem ((c.tc : Thread Cert.ReferenceOutFwdIdeal.nD Cert.ReferenceOutFwdIdeal.τ).loc Cert.ReferenceOutFwdIdeal.main_arg8) = m' ((c.tc : Thread Cert.ReferenceOutFwdIdeal.nD Cert.ReferenceOutFwdIdeal.τ).loc Cert.ReferenceOutFwdIdeal.main_arg8))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)
      ∧ m' ((c.tc : Thread Cert.ReferencePrepIdeal.nD Cert.ReferencePrepIdeal.τ).loc Cert.ReferencePrepIdeal.main_arg6) = m ((c.tc : Thread Cert.KernelPrepIdeal.nD Cert.KernelPrepIdeal.τ).loc Cert.KernelPrepIdeal.main_arg6)
      ∧ m' ((c.tc : Thread Cert.ReferencePrepIdeal.nD Cert.ReferencePrepIdeal.τ).loc Cert.ReferencePrepIdeal.main_arg7) = m ((c.tc : Thread Cert.KernelPrepIdeal.nD Cert.KernelPrepIdeal.τ).loc Cert.KernelPrepIdeal.main_arg7)
      ∧ m' ((c.tc : Thread Cert.ReferencePrepIdeal.nD Cert.ReferencePrepIdeal.τ).loc Cert.ReferencePrepIdeal.main_arg8) = m ((c.tc : Thread Cert.KernelPrepIdeal.nD Cert.KernelPrepIdeal.τ).loc Cert.KernelPrepIdeal.main_arg8)) →
    ∃ (v0 : (c : Dev Cert.KernelPrepIdeal.nD) → Buf (Elt Ideal) ((c.tc : Thread Cert.KernelPrepIdeal.nD Cert.KernelPrepIdeal.τ).loc Cert.KernelPrepIdeal.main_v19_0)) (v1 : (c : Dev Cert.KernelPrepIdeal.nD) → Buf (Elt Ideal) ((c.tc : Thread Cert.KernelPrepIdeal.nD Cert.KernelPrepIdeal.τ).loc Cert.KernelPrepIdeal.main_v19_1)) (v2 : (c : Dev Cert.KernelPrepIdeal.nD) → Buf (Elt Ideal) ((c.tc : Thread Cert.KernelPrepIdeal.nD Cert.KernelPrepIdeal.τ).loc Cert.KernelPrepIdeal.main_v19_2)) (v3 : (c : Dev Cert.KernelPrepIdeal.nD) → Buf (Elt Ideal) ((c.tc : Thread Cert.KernelPrepIdeal.nD Cert.KernelPrepIdeal.τ).loc Cert.KernelPrepIdeal.main_v19_3)) (v4 : (c : Dev Cert.KernelPrepIdeal.nD) → Buf (Elt Ideal) ((c.tc : Thread Cert.KernelPrepIdeal.nD Cert.KernelPrepIdeal.τ).loc Cert.KernelPrepIdeal.main_v19_4)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v19_0) = v0 c
          ∧ r.2.mem ((c.tc : Thread Cert.KernelPrepIdeal.nD Cert.KernelPrepIdeal.τ).loc Cert.KernelPrepIdeal.main_v19_1) = v1 c
          ∧ r.2.mem ((c.tc : Thread Cert.KernelPrepIdeal.nD Cert.KernelPrepIdeal.τ).loc Cert.KernelPrepIdeal.main_v19_2) = v2 c
          ∧ r.2.mem ((c.tc : Thread Cert.KernelPrepIdeal.nD Cert.KernelPrepIdeal.τ).loc Cert.KernelPrepIdeal.main_v19_3) = v3 c
          ∧ r.2.mem ((c.tc : Thread Cert.KernelPrepIdeal.nD Cert.KernelPrepIdeal.τ).loc Cert.KernelPrepIdeal.main_v19_4) = v4 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
          ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
          ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
          ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v71) = v0 c
          ∧ r.2.mem ((c.tc : Thread Cert.ReferencePrepIdeal.nD Cert.ReferencePrepIdeal.τ).loc Cert.ReferencePrepIdeal.main_v72) = v1 c
          ∧ r.2.mem ((c.tc : Thread Cert.ReferencePrepIdeal.nD Cert.ReferencePrepIdeal.τ).loc Cert.ReferencePrepIdeal.main_v74) = v2 c
          ∧ r.2.mem ((c.tc : Thread Cert.ReferencePrepIdeal.nD Cert.ReferencePrepIdeal.τ).loc Cert.ReferencePrepIdeal.main_v75) = v3 c
          ∧ r.2.mem ((c.tc : Thread Cert.ReferencePrepIdeal.nD Cert.ReferencePrepIdeal.τ).loc Cert.ReferencePrepIdeal.main_v76) = v4 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
          ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
          ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
          ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8))

def preserves_KernelPrepBwd_KernelPrepBwdIdeal : Prop :=
  True

def algebraic_KernelPrepBwdIdeal_ReferencePrepBwdIdeal_pre_finite_mla_prep_bwd [hKernelPrepBwdIdeal : Cert.KernelPrepBwdIdeal.Facts] [hReferencePrepBwdIdeal : Cert.ReferencePrepBwdIdeal.Facts] [hPre_finite_mla_prep_bwd : Cert.Pre_finite_mla_prep_bwd.Facts] : Prop :=
  ∀ (m : (ℓ : Loc Cert.KernelPrepBwdIdeal.nD Cert.KernelPrepBwdIdeal.τ Cert.KernelPrepBwdIdeal.sig) → Buf (Elt Ideal) ℓ) (g : Dev Cert.KernelPrepBwdIdeal.nD → PrngReg)
    (m' : (ℓ : Loc Cert.ReferencePrepBwdIdeal.nD Cert.ReferencePrepBwdIdeal.τ Cert.ReferencePrepBwdIdeal.sig) → Buf (Elt Ideal) ℓ) (g' : Dev Cert.ReferencePrepBwdIdeal.nD → PrngReg), Pre_KernelPrepBwdIdeal_finite_mla_prep_bwd m →
    (∀ c : Dev Cert.KernelPrepBwdIdeal.nD,
      m' ((c.tc : Thread Cert.ReferencePrepBwdIdeal.nD Cert.ReferencePrepBwdIdeal.τ).loc Cert.ReferencePrepBwdIdeal.main_arg0) = m ((c.tc : Thread Cert.KernelPrepBwdIdeal.nD Cert.KernelPrepBwdIdeal.τ).loc Cert.KernelPrepBwdIdeal.main_arg0)
      ∧ m' ((c.tc : Thread Cert.ReferencePrepBwdIdeal.nD Cert.ReferencePrepBwdIdeal.τ).loc Cert.ReferencePrepBwdIdeal.main_arg1) = m ((c.tc : Thread Cert.KernelPrepBwdIdeal.nD Cert.KernelPrepBwdIdeal.τ).loc Cert.KernelPrepBwdIdeal.main_arg1)
      ∧ m' ((c.tc : Thread Cert.ReferencePrepBwdIdeal.nD Cert.ReferencePrepBwdIdeal.τ).loc Cert.ReferencePrepBwdIdeal.main_arg2) = m ((c.tc : Thread Cert.KernelPrepBwdIdeal.nD Cert.KernelPrepBwdIdeal.τ).loc Cert.KernelPrepBwdIdeal.main_arg2)
      ∧ m' ((c.tc : Thread Cert.ReferencePrepBwdIdeal.nD Cert.ReferencePrepBwdIdeal.τ).loc Cert.ReferencePrepBwdIdeal.main_arg3) = m ((c.tc : Thread Cert.KernelPrepBwdIdeal.nD Cert.KernelPrepBwdIdeal.τ).loc Cert.KernelPrepBwdIdeal.main_arg3)
      ∧ m' ((c.tc : Thread Cert.ReferencePrepBwdIdeal.nD Cert.ReferencePrepBwdIdeal.τ).loc Cert.ReferencePrepBwdIdeal.main_arg4) = m ((c.tc : Thread Cert.KernelPrepBwdIdeal.nD Cert.KernelPrepBwdIdeal.τ).loc Cert.KernelPrepBwdIdeal.main_arg4)
      ∧ m' ((c.tc : Thread Cert.ReferencePrepBwdIdeal.nD Cert.ReferencePrepBwdIdeal.τ).loc Cert.ReferencePrepBwdIdeal.main_arg5) = m ((c.tc : Thread Cert.KernelPrepBwdIdeal.nD Cert.KernelPrepBwdIdeal.τ).loc Cert.KernelPrepBwdIdeal.main_arg5)
      ∧ m' ((c.tc : Thread Cert.ReferencePrepBwdIdeal.nD Cert.ReferencePrepBwdIdeal.τ).loc Cert.ReferencePrepBwdIdeal.main_arg6) = m ((c.tc : Thread Cert.KernelPrepBwdIdeal.nD Cert.KernelPrepBwdIdeal.τ).loc Cert.KernelPrepBwdIdeal.main_arg6)
      ∧ m' ((c.tc : Thread Cert.ReferencePrepBwdIdeal.nD Cert.ReferencePrepBwdIdeal.τ).loc Cert.ReferencePrepBwdIdeal.main_arg7) = m ((c.tc : Thread Cert.KernelPrepBwdIdeal.nD Cert.KernelPrepBwdIdeal.τ).loc Cert.KernelPrepBwdIdeal.main_arg7)
      ∧ m' ((c.tc : Thread Cert.ReferencePrepBwdIdeal.nD Cert.ReferencePrepBwdIdeal.τ).loc Cert.ReferencePrepBwdIdeal.main_arg8) = m ((c.tc : Thread Cert.KernelPrepBwdIdeal.nD Cert.KernelPrepBwdIdeal.τ).loc Cert.KernelPrepBwdIdeal.main_arg8)
      ∧ m' ((c.tc : Thread Cert.ReferencePrepBwdIdeal.nD Cert.ReferencePrepBwdIdeal.τ).loc Cert.ReferencePrepBwdIdeal.main_arg9) = m ((c.tc : Thread Cert.KernelPrepBwdIdeal.nD Cert.KernelPrepBwdIdeal.τ).loc Cert.KernelPrepBwdIdeal.main_arg9)
      ∧ m' ((c.tc : Thread Cert.ReferencePrepBwdIdeal.nD Cert.ReferencePrepBwdIdeal.τ).loc Cert.ReferencePrepBwdIdeal.main_arg10) = m ((c.tc : Thread Cert.KernelPrepBwdIdeal.nD Cert.KernelPrepBwdIdeal.τ).loc Cert.KernelPrepBwdIdeal.main_arg10)) →
    ∃ (v0 : (c : Dev Cert.KernelPrepBwdIdeal.nD) → Buf (Elt Ideal) ((c.tc : Thread Cert.KernelPrepBwdIdeal.nD Cert.KernelPrepBwdIdeal.τ).loc Cert.KernelPrepBwdIdeal.main_v19_0)) (v1 : (c : Dev Cert.KernelPrepBwdIdeal.nD) → Buf (Elt Ideal) ((c.tc : Thread Cert.KernelPrepBwdIdeal.nD Cert.KernelPrepBwdIdeal.τ).loc Cert.KernelPrepBwdIdeal.main_v19_1)) (v2 : (c : Dev Cert.KernelPrepBwdIdeal.nD) → Buf (Elt Ideal) ((c.tc : Thread Cert.KernelPrepBwdIdeal.nD Cert.KernelPrepBwdIdeal.τ).loc Cert.KernelPrepBwdIdeal.main_v19_2)) (v3 : (c : Dev Cert.KernelPrepBwdIdeal.nD) → Buf (Elt Ideal) ((c.tc : Thread Cert.KernelPrepBwdIdeal.nD Cert.KernelPrepBwdIdeal.τ).loc Cert.KernelPrepBwdIdeal.main_v19_3)) (v4 : (c : Dev Cert.KernelPrepBwdIdeal.nD) → Buf (Elt Ideal) ((c.tc : Thread Cert.KernelPrepBwdIdeal.nD Cert.KernelPrepBwdIdeal.τ).loc Cert.KernelPrepBwdIdeal.main_v19_4)) (v5 : (c : Dev Cert.KernelPrepBwdIdeal.nD) → Buf (Elt Ideal) ((c.tc : Thread Cert.KernelPrepBwdIdeal.nD Cert.KernelPrepBwdIdeal.τ).loc Cert.KernelPrepBwdIdeal.main_v19_5)) (v6 : (c : Dev Cert.KernelPrepBwdIdeal.nD) → Buf (Elt Ideal) ((c.tc : Thread Cert.KernelPrepBwdIdeal.nD Cert.KernelPrepBwdIdeal.τ).loc Cert.KernelPrepBwdIdeal.main_v19_6)),
      θ_run (Cert.KernelPrepBwdIdeal.defs (F := Ideal)) (onTc (τ := Cert.KernelPrepBwdIdeal.τ) (Cert.KernelPrepBwdIdeal.main (F := Ideal))) ⟨m, fun _ => 0, g⟩ (fun r => ∀ c : Dev Cert.KernelPrepBwdIdeal.nD,
          r.2.mem ((c.tc : Thread Cert.KernelPrepBwdIdeal.nD Cert.KernelPrepBwdIdeal.τ).loc Cert.KernelPrepBwdIdeal.main_v19_0) = v0 c
          ∧ r.2.mem ((c.tc : Thread Cert.KernelPrepBwdIdeal.nD Cert.KernelPrepBwdIdeal.τ).loc Cert.KernelPrepBwdIdeal.main_v19_1) = v1 c
          ∧ r.2.mem ((c.tc : Thread Cert.KernelPrepBwdIdeal.nD Cert.KernelPrepBwdIdeal.τ).loc Cert.KernelPrepBwdIdeal.main_v19_2) = v2 c
          ∧ r.2.mem ((c.tc : Thread Cert.KernelPrepBwdIdeal.nD Cert.KernelPrepBwdIdeal.τ).loc Cert.KernelPrepBwdIdeal.main_v19_3) = v3 c
          ∧ r.2.mem ((c.tc : Thread Cert.KernelPrepBwdIdeal.nD Cert.KernelPrepBwdIdeal.τ).loc Cert.KernelPrepBwdIdeal.main_v19_4) = v4 c
          ∧ r.2.mem ((c.tc : Thread Cert.KernelPrepBwdIdeal.nD Cert.KernelPrepBwdIdeal.τ).loc Cert.KernelPrepBwdIdeal.main_v19_5) = v5 c
          ∧ r.2.mem ((c.tc : Thread Cert.KernelPrepBwdIdeal.nD Cert.KernelPrepBwdIdeal.τ).loc Cert.KernelPrepBwdIdeal.main_v19_6) = v6 c
          ∧ r.2.mem ((c.tc : Thread Cert.KernelPrepBwdIdeal.nD Cert.KernelPrepBwdIdeal.τ).loc Cert.KernelPrepBwdIdeal.main_arg0) = m ((c.tc : Thread Cert.KernelPrepBwdIdeal.nD Cert.KernelPrepBwdIdeal.τ).loc Cert.KernelPrepBwdIdeal.main_arg0)
          ∧ r.2.mem ((c.tc : Thread Cert.KernelPrepBwdIdeal.nD Cert.KernelPrepBwdIdeal.τ).loc Cert.KernelPrepBwdIdeal.main_arg1) = m ((c.tc : Thread Cert.KernelPrepBwdIdeal.nD Cert.KernelPrepBwdIdeal.τ).loc Cert.KernelPrepBwdIdeal.main_arg1)
          ∧ r.2.mem ((c.tc : Thread Cert.KernelPrepBwdIdeal.nD Cert.KernelPrepBwdIdeal.τ).loc Cert.KernelPrepBwdIdeal.main_arg2) = m ((c.tc : Thread Cert.KernelPrepBwdIdeal.nD Cert.KernelPrepBwdIdeal.τ).loc Cert.KernelPrepBwdIdeal.main_arg2)
          ∧ r.2.mem ((c.tc : Thread Cert.KernelPrepBwdIdeal.nD Cert.KernelPrepBwdIdeal.τ).loc Cert.KernelPrepBwdIdeal.main_arg3) = m ((c.tc : Thread Cert.KernelPrepBwdIdeal.nD Cert.KernelPrepBwdIdeal.τ).loc Cert.KernelPrepBwdIdeal.main_arg3)
          ∧ r.2.mem ((c.tc : Thread Cert.KernelPrepBwdIdeal.nD Cert.KernelPrepBwdIdeal.τ).loc Cert.KernelPrepBwdIdeal.main_arg4) = m ((c.tc : Thread Cert.KernelPrepBwdIdeal.nD Cert.KernelPrepBwdIdeal.τ).loc Cert.KernelPrepBwdIdeal.main_arg4)
          ∧ r.2.mem ((c.tc : Thread Cert.KernelPrepBwdIdeal.nD Cert.KernelPrepBwdIdeal.τ).loc Cert.KernelPrepBwdIdeal.main_arg5) = m ((c.tc : Thread Cert.KernelPrepBwdIdeal.nD Cert.KernelPrepBwdIdeal.τ).loc Cert.KernelPrepBwdIdeal.main_arg5)
          ∧ r.2.mem ((c.tc : Thread Cert.KernelPrepBwdIdeal.nD Cert.KernelPrepBwdIdeal.τ).loc Cert.KernelPrepBwdIdeal.main_arg6) = m ((c.tc : Thread Cert.KernelPrepBwdIdeal.nD Cert.KernelPrepBwdIdeal.τ).loc Cert.KernelPrepBwdIdeal.main_arg6)
          ∧ r.2.mem ((c.tc : Thread Cert.KernelPrepBwdIdeal.nD Cert.KernelPrepBwdIdeal.τ).loc Cert.KernelPrepBwdIdeal.main_arg7) = m ((c.tc : Thread Cert.KernelPrepBwdIdeal.nD Cert.KernelPrepBwdIdeal.τ).loc Cert.KernelPrepBwdIdeal.main_arg7)
          ∧ r.2.mem ((c.tc : Thread Cert.KernelPrepBwdIdeal.nD Cert.KernelPrepBwdIdeal.τ).loc Cert.KernelPrepBwdIdeal.main_arg8) = m ((c.tc : Thread Cert.KernelPrepBwdIdeal.nD Cert.KernelPrepBwdIdeal.τ).loc Cert.KernelPrepBwdIdeal.main_arg8)
          ∧ r.2.mem ((c.tc : Thread Cert.KernelPrepBwdIdeal.nD Cert.KernelPrepBwdIdeal.τ).loc Cert.KernelPrepBwdIdeal.main_arg9) = m ((c.tc : Thread Cert.KernelPrepBwdIdeal.nD Cert.KernelPrepBwdIdeal.τ).loc Cert.KernelPrepBwdIdeal.main_arg9)
          ∧ r.2.mem ((c.tc : Thread Cert.KernelPrepBwdIdeal.nD Cert.KernelPrepBwdIdeal.τ).loc Cert.KernelPrepBwdIdeal.main_arg10) = m ((c.tc : Thread Cert.KernelPrepBwdIdeal.nD Cert.KernelPrepBwdIdeal.τ).loc Cert.KernelPrepBwdIdeal.main_arg10))
      ∧ θ_run (Cert.ReferencePrepBwdIdeal.defs (F := Ideal)) (onTc (τ := Cert.ReferencePrepBwdIdeal.τ) (Cert.ReferencePrepBwdIdeal.main (F := Ideal))) ⟨m', fun _ => 0, g'⟩ (fun r => ∀ c : Dev Cert.ReferencePrepBwdIdeal.nD,
          r.2.mem ((c.tc : Thread Cert.ReferencePrepBwdIdeal.nD Cert.ReferencePrepBwdIdeal.τ).loc Cert.ReferencePrepBwdIdeal.main_v159) = v0 c
          ∧ r.2.mem ((c.tc : Thread Cert.ReferencePrepBwdIdeal.nD Cert.ReferencePrepBwdIdeal.τ).loc Cert.ReferencePrepBwdIdeal.main_v160) = v1 c
          ∧ r.2.mem ((c.tc : Thread Cert.ReferencePrepBwdIdeal.nD Cert.ReferencePrepBwdIdeal.τ).loc Cert.ReferencePrepBwdIdeal.main_v162) = v2 c
          ∧ r.2.mem ((c.tc : Thread Cert.ReferencePrepBwdIdeal.nD Cert.ReferencePrepBwdIdeal.τ).loc Cert.ReferencePrepBwdIdeal.main_v165) = v3 c
          ∧ r.2.mem ((c.tc : Thread Cert.ReferencePrepBwdIdeal.nD Cert.ReferencePrepBwdIdeal.τ).loc Cert.ReferencePrepBwdIdeal.main_v169) = v4 c
          ∧ r.2.mem ((c.tc : Thread Cert.ReferencePrepBwdIdeal.nD Cert.ReferencePrepBwdIdeal.τ).loc Cert.ReferencePrepBwdIdeal.main_v170) = v5 c
          ∧ r.2.mem ((c.tc : Thread Cert.ReferencePrepBwdIdeal.nD Cert.ReferencePrepBwdIdeal.τ).loc Cert.ReferencePrepBwdIdeal.main_v171) = v6 c
          ∧ r.2.mem ((c.tc : Thread Cert.ReferencePrepBwdIdeal.nD Cert.ReferencePrepBwdIdeal.τ).loc Cert.ReferencePrepBwdIdeal.main_arg0) = m' ((c.tc : Thread Cert.ReferencePrepBwdIdeal.nD Cert.ReferencePrepBwdIdeal.τ).loc Cert.ReferencePrepBwdIdeal.main_arg0)
          ∧ r.2.mem ((c.tc : Thread Cert.ReferencePrepBwdIdeal.nD Cert.ReferencePrepBwdIdeal.τ).loc Cert.ReferencePrepBwdIdeal.main_arg1) = m' ((c.tc : Thread Cert.ReferencePrepBwdIdeal.nD Cert.ReferencePrepBwdIdeal.τ).loc Cert.ReferencePrepBwdIdeal.main_arg1)
          ∧ r.2.mem ((c.tc : Thread Cert.ReferencePrepBwdIdeal.nD Cert.ReferencePrepBwdIdeal.τ).loc Cert.ReferencePrepBwdIdeal.main_arg2) = m' ((c.tc : Thread Cert.ReferencePrepBwdIdeal.nD Cert.ReferencePrepBwdIdeal.τ).loc Cert.ReferencePrepBwdIdeal.main_arg2)
          ∧ r.2.mem ((c.tc : Thread Cert.ReferencePrepBwdIdeal.nD Cert.ReferencePrepBwdIdeal.τ).loc Cert.ReferencePrepBwdIdeal.main_arg3) = m' ((c.tc : Thread Cert.ReferencePrepBwdIdeal.nD Cert.ReferencePrepBwdIdeal.τ).loc Cert.ReferencePrepBwdIdeal.main_arg3)
          ∧ r.2.mem ((c.tc : Thread Cert.ReferencePrepBwdIdeal.nD Cert.ReferencePrepBwdIdeal.τ).loc Cert.ReferencePrepBwdIdeal.main_arg4) = m' ((c.tc : Thread Cert.ReferencePrepBwdIdeal.nD Cert.ReferencePrepBwdIdeal.τ).loc Cert.ReferencePrepBwdIdeal.main_arg4)
          ∧ r.2.mem ((c.tc : Thread Cert.ReferencePrepBwdIdeal.nD Cert.ReferencePrepBwdIdeal.τ).loc Cert.ReferencePrepBwdIdeal.main_arg5) = m' ((c.tc : Thread Cert.ReferencePrepBwdIdeal.nD Cert.ReferencePrepBwdIdeal.τ).loc Cert.ReferencePrepBwdIdeal.main_arg5)
          ∧ r.2.mem ((c.tc : Thread Cert.ReferencePrepBwdIdeal.nD Cert.ReferencePrepBwdIdeal.τ).loc Cert.ReferencePrepBwdIdeal.main_arg6) = m' ((c.tc : Thread Cert.ReferencePrepBwdIdeal.nD Cert.ReferencePrepBwdIdeal.τ).loc Cert.ReferencePrepBwdIdeal.main_arg6)
          ∧ r.2.mem ((c.tc : Thread Cert.ReferencePrepBwdIdeal.nD Cert.ReferencePrepBwdIdeal.τ).loc Cert.ReferencePrepBwdIdeal.main_arg7) = m' ((c.tc : Thread Cert.ReferencePrepBwdIdeal.nD Cert.ReferencePrepBwdIdeal.τ).loc Cert.ReferencePrepBwdIdeal.main_arg7)
          ∧ r.2.mem ((c.tc : Thread Cert.ReferencePrepBwdIdeal.nD Cert.ReferencePrepBwdIdeal.τ).loc Cert.ReferencePrepBwdIdeal.main_arg8) = m' ((c.tc : Thread Cert.ReferencePrepBwdIdeal.nD Cert.ReferencePrepBwdIdeal.τ).loc Cert.ReferencePrepBwdIdeal.main_arg8)
          ∧ r.2.mem ((c.tc : Thread Cert.ReferencePrepBwdIdeal.nD Cert.ReferencePrepBwdIdeal.τ).loc Cert.ReferencePrepBwdIdeal.main_arg9) = m' ((c.tc : Thread Cert.ReferencePrepBwdIdeal.nD Cert.ReferencePrepBwdIdeal.τ).loc Cert.ReferencePrepBwdIdeal.main_arg9)
          ∧ r.2.mem ((c.tc : Thread Cert.ReferencePrepBwdIdeal.nD Cert.ReferencePrepBwdIdeal.τ).loc Cert.ReferencePrepBwdIdeal.main_arg10) = m' ((c.tc : Thread Cert.ReferencePrepBwdIdeal.nD Cert.ReferencePrepBwdIdeal.τ).loc Cert.ReferencePrepBwdIdeal.main_arg10))

def Claim : Prop :=
  ∃ (hKernel : Cert.Kernel.Facts) (hKernelIdeal : Cert.KernelIdeal.Facts) (hReferenceIdeal : Cert.ReferenceIdeal.Facts) (hKernelGate : Cert.KernelGate.Facts) (hKernelGateIdeal : Cert.KernelGateIdeal.Facts) (hReferenceGateIdeal : Cert.ReferenceGateIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelQb : Cert.KernelQb.Facts) (hKernelQbIdeal : Cert.KernelQbIdeal.Facts) (hReferenceQbIdeal : Cert.ReferenceQbIdeal.Facts) (hKernelKvb : Cert.KernelKvb.Facts) (hKernelKvbIdeal : Cert.KernelKvbIdeal.Facts) (hReferenceKvbIdeal : Cert.ReferenceKvbIdeal.Facts) (hKernelInBwd : Cert.KernelInBwd.Facts) (hKernelInBwdIdeal : Cert.KernelInBwdIdeal.Facts) (hReferenceInBwdIdeal : Cert.ReferenceInBwdIdeal.Facts) (hKernelInFwd : Cert.KernelInFwd.Facts) (hKernelInFwdIdeal : Cert.KernelInFwdIdeal.Facts) (hReferenceInFwdIdeal : Cert.ReferenceInFwdIdeal.Facts) (hKernelOutBwd : Cert.KernelOutBwd.Facts) (hKernelOutBwdIdeal : Cert.KernelOutBwdIdeal.Facts) (hReferenceOutBwdIdeal : Cert.ReferenceOutBwdIdeal.Facts) (hKernelAdaW : Cert.KernelAdaW.Facts) (hKernelAdaWIdeal : Cert.KernelAdaWIdeal.Facts) (hReferenceAdaWIdeal : Cert.ReferenceAdaWIdeal.Facts) (hKernelAdaDown : Cert.KernelAdaDown.Facts) (hKernelAdaDownIdeal : Cert.KernelAdaDownIdeal.Facts) (hReferenceAdaDownIdeal : Cert.ReferenceAdaDownIdeal.Facts) (hKernelAdaOut : Cert.KernelAdaOut.Facts) (hKernelAdaOutIdeal : Cert.KernelAdaOutIdeal.Facts) (hReferenceAdaOutIdeal : Cert.ReferenceAdaOutIdeal.Facts) (hKernelAdaKvb : Cert.KernelAdaKvb.Facts) (hKernelAdaKvbIdeal : Cert.KernelAdaKvbIdeal.Facts) (hReferenceAdaKvbIdeal : Cert.ReferenceAdaKvbIdeal.Facts) (hKernelAdaIn : Cert.KernelAdaIn.Facts) (hKernelAdaInIdeal : Cert.KernelAdaInIdeal.Facts) (hReferenceAdaInIdeal : Cert.ReferenceAdaInIdeal.Facts) (hKernelAdaQb : Cert.KernelAdaQb.Facts) (hKernelAdaQbIdeal : Cert.KernelAdaQbIdeal.Facts) (hReferenceAdaQbIdeal : Cert.ReferenceAdaQbIdeal.Facts) (hKernelAdaSmall : Cert.KernelAdaSmall.Facts) (hKernelAdaSmallIdeal : Cert.KernelAdaSmallIdeal.Facts) (hReferenceAdaSmallIdeal : Cert.ReferenceAdaSmallIdeal.Facts) (hKernelOutFwd : Cert.KernelOutFwd.Facts) (hKernelOutFwdIdeal : Cert.KernelOutFwdIdeal.Facts) (hReferenceOutFwdIdeal : Cert.ReferenceOutFwdIdeal.Facts) (hKernelPrep : Cert.KernelPrep.Facts) (hKernelPrepIdeal : Cert.KernelPrepIdeal.Facts) (hReferencePrepIdeal : Cert.ReferencePrepIdeal.Facts) (hKernelPrepBwd : Cert.KernelPrepBwd.Facts) (hKernelPrepBwdIdeal : Cert.KernelPrepBwdIdeal.Facts) (hReferencePrepBwdIdeal : Cert.ReferencePrepBwdIdeal.Facts) (hPre_finite : Cert.Pre_finite.Facts) (hPre_finite_in_bwd : Cert.Pre_finite_in_bwd.Facts) (hPre_finite_out_bwd : Cert.Pre_finite_out_bwd.Facts) (hPre_finite_out_fwd : Cert.Pre_finite_out_fwd.Facts) (hPre_finite_mla_prep_bwd : Cert.Pre_finite_mla_prep_bwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelQb (hKernelQb := hKernelQb)
    ∧ quiescent_KernelQbIdeal (hKernelQbIdeal := hKernelQbIdeal)
    ∧ quiescent_ReferenceQbIdeal (hReferenceQbIdeal := hReferenceQbIdeal)
    ∧ quiescent_KernelKvb (hKernelKvb := hKernelKvb)
    ∧ quiescent_KernelKvbIdeal (hKernelKvbIdeal := hKernelKvbIdeal)
    ∧ quiescent_ReferenceKvbIdeal (hReferenceKvbIdeal := hReferenceKvbIdeal)
    ∧ quiescent_KernelInBwd (hKernelInBwd := hKernelInBwd)
    ∧ quiescent_KernelInBwdIdeal (hKernelInBwdIdeal := hKernelInBwdIdeal)
    ∧ quiescent_KernelInBwdIdeal_pre_finite_in_bwd (hKernelInBwdIdeal := hKernelInBwdIdeal) (hPre_finite_in_bwd := hPre_finite_in_bwd)
    ∧ quiescent_ReferenceInBwdIdeal (hReferenceInBwdIdeal := hReferenceInBwdIdeal)
    ∧ quiescent_ReferenceInBwdIdeal_pre_finite_in_bwd (hReferenceInBwdIdeal := hReferenceInBwdIdeal) (hPre_finite_in_bwd := hPre_finite_in_bwd)
    ∧ quiescent_KernelInFwd (hKernelInFwd := hKernelInFwd)
    ∧ quiescent_KernelInFwdIdeal (hKernelInFwdIdeal := hKernelInFwdIdeal)
    ∧ quiescent_ReferenceInFwdIdeal (hReferenceInFwdIdeal := hReferenceInFwdIdeal)
    ∧ quiescent_KernelOutBwd (hKernelOutBwd := hKernelOutBwd)
    ∧ quiescent_KernelOutBwdIdeal (hKernelOutBwdIdeal := hKernelOutBwdIdeal)
    ∧ quiescent_KernelOutBwdIdeal_pre_finite_out_bwd (hKernelOutBwdIdeal := hKernelOutBwdIdeal) (hPre_finite_out_bwd := hPre_finite_out_bwd)
    ∧ quiescent_ReferenceOutBwdIdeal (hReferenceOutBwdIdeal := hReferenceOutBwdIdeal)
    ∧ quiescent_ReferenceOutBwdIdeal_pre_finite_out_bwd (hReferenceOutBwdIdeal := hReferenceOutBwdIdeal) (hPre_finite_out_bwd := hPre_finite_out_bwd)
    ∧ quiescent_KernelAdaW (hKernelAdaW := hKernelAdaW)
    ∧ quiescent_KernelAdaWIdeal (hKernelAdaWIdeal := hKernelAdaWIdeal)
    ∧ quiescent_ReferenceAdaWIdeal (hReferenceAdaWIdeal := hReferenceAdaWIdeal)
    ∧ quiescent_KernelAdaDown (hKernelAdaDown := hKernelAdaDown)
    ∧ quiescent_KernelAdaDownIdeal (hKernelAdaDownIdeal := hKernelAdaDownIdeal)
    ∧ quiescent_ReferenceAdaDownIdeal (hReferenceAdaDownIdeal := hReferenceAdaDownIdeal)
    ∧ quiescent_KernelAdaOut (hKernelAdaOut := hKernelAdaOut)
    ∧ quiescent_KernelAdaOutIdeal (hKernelAdaOutIdeal := hKernelAdaOutIdeal)
    ∧ quiescent_ReferenceAdaOutIdeal (hReferenceAdaOutIdeal := hReferenceAdaOutIdeal)
    ∧ quiescent_KernelAdaKvb (hKernelAdaKvb := hKernelAdaKvb)
    ∧ quiescent_KernelAdaKvbIdeal (hKernelAdaKvbIdeal := hKernelAdaKvbIdeal)
    ∧ quiescent_ReferenceAdaKvbIdeal (hReferenceAdaKvbIdeal := hReferenceAdaKvbIdeal)
    ∧ quiescent_KernelAdaIn (hKernelAdaIn := hKernelAdaIn)
    ∧ quiescent_KernelAdaInIdeal (hKernelAdaInIdeal := hKernelAdaInIdeal)
    ∧ quiescent_ReferenceAdaInIdeal (hReferenceAdaInIdeal := hReferenceAdaInIdeal)
    ∧ quiescent_KernelAdaQb (hKernelAdaQb := hKernelAdaQb)
    ∧ quiescent_KernelAdaQbIdeal (hKernelAdaQbIdeal := hKernelAdaQbIdeal)
    ∧ quiescent_ReferenceAdaQbIdeal (hReferenceAdaQbIdeal := hReferenceAdaQbIdeal)
    ∧ quiescent_KernelAdaSmall (hKernelAdaSmall := hKernelAdaSmall)
    ∧ quiescent_KernelAdaSmallIdeal (hKernelAdaSmallIdeal := hKernelAdaSmallIdeal)
    ∧ quiescent_ReferenceAdaSmallIdeal (hReferenceAdaSmallIdeal := hReferenceAdaSmallIdeal)
    ∧ quiescent_KernelOutFwd (hKernelOutFwd := hKernelOutFwd)
    ∧ quiescent_KernelOutFwdIdeal (hKernelOutFwdIdeal := hKernelOutFwdIdeal)
    ∧ quiescent_KernelOutFwdIdeal_pre_finite_out_fwd (hKernelOutFwdIdeal := hKernelOutFwdIdeal) (hPre_finite_out_fwd := hPre_finite_out_fwd)
    ∧ quiescent_ReferenceOutFwdIdeal (hReferenceOutFwdIdeal := hReferenceOutFwdIdeal)
    ∧ quiescent_ReferenceOutFwdIdeal_pre_finite_out_fwd (hReferenceOutFwdIdeal := hReferenceOutFwdIdeal) (hPre_finite_out_fwd := hPre_finite_out_fwd)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelPrepBwd (hKernelPrepBwd := hKernelPrepBwd)
    ∧ quiescent_KernelPrepBwdIdeal (hKernelPrepBwdIdeal := hKernelPrepBwdIdeal)
    ∧ quiescent_KernelPrepBwdIdeal_pre_finite_mla_prep_bwd (hKernelPrepBwdIdeal := hKernelPrepBwdIdeal) (hPre_finite_mla_prep_bwd := hPre_finite_mla_prep_bwd)
    ∧ quiescent_ReferencePrepBwdIdeal (hReferencePrepBwdIdeal := hReferencePrepBwdIdeal)
    ∧ quiescent_ReferencePrepBwdIdeal_pre_finite_mla_prep_bwd (hReferencePrepBwdIdeal := hReferencePrepBwdIdeal) (hPre_finite_mla_prep_bwd := hPre_finite_mla_prep_bwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGate_KernelGateIdeal
    ∧ algebraic_KernelGateIdeal_ReferenceGateIdeal (hKernelGateIdeal := hKernelGateIdeal) (hReferenceGateIdeal := hReferenceGateIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelQb_KernelQbIdeal
    ∧ algebraic_KernelQbIdeal_ReferenceQbIdeal (hKernelQbIdeal := hKernelQbIdeal) (hReferenceQbIdeal := hReferenceQbIdeal)
    ∧ preserves_KernelKvb_KernelKvbIdeal
    ∧ algebraic_KernelKvbIdeal_ReferenceKvbIdeal (hKernelKvbIdeal := hKernelKvbIdeal) (hReferenceKvbIdeal := hReferenceKvbIdeal)
    ∧ preserves_KernelInBwd_KernelInBwdIdeal
    ∧ algebraic_KernelInBwdIdeal_ReferenceInBwdIdeal_pre_finite_in_bwd (hKernelInBwdIdeal := hKernelInBwdIdeal) (hReferenceInBwdIdeal := hReferenceInBwdIdeal) (hPre_finite_in_bwd := hPre_finite_in_bwd)
    ∧ preserves_KernelInFwd_KernelInFwdIdeal
    ∧ algebraic_KernelInFwdIdeal_ReferenceInFwdIdeal (hKernelInFwdIdeal := hKernelInFwdIdeal) (hReferenceInFwdIdeal := hReferenceInFwdIdeal)
    ∧ preserves_KernelOutBwd_KernelOutBwdIdeal
    ∧ algebraic_KernelOutBwdIdeal_ReferenceOutBwdIdeal_pre_finite_out_bwd (hKernelOutBwdIdeal := hKernelOutBwdIdeal) (hReferenceOutBwdIdeal := hReferenceOutBwdIdeal) (hPre_finite_out_bwd := hPre_finite_out_bwd)
    ∧ preserves_KernelAdaW_KernelAdaWIdeal
    ∧ algebraic_KernelAdaWIdeal_ReferenceAdaWIdeal (hKernelAdaWIdeal := hKernelAdaWIdeal) (hReferenceAdaWIdeal := hReferenceAdaWIdeal)
    ∧ preserves_KernelAdaDown_KernelAdaDownIdeal
    ∧ algebraic_KernelAdaDownIdeal_ReferenceAdaDownIdeal (hKernelAdaDownIdeal := hKernelAdaDownIdeal) (hReferenceAdaDownIdeal := hReferenceAdaDownIdeal)
    ∧ preserves_KernelAdaOut_KernelAdaOutIdeal
    ∧ algebraic_KernelAdaOutIdeal_ReferenceAdaOutIdeal (hKernelAdaOutIdeal := hKernelAdaOutIdeal) (hReferenceAdaOutIdeal := hReferenceAdaOutIdeal)
    ∧ preserves_KernelAdaKvb_KernelAdaKvbIdeal
    ∧ algebraic_KernelAdaKvbIdeal_ReferenceAdaKvbIdeal (hKernelAdaKvbIdeal := hKernelAdaKvbIdeal) (hReferenceAdaKvbIdeal := hReferenceAdaKvbIdeal)
    ∧ preserves_KernelAdaIn_KernelAdaInIdeal
    ∧ algebraic_KernelAdaInIdeal_ReferenceAdaInIdeal (hKernelAdaInIdeal := hKernelAdaInIdeal) (hReferenceAdaInIdeal := hReferenceAdaInIdeal)
    ∧ preserves_KernelAdaQb_KernelAdaQbIdeal
    ∧ algebraic_KernelAdaQbIdeal_ReferenceAdaQbIdeal (hKernelAdaQbIdeal := hKernelAdaQbIdeal) (hReferenceAdaQbIdeal := hReferenceAdaQbIdeal)
    ∧ preserves_KernelAdaSmall_KernelAdaSmallIdeal
    ∧ algebraic_KernelAdaSmallIdeal_ReferenceAdaSmallIdeal (hKernelAdaSmallIdeal := hKernelAdaSmallIdeal) (hReferenceAdaSmallIdeal := hReferenceAdaSmallIdeal)
    ∧ preserves_KernelOutFwd_KernelOutFwdIdeal
    ∧ algebraic_KernelOutFwdIdeal_ReferenceOutFwdIdeal_pre_finite_out_fwd (hKernelOutFwdIdeal := hKernelOutFwdIdeal) (hReferenceOutFwdIdeal := hReferenceOutFwdIdeal) (hPre_finite_out_fwd := hPre_finite_out_fwd)
    ∧ preserves_KernelPrep_KernelPrepIdeal
    ∧ algebraic_KernelPrepIdeal_ReferencePrepIdeal (hKernelPrepIdeal := hKernelPrepIdeal) (hReferencePrepIdeal := hReferencePrepIdeal)
    ∧ preserves_KernelPrepBwd_KernelPrepBwdIdeal
    ∧ algebraic_KernelPrepBwdIdeal_ReferencePrepBwdIdeal_pre_finite_mla_prep_bwd (hKernelPrepBwdIdeal := hKernelPrepBwdIdeal) (hReferencePrepBwdIdeal := hReferencePrepBwdIdeal) (hPre_finite_mla_prep_bwd := hPre_finite_mla_prep_bwd)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_in_bwd.lean ====
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x1024 : Shape := ⟨2, ![8192, 1024]⟩
abbrev S1024 : Shape := ⟨1, ![1024]⟩
abbrev S1024x3264 : Shape := ⟨2, ![1024, 3264]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x384 : S_.BroadcastsInDim S8192x384 (![] : Fin 0 → Fin S8192x384.rank)
  reducesTo_S8192x384_S_d0_1 : S8192x384.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x64 : S_.BroadcastsInDim S8192x64 (![] : Fin 0 → Fin S8192x64.rank)
  reducesTo_S8192x64_S_d0_1 : S8192x64.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x3264 : S_.BroadcastsInDim S1024x3264 (![] : Fin 0 → Fin S1024x3264.rank)
  reducesTo_S1024x3264_S_d0_1 : S1024x3264.ReducesTo [0, 1] S_

variable [Facts]

def fn_part4 {F : FTy → Type} [FloatOps F] (main_arg14 : FVec F S1024x3264 .f32) (main_v63 : IVec S_ 1) (main_v67 : IVec S_ 1) : IVec S_ 1 :=
  let main_v68 : IVec S_ 1 := andi main_v63 main_v67
  let main_v69 : FVec F S1024x3264 .f32 := Host.absf main_arg14
  let main_cst_26 : FVec F S_ .f32 := constant S_ .f32 0x7F800000#32
  let main_v70 : FVec F S1024x3264 .f32 := broadcastInDim S1024x3264 ![] bcast_S_S1024x3264 main_cst_26
  let main_v71 : IVec S1024x3264 1 := cmpf .olt main_v69 main_v70
  let main_c_27 : IVec S_ 1 := constantI S_ 1 1#1
  let main_v72 : IVec S_ 1 := (fun x v => Host.reduce IntOp.andi x v reducesTo_S1024x3264_S_d0_1 h_S_) main_v71 main_c_27
  let main_v73 : IVec S_ 1 := andi main_v68 main_v72
  main_v73

def fn_part3 {F : FTy → Type} [FloatOps F] (main_arg11 : FVec F S8192x1024 .f32) (main_arg12 : FVec F S8192x1024 .f32) (main_arg13 : FVec F S1024 .f32) (main_arg14 : FVec F S1024x3264 .f32) (main_v48 : IVec S_ 1) (main_v49 : FVec F S8192x64 .f32) (main_v50 : FVec F S8192x64 .f32) : IVec S_ 1 :=
  let main_v51 : IVec S8192x64 1 := cmpf .olt main_v49 main_v50
  let main_c_19 : IVec S_ 1 := constantI S_ 1 1#1
  let main_v52 : IVec S_ 1 := (fun x v => Host.reduce IntOp.andi x v reducesTo_S8192x64_S_d0_1 h_S_) main_v51 main_c_19
  let main_v53 : IVec S_ 1 := andi main_v48 main_v52
  let main_v54 : FVec F S8192x1024 .f32 := Host.absf main_arg11
  let main_cst_20 : FVec F S_ .f32 := constant S_ .f32 0x7F800000#32
  let main_v55 : FVec F S8192x1024 .f32 := broadcastInDim S8192x1024 ![] bcast_S_S8192x1024 main_cst_20
  let main_v56 : IVec S8192x1024 1 := cmpf .olt main_v54 main_v55
  let main_c_21 : IVec S_ 1 := constantI S_ 1 1#1
  let main_v57 : IVec S_ 1 := (fun x v => Host.reduce IntOp.andi x v reducesTo_S8192x1024_S_d0_1 h_S_) main_v56 main_c_21
  let main_v58 : IVec S_ 1 := andi main_v53 main_v57
  let main_v59 : FVec F S8192x1024 .f32 := Host.absf main_arg12
  let main_cst_22 : FVec F S_ .f32 := constant S_ .f32 0x7F800000#32
  let main_v60 : FVec F S8192x1024 .f32 := broadcastInDim S8192x1024 ![] bcast_S_S8192x1024 main_cst_22
  let main_v61 : IVec S8192x1024 1 := cmpf .olt main_v59 main_v60
  let main_c_23 : IVec S_ 1 := constantI S_ 1 1#1
  let main_v62 : IVec S_ 1 := (fun x v => Host.reduce IntOp.andi x v reducesTo_S8192x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S8192x512 .f32) (main_arg8 : FVec F S8192x384 .f32) (main_arg9 : FVec F S8192x256 .f32) (main_arg10 : FVec F S8192x64 .f32) (main_arg11 : FVec F S8192x1024 .f32) (main_arg12 : FVec F S8192x1024 .f32) (main_arg13 : FVec F S1024 .f32) (main_arg14 : FVec F S1024x3264 .f32) (main_v33 : IVec S_ 1) : IVec S_ 1 :=
  let main_v34 : FVec F S8192x512 .f32 := Host.absf main_arg7
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x384 .f32 := Host.absf main_arg8
  let main_cst_14 : FVec F S_ .f32 := constant S_ .f32 0x7F800000#32
  let main_v40 : FVec F S8192x384 .f32 := broadcastInDim S8192x384 ![] bcast_S_S8192x384 main_cst_14
  let main_v41 : IVec S8192x384 1 := cmpf .olt main_v39 main_v40
  let main_c_15 : IVec S_ 1 := constantI S_ 1 1#1
  let main_v42 : IVec S_ 1 := (fun x v => Host.reduce IntOp.andi x v reducesTo_S8192x384_S_d0_1 h_S_) main_v41 main_c_15
  let main_v43 : IVec S_ 1 := andi main_v38 main_v42
  let main_v44 : FVec F S8192x256 .f32 := Host.absf main_arg9
  let main_cst_16 : FVec F S_ .f32 := constant S_ .f32 0x7F800000#32
  let main_v45 : FVec F S8192x256 .f32 := broadcastInDim S8192x256 ![] bcast_S_S8192x256 main_cst_16
  let main_v46 : IVec S8192x256 1 := cmpf .olt main_v44 main_v45
  let main_c_17 : IVec S_ 1 := constantI S_ 1 1#1
  let main_v47 : IVec S_ 1 := (fun x v => Host.reduce IntOp.andi x v reducesTo_S8192x256_S_d0_1 h_S_) main_v46 main_c_17
  let main_v48 : IVec S_ 1 := andi main_v43 main_v47
  let main_v49 : FVec F S8192x64 .f32 := Host.absf main_arg10
  let main_cst_18 : FVec F S_ .f32 := constant S_ .f32 0x7F800000#32
  let main_v50 : FVec F S8192x64 .f32 := broadcastInDim S8192x64 ![] bcast_S_S8192x64 main_cst_18
  fn_part3 (F := F) main_arg11 main_arg12 main_arg13 main_arg14 main_v48 main_v49 main_v50

def fn_part1 {F : FTy → Type} [FloatOps F] (main_arg4 : FVec F S8192x512 .f32) (main_arg5 : FVec F S8192x512 .f32) (main_arg6 : FVec F S8192x512 .f32) (main_arg7 : FVec F S8192x512 .f32) (main_arg8 : FVec F S8192x384 .f32) (main_arg9 : FVec F S8192x256 .f32) (main_arg10 : FVec F S8192x64 .f32) (main_arg11 : FVec F S8192x1024 .f32) (main_arg12 : FVec F S8192x1024 .f32) (main_arg13 : FVec F S1024 .f32) (main_arg14 : FVec F S1024x3264 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x384 .f32) (main_arg9 : FVec F S8192x256 .f32) (main_arg10 : FVec F S8192x64 .f32) (main_arg11 : FVec F S8192x1024 .f32) (main_arg12 : FVec F S8192x1024 .f32) (main_arg13 : FVec F S1024 .f32) (main_arg14 : FVec F S1024x3264 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_v13 main_v16
-- ==== Pre_finite_mla_prep_bwd.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x384 : S_.BroadcastsInDim S8192x384 (![] : Fin 0 → Fin S8192x384.rank)
  reducesTo_S8192x384_S_d0_1 : S8192x384.ReducesTo [0, 1] S_
  bcast_S_S8192x256 : S_.BroadcastsInDim S8192x256 (![] : Fin 0 → Fin S8192x256.rank)
  reducesTo_S8192x256_S_d0_1 : S8192x256.ReducesTo [0, 1] S_
  bcast_S_S384 : S_.BroadcastsInDim S384 (![] : Fin 0 → Fin S384.rank)
  reducesTo_S384_S_d0 : S384.ReducesTo [0] S_
  bcast_S_S256 : S_.BroadcastsInDim S256 (![] : Fin 0 → Fin S256.rank)
  reducesTo_S256_S_d0 : S256.ReducesTo [0] S_
  bcast_S_S384x768 : S_.BroadcastsInDim S384x768 (![] : Fin 0 → Fin S384x768.rank)
  reducesTo_S384x768_S_d0_1 : S384x768.ReducesTo [0, 1] S_
  bcast_S_S256x1024 : S_.BroadcastsInDim S256x1024 (![] : Fin 0 → Fin S256x1024.rank)
  reducesTo_S256x1024_S_d0_1 : S256x1024.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part3 {F : FTy → Type} [FloatOps F] (main_v48 : IVec S_ 1) (main_v49 : FVec F S4096x32 .f32) (main_v50 : FVec F S4096x32 .f32) : IVec S_ 1 :=
  let main_v51 : IVec S4096x32 1 := cmpf .olt main_v49 main_v50
  let main_c_19 : IVec S_ 1 := constantI S_ 1 1#1
  let main_v52 : IVec S_ 1 := (fun x v => Host.reduce IntOp.andi x v reducesTo_S4096x32_S_d0_1 h_S_) main_v51 main_c_19
  let main_v53 : IVec S_ 1 := andi main_v48 main_v52
  main_v53

def fn_part2 {F : FTy → Type} [FloatOps F] (main_arg7 : FVec F S384x768 .f32) (main_arg8 : FVec F S256x1024 .f32) (main_arg9 : FVec F S4096x32 .f32) (main_arg10 : FVec F S4096x32 .f32) (main_v33 : IVec S_ 1) : IVec S_ 1 :=
  let main_v34 : FVec F S384x768 .f32 := Host.absf main_arg7
  let main_cst_12 : FVec F S_ .f32 := constant S_ .f32 0x7F800000#32
  let main_v35 : FVec F S384x768 .f32 := broadcastInDim S384x768 ![] bcast_S_S384x768 main_cst_12
  let main_v36 : IVec S384x768 1 := cmpf .olt main_v34 main_v35
  let main_c_13 : IVec S_ 1 := constantI S_ 1 1#1
  let main_v37 : IVec S_ 1 := (fun x v => Host.reduce IntOp.andi x v reducesTo_S384x768_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S4096x32 .f32 := Host.absf main_arg9
  let main_cst_16 : FVec F S_ .f32 := constant S_ .f32 0x7F800000#32
  let main_v45 : FVec F S4096x32 .f32 := broadcastInDim S4096x32 ![] bcast_S_S4096x32 main_cst_16
  let main_v46 : IVec S4096x32 1 := cmpf .olt main_v44 main_v45
  let main_c_17 : IVec S_ 1 := constantI S_ 1 1#1
  let main_v47 : IVec S_ 1 := (fun x v => Host.reduce IntOp.andi x v reducesTo_S4096x32_S_d0_1 h_S_) main_v46 main_c_17
  let main_v48 : IVec S_ 1 := andi main_v43 main_v47
  let main_v49 : FVec F S4096x32 .f32 := Host.absf main_arg10
  let main_cst_18 : FVec F S_ .f32 := constant S_ .f32 0x7F800000#32
  let main_v50 : FVec F S4096x32 .f32 := broadcastInDim S4096x32 ![] bcast_S_S4096x32 main_cst_18
  fn_part3 (F := F) main_v48 main_v49 main_v50

def fn_part1 {F : FTy → Type} [FloatOps F] (main_arg4 : FVec F S8192x256 .f32) (main_arg5 : FVec F S384 .f32) (main_arg6 : FVec F S256 .f32) (main_arg7 : FVec F S384x768 .f32) (main_arg8 : FVec F S256x1024 .f32) (main_arg9 : FVec F S4096x32 .f32) (main_arg10 : FVec F S4096x32 .f32) (main_v13 : IVec S_ 1) (main_v16 : IVec S8192x384 1) : IVec S_ 1 :=
  let main_c_5 : IVec S_ 1 := constantI S_ 1 1#1
  let main_v17 : IVec S_ 1 := (fun x v => Host.reduce IntOp.andi x v reducesTo_S8192x384_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x512 .f32) (main_arg3 : FVec F S8192x384 .f32) (main_arg4 : FVec F S8192x256 .f32) (main_arg5 : FVec F S384 .f32) (main_arg6 : FVec F S256 .f32) (main_arg7 : FVec F S384x768 .f32) (main_arg8 : FVec F S256x1024 .f32) (main_arg9 : FVec F S4096x32 .f32) (main_arg10 : FVec F S4096x32 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x384 .f32 := Host.absf main_arg3
  let main_cst_4 : FVec F S_ .f32 := constant S_ .f32 0x7F800000#32
  let main_v15 : FVec F S8192x384 .f32 := broadcastInDim S8192x384 ![] bcast_S_S8192x384 main_cst_4
  let main_v16 : IVec S8192x384 1 := cmpf .olt main_v14 main_v15
  fn_part1 (F := F) main_arg4 main_arg5 main_arg6 main_arg7 main_arg8 main_arg9 main_arg10 main_v13 main_v16
-- ==== Pre_finite_out_bwd.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S8192x512 .f32) (main_arg5 : FVec F S512 .f32) (main_arg6 : FVec F S512 .f32) (main_arg7 : FVec F S1024x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S512 .f32) (main_arg6 : FVec F S512 .f32) (main_arg7 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_v13 main_v16
-- ==== Pre_finite_out_fwd.lean ====
abbrev S8192x512 : Shape := ⟨2, ![8192, 512]⟩
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x1024 .f32) (main_arg5 : FVec F S512 .f32) (main_arg6 : FVec F S512 .f32) (main_arg7 : FVec F S1024x1024 .f32) (main_arg8 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x128 : Shape := ⟨2, ![8, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 40
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S2816x1024, .f32⟩
  | .hbm, ⟨25, _⟩ => ⟨S2816x1024, .bf16⟩
  | .hbm, ⟨26, _⟩ => ⟨S2816x1024, .f32⟩
  | .hbm, ⟨27, _⟩ => ⟨S2816x1024, .bf16⟩
  | .hbm, ⟨28, _⟩ => ⟨S2816x1024, .bf16⟩
  | .hbm, ⟨29, _⟩ => ⟨S1x1024, .f32⟩
  | .hbm, ⟨30, _⟩ => ⟨S1x1024, .f32⟩
  | .hbm, ⟨31, _⟩ => ⟨S8192x2816, .bf16⟩
  | .hbm, ⟨32, _⟩ => ⟨S8192x2816, .bf16⟩
  | .hbm, ⟨33, _⟩ => ⟨S8192x2816, .bf16⟩
  | .hbm, ⟨34, _⟩ => ⟨S8192x1024, .bf16⟩
  | .hbm, ⟨35, _⟩ => ⟨S8192x1024, .f32⟩
  | .hbm, ⟨36, _⟩ => ⟨S8192x1024, .bf16⟩
  | .hbm, ⟨37, _⟩ => ⟨S8x128, .f32⟩
  | .hbm, ⟨38, _⟩ => ⟨S1x1024, .f32⟩
  | .hbm, ⟨39, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S8x128, .f32⟩
  | .local _ .vmem, ⟨24, _⟩ => ⟨S1x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev main_v21_7 : Ref sig .tc := ⟨.hbm, 38, rfl⟩
abbrev main_v21_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_31 : BitVec 32 := 0#32
  let v57 : BitVec 1 := Scalar.cmpi .ne v56 c0_i32_31
  v57

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v58 : BitVec 1 := Scalar.xori v0 v_true
  let v59 : BitVec 32 := Scalar.extui v58
  let c0_i32_32 : BitVec 32 := 0#32
  let v60 : BitVec 1 := Scalar.cmpi .ne v59 c0_i32_32
  v60

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v125 : BitVec 32 := Scalar.extui v0
  let c0_i32_60 : BitVec 32 := 0#32
  let v126 : BitVec 1 := Scalar.cmpi .ne v125 c0_i32_60
  v126

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_61 : BitVec 1 := 1#1
  let v127 : BitVec 1 := Scalar.xori v0 true_61
  let v128 : BitVec 32 := Scalar.extui v127
  let c0_i32_62 : BitVec 32 := 0#32
  let v129 : BitVec 1 := Scalar.cmpi .ne v128 c0_i32_62
  v129

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩

abbrev nBuf : Space → Nat
  | .hbm => 157
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2816, .f32⟩
  | 28 => ⟨S8192x2816, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x2816, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x2816, .bf16⟩
  | 22 => ⟨S8192x2816, .bf16⟩
  | 23 => ⟨S8192x2816, .bf16⟩
  | 24 => ⟨S8192x1024, .bf16⟩
  | 25 => ⟨S8192x1024, .bf16⟩
  | 26 => ⟨S8x128, .f32⟩
  | 27 => ⟨S1x1024, .f32⟩
  | 28 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_20 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_23 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== KernelGate.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGateIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S8192x3328 : Shape := ⟨2, ![8192, 3328]⟩
abbrev S8192x1024 : Shape := ⟨2, ![8192, 1024]⟩
abbrev S3328x1024 : Shape := ⟨2, ![3328, 1024]⟩
abbrev S2048x1664 : Shape := ⟨2, ![2048, 1664]⟩
abbrev S2048x1024 : Shape := ⟨2, ![2048, 1024]⟩
abbrev S1664x1024 : Shape := ⟨2, ![1664, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x3328, .f32⟩
  | .hbm, ⟨1, _⟩ => ⟨S8192x1024, .f32⟩
  | .hbm, ⟨2, _⟩ => ⟨S8192x3328, .bf16⟩
  | .hbm, ⟨3, _⟩ => ⟨S8192x1024, .bf16⟩
  | .hbm, ⟨4, _⟩ => ⟨S3328x1024, .f32⟩
  | .hbm, ⟨5, _⟩ => ⟨S3328x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .bf16⟩
  | .local _ .vmem, ⟨7, _⟩ => ⟨S1664x1024, .bf16⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInIdeal.lean ====
abbrev S8192x3328 : Shape := ⟨2, ![8192, 3328]⟩
abbrev S8192x1024 : Shape := ⟨2, ![8192, 1024]⟩
abbrev S_ : Shape := ⟨0, ![]⟩
abbrev S1024x3328 : Shape := ⟨2, ![1024, 3328]⟩
abbrev S3328x1024 : Shape := ⟨2, ![3328, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S8192x1024, .f32⟩
  | .hbm, ⟨2, _⟩ => ⟨S_, .f32⟩
  | .hbm, ⟨3, _⟩ => ⟨S1024x3328, .f32⟩
  | .hbm, ⟨4, _⟩ => ⟨S8192x3328, .f32⟩
  | .hbm, ⟨5, _⟩ => ⟨S3328x1024, .f32⟩
  | .hbm, ⟨6, _⟩ => ⟨S1024x3328, .f32⟩
  | .hbm, ⟨7, _⟩ => ⟨S3328x1024, .f32⟩
  | .hbm, ⟨8, _⟩ => ⟨S3328x1024, .bf16⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelQb.lean ====
abbrev S8192x1024 : Shape := ⟨2, ![8192, 1024]⟩
abbrev S8192x384 : Shape := ⟨2, ![8192, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x1024, .bf16⟩
  | .hbm, ⟨3, _⟩ => ⟨S8192x384, .bf16⟩
  | .hbm, ⟨4, _⟩ => ⟨S1024x384, .f32⟩
  | .hbm, ⟨5, _⟩ => ⟨S1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceQbIdeal.lean ====
abbrev S8192x1024 : Shape := ⟨2, ![8192, 1024]⟩
abbrev S8192x384 : Shape := ⟨2, ![8192, 384]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | .hbm, ⟨7, _⟩ => ⟨S1024x384, .f32⟩
  | .hbm, ⟨8, _⟩ => ⟨S1024x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelKvb.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .hbm, ⟨5, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceKvbIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelInBwd.lean ====
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x1024 : Shape := ⟨2, ![8192, 1024]⟩
abbrev S1024 : Shape := ⟨1, ![1024]⟩
abbrev S1024x3264 : Shape := ⟨2, ![1024, 3264]⟩
abbrev S3264x1024 : Shape := ⟨2, ![3264, 1024]⟩
abbrev S_ : Shape := ⟨0, ![]⟩
abbrev S3328x1024 : Shape := ⟨2, ![3328, 1024]⟩
abbrev S8192x128 : Shape := ⟨2, ![8192, 128]⟩
abbrev S1x1024 : Shape := ⟨2, ![1, 1024]⟩
abbrev S8192x3328 : Shape := ⟨2, ![8192, 3328]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S512x3328 : Shape := ⟨2, ![512, 3328]⟩
abbrev S256x512 : Shape := ⟨2, ![256, 512]⟩
abbrev S256x384 : Shape := ⟨2, ![256, 384]⟩
abbrev S256x256 : Shape := ⟨2, ![256, 256]⟩
abbrev S256x128 : Shape := ⟨2, ![256, 128]⟩
abbrev S256x1024 : Shape := ⟨2, ![256, 1024]⟩
abbrev S256x3328 : Shape := ⟨2, ![256, 3328]⟩
abbrev S256 : Shape := ⟨1, ![256]⟩
abbrev S256x1 : Shape := ⟨2, ![256, 1]⟩

abbrev nBuf : Space → Nat
  | .hbm => 33
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x384, .f32⟩
  | .hbm, ⟨9, _⟩ => ⟨S8192x256, .f32⟩
  | .hbm, ⟨10, _⟩ => ⟨S8192x64, .f32⟩
  | .hbm, ⟨11, _⟩ => ⟨S8192x1024, .f32⟩
  | .hbm, ⟨12, _⟩ => ⟨S8192x1024, .f32⟩
  | .hbm, ⟨13, _⟩ => ⟨S1024, .f32⟩
  | .hbm, ⟨14, _⟩ => ⟨S1024x3264, .f32⟩
  | .hbm, ⟨15, _⟩ => ⟨S3264x1024, .f32⟩
  | .hbm, ⟨16, _⟩ => ⟨S3264x1024, .bf16⟩
  | .hbm, ⟨17, _⟩ => ⟨S_, .i32⟩
  | .hbm, ⟨18, _⟩ => ⟨S_, .bf16⟩
  | .hbm, ⟨19, _⟩ => ⟨S3328x1024, .bf16⟩
  | .hbm, ⟨20, _⟩ => ⟨S8192x64, .bf16⟩
  | .hbm, ⟨21, _⟩ => ⟨S_, .i32⟩
  | .hbm, ⟨22, _⟩ => ⟨S_, .bf16⟩
  | .hbm, ⟨23, _⟩ => ⟨S8192x128, .bf16⟩
  | .hbm, ⟨24, _⟩ => ⟨S8192x512, .bf16⟩
  | .hbm, ⟨25, _⟩ => ⟨S8192x512, .bf16⟩
  | .hbm, ⟨26, _⟩ => ⟨S8192x512, .bf16⟩
  | .hbm, ⟨27, _⟩ => ⟨S8192x384, .bf16⟩
  | .hbm, ⟨28, _⟩ => ⟨S8192x256, .bf16⟩
  | .hbm, ⟨29, _⟩ => ⟨S1x1024, .f32⟩
  | .hbm, ⟨30, _⟩ => ⟨S8192x1024, .f32⟩
  | .hbm, ⟨31, _⟩ => ⟨S8192x3328, .bf16⟩
  | .hbm, ⟨32, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x384, .bf16⟩
  | .local _ .vmem, ⟨17, _⟩ => ⟨S512x384, .bf16⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S3328x1024, .bf16⟩
  | .local _ .vmem, ⟨28, _⟩ => ⟨S512x1024, .f32⟩
  | .local _ .vmem, ⟨29, _⟩ => ⟨S512x1024, .f32⟩
  | .local _ .vmem, ⟨30, _⟩ => ⟨S512x3328, .bf16⟩
  | .local _ .vmem, ⟨31, _⟩ => ⟨S512x3328, .bf16⟩
  | .local _ .vmem, ⟨32, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v11_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v142 : BitVec 32 := Scalar.extui v139
  let c0_i32_101 : BitVec 32 := 0#32
  let v143 : BitVec 1 := Scalar.cmpi .ne v142 c0_i32_101
  v143

def k0_cond2 (i : grid0.Coords) : BitVec 1 :=
  let arg0 : BitVec 32 := BitVec.ofNat 32 (i 0).val
  let c0_i32 : BitVec 32 := 0#32
  let v139 : BitVec 1 := Scalar.cmpi .eq arg0 c0_i32
  let v_true : BitVec 1 := 1#1
  let v144 : BitVec 1 := Scalar.xori v139 v_true
  let v145 : BitVec 32 := Scalar.extui v144
  let c0_i32_102 : BitVec 32 := 0#32
  let v146 : BitVec 1 := Scalar.cmpi .ne v145 c0_i32_102
  v146

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3328x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3328 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceInBwdIdeal.lean ====
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x1024 : Shape := ⟨2, ![8192, 1024]⟩
abbrev S1024 : Shape := ⟨1, ![1024]⟩
abbrev S1024x3264 : Shape := ⟨2, ![1024, 3264]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3264 : Shape := ⟨2, ![8192, 3264]⟩
abbrev S8192x3328 : Shape := ⟨2, ![8192, 3328]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x384, .f32⟩
  | .hbm, ⟨9, _⟩ => ⟨S8192x256, .f32⟩
  | .hbm, ⟨10, _⟩ => ⟨S8192x64, .f32⟩
  | .hbm, ⟨11, _⟩ => ⟨S8192x1024, .f32⟩
  | .hbm, ⟨12, _⟩ => ⟨S8192x1024, .f32⟩
  | .hbm, ⟨13, _⟩ => ⟨S1024, .f32⟩
  | .hbm, ⟨14, _⟩ => ⟨S1024x3264, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x3264, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x3264, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .i32⟩
  | .hbm, ⟨84, _⟩ => ⟨S_, .f32⟩
  | .hbm, ⟨85, _⟩ => ⟨S8192x3328, .f32⟩
  | .hbm, ⟨86, _⟩ => ⟨S8192x3328, .bf16⟩
  | .hbm, ⟨87, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v17_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v17_1 : Ref sig .tc := ⟨.hbm, 47, rfl⟩
abbrev main_v17_0 : Ref sig .tc := ⟨.hbm, 48, rfl⟩
abbrev main_v18 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_3 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_6 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c : Ref sig .tc := ⟨.hbm, 83, rfl⟩
abbrev main_call2_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]
-- ==== KernelInFwd.lean ====
abbrev S8192x1024 : Shape := ⟨2, ![8192, 1024]⟩
abbrev S1024 : Shape := ⟨1, ![1024]⟩
abbrev S1024x3264 : Shape := ⟨2, ![1024, 3264]⟩
abbrev S3264x1024 : Shape := ⟨2, ![3264, 1024]⟩
abbrev S_ : Shape := ⟨0, ![]⟩
abbrev S3328x1024 : Shape := ⟨2, ![3328, 1024]⟩
abbrev S1x1024 : Shape := ⟨2, ![1, 1024]⟩
abbrev S8192x512 : Shape := ⟨2, ![8192, 512]⟩
abbrev S8192x384 : Shape := ⟨2, ![8192, 384]⟩
abbrev S8192x256 : Shape := ⟨2, ![8192, 256]⟩
abbrev S8192x128 : Shape := ⟨2, ![8192, 128]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S384x1024 : Shape := ⟨2, ![384, 1024]⟩
abbrev S256x384 : Shape := ⟨2, ![256, 384]⟩
abbrev S256x256 : Shape := ⟨2, ![256, 256]⟩
abbrev S128x1024 : Shape := ⟨2, ![128, 1024]⟩
abbrev S256x128 : Shape := ⟨2, ![256, 128]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3264, .f32⟩
  | .hbm, ⟨3, _⟩ => ⟨S3264x1024, .f32⟩
  | .hbm, ⟨4, _⟩ => ⟨S3264x1024, .bf16⟩
  | .hbm, ⟨5, _⟩ => ⟨S_, .i32⟩
  | .hbm, ⟨6, _⟩ => ⟨S_, .bf16⟩
  | .hbm, ⟨7, _⟩ => ⟨S3328x1024, .bf16⟩
  | .hbm, ⟨8, _⟩ => ⟨S1x1024, .f32⟩
  | .hbm, ⟨9, _⟩ => ⟨S8192x1024, .bf16⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x384, .f32⟩
  | .hbm, ⟨16, _⟩ => ⟨S8192x256, .f32⟩
  | .hbm, ⟨17, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x384, .f32⟩
  | .local _ .vmem, ⟨17, _⟩ => ⟨S512x384, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev main_v4_7 : Ref sig .tc := ⟨.hbm, 16, rfl⟩
abbrev main_v4_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceInFwdIdeal.lean ====
abbrev S8192x1024 : Shape := ⟨2, ![8192, 1024]⟩
abbrev S1024 : Shape := ⟨1, ![1024]⟩
abbrev S1024x3264 : Shape := ⟨2, ![1024, 3264]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3264 : Shape := ⟨2, ![8192, 3264]⟩
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x128 : Shape := ⟨2, ![8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3264, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3264, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x384, .f32⟩
  | .hbm, ⟨26, _⟩ => ⟨S8192x256, .f32⟩
  | .hbm, ⟨27, _⟩ => ⟨S8192x64, .f32⟩
  | .hbm, ⟨28, _⟩ => ⟨S8192x1024, .bf16⟩
  | .hbm, ⟨29, _⟩ => ⟨S_, .i32⟩
  | .hbm, ⟨30, _⟩ => ⟨S_, .f32⟩
  | .hbm, ⟨31, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelOutBwd.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S1x512 : Shape := ⟨2, ![1, 512]⟩
abbrev S4x1x8192 : Shape := ⟨3, ![4, 1, 8192]⟩
abbrev S1024x512 : Shape := ⟨2, ![1024, 512]⟩
abbrev S4x1x1024 : Shape := ⟨3, ![4, 1, 1024]⟩
abbrev S512x512 : Shape := ⟨2, ![512, 512]⟩
abbrev S8x512 : Shape := ⟨2, ![8, 512]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S8x256 : Shape := ⟨2, ![8, 256]⟩
abbrev S1x256 : Shape := ⟨2, ![1, 256]⟩
abbrev S1x1x256 : Shape := ⟨3, ![1, 1, 256]⟩

abbrev nBuf : Space → Nat
  | .hbm => 18
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S8192x1024, .bf16⟩
  | .hbm, ⟨9, _⟩ => ⟨S1x512, .f32⟩
  | .hbm, ⟨10, _⟩ => ⟨S1x512, .f32⟩
  | .hbm, ⟨11, _⟩ => ⟨S1024x1024, .bf16⟩
  | .hbm, ⟨12, _⟩ => ⟨S8192x512, .f32⟩
  | .hbm, ⟨13, _⟩ => ⟨S8192x512, .bf16⟩
  | .hbm, ⟨14, _⟩ => ⟨S8192x512, .bf16⟩
  | .hbm, ⟨15, _⟩ => ⟨S4x1x8192, .f32⟩
  | .hbm, ⟨16, _⟩ => ⟨S1x512, .f32⟩
  | .hbm, ⟨17, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S4x1x1024, .f32⟩
  | .local _ .vmem, ⟨20, _⟩ => ⟨S4x1x1024, .f32⟩
  | .local _ .vmem, ⟨21, _⟩ => ⟨S1x512, .f32⟩
  | .local _ .vmem, ⟨22, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v588 : BitVec 32 := Scalar.extui v0
  let c0_i32_227 : BitVec 32 := 0#32
  let v589 : BitVec 1 := Scalar.cmpi .ne v588 c0_i32_227
  v589

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v590 : BitVec 1 := Scalar.xori v0 v_true
  let v591 : BitVec 32 := Scalar.extui v590
  let c0_i32_228 : BitVec 32 := 0#32
  let v592 : BitVec 1 := Scalar.cmpi .ne v591 c0_i32_228
  v592

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v596 : BitVec 32 := Scalar.extui v0
  let c0_i32_230 : BitVec 32 := 0#32
  let v597 : BitVec 1 := Scalar.cmpi .ne v596 c0_i32_230
  v597

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_231 : BitVec 1 := 1#1
  let v598 : BitVec 1 := Scalar.xori v0 true_231
  let v599 : BitVec 32 := Scalar.extui v598
  let c0_i32_232 : BitVec 32 := 0#32
  let v600 : BitVec 1 := Scalar.cmpi .ne v599 c0_i32_232
  v600

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceOutBwdIdeal.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x512 : Shape := ⟨2, ![1, 512]⟩
abbrev S8192 : Shape := ⟨1, ![8192]⟩
abbrev S8192x1 : Shape := ⟨2, ![8192, 1]⟩
abbrev S8192x4x128 : Shape := ⟨3, ![8192, 4, 128]⟩
abbrev S8192x4 : Shape := ⟨2, ![8192, 4]⟩
abbrev S4x8192 : Shape := ⟨2, ![4, 8192]⟩
abbrev S4x1x8192 : Shape := ⟨3, ![4, 1, 8192]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S512, .f32⟩
  | 6 => ⟨S512, .f32⟩
  | 7 => ⟨S1024x1024, .f32⟩
  | 8 => ⟨S8192x512, .f32⟩
  | 9 => ⟨S8192x8x64, .f32⟩
  | 10 => ⟨S8192x8x64, .f32⟩
  | 11 => ⟨S_, .f32⟩
  | 12 => ⟨S8192x8, .f32⟩
  | 13 => ⟨S8192x8x1, .f32⟩
  | 14 => ⟨S_, .f32⟩
  | 15 => ⟨S8192x8x1, .f32⟩
  | 16 => ⟨S8192x8x1, .f32⟩
  | 17 => ⟨S_, .f32⟩
  | 18 => ⟨S8192x8x1, .f32⟩
  | 19 => ⟨S8192x8x1, .f32⟩
  | 20 => ⟨S8192x8x1, .f32⟩
  | 21 => ⟨S8192x8x1, .f32⟩
  | 22 => ⟨S_, .f32⟩
  | 23 => ⟨S8192x8x1, .f32⟩
  | 24 => ⟨S8192x8x1, .f32⟩
  | 25 => ⟨S8192x8x64, .f32⟩
  | 26 => ⟨S8192x8x64, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x512, .f32⟩
  | 61 => ⟨S8192x512, .f32⟩
  | 62 => ⟨S1x512, .f32⟩
  | 63 => ⟨S8192x512, .f32⟩
  | 64 => ⟨S8192x512, .f32⟩
  | 65 => ⟨S8192x1024, .f32⟩
  | 66 => ⟨S8192x1024, .f32⟩
  | 67 => ⟨S8192x1024, .f32⟩
  | 68 => ⟨S8192x512, .f32⟩
  | 69 => ⟨S8192x512, .f32⟩
  | 70 => ⟨S8192x512, .f32⟩
  | 71 => ⟨S_, .f32⟩
  | 72 => ⟨S512, .f32⟩
  | 73 => ⟨S1x512, .f32⟩
  | 74 => ⟨S8192x512, .f32⟩
  | 75 => ⟨S8192x512, .f32⟩
  | 76 => ⟨S_, .f32⟩
  | 77 => ⟨S512, .f32⟩
  | 78 => ⟨S8192x512, .f32⟩
  | 79 => ⟨S_, .f32⟩
  | 80 => ⟨S8192, .f32⟩
  | 81 => ⟨S8192x1, .f32⟩
  | 82 => ⟨S8192x512, .f32⟩
  | 83 => ⟨S8192x512, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S_, .f32⟩
  | 103 => ⟨S512, .f32⟩
  | 104 => ⟨S1x512, .f32⟩
  | 105 => ⟨S8192x512, .f32⟩
  | 106 => ⟨S8192x512, .f32⟩
  | 107 => ⟨S_, .f32⟩
  | 108 => ⟨S512, .f32⟩
  | 109 => ⟨S8192x8x64, .f32⟩
  | 110 => ⟨S8192x8x64, .f32⟩
  | 111 => ⟨S_, .f32⟩
  | 112 => ⟨S8192x8, .f32⟩
  | 113 => ⟨S8192x8x1, .f32⟩
  | 114 => ⟨S8192x8x64, .f32⟩
  | 115 => ⟨S8192x8x64, .f32⟩
  | 116 => ⟨S8192x8x1, .f32⟩
  | 117 => ⟨S_, .f32⟩
  | 118 => ⟨S8192x8x1, .f32⟩
  | 119 => ⟨S8192x8x1, .f32⟩
  | 120 => ⟨S_, .f32⟩
  | 121 => ⟨S8192x8, .f32⟩
  | 122 => ⟨S8192x8x64, .f32⟩
  | 123 => ⟨S8192x8x64, .f32⟩
  | 124 => ⟨S8192x8x64, .f32⟩
  | 125 => ⟨S8192x8x64, .f32⟩
  | 126 => ⟨S8192x8x64, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x4x128, .f32⟩
  | 2 => ⟨S_, .f32⟩
  | 3 => ⟨S8192x4, .f32⟩
  | 4 => ⟨S4x8192, .f32⟩
  | 5 => ⟨S8192x512, .bf16⟩
  | 6 => ⟨S8192x512, .bf16⟩
  | 7 => ⟨S4x1x8192, .f32⟩
  | 8 => ⟨S1x512, .f32⟩
  | 9 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]
-- ==== KernelAdaW.lean ====
abbrev S1024x704 : Shape := ⟨2, ![1024, 704]⟩
abbrev S704x1024 : Shape := ⟨2, ![704, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelAdaWIdeal.lean ====
abbrev S1024x704 : Shape := ⟨2, ![1024, 704]⟩
abbrev S704x1024 : Shape := ⟨2, ![704, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaWIdeal.lean ====
abbrev S1024x704 : Shape := ⟨2, ![1024, 704]⟩
abbrev S704x1024 : Shape := ⟨2, ![704, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S704x1024, .f32⟩
  | .hbm, ⟨42, _⟩ => ⟨S704x1024, .f32⟩
  | .hbm, ⟨43, _⟩ => ⟨S704x1024, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== KernelAdaDown.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelAdaDownIdeal.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaDownIdeal.lean ====
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdaOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== KernelAdaOutIdeal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdaOutIdeal.lean ====
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdaKvb.lean ====
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdaKvbIdeal.lean ====
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdaIn.lean ====
abbrev S1024x816 : Shape := ⟨2, ![1024, 816]⟩
abbrev S816x1024 : Shape := ⟨2, ![816, 1024]⟩
abbrev S136x1024 : Shape := ⟨2, ![136, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x816, .f32⟩
  | .hbm, ⟨1, _⟩ => ⟨S1024x816, .f32⟩
  | .hbm, ⟨2, _⟩ => ⟨S1024x816, .f32⟩
  | .hbm, ⟨3, _⟩ => ⟨S816x1024, .f32⟩
  | .hbm, ⟨4, _⟩ => ⟨S816x1024, .f32⟩
  | .hbm, ⟨5, _⟩ => ⟨S816x1024, .f32⟩
  | .hbm, ⟨6, _⟩ => ⟨S816x1024, .f32⟩
  | .hbm, ⟨7, _⟩ => ⟨S816x1024, .f32⟩
  | .hbm, ⟨8, _⟩ => ⟨S816x1024, .f32⟩
  | .hbm, ⟨9, _⟩ => ⟨S816x1024, .f32⟩
  | .hbm, ⟨10, _⟩ => ⟨S816x1024, .f32⟩
  | .hbm, ⟨11, _⟩ => ⟨S816x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | .local _ .vmem, ⟨14, _⟩ => ⟨S136x1024, .f32⟩
  | .local _ .vmem, ⟨15, _⟩ => ⟨S136x1024, .f32⟩
  | .local _ .vmem, ⟨16, _⟩ => ⟨S136x1024, .f32⟩
  | .local _ .vmem, ⟨17, _⟩ => ⟨S136x1024, .f32⟩
  | _, _ => ⟨S1024x816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S136x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelAdaInIdeal.lean ====
abbrev S1024x816 : Shape := ⟨2, ![1024, 816]⟩
abbrev S816x1024 : Shape := ⟨2, ![816, 1024]⟩
abbrev S136x1024 : Shape := ⟨2, ![136, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x816, .f32⟩
  | .hbm, ⟨1, _⟩ => ⟨S1024x816, .f32⟩
  | .hbm, ⟨2, _⟩ => ⟨S1024x816, .f32⟩
  | .hbm, ⟨3, _⟩ => ⟨S816x1024, .f32⟩
  | .hbm, ⟨4, _⟩ => ⟨S816x1024, .f32⟩
  | .hbm, ⟨5, _⟩ => ⟨S816x1024, .f32⟩
  | .hbm, ⟨6, _⟩ => ⟨S816x1024, .f32⟩
  | .hbm, ⟨7, _⟩ => ⟨S816x1024, .f32⟩
  | .hbm, ⟨8, _⟩ => ⟨S816x1024, .f32⟩
  | .hbm, ⟨9, _⟩ => ⟨S816x1024, .f32⟩
  | .hbm, ⟨10, _⟩ => ⟨S816x1024, .f32⟩
  | .hbm, ⟨11, _⟩ => ⟨S816x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | .local _ .vmem, ⟨14, _⟩ => ⟨S136x1024, .f32⟩
  | .local _ .vmem, ⟨15, _⟩ => ⟨S136x1024, .f32⟩
  | .local _ .vmem, ⟨16, _⟩ => ⟨S136x1024, .f32⟩
  | .local _ .vmem, ⟨17, _⟩ => ⟨S136x1024, .f32⟩
  | _, _ => ⟨S1024x816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S136x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaInIdeal.lean ====
abbrev S1024x816 : Shape := ⟨2, ![1024, 816]⟩
abbrev S816x1024 : Shape := ⟨2, ![816, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x816, .f32⟩
  | .hbm, ⟨1, _⟩ => ⟨S1024x816, .f32⟩
  | .hbm, ⟨2, _⟩ => ⟨S1024x816, .f32⟩
  | .hbm, ⟨3, _⟩ => ⟨S816x1024, .f32⟩
  | .hbm, ⟨4, _⟩ => ⟨S816x1024, .f32⟩
  | .hbm, ⟨5, _⟩ => ⟨S816x1024, .f32⟩
  | .hbm, ⟨6, _⟩ => ⟨S1024x816, .f32⟩
  | .hbm, ⟨7, _⟩ => ⟨S816x1024, .f32⟩
  | .hbm, ⟨8, _⟩ => ⟨S_, .f32⟩
  | .hbm, ⟨9, _⟩ => ⟨S1024x816, .f32⟩
  | .hbm, ⟨10, _⟩ => ⟨S1024x816, .f32⟩
  | .hbm, ⟨11, _⟩ => ⟨S_, .f32⟩
  | .hbm, ⟨12, _⟩ => ⟨S1024x816, .f32⟩
  | .hbm, ⟨13, _⟩ => ⟨S1024x816, .f32⟩
  | .hbm, ⟨14, _⟩ => ⟨S1024x816, .f32⟩
  | .hbm, ⟨15, _⟩ => ⟨S_, .f32⟩
  | .hbm, ⟨16, _⟩ => ⟨S1024x816, .f32⟩
  | .hbm, ⟨17, _⟩ => ⟨S1024x816, .f32⟩
  | .hbm, ⟨18, _⟩ => ⟨S1024x816, .f32⟩
  | .hbm, ⟨19, _⟩ => ⟨S_, .f32⟩
  | .hbm, ⟨20, _⟩ => ⟨S1024x816, .f32⟩
  | .hbm, ⟨21, _⟩ => ⟨S1024x816, .f32⟩
  | .hbm, ⟨22, _⟩ => ⟨S1024x816, .f32⟩
  | .hbm, ⟨23, _⟩ => ⟨S_, .f32⟩
  | .hbm, ⟨24, _⟩ => ⟨S1024x816, .f32⟩
  | .hbm, ⟨25, _⟩ => ⟨S1024x816, .f32⟩
  | .hbm, ⟨26, _⟩ => ⟨S_, .f32⟩
  | .hbm, ⟨27, _⟩ => ⟨S1024x816, .f32⟩
  | .hbm, ⟨28, _⟩ => ⟨S1024x816, .f32⟩
  | .hbm, ⟨29, _⟩ => ⟨S1024x816, .f32⟩
  | .hbm, ⟨30, _⟩ => ⟨S_, .f32⟩
  | .hbm, ⟨31, _⟩ => ⟨S1024x816, .f32⟩
  | .hbm, ⟨32, _⟩ => ⟨S1024x816, .f32⟩
  | .hbm, ⟨33, _⟩ => ⟨S1024x816, .f32⟩
  | .hbm, ⟨34, _⟩ => ⟨S_, .f32⟩
  | .hbm, ⟨35, _⟩ => ⟨S1024x816, .f32⟩
  | .hbm, ⟨36, _⟩ => ⟨S1024x816, .f32⟩
  | .hbm, ⟨37, _⟩ => ⟨S1024x816, .f32⟩
  | .hbm, ⟨38, _⟩ => ⟨S_, .f32⟩
  | .hbm, ⟨39, _⟩ => ⟨S1024x816, .f32⟩
  | .hbm, ⟨40, _⟩ => ⟨S1024x816, .f32⟩
  | .hbm, ⟨41, _⟩ => ⟨S816x1024, .f32⟩
  | .hbm, ⟨42, _⟩ => ⟨S816x1024, .f32⟩
  | .hbm, ⟨43, _⟩ => ⟨S816x1024, .f32⟩
  | _, _ => ⟨S1024x816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== KernelAdaQb.lean ====
abbrev S384x192 : Shape := ⟨2, ![384, 192]⟩
abbrev S192x384 : Shape := ⟨2, ![192, 384]⟩

abbrev nBuf : Space → Nat
  | .hbm => 12
  | .vmem => 9
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S192x384, .f32⟩
  | .hbm, ⟨7, _⟩ => ⟨S192x384, .f32⟩
  | .hbm, ⟨8, _⟩ => ⟨S192x384, .f32⟩
  | .hbm, ⟨9, _⟩ => ⟨S192x384, .f32⟩
  | .hbm, ⟨10, _⟩ => ⟨S192x384, .f32⟩
  | .hbm, ⟨11, _⟩ => ⟨S192x384, .f32⟩
  | .local _ .vmem, ⟨0, _⟩ => ⟨S192x384, .f32⟩
  | .local _ .vmem, ⟨1, _⟩ => ⟨S192x384, .f32⟩
  | .local _ .vmem, ⟨2, _⟩ => ⟨S192x384, .f32⟩
  | .local _ .vmem, ⟨3, _⟩ => ⟨S192x384, .f32⟩
  | .local _ .vmem, ⟨4, _⟩ => ⟨S192x384, .f32⟩
  | .local _ .vmem, ⟨5, _⟩ => ⟨S192x384, .f32⟩
  | .local _ .vmem, ⟨6, _⟩ => ⟨S192x384, .f32⟩
  | .local _ .vmem, ⟨7, _⟩ => ⟨S192x384, .f32⟩
  | .local _ .vmem, ⟨8, _⟩ => ⟨S192x384, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S192x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdaQbIdeal.lean ====
abbrev S384x192 : Shape := ⟨2, ![384, 192]⟩
abbrev S192x384 : Shape := ⟨2, ![192, 384]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S384x192, .f32⟩
  | .hbm, ⟨7, _⟩ => ⟨S192x384, .f32⟩
  | .hbm, ⟨8, _⟩ => ⟨S_, .f32⟩
  | .hbm, ⟨9, _⟩ => ⟨S384x192, .f32⟩
  | .hbm, ⟨10, _⟩ => ⟨S384x192, .f32⟩
  | .hbm, ⟨11, _⟩ => ⟨S_, .f32⟩
  | .hbm, ⟨12, _⟩ => ⟨S384x192, .f32⟩
  | .hbm, ⟨13, _⟩ => ⟨S384x192, .f32⟩
  | .hbm, ⟨14, _⟩ => ⟨S384x192, .f32⟩
  | .hbm, ⟨15, _⟩ => ⟨S_, .f32⟩
  | .hbm, ⟨16, _⟩ => ⟨S384x192, .f32⟩
  | .hbm, ⟨17, _⟩ => ⟨S384x192, .f32⟩
  | .hbm, ⟨18, _⟩ => ⟨S384x192, .f32⟩
  | .hbm, ⟨19, _⟩ => ⟨S_, .f32⟩
  | .hbm, ⟨20, _⟩ => ⟨S384x192, .f32⟩
  | .hbm, ⟨21, _⟩ => ⟨S384x192, .f32⟩
  | .hbm, ⟨22, _⟩ => ⟨S384x192, .f32⟩
  | .hbm, ⟨23, _⟩ => ⟨S_, .f32⟩
  | .hbm, ⟨24, _⟩ => ⟨S384x192, .f32⟩
  | .hbm, ⟨25, _⟩ => ⟨S384x192, .f32⟩
  | .hbm, ⟨26, _⟩ => ⟨S_, .f32⟩
  | .hbm, ⟨27, _⟩ => ⟨S384x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S_, .f32⟩
  | .hbm, ⟨35, _⟩ => ⟨S384x192, .f32⟩
  | .hbm, ⟨36, _⟩ => ⟨S384x192, .f32⟩
  | .hbm, ⟨37, _⟩ => ⟨S384x192, .f32⟩
  | .hbm, ⟨38, _⟩ => ⟨S_, .f32⟩
  | .hbm, ⟨39, _⟩ => ⟨S384x192, .f32⟩
  | .hbm, ⟨40, _⟩ => ⟨S384x192, .f32⟩
  | .hbm, ⟨41, _⟩ => ⟨S192x384, .f32⟩
  | .hbm, ⟨42, _⟩ => ⟨S192x384, .f32⟩
  | .hbm, ⟨43, _⟩ => ⟨S192x384, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== KernelAdaSmall.lean ====
abbrev S48x128 : Shape := ⟨2, ![48, 128]⟩

abbrev nBuf : Space → Nat
  | .hbm => 8
  | .vmem => 8
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S48x128, .f32⟩
  | .hbm, ⟨5, _⟩ => ⟨S48x128, .f32⟩
  | .hbm, ⟨6, _⟩ => ⟨S48x128, .f32⟩
  | .hbm, ⟨7, _⟩ => ⟨S48x128, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | .local _ .vmem, ⟨7, _⟩ => ⟨S48x128, .f32⟩
  | _, _ => ⟨S48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdaSmallIdeal.lean ====
abbrev S48x128 : Shape := ⟨2, ![48, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S_, .f32⟩
  | .hbm, ⟨5, _⟩ => ⟨S48x128, .f32⟩
  | .hbm, ⟨6, _⟩ => ⟨S48x128, .f32⟩
  | .hbm, ⟨7, _⟩ => ⟨S_, .f32⟩
  | .hbm, ⟨8, _⟩ => ⟨S48x128, .f32⟩
  | .hbm, ⟨9, _⟩ => ⟨S48x128, .f32⟩
  | .hbm, ⟨10, _⟩ => ⟨S48x128, .f32⟩
  | .hbm, ⟨11, _⟩ => ⟨S_, .f32⟩
  | .hbm, ⟨12, _⟩ => ⟨S48x128, .f32⟩
  | .hbm, ⟨13, _⟩ => ⟨S48x128, .f32⟩
  | .hbm, ⟨14, _⟩ => ⟨S48x128, .f32⟩
  | .hbm, ⟨15, _⟩ => ⟨S_, .f32⟩
  | .hbm, ⟨16, _⟩ => ⟨S48x128, .f32⟩
  | .hbm, ⟨17, _⟩ => ⟨S48x128, .f32⟩
  | .hbm, ⟨18, _⟩ => ⟨S48x128, .f32⟩
  | .hbm, ⟨19, _⟩ => ⟨S_, .f32⟩
  | .hbm, ⟨20, _⟩ => ⟨S48x128, .f32⟩
  | .hbm, ⟨21, _⟩ => ⟨S48x128, .f32⟩
  | .hbm, ⟨22, _⟩ => ⟨S_, .f32⟩
  | .hbm, ⟨23, _⟩ => ⟨S48x128, .f32⟩
  | .hbm, ⟨24, _⟩ => ⟨S48x128, .f32⟩
  | .hbm, ⟨25, _⟩ => ⟨S48x128, .f32⟩
  | .hbm, ⟨26, _⟩ => ⟨S_, .f32⟩
  | .hbm, ⟨27, _⟩ => ⟨S48x128, .f32⟩
  | .hbm, ⟨28, _⟩ => ⟨S48x128, .f32⟩
  | .hbm, ⟨29, _⟩ => ⟨S48x128, .f32⟩
  | .hbm, ⟨30, _⟩ => ⟨S_, .f32⟩
  | .hbm, ⟨31, _⟩ => ⟨S48x128, .f32⟩
  | .hbm, ⟨32, _⟩ => ⟨S48x128, .f32⟩
  | .hbm, ⟨33, _⟩ => ⟨S48x128, .f32⟩
  | .hbm, ⟨34, _⟩ => ⟨S_, .f32⟩
  | .hbm, ⟨35, _⟩ => ⟨S48x128, .f32⟩
  | .hbm, ⟨36, _⟩ => ⟨S48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelOutFwd.lean ====
abbrev S8192x512 : Shape := ⟨2, ![8192, 512]⟩
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S1024x512 : Shape := ⟨2, ![1024, 512]⟩
abbrev S512x512 : Shape := ⟨2, ![512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩

abbrev nBuf : Space → Nat
  | .hbm => 16
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1x512, .f32⟩
  | .hbm, ⟨10, _⟩ => ⟨S1x512, .f32⟩
  | .hbm, ⟨11, _⟩ => ⟨S1024x1024, .bf16⟩
  | .hbm, ⟨12, _⟩ => ⟨S1x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .f32⟩
  | .local _ .vmem, ⟨9, _⟩ => ⟨S1024x1024, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOutFwdIdeal.lean ====
abbrev S8192x512 : Shape := ⟨2, ![8192, 512]⟩
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x512 : Shape := ⟨2, ![1, 512]⟩
abbrev S8192 : Shape := ⟨1, ![8192]⟩
abbrev S8192x1 : Shape := ⟨2, ![8192, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S8192x512, .f32⟩
  | .hbm, ⟨10, _⟩ => ⟨S8192x8x64, .f32⟩
  | .hbm, ⟨11, _⟩ => ⟨S8192x8x64, .f32⟩
  | .hbm, ⟨12, _⟩ => ⟨S_, .f32⟩
  | .hbm, ⟨13, _⟩ => ⟨S8192x8, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x64, .f32⟩
  | .hbm, ⟨23, _⟩ => ⟨S8192x8x64, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== KernelPrep.lean ====
abbrev S8192x384 : Shape := ⟨2, ![8192, 384]⟩
abbrev S8192x256 : Shape := ⟨2, ![8192, 256]⟩
abbrev S8192x64 : Shape := ⟨2, ![8192, 64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S_ : Shape := ⟨0, ![]⟩
abbrev S8192x128 : Shape := ⟨2, ![8192, 128]⟩
abbrev S1x384 : Shape := ⟨2, ![1, 384]⟩
abbrev S1x256 : Shape := ⟨2, ![1, 256]⟩
abbrev S768x384 : Shape := ⟨2, ![768, 384]⟩
abbrev S4x192x384 : Shape := ⟨3, ![4, 192, 384]⟩
abbrev S4x256x384 : Shape := ⟨3, ![4, 256, 384]⟩
abbrev S1024x384 : Shape := ⟨2, ![1024, 384]⟩
abbrev S256x4x256 : Shape := ⟨3, ![256, 4, 256]⟩
abbrev S256x4x128 : Shape := ⟨3, ![256, 4, 128]⟩
abbrev S256x512 : Shape := ⟨2, ![256, 512]⟩
abbrev S4096x64 : Shape := ⟨2, ![4096, 64]⟩
abbrev S4096x128 : Shape := ⟨2, ![4096, 128]⟩
abbrev S8192x1024 : Shape := ⟨2, ![8192, 1024]⟩
abbrev S8192x512 : Shape := ⟨2, ![8192, 512]⟩
abbrev S1024x256 : Shape := ⟨2, ![1024, 256]⟩
abbrev S1024x128 : Shape := ⟨2, ![1024, 128]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S128x384 : Shape := ⟨2, ![128, 384]⟩
abbrev S256x128 : Shape := ⟨2, ![256, 128]⟩

abbrev nBuf : Space → Nat
  | .hbm => 38
  | .vmem => 24
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x64, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S4096x32, .f32⟩
  | .hbm, ⟨8, _⟩ => ⟨S4096x32, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S1x384, .f32⟩
  | .hbm, ⟨13, _⟩ => ⟨S1x256, .f32⟩
  | .hbm, ⟨14, _⟩ => ⟨S768x384, .f32⟩
  | .hbm, ⟨15, _⟩ => ⟨S768x384, .bf16⟩
  | .hbm, ⟨16, _⟩ => ⟨S4x192x384, .bf16⟩
  | .hbm, ⟨17, _⟩ => ⟨S_, .i32⟩
  | .hbm, ⟨18, _⟩ => ⟨S_, .bf16⟩
  | .hbm, ⟨19, _⟩ => ⟨S4x256x384, .bf16⟩
  | .hbm, ⟨20, _⟩ => ⟨S1024x384, .bf16⟩
  | .hbm, ⟨21, _⟩ => ⟨S256x1024, .bf16⟩
  | .hbm, ⟨22, _⟩ => ⟨S256x4x256, .bf16⟩
  | .hbm, ⟨23, _⟩ => ⟨S256x4x128, .bf16⟩
  | .hbm, ⟨24, _⟩ => ⟨S256x512, .bf16⟩
  | .hbm, ⟨25, _⟩ => ⟨S256x4x128, .bf16⟩
  | .hbm, ⟨26, _⟩ => ⟨S256x512, .bf16⟩
  | .hbm, ⟨27, _⟩ => ⟨S256x1024, .bf16⟩
  | .hbm, ⟨28, _⟩ => ⟨S_, .f32⟩
  | .hbm, ⟨29, _⟩ => ⟨S4096x64, .f32⟩
  | .hbm, ⟨30, _⟩ => ⟨S4096x128, .f32⟩
  | .hbm, ⟨31, _⟩ => ⟨S4096x32, .f32⟩
  | .hbm, ⟨32, _⟩ => ⟨S4096x128, .f32⟩
  | .hbm, ⟨33, _⟩ => ⟨S8192x1024, .bf16⟩
  | .hbm, ⟨34, _⟩ => ⟨S8192x1024, .bf16⟩
  | .hbm, ⟨35, _⟩ => ⟨S8192x512, .bf16⟩
  | .hbm, ⟨36, _⟩ => ⟨S8192x384, .bf16⟩
  | .hbm, ⟨37, _⟩ => ⟨S8192x256, .bf16⟩
  | .local _ .vmem, ⟨0, _⟩ => ⟨S1024x384, .f32⟩
  | .local _ .vmem, ⟨1, _⟩ => ⟨S1024x384, .f32⟩
  | .local _ .vmem, ⟨2, _⟩ => ⟨S1024x256, .f32⟩
  | .local _ .vmem, ⟨3, _⟩ => ⟨S1024x256, .f32⟩
  | .local _ .vmem, ⟨4, _⟩ => ⟨S1024x128, .f32⟩
  | .local _ .vmem, ⟨5, _⟩ => ⟨S1024x128, .f32⟩
  | .local _ .vmem, ⟨6, _⟩ => ⟨S1x384, .f32⟩
  | .local _ .vmem, ⟨7, _⟩ => ⟨S1x256, .f32⟩
  | .local _ .vmem, ⟨8, _⟩ => ⟨S1024x384, .bf16⟩
  | .local _ .vmem, ⟨9, _⟩ => ⟨S256x1024, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x384, .bf16⟩
  | .local _ .vmem, ⟨21, _⟩ => ⟨S1024x384, .bf16⟩
  | .local _ .vmem, ⟨22, _⟩ => ⟨S1024x256, .bf16⟩
  | .local _ .vmem, ⟨23, _⟩ => ⟨S1024x256, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferencePrepIdeal.lean ====
abbrev S8192x384 : Shape := ⟨2, ![8192, 384]⟩
abbrev S8192x256 : Shape := ⟨2, ![8192, 256]⟩
abbrev S8192x64 : Shape := ⟨2, ![8192, 64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S1x256 : Shape := ⟨2, ![1, 256]⟩
abbrev S8192x768 : Shape := ⟨2, ![8192, 768]⟩
abbrev S8192x4x192 : Shape := ⟨3, ![8192, 4, 192]⟩
abbrev S8192x1024 : Shape := ⟨2, ![8192, 1024]⟩
abbrev S8192x4x256 : Shape := ⟨3, ![8192, 4, 256]⟩
abbrev S8192x4x64 : Shape := ⟨3, ![8192, 4, 64]⟩
abbrev S8192x1x32 : Shape := ⟨3, ![8192, 1, 32]⟩
abbrev S8192x4x32 : Shape := ⟨3, ![8192, 4, 32]⟩
abbrev S8192x4x128 : Shape := ⟨3, ![8192, 4, 128]⟩
abbrev S8192x1x64 : Shape := ⟨3, ![8192, 1, 64]⟩
abbrev S8192x512 : Shape := ⟨2, ![8192, 512]⟩

abbrev nBuf : Space → Nat
  | .hbm => 93
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x64, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S4096x32, .f32⟩
  | .hbm, ⟨8, _⟩ => ⟨S4096x32, .f32⟩
  | .hbm, ⟨9, _⟩ => ⟨S1x4096x1x32, .f32⟩
  | .hbm, ⟨10, _⟩ => ⟨S2x4096x1x32, .f32⟩
  | .hbm, ⟨11, _⟩ => ⟨S8192x32, .f32⟩
  | .hbm, ⟨12, _⟩ => ⟨S1x4096x1x32, .f32⟩
  | .hbm, ⟨13, _⟩ => ⟨S2x4096x1x32, .f32⟩
  | .hbm, ⟨14, _⟩ => ⟨S8192x32, .f32⟩
  | .hbm, ⟨15, _⟩ => ⟨S8192x384, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x384, .f32⟩
  | .hbm, ⟨27, _⟩ => ⟨S8192x384, .f32⟩
  | .hbm, ⟨28, _⟩ => ⟨S1x384, .f32⟩
  | .hbm, ⟨29, _⟩ => ⟨S8192x384, .f32⟩
  | .hbm, ⟨30, _⟩ => ⟨S8192x384, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S1x256, .f32⟩
  | .hbm, ⟨45, _⟩ => ⟨S8192x256, .f32⟩
  | .hbm, ⟨46, _⟩ => ⟨S8192x256, .f32⟩
  | .hbm, ⟨47, _⟩ => ⟨S8192x768, .f32⟩
  | .hbm, ⟨48, _⟩ => ⟨S8192x4x192, .f32⟩
  | .hbm, ⟨49, _⟩ => ⟨S8192x1024, .f32⟩
  | .hbm, ⟨50, _⟩ => ⟨S8192x4x256, .f32⟩
  | .hbm, ⟨51, _⟩ => ⟨S8192x4x64, .f32⟩
  | .hbm, ⟨52, _⟩ => ⟨S8192x1x32, .f32⟩
  | .hbm, ⟨53, _⟩ => ⟨S8192x1x32, .f32⟩
  | .hbm, ⟨54, _⟩ => ⟨S8192x4x32, .f32⟩
  | .hbm, ⟨55, _⟩ => ⟨S8192x4x32, .f32⟩
  | .hbm, ⟨56, _⟩ => ⟨S8192x4x32, .f32⟩
  | .hbm, ⟨57, _⟩ => ⟨S8192x4x32, .f32⟩
  | .hbm, ⟨58, _⟩ => ⟨S8192x4x32, .f32⟩
  | .hbm, ⟨59, _⟩ => ⟨S8192x4x32, .f32⟩
  | .hbm, ⟨60, _⟩ => ⟨S8192x4x32, .f32⟩
  | .hbm, ⟨61, _⟩ => ⟨S8192x4x32, .f32⟩
  | .hbm, ⟨62, _⟩ => ⟨S8192x4x32, .f32⟩
  | .hbm, ⟨63, _⟩ => ⟨S8192x4x32, .f32⟩
  | .hbm, ⟨64, _⟩ => ⟨S8192x4x32, .f32⟩
  | .hbm, ⟨65, _⟩ => ⟨S8192x4x32, .f32⟩
  | .hbm, ⟨66, _⟩ => ⟨S8192x4x64, .f32⟩
  | .hbm, ⟨67, _⟩ => ⟨S8192x4x128, .f32⟩
  | .hbm, ⟨68, _⟩ => ⟨S8192x4x128, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x64, .f32⟩
  | .hbm, ⟨78, _⟩ => ⟨S8192x4x128, .f32⟩
  | .hbm, ⟨79, _⟩ => ⟨S8192x1x64, .f32⟩
  | .hbm, ⟨80, _⟩ => ⟨S8192x4x64, .f32⟩
  | .hbm, ⟨81, _⟩ => ⟨S_, .f32⟩
  | .hbm, ⟨82, _⟩ => ⟨S8192x4x64, .f32⟩
  | .hbm, ⟨83, _⟩ => ⟨S8192x4x256, .f32⟩
  | .hbm, ⟨84, _⟩ => ⟨S8192x1024, .f32⟩
  | .hbm, ⟨85, _⟩ => ⟨S8192x4x256, .f32⟩
  | .hbm, ⟨86, _⟩ => ⟨S8192x1024, .f32⟩
  | .hbm, ⟨87, _⟩ => ⟨S8192x1024, .bf16⟩
  | .hbm, ⟨88, _⟩ => ⟨S8192x1024, .bf16⟩
  | .hbm, ⟨89, _⟩ => ⟨S8192x512, .f32⟩
  | .hbm, ⟨90, _⟩ => ⟨S8192x512, .bf16⟩
  | .hbm, ⟨91, _⟩ => ⟨S8192x384, .bf16⟩
  | .hbm, ⟨92, _⟩ => ⟨S8192x256, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩

abbrev nD : Nat := 1
abbrev τ : Topo := Topo.v7x

variable {F : FTy → Type} [FloatOps F]
-- ==== KernelPrepBwd.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S1024x8192 : Shape := ⟨2, ![1024, 8192]⟩
abbrev S1x384 : Shape := ⟨2, ![1, 384]⟩
abbrev S1x256 : Shape := ⟨2, ![1, 256]⟩
abbrev S768x384 : Shape := ⟨2, ![768, 384]⟩
abbrev S4x192x384 : Shape := ⟨3, ![4, 192, 384]⟩
abbrev S_ : Shape := ⟨0, ![]⟩
abbrev S4x256x384 : Shape := ⟨3, ![4, 256, 384]⟩
abbrev S1024x384 : Shape := ⟨2, ![1024, 384]⟩
abbrev S256x4x256 : Shape := ⟨3, ![256, 4, 256]⟩
abbrev S256x4x128 : Shape := ⟨3, ![256, 4, 128]⟩
abbrev S256x512 : Shape := ⟨2, ![256, 512]⟩
abbrev S4096x64 : Shape := ⟨2, ![4096, 64]⟩
abbrev S4096x128 : Shape := ⟨2, ![4096, 128]⟩
abbrev S8192x128 : Shape := ⟨2, ![8192, 128]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S128x384 : Shape := ⟨2, ![128, 384]⟩
abbrev S256x128 : Shape := ⟨2, ![256, 128]⟩
abbrev S1024 : Shape := ⟨1, ![1024]⟩
abbrev S1024x1 : Shape := ⟨2, ![1024, 1]⟩

abbrev nBuf : Space → Nat
  | .hbm => 40
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x384, .f32⟩
  | .hbm, ⟨4, _⟩ => ⟨S8192x256, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S4096x32, .f32⟩
  | .hbm, ⟨10, _⟩ => ⟨S4096x32, .f32⟩
  | .hbm, ⟨11, _⟩ => ⟨S1024x8192, .f32⟩
  | .hbm, ⟨12, _⟩ => ⟨S1x384, .f32⟩
  | .hbm, ⟨13, _⟩ => ⟨S1x256, .f32⟩
  | .hbm, ⟨14, _⟩ => ⟨S768x384, .f32⟩
  | .hbm, ⟨15, _⟩ => ⟨S768x384, .bf16⟩
  | .hbm, ⟨16, _⟩ => ⟨S4x192x384, .bf16⟩
  | .hbm, ⟨17, _⟩ => ⟨S_, .i32⟩
  | .hbm, ⟨18, _⟩ => ⟨S_, .bf16⟩
  | .hbm, ⟨19, _⟩ => ⟨S4x256x384, .bf16⟩
  | .hbm, ⟨20, _⟩ => ⟨S1024x384, .bf16⟩
  | .hbm, ⟨21, _⟩ => ⟨S256x1024, .bf16⟩
  | .hbm, ⟨22, _⟩ => ⟨S256x4x256, .bf16⟩
  | .hbm, ⟨23, _⟩ => ⟨S256x4x128, .bf16⟩
  | .hbm, ⟨24, _⟩ => ⟨S256x512, .bf16⟩
  | .hbm, ⟨25, _⟩ => ⟨S256x4x128, .bf16⟩
  | .hbm, ⟨26, _⟩ => ⟨S256x512, .bf16⟩
  | .hbm, ⟨27, _⟩ => ⟨S256x1024, .bf16⟩
  | .hbm, ⟨28, _⟩ => ⟨S_, .f32⟩
  | .hbm, ⟨29, _⟩ => ⟨S4096x64, .f32⟩
  | .hbm, ⟨30, _⟩ => ⟨S4096x128, .f32⟩
  | .hbm, ⟨31, _⟩ => ⟨S4096x32, .f32⟩
  | .hbm, ⟨32, _⟩ => ⟨S4096x128, .f32⟩
  | .hbm, ⟨33, _⟩ => ⟨S8192x384, .bf16⟩
  | .hbm, ⟨34, _⟩ => ⟨S8192x256, .bf16⟩
  | .hbm, ⟨35, _⟩ => ⟨S8192x128, .bf16⟩
  | .hbm, ⟨36, _⟩ => ⟨S8192x1024, .bf16⟩
  | .hbm, ⟨37, _⟩ => ⟨S8192x1024, .bf16⟩
  | .hbm, ⟨38, _⟩ => ⟨S1x384, .f32⟩
  | .hbm, ⟨39, _⟩ => ⟨S1x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .f32⟩
  | .local _ .vmem, ⟨5, _⟩ => ⟨S1024x512, .f32⟩
  | .local _ .vmem, ⟨6, _⟩ => ⟨S1024x384, .f32⟩
  | .local _ .vmem, ⟨7, _⟩ => ⟨S1024x384, .f32⟩
  | .local _ .vmem, ⟨8, _⟩ => ⟨S1024x256, .f32⟩
  | .local _ .vmem, ⟨9, _⟩ => ⟨S1024x256, .f32⟩
  | .local _ .vmem, ⟨10, _⟩ => ⟨S1x384, .f32⟩
  | .local _ .vmem, ⟨11, _⟩ => ⟨S1x256, .f32⟩
  | .local _ .vmem, ⟨12, _⟩ => ⟨S1024x384, .bf16⟩
  | .local _ .vmem, ⟨13, _⟩ => ⟨S256x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x384, .bf16⟩
  | .local _ .vmem, ⟨19, _⟩ => ⟨S1024x384, .bf16⟩
  | .local _ .vmem, ⟨20, _⟩ => ⟨S1024x256, .bf16⟩
  | .local _ .vmem, ⟨21, _⟩ => ⟨S1024x256, .bf16⟩
  | .local _ .vmem, ⟨22, _⟩ => ⟨S1024x128, .bf16⟩
  | .local _ .vmem, ⟨23, _⟩ => ⟨S1024x128, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1x384, .f32⟩
  | .local _ .vmem, ⟨29, _⟩ => ⟨S1x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev main_v19_5 : Ref sig .tc := ⟨.hbm, 38, rfl⟩
abbrev main_v19_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v218 : BitVec 32 := Scalar.extui v4
  let c0_i32_124 : BitVec 32 := 0#32
  let v219 : BitVec 1 := Scalar.cmpi .ne v218 c0_i32_124
  v219

def k0_cond2 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v220 : BitVec 1 := Scalar.xori v4 v_true
  let v221 : BitVec 32 := Scalar.extui v220
  let c0_i32_125 : BitVec 32 := 0#32
  let v222 : BitVec 1 := Scalar.cmpi .ne v221 c0_i32_125
  v222

def k0_cond3 (i : grid0.Coords) : BitVec 1 :=
  let arg0 : BitVec 32 := BitVec.ofNat 32 (i 0).val
  let c0_i32 : BitVec 32 := 0#32
  let v4 : BitVec 1 := Scalar.cmpi .eq arg0 c0_i32
  let v225 : BitVec 32 := Scalar.extui v4
  let c0_i32_127 : BitVec 32 := 0#32
  let v226 : BitVec 1 := Scalar.cmpi .ne v225 c0_i32_127
  v226

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let true_128 : BitVec 1 := 1#1
  let v227 : BitVec 1 := Scalar.xori v4 true_128
  let v228 : BitVec 32 := Scalar.extui v227
  let c0_i32_129 : BitVec 32 := 0#32
  let v229 : BitVec 1 := Scalar.cmpi .ne v228 c0_i32_129
  v229

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferencePrepBwdIdeal.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S8192x32 : Shape := ⟨2, ![8192, 32]⟩
abbrev S_ : Shape := ⟨0, ![]⟩
abbrev S8192x4x64 : Shape := ⟨3, ![8192, 4, 64]⟩
abbrev S8192x1x32 : Shape := ⟨3, ![8192, 1, 32]⟩
abbrev S8192x4x32 : Shape := ⟨3, ![8192, 4, 32]⟩
abbrev S8192x64 : Shape := ⟨2, ![8192, 64]⟩
abbrev S8192x1x64 : Shape := ⟨3, ![8192, 1, 64]⟩
abbrev S8192 : Shape := ⟨1, ![8192]⟩
abbrev S8192x1 : Shape := ⟨2, ![8192, 1]⟩
abbrev S1x384 : Shape := ⟨2, ![1, 384]⟩
abbrev S1x256 : Shape := ⟨2, ![1, 256]⟩
abbrev S8192x4x256 : Shape := ⟨3, ![8192, 4, 256]⟩
abbrev S8192x4x128 : Shape := ⟨3, ![8192, 4, 128]⟩
abbrev S8192x4x192 : Shape := ⟨3, ![8192, 4, 192]⟩
abbrev S8192x768 : Shape := ⟨2, ![8192, 768]⟩
abbrev S8192x128 : Shape := ⟨2, ![8192, 128]⟩

abbrev nBuf : Space → Nat
  | .hbm => 208
  | .vmem => 0
  | .smem => 0
  | _ => 0

abbrev hbmTy0_0 (i : Nat) : BufTy := match i % 128 with
  | 0 => ⟨S8192x1024, .f32⟩
  | 1 => ⟨S8192x1024, .f32⟩
  | 2 => ⟨S8192x512, .f32⟩
  | 3 => ⟨S8192x384, .f32⟩
  | 4 => ⟨S8192x256, .f32⟩
  | 5 => ⟨S384, .f32⟩
  | 6 => ⟨S256, .f32⟩
  | 7 => ⟨S384x768, .f32⟩
  | 8 => ⟨S256x1024, .f32⟩
  | 9 => ⟨S4096x32, .f32⟩
  | 10 => ⟨S4096x32, .f32⟩
  | 11 => ⟨S1x4096x1x32, .f32⟩
  | 12 => ⟨S2x4096x1x32, .f32⟩
  | 13 => ⟨S8192x32, .f32⟩
  | 14 => ⟨S1x4096x1x32, .f32⟩
  | 15 => ⟨S2x4096x1x32, .f32⟩
  | 16 => ⟨S8192x32, .f32⟩
  | 17 => ⟨S_, .f32⟩
  | 18 => ⟨S8192x4x64, .f32⟩
  | 19 => ⟨S8192x1x32, .f32⟩
  | 20 => ⟨S8192x1x32, .f32⟩
  | 21 => ⟨S8192x4x32, .f32⟩
  | 22 => ⟨S8192x4x32, .f32⟩
  | 23 => ⟨S8192x4x32, .f32⟩
  | 24 => ⟨S8192x4x32, .f32⟩
  | 25 => ⟨S8192x4x32, .f32⟩
  | 26 => ⟨S8192x4x32, .f32⟩
  | 27 => ⟨S8192x4x32, .f32⟩
  | 28 => ⟨S8192x4x32, .f32⟩
  | 29 => ⟨S8192x4x32, .f32⟩
  | 30 => ⟨S8192x4x32, .f32⟩
  | 31 => ⟨S8192x4x32, .f32⟩
  | 32 => ⟨S8192x4x32, .f32⟩
  | 33 => ⟨S8192x4x64, .f32⟩
  | 34 => ⟨S_, .f32⟩
  | 35 => ⟨S8192x64, .f32⟩
  | 36 => ⟨S8192x32, .f32⟩
  | 37 => ⟨S8192x32, .f32⟩
  | 38 => ⟨S8192x32, .f32⟩
  | 39 => ⟨S8192x32, .f32⟩
  | 40 => ⟨S8192x32, .f32⟩
  | 41 => ⟨S8192x32, .f32⟩
  | 42 => ⟨S8192x32, .f32⟩
  | 43 => ⟨S8192x32, .f32⟩
  | 44 => ⟨S8192x64, .f32⟩
  | 45 => ⟨S8192x1x64, .f32⟩
  | 46 => ⟨S8192x4x64, .f32⟩
  | 47 => ⟨S8192x384, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x384, .f32⟩
  | 63 => ⟨S8192x384, .f32⟩
  | 64 => ⟨S1x384, .f32⟩
  | 65 => ⟨S8192x384, .f32⟩
  | 66 => ⟨S8192x384, .f32⟩
  | 67 => ⟨S8192x256, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x256, .f32⟩
  | 83 => ⟨S8192x256, .f32⟩
  | 84 => ⟨S1x256, .f32⟩
  | 85 => ⟨S8192x256, .f32⟩
  | 86 => ⟨S8192x256, .f32⟩
  | 87 => ⟨S8192x4x256, .f32⟩
  | 88 => ⟨S8192x4x256, .f32⟩
  | 89 => ⟨S8192x4x128, .f32⟩
  | 90 => ⟨S8192x4x64, .f32⟩
  | 91 => ⟨S8192x4x32, .f32⟩
  | 92 => ⟨S8192x4x32, .f32⟩
  | 93 => ⟨S8192x4x32, .f32⟩
  | 94 => ⟨S8192x4x32, .f32⟩
  | 95 => ⟨S8192x4x32, .f32⟩
  | 96 => ⟨S8192x4x32, .f32⟩
  | 97 => ⟨S8192x4x32, .f32⟩
  | 98 => ⟨S8192x4x32, .f32⟩
  | 99 => ⟨S8192x4x32, .f32⟩
  | 100 => ⟨S8192x4x32, .f32⟩
  | 101 => ⟨S8192x4x32, .f32⟩
  | 102 => ⟨S8192x4x32, .f32⟩
  | 103 => ⟨S8192x4x32, .f32⟩
  | 104 => ⟨S8192x4x64, .f32⟩
  | 105 => ⟨S8192x4x128, .f32⟩
  | 106 => ⟨S8192x4x128, .f32⟩
  | 107 => ⟨S8192x4x64, .f32⟩
  | 108 => ⟨S_, .f32⟩
  | 109 => ⟨S8192x64, .f32⟩
  | 110 => ⟨S8192x1x64, .f32⟩
  | 111 => ⟨S_, .f32⟩
  | 112 => ⟨S8192x64, .f32⟩
  | 113 => ⟨S8192x32, .f32⟩
  | 114 => ⟨S8192x32, .f32⟩
  | 115 => ⟨S8192x32, .f32⟩
  | 116 => ⟨S8192x32, .f32⟩
  | 117 => ⟨S8192x32, .f32⟩
  | 118 => ⟨S8192x32, .f32⟩
  | 119 => ⟨S8192x32, .f32⟩
  | 120 => ⟨S8192x32, .f32⟩
  | 121 => ⟨S8192x32, .f32⟩
  | 122 => ⟨S8192x64, .f32⟩
  | 123 => ⟨S8192x4x192, .f32⟩
  | 124 => ⟨S8192x768, .f32⟩
  | 125 => ⟨S8192x4x256, .f32⟩
  | 126 => ⟨S8192x1024, .f32⟩
  | 127 => ⟨S8192x768, .f32⟩
  | _ => ⟨S8192x1024, .f32⟩

abbrev hbmTy0_1 (i : Nat) : BufTy := match i % 128 with
  | 0 => ⟨S8192x384, .f32⟩
  | 1 => ⟨S8192x384, .f32⟩
  | 2 => ⟨S_, .f32⟩
  | 3 => ⟨S384, .f32⟩
  | 4 => ⟨S1x384, .f32⟩
  | 5 => ⟨S8192x384, .f32⟩
  | 6 => ⟨S8192x384, .f32⟩
  | 7 => ⟨S_, .f32⟩
  | 8 => ⟨S384, .f32⟩
  | 9 => ⟨S8192x384, .f32⟩
  | 10 => ⟨S_, .f32⟩
  | 11 => ⟨S8192, .f32⟩
  | 12 => ⟨S8192x1, .f32⟩
  | 13 => ⟨S8192x384, .f32⟩
  | 14 => ⟨S8192x384, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x384, .f32⟩
  | 22 => ⟨S8192x384, .f32⟩
  | 23 => ⟨S8192x384, .f32⟩
  | 24 => ⟨S8192x384, .f32⟩
  | 25 => ⟨S8192x384, .f32⟩
  | 26 => ⟨S8192x1024, .f32⟩
  | 27 => ⟨S8192x256, .f32⟩
  | 28 => ⟨S8192x256, .f32⟩
  | 29 => ⟨S_, .f32⟩
  | 30 => ⟨S256, .f32⟩
  | 31 => ⟨S1x256, .f32⟩
  | 32 => ⟨S8192x256, .f32⟩
  | 33 => ⟨S8192x256, .f32⟩
  | 34 => ⟨S_, .f32⟩
  | 35 => ⟨S256, .f32⟩
  | 36 => ⟨S8192x256, .f32⟩
  | 37 => ⟨S_, .f32⟩
  | 38 => ⟨S8192, .f32⟩
  | 39 => ⟨S8192x1, .f32⟩
  | 40 => ⟨S8192x256, .f32⟩
  | 41 => ⟨S8192x256, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S8192x4x32, .f32⟩
  | 54 => ⟨S8192x1x32, .f32⟩
  | 55 => ⟨S8192x4x32, .f32⟩
  | 56 => ⟨S8192x4x32, .f32⟩
  | 57 => ⟨S_, .f32⟩
  | 58 => ⟨S8192x4x32, .f32⟩
  | 59 => ⟨S8192x4x64, .f32⟩
  | 60 => ⟨S8192x4x32, .f32⟩
  | 61 => ⟨S_, .f32⟩
  | 62 => ⟨S8192x32, .f32⟩
  | 63 => ⟨S8192x32, .f32⟩
  | 64 => ⟨S_, .f32⟩
  | 65 => ⟨S8192x32, .f32⟩
  | 66 => ⟨S8192x64, .f32⟩
  | 67 => ⟨S8192x384, .bf16⟩
  | 68 => ⟨S8192x256, .bf16⟩
  | 69 => ⟨S8192x128, .f32⟩
  | 70 => ⟨S8192x128, .bf16⟩
  | 71 => ⟨S8192x4x256, .f32⟩
  | 72 => ⟨S8192x1024, .f32⟩
  | 73 => ⟨S8192x1024, .bf16⟩
  | 74 => ⟨S8192x512, .f32⟩
  | 75 => ⟨S8192x512, .f32⟩
  | 76 => ⟨S8192x1024, .f32⟩
  | 77 => ⟨S8192x1024, .bf16⟩
  | 78 => ⟨S1x384, .f32⟩
  | 79 => ⟨S1x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_cst_10 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_11 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_12 : Ref sig .tc := ⟨.hbm, 135, rfl⟩
abbrev main_v111 : Ref sig .tc := ⟨.hbm, 136, rfl⟩
abbrev main_v112 : Ref sig .tc := ⟨.hbm, 137, rfl⟩
abbrev main_cst_13 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_14 : Ref sig .tc := ⟨.hbm, 144, rfl⟩
abbrev main_v118 : Ref sig .tc := ⟨.hbm, 145, rfl⟩
abbrev main_v119 : Ref sig .tc := ⟨.hbm, 146, rfl⟩
abbrev main_cst_15 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_16 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_17 : Ref sig .tc := ⟨.hbm, 162, rfl⟩
abbrev main_v133 : Ref sig .tc := ⟨.hbm, 163, rfl⟩
abbrev main_v134 : Ref sig .tc := ⟨.hbm, 164, rfl⟩
abbrev main_cst_18 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_19 : Ref sig .tc := ⟨.hbm, 171, rfl⟩
abbrev main_v140 : Ref sig .tc := ⟨.hbm, 172, rfl⟩
abbrev main_v141 : Ref sig .tc := ⟨.hbm, 173, rfl⟩
abbrev main_cst_20 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_21 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_22 : Ref sig .tc := ⟨.hbm, 189, rfl⟩
abbrev main_v155 : Ref sig .tc := ⟨.hbm, 190, rfl⟩
abbrev main_v156 : Ref sig .tc := ⟨.hbm, 191, rfl⟩
abbrev main_cst_23 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩

abbrev nD : Nat := 1
abbrev τ : Topo := Topo.v7x

variable {F : FTy → Type} [FloatOps F]
-- ==== Proof.Ffn.Real.lean ====
/- The feed-forward block's step on real numbers: the two root-mean-square norms, the gated product, the loss and their
   gradients, token by token, and the one identity between the two ways of writing a norm's gradient. -/
module

public import Idealize.ShloMosaic.Lib.Pointwise
public import Idealize.ShloMosaic.Init

@[expose] public section

noncomputable section

open Idealize.ShloMosaic

namespace Cert.Ffn

/-! ## Extended reals that are real numbers -/

theorem mulE (a b : ℝ) : (a : EReal) * (b : EReal) = ((a * b : ℝ) : EReal) := (EReal.coe_mul a b).symm
theorem addE (a b : ℝ) : (a : EReal) + (b : EReal) = ((a + b : ℝ) : EReal) := (EReal.coe_add a b).symm
theorem subE (a b : ℝ) : (a : EReal) - (b : EReal) = ((a - b : ℝ) : EReal) := (EReal.coe_sub a b).symm
theorem negE (a : ℝ) : -(a : EReal) = ((-a : ℝ) : EReal) := (EReal.coe_neg a).symm

theorem sumE {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, addE]

theorem divE (a b : ℝ) (h : b ≠ 0) : Ideal.div (a : EReal) (b : EReal) = ((a * (1 / b) : ℝ) : EReal) := by
  rw [Ideal.div_coe h, mulE]

theorem rsqrtE (a : ℝ) (h : 0 < a) : Ideal.rsqrt (a : EReal) = (((Real.sqrt a)⁻¹ : ℝ) : EReal) := by
  rw [Ideal.rsqrt_coe, if_neg (not_lt.2 h.le), if_neg h.ne']

/-- `1 / (1 + e^(-x))`. -/
def sg (x : ℝ) : ℝ := (1 + Real.exp (-x))⁻¹

theorem logisticE (x : ℝ) : Ideal.logistic (x : EReal) = (sg x : EReal) := Ideal.logistic_coe (r := x)

theorem sg_host (x : ℝ) : Ideal.div 1 (1 + Ideal.exp (-(x : EReal))) = (sg x : EReal) := logisticE x

/-! ## The constants of the two programs -/

/-- The norms' epsilon: the f32 nearest 1e-6. -/
def eps : ℝ := 8796093 / 8796093022208

theorem eps_pos : 0 < eps := by norm_num [eps]

theorem c_eps : Ideal.ofBits .f32 0x358637BD#32 = (eps : EReal) := by
  simp [Ideal.ofBits, Ideal.ieee, eps, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_inf : Ideal.ofBits .f32 0x7F800000#32 = (⊤ : EReal) := by
  simp [Ideal.ofBits, Ideal.ieee]

/-- A real matrix as an array of extended reals. -/
def arr2 {n k : ℕ} (g : Fin n → Fin k → ℝ) : (⟨2, ![n, k]⟩ : Shape).Idx → EReal := fun i => (g (i 0) (i 1) : EReal)

theorem arr2_ext {n k : ℕ} (g : Fin n → Fin k → ℝ) {a : Fin n} {b : Fin k} {i : (⟨2, ![n, k]⟩ : Shape).Idx} (h : ix2 a b = i) :
    (g a b : EReal) = arr2 g i := by subst h; rfl

/-! ## The step -/

/-- The mean square of a token's features plus epsilon. -/
def ms (x : Fin 1024 → ℝ) : ℝ := (∑ k, x k * x k) * (1 / 1024) + eps

/-- Its reciprocal square root. -/
def rr (x : Fin 1024 → ℝ) : ℝ := (Real.sqrt (ms x))⁻¹

theorem ms_pos (x : Fin 1024 → ℝ) : 0 < ms x := by
  have h : 0 ≤ ∑ k, x k * x k := Finset.sum_nonneg fun k _ => mul_self_nonneg _
  have := eps_pos
  unfold ms; positivity

theorem rr_div (x : Fin 1024 → ℝ) : rr x * (1 / ms x) = rr x * rr x * rr x := by
  have h : rr x * rr x = 1 / ms x := by
    unfold rr; rw [← mul_inv, Real.mul_self_sqrt (ms_pos x).le, one_div]
  rw [← h]; ring

/-- The gradient of the normalised features, as one product and one mean. -/
def rmsGrad (x d : Fin 1024 → ℝ) (k : Fin 1024) : ℝ :=
  rr x * (d k - x k * rr x * ((∑ l, d l * (x l * rr x)) * (1 / 1024)))

/-- The same gradient, as differentiating the mean square writes it. -/
theorem rmsGrad_vjp (x d : Fin 1024 → ℝ) (k : Fin 1024) :
    d k * rr x + x k * ((∑ l, x l * d l) * (-(1 / 2) * (rr x * (1 / ms x))) * (1 / 1024))
      + (∑ l, x l * d l) * (-(1 / 2) * (rr x * (1 / ms x))) * (1 / 1024) * x k = rmsGrad x d k := by
  have hs : ∑ l, d l * (x l * rr x) = rr x * ∑ l, x l * d l := by
    rw [Finset.mul_sum]; exact Finset.sum_congr rfl fun l _ => by ring
  rw [rr_div, rmsGrad, hs]; ring

/-- The arguments, as real numbers. -/
structure Args where
  x : Fin 8192 → Fin 1024 → ℝ
  t : Fin 8192 → Fin 1024 → ℝ
  g2 : Fin 1024 → ℝ
  wg : Fin 1024 → Fin 2816 → ℝ
  wu : Fin 1024 → Fin 2816 → ℝ
  wd : Fin 2816 → Fin 1024 → ℝ
  gf : Fin 1024 → ℝ

namespace Args
variable (A : Args)

def h (a : Fin 8192) (k : Fin 1024) : ℝ := A.x a k * rr (A.x a) * A.g2 k
def gate (a : Fin 8192) (f : Fin 2816) : ℝ := ∑ k, A.h a k * A.wg k f
def up (a : Fin 8192) (f : Fin 2816) : ℝ := ∑ k, A.h a k * A.wu k f
def act (a : Fin 8192) (f : Fin 2816) : ℝ := A.gate a f * sg (A.gate a f) * A.up a f
def x3 (a : Fin 8192) (k : Fin 1024) : ℝ := A.x a k + ∑ f, A.act a f * A.wd f k
def err (a : Fin 8192) (k : Fin 1024) : ℝ := A.x3 a k * rr (A.x3 a) * A.gf k - A.t a k
def lossRow (a : Fin 8192) : ℝ := (∑ k, A.err a k * A.err a k) * (1 / 1024)
def dy (a : Fin 8192) (k : Fin 1024) : ℝ := A.err a k * (1 / 1024)
def dx3 (a : Fin 8192) (k : Fin 1024) : ℝ := rmsGrad (A.x3 a) (fun l => A.dy a l * A.gf l) k
def da (a : Fin 8192) (f : Fin 2816) : ℝ := ∑ k, A.dx3 a k * A.wd f k
def dup (a : Fin 8192) (f : Fin 2816) : ℝ := A.da a f * (A.gate a f * sg (A.gate a f))
def dgate (a : Fin 8192) (f : Fin 2816) : ℝ :=
  A.da a f * A.up a f * (sg (A.gate a f) * (1 + A.gate a f * (1 - sg (A.gate a f))))
def dh (a : Fin 8192) (k : Fin 1024) : ℝ := (∑ f, A.dgate a f * A.wg k f) + ∑ f, A.dup a f * A.wu k f
def dx2 (a : Fin 8192) (k : Fin 1024) : ℝ := A.dx3 a k + rmsGrad (A.x a) (fun l => A.dh a l * A.g2 l) k
def loss : ℝ := 1 / 2 * ∑ a, A.lossRow a
def dgfRow (a : Fin 8192) (k : Fin 1024) : ℝ := A.dy a k * (A.x3 a k * rr (A.x3 a))
def dg2Row (a : Fin 8192) (k : Fin 1024) : ℝ := A.dh a k * (A.x a k * rr (A.x a))

end Args
end Cert.Ffn
end
end
-- ==== Proof.Finite.lean ====
/- The precondition read: every argument array it was said of holds real numbers. -/
module

public import Idealize.ShloMosaic.Lib.ReduceAll
public import Idealize.ShloMosaic.Lib.Affine
public import proofs.«01_k».proof.Proof.Gen.Pre_finite
public import proofs.«01_k».proof.Proof.Ffn.Real

@[expose] public section

set_option maxRecDepth 16384

noncomputable section

namespace Cert.Finite

open Idealize.ShloMosaic Idealize.ShloMosaic.TcCoe Idealize.ShloMosaic.StableHlo Cert.Pre_finite Cert.Pre_finite.Facts

theorem below_top (x : EReal) (h : Ideal.cmp .olt (max x (-x)) (Ideal.ofBits .f32 0x7F800000#32) = 1#1) :
    x = (x.toReal : EReal) := by
  rw [Cert.Ffn.c_inf] at h
  induction x with
  | bot => simp [Ideal.cmp] at h
  | top => simp [Ideal.cmp] at h
  | coe r => simp

instance : Subsingleton S_.Idx := ⟨fun a b => funext fun i => i.elim0⟩

/-- An array whose magnitudes all compare below infinity holds real numbers. -/
theorem all_real {s : Shape} {axes : List (Fin s.rank)} (x : FVec Ideal s .f32) (hb : S_.BroadcastsInDim s (![] : Fin 0 → Fin s.rank))
    (h : s.ReducesTo axes S_) (hu : 0 < S_.numel) (init : S_.Idx → BitVec 1)
    (e : Host.reduce IntOp.andi (cmpf .olt (Host.absf x) (broadcastInDim s ![] hb (constant S_ .f32 0x7F800000#32))) init h hu = fun _ => 1#1)
    (i : s.Idx) : x i = ((x i).toReal : EReal) :=
  below_top _ (Host.reduce_andi_all _ _ h hu ix0 (congrFun e ix0) i)

theorem and_one {a b : IVec S_ 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

variable [Cert.Pre_finite.Facts]

theorem reals (x0 x1 : FVec Ideal S8192x1024 .f32) (x2 : FVec Ideal S1024 .f32) (x3 x4 : FVec Ideal S1024x2816 .f32) (x5 : FVec Ideal S2816x1024 .f32) (x6 : FVec Ideal S1024 .f32)
    (h : fn (F := Ideal) x0 x1 x2 x3 x4 x5 x6 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ (∀ i, x6 i = ((x6 i).toReal : EReal)) := by
  obtain ⟨h, e6⟩ := and_one h
  obtain ⟨h, e5⟩ := and_one h
  obtain ⟨h, e4⟩ := and_one h
  obtain ⟨h, e3⟩ := and_one h
  obtain ⟨h, e2⟩ := and_one h
  obtain ⟨e0, e1⟩ := and_one h
  exact ⟨all_real _ _ _ _ _ e0, all_real _ _ _ _ _ e1, all_real _ _ _ _ _ e2, all_real _ _ _ _ _ e3, all_real _ _ _ _ _ e4,
    all_real _ _ _ _ _ e5, all_real _ _ _ _ _ e6⟩

end Cert.Finite
end
end
-- ==== Proof.Ffn.Ker.lean ====
/- The body's stored blocks over real inputs: for a block whose row `r` is the token `ρ r`, each payload read at an index is
   the real number `Args` names at that token. -/
module

public import proofs.«01_k».proof.Proof.Gen.KernelIdeal.Skeleton
public import proofs.«01_k».proof.Proof.Ffn.Real

@[expose] public section

set_option maxRecDepth 16384

noncomputable section

namespace Cert.Ffn.Ker

open Cert.KernelIdeal Cert.KernelIdeal.Gen
open Idealize.ShloMosaic Idealize.ShloMosaic.TcCoe

variable {A : Args} {ρ : Fin 256 → Fin 8192}
  {v1 : FVec Ideal S256x1024 .bf16} (h1 : ∀ r k, v1 (ix2 r k) = (A.h (ρ r) k : EReal))
  {v3 : FVec Ideal S2816x1024 .bf16} (h3 : ∀ f k, v3 (ix2 f k) = (A.wg k f : EReal))
  {v6 : FVec Ideal S2816x1024 .bf16} (h6 : ∀ f k, v6 (ix2 f k) = (A.wu k f : EReal))
  {v14 : FVec Ideal S256x1024 .f32} (h14 : ∀ r k, v14 (ix2 r k) = (A.x (ρ r) k : EReal))
  {v15 : FVec Ideal S2816x1024 .bf16} (h15 : ∀ f k, v15 (ix2 f k) = (A.wd f k : EReal))
  {v29 : FVec Ideal S1x1024 .f32} (h29 : ∀ z k, v29 (ix2 z k) = (A.gf k : EReal))
  {v33 : FVec Ideal S256x1024 .f32} (h33 : ∀ r k, v33 (ix2 r k) = (A.t (ρ r) k : EReal))
  {v34 : FVec Ideal S256x1024 .f32} (h34 : ∀ r k, v34 (ix2 r k) = (A.err (ρ r) k : EReal))
  {v28 : FVec Ideal S256x1024 .f32} (h28 : ∀ r k, v28 (ix2 r k) = ((A.x3 (ρ r) k * rr (A.x3 (ρ r)) : ℝ) : EReal))
  {v26 : FVec Ideal S256x1 .f32} (h26 : ∀ r z, v26 (ix2 r z) = (rr (A.x3 (ρ r)) : EReal))
  {v30 : FVec Ideal S1x1024 .f32} (h30 : ∀ z k, v30 (ix2 z k) = (A.gf k : EReal))
  {v73 : FVec Ideal S256x1024 .bf16} (h73 : ∀ r k, v73 (ix2 r k) = (A.dx3 (ρ r) k : EReal))
  {v75 : FVec Ideal S2816x1024 .bf16} (h75 : ∀ f k, v75 (ix2 f k) = (A.wd f k : EReal))
  {v10 : FVec Ideal S256x2816 .f32} (h10 : ∀ r f, v10 (ix2 r f) = ((A.gate (ρ r) f * sg (A.gate (ρ r) f) : ℝ) : EReal))
  {v5 : FVec Ideal S256x2816 .f32} (h5 : ∀ r f, v5 (ix2 r f) = (A.gate (ρ r) f : EReal))
  {v8 : FVec Ideal S256x2816 .f32} (h8 : ∀ r f, v8 (ix2 r f) = (A.up (ρ r) f : EReal))
  {v9 : FVec Ideal S256x2816 .f32} (h9 : ∀ r f, v9 (ix2 r f) = (sg (A.gate (ρ r) f) : EReal))
  {v91 : FVec Ideal S2816x1024 .bf16} (h91 : ∀ f k, v91 (ix2 f k) = (A.wg k f : EReal))
  {v94 : FVec Ideal S2816x1024 .bf16} (h94 : ∀ f k, v94 (ix2 f k) = (A.wu k f : EReal))
  {v97 : FVec Ideal S256x1024 .f32} (h97 : ∀ r k, v97 (ix2 r k) = (A.dh (ρ r) k : EReal))
  {v99 : FVec Ideal S1x1024 .f32} (h99 : ∀ z k, v99 (ix2 z k) = (A.g2 k : EReal))
  {v107 : FVec Ideal S256x1 .f32} (h107 : ∀ r z, v107 (ix2 r z) = (rr (A.x (ρ r)) : EReal))
  {v109 : FVec Ideal S256x1024 .f32} (h109 : ∀ r k, v109 (ix2 r k) = ((A.x (ρ r) k * rr (A.x (ρ r)) : ℝ) : EReal))
  {v72 : FVec Ideal S256x1024 .f32} (h72 : ∀ r k, v72 (ix2 r k) = (A.dx3 (ρ r) k : EReal))
  {v98 : FVec Ideal S1x1024 .f32} (h98 : ∀ z k, v98 (ix2 z k) = (A.g2 k : EReal))
  {v46 : FVec Ideal S8x128 .f32}
  {v134 : FVec Ideal S1x1024 .f32}

include h1 in
theorem h_pay (r : Fin 256) (k : Fin 1024) : k0_pay5 (F := Ideal) v1 (ix2 r k) = (A.h (ρ r) k : EReal) := by
  pointwise [k0_pay5, h1]

include h1 h3 in
theorem gate_pay (r : Fin 256) (f : Fin 2816) : k0_pay6 (F := Ideal) v1 v3 (ix2 r f) = (A.gate (ρ r) f : EReal) := by
  pointwise [k0_pay6, h_pay h1, h1, h3]
  simp only [c_eps, c_1024, c_inv1024, c_half, zero_add, mulE, Fin.sum_univ_one, sumE, divE _ _ (by norm_num : (1024 : ℝ) ≠ 0), addE, subE, negE, ← EReal.coe_one, ← EReal.coe_zero]
  rfl

include h1 h6 in
theorem up_pay (r : Fin 256) (f : Fin 2816) : k0_pay7 (F := Ideal) v1 v6 (ix2 r f) = (A.up (ρ r) f : EReal) := by
  pointwise [k0_pay7, h_pay h1, h1, h6]
  simp only [c_eps, c_1024, c_inv1024, c_half, zero_add, mulE, Fin.sum_univ_one, sumE, divE _ _ (by norm_num : (1024 : ℝ) ≠ 0), addE, subE, negE, ← EReal.coe_one, ← EReal.coe_zero]
  rfl

include h1 h3 in
theorem sg_pay (r : Fin 256) (f : Fin 2816) : k0_pay8 (F := Ideal) v1 v3 (ix2 r f) = (sg (A.gate (ρ r) f) : EReal) := by
  pointwise [k0_pay8, gate_pay h1 h3, h1, h3]
  exact logisticE _

include h1 h3 in
theorem sl_pay (r : Fin 256) (f : Fin 2816) : k0_pay9 (F := Ideal) v1 v3 (ix2 r f) = ((A.gate (ρ r) f * sg (A.gate (ρ r) f) : ℝ) : EReal) := by
  pointwise [k0_pay9, gate_pay h1 h3, sg_pay h1 h3, h1, h3]
  simp only [c_eps, c_1024, c_inv1024, c_half, zero_add, mulE, Fin.sum_univ_one, sumE, divE _ _ (by norm_num : (1024 : ℝ) ≠ 0), addE, subE, negE, ← EReal.coe_one, ← EReal.coe_zero]

include h1 h3 h6 in
theorem act_pay (r : Fin 256) (f : Fin 2816) : k0_pay10 (F := Ideal) v1 v3 v6 (ix2 r f) = (A.act (ρ r) f : EReal) := by
  pointwise [k0_pay10, sl_pay h1 h3, up_pay h1 h6, h1, h3, h6]
  simp only [c_eps, c_1024, c_inv1024, c_half, zero_add, mulE, Fin.sum_univ_one, sumE, divE _ _ (by norm_num : (1024 : ℝ) ≠ 0), addE, subE, negE, ← EReal.coe_one, ← EReal.coe_zero]
  rfl

include h1 h3 h6 h14 h15 in
theorem x3_pay (r : Fin 256) (k : Fin 1024) : k0_pay11 (F := Ideal) v1 v3 v6 v14 v15 (ix2 r k) = (A.x3 (ρ r) k : EReal) := by
  pointwise [k0_pay11, act_pay h1 h3 h6, h1, h3, h6, h14, h15]
  simp only [c_eps, c_1024, c_inv1024, c_half, zero_add, mulE, Fin.sum_univ_one, sumE, divE _ _ (by norm_num : (1024 : ℝ) ≠ 0), addE, subE, negE, ← EReal.coe_one, ← EReal.coe_zero]
  rfl

include h1 h3 h6 h14 h15 in
theorem rr3_pay (r : Fin 256) (z : Fin 1) : k0_pay12 (F := Ideal) v1 v3 v6 v14 v15 (ix2 r z) = (rr (A.x3 (ρ r)) : EReal) := by
  pointwise [k0_pay12, x3_pay h1 h3 h6 h14 h15, h1, h3, h6, h14, h15]
  simp only [c_eps, c_1024, c_inv1024, c_half, zero_add, mulE, Fin.sum_univ_one, sumE, divE _ _ (by norm_num : (1024 : ℝ) ≠ 0), addE, subE, negE, ← EReal.coe_one, ← EReal.coe_zero]
  exact rsqrtE _ (ms_pos _)

include h1 h3 h6 h14 h15 in
theorem xh3_pay (r : Fin 256) (k : Fin 1024) : k0_pay13 (F := Ideal) v1 v3 v6 v14 v15 (ix2 r k) = ((A.x3 (ρ r) k * rr (A.x3 (ρ r)) : ℝ) : EReal) := by
  pointwise [k0_pay13, x3_pay h1 h3 h6 h14 h15, rr3_pay h1 h3 h6 h14 h15, h1, h3, h6, h14, h15]
  simp only [c_eps, c_1024, c_inv1024, c_half, zero_add, mulE, Fin.sum_univ_one, sumE, divE _ _ (by norm_num : (1024 : ℝ) ≠ 0), addE, subE, negE, ← EReal.coe_one, ← EReal.coe_zero]

include h29 in
theorem gf_pay (z : Fin 1) (k : Fin 1024) : k0_pay14 (F := Ideal) v29 (ix2 z k) = (A.gf k : EReal) := by
  pointwise [k0_pay14, h29]

include h1 h3 h6 h14 h15 h29 h33 in
theorem err_pay (r : Fin 256) (k : Fin 1024) : k0_pay15 (F := Ideal) v1 v3 v6 v14 v15 v29 v33 (ix2 r k) = (A.err (ρ r) k : EReal) := by
  pointwise [k0_pay15, xh3_pay h1 h3 h6 h14 h15, gf_pay h29, h1, h3, h6, h14, h15, h29, h33]
  simp only [c_eps, c_1024, c_inv1024, c_half, zero_add, mulE, Fin.sum_univ_one, sumE, divE _ _ (by norm_num : (1024 : ℝ) ≠ 0), addE, subE, negE, ← EReal.coe_one, ← EReal.coe_zero]
  rfl

include h34 in
theorem loss_pay (p : Fin 8) (q : Fin 128) : k0_pay17 (F := Ideal) v34 v46 (ix2 p q) = v46 (ix2 p q) + ((1 / 2 * ∑ r, A.lossRow (ρ r) : ℝ) : EReal) := by
  pointwise [k0_pay17, h34]
  simp only [c_eps, c_1024, c_inv1024, c_half, zero_add, mulE, Fin.sum_univ_one, sumE, divE _ _ (by norm_num : (1024 : ℝ) ≠ 0), addE, subE, negE, ← EReal.coe_one, ← EReal.coe_zero]
  rfl

include h34 in
theorem dy_pay (r : Fin 256) (k : Fin 1024) : k0_pay18 (F := Ideal) v34 (ix2 r k) = (A.dy (ρ r) k : EReal) := by
  pointwise [k0_pay18, h34]
  simp only [c_eps, c_1024, c_inv1024, c_half, zero_add, mulE, Fin.sum_univ_one, sumE, divE _ _ (by norm_num : (1024 : ℝ) ≠ 0), addE, subE, negE, ← EReal.coe_one, ← EReal.coe_zero]
  rfl

include h34 h28 in
theorem dgf_pay (z : Fin 1) (k : Fin 1024) : k0_pay19 (F := Ideal) v28 v34 (ix2 z k) = ((∑ r, A.dgfRow (ρ r) k : ℝ) : EReal) := by
  pointwise [k0_pay19, dy_pay h34, h34, h28]
  simp only [c_eps, c_1024, c_inv1024, c_half, zero_add, mulE, Fin.sum_univ_one, sumE, divE _ _ (by norm_num : (1024 : ℝ) ≠ 0), addE, subE, negE, ← EReal.coe_one, ← EReal.coe_zero]
  rfl

include h34 h28 in
theorem dgf_step (z : Fin 1) (k : Fin 1024) : k0_pay20 (F := Ideal) v28 v34 v134 (ix2 z k) = v134 (ix2 z k) + ((∑ r, A.dgfRow (ρ r) k : ℝ) : EReal) := by
  pointwise [k0_pay20, dgf_pay h34 h28, h34, h28]

include h34 h28 h26 h30 in
theorem dx3_pay (r : Fin 256) (k : Fin 1024) : k0_pay21 (F := Ideal) v26 v28 v30 v34 (ix2 r k) = (A.dx3 (ρ r) k : EReal) := by
  pointwise [k0_pay21, dy_pay h34, h34, h28, h26, h30]
  simp only [c_eps, c_1024, c_inv1024, c_half, zero_add, mulE, Fin.sum_univ_one, sumE, divE _ _ (by norm_num : (1024 : ℝ) ≠ 0), addE, subE, negE, ← EReal.coe_one, ← EReal.coe_zero]
  rfl

include h34 h28 h26 h30 in
theorem dx3h_pay (r : Fin 256) (k : Fin 1024) : k0_pay22 (F := Ideal) v26 v28 v30 v34 (ix2 r k) = (A.dx3 (ρ r) k : EReal) := by
  pointwise [k0_pay22, dx3_pay h34 h28 h26 h30, h34, h28, h26, h30]

include h73 h75 in
theorem da_pay (r : Fin 256) (f : Fin 2816) : k0_pay23 (F := Ideal) v73 v75 (ix2 r f) = (A.da (ρ r) f : EReal) := by
  pointwise [k0_pay23, h73, h75]
  simp only [c_eps, c_1024, c_inv1024, c_half, zero_add, mulE, Fin.sum_univ_one, sumE, divE _ _ (by norm_num : (1024 : ℝ) ≠ 0), addE, subE, negE, ← EReal.coe_one, ← EReal.coe_zero]
  rfl

include h73 h75 h10 in
theorem dup_pay (r : Fin 256) (f : Fin 2816) : k0_pay24 (F := Ideal) v10 v73 v75 (ix2 r f) = (A.dup (ρ r) f : EReal) := by
  pointwise [k0_pay24, da_pay h73 h75, h73, h75, h10]
  simp only [c_eps, c_1024, c_inv1024, c_half, zero_add, mulE, Fin.sum_univ_one, sumE, divE _ _ (by norm_num : (1024 : ℝ) ≠ 0), addE, subE, negE, ← EReal.coe_one, ← EReal.coe_zero]
  rfl

include h73 h75 h5 h8 h9 in
theorem dgate_pay (r : Fin 256) (f : Fin 2816) : k0_pay25 (F := Ideal) v5 v8 v9 v73 v75 (ix2 r f) = (A.dgate (ρ r) f : EReal) := by
  pointwise [k0_pay25, da_pay h73 h75, h73, h75, h5, h8, h9]
  simp only [c_eps, c_1024, c_inv1024, c_half, zero_add, mulE, Fin.sum_univ_one, sumE, divE _ _ (by norm_num : (1024 : ℝ) ≠ 0), addE, subE, negE, ← EReal.coe_one, ← EReal.coe_zero]
  rfl

include h73 h75 h10 h5 h8 h9 h91 h94 in
theorem dh_pay (r : Fin 256) (k : Fin 1024) : k0_pay26 (F := Ideal) v5 v8 v9 v10 v73 v75 v91 v94 (ix2 r k) = (A.dh (ρ r) k : EReal) := by
  pointwise [k0_pay26, dup_pay h73 h75 h10, dgate_pay h73 h75 h5 h8 h9, h73, h75, h10, h5, h8, h9, h91, h94]
  simp only [c_eps, c_1024, c_inv1024, c_half, zero_add, mulE, Fin.sum_univ_one, sumE, divE _ _ (by norm_num : (1024 : ℝ) ≠ 0), addE, subE, negE, ← EReal.coe_one, ← EReal.coe_zero]
  rfl

include h98 in
theorem g2_pay (z : Fin 1) (k : Fin 1024) : k0_pay27 (F := Ideal) v98 (ix2 z k) = (A.g2 k : EReal) := by
  pointwise [k0_pay27, h98]

include h14 in
theorem rr_pay (r : Fin 256) (z : Fin 1) : k0_pay28 (F := Ideal) v14 (ix2 r z) = (rr (A.x (ρ r)) : EReal) := by
  pointwise [k0_pay28, h14]
  simp only [c_eps, c_1024, c_inv1024, c_half, zero_add, mulE, Fin.sum_univ_one, sumE, divE _ _ (by norm_num : (1024 : ℝ) ≠ 0), addE, subE, negE, ← EReal.coe_one, ← EReal.coe_zero]
  exact rsqrtE _ (ms_pos _)

include h14 in
theorem xh_pay (r : Fin 256) (k : Fin 1024) : k0_pay29 (F := Ideal) v14 (ix2 r k) = ((A.x (ρ r) k * rr (A.x (ρ r)) : ℝ) : EReal) := by
  pointwise [k0_pay29, rr_pay h14, h14]
  simp only [c_eps, c_1024, c_inv1024, c_half, zero_add, mulE, Fin.sum_univ_one, sumE, divE _ _ (by norm_num : (1024 : ℝ) ≠ 0), addE, subE, negE, ← EReal.coe_one, ← EReal.coe_zero]

include h97 h109 in
theorem dg2_pay (z : Fin 1) (k : Fin 1024) : k0_pay1 (F := Ideal) v97 v109 (ix2 z k) = ((∑ r, A.dg2Row (ρ r) k : ℝ) : EReal) := by
  pointwise [k0_pay1, h97, h109]
  simp only [c_eps, c_1024, c_inv1024, c_half, zero_add, mulE, Fin.sum_univ_one, sumE, divE _ _ (by norm_num : (1024 : ℝ) ≠ 0), addE, subE, negE, ← EReal.coe_one, ← EReal.coe_zero]
  rfl

include h97 h109 in
theorem dg2_step (z : Fin 1) (k : Fin 1024) : k0_pay2 (F := Ideal) v97 v109 v134 (ix2 z k) = v134 (ix2 z k) + ((∑ r, A.dg2Row (ρ r) k : ℝ) : EReal) := by
  pointwise [k0_pay2, dg2_pay h97 h109, h97, h109]

include h97 h99 h107 h109 h72 in
theorem dx2_pay (r : Fin 256) (k : Fin 1024) : k0_pay3 (F := Ideal) v72 v97 v99 v107 v109 (ix2 r k) = (A.dx2 (ρ r) k : EReal) := by
  pointwise [k0_pay3, h97, h99, h107, h109, h72]
  simp only [c_eps, c_1024, c_inv1024, c_half, zero_add, mulE, Fin.sum_univ_one, sumE, divE _ _ (by norm_num : (1024 : ℝ) ≠ 0), addE, subE, negE, ← EReal.coe_one, ← EReal.coe_zero]
  rfl

include h97 h99 h107 h109 h72 in
theorem dx2h_pay (r : Fin 256) (k : Fin 1024) : k0_pay4 (F := Ideal) v72 v97 v99 v107 v109 (ix2 r k) = (A.dx2 (ρ r) k : EReal) := by
  pointwise [k0_pay4, dx2_pay h97 h99 h107 h109 h72, h97, h99, h107, h109, h72]

end Cert.Ffn.Ker
end
end
-- ==== Proof.Ffn.Blocks.lean ====
/- What the host prepares and what a grid point's input blocks hold, over real arguments. -/
module

public import proofs.«01_k».proof.Proof.Gen.KernelIdeal.Value
public import proofs.«01_k».proof.Proof.Ffn.Ker
public import Idealize.ShloMosaic.Lib.Pipeline.ValueKit
public import Idealize.ShloMosaic.Lib.Claim

@[expose] public section

set_option maxRecDepth 16384

noncomputable section

namespace Cert.Ffn.Ker

open Cert.KernelIdeal Cert.KernelIdeal.Gen
open Idealize.ShloMosaic Idealize.ShloMosaic.TcCoe Idealize.SL.Sem

theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0] ∧ win0_6.index t = ![0, 0] ∧ win0_7.index t = ![0, 0])
    ∧ (win0_8.index t = ![t.val, 0] ∧ win0_9.index t = ![t.val, 0] ∧ win0_10.index t = ![t.val, 0] ∧ win0_11.index t = ![t.val, 0]
      ∧ win0_12.index t = ![t.val, 0] ∧ win0_13.index t = ![t.val, 0])
    ∧ (win0_14.index t = ![0, 0] ∧ win0_15.index t = ![0, 0] ∧ win0_16.index t = ![0, 0]) :=
  (by decide +kernel : ∀ t : Fin grid0.N, _)

/-- The token of row `r` of grid point `t`'s block. -/
def tok (t : Fin cfg0.N) (r : Fin 256) : Fin 8192 :=
  ⟨t.val * 256 + r.val, by have h : t.val < 32 := lt_of_lt_of_eq t.isLt N_0; omega⟩

/-- The launch memory's arguments on device `c` are the real numbers `A`. -/
structure Agree (m : (ℓ : Loc nD τ sig) → Buf (Elt Ideal) ℓ) (c : Dev nD) (A : Args) : Prop where
  a0 : ∀ a k, (m ((c : Thread nD τ).loc main_arg0) : FVec Ideal S8192x1024 .f32) (ix2 a k) = (A.x a k : EReal)
  a1 : ∀ a k, (m ((c : Thread nD τ).loc main_arg1) : FVec Ideal S8192x1024 .f32) (ix2 a k) = (A.t a k : EReal)
  a2 : ∀ k, (m ((c : Thread nD τ).loc main_arg2) : FVec Ideal S1024 .f32) (ix1 k) = (A.g2 k : EReal)
  a3 : ∀ k f, (m ((c : Thread nD τ).loc main_arg3) : FVec Ideal S1024x2816 .f32) (ix2 k f) = (A.wg k f : EReal)
  a4 : ∀ k f, (m ((c : Thread nD τ).loc main_arg4) : FVec Ideal S1024x2816 .f32) (ix2 k f) = (A.wu k f : EReal)
  a5 : ∀ f k, (m ((c : Thread nD τ).loc main_arg5) : FVec Ideal S2816x1024 .f32) (ix2 f k) = (A.wd f k : EReal)
  a6 : ∀ k, (m ((c : Thread nD τ).loc main_arg6) : FVec Ideal S1024 .f32) (ix1 k) = (A.gf k : EReal)

variable {m : (ℓ : Loc nD τ sig) → Buf (Elt Ideal) ℓ} {c : Dev nD} {A : Args} (H : Agree m c A)

/-! ## The arrays the host prepares -/

include H

theorem h_host (a : Fin 8192) (k : Fin 1024) : (V m c main_v13 : FVec Ideal S8192x1024 .bf16) (ix2 a k) = (A.h a k : EReal) := by
  entry_read
  pointwise [H.a0, H.a2]
  simp only [c_eps, c_1024, mulE, sumE, divE _ _ (by norm_num : (1024 : ℝ) ≠ 0), addE]
  refine Eq.trans (congrArg (fun y : EReal => (A.x a k : EReal) * y * (A.g2 k : EReal)) (rsqrtE _ (ms_pos (A.x a)))) ?_
  simp only [mulE]
  rfl

theorem wg_host (f : Fin 2816) (k : Fin 1024) : (V m c main_v15 : FVec Ideal S2816x1024 .bf16) (ix2 f k) = (A.wg k f : EReal) := by
  entry_read
  pointwise [H.a3]

theorem wu_host (f : Fin 2816) (k : Fin 1024) : (V m c main_v17 : FVec Ideal S2816x1024 .bf16) (ix2 f k) = (A.wu k f : EReal) := by
  entry_read
  pointwise [H.a4]

theorem wd_host (f : Fin 2816) (k : Fin 1024) : (V m c main_v18 : FVec Ideal S2816x1024 .bf16) (ix2 f k) = (A.wd f k : EReal) := by
  entry_read
  pointwise [H.a5]

theorem gf_host (z : Fin 1) (k : Fin 1024) : (V m c main_v19 : FVec Ideal S1x1024 .f32) (ix2 z k) = (A.gf k : EReal) := by
  entry_read
  pointwise [H.a6]

theorem g2_host (z : Fin 1) (k : Fin 1024) : (V m c main_v20 : FVec Ideal S1x1024 .f32) (ix2 z k) = (A.g2 k : EReal) := by
  entry_read
  pointwise [H.a2]

/-! ## The blocks a grid point reads -/

theorem b0 (t : Fin cfg0.N) (r : Fin 256) (k : Fin 1024) : (iblk m c 0 t : FVec Ideal S256x1024 .bf16) (ix2 r k) = (A.h (tok t r) k : EReal) := by
  refine Eq.trans (b := ((V m c main_v13 : FVec Ideal S8192x1024 .bf16)) (ix2 (tok t r) k)) ?_ (h_host H _ _)
  blk_ext [iblk, idx t, tok]

theorem b1 (t : Fin cfg0.N) (r : Fin 256) (k : Fin 1024) : (iblk m c 1 t : FVec Ideal S256x1024 .f32) (ix2 r k) = (A.x (tok t r) k : EReal) := by
  refine Eq.trans (b := ((m ((c : Thread nD τ).loc main_arg0) : FVec Ideal S8192x1024 .f32)) (ix2 (tok t r) k)) ?_ (H.a0 _ _)
  blk_ext [iblk, V, idx t, tok]

theorem b2 (t : Fin cfg0.N) (r : Fin 256) (k : Fin 1024) : (iblk m c 2 t : FVec Ideal S256x1024 .f32) (ix2 r k) = (A.t (tok t r) k : EReal) := by
  refine Eq.trans (b := ((m ((c : Thread nD τ).loc main_arg1) : FVec Ideal S8192x1024 .f32)) (ix2 (tok t r) k)) ?_ (H.a1 _ _)
  blk_ext [iblk, V, idx t, tok]

theorem b3 (t : Fin cfg0.N) (f : Fin 2816) (k : Fin 1024) : (iblk m c 3 t : FVec Ideal S2816x1024 .bf16) (ix2 f k) = (A.wg k f : EReal) := by
  refine Eq.trans (b := ((V m c main_v15 : FVec Ideal S2816x1024 .bf16)) (ix2 f k)) ?_ (wg_host H _ _)
  blk_ext [iblk, idx t, tok]

theorem b4 (t : Fin cfg0.N) (f : Fin 2816) (k : Fin 1024) : (iblk m c 4 t : FVec Ideal S2816x1024 .bf16) (ix2 f k) = (A.wu k f : EReal) := by
  refine Eq.trans (b := ((V m c main_v17 : FVec Ideal S2816x1024 .bf16)) (ix2 f k)) ?_ (wu_host H _ _)
  blk_ext [iblk, idx t, tok]

theorem b5 (t : Fin cfg0.N) (f : Fin 2816) (k : Fin 1024) : (iblk m c 5 t : FVec Ideal S2816x1024 .bf16) (ix2 f k) = (A.wd f k : EReal) := by
  refine Eq.trans (b := ((V m c main_v18 : FVec Ideal S2816x1024 .bf16)) (ix2 f k)) ?_ (wd_host H _ _)
  blk_ext [iblk, idx t, tok]

theorem b6 (t : Fin cfg0.N) (z : Fin 1) (k : Fin 1024) : (iblk m c 6 t : FVec Ideal S1x1024 .f32) (ix2 z k) = (A.gf k : EReal) := by
  refine Eq.trans (b := ((V m c main_v19 : FVec Ideal S1x1024 .f32)) (ix2 z k)) ?_ (gf_host H _ _)
  blk_ext [iblk, idx t, tok]

theorem b7 (t : Fin cfg0.N) (z : Fin 1) (k : Fin 1024) : (iblk m c 7 t : FVec Ideal S1x1024 .f32) (ix2 z k) = (A.g2 k : EReal) := by
  refine Eq.trans (b := ((V m c main_v20 : FVec Ideal S1x1024 .f32)) (ix2 z k)) ?_ (g2_host H _ _)
  blk_ext [iblk, idx t, tok]

end Cert.Ffn.Ker
end
end
-- ==== Proof.Ffn.Final.lean ====
module

public import proofs.«01_k».proof.Proof.Gen.KernelIdeal.Value
public import proofs.«01_k».proof.Proof.Ffn.Blocks
public import Idealize.ShloMosaic.Lib.Pipeline.ValueKit
public import Idealize.ShloMosaic.Lib.Claim

@[expose] public section

set_option maxRecDepth 16384

noncomputable section

namespace Cert.Ffn.Ker

open Cert.KernelIdeal Cert.KernelIdeal.Gen
open Idealize.ShloMosaic Idealize.ShloMosaic.TcCoe Idealize.SL.Sem

variable {m : (ℓ : Loc nD τ sig) → Buf (Elt Ideal) ℓ} {c : Dev nD} {A : Args} (H : Agree m c A)

/-! ## What one grid point leaves -/

theorem first (t : Fin cfg0.N) (h : t.val % 32 = 0) : ¬1 ≤ t.val := by
  have : t.val < 32 := lt_of_lt_of_eq t.isLt N_0
  omega

theorem later (t : Fin cfg0.N) (h : ¬t.val % 32 = 0) : 1 ≤ t.val := by omega

include H

theorem out8 (t : Fin cfg0.N) (r : Fin 256) (k : Fin 2816) :
    ((outsAt0 m c t.val t.isLt).1 : FVec Ideal S256x2816 .bf16) (ix2 r k) = (A.act (tok t r) k : EReal) := by
  by_cases h : t.val % 32 = 0
  · rw [outsAt0_A m c t h h (first t h) h (first t h)]; frame_out
    exact act_pay (b0 H t) (b3 H t) (b4 H t) r k
  · rw [outsAt0_B m c t h h (later t h) h (later t h)]; frame_out
    exact act_pay (b0 H t) (b3 H t) (b4 H t) r k

theorem out9 (t : Fin cfg0.N) (r : Fin 256) (k : Fin 2816) :
    ((outsAt0 m c t.val t.isLt).2.1 : FVec Ideal S256x2816 .bf16) (ix2 r k) = (A.dgate (tok t r) k : EReal) := by
  by_cases h : t.val % 32 = 0
  · rw [outsAt0_A m c t h h (first t h) h (first t h)]; frame_out
    exact dgate_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (gate_pay (b0 H t) (b3 H t)) (up_pay (b0 H t) (b4 H t)) (sg_pay (b0 H t) (b3 H t)) r k
  · rw [outsAt0_B m c t h h (later t h) h (later t h)]; frame_out
    exact dgate_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (gate_pay (b0 H t) (b3 H t)) (up_pay (b0 H t) (b4 H t)) (sg_pay (b0 H t) (b3 H t)) r k

theorem out10 (t : Fin cfg0.N) (r : Fin 256) (k : Fin 2816) :
    ((outsAt0 m c t.val t.isLt).2.2.1 : FVec Ideal S256x2816 .bf16) (ix2 r k) = (A.dup (tok t r) k : EReal) := by
  by_cases h : t.val % 32 = 0
  · rw [outsAt0_A m c t h h (first t h) h (first t h)]; frame_out
    exact dup_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) r k
  · rw [outsAt0_B m c t h h (later t h) h (later t h)]; frame_out
    exact dup_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) r k

theorem out11 (t : Fin cfg0.N) (r : Fin 256) (k : Fin 1024) :
    ((outsAt0 m c t.val t.isLt).2.2.2.1 : FVec Ideal S256x1024 .bf16) (ix2 r k) = (A.dx3 (tok t r) k : EReal) := by
  by_cases h : t.val % 32 = 0
  · rw [outsAt0_A m c t h h (first t h) h (first t h)]; frame_out
    exact dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t)) r k
  · rw [outsAt0_B m c t h h (later t h) h (later t h)]; frame_out
    exact dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t)) r k

theorem out12 (t : Fin cfg0.N) (r : Fin 256) (k : Fin 1024) :
    ((outsAt0 m c t.val t.isLt).2.2.2.2.1 : FVec Ideal S256x1024 .f32) (ix2 r k) = (A.dx2 (tok t r) k : EReal) := by
  by_cases h : t.val % 32 = 0
  · rw [outsAt0_A m c t h h (first t h) h (first t h)]; frame_out
    exact dx2_pay (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (g2_pay (b7 H t)) (rr_pay (b1 H t)) (xh_pay (b1 H t)) (dx3_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) r k
  · rw [outsAt0_B m c t h h (later t h) h (later t h)]; frame_out
    exact dx2_pay (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (g2_pay (b7 H t)) (rr_pay (b1 H t)) (xh_pay (b1 H t)) (dx3_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) r k

theorem out13 (t : Fin cfg0.N) (r : Fin 256) (k : Fin 1024) :
    ((outsAt0 m c t.val t.isLt).2.2.2.2.2.1 : FVec Ideal S256x1024 .bf16) (ix2 r k) = (A.dx2 (tok t r) k : EReal) := by
  by_cases h : t.val % 32 = 0
  · rw [outsAt0_A m c t h h (first t h) h (first t h)]; frame_out
    exact dx2h_pay (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (g2_pay (b7 H t)) (rr_pay (b1 H t)) (xh_pay (b1 H t)) (dx3_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) r k
  · rw [outsAt0_B m c t h h (later t h) h (later t h)]; frame_out
    exact dx2h_pay (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (g2_pay (b7 H t)) (rr_pay (b1 H t)) (xh_pay (b1 H t)) (dx3_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) r k

/-! ## The row-tiled results -/

theorem final8 : ((dats m 0 c).arrAt 8 cfg0.N : FVec Ideal S8192x2816 .bf16) = arr2 A.act := by
  refine (dats m 0 c).arrAt_eq_of_covers 8 _ (by decide +kernel) fun t hf y => ?_
  blk_simp
  rw [after0_8]
  idx_vars y
  refine (out8 H t y0 y1).trans ?_
  exact arr2_ext A.act (by blk_ext [idx t, tok])

theorem final9 : ((dats m 0 c).arrAt 9 cfg0.N : FVec Ideal S8192x2816 .bf16) = arr2 A.dgate := by
  refine (dats m 0 c).arrAt_eq_of_covers 9 _ (by decide +kernel) fun t hf y => ?_
  blk_simp
  rw [after0_9]
  idx_vars y
  refine (out9 H t y0 y1).trans ?_
  exact arr2_ext A.dgate (by blk_ext [idx t, tok])

theorem final10 : ((dats m 0 c).arrAt 10 cfg0.N : FVec Ideal S8192x2816 .bf16) = arr2 A.dup := by
  refine (dats m 0 c).arrAt_eq_of_covers 10 _ (by decide +kernel) fun t hf y => ?_
  blk_simp
  rw [after0_10]
  idx_vars y
  refine (out10 H t y0 y1).trans ?_
  exact arr2_ext A.dup (by blk_ext [idx t, tok])

theorem final11 : ((dats m 0 c).arrAt 11 cfg0.N : FVec Ideal S8192x1024 .bf16) = arr2 A.dx3 := by
  refine (dats m 0 c).arrAt_eq_of_covers 11 _ (by decide +kernel) fun t hf y => ?_
  blk_simp
  rw [after0_11]
  idx_vars y
  refine (out11 H t y0 y1).trans ?_
  exact arr2_ext A.dx3 (by blk_ext [idx t, tok])

theorem final12 : ((dats m 0 c).arrAt 12 cfg0.N : FVec Ideal S8192x1024 .f32) = arr2 A.dx2 := by
  refine (dats m 0 c).arrAt_eq_of_covers 12 _ (by decide +kernel) fun t hf y => ?_
  blk_simp
  rw [after0_12]
  idx_vars y
  refine (out12 H t y0 y1).trans ?_
  exact arr2_ext A.dx2 (by blk_ext [idx t, tok])

theorem final13 : ((dats m 0 c).arrAt 13 cfg0.N : FVec Ideal S8192x1024 .bf16) = arr2 A.dx2 := by
  refine (dats m 0 c).arrAt_eq_of_covers 13 _ (by decide +kernel) fun t hf y => ?_
  blk_simp
  rw [after0_13]
  idx_vars y
  refine (out13 H t y0 y1).trans ?_
  exact arr2_ext A.dx2 (by blk_ext [idx t, tok])

/-! ## The accumulated results -/

omit H in
/-- A value that starts at its first term and adds a term at every later point is the sum of the terms so far. -/
theorem acc_sum (N : ℕ) (f : (n : ℕ) → n < N → EReal) (p : ℕ → ℝ) (h0 : ∀ h, f 0 h = (p 0 : EReal))
    (hs : ∀ n (h : n + 1 < N), f (n + 1) h = f n (Nat.lt_of_succ_lt h) + (p (n + 1) : EReal)) :
    ∀ n (h : n < N), f n h = ((∑ i ∈ Finset.range (n + 1), p i : ℝ) : EReal)
  | 0, h => by rw [h0]; simp
  | n + 1, h => by rw [hs, acc_sum N f p h0 hs n, addE, Finset.sum_range_succ _ (n + 1)]

/-- Token `r` of block `n`, for any number `n`. -/
def tokN (n : ℕ) (r : Fin 256) : Fin 8192 := ⟨(n * 256 + r.val) % 8192, Nat.mod_lt _ (by decide)⟩

omit H in
theorem tok_eq (t : Fin cfg0.N) (r : Fin 256) : tok t r = tokN t.val r := by
  have h : t.val < 32 := lt_of_lt_of_eq t.isLt N_0
  have hr := r.isLt
  exact Fin.ext (show t.val * 256 + r.val = (t.val * 256 + r.val) % 8192 by omega)

omit H in
/-- The 32 blocks' tokens are all tokens. -/
theorem sum_tok (g : Fin 8192 → ℝ) : ∑ i ∈ Finset.range 32, ∑ r : Fin 256, g (tokN i r) = ∑ a, g a := by
  rw [Finset.sum_range, Fin.sum_univ_tiles 32 256 rfl g]
  refine Finset.sum_congr rfl fun i _ => Finset.sum_congr rfl fun r _ => congrArg g (Fin.ext ?_)
  have hi := i.isLt; have hr := r.isLt
  exact (show (i.val * 256 + r.val) % 8192 = i.val * 256 + r.val by omega)

theorem first14 (t : Fin cfg0.N) (h : t.val % 32 = 0) (z : Fin 8) (k : Fin 128) :
    ((outsAt0 m c t.val t.isLt).2.2.2.2.2.2.1 : FVec Ideal S8x128 .f32) (ix2 z k) = ((1 / 2 * ∑ r, A.lossRow (tok t r) : ℝ) : EReal) := by
  rw [outsAt0_A m c t h h (first t h) h (first t h)]; frame_out
  refine (loss_pay (err_pay (b0 H t) (b3 H t) (b4 H t) (b1 H t) (b5 H t) (b6 H t) (b2 H t)) z k).trans ?_
  rw [show k0_pay16 (F := Ideal) (ix2 z k) = 0 by pointwise [k0_pay16], zero_add]

theorem step14 (t : Fin cfg0.N) (h : ¬t.val % 32 = 0) (z : Fin 8) (k : Fin 128) :
    ((outsAt0 m c t.val t.isLt).2.2.2.2.2.2.1 : FVec Ideal S8x128 .f32) (ix2 z k) = ((outsAt0 m c (t.val - 1) (by omega)).2.2.2.2.2.2.1 : FVec Ideal S8x128 .f32) (ix2 z k) + ((1 / 2 * ∑ r, A.lossRow (tok t r) : ℝ) : EReal) := by
  rw [outsAt0_B m c t h h (later t h) h (later t h)]; frame_out
  exact loss_pay (err_pay (b0 H t) (b3 H t) (b4 H t) (b1 H t) (b5 H t) (b6 H t) (b2 H t)) z k

theorem sum14 (z : Fin 8) (k : Fin 128) (n : ℕ) (hn : n < cfg0.N) :
    ((outsAt0 m c n hn).2.2.2.2.2.2.1 : FVec Ideal S8x128 .f32) (ix2 z k) = ((∑ n ∈ Finset.range (n + 1), (1 / 2 * ∑ r, A.lossRow (tokN n r)) : ℝ) : EReal) := by
  refine acc_sum cfg0.N (fun n hn => ((outsAt0 m c n hn).2.2.2.2.2.2.1 : FVec Ideal S8x128 .f32) (ix2 z k)) (fun n => 1 / 2 * ∑ r, A.lossRow (tokN n r))
    (fun h => ?_) (fun n h => ?_) n hn
  · simp only [first14 H ⟨0, h⟩ rfl z k, tok_eq]
  · have h' : n + 1 < 32 := lt_of_lt_of_eq h N_0
    simp only [step14 H ⟨n + 1, h⟩ (show ¬(n + 1) % 32 = 0 by omega) z k, tok_eq]
    rfl

theorem final14 : ((dats m 0 c).arrAt 14 cfg0.N : FVec Ideal S8x128 .f32) = arr2 (fun _ _ => A.loss) := by
  refine (dats m 0 c).arrAt_eq_of_covers 14 _ (by decide +kernel) fun t hf y => ?_
  have hl : t.val = 31 := by
    have h := (flush0_14 t).mp hf
    have h' : t.val < 32 := lt_of_lt_of_eq t.isLt N_0
    omega
  blk_simp
  rw [after0_14]
  idx_vars y
  refine (sum14 H y0 y1 t.val t.isLt).trans ?_
  rw [hl]
  refine (congrArg _ (by rw [← Finset.mul_sum, sum_tok]; rfl : _ = ((fun _ _ => A.loss) : Fin 8 → Fin 128 → ℝ) y0 y1)).trans ?_
  exact arr2_ext (a := y0) (b := y1) (fun _ _ => A.loss) (by blk_ext [idx t])

theorem first15 (t : Fin cfg0.N) (h : t.val % 32 = 0) (z : Fin 1) (k : Fin 1024) :
    ((outsAt0 m c t.val t.isLt).2.2.2.2.2.2.2.1 : FVec Ideal S1x1024 .f32) (ix2 z k) = ((∑ r, A.dgfRow (tok t r) k : ℝ) : EReal) := by
  rw [outsAt0_A m c t h h (first t h) h (first t h)]; frame_out
  exact (dgf_pay (err_pay (b0 H t) (b3 H t) (b4 H t) (b1 H t) (b5 H t) (b6 H t) (b2 H t)) (xh3_pay (b0 H t) (b3 H t) (b4 H t) (b1 H t) (b5 H t)) z k)

theorem step15 (t : Fin cfg0.N) (h : ¬t.val % 32 = 0) (z : Fin 1) (k : Fin 1024) :
    ((outsAt0 m c t.val t.isLt).2.2.2.2.2.2.2.1 : FVec Ideal S1x1024 .f32) (ix2 z k) = ((outsAt0 m c (t.val - 1) (by omega)).2.2.2.2.2.2.2.1 : FVec Ideal S1x1024 .f32) (ix2 z k) + ((∑ r, A.dgfRow (tok t r) k : ℝ) : EReal) := by
  rw [outsAt0_B m c t h h (later t h) h (later t h)]; frame_out
  exact dgf_step (err_pay (b0 H t) (b3 H t) (b4 H t) (b1 H t) (b5 H t) (b6 H t) (b2 H t)) (xh3_pay (b0 H t) (b3 H t) (b4 H t) (b1 H t) (b5 H t)) z k

theorem sum15 (z : Fin 1) (k : Fin 1024) (n : ℕ) (hn : n < cfg0.N) :
    ((outsAt0 m c n hn).2.2.2.2.2.2.2.1 : FVec Ideal S1x1024 .f32) (ix2 z k) = ((∑ n ∈ Finset.range (n + 1), (∑ r, A.dgfRow (tokN n r) k) : ℝ) : EReal) := by
  refine acc_sum cfg0.N (fun n hn => ((outsAt0 m c n hn).2.2.2.2.2.2.2.1 : FVec Ideal S1x1024 .f32) (ix2 z k)) (fun n => ∑ r, A.dgfRow (tokN n r) k)
    (fun h => ?_) (fun n h => ?_) n hn
  · simp only [first15 H ⟨0, h⟩ rfl z k, tok_eq]
  · have h' : n + 1 < 32 := lt_of_lt_of_eq h N_0
    simp only [step15 H ⟨n + 1, h⟩ (show ¬(n + 1) % 32 = 0 by omega) z k, tok_eq]
    rfl

theorem final15 : ((dats m 0 c).arrAt 15 cfg0.N : FVec Ideal S1x1024 .f32) = arr2 (fun _ k => ∑ a, A.dgfRow a k) := by
  refine (dats m 0 c).arrAt_eq_of_covers 15 _ (by decide +kernel) fun t hf y => ?_
  have hl : t.val = 31 := by
    have h := (flush0_15 t).mp hf
    have h' : t.val < 32 := lt_of_lt_of_eq t.isLt N_0
    omega
  blk_simp
  rw [after0_15]
  idx_vars y
  refine (sum15 H y0 y1 t.val t.isLt).trans ?_
  rw [hl]
  refine (congrArg _ (sum_tok fun a => A.dgfRow a y1 : _ = ((fun _ k => ∑ a, A.dgfRow a k) : Fin 1 → Fin 1024 → ℝ) y0 y1)).trans ?_
  exact arr2_ext (a := y0) (b := y1) (fun _ k => ∑ a, A.dgfRow a k) (by blk_ext [idx t])

theorem first16 (t : Fin cfg0.N) (h : t.val % 32 = 0) (z : Fin 1) (k : Fin 1024) :
    ((outsAt0 m c t.val t.isLt).2.2.2.2.2.2.2.2 : FVec Ideal S1x1024 .f32) (ix2 z k) = ((∑ r, A.dg2Row (tok t r) k : ℝ) : EReal) := by
  rw [outsAt0_A m c t h h (first t h) h (first t h)]; frame_out
  exact (dg2_pay (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (xh_pay (b1 H t)) z k)

theorem step16 (t : Fin cfg0.N) (h : ¬t.val % 32 = 0) (z : Fin 1) (k : Fin 1024) :
    ((outsAt0 m c t.val t.isLt).2.2.2.2.2.2.2.2 : FVec Ideal S1x1024 .f32) (ix2 z k) = ((outsAt0 m c (t.val - 1) (by omega)).2.2.2.2.2.2.2.2 : FVec Ideal S1x1024 .f32) (ix2 z k) + ((∑ r, A.dg2Row (tok t r) k : ℝ) : EReal) := by
  rw [outsAt0_B m c t h h (later t h) h (later t h)]; frame_out
  exact dg2_step (dh_pay (dx3h_pay (err_pay (b0 H t) (b3 H t) (b4 H t) (b1 H t) (b5 H t) (b6 H t) (b2 H t)) (xh3_pay (b0 H t) (b3 H t) (b4 H t) (b1 H t) (b5 H t)) (rr3_pay (b0 H t) (b3 H t) (b4 H t) (b1 H t) (b5 H t)) (gf_pay (b6 H t))) (b5 H t) (sl_pay (b0 H t) (b3 H t)) (gate_pay (b0 H t) (b3 H t)) (up_pay (b0 H t) (b4 H t)) (sg_pay (b0 H t) (b3 H t)) (b3 H t) (b4 H t)) (xh_pay (b1 H t)) z k

theorem sum16 (z : Fin 1) (k : Fin 1024) (n : ℕ) (hn : n < cfg0.N) :
    ((outsAt0 m c n hn).2.2.2.2.2.2.2.2 : FVec Ideal S1x1024 .f32) (ix2 z k) = ((∑ n ∈ Finset.range (n + 1), (∑ r, A.dg2Row (tokN n r) k) : ℝ) : EReal) := by
  refine acc_sum cfg0.N (fun n hn => ((outsAt0 m c n hn).2.2.2.2.2.2.2.2 : FVec Ideal S1x1024 .f32) (ix2 z k)) (fun n => ∑ r, A.dg2Row (tokN n r) k)
    (fun h => ?_) (fun n h => ?_) n hn
  · simp only [first16 H ⟨0, h⟩ rfl z k, tok_eq]
  · have h' : n + 1 < 32 := lt_of_lt_of_eq h N_0
    simp only [step16 H ⟨n + 1, h⟩ (show ¬(n + 1) % 32 = 0 by omega) z k, tok_eq]
    rfl

theorem final16 : ((dats m 0 c).arrAt 16 cfg0.N : FVec Ideal S1x1024 .f32) = arr2 (fun _ k => ∑ a, A.dg2Row a k) := by
  refine (dats m 0 c).arrAt_eq_of_covers 16 _ (by decide +kernel) fun t hf y => ?_
  have hl : t.val = 31 := by
    have h := (flush0_16 t).mp hf
    have h' : t.val < 32 := lt_of_lt_of_eq t.isLt N_0
    omega
  blk_simp
  rw [after0_16]
  idx_vars y
  refine (sum16 H y0 y1 t.val t.isLt).trans ?_
  rw [hl]
  refine (congrArg _ (sum_tok fun a => A.dg2Row a y1 : _ = ((fun _ k => ∑ a, A.dg2Row a k) : Fin 1 → Fin 1024 → ℝ) y0 y1)).trans ?_
  exact arr2_ext (a := y0) (b := y1) (fun _ k => ∑ a, A.dg2Row a k) (by blk_ext [idx t])

end Cert.Ffn.Ker
end
end
-- ==== Proof.Ffn.Ref.lean ====
/- The reference's stages, read at an index over real arguments: each is the real number `Args` names. -/
module

public import proofs.«01_k».proof.Proof.Gen.ReferenceIdeal.Read
public import proofs.«01_k».proof.Proof.Ffn.Real

@[expose] public section

set_option maxRecDepth 16384

noncomputable section

namespace Cert.Ffn.Ref

open Cert.ReferenceIdeal Cert.ReferenceIdeal.Gen Cert.ReferenceIdeal.Read
open Idealize.ShloMosaic Idealize.ShloMosaic.TcCoe Idealize.ShloMosaic.StableHlo

variable {A : Args} {x0 x1 : FVec Ideal S8192x1024 .f32} {x2 x6 : FVec Ideal S1024 .f32}
  {x3 x4 : FVec Ideal S1024x2816 .f32} {x5 : FVec Ideal S2816x1024 .f32}
  (h0 : ∀ a k, x0 (ix2 a k) = (A.x a k : EReal))
  (h1 : ∀ a k, x1 (ix2 a k) = (A.t a k : EReal))
  (h2 : ∀ k, x2 (ix1 k) = (A.g2 k : EReal))
  (h3 : ∀ k f, x3 (ix2 k f) = (A.wg k f : EReal))
  (h4 : ∀ k f, x4 (ix2 k f) = (A.wu k f : EReal))
  (h5 : ∀ f k, x5 (ix2 f k) = (A.wd f k : EReal))
  (h6 : ∀ k, x6 (ix1 k) = (A.gf k : EReal))

include h0 in
theorem ms_read (a : Fin 8192) (z : Fin 1) : val_main_v6 (F := Ideal) x0 (ix2 a z) = (ms (A.x a) : EReal) := by
  pointwise [val_main_v6, val_main_v5, val_main_v4, val_main_v3, val_main_v2, val_main_v1, val_main_v0, val_main_cst, val_main_cst_0, val_main_cst_1, h0]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 in
theorem rr_read (a : Fin 8192) (z : Fin 1) : val_main_v7 (F := Ideal) x0 (ix2 a z) = (rr (A.x a) : EReal) := by
  pointwise [val_main_v7, ms_read h0]
  rw [rsqrtE _ (ms_pos _)]
  rfl

include h0 in
theorem xh_read (a : Fin 8192) (k : Fin 1024) : val_main_v12 (F := Ideal) x0 (ix2 a k) = ((A.x a k * rr (A.x a) : ℝ) : EReal) := by
  pointwise [val_main_v12, val_main_v11, h0, rr_read h0]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h2 in
theorem h_read (a : Fin 8192) (k : Fin 1024) : val_main_v15 (F := Ideal) x0 x2 (ix2 a k) = (A.h a k : EReal) := by
  pointwise [val_main_v15, val_main_v14, val_main_v13, xh_read h0, h2]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h3 in
theorem gate_read (a : Fin 8192) (f : Fin 2816) : val_main_v16 (F := Ideal) x0 x2 x3 (ix2 a f) = (A.gate a f : EReal) := by
  pointwise [val_main_v16, h_read h0 h2, h3]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h4 in
theorem up_read (a : Fin 8192) (f : Fin 2816) : val_main_v17 (F := Ideal) x0 x2 x4 (ix2 a f) = (A.up a f : EReal) := by
  pointwise [val_main_v17, h_read h0 h2, h4]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h3 in
theorem sg_read (a : Fin 8192) (f : Fin 2816) : val_main_v18_2 (F := Ideal) x0 x2 x3 (ix2 a f) = (sg (A.gate a f) : EReal) := by
  pointwise [val_main_v18_2, val_main_call0_v4, val_main_call0_v3, val_main_call0_v2, val_main_call0_v1, val_main_call0_v0, val_main_call0_cst, val_main_call0_cst_0, gate_read h0 h2 h3]
  exact sg_host _

include h0 h2 h3 in
theorem dsg_read (a : Fin 8192) (f : Fin 2816) : val_main_v18_1 (F := Ideal) x0 x2 x3 (ix2 a f) = ((sg (A.gate a f) * (1 - sg (A.gate a f)) : ℝ) : EReal) := by
  pointwise [val_main_v18_1, val_main_call0_v7, val_main_call0_v6, val_main_call0_cst_1, sg_read h0 h2 h3]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h2 h3 in
theorem sl_read (a : Fin 8192) (f : Fin 2816) : val_main_v18_0 (F := Ideal) x0 x2 x3 (ix2 a f) = ((A.gate a f * sg (A.gate a f) : ℝ) : EReal) := by
  pointwise [val_main_v18_0, sg_read h0 h2 h3, gate_read h0 h2 h3]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h2 h3 h4 in
theorem act_read (a : Fin 8192) (f : Fin 2816) : val_main_v19 (F := Ideal) x0 x2 x3 x4 (ix2 a f) = (A.act a f : EReal) := by
  pointwise [val_main_v19, sl_read h0 h2 h3, up_read h0 h2 h4]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h3 h4 h5 in
theorem x3_read (a : Fin 8192) (k : Fin 1024) : val_main_v21 (F := Ideal) x0 x2 x3 x4 x5 (ix2 a k) = (A.x3 a k : EReal) := by
  pointwise [val_main_v21, val_main_v20, h0, act_read h0 h2 h3 h4, h5]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h3 h4 h5 in
theorem ms3_read (a : Fin 8192) (z : Fin 1) : val_main_v28 (F := Ideal) x0 x2 x3 x4 x5 (ix2 a z) = (ms (A.x3 a) : EReal) := by
  pointwise [val_main_v28, val_main_v27, val_main_v26, val_main_v25, val_main_v24, val_main_v23, val_main_v22, val_main_cst_3, val_main_cst_4, val_main_cst_5, x3_read h0 h2 h3 h4 h5]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h2 h3 h4 h5 in
theorem rr3_read (a : Fin 8192) (z : Fin 1) : val_main_v29 (F := Ideal) x0 x2 x3 x4 x5 (ix2 a z) = (rr (A.x3 a) : EReal) := by
  pointwise [val_main_v29, ms3_read h0 h2 h3 h4 h5]
  rw [rsqrtE _ (ms_pos _)]
  rfl

include h0 h2 h3 h4 h5 in
theorem xh3_read (a : Fin 8192) (k : Fin 1024) : val_main_v34 (F := Ideal) x0 x2 x3 x4 x5 (ix2 a k) = ((A.x3 a k * rr (A.x3 a) : ℝ) : EReal) := by
  pointwise [val_main_v34, val_main_v33, x3_read h0 h2 h3 h4 h5, rr3_read h0 h2 h3 h4 h5]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h2 h3 h4 h5 h6 in
theorem err_read (a : Fin 8192) (k : Fin 1024) : val_main_v38 (F := Ideal) x0 x1 x2 x3 x4 x5 x6 (ix2 a k) = (A.err a k : EReal) := by
  pointwise [val_main_v38, val_main_v37, val_main_v36, val_main_v35, xh3_read h0 h2 h3 h4 h5, h1, h6]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h1 h2 h3 h4 h5 h6 in
theorem lossRow_read (a : Fin 8192) : val_main_v44 (F := Ideal) x0 x1 x2 x3 x4 x5 x6 (ix1 a) = (A.lossRow a : EReal) := by
  pointwise [val_main_v44, val_main_v43, val_main_v42, val_main_v39, val_main_cst_8, val_main_cst_9, err_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h1 h2 h3 h4 h5 h6 in
theorem dy_read (a : Fin 8192) (k : Fin 1024) : val_main_v52 (F := Ideal) x0 x1 x2 x3 x4 x5 x6 (ix2 a k) = (A.dy a k : EReal) := by
  pointwise [val_main_v52, val_main_v51, val_main_v50, val_main_v49, val_main_v48, val_main_v47, val_main_v41, val_main_v40, val_main_cst_7, val_main_cst_12, val_main_cst_13, val_main_cst_14, err_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (by rw [Args.dy]; ring)

include h0 h1 h2 h3 h4 h5 h6 in
theorem dyg_read (a : Fin 8192) (k : Fin 1024) : val_main_v57 (F := Ideal) x0 x1 x2 x3 x4 x5 x6 (ix2 a k) = ((A.dy a k * A.gf k : ℝ) : EReal) := by
  pointwise [val_main_v57, val_main_v56, val_main_v35, dy_read h0 h1 h2 h3 h4 h5 h6, h6]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h2 h3 h4 h5 h6 in
theorem q3_read (a : Fin 8192) (k : Fin 1024) : val_main_v68 (F := Ideal) x0 x1 x2 x3 x4 x5 x6 (ix2 a k) = (((∑ l, A.x3 a l * (A.dy a l * A.gf l)) * (-(1 / 2) * (rr (A.x3 a) * (1 / ms (A.x3 a)))) * (1 / 1024) : ℝ) : EReal) := by
  pointwise [val_main_v68, val_main_v67, val_main_v66, val_main_v65, val_main_v64, val_main_v61, val_main_v60, val_main_v59, val_main_v32, val_main_v31, val_main_v30, val_main_cst_6, val_main_cst_16, val_main_cst_17, val_main_cst_18, val_main_cst_19, x3_read h0 h2 h3 h4 h5, dyg_read h0 h1 h2 h3 h4 h5 h6, rr3_read h0 h2 h3 h4 h5, ms3_read h0 h2 h3 h4 h5]
  simp only [divE _ _ (ms_pos _).ne']
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h2 h3 h4 h5 h6 in
theorem dx3_read (a : Fin 8192) (k : Fin 1024) : val_main_v72 (F := Ideal) x0 x1 x2 x3 x4 x5 x6 (ix2 a k) = (A.dx3 a k : EReal) := by
  pointwise [val_main_v72, val_main_v71, val_main_v70, val_main_v69, val_main_v63, val_main_v62, x3_read h0 h2 h3 h4 h5, dyg_read h0 h1 h2 h3 h4 h5 h6, rr3_read h0 h2 h3 h4 h5, q3_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (rmsGrad_vjp (A.x3 a) (fun l => A.dy a l * A.gf l) k)

include h0 h1 h2 h3 h4 h5 h6 in
theorem da_read (a : Fin 8192) (f : Fin 2816) : val_main_v73 (F := Ideal) x0 x1 x2 x3 x4 x5 x6 (ix2 a f) = (A.da a f : EReal) := by
  pointwise [val_main_v73, dx3_read h0 h1 h2 h3 h4 h5 h6, h5]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h1 h2 h3 h4 h5 h6 in
theorem dup_read (a : Fin 8192) (f : Fin 2816) : val_main_v74 (F := Ideal) x0 x1 x2 x3 x4 x5 x6 (ix2 a f) = (A.dup a f : EReal) := by
  pointwise [val_main_v74, da_read h0 h1 h2 h3 h4 h5 h6, sl_read h0 h2 h3]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (by rw [Args.dup]; ring)

include h0 h1 h2 h3 h4 h5 h6 in
theorem dgate_read (a : Fin 8192) (f : Fin 2816) : val_main_v76 (F := Ideal) x0 x1 x2 x3 x4 x5 x6 (ix2 a f) = (A.dgate a f : EReal) := by
  pointwise [val_main_v76, val_main_v75, val_main_call1_v0, val_main_call1_v1, val_main_call1_v2, gate_read h0 h2 h3, up_read h0 h2 h4, sg_read h0 h2 h3, dsg_read h0 h2 h3, da_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (by rw [Args.dgate]; ring)

include h0 h1 h2 h3 h4 h5 h6 in
theorem dh_read (a : Fin 8192) (k : Fin 1024) : val_main_v79 (F := Ideal) x0 x1 x2 x3 x4 x5 x6 (ix2 a k) = (A.dh a k : EReal) := by
  pointwise [val_main_v79, val_main_v77, val_main_v78, dgate_read h0 h1 h2 h3 h4 h5 h6, dup_read h0 h1 h2 h3 h4 h5 h6, h3, h4]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h1 h2 h3 h4 h5 h6 in
theorem dhg_read (a : Fin 8192) (k : Fin 1024) : val_main_v84 (F := Ideal) x0 x1 x2 x3 x4 x5 x6 (ix2 a k) = ((A.dh a k * A.g2 k : ℝ) : EReal) := by
  pointwise [val_main_v84, val_main_v83, val_main_v13, dh_read h0 h1 h2 h3 h4 h5 h6, h2]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h2 h3 h4 h5 h6 in
theorem q2_read (a : Fin 8192) (k : Fin 1024) : val_main_v95 (F := Ideal) x0 x1 x2 x3 x4 x5 x6 (ix2 a k) = (((∑ l, A.x a l * (A.dh a l * A.g2 l)) * (-(1 / 2) * (rr (A.x a) * (1 / ms (A.x a)))) * (1 / 1024) : ℝ) : EReal) := by
  pointwise [val_main_v95, val_main_v94, val_main_v93, val_main_v92, val_main_v91, val_main_v88, val_main_v87, val_main_v86, val_main_v10, val_main_v9, val_main_v8, val_main_cst_2, val_main_cst_21, val_main_cst_22, val_main_cst_23, val_main_cst_24, h0, dhg_read h0 h1 h2 h3 h4 h5 h6, rr_read h0, ms_read h0]
  simp only [divE _ _ (ms_pos _).ne']
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h2 h3 h4 h5 h6 in
theorem dx2_read (a : Fin 8192) (k : Fin 1024) : val_main_v100 (F := Ideal) x0 x1 x2 x3 x4 x5 x6 (ix2 a k) = (A.dx2 a k : EReal) := by
  pointwise [val_main_v100, val_main_v99, val_main_v98, val_main_v97, val_main_v96, val_main_v90, val_main_v89, h0, dhg_read h0 h1 h2 h3 h4 h5 h6, rr_read h0, q2_read h0 h1 h2 h3 h4 h5 h6, dx3_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg (fun r => ((A.dx3 a k + r : ℝ) : EReal)) (rmsGrad_vjp (A.x a) (fun l => A.dh a l * A.g2 l) k)

include h0 h1 h2 h3 h4 h5 h6 in
theorem loss_read (p : Fin 8) (q : Fin 128) : val_main_v106 (F := Ideal) x0 x1 x2 x3 x4 x5 x6 (ix2 p q) = (A.loss : EReal) := by
  pointwise [val_main_v106, val_main_v46, val_main_v45, val_main_cst_10, val_main_cst_11, lossRow_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h0 h1 h2 h3 h4 h5 h6 in
theorem dgf_read (z : Fin 1) (k : Fin 1024) : val_main_v107 (F := Ideal) x0 x1 x2 x3 x4 x5 x6 (ix2 z k) = ((∑ a, A.dgfRow a k : ℝ) : EReal) := by
  pointwise [val_main_v107, val_main_v58, val_main_v55, val_main_v54, val_main_v53, val_main_cst_15, val_main_cst_16, xh3_read h0 h2 h3 h4 h5, dy_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (Finset.sum_congr rfl fun a _ => mul_comm _ _)

include h0 h1 h2 h3 h4 h5 h6 in
theorem dg2_read (z : Fin 1) (k : Fin 1024) : val_main_v108 (F := Ideal) x0 x1 x2 x3 x4 x5 x6 (ix2 z k) = ((∑ a, A.dg2Row a k : ℝ) : EReal) := by
  pointwise [val_main_v108, val_main_v85, val_main_v82, val_main_v81, val_main_v80, val_main_cst_20, val_main_cst_21, xh_read h0, dh_read h0 h1 h2 h3 h4 h5 h6]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (Finset.sum_congr rfl fun a _ => mul_comm _ _)

end Cert.Ffn.Ref
end
end
-- ==== Proof.Ffn.RefRun.lean ====
/- The reference's results over real arguments, as arrays. -/
module

public import proofs.«01_k».proof.Proof.Ffn.Ref
public import Idealize.ShloMosaic.Lib.Claim

@[expose] public section

set_option maxRecDepth 16384

noncomputable section

namespace Cert.Ffn.Ref

open Cert.ReferenceIdeal Cert.ReferenceIdeal.Gen Cert.ReferenceIdeal.Read
open Idealize.ShloMosaic Idealize.ShloMosaic.TcCoe Idealize.SL.Sem Idealize.ShloMosaic.StableHlo

/-- The launch memory's arguments on device `c` are the real numbers `A`. -/
structure Agree (m : (ℓ : Loc nD τ sig) → Buf (Elt Ideal) ℓ) (c : Dev nD) (A : Args) : Prop where
  a0 : ∀ a k, (m ((c : Thread nD τ).loc main_arg0) : FVec Ideal S8192x1024 .f32) (ix2 a k) = (A.x a k : EReal)
  a1 : ∀ a k, (m ((c : Thread nD τ).loc main_arg1) : FVec Ideal S8192x1024 .f32) (ix2 a k) = (A.t a k : EReal)
  a2 : ∀ k, (m ((c : Thread nD τ).loc main_arg2) : FVec Ideal S1024 .f32) (ix1 k) = (A.g2 k : EReal)
  a3 : ∀ k f, (m ((c : Thread nD τ).loc main_arg3) : FVec Ideal S1024x2816 .f32) (ix2 k f) = (A.wg k f : EReal)
  a4 : ∀ k f, (m ((c : Thread nD τ).loc main_arg4) : FVec Ideal S1024x2816 .f32) (ix2 k f) = (A.wu k f : EReal)
  a5 : ∀ f k, (m ((c : Thread nD τ).loc main_arg5) : FVec Ideal S2816x1024 .f32) (ix2 f k) = (A.wd f k : EReal)
  a6 : ∀ k, (m ((c : Thread nD τ).loc main_arg6) : FVec Ideal S1024 .f32) (ix1 k) = (A.gf k : EReal)

variable {m : (ℓ : Loc nD τ sig) → Buf (Elt Ideal) ℓ}

/-- The reference's run, its results the arrays of `Args`. -/
theorem run (A : Dev nD → Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v101) : FVec Ideal S8192x2816 .bf16) = arr2 (A c).act
      ∧ (r.2.mem ((c.tc : Thread nD τ).loc main_v102) : FVec Ideal S8192x2816 .bf16) = arr2 (A c).dgate
      ∧ (r.2.mem ((c.tc : Thread nD τ).loc main_v103) : FVec Ideal S8192x2816 .bf16) = arr2 (A c).dup
      ∧ (r.2.mem ((c.tc : Thread nD τ).loc main_v104) : FVec Ideal S8192x1024 .bf16) = arr2 (A c).dx3
      ∧ (r.2.mem ((c.tc : Thread nD τ).loc main_v100) : FVec Ideal S8192x1024 .f32) = arr2 (A c).dx2
      ∧ (r.2.mem ((c.tc : Thread nD τ).loc main_v105) : FVec Ideal S8192x1024 .bf16) = arr2 (A c).dx2
      ∧ (r.2.mem ((c.tc : Thread nD τ).loc main_v106) : FVec Ideal S8x128 .f32) = arr2 (fun _ _ => (A c).loss)
      ∧ (r.2.mem ((c.tc : Thread nD τ).loc main_v107) : FVec Ideal S1x1024 .f32) = arr2 (fun _ k => ∑ a, (A c).dgfRow a k)
      ∧ (r.2.mem ((c.tc : Thread nD τ).loc main_v108) : FVec Ideal S1x1024 .f32) = arr2 (fun _ k => ∑ a, (A c).dg2Row a k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ReferenceIdeal.Value.run m ρ)
  obtain ⟨h0, h1, h2, h3, h4, h5, h6, h7, h8, hr⟩ := h c
  refine ⟨h0.trans ?_, h1.trans ?_, h2.trans ?_, h3.trans ?_, h4.trans ?_, h5.trans ?_, h6.trans ?_, h7.trans ?_, h8.trans ?_, hr⟩
  · refine (val_main_v101_eq (launchContents m c)).trans (funext fun i => ?_)
    idx_vars i
    pointwise [val_main_v101]
    exact act_read (H c).a0 (H c).a2 (H c).a3 (H c).a4 i0 i1
  · refine (val_main_v102_eq (launchContents m c)).trans (funext fun i => ?_)
    idx_vars i
    pointwise [val_main_v102]
    exact dgate_read (H c).a0 (H c).a1 (H c).a2 (H c).a3 (H c).a4 (H c).a5 (H c).a6 i0 i1
  · refine (val_main_v103_eq (launchContents m c)).trans (funext fun i => ?_)
    idx_vars i
    pointwise [val_main_v103]
    exact dup_read (H c).a0 (H c).a1 (H c).a2 (H c).a3 (H c).a4 (H c).a5 (H c).a6 i0 i1
  · refine (val_main_v104_eq (launchContents m c)).trans (funext fun i => ?_)
    idx_vars i
    pointwise [val_main_v104]
    exact dx3_read (H c).a0 (H c).a1 (H c).a2 (H c).a3 (H c).a4 (H c).a5 (H c).a6 i0 i1
  · refine (val_main_v100_eq (launchContents m c)).trans (funext fun i => ?_)
    idx_vars i
    exact dx2_read (H c).a0 (H c).a1 (H c).a2 (H c).a3 (H c).a4 (H c).a5 (H c).a6 i0 i1
  · refine (val_main_v105_eq (launchContents m c)).trans (funext fun i => ?_)
    idx_vars i
    pointwise [val_main_v105]
    exact dx2_read (H c).a0 (H c).a1 (H c).a2 (H c).a3 (H c).a4 (H c).a5 (H c).a6 i0 i1
  · refine (val_main_v106_eq (launchContents m c)).trans (funext fun i => ?_)
    idx_vars i
    exact loss_read (H c).a0 (H c).a1 (H c).a2 (H c).a3 (H c).a4 (H c).a5 (H c).a6 i0 i1
  · refine (val_main_v107_eq (launchContents m c)).trans (funext fun i => ?_)
    idx_vars i
    exact dgf_read (H c).a0 (H c).a1 (H c).a2 (H c).a3 (H c).a4 (H c).a5 (H c).a6 i0 i1
  · refine (val_main_v108_eq (launchContents m c)).trans (funext fun i => ?_)
    idx_vars i
    exact dg2_read (H c).a0 (H c).a1 (H c).a2 (H c).a3 (H c).a4 (H c).a5 (H c).a6 i0 i1

end Cert.Ffn.Ref
end
end
-- ==== Proof.Ffn.Claim.lean ====
/- The kernel's results equal the reference's, at equal arguments of real numbers. -/
module

public import proofs.«01_k».proof.Defs
public import proofs.«01_k».proof.Proof.Gen.Kernel
public import proofs.«01_k».proof.Proof.Finite
public import proofs.«01_k».proof.Proof.Ffn.Final
public import proofs.«01_k».proof.Proof.Ffn.RefRun

@[expose] public section

set_option maxRecDepth 16384

noncomputable section

namespace Cert.Ffn

open Idealize.ShloMosaic Idealize.ShloMosaic.TcCoe Idealize.SL.Sem Cert.KernelIdeal

/-- The real numbers device `c`'s argument arrays hold. -/
def args (m : (ℓ : Loc nD τ sig) → Buf (Elt Ideal) ℓ) (c : Dev nD) : Args where
  x a k := ((m ((c : Thread nD τ).loc main_arg0) : FVec Ideal S8192x1024 .f32) (ix2 a k)).toReal
  t a k := ((m ((c : Thread nD τ).loc main_arg1) : FVec Ideal S8192x1024 .f32) (ix2 a k)).toReal
  g2 k := ((m ((c : Thread nD τ).loc main_arg2) : FVec Ideal S1024 .f32) (ix1 k)).toReal
  wg k f := ((m ((c : Thread nD τ).loc main_arg3) : FVec Ideal S1024x2816 .f32) (ix2 k f)).toReal
  wu k f := ((m ((c : Thread nD τ).loc main_arg4) : FVec Ideal S1024x2816 .f32) (ix2 k f)).toReal
  wd f k := ((m ((c : Thread nD τ).loc main_arg5) : FVec Ideal S2816x1024 .f32) (ix2 f k)).toReal
  gf k := ((m ((c : Thread nD τ).loc main_arg6) : FVec Ideal S1024 .f32) (ix1 k)).toReal

theorem agree [Cert.Pre_finite.Facts] (m : (ℓ : Loc nD τ sig) → Buf (Elt Ideal) ℓ) (h : Cert.Pre_KernelIdeal_finite m) (c : Dev nD) :
    Ker.Agree m c (args m c) := by
  obtain ⟨h0, h1, h2, h3, h4, h5, h6⟩ := Cert.Finite.reals _ _ _ _ _ _ _ (h c)
  exact ⟨fun _ _ => h0 _, fun _ _ => h1 _, fun _ => h2 _, fun _ _ => h3 _, fun _ _ => h4 _, fun _ _ => h5 _, fun _ => h6 _⟩

theorem algebraic : Cert.algebraic_KernelIdeal_ReferenceIdeal_pre_finite := by
  pair_intro
  · run_from Cert.KernelIdeal.Value.run_blocks m g
  · have H := agree m hpre
    have HR : ∀ c, Ref.Agree m' c (args m c) := fun c => by
      obtain ⟨e0, e1, e2, e3, e4, e5, e6⟩ := hagree c
      have K := H c
      exact ⟨fun a k => (congrFun e0 _).trans (K.a0 a k), fun a k => (congrFun e1 _).trans (K.a1 a k), fun k => (congrFun e2 _).trans (K.a2 k),
        fun k f => (congrFun e3 _).trans (K.a3 k f), fun k f => (congrFun e4 _).trans (K.a4 k f), fun f k => (congrFun e5 _).trans (K.a5 f k),
        fun k => (congrFun e6 _).trans (K.a6 k)⟩
    run_from Ref.run _ HR g'
    · exact (Ker.final8 (H c)).symm
    · exact (Ker.final9 (H c)).symm
    · exact (Ker.final10 (H c)).symm
    · exact (Ker.final11 (H c)).symm
    · exact (Ker.final12 (H c)).symm
    · exact (Ker.final13 (H c)).symm
    · exact (Ker.final14 (H c)).symm
    · exact (Ker.final15 (H c)).symm
    · exact (Ker.final16 (H c)).symm

end Cert.Ffn
end
end
-- ==== Proof.Wgrad.Sum.lean ====
/- A product contracted over tokens, as an array, and its sum taken in four blocks of tokens. -/
module

public import Idealize.ShloMosaic.Lib.Pipeline.ValueKit

@[expose] public section

noncomputable section

namespace Cert.Wgrad

open Idealize.ShloMosaic

/-- The product of `a` and `b` contracted over their 8192 rows. -/
def prod {m n : ℕ} (a : (⟨2, ![8192, m]⟩ : Shape).Idx → EReal) (b : (⟨2, ![8192, n]⟩ : Shape).Idx → EReal) : (⟨2, ![m, n]⟩ : Shape).Idx → EReal :=
  fun i => ∑ q : Fin 8192, a (ix2 q (i 0)) * b (ix2 q (i 1))

theorem prod_ext {m n : ℕ} (a : (⟨2, ![8192, m]⟩ : Shape).Idx → EReal) (b : (⟨2, ![8192, n]⟩ : Shape).Idx → EReal) {r : Fin m} {k : Fin n}
    {i : (⟨2, ![m, n]⟩ : Shape).Idx} (h : ix2 r k = i) : ∑ q : Fin 8192, a (ix2 q r) * b (ix2 q k) = prod a b i := by subst h; rfl

/-- Row `q` of block `k`. -/
def row (k : ℕ) (hk : k < 4) (q : Fin 2048) : Fin 8192 := ⟨k * 2048 + q.val, by omega⟩

theorem sum_rows (g : Fin 8192 → EReal) :
    ∑ q, g (row 0 (by decide) q) + ∑ q, g (row 1 (by decide) q) + ∑ q, g (row 2 (by decide) q) + ∑ q, g (row 3 (by decide) q) = ∑ a, g a := by
  rw [Fin.sum_univ_tiles 4 2048 rfl g, Fin.sum_univ_four]
  rfl

end Cert.Wgrad
end
end
-- ==== Proof.Wgrad.Gate.lean ====
/- The call `wgrad_gate`: its four steps over a tile's tokens sum to the whole contraction, the reference's product. -/
module

public import proofs.«01_k».proof.Defs
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.Gate

open Cert.KernelGateIdeal Cert.KernelGateIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x2816 .f32 := m ((c : Thread nD τ).loc main_arg0)
/-- The second argument. -/
abbrev rhs : FVec Ideal S8192x1024 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 1408) : Fin 2816 := ⟨t.val / 4 * 1408 + r.val, by have h : t.val < 8 := lt_of_lt_of_eq t.isLt N_0; omega⟩

theorem b0 (t : Fin cfg0.N) (q : Fin 2048) (r : Fin 1408) :
    (iblk m c 0 t : FVec Ideal S2048x1408 .bf16) (ix2 q r) = lhs m c (ix2 (row (t.val % 4) (lt_four t) q) (col t r)) := by
  refine Eq.trans (b := ((V m c main_v0 : FVec Ideal S8192x2816 .bf16)) (ix2 (row (t.val % 4) (lt_four t) q) (col t r))) ?_ ?_
  · blk_ext [iblk, idx t, row, col]
  · entry_read
    rfl

theorem b1 (t : Fin cfg0.N) (q : Fin 2048) (k : Fin 1024) :
    (iblk m c 1 t : FVec Ideal S2048x1024 .bf16) (ix2 q k) = rhs m c (ix2 (row (t.val % 4) (lt_four t) q) k) := by
  refine Eq.trans (b := ((V m c main_v1 : FVec Ideal S8192x1024 .bf16)) (ix2 (row (t.val % 4) (lt_four t) q) k)) ?_ ?_
  · blk_ext [iblk, idx t, row, col]
  · entry_read
    rfl

/-- What grid point `t` adds to the accumulated tile. -/
def part (t : Fin cfg0.N) (r : Fin 1408) (k : Fin 1024) : EReal :=
  ∑ q, lhs m c (ix2 (row (t.val % 4) (lt_four t) q) (col t r)) * rhs m c (ix2 (row (t.val % 4) (lt_four t) q) k)

theorem pay1 (t : Fin cfg0.N) (r : Fin 1408) (k : Fin 1024) : k0_pay1 (F := Ideal) (iblk m c 0 t) (iblk m c 1 t) (ix2 r k) = part m c t r k := by
  have h0 := b0 m c t
  have h1 := b1 m c t
  revert h0 h1
  generalize (iblk m c 0 t : FVec Ideal S2048x1408 .bf16) = x0
  generalize (iblk m c 1 t : FVec Ideal S2048x1024 .bf16) = x1
  intro h0 h1
  pointwise [k0_pay1, h0, h1]
  rfl

theorem first (t : Fin cfg0.N) (h : t.val % 4 = 0) (r : Fin 1408) (k : Fin 1024) :
    ((outsAt0 m c t.val t.isLt).1 : FVec Ideal S1408x1024 .f32) (ix2 r k) = part m c t r k := by
  have ht : t.val < 8 := lt_of_lt_of_eq t.isLt N_0
  rw [outsAt0_A m c t (by omega) (by omega) (by omega)]; frame_out
  exact pay1 m c t r k

theorem later (t : Fin cfg0.N) (h : ¬t.val % 4 = 0) (r : Fin 1408) (k : Fin 1024) :
    ((outsAt0 m c t.val t.isLt).1 : FVec Ideal S1408x1024 .f32) (ix2 r k)
      = ((outsAt0 m c (t.val - 1) (by omega)).1 : FVec Ideal S1408x1024 .f32) (ix2 r k) + part m c t r k := by
  have hp := pay1 m c t
  have ht : t.val < 8 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 1408) (k : Fin 1024) :
    ((outsAt0 m c t.val t.isLt).1 : FVec Ideal S1408x1024 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 1408) (k : Fin 1024) :
    ((outsAt0 m c t.val t.isLt).2 : FVec Ideal S1408x1024 .bf16) (ix2 r k) = ∑ q : Fin 8192, lhs m c (ix2 q (col t r)) * rhs m c (ix2 q k) := by
  refine Eq.trans ?_ (whole m c t h r k)
  have ht : t.val < 8 := lt_of_lt_of_eq t.isLt N_0
  rw [outsAt0_C m c t (by omega) (by omega) (by omega)]; frame_out
  pointwise [k0_pay3]

theorem final2 : ((dats m 0 c).arrAt 2 cfg0.N : FVec Ideal S2816x1024 .f32) = prod (lhs m c) (rhs m c) := by
  refine (dats m 0 c).arrAt_eq_of_covers 2 _ (by decide +kernel) fun t hf y => ?_
  have hl : t.val % 4 = 3 := by
    have h := (flush0_2 t).mp hf
    have h' : t.val < 8 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S2816x1024 .bf16) = prod (lhs m c) (rhs m c) := by
  refine (dats m 0 c).arrAt_eq_of_covers 3 _ (by decide +kernel) fun t hf y => ?_
  have hl : t.val % 4 = 3 := by
    have h := (flush0_3 t).mp hf
    have h' : t.val < 8 := lt_of_lt_of_eq t.isLt N_0
    omega
  blk_simp
  rw [after0_3]
  idx_vars y
  refine (whole16 m c t hl y0 y1).trans ?_
  exact prod_ext _ _ (by blk_ext [idx t, col])

theorem algebraic : Cert.algebraic_KernelGateIdeal_ReferenceGateIdeal := by
  pair_intro
  · run_from Cert.KernelGateIdeal.Value.run_blocks m g
  · run_from Cert.ReferenceGateIdeal.Value.run m' g'
    · refine Eq.trans ?_ (final2 m c).symm
      refine (Cert.ReferenceGateIdeal.Read.val_main_v4_eq _ _).trans (funext fun i => ?_)
      idx_vars i
      pointwise [Cert.ReferenceGateIdeal.Read.val_main_v4, Cert.ReferenceGateIdeal.Read.val_main_v3, Cert.ReferenceGateIdeal.Read.val_main_v2]
      rfl
    · refine Eq.trans ?_ (final3 m c).symm
      refine (Cert.ReferenceGateIdeal.Read.val_main_v5_eq _ _).trans (funext fun i => ?_)
      idx_vars i
      pointwise [Cert.ReferenceGateIdeal.Read.val_main_v5, Cert.ReferenceGateIdeal.Read.val_main_v4, Cert.ReferenceGateIdeal.Read.val_main_v3, Cert.ReferenceGateIdeal.Read.val_main_v2]
      rfl

/-- The reference's frame. -/
theorem reference_frame : Cert.quiescent_ReferenceGateIdeal := by
  intro m g _
  exact (θ_run Cert.ReferenceGateIdeal.defs _ _).mono
    (fun r h => ⟨fun c => (h c).2.2, sem_eq_zero_of_no_sems (sig := Cert.ReferenceGateIdeal.sig) rfl _⟩)
    (Cert.ReferenceGateIdeal.Value.run m g)

end Cert.Wgrad.Gate
end
end
-- ==== Proof.Wgrad.Down.lean ====
/- The call `wgrad_down`: its four steps over a tile's tokens sum to the whole contraction, the reference's product. -/
module

public import proofs.«01_k».proof.Defs
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.Down

open Cert.KernelDownIdeal Cert.KernelDownIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x2816 .f32 := m ((c : Thread nD τ).loc main_arg0)
/-- The second argument. -/
abbrev rhs : FVec Ideal S8192x1024 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 1408) : Fin 2816 := ⟨t.val / 4 * 1408 + r.val, by have h : t.val < 8 := lt_of_lt_of_eq t.isLt N_0; omega⟩

theorem b0 (t : Fin cfg0.N) (q : Fin 2048) (r : Fin 1408) :
    (iblk m c 0 t : FVec Ideal S2048x1408 .bf16) (ix2 q r) = lhs m c (ix2 (row (t.val % 4) (lt_four t) q) (col t r)) := by
  refine Eq.trans (b := ((V m c main_v0 : FVec Ideal S8192x2816 .bf16)) (ix2 (row (t.val % 4) (lt_four t) q) (col t r))) ?_ ?_
  · blk_ext [iblk, idx t, row, col]
  · entry_read
    rfl

theorem b1 (t : Fin cfg0.N) (q : Fin 2048) (k : Fin 1024) :
    (iblk m c 1 t : FVec Ideal S2048x1024 .bf16) (ix2 q k) = rhs m c (ix2 (row (t.val % 4) (lt_four t) q) k) := by
  refine Eq.trans (b := ((V m c main_v1 : FVec Ideal S8192x1024 .bf16)) (ix2 (row (t.val % 4) (lt_four t) q) k)) ?_ ?_
  · blk_ext [iblk, idx t, row, col]
  · entry_read
    rfl

/-- What grid point `t` adds to the accumulated tile. -/
def part (t : Fin cfg0.N) (r : Fin 1408) (k : Fin 1024) : EReal :=
  ∑ q, lhs m c (ix2 (row (t.val % 4) (lt_four t) q) (col t r)) * rhs m c (ix2 (row (t.val % 4) (lt_four t) q) k)

theorem pay1 (t : Fin cfg0.N) (r : Fin 1408) (k : Fin 1024) : k0_pay1 (F := Ideal) (iblk m c 0 t) (iblk m c 1 t) (ix2 r k) = part m c t r k := by
  have h0 := b0 m c t
  have h1 := b1 m c t
  revert h0 h1
  generalize (iblk m c 0 t : FVec Ideal S2048x1408 .bf16) = x0
  generalize (iblk m c 1 t : FVec Ideal S2048x1024 .bf16) = x1
  intro h0 h1
  pointwise [k0_pay1, h0, h1]
  rfl

theorem first (t : Fin cfg0.N) (h : t.val % 4 = 0) (r : Fin 1408) (k : Fin 1024) :
    ((outsAt0 m c t.val t.isLt).1 : FVec Ideal S1408x1024 .f32) (ix2 r k) = part m c t r k := by
  have ht : t.val < 8 := lt_of_lt_of_eq t.isLt N_0
  rw [outsAt0_A m c t (by omega) (by omega) (by omega)]; frame_out
  exact pay1 m c t r k

theorem later (t : Fin cfg0.N) (h : ¬t.val % 4 = 0) (r : Fin 1408) (k : Fin 1024) :
    ((outsAt0 m c t.val t.isLt).1 : FVec Ideal S1408x1024 .f32) (ix2 r k)
      = ((outsAt0 m c (t.val - 1) (by omega)).1 : FVec Ideal S1408x1024 .f32) (ix2 r k) + part m c t r k := by
  have hp := pay1 m c t
  have ht : t.val < 8 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 1408) (k : Fin 1024) :
    ((outsAt0 m c t.val t.isLt).1 : FVec Ideal S1408x1024 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 1408) (k : Fin 1024) :
    ((outsAt0 m c t.val t.isLt).2 : FVec Ideal S1408x1024 .bf16) (ix2 r k) = ∑ q : Fin 8192, lhs m c (ix2 q (col t r)) * rhs m c (ix2 q k) := by
  refine Eq.trans ?_ (whole m c t h r k)
  have ht : t.val < 8 := lt_of_lt_of_eq t.isLt N_0
  rw [outsAt0_C m c t (by omega) (by omega) (by omega)]; frame_out
  pointwise [k0_pay3]

theorem final2 : ((dats m 0 c).arrAt 2 cfg0.N : FVec Ideal S2816x1024 .f32) = prod (lhs m c) (rhs m c) := by
  refine (dats m 0 c).arrAt_eq_of_covers 2 _ (by decide +kernel) fun t hf y => ?_
  have hl : t.val % 4 = 3 := by
    have h := (flush0_2 t).mp hf
    have h' : t.val < 8 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S2816x1024 .bf16) = prod (lhs m c) (rhs m c) := by
  refine (dats m 0 c).arrAt_eq_of_covers 3 _ (by decide +kernel) fun t hf y => ?_
  have hl : t.val % 4 = 3 := by
    have h := (flush0_3 t).mp hf
    have h' : t.val < 8 := lt_of_lt_of_eq t.isLt N_0
    omega
  blk_simp
  rw [after0_3]
  idx_vars y
  refine (whole16 m c t hl y0 y1).trans ?_
  exact prod_ext _ _ (by blk_ext [idx t, col])

theorem algebraic : Cert.algebraic_KernelDownIdeal_ReferenceDownIdeal := by
  pair_intro
  · run_from Cert.KernelDownIdeal.Value.run_blocks m g
  · run_from Cert.ReferenceDownIdeal.Value.run m' g'
    · refine Eq.trans ?_ (final2 m c).symm
      refine (Cert.ReferenceDownIdeal.Read.val_main_v3_eq _ _).trans (funext fun i => ?_)
      idx_vars i
      pointwise [Cert.ReferenceDownIdeal.Read.val_main_v3, Cert.ReferenceDownIdeal.Read.val_main_v2]
      exact Finset.sum_congr rfl fun _ _ => mul_comm _ _
    · refine Eq.trans ?_ (final3 m c).symm
      refine (Cert.ReferenceDownIdeal.Read.val_main_v4_eq _ _).trans (funext fun i => ?_)
      idx_vars i
      pointwise [Cert.ReferenceDownIdeal.Read.val_main_v4, Cert.ReferenceDownIdeal.Read.val_main_v3, Cert.ReferenceDownIdeal.Read.val_main_v2]
      exact Finset.sum_congr rfl fun _ _ => mul_comm _ _

/-- The reference's frame. -/
theorem reference_frame : Cert.quiescent_ReferenceDownIdeal := by
  intro m g _
  exact (θ_run Cert.ReferenceDownIdeal.defs _ _).mono
    (fun r h => ⟨fun c => (h c).2.2, sem_eq_zero_of_no_sems (sig := Cert.ReferenceDownIdeal.sig) rfl _⟩)
    (Cert.ReferenceDownIdeal.Value.run m g)

end Cert.Wgrad.Down
end
end
-- ==== Proof.Wgrad.Out.lean ====
/- The call `wgrad_out`: its four steps over a tile's tokens sum to the whole contraction, the reference's product. -/
module

public import proofs.«01_k».proof.Defs
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.Out

open Cert.KernelOutIdeal Cert.KernelOutIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x1024 .f32 := m ((c : Thread nD τ).loc main_arg0)
/-- The second argument. -/
abbrev rhs : FVec Ideal S8192x1024 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 1024) : Fin 1024 := ⟨t.val / 4 * 1024 + r.val, by have h : t.val < 4 := lt_of_lt_of_eq t.isLt N_0; omega⟩

theorem b0 (t : Fin cfg0.N) (q : Fin 2048) (r : Fin 1024) :
    (iblk m c 0 t : FVec Ideal S2048x1024 .bf16) (ix2 q r) = lhs m c (ix2 (row (t.val % 4) (lt_four t) q) (col t r)) := by
  refine Eq.trans (b := ((V m c main_v0 : FVec Ideal S8192x1024 .bf16)) (ix2 (row (t.val % 4) (lt_four t) q) (col t r))) ?_ ?_
  · blk_ext [iblk, idx t, row, col]
  · entry_read
    rfl

theorem b1 (t : Fin cfg0.N) (q : Fin 2048) (k : Fin 1024) :
    (iblk m c 1 t : FVec Ideal S2048x1024 .bf16) (ix2 q k) = rhs m c (ix2 (row (t.val % 4) (lt_four t) q) k) := by
  refine Eq.trans (b := ((V m c main_v1 : FVec Ideal S8192x1024 .bf16)) (ix2 (row (t.val % 4) (lt_four t) q) k)) ?_ ?_
  · blk_ext [iblk, idx t, row, col]
  · entry_read
    rfl

/-- What grid point `t` adds to the accumulated tile. -/
def part (t : Fin cfg0.N) (r : Fin 1024) (k : Fin 1024) : EReal :=
  ∑ q, lhs m c (ix2 (row (t.val % 4) (lt_four t) q) (col t r)) * rhs m c (ix2 (row (t.val % 4) (lt_four t) q) k)

theorem pay1 (t : Fin cfg0.N) (r : Fin 1024) (k : Fin 1024) : k0_pay1 (F := Ideal) (iblk m c 0 t) (iblk m c 1 t) (ix2 r k) = part m c t r k := by
  have h0 := b0 m c t
  have h1 := b1 m c t
  revert h0 h1
  generalize (iblk m c 0 t : FVec Ideal S2048x1024 .bf16) = x0
  generalize (iblk m c 1 t : FVec Ideal S2048x1024 .bf16) = x1
  intro h0 h1
  pointwise [k0_pay1, h0, h1]
  rfl

theorem first (t : Fin cfg0.N) (h : t.val % 4 = 0) (r : Fin 1024) (k : Fin 1024) :
    ((outsAt0 m c t.val t.isLt).1 : FVec Ideal S1024x1024 .f32) (ix2 r k) = part m c t r k := by
  have ht : t.val < 4 := lt_of_lt_of_eq t.isLt N_0
  rw [outsAt0_A m c t (by omega) (by omega) (by omega)]; frame_out
  exact pay1 m c t r k

theorem later (t : Fin cfg0.N) (h : ¬t.val % 4 = 0) (r : Fin 1024) (k : Fin 1024) :
    ((outsAt0 m c t.val t.isLt).1 : FVec Ideal S1024x1024 .f32) (ix2 r k)
      = ((outsAt0 m c (t.val - 1) (by omega)).1 : FVec Ideal S1024x1024 .f32) (ix2 r k) + part m c t r k := by
  have hp := pay1 m c t
  have ht : t.val < 4 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 1024) (k : Fin 1024) :
    ((outsAt0 m c t.val t.isLt).1 : FVec Ideal S1024x1024 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 1024) (k : Fin 1024) :
    ((outsAt0 m c t.val t.isLt).2 : FVec Ideal S1024x1024 .bf16) (ix2 r k) = ∑ q : Fin 8192, lhs m c (ix2 q (col t r)) * rhs m c (ix2 q k) := by
  refine Eq.trans ?_ (whole m c t h r k)
  have ht : t.val < 4 := lt_of_lt_of_eq t.isLt N_0
  rw [outsAt0_C m c t (by omega) (by omega) (by omega)]; frame_out
  pointwise [k0_pay3]

theorem final2 : ((dats m 0 c).arrAt 2 cfg0.N : FVec Ideal S1024x1024 .f32) = prod (lhs m c) (rhs m c) := by
  refine (dats m 0 c).arrAt_eq_of_covers 2 _ (by decide +kernel) fun t hf y => ?_
  have hl : t.val % 4 = 3 := by
    have h := (flush0_2 t).mp hf
    have h' : t.val < 4 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S1024x1024 .bf16) = prod (lhs m c) (rhs m c) := by
  refine (dats m 0 c).arrAt_eq_of_covers 3 _ (by decide +kernel) fun t hf y => ?_
  have hl : t.val % 4 = 3 := by
    have h := (flush0_3 t).mp hf
    have h' : t.val < 4 := lt_of_lt_of_eq t.isLt N_0
    omega
  blk_simp
  rw [after0_3]
  idx_vars y
  refine (whole16 m c t hl y0 y1).trans ?_
  exact prod_ext _ _ (by blk_ext [idx t, col])

theorem algebraic : Cert.algebraic_KernelOutIdeal_ReferenceOutIdeal := by
  pair_intro
  · run_from Cert.KernelOutIdeal.Value.run_blocks m g
  · run_from Cert.ReferenceOutIdeal.Value.run m' g'
    · refine Eq.trans ?_ (final2 m c).symm
      refine (Cert.ReferenceOutIdeal.Read.val_main_v3_eq _ _).trans (funext fun i => ?_)
      idx_vars i
      pointwise [Cert.ReferenceOutIdeal.Read.val_main_v3, Cert.ReferenceOutIdeal.Read.val_main_v2]
      exact Finset.sum_congr rfl fun _ _ => mul_comm _ _
    · refine Eq.trans ?_ (final3 m c).symm
      refine (Cert.ReferenceOutIdeal.Read.val_main_v4_eq _ _).trans (funext fun i => ?_)
      idx_vars i
      pointwise [Cert.ReferenceOutIdeal.Read.val_main_v4, Cert.ReferenceOutIdeal.Read.val_main_v3, Cert.ReferenceOutIdeal.Read.val_main_v2]
      exact Finset.sum_congr rfl fun _ _ => mul_comm _ _

/-- The reference's frame. -/
theorem reference_frame : Cert.quiescent_ReferenceOutIdeal := by
  intro m g _
  exact (θ_run Cert.ReferenceOutIdeal.defs _ _).mono
    (fun r h => ⟨fun c => (h c).2.2, sem_eq_zero_of_no_sems (sig := Cert.ReferenceOutIdeal.sig) rfl _⟩)
    (Cert.ReferenceOutIdeal.Value.run m g)

end Cert.Wgrad.Out
end
end
-- ==== Proof.Wgrad.In.lean ====
/- The call `wgrad_in`: its four steps over a tile's tokens sum to the whole contraction, the reference's product. -/
module

public import proofs.«01_k».proof.Defs
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.In

open Cert.KernelInIdeal Cert.KernelInIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x3328 .f32 := m ((c : Thread nD τ).loc main_arg0)
/-- The second argument. -/
abbrev rhs : FVec Ideal S8192x1024 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 1664) : Fin 3328 := ⟨t.val / 4 * 1664 + r.val, by have h : t.val < 8 := lt_of_lt_of_eq t.isLt N_0; omega⟩

theorem b0 (t : Fin cfg0.N) (q : Fin 2048) (r : Fin 1664) :
    (iblk m c 0 t : FVec Ideal S2048x1664 .bf16) (ix2 q r) = lhs m c (ix2 (row (t.val % 4) (lt_four t) q) (col t r)) := by
  refine Eq.trans (b := ((V m c main_v0 : FVec Ideal S8192x3328 .bf16)) (ix2 (row (t.val % 4) (lt_four t) q) (col t r))) ?_ ?_
  · blk_ext [iblk, idx t, row, col]
  · entry_read
    rfl

theorem b1 (t : Fin cfg0.N) (q : Fin 2048) (k : Fin 1024) :
    (iblk m c 1 t : FVec Ideal S2048x1024 .bf16) (ix2 q k) = rhs m c (ix2 (row (t.val % 4) (lt_four t) q) k) := by
  refine Eq.trans (b := ((V m c main_v1 : FVec Ideal S8192x1024 .bf16)) (ix2 (row (t.val % 4) (lt_four t) q) k)) ?_ ?_
  · blk_ext [iblk, idx t, row, col]
  · entry_read
    rfl

/-- What grid point `t` adds to the accumulated tile. -/
def part (t : Fin cfg0.N) (r : Fin 1664) (k : Fin 1024) : EReal :=
  ∑ q, lhs m c (ix2 (row (t.val % 4) (lt_four t) q) (col t r)) * rhs m c (ix2 (row (t.val % 4) (lt_four t) q) k)

theorem pay1 (t : Fin cfg0.N) (r : Fin 1664) (k : Fin 1024) : k0_pay1 (F := Ideal) (iblk m c 0 t) (iblk m c 1 t) (ix2 r k) = part m c t r k := by
  have h0 := b0 m c t
  have h1 := b1 m c t
  revert h0 h1
  generalize (iblk m c 0 t : FVec Ideal S2048x1664 .bf16) = x0
  generalize (iblk m c 1 t : FVec Ideal S2048x1024 .bf16) = x1
  intro h0 h1
  pointwise [k0_pay1, h0, h1]
  rfl

theorem first (t : Fin cfg0.N) (h : t.val % 4 = 0) (r : Fin 1664) (k : Fin 1024) :
    ((outsAt0 m c t.val t.isLt).1 : FVec Ideal S1664x1024 .f32) (ix2 r k) = part m c t r k := by
  have ht : t.val < 8 := lt_of_lt_of_eq t.isLt N_0
  rw [outsAt0_A m c t (by omega) (by omega) (by omega)]; frame_out
  exact pay1 m c t r k

theorem later (t : Fin cfg0.N) (h : ¬t.val % 4 = 0) (r : Fin 1664) (k : Fin 1024) :
    ((outsAt0 m c t.val t.isLt).1 : FVec Ideal S1664x1024 .f32) (ix2 r k)
      = ((outsAt0 m c (t.val - 1) (by omega)).1 : FVec Ideal S1664x1024 .f32) (ix2 r k) + part m c t r k := by
  have hp := pay1 m c t
  have ht : t.val < 8 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 1664) (k : Fin 1024) :
    ((outsAt0 m c t.val t.isLt).1 : FVec Ideal S1664x1024 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 1664) (k : Fin 1024) :
    ((outsAt0 m c t.val t.isLt).2 : FVec Ideal S1664x1024 .bf16) (ix2 r k) = ∑ q : Fin 8192, lhs m c (ix2 q (col t r)) * rhs m c (ix2 q k) := by
  refine Eq.trans ?_ (whole m c t h r k)
  have ht : t.val < 8 := lt_of_lt_of_eq t.isLt N_0
  rw [outsAt0_C m c t (by omega) (by omega) (by omega)]; frame_out
  pointwise [k0_pay3]

theorem final2 : ((dats m 0 c).arrAt 2 cfg0.N : FVec Ideal S3328x1024 .f32) = prod (lhs m c) (rhs m c) := by
  refine (dats m 0 c).arrAt_eq_of_covers 2 _ (by decide +kernel) fun t hf y => ?_
  have hl : t.val % 4 = 3 := by
    have h := (flush0_2 t).mp hf
    have h' : t.val < 8 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S3328x1024 .bf16) = prod (lhs m c) (rhs m c) := by
  refine (dats m 0 c).arrAt_eq_of_covers 3 _ (by decide +kernel) fun t hf y => ?_
  have hl : t.val % 4 = 3 := by
    have h := (flush0_3 t).mp hf
    have h' : t.val < 8 := lt_of_lt_of_eq t.isLt N_0
    omega
  blk_simp
  rw [after0_3]
  idx_vars y
  refine (whole16 m c t hl y0 y1).trans ?_
  exact prod_ext _ _ (by blk_ext [idx t, col])

theorem algebraic : Cert.algebraic_KernelInIdeal_ReferenceInIdeal := by
  pair_intro
  · run_from Cert.KernelInIdeal.Value.run_blocks m g
  · run_from Cert.ReferenceInIdeal.Value.run m' g'
    · refine Eq.trans ?_ (final2 m c).symm
      refine (Cert.ReferenceInIdeal.Read.val_main_v4_eq _ _).trans (funext fun i => ?_)
      idx_vars i
      pointwise [Cert.ReferenceInIdeal.Read.val_main_v4, Cert.ReferenceInIdeal.Read.val_main_v3, Cert.ReferenceInIdeal.Read.val_main_v2]
      rfl
    · refine Eq.trans ?_ (final3 m c).symm
      refine (Cert.ReferenceInIdeal.Read.val_main_v5_eq _ _).trans (funext fun i => ?_)
      idx_vars i
      pointwise [Cert.ReferenceInIdeal.Read.val_main_v5, Cert.ReferenceInIdeal.Read.val_main_v4, Cert.ReferenceInIdeal.Read.val_main_v3, Cert.ReferenceInIdeal.Read.val_main_v2]
      rfl

/-- The reference's frame. -/
theorem reference_frame : Cert.quiescent_ReferenceInIdeal := by
  intro m g _
  exact (θ_run Cert.ReferenceInIdeal.defs _ _).mono
    (fun r h => ⟨fun c => (h c).2.2, sem_eq_zero_of_no_sems (sig := Cert.ReferenceInIdeal.sig) rfl _⟩)
    (Cert.ReferenceInIdeal.Value.run m g)

end Cert.Wgrad.In
end
end
-- ==== Proof.Wgrad.Qb.lean ====
/- The call `wgrad_q_b`: its four steps over a tile's tokens sum to the whole contraction, the reference's product. -/
module

public import proofs.«01_k».proof.Defs
public import proofs.«01_k».proof.Proof.Gen.KernelQbIdeal.Value
public import proofs.«01_k».proof.Proof.Gen.ReferenceQbIdeal.Run
public import proofs.«01_k».proof.Proof.Gen.ReferenceQbIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.Qb

open Cert.KernelQbIdeal Cert.KernelQbIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x1024 .f32 := m ((c : Thread nD τ).loc main_arg0)
/-- The second argument. -/
abbrev rhs : FVec Ideal S8192x384 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 1024) : Fin 1024 := ⟨t.val / 4 * 1024 + r.val, by have h : t.val < 4 := lt_of_lt_of_eq t.isLt N_0; omega⟩

theorem b0 (t : Fin cfg0.N) (q : Fin 2048) (r : Fin 1024) :
    (iblk m c 0 t : FVec Ideal S2048x1024 .bf16) (ix2 q r) = lhs m c (ix2 (row (t.val % 4) (lt_four t) q) (col t r)) := by
  refine Eq.trans (b := ((V m c main_v0 : FVec Ideal S8192x1024 .bf16)) (ix2 (row (t.val % 4) (lt_four t) q) (col t r))) ?_ ?_
  · blk_ext [iblk, idx t, row, col]
  · entry_read
    rfl

theorem b1 (t : Fin cfg0.N) (q : Fin 2048) (k : Fin 384) :
    (iblk m c 1 t : FVec Ideal S2048x384 .bf16) (ix2 q k) = rhs m c (ix2 (row (t.val % 4) (lt_four t) q) k) := by
  refine Eq.trans (b := ((V m c main_v1 : FVec Ideal S8192x384 .bf16)) (ix2 (row (t.val % 4) (lt_four t) q) k)) ?_ ?_
  · blk_ext [iblk, idx t, row, col]
  · entry_read
    rfl

/-- What grid point `t` adds to the accumulated tile. -/
def part (t : Fin cfg0.N) (r : Fin 1024) (k : Fin 384) : EReal :=
  ∑ q, lhs m c (ix2 (row (t.val % 4) (lt_four t) q) (col t r)) * rhs m c (ix2 (row (t.val % 4) (lt_four t) q) k)

theorem pay1 (t : Fin cfg0.N) (r : Fin 1024) (k : Fin 384) : k0_pay1 (F := Ideal) (iblk m c 0 t) (iblk m c 1 t) (ix2 r k) = part m c t r k := by
  have h0 := b0 m c t
  have h1 := b1 m c t
  revert h0 h1
  generalize (iblk m c 0 t : FVec Ideal S2048x1024 .bf16) = x0
  generalize (iblk m c 1 t : FVec Ideal S2048x384 .bf16) = x1
  intro h0 h1
  pointwise [k0_pay1, h0, h1]
  rfl

theorem first (t : Fin cfg0.N) (h : t.val % 4 = 0) (r : Fin 1024) (k : Fin 384) :
    ((outsAt0 m c t.val t.isLt).1 : FVec Ideal S1024x384 .f32) (ix2 r k) = part m c t r k := by
  have ht : t.val < 4 := lt_of_lt_of_eq t.isLt N_0
  rw [outsAt0_A m c t (by omega) (by omega) (by omega)]; frame_out
  exact pay1 m c t r k

theorem later (t : Fin cfg0.N) (h : ¬t.val % 4 = 0) (r : Fin 1024) (k : Fin 384) :
    ((outsAt0 m c t.val t.isLt).1 : FVec Ideal S1024x384 .f32) (ix2 r k)
      = ((outsAt0 m c (t.val - 1) (by omega)).1 : FVec Ideal S1024x384 .f32) (ix2 r k) + part m c t r k := by
  have hp := pay1 m c t
  have ht : t.val < 4 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 1024) (k : Fin 384) :
    ((outsAt0 m c t.val t.isLt).1 : FVec Ideal S1024x384 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 1024) (k : Fin 384) :
    ((outsAt0 m c t.val t.isLt).2 : FVec Ideal S1024x384 .bf16) (ix2 r k) = ∑ q : Fin 8192, lhs m c (ix2 q (col t r)) * rhs m c (ix2 q k) := by
  refine Eq.trans ?_ (whole m c t h r k)
  have ht : t.val < 4 := lt_of_lt_of_eq t.isLt N_0
  rw [outsAt0_C m c t (by omega) (by omega) (by omega)]; frame_out
  pointwise [k0_pay3]

theorem final2 : ((dats m 0 c).arrAt 2 cfg0.N : FVec Ideal S1024x384 .f32) = prod (lhs m c) (rhs m c) := by
  refine (dats m 0 c).arrAt_eq_of_covers 2 _ (by decide +kernel) fun t hf y => ?_
  have hl : t.val % 4 = 3 := by
    have h := (flush0_2 t).mp hf
    have h' : t.val < 4 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S1024x384 .bf16) = prod (lhs m c) (rhs m c) := by
  refine (dats m 0 c).arrAt_eq_of_covers 3 _ (by decide +kernel) fun t hf y => ?_
  have hl : t.val % 4 = 3 := by
    have h := (flush0_3 t).mp hf
    have h' : t.val < 4 := lt_of_lt_of_eq t.isLt N_0
    omega
  blk_simp
  rw [after0_3]
  idx_vars y
  refine (whole16 m c t hl y0 y1).trans ?_
  exact prod_ext _ _ (by blk_ext [idx t, col])

theorem algebraic : Cert.algebraic_KernelQbIdeal_ReferenceQbIdeal := by
  pair_intro
  · run_from Cert.KernelQbIdeal.Value.run_blocks m g
  · run_from Cert.ReferenceQbIdeal.Value.run m' g'
    · refine Eq.trans ?_ (final2 m c).symm
      refine (Cert.ReferenceQbIdeal.Read.val_main_v4_eq _ _).trans (funext fun i => ?_)
      idx_vars i
      pointwise [Cert.ReferenceQbIdeal.Read.val_main_v4, Cert.ReferenceQbIdeal.Read.val_main_v3, Cert.ReferenceQbIdeal.Read.val_main_v2]
      rfl
    · refine Eq.trans ?_ (final3 m c).symm
      refine (Cert.ReferenceQbIdeal.Read.val_main_v5_eq _ _).trans (funext fun i => ?_)
      idx_vars i
      pointwise [Cert.ReferenceQbIdeal.Read.val_main_v5, Cert.ReferenceQbIdeal.Read.val_main_v4, Cert.ReferenceQbIdeal.Read.val_main_v3, Cert.ReferenceQbIdeal.Read.val_main_v2]
      rfl

/-- The reference's frame. -/
theorem reference_frame : Cert.quiescent_ReferenceQbIdeal := by
  intro m g _
  exact (θ_run Cert.ReferenceQbIdeal.defs _ _).mono
    (fun r h => ⟨fun c => (h c).2.2, sem_eq_zero_of_no_sems (sig := Cert.ReferenceQbIdeal.sig) rfl _⟩)
    (Cert.ReferenceQbIdeal.Value.run m g)

end Cert.Wgrad.Qb
end
end
-- ==== Proof.Wgrad.Kvb.lean ====
/- The call `wgrad_kv_b`: its four steps over a tile's tokens sum to the whole contraction, the reference's product. -/
module

public import proofs.«01_k».proof.Defs
public import proofs.«01_k».proof.Proof.Gen.KernelKvbIdeal.Value
public import proofs.«01_k».proof.Proof.Gen.ReferenceKvbIdeal.Run
public import proofs.«01_k».proof.Proof.Gen.ReferenceKvbIdeal.Read
public import proofs.«01_k».proof.Proof.Wgrad.Sum
public import Idealize.ShloMosaic.Lib.Claim
public import Idealize.ShloMosaic.Lib.Quiescent

@[expose] public section

set_option maxRecDepth 16384

noncomputable section

namespace Cert.Wgrad.Kvb

open Cert.KernelKvbIdeal Cert.KernelKvbIdeal.Gen
open Idealize.ShloMosaic Idealize.ShloMosaic.TcCoe Idealize.SL.Sem

theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The first argument. -/
abbrev lhs : FVec Ideal S8192x256 .f32 := m ((c : Thread nD τ).loc main_arg0)
/-- The second argument. -/
abbrev rhs : FVec Ideal S8192x1024 .f32 := m ((c : Thread nD τ).loc main_arg1)

theorem lt_four (t : Fin cfg0.N) : t.val % 4 < 4 := Nat.mod_lt _ (by decide)

/-- The result's row that row `r` of grid point `t`'s tile is. -/
def col (t : Fin cfg0.N) (r : Fin 256) : Fin 256 := ⟨t.val / 4 * 256 + r.val, by have h : t.val < 4 := lt_of_lt_of_eq t.isLt N_0; omega⟩

theorem b0 (t : Fin cfg0.N) (q : Fin 2048) (r : Fin 256) :
    (iblk m c 0 t : FVec Ideal S2048x256 .bf16) (ix2 q r) = lhs m c (ix2 (row (t.val % 4) (lt_four t) q) (col t r)) := by
  refine Eq.trans (b := ((V m c main_v0 : FVec Ideal S8192x256 .bf16)) (ix2 (row (t.val % 4) (lt_four t) q) (col t r))) ?_ ?_
  · blk_ext [iblk, idx t, row, col]
  · entry_read
    rfl

theorem b1 (t : Fin cfg0.N) (q : Fin 2048) (k : Fin 1024) :
    (iblk m c 1 t : FVec Ideal S2048x1024 .bf16) (ix2 q k) = rhs m c (ix2 (row (t.val % 4) (lt_four t) q) k) := by
  refine Eq.trans (b := ((V m c main_v1 : FVec Ideal S8192x1024 .bf16)) (ix2 (row (t.val % 4) (lt_four t) q) k)) ?_ ?_
  · blk_ext [iblk, idx t, row, col]
  · entry_read
    rfl

/-- What grid point `t` adds to the accumulated tile. -/
def part (t : Fin cfg0.N) (r : Fin 256) (k : Fin 1024) : EReal :=
  ∑ q, lhs m c (ix2 (row (t.val % 4) (lt_four t) q) (col t r)) * rhs m c (ix2 (row (t.val % 4) (lt_four t) q) k)

theorem pay1 (t : Fin cfg0.N) (r : Fin 256) (k : Fin 1024) : k0_pay1 (F := Ideal) (iblk m c 0 t) (iblk m c 1 t) (ix2 r k) = part m c t r k := by
  have h0 := b0 m c t
  have h1 := b1 m c t
  revert h0 h1
  generalize (iblk m c 0 t : FVec Ideal S2048x256 .bf16) = x0
  generalize (iblk m c 1 t : FVec Ideal S2048x1024 .bf16) = x1
  intro h0 h1
  pointwise [k0_pay1, h0, h1]
  rfl

theorem first (t : Fin cfg0.N) (h : t.val % 4 = 0) (r : Fin 256) (k : Fin 1024) :
    ((outsAt0 m c t.val t.isLt).1 : FVec Ideal S256x1024 .f32) (ix2 r k) = part m c t r k := by
  have ht : t.val < 4 := lt_of_lt_of_eq t.isLt N_0
  rw [outsAt0_A m c t (by omega) (by omega) (by omega)]; frame_out
  exact pay1 m c t r k

theorem later (t : Fin cfg0.N) (h : ¬t.val % 4 = 0) (r : Fin 256) (k : Fin 1024) :
    ((outsAt0 m c t.val t.isLt).1 : FVec Ideal S256x1024 .f32) (ix2 r k)
      = ((outsAt0 m c (t.val - 1) (by omega)).1 : FVec Ideal S256x1024 .f32) (ix2 r k) + part m c t r k := by
  have hp := pay1 m c t
  have ht : t.val < 4 := lt_of_lt_of_eq t.isLt N_0
  by_cases hl : t.val % 4 = 3
  · rw [outsAt0_C m c t (by omega) (by omega) (by omega)]; frame_out
    pointwise [k0_pay2, hp]
  · rw [outsAt0_B m c t (by omega) (by omega) (by omega)]; frame_out
    pointwise [k0_pay2, hp]

/-- The tile after its last step is the whole contraction. -/
theorem whole (t : Fin cfg0.N) (h : t.val % 4 = 3) (r : Fin 256) (k : Fin 1024) :
    ((outsAt0 m c t.val t.isLt).1 : FVec Ideal S256x1024 .f32) (ix2 r k) = ∑ q : Fin 8192, lhs m c (ix2 q (col t r)) * rhs m c (ix2 q k) := by
  rw [later m c t (by omega), later m c ⟨t.val - 1, by omega⟩ (by simp only; omega), later m c ⟨t.val - 1 - 1, by omega⟩ (by simp only; omega),
    first m c ⟨t.val - 1 - 1 - 1, by omega⟩ (by simp only; omega), ← sum_rows]
  have e (n : ℕ) (hn : n < cfg0.N) (j : ℕ) (hj : j < 4) (h' : n % 4 = j) (hd : n / 4 = t.val / 4) :
      part m c ⟨n, hn⟩ r k = ∑ q, lhs m c (ix2 (row j hj q) (col t r)) * rhs m c (ix2 (row j hj q) k) := by
    subst h'
    rw [show col t r = col ⟨n, hn⟩ r from Fin.ext (by simp only [col, hd])]
    rfl
  rw [e _ _ 0 (by decide) (by omega) (by omega), e _ _ 1 (by decide) (by omega) (by omega), e _ _ 2 (by decide) (by omega) (by omega),
    e _ _ 3 (by decide) (by omega) (by omega)]

/-- The copy of the tile written at its last step. -/
theorem whole16 (t : Fin cfg0.N) (h : t.val % 4 = 3) (r : Fin 256) (k : Fin 1024) :
    ((outsAt0 m c t.val t.isLt).2 : FVec Ideal S256x1024 .bf16) (ix2 r k) = ∑ q : Fin 8192, lhs m c (ix2 q (col t r)) * rhs m c (ix2 q k) := by
  refine Eq.trans ?_ (whole m c t h r k)
  have ht : t.val < 4 := lt_of_lt_of_eq t.isLt N_0
  rw [outsAt0_C m c t (by omega) (by omega) (by omega)]; frame_out
  pointwise [k0_pay3]

theorem final2 : ((dats m 0 c).arrAt 2 cfg0.N : FVec Ideal S256x1024 .f32) = prod (lhs m c) (rhs m c) := by
  refine (dats m 0 c).arrAt_eq_of_covers 2 _ (by decide +kernel) fun t hf y => ?_
  have hl : t.val % 4 = 3 := by
    have h := (flush0_2 t).mp hf
    have h' : t.val < 4 := lt_of_lt_of_eq t.isLt N_0
    omega
  blk_simp
  rw [after0_2]
  idx_vars y
  refine (whole m c t hl y0 y1).trans ?_
  exact prod_ext _ _ (by blk_ext [idx t, col])

theorem final3 : ((dats m 0 c).arrAt 3 cfg0.N : FVec Ideal S256x1024 .bf16) = prod (lhs m c) (rhs m c) := by
  refine (dats m 0 c).arrAt_eq_of_covers 3 _ (by decide +kernel) fun t hf y => ?_
  have hl : t.val % 4 = 3 := by
    have h := (flush0_3 t).mp hf
    have h' : t.val < 4 := lt_of_lt_of_eq t.isLt N_0
    omega
  blk_simp
  rw [after0_3]
  idx_vars y
  refine (whole16 m c t hl y0 y1).trans ?_
  exact prod_ext _ _ (by blk_ext [idx t, col])

theorem algebraic : Cert.algebraic_KernelKvbIdeal_ReferenceKvbIdeal := by
  pair_intro
  · run_from Cert.KernelKvbIdeal.Value.run_blocks m g
  · run_from Cert.ReferenceKvbIdeal.Value.run m' g'
    · refine Eq.trans ?_ (final2 m c).symm
      refine (Cert.ReferenceKvbIdeal.Read.val_main_v3_eq _ _).trans (funext fun i => ?_)
      idx_vars i
      pointwise [Cert.ReferenceKvbIdeal.Read.val_main_v3, Cert.ReferenceKvbIdeal.Read.val_main_v2]
      exact Finset.sum_congr rfl fun _ _ => mul_comm _ _
    · refine Eq.trans ?_ (final3 m c).symm
      refine (Cert.ReferenceKvbIdeal.Read.val_main_v4_eq _ _).trans (funext fun i => ?_)
      idx_vars i
      pointwise [Cert.ReferenceKvbIdeal.Read.val_main_v4, Cert.ReferenceKvbIdeal.Read.val_main_v3, Cert.ReferenceKvbIdeal.Read.val_main_v2]
      exact Finset.sum_congr rfl fun _ _ => mul_comm _ _

/-- The reference's frame. -/
theorem reference_frame : Cert.quiescent_ReferenceKvbIdeal := by
  intro m g _
  exact (θ_run Cert.ReferenceKvbIdeal.defs _ _).mono
    (fun r h => ⟨fun c => (h c).2.2, sem_eq_zero_of_no_sems (sig := Cert.ReferenceKvbIdeal.sig) rfl _⟩)
    (Cert.ReferenceKvbIdeal.Value.run m g)

end Cert.Wgrad.Kvb
end
end
-- ==== Proof.InBwd.Finite.lean ====
/- The precondition of the projection's gradient read: every argument array holds real numbers. -/
module

public import proofs.«01_k».proof.Proof.Gen.Pre_finite_in_bwd
public import proofs.«01_k».proof.Proof.Finite

@[expose] public section

set_option maxRecDepth 16384

noncomputable section

namespace Cert.InBwd

open Idealize.ShloMosaic Idealize.ShloMosaic.TcCoe Idealize.ShloMosaic.StableHlo Cert.Pre_finite_in_bwd Cert.Pre_finite_in_bwd.Facts
open Cert.Finite (all_real and_one)

variable [Cert.Pre_finite_in_bwd.Facts]

theorem reals (x0 : FVec Ideal S8192x512 .f32) (x1 : FVec Ideal S8192x512 .f32) (x2 : FVec Ideal S8192x512 .f32) (x3 : FVec Ideal S8192x512 .f32) (x4 : FVec Ideal S8192x512 .f32) (x5 : FVec Ideal S8192x512 .f32) (x6 : FVec Ideal S8192x512 .f32) (x7 : FVec Ideal S8192x512 .f32) (x8 : FVec Ideal S8192x384 .f32) (x9 : FVec Ideal S8192x256 .f32) (x10 : FVec Ideal S8192x64 .f32) (x11 : FVec Ideal S8192x1024 .f32) (x12 : FVec Ideal S8192x1024 .f32) (x13 : FVec Ideal S1024 .f32) (x14 : FVec Ideal S1024x3264 .f32)
    (h : fn (F := Ideal) x0 x1 x2 x3 x4 x5 x6 x7 x8 x9 x10 x11 x12 x13 x14 = fun _ => 1#1) :
    (∀ i, x0 i = ((x0 i).toReal : EReal))
      ∧ (∀ i, x1 i = ((x1 i).toReal : EReal))
      ∧ (∀ i, x2 i = ((x2 i).toReal : EReal))
      ∧ (∀ i, x3 i = ((x3 i).toReal : EReal))
      ∧ (∀ i, x4 i = ((x4 i).toReal : EReal))
      ∧ (∀ i, x5 i = ((x5 i).toReal : EReal))
      ∧ (∀ i, x6 i = ((x6 i).toReal : EReal))
      ∧ (∀ i, x7 i = ((x7 i).toReal : EReal))
      ∧ (∀ i, x8 i = ((x8 i).toReal : EReal))
      ∧ (∀ i, x9 i = ((x9 i).toReal : EReal))
      ∧ (∀ i, x10 i = ((x10 i).toReal : EReal))
      ∧ (∀ i, x11 i = ((x11 i).toReal : EReal))
      ∧ (∀ i, x12 i = ((x12 i).toReal : EReal))
      ∧ (∀ i, x13 i = ((x13 i).toReal : EReal))
      ∧ (∀ i, x14 i = ((x14 i).toReal : EReal)) := by
  obtain ⟨h, e14⟩ := and_one h
  obtain ⟨h, e13⟩ := and_one h
  obtain ⟨h, e12⟩ := and_one h
  obtain ⟨h, e11⟩ := and_one h
  obtain ⟨h, e10⟩ := and_one h
  obtain ⟨h, e9⟩ := and_one h
  obtain ⟨h, e8⟩ := and_one h
  obtain ⟨h, e7⟩ := and_one h
  obtain ⟨h, e6⟩ := and_one h
  obtain ⟨h, e5⟩ := and_one h
  obtain ⟨h, e4⟩ := and_one h
  obtain ⟨h, e3⟩ := and_one h
  obtain ⟨h, e2⟩ := and_one h
  obtain ⟨e0, e1⟩ := and_one h
  exact ⟨all_real _ _ _ _ _ e0, all_real _ _ _ _ _ e1, all_real _ _ _ _ _ e2, all_real _ _ _ _ _ e3, all_real _ _ _ _ _ e4, all_real _ _ _ _ _ e5, all_real _ _ _ _ _ e6, all_real _ _ _ _ _ e7, all_real _ _ _ _ _ e8, all_real _ _ _ _ _ e9, all_real _ _ _ _ _ e10, all_real _ _ _ _ _ e11, all_real _ _ _ _ _ e12, all_real _ _ _ _ _ e13, all_real _ _ _ _ _ e14⟩

end Cert.InBwd
end
end
-- ==== Proof.InBwd.Real.lean ====
/- The gradients of the first norm and the input projection on real numbers, token by token. -/
module

public import proofs.«01_k».proof.Proof.Ffn.Real

@[expose] public section

noncomputable section

open Idealize.ShloMosaic

namespace Cert.InBwd

open Cert.Ffn (sg rr rmsGrad)

/-- The arguments, as real numbers. -/
structure Args where
  dqf : Fin 8192 → Fin 512 → ℝ
  dqr : Fin 8192 → Fin 512 → ℝ
  dvf : Fin 8192 → Fin 512 → ℝ
  dvr : Fin 8192 → Fin 512 → ℝ
  dzf : Fin 8192 → Fin 512 → ℝ
  dzr : Fin 8192 → Fin 512 → ℝ
  dhg : Fin 8192 → Fin 512 → ℝ
  hq : Fin 8192 → Fin 512 → ℝ
  dcq : Fin 8192 → Fin 384 → ℝ
  dckv : Fin 8192 → Fin 256 → ℝ
  dkr : Fin 8192 → Fin 64 → ℝ
  dx2 : Fin 8192 → Fin 1024 → ℝ
  x : Fin 8192 → Fin 1024 → ℝ
  g : Fin 1024 → ℝ
  w : Fin 1024 → Fin 3264 → ℝ

namespace Args
variable (A : Args)

/-- The query's gradient through its swish map. -/
def dhq (a : Fin 8192) (j : Fin 512) : ℝ :=
  (A.dqf a j + A.dqr a j) * (sg (A.hq a j) * (1 + A.hq a j * (1 - sg (A.hq a j))))
def dv (a : Fin 8192) (j : Fin 512) : ℝ := A.dvf a j + A.dvr a j

/-- The rotated key's gradient, padded with zeros. -/
def dkrp (a : Fin 8192) (j : Fin 128) : ℝ := if h : j.val < 64 then A.dkr a ⟨j.val, h⟩ else 0

/-- The transposed weight, padded with zero rows. -/
def wp (j : Fin 3328) (k : Fin 1024) : ℝ := if h : j.val < 3264 then A.w k ⟨j.val, h⟩ else 0

/-- The projection's gradient: its eight parts side by side. -/
def dp (a : Fin 8192) (j : Fin 3328) : ℝ :=
  if h : j.val < 512 then A.dhq a ⟨j.val, h⟩
  else if h : j.val - 512 < 512 then A.dv a ⟨j.val - 512, h⟩
  else if h : j.val - 512 - 512 < 512 then A.dzf a ⟨j.val - 512 - 512, h⟩
  else if h : j.val - 512 - 512 - 512 < 512 then A.dzr a ⟨j.val - 512 - 512 - 512, h⟩
  else if h : j.val - 512 - 512 - 512 - 512 < 512 then A.dhg a ⟨j.val - 512 - 512 - 512 - 512, h⟩
  else if h : j.val - 512 - 512 - 512 - 512 - 512 < 384 then A.dcq a ⟨j.val - 512 - 512 - 512 - 512 - 512, h⟩
  else if h : j.val - 512 - 512 - 512 - 512 - 512 - 384 < 256 then A.dckv a ⟨j.val - 512 - 512 - 512 - 512 - 512 - 384, h⟩
  else A.dkrp a ⟨j.val - 512 - 512 - 512 - 512 - 512 - 384 - 256, by omega⟩

theorem dp_dhq (a : Fin 8192) {i : Fin 3328} {j : Fin 512} (h : i.val = 0 + j.val) : A.dp a i = A.dhq a j := by
  have hj := j.isLt
  unfold dp
  rw [dif_pos (by omega)]
  exact congrArg (A.dhq a) (Fin.ext (by simp only; omega))

theorem dp_dv (a : Fin 8192) {i : Fin 3328} {j : Fin 512} (h : i.val = 512 + j.val) : A.dp a i = A.dv a j := by
  have hj := j.isLt
  unfold dp
  rw [dif_neg (by omega), dif_pos (by omega)]
  exact congrArg (A.dv a) (Fin.ext (by simp only; omega))

theorem dp_dzf (a : Fin 8192) {i : Fin 3328} {j : Fin 512} (h : i.val = 1024 + j.val) : A.dp a i = A.dzf a j := by
  have hj := j.isLt
  unfold dp
  rw [dif_neg (by omega), dif_neg (by omega), dif_pos (by omega)]
  exact congrArg (A.dzf a) (Fin.ext (by simp only; omega))

theorem dp_dzr (a : Fin 8192) {i : Fin 3328} {j : Fin 512} (h : i.val = 1536 + j.val) : A.dp a i = A.dzr a j := by
  have hj := j.isLt
  unfold dp
  rw [dif_neg (by omega), dif_neg (by omega), dif_neg (by omega), dif_pos (by omega)]
  exact congrArg (A.dzr a) (Fin.ext (by simp only; omega))

theorem dp_dhg (a : Fin 8192) {i : Fin 3328} {j : Fin 512} (h : i.val = 2048 + j.val) : A.dp a i = A.dhg a j := by
  have hj := j.isLt
  unfold dp
  rw [dif_neg (by omega), dif_neg (by omega), dif_neg (by omega), dif_neg (by omega), dif_pos (by omega)]
  exact congrArg (A.dhg a) (Fin.ext (by simp only; omega))

theorem dp_dcq (a : Fin 8192) {i : Fin 3328} {j : Fin 384} (h : i.val = 2560 + j.val) : A.dp a i = A.dcq a j := by
  have hj := j.isLt
  unfold dp
  rw [dif_neg (by omega), dif_neg (by omega), dif_neg (by omega), dif_neg (by omega), dif_neg (by omega), dif_pos (by omega)]
  exact congrArg (A.dcq a) (Fin.ext (by simp only; omega))

theorem dp_dckv (a : Fin 8192) {i : Fin 3328} {j : Fin 256} (h : i.val = 2944 + j.val) : A.dp a i = A.dckv a j := by
  have hj := j.isLt
  unfold dp
  rw [dif_neg (by omega), dif_neg (by omega), dif_neg (by omega), dif_neg (by omega), dif_neg (by omega), dif_neg (by omega), dif_pos (by omega)]
  exact congrArg (A.dckv a) (Fin.ext (by simp only; omega))

theorem dp_dkrp (a : Fin 8192) {i : Fin 3328} {j : Fin 128} (h : i.val = 3200 + j.val) : A.dp a i = A.dkrp a j := by
  have hj := j.isLt
  unfold dp
  rw [dif_neg (by omega), dif_neg (by omega), dif_neg (by omega), dif_neg (by omega), dif_neg (by omega), dif_neg (by omega), dif_neg (by omega)]
  exact congrArg (A.dkrp a) (Fin.ext (by simp only; omega))

def dh (a : Fin 8192) (k : Fin 1024) : ℝ := ∑ j, A.dp a j * A.wp j k
/-- The padded rows add nothing. -/
theorem dh_eq (a : Fin 8192) (k : Fin 1024) :
    ∑ j : Fin 3264, A.dp a ⟨j.val, by omega⟩ * A.w k j = A.dh a k := by
  unfold dh
  refine Eq.trans ?_ (Fin.sum_univ_add (a := 3264) (b := 64) (fun j : Fin (3264 + 64) => A.dp a j * A.wp j k)).symm
  rw [Finset.sum_eq_zero (s := Finset.univ (α := Fin 64)) fun j _ => ?_, add_zero]
  · refine Finset.sum_congr rfl fun j _ => ?_
    have h : A.wp (Fin.castAdd 64 j) k = A.w k j := by unfold wp; exact dif_pos j.isLt
    rw [h]
    rfl
  · have : A.wp (Fin.natAdd 3264 j) k = 0 := by unfold wp; exact dif_neg (by simp [Fin.natAdd])
    rw [this, mul_zero]

theorem dp_pad (a : Fin 8192) (j : Fin 3328) (h : ¬j.val < 3264) : A.dp a j = 0 := by
  rw [A.dp_dkrp a (j := ⟨j.val - 3200, by omega⟩) (show j.val = 3200 + (j.val - 3200) by omega)]
  unfold dkrp
  exact dif_neg (show ¬j.val - 3200 < 64 by omega)

def dx (a : Fin 8192) (k : Fin 1024) : ℝ := A.dx2 a k + rmsGrad (A.x a) (fun l => A.dh a l * A.g l) k
def dgRow (a : Fin 8192) (k : Fin 1024) : ℝ := A.dh a k * (A.x a k * rr (A.x a))

end Args
end Cert.InBwd
end
end
-- ==== Proof.InBwd.Ker.lean ====
/- The body's stored blocks over real inputs. -/
module

public import proofs.«01_k».proof.Proof.Gen.KernelInBwdIdeal.Skeleton
public import proofs.«01_k».proof.Proof.InBwd.Real

@[expose] public section

set_option maxRecDepth 16384

noncomputable section

namespace Cert.InBwd.Ker

open Cert.KernelInBwdIdeal Cert.KernelInBwdIdeal.Gen Cert.Ffn
open Idealize.ShloMosaic Idealize.ShloMosaic.TcCoe

variable {A : InBwd.Args} {ρ : Fin 256 → Fin 8192}
  {v2 : FVec Ideal S256x512 .f32} (h2 : ∀ r k, v2 (ix2 r k) = (A.dqf (ρ r) k : EReal))
  {v3 : FVec Ideal S256x512 .f32} (h3 : ∀ r k, v3 (ix2 r k) = (A.dqr (ρ r) k : EReal))
  {v4 : FVec Ideal S256x512 .f32} (h4 : ∀ r k, v4 (ix2 r k) = (A.dvf (ρ r) k : EReal))
  {v5 : FVec Ideal S256x512 .f32} (h5 : ∀ r k, v5 (ix2 r k) = (A.dvr (ρ r) k : EReal))
  {v7 : FVec Ideal S256x512 .bf16} (h7 : ∀ r k, v7 (ix2 r k) = (A.dzf (ρ r) k : EReal))
  {v9 : FVec Ideal S256x512 .bf16} (h9 : ∀ r k, v9 (ix2 r k) = (A.dzr (ρ r) k : EReal))
  {v11 : FVec Ideal S256x512 .bf16} (h11 : ∀ r k, v11 (ix2 r k) = (A.dhg (ρ r) k : EReal))
  {v12 : FVec Ideal S256x512 .f32} (h12 : ∀ r k, v12 (ix2 r k) = (A.hq (ρ r) k : EReal))
  {v14 : FVec Ideal S256x384 .bf16} (h14 : ∀ r k, v14 (ix2 r k) = (A.dcq (ρ r) k : EReal))
  {v16 : FVec Ideal S256x256 .bf16} (h16 : ∀ r k, v16 (ix2 r k) = (A.dckv (ρ r) k : EReal))
  {v18 : FVec Ideal S256x128 .bf16} (h18 : ∀ r k, v18 (ix2 r k) = (A.dkrp (ρ r) k : EReal))
  {v53 : FVec Ideal S3328x1024 .bf16} (h53 : ∀ j k, v53 (ix2 j k) = (A.wp j k : EReal))

include h2 h3 h12 in
theorem dhq_pay (r : Fin 256) (k : Fin 512) : k0_pay16 (F := Ideal) v2 v3 v12 (ix2 r k) = (A.dhq (ρ r) k : EReal) := by
  pointwise [k0_pay16, h2, h3, h12]
  simp only [logisticE, ← EReal.coe_one, addE, subE, mulE]
  rfl

include h4 h5 in
theorem dv_pay (r : Fin 256) (k : Fin 512) : k0_pay17 (F := Ideal) v4 v5 (ix2 r k) = (A.dv (ρ r) k : EReal) := by
  pointwise [k0_pay17, h4, h5]
  simp only [addE]
  rfl

/-- The eight parts side by side, as the reading of a concatenation writes them. -/
theorem dp_cat (A : InBwd.Args) (a : Fin 8192) (x : Fin 3328) :
    (if h : x.val < 512 then (A.dhq a ⟨x.val, h⟩ : EReal)
     else if h : x.val - 512 < 512 then (A.dv a ⟨x.val - 512, h⟩ : EReal)
     else if h : x.val - 512 - 512 < 512 then (A.dzf a ⟨x.val - 512 - 512, h⟩ : EReal)
     else if h : x.val - 512 - 512 - 512 < 512 then (A.dzr a ⟨x.val - 512 - 512 - 512, h⟩ : EReal)
     else if h : x.val - 512 - 512 - 512 - 512 < 512 then (A.dhg a ⟨x.val - 512 - 512 - 512 - 512, h⟩ : EReal)
     else if h : x.val - 512 - 512 - 512 - 512 - 512 < 384 then (A.dcq a ⟨x.val - 512 - 512 - 512 - 512 - 512, h⟩ : EReal)
     else if h : x.val - 512 - 512 - 512 - 512 - 512 - 384 < 256 then
       (A.dckv a ⟨x.val - 512 - 512 - 512 - 512 - 512 - 384, h⟩ : EReal)
     else (A.dkrp a ⟨x.val - 512 - 512 - 512 - 512 - 512 - 384 - 256, by omega⟩ : EReal)) = (A.dp a x : EReal) := by
  unfold Args.dp
  split_ifs <;> rfl

include h2 h3 h4 h5 h7 h9 h11 h12 h14 h16 h18 h53 in
theorem dh_pay (r : Fin 256) (k : Fin 1024) :
    k0_pay18 (F := Ideal) v2 v3 v4 v5 v7 v9 v11 v12 v14 v16 v18 v53 (ix2 r k) = (A.dh (ρ r) k : EReal) := by
  pointwise [k0_pay18, dhq_pay h2 h3 h12, dv_pay h4 h5, h7, h9, h11, h14, h16, h18, h53]
  simp only [dp_cat A (ρ r), mulE, sumE]
  rfl

variable {v20 : FVec Ideal S256x1024 .f32} (h20 : ∀ r k, v20 (ix2 r k) = (A.x (ρ r) k : EReal))
  {v19 : FVec Ideal S256x1024 .f32} (h19 : ∀ r k, v19 (ix2 r k) = (A.dx2 (ρ r) k : EReal))
  {v0 : FVec Ideal S1x1024 .f32} (h0 : ∀ z k, v0 (ix2 z k) = (A.g k : EReal))
  {v1 : FVec Ideal S1x1024 .f32} (h1 : ∀ z k, v1 (ix2 z k) = (A.g k : EReal))
  {v55 : FVec Ideal S256x1024 .f32} (h55 : ∀ r k, v55 (ix2 r k) = (A.dh (ρ r) k : EReal))
  {v58 : FVec Ideal S256x1 .f32} (h58 : ∀ r z, v58 (ix2 r z) = ((∑ k, A.x (ρ r) k * A.x (ρ r) k : ℝ) : EReal))
  {v103 : FVec Ideal S256x1 .f32} (h103 : ∀ r z, v103 (ix2 r z) = (rr (A.x (ρ r)) : EReal))
  {v105 : FVec Ideal S256x1024 .f32} (h105 : ∀ r k, v105 (ix2 r k) = ((A.x (ρ r) k * rr (A.x (ρ r)) : ℝ) : EReal))
  {v106 : FVec Ideal S256x1024 .f32} (h106 : ∀ r k, v106 (ix2 r k) = (A.g k : EReal))

include h0 in
theorem g_pay (z : Fin 1) (k : Fin 1024) : k0_pay3 (F := Ideal) v0 (ix2 z k) = (A.g k : EReal) := by
  pointwise [k0_pay3, h0]

include h20 in
theorem sq_pay (r : Fin 256) (z : Fin 1) : k0_pay19 (F := Ideal) v20 (ix2 r z) = ((∑ k, A.x (ρ r) k * A.x (ρ r) k : ℝ) : EReal) := by
  pointwise [k0_pay19, h20]
  simp only [c_eps, c_1024, zero_add, mulE, Fin.sum_univ_one, sumE, divE _ _ (by norm_num : (1024 : ℝ) ≠ 0), addE]

include h58 in
theorem rr_pay (r : Fin 256) (z : Fin 1) : k0_pay20 (F := Ideal) v58 (ix2 r z) = (rr (A.x (ρ r)) : EReal) := by
  pointwise [k0_pay20, h58]
  simp only [c_eps, c_1024, zero_add, mulE, Fin.sum_univ_one, sumE, divE _ _ (by norm_num : (1024 : ℝ) ≠ 0), addE]
  exact rsqrtE _ (ms_pos _)

include h20 h58 in
theorem xh_pay (r : Fin 256) (k : Fin 1024) : k0_pay21 (F := Ideal) v20 v58 (ix2 r k) = ((A.x (ρ r) k * rr (A.x (ρ r)) : ℝ) : EReal) := by
  pointwise [k0_pay21, rr_pay h58, h20]
  simp only [mulE]

include h1 h19 h20 h55 h58 in
theorem dx_pay (r : Fin 256) (k : Fin 1024) : k0_pay22 (F := Ideal) v1 v19 v20 v55 v58 (ix2 r k) = (A.dx (ρ r) k : EReal) := by
  pointwise [k0_pay22, rr_pay h58, xh_pay h20 h58, h1, h19, h55]
  simp only [c_eps, c_1024, zero_add, mulE, Fin.sum_univ_one, sumE, divE _ _ (by norm_num : (1024 : ℝ) ≠ 0), addE, subE]
  rfl

include h20 h55 h58 in
theorem dg_pay (r : Fin 256) (k : Fin 1024) : k0_pay23 (F := Ideal) v20 v55 v58 (ix2 r k) = (A.dgRow (ρ r) k : EReal) := by
  pointwise [k0_pay23, xh_pay h20 h58, h55]
  simp only [mulE]
  rfl

/-! The second half of the block's rows. -/

include h2 h3 h12 in
theorem dhq_pay' (r : Fin 256) (k : Fin 512) : k0_pay24 (F := Ideal) v2 v3 v12 (ix2 r k) = (A.dhq (ρ r) k : EReal) :=
  dhq_pay h2 h3 h12 r k

include h4 h5 in
theorem dv_pay' (r : Fin 256) (k : Fin 512) : k0_pay25 (F := Ideal) v4 v5 (ix2 r k) = (A.dv (ρ r) k : EReal) :=
  dv_pay h4 h5 r k

include h2 h3 h4 h5 h7 h9 h11 h12 h14 h16 h18 h53 in
theorem dh_pay' (r : Fin 256) (k : Fin 1024) :
    k0_pay26 (F := Ideal) v2 v3 v4 v5 v7 v9 v11 v12 v14 v16 v18 v53 (ix2 r k) = (A.dh (ρ r) k : EReal) :=
  dh_pay h2 h3 h4 h5 h7 h9 h11 h12 h14 h16 h18 h53 r k

include h20 in
theorem rr_pay' (r : Fin 256) (z : Fin 1) : k0_pay27 (F := Ideal) v20 (ix2 r z) = (rr (A.x (ρ r)) : EReal) :=
  rr_pay (sq_pay h20) r z

include h20 in
theorem xh_pay' (r : Fin 256) (k : Fin 1024) : k0_pay28 (F := Ideal) v20 (ix2 r k) = ((A.x (ρ r) k * rr (A.x (ρ r)) : ℝ) : EReal) :=
  xh_pay h20 (sq_pay h20) r k

include h1 in
theorem g_pay' (r : Fin 256) (k : Fin 1024) : k0_pay29 (F := Ideal) v1 (ix2 r k) = (A.g k : EReal) := by
  pointwise [k0_pay29, h1]

include h19 h55 h103 h105 h106 in
theorem dx_pay' (r : Fin 256) (k : Fin 1024) : k0_pay30 (F := Ideal) v19 v55 v103 v105 v106 (ix2 r k) = (A.dx (ρ r) k : EReal) := by
  pointwise [k0_pay30, h19, h55, h103, h105, h106]
  simp only [c_eps, c_1024, zero_add, mulE, Fin.sum_univ_one, sumE, divE _ _ (by norm_num : (1024 : ℝ) ≠ 0), addE, subE]
  rfl

include h55 h105 in
theorem dg_pay' (r : Fin 256) (k : Fin 1024) : k0_pay31 (F := Ideal) v55 v105 (ix2 r k) = (A.dgRow (ρ r) k : EReal) := by
  pointwise [k0_pay31, h55, h105]
  simp only [mulE]
  rfl

/-! The gain's gradient over the block's two halves. -/

variable {σ : Fin 256 → Fin 8192}
  {v79 : FVec Ideal S256x1024 .f32} (h79 : ∀ r k, v79 (ix2 r k) = (A.dgRow (ρ r) k : EReal))
  {v119 : FVec Ideal S256x1024 .f32} (h119 : ∀ r k, v119 (ix2 r k) = (A.dgRow (σ r) k : EReal))
  {v147 : FVec Ideal S1x1024 .f32}

include h79 h119 in
theorem dgs_pay (z : Fin 1) (k : Fin 1024) :
    k0_pay1 (F := Ideal) v79 v119 (ix2 z k) = (((∑ r, A.dgRow (ρ r) k) + ∑ r, A.dgRow (σ r) k : ℝ) : EReal) := by
  pointwise [k0_pay1, h79, h119]
  simp only [zero_add, sumE, addE]

include h79 h119 in
theorem dgs_step (z : Fin 1) (k : Fin 1024) :
    k0_pay2 (F := Ideal) v79 v119 v147 (ix2 z k)
      = v147 (ix2 z k) + (((∑ r, A.dgRow (ρ r) k) + ∑ r, A.dgRow (σ r) k : ℝ) : EReal) := by
  pointwise [k0_pay2, dgs_pay h79 h119]

end Cert.InBwd.Ker
end
end
-- ==== Proof.InBwd.Blocks.lean ====
/- What the host prepares and what a grid point's input blocks hold, over real arguments. -/
module

public import proofs.«01_k».proof.Proof.Gen.KernelInBwdIdeal.Value
public import proofs.«01_k».proof.Proof.InBwd.Ker
public import Idealize.ShloMosaic.Lib.Pipeline.ValueKit
public import Idealize.ShloMosaic.Lib.Claim

@[expose] public section

set_option maxRecDepth 16384

noncomputable section

namespace Cert.InBwd.Ker

open Cert.KernelInBwdIdeal Cert.KernelInBwdIdeal.Gen Cert.Ffn
open Idealize.ShloMosaic Idealize.ShloMosaic.TcCoe Idealize.SL.Sem

theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_15.index t = ![t.val, 0] ∧ win0_16.index t = ![t.val, 0])
    ∧ (win0_13.index t = ![0, 0] ∧ win0_14.index t = ![0, 0] ∧ win0_17.index t = ![0, 0]) :=
  (by decide +kernel : ∀ t : Fin grid0.N, _)

/-- The token of row `r` of grid point `t`'s block. -/
def tok (t : Fin cfg0.N) (r : Fin 512) : Fin 8192 :=
  ⟨t.val * 512 + r.val, by have h : t.val < 16 := lt_of_lt_of_eq t.isLt N_0; omega⟩

/-- The launch memory's arguments on device `c` are the real numbers `A`. -/
structure Agree (m : (ℓ : Loc nD τ sig) → Buf (Elt Ideal) ℓ) (c : Dev nD) (A : InBwd.Args) : Prop where
  a0 : ∀ a k, (m ((c : Thread nD τ).loc main_arg0) : FVec Ideal S8192x512 .f32) (ix2 a k) = (A.dqf a k : EReal)
  a1 : ∀ a k, (m ((c : Thread nD τ).loc main_arg1) : FVec Ideal S8192x512 .f32) (ix2 a k) = (A.dqr a k : EReal)
  a2 : ∀ a k, (m ((c : Thread nD τ).loc main_arg2) : FVec Ideal S8192x512 .f32) (ix2 a k) = (A.dvf a k : EReal)
  a3 : ∀ a k, (m ((c : Thread nD τ).loc main_arg3) : FVec Ideal S8192x512 .f32) (ix2 a k) = (A.dvr a k : EReal)
  a4 : ∀ a k, (m ((c : Thread nD τ).loc main_arg4) : FVec Ideal S8192x512 .f32) (ix2 a k) = (A.dzf a k : EReal)
  a5 : ∀ a k, (m ((c : Thread nD τ).loc main_arg5) : FVec Ideal S8192x512 .f32) (ix2 a k) = (A.dzr a k : EReal)
  a6 : ∀ a k, (m ((c : Thread nD τ).loc main_arg6) : FVec Ideal S8192x512 .f32) (ix2 a k) = (A.dhg a k : EReal)
  a7 : ∀ a k, (m ((c : Thread nD τ).loc main_arg7) : FVec Ideal S8192x512 .f32) (ix2 a k) = (A.hq a k : EReal)
  a8 : ∀ a k, (m ((c : Thread nD τ).loc main_arg8) : FVec Ideal S8192x384 .f32) (ix2 a k) = (A.dcq a k : EReal)
  a9 : ∀ a k, (m ((c : Thread nD τ).loc main_arg9) : FVec Ideal S8192x256 .f32) (ix2 a k) = (A.dckv a k : EReal)
  a10 : ∀ a k, (m ((c : Thread nD τ).loc main_arg10) : FVec Ideal S8192x64 .f32) (ix2 a k) = (A.dkr a k : EReal)
  a11 : ∀ a k, (m ((c : Thread nD τ).loc main_arg11) : FVec Ideal S8192x1024 .f32) (ix2 a k) = (A.dx2 a k : EReal)
  a12 : ∀ a k, (m ((c : Thread nD τ).loc main_arg12) : FVec Ideal S8192x1024 .f32) (ix2 a k) = (A.x a k : EReal)
  a13 : ∀ k, (m ((c : Thread nD τ).loc main_arg13) : FVec Ideal S1024 .f32) (ix1 k) = (A.g k : EReal)
  a14 : ∀ a k, (m ((c : Thread nD τ).loc main_arg14) : FVec Ideal S1024x3264 .f32) (ix2 a k) = (A.w a k : EReal)

variable {m : (ℓ : Loc nD τ sig) → Buf (Elt Ideal) ℓ} {c : Dev nD} {A : InBwd.Args} (H : Agree m c A)

include H

theorem dzf_host (a : Fin 8192) (k : Fin 512) : (V m c main_v5 : FVec Ideal S8192x512 .bf16) (ix2 a k) = (A.dzf a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a4]

theorem dzr_host (a : Fin 8192) (k : Fin 512) : (V m c main_v6 : FVec Ideal S8192x512 .bf16) (ix2 a k) = (A.dzr a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a5]

theorem dhg_host (a : Fin 8192) (k : Fin 512) : (V m c main_v7 : FVec Ideal S8192x512 .bf16) (ix2 a k) = (A.dhg a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a6]

theorem dcq_host (a : Fin 8192) (k : Fin 384) : (V m c main_v8 : FVec Ideal S8192x384 .bf16) (ix2 a k) = (A.dcq a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a8]

theorem dckv_host (a : Fin 8192) (k : Fin 256) : (V m c main_v9 : FVec Ideal S8192x256 .bf16) (ix2 a k) = (A.dckv a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a9]

theorem dkr_host (a : Fin 8192) (k : Fin 128) : (V m c main_v4 : FVec Ideal S8192x128 .bf16) (ix2 a k) = (A.dkrp a k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a10]
  unfold Args.dkrp
  split_ifs with h
  · rfl
  · simp [FloatOps.sitofp]

theorem w_host (j : Fin 3328) (k : Fin 1024) : (V m c main_v2 : FVec Ideal S3328x1024 .bf16) (ix2 j k) = (A.wp j k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a14]
  unfold Args.wp
  split_ifs with h
  · rfl
  · simp [FloatOps.sitofp]

theorem g_host (z : Fin 1) (k : Fin 1024) : (V m c main_v10 : FVec Ideal S1x1024 .f32) (ix2 z k) = (A.g k : EReal) := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a13]

theorem b0 (t : Fin cfg0.N) (r : Fin 512) (k : Fin 512) : (iblk m c 0 t : FVec Ideal S512x512 .f32) (ix2 r k) = (A.dqf (tok t r) k : EReal) := by
  refine Eq.trans (b := ((m ((c : Thread nD τ).loc main_arg0) : FVec Ideal S8192x512 .f32)) (ix2 (tok t r) k)) ?_ (H.a0 _ _)
  blk_ext [iblk, V, idx t, tok]

theorem b1 (t : Fin cfg0.N) (r : Fin 512) (k : Fin 512) : (iblk m c 1 t : FVec Ideal S512x512 .f32) (ix2 r k) = (A.dqr (tok t r) k : EReal) := by
  refine Eq.trans (b := ((m ((c : Thread nD τ).loc main_arg1) : FVec Ideal S8192x512 .f32)) (ix2 (tok t r) k)) ?_ (H.a1 _ _)
  blk_ext [iblk, V, idx t, tok]

theorem b2 (t : Fin cfg0.N) (r : Fin 512) (k : Fin 512) : (iblk m c 2 t : FVec Ideal S512x512 .f32) (ix2 r k) = (A.dvf (tok t r) k : EReal) := by
  refine Eq.trans (b := ((m ((c : Thread nD τ).loc main_arg2) : FVec Ideal S8192x512 .f32)) (ix2 (tok t r) k)) ?_ (H.a2 _ _)
  blk_ext [iblk, V, idx t, tok]

theorem b3 (t : Fin cfg0.N) (r : Fin 512) (k : Fin 512) : (iblk m c 3 t : FVec Ideal S512x512 .f32) (ix2 r k) = (A.dvr (tok t r) k : EReal) := by
  refine Eq.trans (b := ((m ((c : Thread nD τ).loc main_arg3) : FVec Ideal S8192x512 .f32)) (ix2 (tok t r) k)) ?_ (H.a3 _ _)
  blk_ext [iblk, V, idx t, tok]

theorem b4 (t : Fin cfg0.N) (r : Fin 512) (k : Fin 512) : (iblk m c 4 t : FVec Ideal S512x512 .bf16) (ix2 r k) = (A.dzf (tok t r) k : EReal) := by
  refine Eq.trans (b := ((V m c main_v5 : FVec Ideal S8192x512 .bf16)) (ix2 (tok t r) k)) ?_ (dzf_host H _ _)
  blk_ext [iblk, idx t, tok]

theorem b5 (t : Fin cfg0.N) (r : Fin 512) (k : Fin 512) : (iblk m c 5 t : FVec Ideal S512x512 .bf16) (ix2 r k) = (A.dzr (tok t r) k : EReal) := by
  refine Eq.trans (b := ((V m c main_v6 : FVec Ideal S8192x512 .bf16)) (ix2 (tok t r) k)) ?_ (dzr_host H _ _)
  blk_ext [iblk, idx t, tok]

theorem b6 (t : Fin cfg0.N) (r : Fin 512) (k : Fin 512) : (iblk m c 6 t : FVec Ideal S512x512 .bf16) (ix2 r k) = (A.dhg (tok t r) k : EReal) := by
  refine Eq.trans (b := ((V m c main_v7 : FVec Ideal S8192x512 .bf16)) (ix2 (tok t r) k)) ?_ (dhg_host H _ _)
  blk_ext [iblk, idx t, tok]

theorem b7 (t : Fin cfg0.N) (r : Fin 512) (k : Fin 512) : (iblk m c 7 t : FVec Ideal S512x512 .f32) (ix2 r k) = (A.hq (tok t r) k : EReal) := by
  refine Eq.trans (b := ((m ((c : Thread nD τ).loc main_arg7) : FVec Ideal S8192x512 .f32)) (ix2 (tok t r) k)) ?_ (H.a7 _ _)
  blk_ext [iblk, V, idx t, tok]

theorem b8 (t : Fin cfg0.N) (r : Fin 512) (k : Fin 384) : (iblk m c 8 t : FVec Ideal S512x384 .bf16) (ix2 r k) = (A.dcq (tok t r) k : EReal) := by
  refine Eq.trans (b := ((V m c main_v8 : FVec Ideal S8192x384 .bf16)) (ix2 (tok t r) k)) ?_ (dcq_host H _ _)
  blk_ext [iblk, idx t, tok]

theorem b9 (t : Fin cfg0.N) (r : Fin 512) (k : Fin 256) : (iblk m c 9 t : FVec Ideal S512x256 .bf16) (ix2 r k) = (A.dckv (tok t r) k : EReal) := by
  refine Eq.trans (b := ((V m c main_v9 : FVec Ideal S8192x256 .bf16)) (ix2 (tok t r) k)) ?_ (dckv_host H _ _)
  blk_ext [iblk, idx t, tok]

theorem b10 (t : Fin cfg0.N) (r : Fin 512) (k : Fin 128) : (iblk m c 10 t : FVec Ideal S512x128 .bf16) (ix2 r k) = (A.dkrp (tok t r) k : EReal) := by
  refine Eq.trans (b := ((V m c main_v4 : FVec Ideal S8192x128 .bf16)) (ix2 (tok t r) k)) ?_ (dkr_host H _ _)
  blk_ext [iblk, idx t, tok]

theorem b11 (t : Fin cfg0.N) (r : Fin 512) (k : Fin 1024) : (iblk m c 11 t : FVec Ideal S512x1024 .f32) (ix2 r k) = (A.dx2 (tok t r) k : EReal) := by
  refine Eq.trans (b := ((m ((c : Thread nD τ).loc main_arg11) : FVec Ideal S8192x1024 .f32)) (ix2 (tok t r) k)) ?_ (H.a11 _ _)
  blk_ext [iblk, V, idx t, tok]

theorem b12 (t : Fin cfg0.N) (r : Fin 512) (k : Fin 1024) : (iblk m c 12 t : FVec Ideal S512x1024 .f32) (ix2 r k) = (A.x (tok t r) k : EReal) := by
  refine Eq.trans (b := ((m ((c : Thread nD τ).loc main_arg12) : FVec Ideal S8192x1024 .f32)) (ix2 (tok t r) k)) ?_ (H.a12 _ _)
  blk_ext [iblk, V, idx t, tok]

theorem b13 (t : Fin cfg0.N) (z : Fin 1) (k : Fin 1024) : (iblk m c 13 t : FVec Ideal S1x1024 .f32) (ix2 z k) = (A.g k : EReal) := by
  refine Eq.trans (b := (V m c main_v10 : FVec Ideal S1x1024 .f32) (ix2 z k)) ?_ (g_host H _ _)
  blk_ext [iblk, idx t, tok]

theorem b14 (t : Fin cfg0.N) (j : Fin 3328) (k : Fin 1024) : (iblk m c 14 t : FVec Ideal S3328x1024 .bf16) (ix2 j k) = (A.wp j k : EReal) := by
  refine Eq.trans (b := (V m c main_v2 : FVec Ideal S3328x1024 .bf16) (ix2 j k)) ?_ (w_host H _ _)
  blk_ext [iblk, idx t, tok]

end Cert.InBwd.Ker
end
end
-- ==== Proof.InBwd.Final.lean ====
module

public import proofs.«01_k».proof.Proof.InBwd.Blocks
public import Idealize.ShloMosaic.Lib.Pipeline.ValueKit
public import Idealize.ShloMosaic.Lib.Claim

@[expose] public section

set_option maxRecDepth 16384

noncomputable section

namespace Cert.InBwd.Ker

open Cert.KernelInBwdIdeal Cert.KernelInBwdIdeal.Gen Cert.Ffn
open Idealize.ShloMosaic Idealize.ShloMosaic.TcCoe Idealize.SL.Sem

variable {m : (ℓ : Loc nD τ sig) → Buf (Elt Ideal) ℓ} {c : Dev nD} {A : InBwd.Args} (H : Agree m c A)

theorem first (t : Fin cfg0.N) (h : t.val % 16 = 0) : ¬1 ≤ t.val := by
  have : t.val < 16 := lt_of_lt_of_eq t.isLt N_0
  omega

theorem later (t : Fin cfg0.N) (h : ¬t.val % 16 = 0) : 1 ≤ t.val := by omega

/-- Row `r` of the first half of grid point `t`'s block. -/
def lo (t : Fin cfg0.N) (r : Fin 256) : Fin 8192 := tok t ⟨r.val, by omega⟩

/-- Row `r` of the second half of grid point `t`'s block. -/
def hi (t : Fin cfg0.N) (r : Fin 256) : Fin 8192 := tok t ⟨256 + r.val, by omega⟩

omit H in
theorem lo_eq {t : Fin cfg0.N} {a : Fin 512} {r : Fin 256} (h : a.val = r.val) : lo t r = tok t a :=
  congrArg (tok t) (Fin.ext h.symm)

omit H in
theorem hi_eq {t : Fin cfg0.N} {a : Fin 512} {r : Fin 256} (h : a.val = 256 + r.val) : hi t r = tok t a :=
  congrArg (tok t) (Fin.ext h.symm)

include H

theorem out15 (t : Fin cfg0.N) (y : S512x1024.Idx) :
    ((outsAt0 m c t.val t.isLt).1 : FVec Ideal S512x1024 .f32) y = (A.dx (tok t (y 0)) (y 1) : EReal) := by
  by_cases g : t.val % 16 = 0
  · rw [outsAt0_A m c t g (first t g)]; frame_out
    canon_tiles x h
    · idx_vars x
      refine (dx_pay' (ρ := hi t) (fun r k => by pointwise [b11 H t]; rfl) (dh_pay' (ρ := hi t) (fun r k => by pointwise [b0 H t]; rfl) (fun r k => by pointwise [b1 H t]; rfl) (fun r k => by pointwise [b2 H t]; rfl) (fun r k => by pointwise [b3 H t]; rfl) (fun r k => by pointwise [k0_pay10, b4 H t]; rfl) (fun r k => by pointwise [k0_pay11, b5 H t]; rfl) (fun r k => by pointwise [k0_pay12, b6 H t]; rfl) (fun r k => by pointwise [b7 H t]; rfl) (fun r k => by pointwise [k0_pay13, b8 H t]; rfl) (fun r k => by pointwise [k0_pay14, b9 H t]; rfl) (fun r k => by pointwise [k0_pay15, b10 H t]; rfl) (b14 H t)) (rr_pay' (fun r k => by pointwise [b12 H t]; rfl)) (xh_pay' (fun r k => by pointwise [b12 H t]; rfl)) (g_pay' (g_pay (b13 H t))) x0 x1).trans ?_
      exact congrArg _ (congrArg₂ A.dx (hi_eq h0) (Fin.ext h1.symm))
    · idx_vars x
      refine (dx_pay (ρ := lo t) (fun r k => by pointwise [b12 H t]; rfl) (fun r k => by pointwise [b11 H t]; rfl) (g_pay (b13 H t)) (dh_pay (ρ := lo t) (fun r k => by pointwise [b0 H t]; rfl) (fun r k => by pointwise [b1 H t]; rfl) (fun r k => by pointwise [b2 H t]; rfl) (fun r k => by pointwise [b3 H t]; rfl) (fun r k => by pointwise [k0_pay4, b4 H t]; rfl) (fun r k => by pointwise [k0_pay5, b5 H t]; rfl) (fun r k => by pointwise [k0_pay6, b6 H t]; rfl) (fun r k => by pointwise [b7 H t]; rfl) (fun r k => by pointwise [k0_pay7, b8 H t]; rfl) (fun r k => by pointwise [k0_pay8, b9 H t]; rfl) (fun r k => by pointwise [k0_pay9, b10 H t]; rfl) (b14 H t)) (sq_pay (fun r k => by pointwise [b12 H t]; rfl)) x0 x1).trans ?_
      exact congrArg _ (congrArg₂ A.dx (lo_eq h0) (Fin.ext h1.symm))
  · rw [outsAt0_B m c t g (later t g)]; frame_out
    canon_tiles x h
    · idx_vars x
      refine (dx_pay' (ρ := hi t) (fun r k => by pointwise [b11 H t]; rfl) (dh_pay' (ρ := hi t) (fun r k => by pointwise [b0 H t]; rfl) (fun r k => by pointwise [b1 H t]; rfl) (fun r k => by pointwise [b2 H t]; rfl) (fun r k => by pointwise [b3 H t]; rfl) (fun r k => by pointwise [k0_pay10, b4 H t]; rfl) (fun r k => by pointwise [k0_pay11, b5 H t]; rfl) (fun r k => by pointwise [k0_pay12, b6 H t]; rfl) (fun r k => by pointwise [b7 H t]; rfl) (fun r k => by pointwise [k0_pay13, b8 H t]; rfl) (fun r k => by pointwise [k0_pay14, b9 H t]; rfl) (fun r k => by pointwise [k0_pay15, b10 H t]; rfl) (b14 H t)) (rr_pay' (fun r k => by pointwise [b12 H t]; rfl)) (xh_pay' (fun r k => by pointwise [b12 H t]; rfl)) (g_pay' (g_pay (b13 H t))) x0 x1).trans ?_
      exact congrArg _ (congrArg₂ A.dx (hi_eq h0) (Fin.ext h1.symm))
    · idx_vars x
      refine (dx_pay (ρ := lo t) (fun r k => by pointwise [b12 H t]; rfl) (fun r k => by pointwise [b11 H t]; rfl) (g_pay (b13 H t)) (dh_pay (ρ := lo t) (fun r k => by pointwise [b0 H t]; rfl) (fun r k => by pointwise [b1 H t]; rfl) (fun r k => by pointwise [b2 H t]; rfl) (fun r k => by pointwise [b3 H t]; rfl) (fun r k => by pointwise [k0_pay4, b4 H t]; rfl) (fun r k => by pointwise [k0_pay5, b5 H t]; rfl) (fun r k => by pointwise [k0_pay6, b6 H t]; rfl) (fun r k => by pointwise [b7 H t]; rfl) (fun r k => by pointwise [k0_pay7, b8 H t]; rfl) (fun r k => by pointwise [k0_pay8, b9 H t]; rfl) (fun r k => by pointwise [k0_pay9, b10 H t]; rfl) (b14 H t)) (sq_pay (fun r k => by pointwise [b12 H t]; rfl)) x0 x1).trans ?_
      exact congrArg _ (congrArg₂ A.dx (lo_eq h0) (Fin.ext h1.symm))

theorem out16 (t : Fin cfg0.N) (y : S512x3328.Idx) :
    ((outsAt0 m c t.val t.isLt).2.1 : FVec Ideal S512x3328 .bf16) y = (A.dp (tok t (y 0)) (y 1) : EReal) := by
  by_cases g : t.val % 16 = 0
  · rw [outsAt0_A m c t g (first t g)]; frame_out
    canon_tiles x h using (View.cover_of_tiledBy _ ![256, 128] (by sl_kernel_rfl) y)
    · idx_vars x
      refine Eq.trans (b := (A.dkrp (hi t x0) x1 : EReal)) (by pointwise [k0_pay15, b10 H t]; rfl) ?_
      exact congrArg _ ((A.dp_dkrp (hi t x0) (i := y 1) (j := x1) h1).symm.trans (congrArg (A.dp · (y 1)) (hi_eq h0)))
    · idx_vars x
      refine Eq.trans (b := (A.dckv (hi t x0) x1 : EReal)) (by pointwise [k0_pay14, b9 H t]; rfl) ?_
      exact congrArg _ ((A.dp_dckv (hi t x0) (i := y 1) (j := x1) h1).symm.trans (congrArg (A.dp · (y 1)) (hi_eq h0)))
    · idx_vars x
      refine Eq.trans (b := (A.dcq (hi t x0) x1 : EReal)) (by pointwise [k0_pay13, b8 H t]; rfl) ?_
      exact congrArg _ ((A.dp_dcq (hi t x0) (i := y 1) (j := x1) h1).symm.trans (congrArg (A.dp · (y 1)) (hi_eq h0)))
    · idx_vars x
      refine Eq.trans (b := (A.dhg (hi t x0) x1 : EReal)) (by pointwise [k0_pay12, b6 H t]; rfl) ?_
      exact congrArg _ ((A.dp_dhg (hi t x0) (i := y 1) (j := x1) h1).symm.trans (congrArg (A.dp · (y 1)) (hi_eq h0)))
    · idx_vars x
      refine Eq.trans (b := (A.dzr (hi t x0) x1 : EReal)) (by pointwise [k0_pay11, b5 H t]; rfl) ?_
      exact congrArg _ ((A.dp_dzr (hi t x0) (i := y 1) (j := x1) h1).symm.trans (congrArg (A.dp · (y 1)) (hi_eq h0)))
    · idx_vars x
      refine Eq.trans (b := (A.dzf (hi t x0) x1 : EReal)) (by pointwise [k0_pay10, b4 H t]; rfl) ?_
      exact congrArg _ ((A.dp_dzf (hi t x0) (i := y 1) (j := x1) h1).symm.trans (congrArg (A.dp · (y 1)) (hi_eq h0)))
    · idx_vars x
      refine (dv_pay' (ρ := hi t) (fun r k => by pointwise [b2 H t]; rfl) (fun r k => by pointwise [b3 H t]; rfl) x0 x1).trans ?_
      exact congrArg _ ((A.dp_dv (hi t x0) (i := y 1) (j := x1) h1).symm.trans (congrArg (A.dp · (y 1)) (hi_eq h0)))
    · idx_vars x
      refine (dhq_pay' (ρ := hi t) (fun r k => by pointwise [b0 H t]; rfl) (fun r k => by pointwise [b1 H t]; rfl) (fun r k => by pointwise [b7 H t]; rfl) x0 x1).trans ?_
      exact congrArg _ ((A.dp_dhq (hi t x0) (i := y 1) (j := x1) (h1.trans (Nat.zero_add _).symm)).symm.trans (congrArg (A.dp · (y 1)) (hi_eq h0)))
    · idx_vars x
      refine Eq.trans (b := (A.dkrp (lo t x0) x1 : EReal)) (by pointwise [k0_pay9, b10 H t]; rfl) ?_
      exact congrArg _ ((A.dp_dkrp (lo t x0) (i := y 1) (j := x1) h1).symm.trans (congrArg (A.dp · (y 1)) (lo_eq h0)))
    · idx_vars x
      refine Eq.trans (b := (A.dckv (lo t x0) x1 : EReal)) (by pointwise [k0_pay8, b9 H t]; rfl) ?_
      exact congrArg _ ((A.dp_dckv (lo t x0) (i := y 1) (j := x1) h1).symm.trans (congrArg (A.dp · (y 1)) (lo_eq h0)))
    · idx_vars x
      refine Eq.trans (b := (A.dcq (lo t x0) x1 : EReal)) (by pointwise [k0_pay7, b8 H t]; rfl) ?_
      exact congrArg _ ((A.dp_dcq (lo t x0) (i := y 1) (j := x1) h1).symm.trans (congrArg (A.dp · (y 1)) (lo_eq h0)))
    · idx_vars x
      refine Eq.trans (b := (A.dhg (lo t x0) x1 : EReal)) (by pointwise [k0_pay6, b6 H t]; rfl) ?_
      exact congrArg _ ((A.dp_dhg (lo t x0) (i := y 1) (j := x1) h1).symm.trans (congrArg (A.dp · (y 1)) (lo_eq h0)))
    · idx_vars x
      refine Eq.trans (b := (A.dzr (lo t x0) x1 : EReal)) (by pointwise [k0_pay5, b5 H t]; rfl) ?_
      exact congrArg _ ((A.dp_dzr (lo t x0) (i := y 1) (j := x1) h1).symm.trans (congrArg (A.dp · (y 1)) (lo_eq h0)))
    · idx_vars x
      refine Eq.trans (b := (A.dzf (lo t x0) x1 : EReal)) (by pointwise [k0_pay4, b4 H t]; rfl) ?_
      exact congrArg _ ((A.dp_dzf (lo t x0) (i := y 1) (j := x1) h1).symm.trans (congrArg (A.dp · (y 1)) (lo_eq h0)))
    · idx_vars x
      refine (dv_pay (ρ := lo t) (fun r k => by pointwise [b2 H t]; rfl) (fun r k => by pointwise [b3 H t]; rfl) x0 x1).trans ?_
      exact congrArg _ ((A.dp_dv (lo t x0) (i := y 1) (j := x1) h1).symm.trans (congrArg (A.dp · (y 1)) (lo_eq h0)))
    · idx_vars x
      refine (dhq_pay (ρ := lo t) (fun r k => by pointwise [b0 H t]; rfl) (fun r k => by pointwise [b1 H t]; rfl) (fun r k => by pointwise [b7 H t]; rfl) x0 x1).trans ?_
      exact congrArg _ ((A.dp_dhq (lo t x0) (i := y 1) (j := x1) (h1.trans (Nat.zero_add _).symm)).symm.trans (congrArg (A.dp · (y 1)) (lo_eq h0)))
  · rw [outsAt0_B m c t g (later t g)]; frame_out
    canon_tiles x h using (View.cover_of_tiledBy _ ![256, 128] (by sl_kernel_rfl) y)
    · idx_vars x
      refine Eq.trans (b := (A.dkrp (hi t x0) x1 : EReal)) (by pointwise [k0_pay15, b10 H t]; rfl) ?_
      exact congrArg _ ((A.dp_dkrp (hi t x0) (i := y 1) (j := x1) h1).symm.trans (congrArg (A.dp · (y 1)) (hi_eq h0)))
    · idx_vars x
      refine Eq.trans (b := (A.dckv (hi t x0) x1 : EReal)) (by pointwise [k0_pay14, b9 H t]; rfl) ?_
      exact congrArg _ ((A.dp_dckv (hi t x0) (i := y 1) (j := x1) h1).symm.trans (congrArg (A.dp · (y 1)) (hi_eq h0)))
    · idx_vars x
      refine Eq.trans (b := (A.dcq (hi t x0) x1 : EReal)) (by pointwise [k0_pay13, b8 H t]; rfl) ?_
      exact congrArg _ ((A.dp_dcq (hi t x0) (i := y 1) (j := x1) h1).symm.trans (congrArg (A.dp · (y 1)) (hi_eq h0)))
    · idx_vars x
      refine Eq.trans (b := (A.dhg (hi t x0) x1 : EReal)) (by pointwise [k0_pay12, b6 H t]; rfl) ?_
      exact congrArg _ ((A.dp_dhg (hi t x0) (i := y 1) (j := x1) h1).symm.trans (congrArg (A.dp · (y 1)) (hi_eq h0)))
    · idx_vars x
      refine Eq.trans (b := (A.dzr (hi t x0) x1 : EReal)) (by pointwise [k0_pay11, b5 H t]; rfl) ?_
      exact congrArg _ ((A.dp_dzr (hi t x0) (i := y 1) (j := x1) h1).symm.trans (congrArg (A.dp · (y 1)) (hi_eq h0)))
    · idx_vars x
      refine Eq.trans (b := (A.dzf (hi t x0) x1 : EReal)) (by pointwise [k0_pay10, b4 H t]; rfl) ?_
      exact congrArg _ ((A.dp_dzf (hi t x0) (i := y 1) (j := x1) h1).symm.trans (congrArg (A.dp · (y 1)) (hi_eq h0)))
    · idx_vars x
      refine (dv_pay' (ρ := hi t) (fun r k => by pointwise [b2 H t]; rfl) (fun r k => by pointwise [b3 H t]; rfl) x0 x1).trans ?_
      exact congrArg _ ((A.dp_dv (hi t x0) (i := y 1) (j := x1) h1).symm.trans (congrArg (A.dp · (y 1)) (hi_eq h0)))
    · idx_vars x
      refine (dhq_pay' (ρ := hi t) (fun r k => by pointwise [b0 H t]; rfl) (fun r k => by pointwise [b1 H t]; rfl) (fun r k => by pointwise [b7 H t]; rfl) x0 x1).trans ?_
      exact congrArg _ ((A.dp_dhq (hi t x0) (i := y 1) (j := x1) (h1.trans (Nat.zero_add _).symm)).symm.trans (congrArg (A.dp · (y 1)) (hi_eq h0)))
    · idx_vars x
      refine Eq.trans (b := (A.dkrp (lo t x0) x1 : EReal)) (by pointwise [k0_pay9, b10 H t]; rfl) ?_
      exact congrArg _ ((A.dp_dkrp (lo t x0) (i := y 1) (j := x1) h1).symm.trans (congrArg (A.dp · (y 1)) (lo_eq h0)))
    · idx_vars x
      refine Eq.trans (b := (A.dckv (lo t x0) x1 : EReal)) (by pointwise [k0_pay8, b9 H t]; rfl) ?_
      exact congrArg _ ((A.dp_dckv (lo t x0) (i := y 1) (j := x1) h1).symm.trans (congrArg (A.dp · (y 1)) (lo_eq h0)))
    · idx_vars x
      refine Eq.trans (b := (A.dcq (lo t x0) x1 : EReal)) (by pointwise [k0_pay7, b8 H t]; rfl) ?_
      exact congrArg _ ((A.dp_dcq (lo t x0) (i := y 1) (j := x1) h1).symm.trans (congrArg (A.dp · (y 1)) (lo_eq h0)))
    · idx_vars x
      refine Eq.trans (b := (A.dhg (lo t x0) x1 : EReal)) (by pointwise [k0_pay6, b6 H t]; rfl) ?_
      exact congrArg _ ((A.dp_dhg (lo t x0) (i := y 1) (j := x1) h1).symm.trans (congrArg (A.dp · (y 1)) (lo_eq h0)))
    · idx_vars x
      refine Eq.trans (b := (A.dzr (lo t x0) x1 : EReal)) (by pointwise [k0_pay5, b5 H t]; rfl) ?_
      exact congrArg _ ((A.dp_dzr (lo t x0) (i := y 1) (j := x1) h1).symm.trans (congrArg (A.dp · (y 1)) (lo_eq h0)))
    · idx_vars x
      refine Eq.trans (b := (A.dzf (lo t x0) x1 : EReal)) (by pointwise [k0_pay4, b4 H t]; rfl) ?_
      exact congrArg _ ((A.dp_dzf (lo t x0) (i := y 1) (j := x1) h1).symm.trans (congrArg (A.dp · (y 1)) (lo_eq h0)))
    · idx_vars x
      refine (dv_pay (ρ := lo t) (fun r k => by pointwise [b2 H t]; rfl) (fun r k => by pointwise [b3 H t]; rfl) x0 x1).trans ?_
      exact congrArg _ ((A.dp_dv (lo t x0) (i := y 1) (j := x1) h1).symm.trans (congrArg (A.dp · (y 1)) (lo_eq h0)))
    · idx_vars x
      refine (dhq_pay (ρ := lo t) (fun r k => by pointwise [b0 H t]; rfl) (fun r k => by pointwise [b1 H t]; rfl) (fun r k => by pointwise [b7 H t]; rfl) x0 x1).trans ?_
      exact congrArg _ ((A.dp_dhq (lo t x0) (i := y 1) (j := x1) (h1.trans (Nat.zero_add _).symm)).symm.trans (congrArg (A.dp · (y 1)) (lo_eq h0)))

/-! ## The gain's gradient -/

/-- Grid point `t`'s part of the gain's gradient. -/
def dgBlk (A : InBwd.Args) (t : Fin cfg0.N) (k : Fin 1024) : ℝ := (∑ r, A.dgRow (lo t r) k) + ∑ r, A.dgRow (hi t r) k

theorem first17 (t : Fin cfg0.N) (h : t.val % 16 = 0) (z : Fin 1) (k : Fin 1024) :
    ((outsAt0 m c t.val t.isLt).2.2 : FVec Ideal S1x1024 .f32) (ix2 z k) = (dgBlk A t k : EReal) := by
  rw [outsAt0_A m c t h (first t h)]; frame_out
  exact dgs_pay (dg_pay (ρ := lo t) (fun r k => by pointwise [b12 H t]; rfl) (dh_pay (ρ := lo t) (fun r k => by pointwise [b0 H t]; rfl) (fun r k => by pointwise [b1 H t]; rfl) (fun r k => by pointwise [b2 H t]; rfl) (fun r k => by pointwise [b3 H t]; rfl) (fun r k => by pointwise [k0_pay4, b4 H t]; rfl) (fun r k => by pointwise [k0_pay5, b5 H t]; rfl) (fun r k => by pointwise [k0_pay6, b6 H t]; rfl) (fun r k => by pointwise [b7 H t]; rfl) (fun r k => by pointwise [k0_pay7, b8 H t]; rfl) (fun r k => by pointwise [k0_pay8, b9 H t]; rfl) (fun r k => by pointwise [k0_pay9, b10 H t]; rfl) (b14 H t)) (sq_pay (fun r k => by pointwise [b12 H t]; rfl))) (dg_pay' (ρ := hi t) (dh_pay' (ρ := hi t) (fun r k => by pointwise [b0 H t]; rfl) (fun r k => by pointwise [b1 H t]; rfl) (fun r k => by pointwise [b2 H t]; rfl) (fun r k => by pointwise [b3 H t]; rfl) (fun r k => by pointwise [k0_pay10, b4 H t]; rfl) (fun r k => by pointwise [k0_pay11, b5 H t]; rfl) (fun r k => by pointwise [k0_pay12, b6 H t]; rfl) (fun r k => by pointwise [b7 H t]; rfl) (fun r k => by pointwise [k0_pay13, b8 H t]; rfl) (fun r k => by pointwise [k0_pay14, b9 H t]; rfl) (fun r k => by pointwise [k0_pay15, b10 H t]; rfl) (b14 H t)) (xh_pay' (fun r k => by pointwise [b12 H t]; rfl))) z k

theorem step17 (t : Fin cfg0.N) (h : ¬t.val % 16 = 0) (z : Fin 1) (k : Fin 1024) :
    ((outsAt0 m c t.val t.isLt).2.2 : FVec Ideal S1x1024 .f32) (ix2 z k) = ((outsAt0 m c (t.val - 1) (by omega)).2.2 : FVec Ideal S1x1024 .f32) (ix2 z k) + (dgBlk A t k : EReal) := by
  rw [outsAt0_B m c t h (later t h)]; frame_out
  exact dgs_step (dg_pay (ρ := lo t) (fun r k => by pointwise [b12 H t]; rfl) (dh_pay (ρ := lo t) (fun r k => by pointwise [b0 H t]; rfl) (fun r k => by pointwise [b1 H t]; rfl) (fun r k => by pointwise [b2 H t]; rfl) (fun r k => by pointwise [b3 H t]; rfl) (fun r k => by pointwise [k0_pay4, b4 H t]; rfl) (fun r k => by pointwise [k0_pay5, b5 H t]; rfl) (fun r k => by pointwise [k0_pay6, b6 H t]; rfl) (fun r k => by pointwise [b7 H t]; rfl) (fun r k => by pointwise [k0_pay7, b8 H t]; rfl) (fun r k => by pointwise [k0_pay8, b9 H t]; rfl) (fun r k => by pointwise [k0_pay9, b10 H t]; rfl) (b14 H t)) (sq_pay (fun r k => by pointwise [b12 H t]; rfl))) (dg_pay' (ρ := hi t) (dh_pay' (ρ := hi t) (fun r k => by pointwise [b0 H t]; rfl) (fun r k => by pointwise [b1 H t]; rfl) (fun r k => by pointwise [b2 H t]; rfl) (fun r k => by pointwise [b3 H t]; rfl) (fun r k => by pointwise [k0_pay10, b4 H t]; rfl) (fun r k => by pointwise [k0_pay11, b5 H t]; rfl) (fun r k => by pointwise [k0_pay12, b6 H t]; rfl) (fun r k => by pointwise [b7 H t]; rfl) (fun r k => by pointwise [k0_pay13, b8 H t]; rfl) (fun r k => by pointwise [k0_pay14, b9 H t]; rfl) (fun r k => by pointwise [k0_pay15, b10 H t]; rfl) (b14 H t)) (xh_pay' (fun r k => by pointwise [b12 H t]; rfl))) z k

/-! ## The whole arrays -/

theorem final15 : ((dats m 0 c).arrAt 15 cfg0.N : FVec Ideal S8192x1024 .f32) = arr2 A.dx := by
  refine (dats m 0 c).arrAt_eq_of_covers 15 _ (by decide +kernel) fun t hf y => ?_
  blk_simp
  rw [after0_15]
  refine (out15 H t y).trans ?_
  idx_vars y
  exact arr2_ext A.dx (by blk_ext [idx t, tok])

theorem final16 : ((dats m 0 c).arrAt 16 cfg0.N : FVec Ideal S8192x3328 .bf16) = arr2 A.dp := by
  refine (dats m 0 c).arrAt_eq_of_covers 16 _ (by decide +kernel) fun t hf y => ?_
  blk_simp
  rw [after0_16]
  refine (out16 H t y).trans ?_
  idx_vars y
  exact arr2_ext A.dp (by blk_ext [idx t, tok])

omit H in
/-- A value that starts at its first term and adds a term at every later point is the sum of the terms so far. -/
theorem acc_sum (N : ℕ) (f : (n : ℕ) → n < N → EReal) (p : ℕ → ℝ) (h0 : ∀ h, f 0 h = (p 0 : EReal))
    (hs : ∀ n (h : n + 1 < N), f (n + 1) h = f n (Nat.lt_of_succ_lt h) + (p (n + 1) : EReal)) :
    ∀ n (h : n < N), f n h = ((∑ i ∈ Finset.range (n + 1), p i : ℝ) : EReal)
  | 0, h => by rw [h0]; simp
  | n + 1, h => by rw [hs, acc_sum N f p h0 hs n, addE, Finset.sum_range_succ _ (n + 1)]

/-- Row `r` of block `n`, for any number `n`. -/
def tokN (n : ℕ) (r : Fin 512) : Fin 8192 := ⟨(n * 512 + r.val) % 8192, Nat.mod_lt _ (by decide)⟩

omit H in
theorem tok_eq (t : Fin cfg0.N) (r : Fin 512) : tok t r = tokN t.val r := by
  have h : t.val < 16 := lt_of_lt_of_eq t.isLt N_0
  have hr := r.isLt
  exact Fin.ext (show t.val * 512 + r.val = (t.val * 512 + r.val) % 8192 by omega)

omit H in
/-- The 16 blocks' rows are all rows. -/
theorem sum_tok (g : Fin 8192 → ℝ) : ∑ i ∈ Finset.range 16, ∑ r : Fin 512, g (tokN i r) = ∑ a, g a := by
  rw [Finset.sum_range, Fin.sum_univ_tiles 16 512 rfl g]
  refine Finset.sum_congr rfl fun i _ => Finset.sum_congr rfl fun r _ => congrArg g (Fin.ext ?_)
  have hi := i.isLt; have hr := r.isLt
  exact (show (i.val * 512 + r.val) % 8192 = i.val * 512 + r.val by omega)

omit H in
/-- A block's two halves are all its rows. -/
theorem halves (f : Fin 512 → ℝ) : (∑ r : Fin 256, f ⟨r.val, by omega⟩) + ∑ r : Fin 256, f ⟨256 + r.val, by omega⟩ = ∑ r, f r := by
  rw [Fin.sum_univ_tiles 2 256 rfl f, Fin.sum_univ_two]
  refine congrArg₂ (· + ·) (Finset.sum_congr rfl fun r _ => congrArg f (Fin.ext ?_)) (Finset.sum_congr rfl fun r _ => congrArg f (Fin.ext ?_)) <;> simp

omit H in
theorem dgBlk_eq (A : InBwd.Args) (t : Fin cfg0.N) (k : Fin 1024) : dgBlk A t k = ∑ r, A.dgRow (tokN t.val r) k := by
  refine Eq.trans ?_ (Finset.sum_congr rfl fun r _ => congrArg (A.dgRow · k) (tok_eq t r))
  exact halves fun r => A.dgRow (tok t r) k

theorem sum17 (z : Fin 1) (k : Fin 1024) (n : ℕ) (hn : n < cfg0.N) :
    ((outsAt0 m c n hn).2.2 : FVec Ideal S1x1024 .f32) (ix2 z k) = ((∑ n ∈ Finset.range (n + 1), (∑ r, A.dgRow (tokN n r) k) : ℝ) : EReal) := by
  refine acc_sum cfg0.N (fun n hn => ((outsAt0 m c n hn).2.2 : FVec Ideal S1x1024 .f32) (ix2 z k)) (fun n => ∑ r, A.dgRow (tokN n r) k)
    (fun h => ?_) (fun n h => ?_) n hn
  · simp only [first17 H ⟨0, h⟩ rfl z k, dgBlk_eq]
  · have h' : n + 1 < 16 := lt_of_lt_of_eq h N_0
    simp only [step17 H ⟨n + 1, h⟩ (show ¬(n + 1) % 16 = 0 by omega) z k, dgBlk_eq]
    rfl

theorem final17 : ((dats m 0 c).arrAt 17 cfg0.N : FVec Ideal S1x1024 .f32) = arr2 (fun _ k => ∑ a, A.dgRow a k) := by
  refine (dats m 0 c).arrAt_eq_of_covers 17 _ (by decide +kernel) fun t hf y => ?_
  have hl : t.val = 15 := by
    have h := (flush0_17 t).mp hf
    have h' : t.val < 16 := lt_of_lt_of_eq t.isLt N_0
    omega
  blk_simp
  rw [after0_17]
  idx_vars y
  refine (sum17 H y0 y1 t.val t.isLt).trans ?_
  rw [hl]
  refine (congrArg _ (sum_tok fun a => A.dgRow a y1 : _ = ((fun _ k => ∑ a, A.dgRow a k) : Fin 1 → Fin 1024 → ℝ) y0 y1)).trans ?_
  exact arr2_ext (a := y0) (b := y1) (fun _ k => ∑ a, A.dgRow a k) (by blk_ext [idx t])

end Cert.InBwd.Ker
end
end
-- ==== Proof.InBwd.Ref.lean ====
/- The reference's stages, read at an index over real arguments: each is the real number `Args` names. -/
module

public import proofs.«01_k».proof.Proof.Gen.ReferenceInBwdIdeal.Read
public import proofs.«01_k».proof.Proof.InBwd.Real
public import Idealize.ShloMosaic.Lib.Claim

@[expose] public section

set_option maxRecDepth 16384

noncomputable section

namespace Cert.InBwd.Ref

open Cert.ReferenceInBwdIdeal Cert.ReferenceInBwdIdeal.Gen Cert.ReferenceInBwdIdeal.Read Cert.Ffn
open Idealize.ShloMosaic Idealize.ShloMosaic.TcCoe Idealize.SL.Sem Idealize.ShloMosaic.StableHlo

theorem sitofp_zero : (FloatOps.sitofp .f32 (0#32) : Ideal .f32) = ((0 : ℝ) : EReal) := by
  simp [FloatOps.sitofp]

variable {A : InBwd.Args}
  {x0 x1 x2 x3 x4 x5 x6 x7 : FVec Ideal S8192x512 .f32} {x8 : FVec Ideal S8192x384 .f32} {x9 : FVec Ideal S8192x256 .f32}
  {x10 : FVec Ideal S8192x64 .f32} {x11 x12 : FVec Ideal S8192x1024 .f32} {x13 : FVec Ideal S1024 .f32} {x14 : FVec Ideal S1024x3264 .f32}
  (h0 : ∀ a k, x0 (ix2 a k) = (A.dqf a k : EReal))
  (h1 : ∀ a k, x1 (ix2 a k) = (A.dqr a k : EReal))
  (h2 : ∀ a k, x2 (ix2 a k) = (A.dvf a k : EReal))
  (h3 : ∀ a k, x3 (ix2 a k) = (A.dvr a k : EReal))
  (h4 : ∀ a k, x4 (ix2 a k) = (A.dzf a k : EReal))
  (h5 : ∀ a k, x5 (ix2 a k) = (A.dzr a k : EReal))
  (h6 : ∀ a k, x6 (ix2 a k) = (A.dhg a k : EReal))
  (h7 : ∀ a k, x7 (ix2 a k) = (A.hq a k : EReal))
  (h8 : ∀ a k, x8 (ix2 a k) = (A.dcq a k : EReal))
  (h9 : ∀ a k, x9 (ix2 a k) = (A.dckv a k : EReal))
  (h10 : ∀ a k, x10 (ix2 a k) = (A.dkr a k : EReal))
  (h11 : ∀ a k, x11 (ix2 a k) = (A.dx2 a k : EReal))
  (h12 : ∀ a k, x12 (ix2 a k) = (A.x a k : EReal))
  (h13 : ∀ k, x13 (ix1 k) = (A.g k : EReal))
  (h14 : ∀ a k, x14 (ix2 a k) = (A.w a k : EReal))

include h12 in
theorem ms_read (a : Fin 8192) (z : Fin 1) : val_main_v6 (F := Ideal) x12 (ix2 a z) = (ms (A.x a) : EReal) := by
  pointwise [val_main_v6, val_main_v5, val_main_v4, val_main_v3, val_main_v2, val_main_v1, val_main_v0, val_main_cst, val_main_cst_0, val_main_cst_1, h12]
  simp only [c_eps, c_1024, c_half, c_neg_half, c_two, zero_add, mulE, Fin.sum_univ_one, sumE, divE _ _ (by norm_num : (1024 : ℝ) ≠ 0), addE, subE, negE, ← EReal.coe_one, ← EReal.coe_zero]
  rfl

include h12 in
theorem rr_read (a : Fin 8192) (z : Fin 1) : val_main_v7 (F := Ideal) x12 (ix2 a z) = (rr (A.x a) : EReal) := by
  pointwise [val_main_v7, ms_read h12]
  rw [rsqrtE _ (ms_pos _)]
  rfl

include h12 in
theorem xh_read (a : Fin 8192) (k : Fin 1024) : val_main_v12 (F := Ideal) x12 (ix2 a k) = ((A.x a k * rr (A.x a) : ℝ) : EReal) := by
  pointwise [val_main_v12, val_main_v11, h12, rr_read h12]
  simp only [mulE]

include h7 in
theorem sg_read (a : Fin 8192) (j : Fin 512) : val_main_v17_2 (F := Ideal) x7 (ix2 a j) = (sg (A.hq a j) : EReal) := by
  pointwise [val_main_v17_2, val_main_call0_v4, val_main_call0_v3, val_main_call0_v2, val_main_call0_v1, val_main_call0_v0, val_main_call0_cst, val_main_call0_cst_0, h7]
  exact sg_host _

include h7 in
theorem dsg_read (a : Fin 8192) (j : Fin 512) : val_main_v17_1 (F := Ideal) x7 (ix2 a j) = ((sg (A.hq a j) * (1 - sg (A.hq a j)) : ℝ) : EReal) := by
  pointwise [val_main_v17_1, val_main_call0_v7, val_main_call0_v6, val_main_call0_cst_1, sg_read h7]
  simp only [c_eps, c_1024, c_half, c_neg_half, c_two, zero_add, mulE, Fin.sum_univ_one, sumE, divE _ _ (by norm_num : (1024 : ℝ) ≠ 0), addE, subE, negE, ← EReal.coe_one, ← EReal.coe_zero]

include h0 h1 h7 in
theorem dhq_read (a : Fin 8192) (j : Fin 512) : val_main_v19 (F := Ideal) x0 x1 x7 (ix2 a j) = (A.dhq a j : EReal) := by
  pointwise [val_main_v19, val_main_call1_v2, val_main_call1_v1, val_main_call1_v0, val_main_v18, h0, h1, h7, sg_read h7, dsg_read h7]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (by rw [Args.dhq]; ring)

include h2 h3 in
theorem dv_read (a : Fin 8192) (j : Fin 512) : val_main_v20 (F := Ideal) x2 x3 (ix2 a j) = (A.dv a j : EReal) := by
  pointwise [val_main_v20, h2, h3]
  simp only [addE]
  rfl

/-- The eight parts side by side, as the reading of a concatenation writes them. -/
theorem dp_cat (A : InBwd.Args) (a : Fin 8192) (x : Fin 3264) :
    (if h : x.val < 512 then (A.dhq a ⟨x.val, h⟩ : EReal)
     else if h : x.val - 512 < 512 then (A.dv a ⟨x.val - 512, h⟩ : EReal)
     else if h : x.val - 512 - 512 < 512 then (A.dzf a ⟨x.val - 512 - 512, h⟩ : EReal)
     else if h : x.val - 512 - 512 - 512 < 512 then (A.dzr a ⟨x.val - 512 - 512 - 512, h⟩ : EReal)
     else if h : x.val - 512 - 512 - 512 - 512 < 512 then (A.dhg a ⟨x.val - 512 - 512 - 512 - 512, h⟩ : EReal)
     else if h : x.val - 512 - 512 - 512 - 512 - 512 < 384 then (A.dcq a ⟨x.val - 512 - 512 - 512 - 512 - 512, h⟩ : EReal)
     else if h : x.val - 512 - 512 - 512 - 512 - 512 - 384 < 256 then (A.dckv a ⟨x.val - 512 - 512 - 512 - 512 - 512 - 384, h⟩ : EReal)
     else (A.dkr a ⟨x.val - 512 - 512 - 512 - 512 - 512 - 384 - 256, by omega⟩ : EReal)) = (A.dp a ⟨x.val, by omega⟩ : EReal) := by
  unfold Args.dp
  split_ifs
  all_goals first
    | rfl
    | (unfold Args.dkrp; rw [dif_pos])

include h0 h1 h2 h3 h4 h5 h6 h7 h8 h9 h10 in
theorem dp_read (a : Fin 8192) (j : Fin 3264) :
    val_main_v21 (F := Ideal) x0 x1 x2 x3 x4 x5 x6 x7 x8 x9 x10 (ix2 a j) = (A.dp a ⟨j.val, by omega⟩ : EReal) := by
  pointwise [val_main_v21, dhq_read h0 h1 h7, dv_read h2 h3, h4, h5, h6, h8, h9, h10]
  exact dp_cat A a j

include h0 h1 h2 h3 h4 h5 h6 h7 h8 h9 h10 h14 in
theorem dh_read (a : Fin 8192) (k : Fin 1024) : val_main_v22 (F := Ideal) x0 x1 x2 x3 x4 x5 x6 x7 x8 x9 x10 x14 (ix2 a k) = (A.dh a k : EReal) := by
  pointwise [val_main_v22, dp_read h0 h1 h2 h3 h4 h5 h6 h7 h8 h9 h10, h14]
  simp only [mulE, sumE]
  exact congrArg _ (A.dh_eq a k)

include h0 h1 h2 h3 h4 h5 h6 h7 h8 h9 h10 h13 h14 in
theorem dhg_read (a : Fin 8192) (k : Fin 1024) :
    val_main_v27 (F := Ideal) x0 x1 x2 x3 x4 x5 x6 x7 x8 x9 x10 x13 x14 (ix2 a k) = ((A.dh a k * A.g k : ℝ) : EReal) := by
  pointwise [val_main_v27, val_main_v26, val_main_v13, dh_read h0 h1 h2 h3 h4 h5 h6 h7 h8 h9 h10 h14, h13]
  simp only [mulE]

include h0 h1 h2 h3 h4 h5 h6 h7 h8 h9 h10 h12 h13 h14 in
theorem mean_read (a : Fin 8192) :
    val_main_v37 (F := Ideal) x0 x1 x2 x3 x4 x5 x6 x7 x8 x9 x10 x12 x13 x14 (ix1 a)
      = (((∑ l, A.x a l * (A.dh a l * A.g l)) * (-(1 / 2) * (rr (A.x a) * (1 / ms (A.x a)))) * (1 / 1024) : ℝ) : EReal) := by
  pointwise [val_main_v37, val_main_v36, val_main_v35, val_main_v34, val_main_v31, val_main_v30, val_main_v29, val_main_v10, val_main_v9, val_main_v8, val_main_cst_2, val_main_cst_5, val_main_cst_6, val_main_cst_7, dhg_read h0 h1 h2 h3 h4 h5 h6 h7 h8 h9 h10 h13 h14, h12, rr_read h12, ms_read h12]
  simp only [c_eps, c_1024, c_half, c_neg_half, c_two, zero_add, mulE, Fin.sum_univ_one, sumE, divE _ _ (by norm_num : (1024 : ℝ) ≠ 0), divE _ _ (ms_pos (A.x a)).ne', addE, subE, negE, ← EReal.coe_one, ← EReal.coe_zero]

include h0 h1 h2 h3 h4 h5 h6 h7 h8 h9 h10 h11 h12 h13 h14 in
theorem dx_read (a : Fin 8192) (k : Fin 1024) :
    val_main_v43 (F := Ideal) x0 x1 x2 x3 x4 x5 x6 x7 x8 x9 x10 x11 x12 x13 x14 (ix2 a k) = (A.dx a k : EReal) := by
  pointwise [val_main_v43, val_main_v42, val_main_v41, val_main_v40, val_main_v39, val_main_v38, val_main_v33, val_main_v32, h11, h12, dhg_read h0 h1 h2 h3 h4 h5 h6 h7 h8 h9 h10 h13 h14, rr_read h12, mean_read h0 h1 h2 h3 h4 h5 h6 h7 h8 h9 h10 h12 h13 h14]
  simp only [mulE, addE]
  exact congrArg (fun r => ((A.dx2 a k + r : ℝ) : EReal)) (rmsGrad_vjp (A.x a) (fun l => A.dh a l * A.g l) k)

include h0 h1 h2 h3 h4 h5 h6 h7 h8 h9 h10 in
theorem dpp_read (a : Fin 8192) (j : Fin 3328) : val_main_v45 (F := Ideal) x0 x1 x2 x3 x4 x5 x6 x7 x8 x9 x10 (ix2 a j) = (A.dp a j : EReal) := by
  pointwise [val_main_v45, val_main_v44, val_main_call2_v0, val_main_c, dp_read h0 h1 h2 h3 h4 h5 h6 h7 h8 h9 h10]
  split_ifs with h
  · rfl
  · rw [A.dp_pad a j h]; exact sitofp_zero

include h0 h1 h2 h3 h4 h5 h6 h7 h8 h9 h10 h12 h14 in
theorem dg_read (z : Fin 1) (k : Fin 1024) : val_main_v46 (F := Ideal) x0 x1 x2 x3 x4 x5 x6 x7 x8 x9 x10 x12 x14 (ix2 z k) = ((∑ a, A.dgRow a k : ℝ) : EReal) := by
  pointwise [val_main_v46, val_main_v28, val_main_v25, val_main_v24, val_main_v23, val_main_cst_3, val_main_cst_4, xh_read h12, dh_read h0 h1 h2 h3 h4 h5 h6 h7 h8 h9 h10 h14]
  simp only [c_eps, c_1024, c_half, c_neg_half, c_two, zero_add, mulE, Fin.sum_univ_one, sumE, divE _ _ (by norm_num : (1024 : ℝ) ≠ 0), addE, subE, negE, ← EReal.coe_one, ← EReal.coe_zero]
  exact congrArg _ (Finset.sum_congr rfl fun a _ => mul_comm _ _)

end Cert.InBwd.Ref
end
end
-- ==== Proof.InBwd.RefRun.lean ====
/- The reference's results over real arguments, as arrays. -/
module

public import proofs.«01_k».proof.Proof.Gen.ReferenceInBwdIdeal.Run
public import proofs.«01_k».proof.Proof.InBwd.Ref
public import Idealize.ShloMosaic.Lib.Claim

@[expose] public section

set_option maxRecDepth 16384

noncomputable section

namespace Cert.InBwd.Ref

open Cert.ReferenceInBwdIdeal Cert.ReferenceInBwdIdeal.Gen Cert.ReferenceInBwdIdeal.Read Cert.Ffn
open Idealize.ShloMosaic Idealize.ShloMosaic.TcCoe Idealize.SL.Sem Idealize.ShloMosaic.StableHlo

/-- The launch memory's arguments on device `c` are the real numbers `A`. -/
structure Agree (m : (ℓ : Loc nD τ sig) → Buf (Elt Ideal) ℓ) (c : Dev nD) (A : InBwd.Args) : Prop where
  a0 : ∀ a k, (m ((c : Thread nD τ).loc main_arg0) : FVec Ideal S8192x512 .f32) (ix2 a k) = (A.dqf a k : EReal)
  a1 : ∀ a k, (m ((c : Thread nD τ).loc main_arg1) : FVec Ideal S8192x512 .f32) (ix2 a k) = (A.dqr a k : EReal)
  a2 : ∀ a k, (m ((c : Thread nD τ).loc main_arg2) : FVec Ideal S8192x512 .f32) (ix2 a k) = (A.dvf a k : EReal)
  a3 : ∀ a k, (m ((c : Thread nD τ).loc main_arg3) : FVec Ideal S8192x512 .f32) (ix2 a k) = (A.dvr a k : EReal)
  a4 : ∀ a k, (m ((c : Thread nD τ).loc main_arg4) : FVec Ideal S8192x512 .f32) (ix2 a k) = (A.dzf a k : EReal)
  a5 : ∀ a k, (m ((c : Thread nD τ).loc main_arg5) : FVec Ideal S8192x512 .f32) (ix2 a k) = (A.dzr a k : EReal)
  a6 : ∀ a k, (m ((c : Thread nD τ).loc main_arg6) : FVec Ideal S8192x512 .f32) (ix2 a k) = (A.dhg a k : EReal)
  a7 : ∀ a k, (m ((c : Thread nD τ).loc main_arg7) : FVec Ideal S8192x512 .f32) (ix2 a k) = (A.hq a k : EReal)
  a8 : ∀ a k, (m ((c : Thread nD τ).loc main_arg8) : FVec Ideal S8192x384 .f32) (ix2 a k) = (A.dcq a k : EReal)
  a9 : ∀ a k, (m ((c : Thread nD τ).loc main_arg9) : FVec Ideal S8192x256 .f32) (ix2 a k) = (A.dckv a k : EReal)
  a10 : ∀ a k, (m ((c : Thread nD τ).loc main_arg10) : FVec Ideal S8192x64 .f32) (ix2 a k) = (A.dkr a k : EReal)
  a11 : ∀ a k, (m ((c : Thread nD τ).loc main_arg11) : FVec Ideal S8192x1024 .f32) (ix2 a k) = (A.dx2 a k : EReal)
  a12 : ∀ a k, (m ((c : Thread nD τ).loc main_arg12) : FVec Ideal S8192x1024 .f32) (ix2 a k) = (A.x a k : EReal)
  a13 : ∀ k, (m ((c : Thread nD τ).loc main_arg13) : FVec Ideal S1024 .f32) (ix1 k) = (A.g k : EReal)
  a14 : ∀ a k, (m ((c : Thread nD τ).loc main_arg14) : FVec Ideal S1024x3264 .f32) (ix2 a k) = (A.w a k : EReal)

variable {m : (ℓ : Loc nD τ sig) → Buf (Elt Ideal) ℓ}

/-- The reference's run, its results the arrays of `Args`. -/
theorem run (A : Dev nD → InBwd.Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v43) : FVec Ideal S8192x1024 .f32) = arr2 (A c).dx
      ∧ (r.2.mem ((c.tc : Thread nD τ).loc main_v45) : FVec Ideal S8192x3328 .bf16) = arr2 (A c).dp
      ∧ (r.2.mem ((c.tc : Thread nD τ).loc main_v46) : FVec Ideal S1x1024 .f32) = arr2 (fun _ k => ∑ a, (A c).dgRow a k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_) (Cert.ReferenceInBwdIdeal.Value.run m ρ)
  obtain ⟨h0, h1, h2, hr⟩ := h c
  refine ⟨h0.trans ?_, h1.trans ?_, h2.trans ?_, hr⟩
  · refine Eq.trans (val_main_v43_eq _ _) (funext fun i => ?_)
    idx_vars i
    exact dx_read (H c).a0 (H c).a1 (H c).a2 (H c).a3 (H c).a4 (H c).a5 (H c).a6 (H c).a7 (H c).a8 (H c).a9 (H c).a10 (H c).a11 (H c).a12 (H c).a13 (H c).a14 i0 i1
  · refine Eq.trans (val_main_v45_eq _ _ _ _ _ _ _ _ _ _ _) (funext fun i => ?_)
    idx_vars i
    exact dpp_read (H c).a0 (H c).a1 (H c).a2 (H c).a3 (H c).a4 (H c).a5 (H c).a6 (H c).a7 (H c).a8 (H c).a9 (H c).a10 i0 i1
  · refine Eq.trans (val_main_v46_eq _ _ _ _ _ _ _ _ _ _ _ _ _) (funext fun i => ?_)
    idx_vars i
    exact dg_read (H c).a0 (H c).a1 (H c).a2 (H c).a3 (H c).a4 (H c).a5 (H c).a6 (H c).a7 (H c).a8 (H c).a9 (H c).a10 (H c).a12 (H c).a14 i0 i1

end Cert.InBwd.Ref
end
end
-- ==== Proof.InBwd.Claim.lean ====
/- The projection's gradient: the kernel's results equal the reference's, at equal arguments of real numbers. -/
module

public import proofs.«01_k».proof.Defs
public import proofs.«01_k».proof.Proof.Gen.KernelInBwd
public import Idealize.ShloMosaic.Lib.Quiescent
public import proofs.«01_k».proof.Proof.InBwd.Finite
public import proofs.«01_k».proof.Proof.InBwd.Final
public import proofs.«01_k».proof.Proof.InBwd.RefRun

@[expose] public section

set_option maxRecDepth 16384

noncomputable section

namespace Cert.InBwd

open Idealize.ShloMosaic Idealize.ShloMosaic.TcCoe Idealize.SL.Sem Cert.KernelInBwdIdeal

/-- The real numbers device `c`'s argument arrays hold. -/
def args (m : (ℓ : Loc nD τ sig) → Buf (Elt Ideal) ℓ) (c : Dev nD) : Args where
  dqf a k := ((m ((c : Thread nD τ).loc main_arg0) : FVec Ideal S8192x512 .f32) (ix2 a k)).toReal
  dqr a k := ((m ((c : Thread nD τ).loc main_arg1) : FVec Ideal S8192x512 .f32) (ix2 a k)).toReal
  dvf a k := ((m ((c : Thread nD τ).loc main_arg2) : FVec Ideal S8192x512 .f32) (ix2 a k)).toReal
  dvr a k := ((m ((c : Thread nD τ).loc main_arg3) : FVec Ideal S8192x512 .f32) (ix2 a k)).toReal
  dzf a k := ((m ((c : Thread nD τ).loc main_arg4) : FVec Ideal S8192x512 .f32) (ix2 a k)).toReal
  dzr a k := ((m ((c : Thread nD τ).loc main_arg5) : FVec Ideal S8192x512 .f32) (ix2 a k)).toReal
  dhg a k := ((m ((c : Thread nD τ).loc main_arg6) : FVec Ideal S8192x512 .f32) (ix2 a k)).toReal
  hq a k := ((m ((c : Thread nD τ).loc main_arg7) : FVec Ideal S8192x512 .f32) (ix2 a k)).toReal
  dcq a k := ((m ((c : Thread nD τ).loc main_arg8) : FVec Ideal S8192x384 .f32) (ix2 a k)).toReal
  dckv a k := ((m ((c : Thread nD τ).loc main_arg9) : FVec Ideal S8192x256 .f32) (ix2 a k)).toReal
  dkr a k := ((m ((c : Thread nD τ).loc main_arg10) : FVec Ideal S8192x64 .f32) (ix2 a k)).toReal
  dx2 a k := ((m ((c : Thread nD τ).loc main_arg11) : FVec Ideal S8192x1024 .f32) (ix2 a k)).toReal
  x a k := ((m ((c : Thread nD τ).loc main_arg12) : FVec Ideal S8192x1024 .f32) (ix2 a k)).toReal
  g k := ((m ((c : Thread nD τ).loc main_arg13) : FVec Ideal S1024 .f32) (ix1 k)).toReal
  w a k := ((m ((c : Thread nD τ).loc main_arg14) : FVec Ideal S1024x3264 .f32) (ix2 a k)).toReal

theorem agree [Cert.Pre_finite_in_bwd.Facts] (m : (ℓ : Loc nD τ sig) → Buf (Elt Ideal) ℓ) (h : Cert.Pre_KernelInBwdIdeal_finite_in_bwd m) (c : Dev nD) :
    Ker.Agree m c (args m c) := by
  obtain ⟨h0, h1, h2, h3, h4, h5, h6, h7, h8, h9, h10, h11, h12, h13, h14⟩ := reals _ _ _ _ _ _ _ _ _ _ _ _ _ _ _ (h c)
  exact ⟨fun _ _ => h0 _, fun _ _ => h1 _, fun _ _ => h2 _, fun _ _ => h3 _, fun _ _ => h4 _, fun _ _ => h5 _, fun _ _ => h6 _, fun _ _ => h7 _, fun _ _ => h8 _, fun _ _ => h9 _, fun _ _ => h10 _, fun _ _ => h11 _, fun _ _ => h12 _, fun _ => h13 _, fun _ _ => h14 _⟩

theorem algebraic : Cert.algebraic_KernelInBwdIdeal_ReferenceInBwdIdeal_pre_finite_in_bwd := by
  pair_intro
  · run_from Cert.KernelInBwdIdeal.Value.run_blocks m g
  · have H := agree m hpre
    have HR : ∀ c, Ref.Agree m' c (args m c) := fun c => by
      obtain ⟨e0, e1, e2, e3, e4, e5, e6, e7, e8, e9, e10, e11, e12, e13, e14⟩ := hagree c
      have K := H c
      exact ⟨fun a k => (congrFun e0 _).trans (K.a0 a k), fun a k => (congrFun e1 _).trans (K.a1 a k), fun a k => (congrFun e2 _).trans (K.a2 a k), fun a k => (congrFun e3 _).trans (K.a3 a k), fun a k => (congrFun e4 _).trans (K.a4 a k), fun a k => (congrFun e5 _).trans (K.a5 a k), fun a k => (congrFun e6 _).trans (K.a6 a k), fun a k => (congrFun e7 _).trans (K.a7 a k), fun a k => (congrFun e8 _).trans (K.a8 a k), fun a k => (congrFun e9 _).trans (K.a9 a k), fun a k => (congrFun e10 _).trans (K.a10 a k), fun a k => (congrFun e11 _).trans (K.a11 a k), fun a k => (congrFun e12 _).trans (K.a12 a k), fun k => (congrFun e13 _).trans (K.a13 k), fun a k => (congrFun e14 _).trans (K.a14 a k)⟩
    run_from Ref.run _ HR g'
    · exact (Ker.final15 (H c)).symm
    · exact (Ker.final16 (H c)).symm
    · exact (Ker.final17 (H c)).symm

/-- The reference's frame, whatever the precondition. -/
theorem reference_frame : Cert.quiescent_ReferenceInBwdIdeal := by
  intro m g _
  exact (θ_run Cert.ReferenceInBwdIdeal.defs _ _).mono
    (fun r h => ⟨fun c => (h c).2.2.2, sem_eq_zero_of_no_sems (sig := Cert.ReferenceInBwdIdeal.sig) rfl _⟩)
    (Cert.ReferenceInBwdIdeal.Value.run m g)

end Cert.InBwd
end
end
-- ==== Proof.Adam.Step.lean ====
/- One step of the optimiser at one element. -/
module

public import Idealize.ShloMosaic.Lib.Pipeline.ValueKit
public import Idealize.ShloMosaic.Lib.Claim
public import proofs.«01_k».proof.Proof.Ffn.Real

@[expose] public section

noncomputable section

namespace Cert.Adam

open Idealize.ShloMosaic

/-- The number a bit pattern writes. -/
abbrev num (b : BitVec 32) : Ideal .f32 := FloatOps.ofBits .f32 b

/-- The new first moment. -/
def mom1 (m g : Ideal .f32) : Ideal .f32 := FloatOps.addf (FloatOps.mulf (num 0x3F666666#32) m) (FloatOps.mulf (num 0x3DCCCCCD#32) g)

/-- The new second moment. -/
def mom2 (v g : Ideal .f32) : Ideal .f32 := FloatOps.addf (FloatOps.mulf (num 0x3F7FBE77#32) v) (FloatOps.mulf (num 0x3A83126F#32) (FloatOps.mulf g g))

/-- The weight's change. -/
def delta (w m v g : Ideal .f32) : Ideal .f32 :=
  FloatOps.mulf (num 0xBA83126F#32)
    (FloatOps.addf
      (FloatOps.divf (FloatOps.divf (mom1 m g) (num 0x3F26BD02#32))
        (FloatOps.addf (FloatOps.sqrt (FloatOps.divf (mom2 v g) (num 0x3C231ACC#32))) (num 0x322BCC77#32)))
      (FloatOps.mulf (num 0x3C23D70A#32) w))

/-- The array of a function of its row and column. -/
def arr2 {n k : ℕ} (f : Fin n → Fin k → EReal) : (⟨2, ![n, k]⟩ : Shape).Idx → EReal := fun i => f (i 0) (i 1)

theorem arr2_ext {n k : ℕ} (f : Fin n → Fin k → EReal) {a : Fin n} {j : Fin k} {i : (⟨2, ![n, k]⟩ : Shape).Idx}
    (h : ix2 a j = i) : f a j = arr2 f i := by
  subst h; rfl

end Cert.Adam
end
end
-- ==== Proof.InFwd.Claim.lean ====
/- The first norm and the input projection: a grid point writes the eight parts of its rows' product apart. -/
module

public import proofs.«01_k».proof.Defs
public import proofs.«01_k».proof.Proof.Gen.KernelInFwdIdeal.Value
public import proofs.«01_k».proof.Proof.Gen.ReferenceInFwdIdeal.Run
public import proofs.«01_k».proof.Proof.Gen.ReferenceInFwdIdeal.Read
public import proofs.«01_k».proof.Proof.Adam.Step
public import Idealize.ShloMosaic.Lib.Claim
public import Idealize.ShloMosaic.Lib.Quiescent

@[expose] public section

set_option maxRecDepth 16384

noncomputable section

namespace Cert.InFwd

open Cert.KernelInFwdIdeal Cert.KernelInFwdIdeal.Gen Cert.Adam Cert.ReferenceInFwdIdeal.Read
open Idealize.ShloMosaic Idealize.ShloMosaic.TcCoe Idealize.SL.Sem

theorem sitofp_zero : (FloatOps.sitofp .f32 (0#32) : Ideal .f32) = 0 := by
  simp [FloatOps.sitofp]

/-! The results, from the arguments' elements. -/

/-- A token's reciprocal root mean square. -/
def rms (x : Fin 1024 → EReal) : Ideal .f32 :=
  FloatOps.rsqrt (FloatOps.addf (FloatOps.divf (∑ k, x k * x k : EReal) (num 0x44800000#32)) (num 0x358637BD#32))

/-- The normed token. -/
def norm (x g : Fin 1024 → EReal) (k : Fin 1024) : EReal := x k * rms x * g k

/-- The transposed weight, padded with zero rows. -/
def pad (w : Fin 1024 → Fin 3264 → EReal) (j : Fin 3328) (k : Fin 1024) : EReal := if h : j.val < 3264 then w k ⟨j.val, h⟩ else 0

/-- The projection. -/
def proj (x g : Fin 1024 → EReal) (w : Fin 1024 → Fin 3264 → EReal) (j : Fin 3328) : EReal := ∑ k, norm x g k * pad w j k

theorem proj_in (x g : Fin 1024 → EReal) (w : Fin 1024 → Fin 3264 → EReal) (j : Fin 3264) :
    ∑ k, norm x g k * w k j = proj x g w ⟨j.val, by omega⟩ := by
  unfold proj pad
  exact Finset.sum_congr rfl fun k _ => by rw [dif_pos]

theorem proj_out (x g : Fin 1024 → EReal) (w : Fin 1024 → Fin 3264 → EReal) (j : Fin 3328) (h : ¬j.val < 3264) : proj x g w j = 0 := by
  unfold proj pad
  simp only [dif_neg h, mul_zero, Finset.sum_const_zero]

/-! The body's stored pieces. -/

section
variable {x : Fin 8192 → Fin 1024 → EReal} {g : Fin 1024 → EReal} {w : Fin 1024 → Fin 3264 → EReal} {ρ : Fin 256 → Fin 8192}
  {v0 : FVec Ideal S1x1024 .f32} (h0 : ∀ z k, v0 (ix2 z k) = g k)
  {v1 : FVec Ideal S1x1024 .f32} (h1 : ∀ z k, v1 (ix2 z k) = g k)
  {v2 : FVec Ideal S256x1024 .f32} (h2 : ∀ r k, v2 (ix2 r k) = x (ρ r) k)
  {v16 : FVec Ideal S256x1024 .bf16} (h16 : ∀ r k, v16 (ix2 r k) = norm (x (ρ r)) g k)
  {o512 : Fin 512 → Fin 3328} {v17 : FVec Ideal S512x1024 .bf16} (h17 : ∀ j k, v17 (ix2 j k) = pad w (o512 j) k)
  {o384 : Fin 384 → Fin 3328} {v32 : FVec Ideal S384x1024 .bf16} (h32 : ∀ j k, v32 (ix2 j k) = pad w (o384 j) k)
  {o256 : Fin 256 → Fin 3328} {v35 : FVec Ideal S256x1024 .bf16} (h35 : ∀ j k, v35 (ix2 j k) = pad w (o256 j) k)
  {o128 : Fin 128 → Fin 3328} {v38 : FVec Ideal S128x1024 .bf16} (h38 : ∀ j k, v38 (ix2 j k) = pad w (o128 j) k)

include h0 in
theorem g_pay (z : Fin 1) (k : Fin 1024) : k0_pay1 (F := Ideal) v0 (ix2 z k) = g k := by
  pointwise [k0_pay1, h0]

include h0 h2 in
theorem h_pay (r : Fin 256) (k : Fin 1024) : k0_pay2 (F := Ideal) v0 v2 (ix2 r k) = norm (x (ρ r)) g k := by
  pointwise [k0_pay2, g_pay h0, h2]
  try simp only [zero_add]
  rfl

include h1 h2 in
theorem h_pay' (r : Fin 256) (k : Fin 1024) : k0_pay11 (F := Ideal) v1 v2 (ix2 r k) = norm (x (ρ r)) g k := by
  pointwise [k0_pay11, h1, h2]
  try simp only [zero_add]
  rfl

include h0 h2 h17 in
theorem p_pay3 (r : Fin 256) (j : Fin 512) : k0_pay3 (F := Ideal) v0 v2 v17 (ix2 r j) = proj (x (ρ r)) g w (o512 j) := by
  pointwise [k0_pay3, h_pay h0 h2, h17]
  rfl

include h0 h2 h17 in
theorem p_pay4 (r : Fin 256) (j : Fin 512) : k0_pay4 (F := Ideal) v0 v2 v17 (ix2 r j) = proj (x (ρ r)) g w (o512 j) := by
  pointwise [k0_pay4, h_pay h0 h2, h17]
  rfl

include h0 h2 h17 in
theorem p_pay5 (r : Fin 256) (j : Fin 512) : k0_pay5 (F := Ideal) v0 v2 v17 (ix2 r j) = proj (x (ρ r)) g w (o512 j) := by
  pointwise [k0_pay5, h_pay h0 h2, h17]
  rfl

include h0 h2 h17 in
theorem p_pay6 (r : Fin 256) (j : Fin 512) : k0_pay6 (F := Ideal) v0 v2 v17 (ix2 r j) = proj (x (ρ r)) g w (o512 j) := by
  pointwise [k0_pay6, h_pay h0 h2, h17]
  rfl

include h0 h2 h17 in
theorem p_pay7 (r : Fin 256) (j : Fin 512) : k0_pay7 (F := Ideal) v0 v2 v17 (ix2 r j) = proj (x (ρ r)) g w (o512 j) := by
  pointwise [k0_pay7, h_pay h0 h2, h17]
  rfl

include h1 h2 h17 in
theorem p_pay12 (r : Fin 256) (j : Fin 512) : k0_pay12 (F := Ideal) v1 v2 v17 (ix2 r j) = proj (x (ρ r)) g w (o512 j) := by
  pointwise [k0_pay12, h_pay' h1 h2, h17]
  rfl

include h1 h2 h17 in
theorem p_pay13 (r : Fin 256) (j : Fin 512) : k0_pay13 (F := Ideal) v1 v2 v17 (ix2 r j) = proj (x (ρ r)) g w (o512 j) := by
  pointwise [k0_pay13, h_pay' h1 h2, h17]
  rfl

include h1 h2 h17 in
theorem p_pay14 (r : Fin 256) (j : Fin 512) : k0_pay14 (F := Ideal) v1 v2 v17 (ix2 r j) = proj (x (ρ r)) g w (o512 j) := by
  pointwise [k0_pay14, h_pay' h1 h2, h17]
  rfl

include h1 h2 h17 in
theorem p_pay15 (r : Fin 256) (j : Fin 512) : k0_pay15 (F := Ideal) v1 v2 v17 (ix2 r j) = proj (x (ρ r)) g w (o512 j) := by
  pointwise [k0_pay15, h_pay' h1 h2, h17]
  rfl

include h16 h17 in
theorem p_pay17 (r : Fin 256) (j : Fin 512) : k0_pay17 (F := Ideal) v16 (k0_pay16 v17) (constant S256x512 .f32 0x00000000#32) (ix2 r j) = proj (x (ρ r)) g w (o512 j) := by
  pointwise [k0_pay17, k0_pay16, h16, h17]
  rfl

include h16 h32 in
theorem p_pay8 (r : Fin 256) (j : Fin 384) : k0_pay8 (F := Ideal) v16 v32 (ix2 r j) = proj (x (ρ r)) g w (o384 j) := by
  pointwise [k0_pay8, h16, h32]
  rfl

include h16 h35 in
theorem p_pay9 (r : Fin 256) (j : Fin 256) : k0_pay9 (F := Ideal) v16 v35 (ix2 r j) = proj (x (ρ r)) g w (o256 j) := by
  pointwise [k0_pay9, h16, h35]
  rfl

include h16 h38 in
theorem p_pay10 (r : Fin 256) (j : Fin 128) : k0_pay10 (F := Ideal) v16 v38 (ix2 r j) = proj (x (ρ r)) g w (o128 j) := by
  pointwise [k0_pay10, h16, h38]
  rfl

include h16 h32 in
theorem p_pay18 (r : Fin 256) (j : Fin 384) : k0_pay18 (F := Ideal) v16 v32 (ix2 r j) = proj (x (ρ r)) g w (o384 j) := by
  pointwise [k0_pay18, h16, h32]
  rfl

include h16 h35 in
theorem p_pay19 (r : Fin 256) (j : Fin 256) : k0_pay19 (F := Ideal) v16 v35 (ix2 r j) = proj (x (ρ r)) g w (o256 j) := by
  pointwise [k0_pay19, h16, h35]
  rfl

include h16 h38 in
theorem p_pay20 (r : Fin 256) (j : Fin 128) : k0_pay20 (F := Ideal) v16 v38 (ix2 r j) = proj (x (ρ r)) g w (o128 j) := by
  pointwise [k0_pay20, h16, h38]
  rfl

end

theorem idx : ∀ t : Fin cfg0.N, (win0_0.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0])
    ∧ win0_1.index t = ![0, 0] ∧ win0_2.index t = ![0, 0] :=
  (by decide +kernel : ∀ t : Fin grid0.N, _)

variable (m : (ℓ : Loc nD τ sig) → Buf (Elt Ideal) ℓ) (c : Dev nD)

/-- A token of the call's input. -/
def x (a : Fin 8192) (k : Fin 1024) : EReal := (m ((c : Thread nD τ).loc main_arg0) : FVec Ideal S8192x1024 .f32) (ix2 a k)
/-- The norm's gain. -/
def g (k : Fin 1024) : EReal := (m ((c : Thread nD τ).loc main_arg1) : FVec Ideal S1024 .f32) (ix1 k)
/-- The projection's weight. -/
def w (k : Fin 1024) (j : Fin 3264) : EReal := (m ((c : Thread nD τ).loc main_arg2) : FVec Ideal S1024x3264 .f32) (ix2 k j)

/-- The token of row `r` of grid point `t`'s block. -/
def tok (t : Fin cfg0.N) (r : Fin 512) : Fin 8192 :=
  ⟨t.val * 512 + r.val, by have h : t.val < 16 := lt_of_lt_of_eq t.isLt N_0; omega⟩

def lo (t : Fin cfg0.N) (r : Fin 256) : Fin 8192 := tok t ⟨r.val, by omega⟩

def hi (t : Fin cfg0.N) (r : Fin 256) : Fin 8192 := tok t ⟨256 + r.val, by omega⟩

theorem lo_eq {t : Fin cfg0.N} {a : Fin 512} {r : Fin 256} (h : a.val = r.val) : lo t r = tok t a :=
  congrArg (tok t) (Fin.ext h.symm)

theorem hi_eq {t : Fin cfg0.N} {a : Fin 512} {r : Fin 256} (h : a.val = 256 + r.val) : hi t r = tok t a :=
  congrArg (tok t) (Fin.ext h.symm)

theorem g_host (z : Fin 1) (k : Fin 1024) : (V m c main_v3 : FVec Ideal S1x1024 .f32) (ix2 z k) = g m c k := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise []
  rfl

theorem w_host (j : Fin 3328) (k : Fin 1024) : (V m c main_v2 : FVec Ideal S3328x1024 .bf16) (ix2 j k) = pad (w m c) j k := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise []
  unfold pad
  split_ifs with h
  · rfl
  · exact sitofp_zero

theorem b0 (t : Fin cfg0.N) (r : Fin 512) (k : Fin 1024) : (iblk m c 0 t : FVec Ideal S512x1024 .f32) (ix2 r k) = x m c (tok t r) k := by
  refine Eq.trans (b := (V m c main_arg0 : FVec Ideal S8192x1024 .f32) (ix2 (tok t r) k)) ?_ ?_
  · blk_ext [iblk, idx t, tok]
  · simp only [V, hostOps0, hostOps0_1, hostOps0_2, List.flatten_cons, List.flatten_nil, List.cons_append, List.nil_append, List.append_nil]
    simp only [StableHlo.TRef.unary, StableHlo.TRef.binary, StableHlo.TRef.of]
    after_results_simp
    rfl

theorem b1 (t : Fin cfg0.N) (z : Fin 1) (k : Fin 1024) : (iblk m c 1 t : FVec Ideal S1x1024 .f32) (ix2 z k) = g m c k := by
  refine Eq.trans (b := (V m c main_v3 : FVec Ideal S1x1024 .f32) (ix2 z k)) ?_ (g_host m c z k)
  blk_ext [iblk, idx t]

theorem b2 (t : Fin cfg0.N) (j : Fin 3328) (k : Fin 1024) : (iblk m c 2 t : FVec Ideal S3328x1024 .bf16) (ix2 j k) = pad (w m c) j k := by
  refine Eq.trans (b := (V m c main_v2 : FVec Ideal S3328x1024 .bf16) (ix2 j k)) ?_ (w_host m c j k)
  blk_ext [iblk, idx t]

theorem g21 (t : Fin cfg0.N) (z : Fin 1) (k : Fin 1024) : k0_pay21 (iblk m c 0 t) (iblk m c 1 t) (iblk m c 2 t) (ix2 z k) = g m c k := by
  unfold k0_pay21
  exact g_pay (fun z k => by pointwise [b1 m c t]) z k

theorem h22 (t : Fin cfg0.N) (r : Fin 256) (k : Fin 1024) : k0_pay22 (iblk m c 0 t) (iblk m c 1 t) (iblk m c 2 t) (ix2 r k) = norm (x m c (lo t r)) (g m c) k := by
  unfold k0_pay22
  exact h_pay (x := x m c) (g := g m c) (ρ := lo t) (fun z k => by pointwise [b1 m c t]) (fun r k => by pointwise [b0 m c t]; rfl) r k

theorem h23 (t : Fin cfg0.N) (r : Fin 256) (k : Fin 1024) : k0_pay23 (iblk m c 0 t) (iblk m c 1 t) (iblk m c 2 t) (ix2 r k) = norm (x m c (hi t r)) (g m c) k := by
  unfold k0_pay23
  exact h_pay' (x := x m c) (g := g m c) (ρ := hi t) (g21 m c t) (fun r k => by pointwise [b0 m c t]; rfl) r k

theorem out3 (t : Fin cfg0.N) (y : S512x1024.Idx) :
    (out0_3 (iblk m c 0 t) (iblk m c 1 t) (iblk m c 2 t) : FVec Ideal S512x1024 .bf16) y = norm (x m c (tok t (y 0))) (g m c) (y 1) := by
  frame_out
  canon_tiles x' h
  · idx_vars x'
    refine (h23 m c t x'0 x'1).trans ?_
    exact congrArg₂ (fun a k => norm (x m c a) (g m c) k) (hi_eq h0) (Fin.ext h1.symm)
  · idx_vars x'
    refine (h22 m c t x'0 x'1).trans ?_
    exact congrArg₂ (fun a k => norm (x m c a) (g m c) k) (lo_eq h0) (Fin.ext h1.symm)

theorem final3 : ((dats m 0 c).arrAt 3 cfg0.N : FVec Ideal S8192x1024 .bf16) = arr2 (fun a k => norm (x m c a) (g m c) k) := by
  refine (dats m 0 c).arrAt_eq_of_covers 3 _ (by decide +kernel) fun t hf y => ?_
  blk_simp
  rw [after0_3]
  idx_vars y
  refine (out3 m c t _).trans ?_
  exact arr2_ext (fun a k => norm (x m c a) (g m c) k) (by blk_ext [idx t, tok])

/-- The projection's column that column `j` of the result is. -/
def o0 (j : Fin 512) : Fin 3328 := ⟨j.val, by omega⟩

theorem out4 (t : Fin cfg0.N) (y : S512x512.Idx) :
    (out0_4 (iblk m c 0 t) (iblk m c 1 t) (iblk m c 2 t) : FVec Ideal S512x512 .f32) y = proj (x m c (tok t (y 0))) (g m c) (w m c) (o0 (y 1)) := by
  frame_out
  canon_tiles x' h
  · idx_vars x'
    refine (p_pay12 (ρ := hi t) (x := x m c) (g := g m c) (w := w m c) (o512 := o0) (g21 m c t) (fun r k => by pointwise [b0 m c t]; rfl) (fun j k => by pointwise [b2 m c t]; rfl) x'0 x'1).trans ?_
    exact congrArg₂ (fun a k => proj (x m c a) (g m c) (w m c) (o0 k)) (hi_eq h0) (Fin.ext h1.symm)
  · idx_vars x'
    refine (p_pay3 (ρ := lo t) (x := x m c) (g := g m c) (w := w m c) (o512 := o0) (b1 m c t) (fun r k => by pointwise [b0 m c t]; rfl) (fun j k => by pointwise [b2 m c t]; rfl) x'0 x'1).trans ?_
    exact congrArg₂ (fun a k => proj (x m c a) (g m c) (w m c) (o0 k)) (lo_eq h0) (Fin.ext h1.symm)

theorem final4 : ((dats m 0 c).arrAt 4 cfg0.N : FVec Ideal S8192x512 .f32) = arr2 (fun a k => proj (x m c a) (g m c) (w m c) (o0 k)) := by
  refine (dats m 0 c).arrAt_eq_of_covers 4 _ (by decide +kernel) fun t hf y => ?_
  blk_simp
  rw [after0_4]
  idx_vars y
  refine (out4 m c t _).trans ?_
  exact arr2_ext (fun a k => proj (x m c a) (g m c) (w m c) (o0 k)) (by blk_ext [idx t, tok])

/-- The projection's column that column `j` of the result is. -/
def o1 (j : Fin 512) : Fin 3328 := ⟨512 + j.val, by omega⟩

theorem out5 (t : Fin cfg0.N) (y : S512x512.Idx) :
    (out0_5 (iblk m c 0 t) (iblk m c 1 t) (iblk m c 2 t) : FVec Ideal S512x512 .f32) y = proj (x m c (tok t (y 0))) (g m c) (w m c) (o1 (y 1)) := by
  frame_out
  canon_tiles x' h
  · idx_vars x'
    refine (p_pay13 (ρ := hi t) (x := x m c) (g := g m c) (w := w m c) (o512 := o1) (g21 m c t) (fun r k => by pointwise [b0 m c t]; rfl) (fun j k => by pointwise [b2 m c t]; rfl) x'0 x'1).trans ?_
    exact congrArg₂ (fun a k => proj (x m c a) (g m c) (w m c) (o1 k)) (hi_eq h0) (Fin.ext h1.symm)
  · idx_vars x'
    refine (p_pay4 (ρ := lo t) (x := x m c) (g := g m c) (w := w m c) (o512 := o1) (b1 m c t) (fun r k => by pointwise [b0 m c t]; rfl) (fun j k => by pointwise [b2 m c t]; rfl) x'0 x'1).trans ?_
    exact congrArg₂ (fun a k => proj (x m c a) (g m c) (w m c) (o1 k)) (lo_eq h0) (Fin.ext h1.symm)

theorem final5 : ((dats m 0 c).arrAt 5 cfg0.N : FVec Ideal S8192x512 .f32) = arr2 (fun a k => proj (x m c a) (g m c) (w m c) (o1 k)) := by
  refine (dats m 0 c).arrAt_eq_of_covers 5 _ (by decide +kernel) fun t hf y => ?_
  blk_simp
  rw [after0_5]
  idx_vars y
  refine (out5 m c t _).trans ?_
  exact arr2_ext (fun a k => proj (x m c a) (g m c) (w m c) (o1 k)) (by blk_ext [idx t, tok])

/-- The projection's column that column `j` of the result is. -/
def o2 (j : Fin 512) : Fin 3328 := ⟨1024 + j.val, by omega⟩

theorem out6 (t : Fin cfg0.N) (y : S512x512.Idx) :
    (out0_6 (iblk m c 0 t) (iblk m c 1 t) (iblk m c 2 t) : FVec Ideal S512x512 .f32) y = proj (x m c (tok t (y 0))) (g m c) (w m c) (o2 (y 1)) := by
  frame_out
  canon_tiles x' h
  · idx_vars x'
    refine (p_pay14 (ρ := hi t) (x := x m c) (g := g m c) (w := w m c) (o512 := o2) (g21 m c t) (fun r k => by pointwise [b0 m c t]; rfl) (fun j k => by pointwise [b2 m c t]; rfl) x'0 x'1).trans ?_
    exact congrArg₂ (fun a k => proj (x m c a) (g m c) (w m c) (o2 k)) (hi_eq h0) (Fin.ext h1.symm)
  · idx_vars x'
    refine (p_pay5 (ρ := lo t) (x := x m c) (g := g m c) (w := w m c) (o512 := o2) (b1 m c t) (fun r k => by pointwise [b0 m c t]; rfl) (fun j k => by pointwise [b2 m c t]; rfl) x'0 x'1).trans ?_
    exact congrArg₂ (fun a k => proj (x m c a) (g m c) (w m c) (o2 k)) (lo_eq h0) (Fin.ext h1.symm)

theorem final6 : ((dats m 0 c).arrAt 6 cfg0.N : FVec Ideal S8192x512 .f32) = arr2 (fun a k => proj (x m c a) (g m c) (w m c) (o2 k)) := by
  refine (dats m 0 c).arrAt_eq_of_covers 6 _ (by decide +kernel) fun t hf y => ?_
  blk_simp
  rw [after0_6]
  idx_vars y
  refine (out6 m c t _).trans ?_
  exact arr2_ext (fun a k => proj (x m c a) (g m c) (w m c) (o2 k)) (by blk_ext [idx t, tok])

/-- The projection's column that column `j` of the result is. -/
def o3 (j : Fin 512) : Fin 3328 := ⟨1536 + j.val, by omega⟩

theorem out7 (t : Fin cfg0.N) (y : S512x512.Idx) :
    (out0_7 (iblk m c 0 t) (iblk m c 1 t) (iblk m c 2 t) : FVec Ideal S512x512 .f32) y = proj (x m c (tok t (y 0))) (g m c) (w m c) (o3 (y 1)) := by
  frame_out
  canon_tiles x' h
  · idx_vars x'
    refine (p_pay15 (ρ := hi t) (x := x m c) (g := g m c) (w := w m c) (o512 := o3) (g21 m c t) (fun r k => by pointwise [b0 m c t]; rfl) (fun j k => by pointwise [b2 m c t]; rfl) x'0 x'1).trans ?_
    exact congrArg₂ (fun a k => proj (x m c a) (g m c) (w m c) (o3 k)) (hi_eq h0) (Fin.ext h1.symm)
  · idx_vars x'
    refine (p_pay6 (ρ := lo t) (x := x m c) (g := g m c) (w := w m c) (o512 := o3) (b1 m c t) (fun r k => by pointwise [b0 m c t]; rfl) (fun j k => by pointwise [b2 m c t]; rfl) x'0 x'1).trans ?_
    exact congrArg₂ (fun a k => proj (x m c a) (g m c) (w m c) (o3 k)) (lo_eq h0) (Fin.ext h1.symm)

theorem final7 : ((dats m 0 c).arrAt 7 cfg0.N : FVec Ideal S8192x512 .f32) = arr2 (fun a k => proj (x m c a) (g m c) (w m c) (o3 k)) := by
  refine (dats m 0 c).arrAt_eq_of_covers 7 _ (by decide +kernel) fun t hf y => ?_
  blk_simp
  rw [after0_7]
  idx_vars y
  refine (out7 m c t _).trans ?_
  exact arr2_ext (fun a k => proj (x m c a) (g m c) (w m c) (o3 k)) (by blk_ext [idx t, tok])

/-- The projection's column that column `j` of the result is. -/
def o4 (j : Fin 512) : Fin 3328 := ⟨2048 + j.val, by omega⟩

theorem out8 (t : Fin cfg0.N) (y : S512x512.Idx) :
    (out0_8 (iblk m c 0 t) (iblk m c 1 t) (iblk m c 2 t) : FVec Ideal S512x512 .f32) y = proj (x m c (tok t (y 0))) (g m c) (w m c) (o4 (y 1)) := by
  frame_out
  canon_tiles x' h
  · idx_vars x'
    refine (p_pay17 (ρ := hi t) (x := x m c) (g := g m c) (w := w m c) (o512 := o4) (h23 m c t) (fun j k => by pointwise [b2 m c t]; rfl) x'0 x'1).trans ?_
    exact congrArg₂ (fun a k => proj (x m c a) (g m c) (w m c) (o4 k)) (hi_eq h0) (Fin.ext h1.symm)
  · idx_vars x'
    refine (p_pay7 (ρ := lo t) (x := x m c) (g := g m c) (w := w m c) (o512 := o4) (b1 m c t) (fun r k => by pointwise [b0 m c t]; rfl) (fun j k => by pointwise [b2 m c t]; rfl) x'0 x'1).trans ?_
    exact congrArg₂ (fun a k => proj (x m c a) (g m c) (w m c) (o4 k)) (lo_eq h0) (Fin.ext h1.symm)

theorem final8 : ((dats m 0 c).arrAt 8 cfg0.N : FVec Ideal S8192x512 .f32) = arr2 (fun a k => proj (x m c a) (g m c) (w m c) (o4 k)) := by
  refine (dats m 0 c).arrAt_eq_of_covers 8 _ (by decide +kernel) fun t hf y => ?_
  blk_simp
  rw [after0_8]
  idx_vars y
  refine (out8 m c t _).trans ?_
  exact arr2_ext (fun a k => proj (x m c a) (g m c) (w m c) (o4 k)) (by blk_ext [idx t, tok])

/-- The projection's column that column `j` of the result is. -/
def o5 (j : Fin 384) : Fin 3328 := ⟨2560 + j.val, by omega⟩

theorem out9 (t : Fin cfg0.N) (y : S512x384.Idx) :
    (out0_9 (iblk m c 0 t) (iblk m c 1 t) (iblk m c 2 t) : FVec Ideal S512x384 .f32) y = proj (x m c (tok t (y 0))) (g m c) (w m c) (o5 (y 1)) := by
  frame_out
  canon_tiles x' h
  · idx_vars x'
    refine (p_pay18 (ρ := hi t) (x := x m c) (g := g m c) (w := w m c) (o384 := o5) (h23 m c t) (fun j k => by pointwise [b2 m c t]; rfl) x'0 x'1).trans ?_
    exact congrArg₂ (fun a k => proj (x m c a) (g m c) (w m c) (o5 k)) (hi_eq h0) (Fin.ext h1.symm)
  · idx_vars x'
    refine (p_pay8 (ρ := lo t) (x := x m c) (g := g m c) (w := w m c) (o384 := o5) (h22 m c t) (fun j k => by pointwise [b2 m c t]; rfl) x'0 x'1).trans ?_
    exact congrArg₂ (fun a k => proj (x m c a) (g m c) (w m c) (o5 k)) (lo_eq h0) (Fin.ext h1.symm)

theorem final9 : ((dats m 0 c).arrAt 9 cfg0.N : FVec Ideal S8192x384 .f32) = arr2 (fun a k => proj (x m c a) (g m c) (w m c) (o5 k)) := by
  refine (dats m 0 c).arrAt_eq_of_covers 9 _ (by decide +kernel) fun t hf y => ?_
  blk_simp
  rw [after0_9]
  idx_vars y
  refine (out9 m c t _).trans ?_
  exact arr2_ext (fun a k => proj (x m c a) (g m c) (w m c) (o5 k)) (by blk_ext [idx t, tok])

/-- The projection's column that column `j` of the result is. -/
def o6 (j : Fin 256) : Fin 3328 := ⟨2944 + j.val, by omega⟩

theorem out10 (t : Fin cfg0.N) (y : S512x256.Idx) :
    (out0_10 (iblk m c 0 t) (iblk m c 1 t) (iblk m c 2 t) : FVec Ideal S512x256 .f32) y = proj (x m c (tok t (y 0))) (g m c) (w m c) (o6 (y 1)) := by
  frame_out
  canon_tiles x' h
  · idx_vars x'
    refine (p_pay19 (ρ := hi t) (x := x m c) (g := g m c) (w := w m c) (o256 := o6) (h23 m c t) (fun j k => by pointwise [b2 m c t]; rfl) x'0 x'1).trans ?_
    exact congrArg₂ (fun a k => proj (x m c a) (g m c) (w m c) (o6 k)) (hi_eq h0) (Fin.ext h1.symm)
  · idx_vars x'
    refine (p_pay9 (ρ := lo t) (x := x m c) (g := g m c) (w := w m c) (o256 := o6) (h22 m c t) (fun j k => by pointwise [b2 m c t]; rfl) x'0 x'1).trans ?_
    exact congrArg₂ (fun a k => proj (x m c a) (g m c) (w m c) (o6 k)) (lo_eq h0) (Fin.ext h1.symm)

theorem final10 : ((dats m 0 c).arrAt 10 cfg0.N : FVec Ideal S8192x256 .f32) = arr2 (fun a k => proj (x m c a) (g m c) (w m c) (o6 k)) := by
  refine (dats m 0 c).arrAt_eq_of_covers 10 _ (by decide +kernel) fun t hf y => ?_
  blk_simp
  rw [after0_10]
  idx_vars y
  refine (out10 m c t _).trans ?_
  exact arr2_ext (fun a k => proj (x m c a) (g m c) (w m c) (o6 k)) (by blk_ext [idx t, tok])

/-- The projection's column that column `j` of the result is. -/
def o7 (j : Fin 128) : Fin 3328 := ⟨3200 + j.val, by omega⟩

theorem out11 (t : Fin cfg0.N) (y : S512x128.Idx) :
    (out0_11 (iblk m c 0 t) (iblk m c 1 t) (iblk m c 2 t) : FVec Ideal S512x128 .f32) y = proj (x m c (tok t (y 0))) (g m c) (w m c) (o7 (y 1)) := by
  frame_out
  canon_tiles x' h
  · idx_vars x'
    refine (p_pay20 (ρ := hi t) (x := x m c) (g := g m c) (w := w m c) (o128 := o7) (h23 m c t) (fun j k => by pointwise [b2 m c t]; rfl) x'0 x'1).trans ?_
    exact congrArg₂ (fun a k => proj (x m c a) (g m c) (w m c) (o7 k)) (hi_eq h0) (Fin.ext h1.symm)
  · idx_vars x'
    refine (p_pay10 (ρ := lo t) (x := x m c) (g := g m c) (w := w m c) (o128 := o7) (h22 m c t) (fun j k => by pointwise [b2 m c t]; rfl) x'0 x'1).trans ?_
    exact congrArg₂ (fun a k => proj (x m c a) (g m c) (w m c) (o7 k)) (lo_eq h0) (Fin.ext h1.symm)

theorem final11 : ((dats m 0 c).arrAt 11 cfg0.N : FVec Ideal S8192x128 .f32) = arr2 (fun a k => proj (x m c a) (g m c) (w m c) (o7 k)) := by
  refine (dats m 0 c).arrAt_eq_of_covers 11 _ (by decide +kernel) fun t hf y => ?_
  blk_simp
  rw [after0_11]
  idx_vars y
  refine (out11 m c t _).trans ?_
  exact arr2_ext (fun a k => proj (x m c a) (g m c) (w m c) (o7 k)) (by blk_ext [idx t, tok])

/-! The reference's results. -/

section
variable (X0 : FVec Ideal S8192x1024 .f32) (X1 : FVec Ideal S1024 .f32) (X2 : FVec Ideal S1024x3264 .f32)

theorem norm_read (a : Fin 8192) (k : Fin 1024) :
    val_main_v12 (F := Ideal) X0 X1 (ix2 a k) = norm (fun k => X0 (ix2 a k)) (fun k => X1 (ix1 k)) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  try simp only [zero_add]
  rfl

theorem proj_read (a : Fin 8192) (j : Fin 3264) :
    val_main_v13 (F := Ideal) X0 X1 X2 (ix2 a j)
      = proj (fun k => X0 (ix2 a k)) (fun k => X1 (ix1 k)) (fun k j => X2 (ix2 k j)) ⟨j.val, by omega⟩ := by
  pointwise [val_main_v13, norm_read X0 X1]
  exact proj_in (fun k => X0 (ix2 a k)) (fun k => X1 (ix1 k)) (fun k j => X2 (ix2 k j)) j

theorem key_read (a : Fin 8192) (j : Fin 128) :
    val_main_v23 (F := Ideal) X0 X1 X2 (ix2 a j)
      = proj (fun k => X0 (ix2 a k)) (fun k => X1 (ix1 k)) (fun k j => X2 (ix2 k j)) (o7 j) := by
  pointwise [val_main_v23, val_main_call0_v0, val_main_c, val_main_v21, proj_read X0 X1 X2]
  split_ifs with h
  · exact congrArg _ (Fin.ext rfl)
  · rw [proj_out _ _ _ _ (by simp only [o7]; omega)]
    exact sitofp_zero
end

theorem algebraic : Cert.algebraic_KernelInFwdIdeal_ReferenceInFwdIdeal := by
  pair_intro
  · run_from Cert.KernelInFwdIdeal.Value.run_blocks m g
  · run_from Cert.ReferenceInFwdIdeal.Value.run m' g'
    · refine Eq.trans ?_ (final3 m c).symm
      refine (val_main_v22_eq _ _).trans (funext fun i => ?_)
      idx_vars i
      pointwise [val_main_v22, norm_read]
      rfl
    · refine Eq.trans ?_ (final4 m c).symm
      refine (val_main_v14_eq _ _ _).trans (funext fun i => ?_)
      idx_vars i
      pointwise [val_main_v14, proj_read]
      rfl
    · refine Eq.trans ?_ (final5 m c).symm
      refine (val_main_v15_eq _ _ _).trans (funext fun i => ?_)
      idx_vars i
      pointwise [val_main_v15, proj_read]
      rfl
    · refine Eq.trans ?_ (final6 m c).symm
      refine (val_main_v16_eq _ _ _).trans (funext fun i => ?_)
      idx_vars i
      pointwise [val_main_v16, proj_read]
      rfl
    · refine Eq.trans ?_ (final7 m c).symm
      refine (val_main_v17_eq _ _ _).trans (funext fun i => ?_)
      idx_vars i
      pointwise [val_main_v17, proj_read]
      rfl
    · refine Eq.trans ?_ (final8 m c).symm
      refine (val_main_v18_eq _ _ _).trans (funext fun i => ?_)
      idx_vars i
      pointwise [val_main_v18, proj_read]
      rfl
    · refine Eq.trans ?_ (final9 m c).symm
      refine (val_main_v19_eq _ _ _).trans (funext fun i => ?_)
      idx_vars i
      pointwise [val_main_v19, proj_read]
      rfl
    · refine Eq.trans ?_ (final10 m c).symm
      refine (val_main_v20_eq _ _ _).trans (funext fun i => ?_)
      idx_vars i
      pointwise [val_main_v20, proj_read]
      rfl
    · refine Eq.trans ?_ (final11 m c).symm
      refine (val_main_v23_eq _ _ _).trans (funext fun i => ?_)
      idx_vars i
      exact key_read _ _ _ i0 i1

/-- The reference's frame. -/
theorem reference_frame : Cert.quiescent_ReferenceInFwdIdeal := by
  intro m g _
  exact (θ_run Cert.ReferenceInFwdIdeal.defs _ _).mono
    (fun r h => ⟨fun c => (h c).2.2.2.2.2.2.2.2.2, sem_eq_zero_of_no_sems (sig := Cert.ReferenceInFwdIdeal.sig) rfl _⟩)
    (Cert.ReferenceInFwdIdeal.Value.run m g)

end Cert.InFwd
end
end
-- ==== Proof.OutBwd.Finite.lean ====
/- A precondition that says every argument element is a real number, read back. -/
module

public import proofs.«01_k».proof.Proof.Gen.Pre_finite_out_bwd
public import proofs.«01_k».proof.Proof.Finite

@[expose] public section

set_option maxRecDepth 16384

noncomputable section

namespace Cert.OutBwd

open Idealize.ShloMosaic Idealize.ShloMosaic.TcCoe Idealize.ShloMosaic.StableHlo Cert.Pre_finite_out_bwd Cert.Pre_finite_out_bwd.Facts
open Cert.Finite (all_real and_one)

variable [Cert.Pre_finite_out_bwd.Facts]

theorem reals (x0 : FVec Ideal S8192x1024 .f32) (x1 : FVec Ideal S8192x512 .f32) (x2 : FVec Ideal S8192x512 .f32) (x3 : FVec Ideal S8192x512 .f32) (x4 : FVec Ideal S8192x512 .f32) (x5 : FVec Ideal S512 .f32) (x6 : FVec Ideal S512 .f32) (x7 : FVec Ideal S1024x1024 .f32)
    (h : fn (F := Ideal) x0 x1 x2 x3 x4 x5 x6 x7 = fun _ => 1#1) :
    (∀ i, x0 i = ((x0 i).toReal : EReal))
      ∧ (∀ i, x1 i = ((x1 i).toReal : EReal))
      ∧ (∀ i, x2 i = ((x2 i).toReal : EReal))
      ∧ (∀ i, x3 i = ((x3 i).toReal : EReal))
      ∧ (∀ i, x4 i = ((x4 i).toReal : EReal))
      ∧ (∀ i, x5 i = ((x5 i).toReal : EReal))
      ∧ (∀ i, x6 i = ((x6 i).toReal : EReal))
      ∧ (∀ i, x7 i = ((x7 i).toReal : EReal)) := by
  obtain ⟨h, e7⟩ := and_one h
  obtain ⟨h, e6⟩ := and_one h
  obtain ⟨h, e5⟩ := and_one h
  obtain ⟨h, e4⟩ := and_one h
  obtain ⟨h, e3⟩ := and_one h
  obtain ⟨h, e2⟩ := and_one h
  obtain ⟨e0, e1⟩ := and_one h
  exact ⟨all_real _ _ _ _ _ e0, all_real _ _ _ _ _ e1, all_real _ _ _ _ _ e2, all_real _ _ _ _ _ e3, all_real _ _ _ _ _ e4, all_real _ _ _ _ _ e5, all_real _ _ _ _ _ e6, all_real _ _ _ _ _ e7⟩

end Cert.OutBwd
end
end
-- ==== Proof.OutBwd.Real.lean ====
/- The gradients of the mixers' norms and of the output projection on real numbers, token by token. -/
module

public import proofs.«01_k».proof.Proof.Ffn.Real

@[expose] public section

noncomputable section

open Idealize.ShloMosaic

namespace Cert.OutBwd

open Cert.Ffn (sg eps eps_pos)

theorem c_512 : Ideal.ofBits .f32 0x44000000#32 = ((512 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_inv64 : Ideal.ofBits .f32 0x3C800000#32 = ((1 / 64 : ℝ) : EReal) := by
  simp [Ideal.ofBits, Ideal.ieee, -EReal.coe_mul]; norm_num

/-! ## A norm of `n` features, with their mean taken by `c` -/

section
variable {n : ℕ} (c : ℝ) (hc : 0 < c) (x d : Fin n → ℝ)

/-- The mean square plus epsilon. -/
def ms : ℝ := (∑ k, x k * x k) * (1 / c) + eps

/-- Its reciprocal square root. -/
def rr : ℝ := (Real.sqrt (ms c x))⁻¹

include hc in
theorem ms_pos : 0 < ms c x := by
  have h : 0 ≤ ∑ k, x k * x k := Finset.sum_nonneg fun k _ => mul_self_nonneg _
  have := eps_pos
  unfold ms; positivity

include hc in
theorem rr_div : rr c x * (1 / ms c x) = rr c x * rr c x * rr c x := by
  have h : rr c x * rr c x = 1 / ms c x := by
    unfold rr; rw [← mul_inv, Real.mul_self_sqrt (ms_pos c hc x).le, one_div]
  rw [← h]; ring

/-- The gradient of the normalised features, as one product and one mean. -/
def rmsGrad (k : Fin n) : ℝ :=
  rr c x * (d k - x k * rr c x * ((∑ l, d l * (x l * rr c x)) * (1 / c)))

include hc in
/-- The same gradient, as differentiating the mean square writes it. -/
theorem rmsGrad_vjp (k : Fin n) :
    d k * rr c x + x k * ((∑ l, x l * d l) * (-(1 / 2) * (rr c x * (1 / ms c x))) * (1 / c))
      + (∑ l, x l * d l) * (-(1 / 2) * (rr c x * (1 / ms c x))) * (1 / c) * x k = rmsGrad c x d k := by
  have hs : ∑ l, d l * (x l * rr c x) = rr c x * ∑ l, x l * d l := by
    rw [Finset.mul_sum]; exact Finset.sum_congr rfl fun l _ => by ring
  rw [rr_div c hc, rmsGrad, hs]; ring
end

/-! ## Heads of 64 lanes -/

/-- The head of a lane, and the lane in its head. -/
def hd (j : Fin 512) : Fin 8 := ⟨j.val / 64, by omega⟩
def ln (j : Fin 512) : Fin 64 := ⟨j.val % 64, by omega⟩

def lane (h : Fin 8) (l : Fin 64) : Fin 512 := ⟨h.val * 64 + l.val, by omega⟩

theorem lane_eq (j : Fin 512) : lane (hd j) (ln j) = j := Fin.ext (by simp only [lane, hd, ln]; omega)

/-- The sum over all lanes of one head is the head's sum. -/
theorem head_sum (f : Fin 512 → ℝ) (h : Fin 8) :
    ∑ k : Fin 512, f k * (if k.val / 64 = h.val then 1 else 0) = ∑ l, f (lane h l) := by
  rw [Fin.sum_univ_tiles 8 64 rfl, Finset.sum_eq_single h]
  · refine Finset.sum_congr rfl fun l _ => ?_
    rw [if_pos (by simp; omega), mul_one]
    exact congrArg f (Fin.ext (by simp [lane]))
  · intro b _ hb
    refine Finset.sum_eq_zero fun l _ => ?_
    rw [if_neg (by simp; intro e; exact hb (Fin.ext (by omega))), mul_zero]
  · intro hn
    exact absurd (Finset.mem_univ h) hn

/-- The attention's heads are of 128 lanes. -/
def wide (h : Fin 4) (l : Fin 128) : Fin 512 := ⟨h.val * 128 + l.val, by omega⟩

theorem wide_sum (f : Fin 512 → ℝ) (h : Fin 4) :
    ∑ k : Fin 512, (if h.val = k.val / 128 then 1 else 0) * f k = ∑ l, f (wide h l) := by
  rw [Fin.sum_univ_tiles 4 128 rfl, Finset.sum_eq_single h]
  · refine Finset.sum_congr rfl fun l _ => ?_
    rw [if_pos (by simp; omega), one_mul]
    exact congrArg f (Fin.ext (by simp [wide]))
  · intro b _ hb
    refine Finset.sum_eq_zero fun l _ => ?_
    rw [if_neg (by simp; intro e; exact hb (Fin.ext (by omega))), zero_mul]
  · intro hn
    exact absurd (Finset.mem_univ h) hn

/-- The array of three axes whose entries are the real function's. -/
def arr3 {n p k : ℕ} (f : Fin n → Fin p → Fin k → ℝ) : (⟨3, ![n, p, k]⟩ : Shape).Idx → EReal := fun i => (f (i 0) (i 1) (i 2) : EReal)

theorem arr3_ext {n p k : ℕ} (f : Fin n → Fin p → Fin k → ℝ) {a : Fin n} {b : Fin p} {d : Fin k} {i : (⟨3, ![n, p, k]⟩ : Shape).Idx}
    (h : ix3 a b d = i) : (f a b d : EReal) = arr3 f i := by subst h; rfl

/-- The arguments, as real numbers. -/
structure Args where
  dx : Fin 8192 → Fin 1024 → ℝ
  of : Fin 8192 → Fin 512 → ℝ
  or : Fin 8192 → Fin 512 → ℝ
  hg : Fin 8192 → Fin 512 → ℝ
  oa : Fin 8192 → Fin 512 → ℝ
  gh : Fin 512 → ℝ
  gm : Fin 512 → ℝ
  w : Fin 1024 → Fin 1024 → ℝ

namespace Args
variable (A : Args)

/-- The gradient at the projection's input, and its two halves. -/
def dy (a : Fin 8192) (j : Fin 1024) : ℝ := ∑ k, A.dx a k * A.w j k
def dya (a : Fin 8192) (j : Fin 512) : ℝ := A.dy a ⟨j.val, by omega⟩
def dyb (a : Fin 8192) (j : Fin 512) : ℝ := A.dy a ⟨512 + j.val, by omega⟩

/-- The recurrence's result, a head's lanes of it, and its norm. -/
def o (a : Fin 8192) (j : Fin 512) : ℝ := A.of a j + A.or a j
def oh (a : Fin 8192) (h : Fin 8) (l : Fin 64) : ℝ := A.o a (lane h l)
def rh (a : Fin 8192) (h : Fin 8) : ℝ := rr 64 (A.oh a h)
def on (a : Fin 8192) (j : Fin 512) : ℝ := A.o a j * A.rh a (hd j)

def dhg (a : Fin 8192) (j : Fin 512) : ℝ :=
  A.dya a j * (A.on a j * A.gh j) * (sg (A.hg a j) * (1 + A.hg a j * (1 - sg (A.hg a j))))
def don (a : Fin 8192) (j : Fin 512) : ℝ := A.dya a j * (A.hg a j * sg (A.hg a j)) * A.gh j
def do_ (a : Fin 8192) (j : Fin 512) : ℝ := rmsGrad 64 (A.oh a (hd j)) (fun l => A.don a (lane (hd j) l)) (ln j)
def doa (a : Fin 8192) (j : Fin 512) : ℝ := rmsGrad 512 (A.oa a) (fun l => A.dyb a l * A.gm l) j
def delta (h : Fin 4) (a : Fin 8192) : ℝ := ∑ l, A.doa a (wide h l) * A.oa a (wide h l)
def dghRow (a : Fin 8192) (j : Fin 512) : ℝ := A.dya a j * (A.hg a j * sg (A.hg a j)) * A.on a j
def dgmRow (a : Fin 8192) (j : Fin 512) : ℝ := A.dyb a j * (A.oa a j * rr 512 (A.oa a))

end Args
end Cert.OutBwd
end
end
-- ==== Proof.OutBwd.Ker.lean ====
/- The body's stored blocks over real inputs. -/
module

public import proofs.«01_k».proof.Proof.Gen.KernelOutBwdIdeal.Skeleton
public import proofs.«01_k».proof.Proof.OutBwd.Real

@[expose] public section

set_option maxRecDepth 16384

noncomputable section

namespace Cert.OutBwd.Ker

open Cert.KernelOutBwdIdeal Cert.KernelOutBwdIdeal.Gen
open Cert.Ffn (sg mulE addE subE negE sumE divE rsqrtE logisticE c_eps)
open Idealize.ShloMosaic Idealize.ShloMosaic.TcCoe

/-- Floor division by a power of two, as the body writes it. -/
def fdiv (d x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt d 0#32))
          (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

theorem fdiv_64 : ∀ b : Fin 512, fdiv 64#32 (BitVec.ofNat 32 b.val) = BitVec.ofNat 32 (b.val / 64) := by decide +kernel
theorem fdiv_128 : ∀ b : Fin 512, fdiv 128#32 (BitVec.ofNat 32 b.val) = BitVec.ofNat 32 (b.val / 128) := by decide +kernel

/-- The comparison's bit as a number. -/
def bit (x y : BitVec 32) : Ideal .f32 := FloatOps.sitofp .f32 (BitVec.setWidth 32 (IntOp.cmpi CmpIPredicate.eq x y))

theorem bit_val : ∀ a b : Fin 8, (BitVec.setWidth 32 (IntOp.cmpi CmpIPredicate.eq (BitVec.ofNat 32 a.val) (BitVec.ofNat 32 b.val)) : BitVec 32)
    = if a.val = b.val then 1#32 else 0#32 := by decide +kernel

theorem bit_eq (a b : Fin 8) : bit (BitVec.ofNat 32 a.val) (BitVec.ofNat 32 b.val) = ((if a.val = b.val then 1 else 0 : ℝ) : EReal) := by
  unfold bit
  rw [bit_val]
  split_ifs <;> simp [FloatOps.sitofp]

theorem row_pay (a b : Fin 512) : k0_pay7 (ix2 a b) = BitVec.ofNat 32 (a.val / 64) := by
  pointwise [k0_pay7]
  exact fdiv_64 a

theorem ones_pay (a b : Fin 512) : k0_pay11 (F := Ideal) k0_pay7 k0_pay8 k0_pay9 k0_pay10 0#32 (ix2 a b) = ((if a.val / 64 = (hd b).val then 1 else 0 : ℝ) : EReal) := by
  pointwise [k0_pay11, k0_pay8, k0_pay9, k0_pay10, row_pay]
  exact (congrArg (bit _) (fdiv_64 b)).trans (bit_eq (hd a) (hd b))

theorem sel_pay (a : Fin 8) (b : Fin 512) : k0_pay12 (F := Ideal) (ix2 a b) = ((if a.val = b.val / 128 then 1 else 0 : ℝ) : EReal) := by
  pointwise [k0_pay12]
  exact (congrArg (bit _) (fdiv_128 b)).trans (bit_eq a ⟨b.val / 128, by omega⟩)

theorem do_eq (A : Args) (a : Fin 8192) (j : Fin 512) :
    A.rh a (hd j) * (A.don a j - A.on a j * ((∑ l, A.don a (lane (hd j) l) * A.on a (lane (hd j) l)) * (1 / 64))) = A.do_ a j := by
  have h : ∀ l, A.on a (lane (hd j) l) = A.oh a (hd j) l * A.rh a (hd j) := fun l => by
    have e : hd (lane (hd j) l) = hd j := Fin.ext (by simp only [hd, lane]; omega)
    rw [Args.on, e]; rfl
  simp only [h]
  unfold Args.do_ rmsGrad
  simp only [lane_eq]
  rw [show A.oh a (hd j) (ln j) = A.o a j from congrArg (A.o a) (lane_eq j)]
  rfl

variable {A : OutBwd.Args} {ρ : Fin 256 → Fin 8192}

theorem p13 {v85 : FVec Ideal S1x512 .f32} (h_v85 : ∀ (r : Fin 1) (k : Fin 512), v85 (ix2 r k) = ((A.gh k : ℝ) : EReal)) (r : Fin 1) (k : Fin 512) : k0_pay13 (F := Ideal) v85 (ix2 r k) = ((A.gh k : ℝ) : EReal) := by
  pointwise [k0_pay13, h_v85]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p14 {v87 : FVec Ideal S1x512 .f32} (h_v87 : ∀ (r : Fin 1) (k : Fin 512), v87 (ix2 r k) = ((A.gm k : ℝ) : EReal)) (r : Fin 1) (k : Fin 512) : k0_pay14 (F := Ideal) v87 (ix2 r k) = ((A.gm k : ℝ) : EReal) := by
  pointwise [k0_pay14, h_v87]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p15 {v89 : FVec Ideal S256x1024 .bf16} (h_v89 : ∀ (r : Fin 256) (k : Fin 1024), v89 (ix2 r k) = ((A.dx (ρ r) k : ℝ) : EReal)) (r : Fin 256) (k : Fin 1024) : k0_pay15 (F := Ideal) v89 (ix2 r k) = ((A.dx (ρ r) k : ℝ) : EReal) := by
  pointwise [k0_pay15, h_v89]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p16 {v95 : FVec Ideal S256x1024 .bf16} (h_v95 : ∀ (r : Fin 256) (k : Fin 1024), v95 (ix2 r k) = ((A.dx (ρ r) k : ℝ) : EReal)) (r : Fin 256) (k : Fin 1024) : k0_pay16 (F := Ideal) v95 (ix2 r k) = ((A.dx (ρ r) k : ℝ) : EReal) := by
  pointwise [k0_pay16, h_v95]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p17 {v101 : FVec Ideal S256x1024 .bf16} (h_v101 : ∀ (r : Fin 256) (k : Fin 1024), v101 (ix2 r k) = ((A.dx (ρ r) k : ℝ) : EReal)) (r : Fin 256) (k : Fin 1024) : k0_pay17 (F := Ideal) v101 (ix2 r k) = ((A.dx (ρ r) k : ℝ) : EReal) := by
  pointwise [k0_pay17, h_v101]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p18 {v107 : FVec Ideal S256x1024 .bf16} (h_v107 : ∀ (r : Fin 256) (k : Fin 1024), v107 (ix2 r k) = ((A.dx (ρ r) k : ℝ) : EReal)) (r : Fin 256) (k : Fin 1024) : k0_pay18 (F := Ideal) v107 (ix2 r k) = ((A.dx (ρ r) k : ℝ) : EReal) := by
  pointwise [k0_pay18, h_v107]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p19 {v90 : FVec Ideal S256x1024 .bf16} (h_v90 : ∀ (r : Fin 256) (k : Fin 1024), v90 (ix2 r k) = ((A.dx (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay19 (F := Ideal) v90 v113 (ix2 r k) = ((A.dya (ρ r) k : ℝ) : EReal) := by
  pointwise [k0_pay19, h_v90, h_v113]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p20 {v90 : FVec Ideal S256x1024 .bf16} (h_v90 : ∀ (r : Fin 256) (k : Fin 1024), v90 (ix2 r k) = ((A.dx (ρ r) k : ℝ) : EReal)) {v116 : FVec Ideal S512x1024 .bf16} (h_v116 : ∀ (r : Fin 512) (k : Fin 1024), v116 (ix2 r k) = ((A.w ⟨512 + r.val, by omega⟩ k : ℝ) : EReal)) (r : Fin 256) (k : Fin 512) : k0_pay20 (F := Ideal) v90 v116 (ix2 r k) = ((A.dyb (ρ r) k : ℝ) : EReal) := by
  pointwise [k0_pay20, h_v90, h_v116]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p21 {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) (r : Fin 256) (k : Fin 512) : k0_pay21 (F := Ideal) v91 v92 (ix2 r k) = ((A.o (ρ r) k : ℝ) : EReal) := by
  pointwise [k0_pay21, h_v91, h_v92]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p22 {v54 : FVec Ideal S512x512 .bf16} (h_v54 : ∀ (r k : Fin 512), v54 (ix2 r k) = ((if r.val / 64 = (hd k).val then 1 else 0 : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) (r : Fin 256) (k : Fin 512) : k0_pay22 (F := Ideal) v54 v91 v92 (ix2 r k) = ((A.rh (ρ r) (hd k) : ℝ) : EReal) := by
  pointwise [k0_pay22, h_v54, p21 h_v91 h_v92]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  rw [head_sum (fun k => A.o (ρ r) k * A.o (ρ r) k) (hd k)]
  exact rsqrtE _ (ms_pos 64 (by norm_num) (A.oh (ρ r) (hd k)))

theorem p23 {v54 : FVec Ideal S512x512 .bf16} (h_v54 : ∀ (r k : Fin 512), v54 (ix2 r k) = ((if r.val / 64 = (hd k).val then 1 else 0 : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) (r : Fin 256) (k : Fin 512) : k0_pay23 (F := Ideal) v54 v91 v92 (ix2 r k) = ((A.on (ρ r) k : ℝ) : EReal) := by
  pointwise [k0_pay23, p21 h_v91 h_v92, p22 h_v54 h_v91 h_v92]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p24 {v93 : FVec Ideal S256x512 .f32} (h_v93 : ∀ (r : Fin 256) (k : Fin 512), v93 (ix2 r k) = ((A.hg (ρ r) k : ℝ) : EReal)) (r : Fin 256) (k : Fin 512) : k0_pay24 (F := Ideal) v93 (ix2 r k) = ((sg (A.hg (ρ r) k) : ℝ) : EReal) := by
  pointwise [k0_pay24, h_v93]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p25 {v93 : FVec Ideal S256x512 .f32} (h_v93 : ∀ (r : Fin 256) (k : Fin 512), v93 (ix2 r k) = ((A.hg (ρ r) k : ℝ) : EReal)) (r : Fin 256) (k : Fin 512) : k0_pay25 (F := Ideal) v93 (ix2 r k) = ((A.hg (ρ r) k * sg (A.hg (ρ r) k) : ℝ) : EReal) := by
  pointwise [k0_pay25, h_v93, p24 h_v93]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p26 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay26 (F := Ideal) v54 v86 v90 v91 v92 v93 v113 (ix2 r k) = ((A.dhg (ρ r) k : ℝ) : EReal) := by
  pointwise [k0_pay26, h_v86, h_v93, p23 h_v54 h_v91 h_v92, p19 h_v90 h_v113, p24 h_v93]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p27 {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay27 (F := Ideal) v86 v90 v93 v113 (ix2 r k) = ((A.don (ρ r) k : ℝ) : EReal) := by
  pointwise [k0_pay27, h_v86, p19 h_v90 h_v113, p25 h_v93]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p28 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay28 (F := Ideal) v54 v86 v90 v91 v92 v93 v113 (ix2 r k) = ((A.don (ρ r) k * A.on (ρ r) k : ℝ) : EReal) := by
  pointwise [k0_pay28, p27 h_v86 h_v90 h_v93 h_v113, p23 h_v54 h_v91 h_v92]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p29 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay29 (F := Ideal) v54 v86 v90 v91 v92 v93 v113 (ix2 r k) = ((A.don (ρ r) k * A.on (ρ r) k : ℝ) : EReal) := by
  pointwise [k0_pay29, p28 h_v54 h_v86 h_v90 h_v91 h_v92 h_v93 h_v113]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p30 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay30 (F := Ideal) v54 v86 v90 v91 v92 v93 v113 (ix2 r k) = ((0 : ℝ) : EReal) := by
  pointwise [k0_pay30, p29 h_v54 h_v86 h_v90 h_v91 h_v92 h_v93 h_v113, p28 h_v54 h_v86 h_v90 h_v91 h_v92 h_v93 h_v113]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p31 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v90 : FVec Ideal S256x1024 .bf16} (h_v90 : ∀ (r : Fin 256) (k : Fin 1024), v90 (ix2 r k) = ((A.dx (ρ r) k : ℝ) : EReal)) {v91 : FVec Ideal S256x512 .f32} (h_v91 : ∀ (r : Fin 256) (k : Fin 512), v91 (ix2 r k) = ((A.of (ρ r) k : ℝ) : EReal)) {v92 : FVec Ideal S256x512 .f32} (h_v92 : ∀ (r : Fin 256) (k : Fin 512), v92 (ix2 r k) = ((A.or (ρ r) k : ℝ) : EReal)) {v93 : FVec Ideal S256x512 .f32} (h_v93 : ∀ (r : Fin 256) (k : Fin 512), v93 (ix2 r k) = ((A.hg (ρ r) k : ℝ) : EReal)) {v113 : FVec Ideal S512x1024 .bf16} (h_v113 : ∀ (r : Fin 512) (k : Fin 1024), v113 (ix2 r k) = ((A.w ⟨r.val, by omega⟩ k : ℝ) : EReal)) (r : Fin 256) (k : Fin 512) : k0_pay31 (F := Ideal) v54 v86 v90 v91 v92 v93 v113 (ix2 r k) = ((0 : ℝ) : EReal) := by
  pointwise [k0_pay31, p30 h_v54 h_v86 h_v90 h_v91 h_v92 h_v93 h_v113]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p32 {v54 : FVec Ideal S512x512 .bf16} (h_v54 : ∀ (r k : Fin 512), v54 (ix2 r k) = ((if r.val / 64 = (hd k).val then 1 else 0 : ℝ) : EReal)) {v137 : FVec Ideal S256x512 .f32} (h_v137 : ∀ (r : Fin 256) (k : Fin 512), v137 (ix2 r k) = ((A.rh (ρ r) (hd k) : ℝ) : EReal)) {v138 : FVec Ideal S256x512 .f32} (h_v138 : ∀ (r : Fin 256) (k : Fin 512), v138 (ix2 r k) = ((A.on (ρ r) k : ℝ) : EReal)) {v154 : FVec Ideal S256x512 .f32} (h_v154 : ∀ (r : Fin 256) (k : Fin 512), v154 (ix2 r k) = ((A.don (ρ r) k : ℝ) : EReal)) {v156 : FVec Ideal S256x512 .bf16} (h_v156 : ∀ (r : Fin 256) (k : Fin 512), v156 (ix2 r k) = ((A.don (ρ r) k * A.on (ρ r) k : ℝ) : EReal)) {v158 : FVec Ideal S256x512 .f32} (h_v158 : ∀ (r : Fin 256) (k : Fin 512), v158 (ix2 r k) = ((0 : ℝ) : EReal)) {v159 : FVec Ideal S256x512 .bf16} (h_v159 : ∀ (r : Fin 256) (k : Fin 512), v159 (ix2 r k) = ((0 : ℝ) : EReal)) (r : Fin 256) (k : Fin 512) : k0_pay32 (F := Ideal) v54 v137 v138 v154 v156 v158 v159 (ix2 r k) = ((A.do_ (ρ r) k : ℝ) : EReal) := by
  pointwise [k0_pay32, h_v54, h_v137, h_v138, h_v154, h_v156, h_v158, h_v159]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  first | rw [head_sum (fun k => A.don (ρ r) k * A.on (ρ r) k) (hd k)] | rw [head_sum (fun k => A.dya (ρ r) k * (A.hg (ρ r) k * sg (A.hg (ρ r) k)) * A.gh k * A.on (ρ r) k) (hd k)]
  exact congrArg _ (do_eq A (ρ r) k)

theorem p33 {v94 : FVec Ideal S256x512 .f32} (h_v94 : ∀ (r : Fin 256) (k : Fin 512), v94 (ix2 r k) = ((A.oa (ρ r) k : ℝ) : EReal)) (r : Fin 256) (z : Fin 1) : k0_pay33 (F := Ideal) v94 (ix2 r z) = ((rr 512 (A.oa (ρ r)) : ℝ) : EReal) := by
  pointwise [k0_pay33, h_v94]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  exact rsqrtE _ (ms_pos 512 (by norm_num) (A.oa (ρ r)))

theorem p34 {v94 : FVec Ideal S256x512 .f32} (h_v94 : ∀ (r : Fin 256) (k : Fin 512), v94 (ix2 r k) = ((A.oa (ρ r) k : ℝ) : EReal)) (r : Fin 256) (k : Fin 512) : k0_pay34 (F := Ideal) v94 (ix2 r k) = ((A.oa (ρ r) k * rr 512 (A.oa (ρ r)) : ℝ) : EReal) := by
  pointwise [k0_pay34, h_v94, p33 h_v94]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p35 {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay35 (F := Ideal) v88 v94 v118 (ix2 r k) = ((A.doa (ρ r) k : ℝ) : EReal) := by
  pointwise [k0_pay35, h_v88, h_v118, p34 h_v94, p33 h_v94]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p36 {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay36 (F := Ideal) v94 v118 (ix2 r k) = ((A.dgmRow (ρ r) k : ℝ) : EReal) := by
  pointwise [k0_pay36, h_v118, p34 h_v94]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p37 {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay37 (F := Ideal) v88 v94 v118 (ix2 r k) = ((A.doa (ρ r) k * A.oa (ρ r) k : ℝ) : EReal) := by
  pointwise [k0_pay37, h_v94, p35 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p38 {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay38 (F := Ideal) v88 v94 v118 (ix2 r k) = ((A.doa (ρ r) k * A.oa (ρ r) k : ℝ) : EReal) := by
  pointwise [k0_pay38, p37 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p39 {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay39 (F := Ideal) v88 v94 v118 (ix2 r k) = ((0 : ℝ) : EReal) := by
  pointwise [k0_pay39, p38 h_v88 h_v94 h_v118, p37 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p40 {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (r : Fin 256) (k : Fin 512) : k0_pay40 (F := Ideal) v88 v94 v118 (ix2 r k) = ((0 : ℝ) : EReal) := by
  pointwise [k0_pay40, p39 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p41 {v84 : FVec Ideal S8x512 .bf16} (h_v84 : ∀ (r : Fin 8) (k : Fin 512), v84 (ix2 r k) = ((if r.val = k.val / 128 then 1 else 0 : ℝ) : EReal)) {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (h : Fin 8) (r : Fin 256) : k0_pay41 (F := Ideal) v84 v88 v94 v118 (ix2 h r) = ((∑ k, (if h.val = k.val / 128 then 1 else 0) * (A.doa (ρ r) k * A.oa (ρ r) k) : ℝ) : EReal) := by
  pointwise [k0_pay41, h_v84, p38 h_v88 h_v94 h_v118, p40 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p42 {v84 : FVec Ideal S8x512 .bf16} (h_v84 : ∀ (r : Fin 8) (k : Fin 512), v84 (ix2 r k) = ((if r.val = k.val / 128 then 1 else 0 : ℝ) : EReal)) {v88 : FVec Ideal S1x512 .f32} (h_v88 : ∀ (r : Fin 1) (k : Fin 512), v88 (ix2 r k) = ((A.gm k : ℝ) : EReal)) {v94 : FVec Ideal S256x512 .f32} (h_v94 : ∀ (r : Fin 256) (k : Fin 512), v94 (ix2 r k) = ((A.oa (ρ r) k : ℝ) : EReal)) {v118 : FVec Ideal S256x512 .f32} (h_v118 : ∀ (r : Fin 256) (k : Fin 512), v118 (ix2 r k) = ((A.dyb (ρ r) k : ℝ) : EReal)) (h : Fin 8) (r : Fin 256) : k0_pay42 (F := Ideal) v84 v88 v94 v118 (ix2 h r) = ((0 : ℝ) : EReal) := by
  pointwise [k0_pay42, h_v84, p40 h_v88 h_v94 h_v118, p39 h_v88 h_v94 h_v118]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p43 {v206 : FVec Ideal S8x256 .f32} (h_v206 : ∀ (h : Fin 8) (r : Fin 256), v206 (ix2 h r) = ((∑ k, (if h.val = k.val / 128 then 1 else 0) * (A.doa (ρ r) k * A.oa (ρ r) k) : ℝ) : EReal)) {v207 : FVec Ideal S8x256 .f32} (h_v207 : ∀ (h : Fin 8) (r : Fin 256), v207 (ix2 h r) = ((0 : ℝ) : EReal)) (h : Fin 8) (r : Fin 256) : k0_pay43 (F := Ideal) v206 v207 (ix2 h r) = ((∑ k, (if h.val = k.val / 128 then 1 else 0) * (A.doa (ρ r) k * A.oa (ρ r) k) : ℝ) : EReal) := by
  pointwise [k0_pay43, h_v206, h_v207]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p44 {v194 : FVec Ideal S256x512 .f32} (h_v194 : ∀ (r : Fin 256) (k : Fin 512), v194 (ix2 r k) = ((A.doa (ρ r) k : ℝ) : EReal)) (r : Fin 256) (k : Fin 512) : k0_pay44 (F := Ideal) v194 (ix2 r k) = ((A.doa (ρ r) k : ℝ) : EReal) := by
  pointwise [k0_pay44, h_v194]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p45 {v115 : FVec Ideal S256x512 .f32} (h_v115 : ∀ (r : Fin 256) (k : Fin 512), v115 (ix2 r k) = ((A.dya (ρ r) k : ℝ) : EReal)) {v138 : FVec Ideal S256x512 .f32} (h_v138 : ∀ (r : Fin 256) (k : Fin 512), v138 (ix2 r k) = ((A.on (ρ r) k : ℝ) : EReal)) {v140 : FVec Ideal S256x512 .f32} (h_v140 : ∀ (r : Fin 256) (k : Fin 512), v140 (ix2 r k) = ((A.hg (ρ r) k * sg (A.hg (ρ r) k) : ℝ) : EReal)) (r : Fin 256) (k : Fin 512) : k0_pay45 (F := Ideal) v115 v138 v140 (ix2 r k) = ((A.dghRow (ρ r) k : ℝ) : EReal) := by
  pointwise [k0_pay45, h_v115, h_v138, h_v140]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p46 {v96 : FVec Ideal S256x1024 .bf16} (h_v96 : ∀ (r : Fin 256) (k : Fin 1024), v96 (ix2 r k) = ((A.dx (ρ r) k : ℝ) : EReal)) {v212 : FVec Ideal S512x1024 .bf16} (h_v212 : ∀ (r : Fin 512) (k : Fin 1024), v212 (ix2 r k) = ((A.w ⟨r.val, by omega⟩ k : ℝ) : EReal)) (r : Fin 256) (k : Fin 512) : k0_pay46 (F := Ideal) v96 v212 (ix2 r k) = ((A.dya (ρ r) k : ℝ) : EReal) := by
  pointwise [k0_pay46, h_v96, h_v212]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p47 {v96 : FVec Ideal S256x1024 .bf16} (h_v96 : ∀ (r : Fin 256) (k : Fin 1024), v96 (ix2 r k) = ((A.dx (ρ r) k : ℝ) : EReal)) {v215 : FVec Ideal S512x1024 .bf16} (h_v215 : ∀ (r : Fin 512) (k : Fin 1024), v215 (ix2 r k) = ((A.w ⟨512 + r.val, by omega⟩ k : ℝ) : EReal)) (r : Fin 256) (k : Fin 512) : k0_pay47 (F := Ideal) v96 v215 (ix2 r k) = ((A.dyb (ρ r) k : ℝ) : EReal) := by
  pointwise [k0_pay47, h_v96, h_v215]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p48 {v97 : FVec Ideal S256x512 .f32} (h_v97 : ∀ (r : Fin 256) (k : Fin 512), v97 (ix2 r k) = ((A.of (ρ r) k : ℝ) : EReal)) {v98 : FVec Ideal S256x512 .f32} (h_v98 : ∀ (r : Fin 256) (k : Fin 512), v98 (ix2 r k) = ((A.or (ρ r) k : ℝ) : EReal)) (r : Fin 256) (k : Fin 512) : k0_pay48 (F := Ideal) v97 v98 (ix2 r k) = ((A.o (ρ r) k : ℝ) : EReal) := by
  pointwise [k0_pay48, h_v97, h_v98]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p49 {v54 : FVec Ideal S512x512 .bf16} (h_v54 : ∀ (r k : Fin 512), v54 (ix2 r k) = ((if r.val / 64 = (hd k).val then 1 else 0 : ℝ) : EReal)) {v97 : FVec Ideal S256x512 .f32} (h_v97 : ∀ (r : Fin 256) (k : Fin 512), v97 (ix2 r k) = ((A.of (ρ r) k : ℝ) : EReal)) {v98 : FVec Ideal S256x512 .f32} (h_v98 : ∀ (r : Fin 256) (k : Fin 512), v98 (ix2 r k) = ((A.or (ρ r) k : ℝ) : EReal)) (r : Fin 256) (k : Fin 512) : k0_pay49 (F := Ideal) v54 v97 v98 (ix2 r k) = ((A.rh (ρ r) (hd k) : ℝ) : EReal) := by
  pointwise [k0_pay49, h_v54, p48 h_v97 h_v98]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  rw [head_sum (fun k => A.o (ρ r) k * A.o (ρ r) k) (hd k)]
  exact rsqrtE _ (ms_pos 64 (by norm_num) (A.oh (ρ r) (hd k)))

theorem p50 {v54 : FVec Ideal S512x512 .bf16} (h_v54 : ∀ (r k : Fin 512), v54 (ix2 r k) = ((if r.val / 64 = (hd k).val then 1 else 0 : ℝ) : EReal)) {v97 : FVec Ideal S256x512 .f32} (h_v97 : ∀ (r : Fin 256) (k : Fin 512), v97 (ix2 r k) = ((A.of (ρ r) k : ℝ) : EReal)) {v98 : FVec Ideal S256x512 .f32} (h_v98 : ∀ (r : Fin 256) (k : Fin 512), v98 (ix2 r k) = ((A.or (ρ r) k : ℝ) : EReal)) (r : Fin 256) (k : Fin 512) : k0_pay50 (F := Ideal) v54 v97 v98 (ix2 r k) = ((A.on (ρ r) k : ℝ) : EReal) := by
  pointwise [k0_pay50, p48 h_v97 h_v98, p49 h_v54 h_v97 h_v98]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p51 {v99 : FVec Ideal S256x512 .f32} (h_v99 : ∀ (r : Fin 256) (k : Fin 512), v99 (ix2 r k) = ((A.hg (ρ r) k : ℝ) : EReal)) (r : Fin 256) (k : Fin 512) : k0_pay51 (F := Ideal) v99 (ix2 r k) = ((sg (A.hg (ρ r) k) : ℝ) : EReal) := by
  pointwise [k0_pay51, h_v99]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p52 {v99 : FVec Ideal S256x512 .f32} (h_v99 : ∀ (r : Fin 256) (k : Fin 512), v99 (ix2 r k) = ((A.hg (ρ r) k : ℝ) : EReal)) (r : Fin 256) (k : Fin 512) : k0_pay52 (F := Ideal) v99 (ix2 r k) = ((A.hg (ρ r) k * sg (A.hg (ρ r) k) : ℝ) : EReal) := by
  pointwise [k0_pay52, h_v99, p51 h_v99]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p53 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v96 : FVec Ideal S256x1024 .bf16} (h_v96 : ∀ (r : Fin 256) (k : Fin 1024), v96 (ix2 r k) = ((A.dx (ρ r) k : ℝ) : EReal)) {v97 : FVec Ideal S256x512 .f32} (h_v97 : ∀ (r : Fin 256) (k : Fin 512), v97 (ix2 r k) = ((A.of (ρ r) k : ℝ) : EReal)) {v98 : FVec Ideal S256x512 .f32} (h_v98 : ∀ (r : Fin 256) (k : Fin 512), v98 (ix2 r k) = ((A.or (ρ r) k : ℝ) : EReal)) {v99 : FVec Ideal S256x512 .f32} (h_v99 : ∀ (r : Fin 256) (k : Fin 512), v99 (ix2 r k) = ((A.hg (ρ r) k : ℝ) : EReal)) {v212 : FVec Ideal S512x1024 .bf16} (h_v212 : ∀ (r : Fin 512) (k : Fin 1024), v212 (ix2 r k) = ((A.w ⟨r.val, by omega⟩ k : ℝ) : EReal)) (r : Fin 256) (k : Fin 512) : k0_pay53 (F := Ideal) v54 v86 v96 v97 v98 v99 v212 (ix2 r k) = ((A.dhg (ρ r) k : ℝ) : EReal) := by
  pointwise [k0_pay53, h_v86, h_v99, p50 h_v54 h_v97 h_v98, p46 h_v96 h_v212, p51 h_v99]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p54 {v86 : FVec Ideal S1x512 .f32} (h_v86 : ∀ (r : Fin 1) (k : Fin 512), v86 (ix2 r k) = ((A.gh k : ℝ) : EReal)) {v96 : FVec Ideal S256x1024 .bf16} (h_v96 : ∀ (r : Fin 256) (k : Fin 1024), v96 (ix2 r k) = ((A.dx (ρ r) k : ℝ) : EReal)) {v99 : FVec Ideal S256x512 .f32} (h_v99 : ∀ (r : Fin 256) (k : Fin 512), v99 (ix2 r k) = ((A.hg (ρ r) k : ℝ) : EReal)) {v212 : FVec Ideal S512x1024 .bf16} (h_v212 : ∀ (r : Fin 512) (k : Fin 1024), v212 (ix2 r k) = ((A.w ⟨r.val, by omega⟩ k : ℝ) : EReal)) (r : Fin 256) (k : Fin 512) : k0_pay54 (F := Ideal) v86 v96 v99 v212 (ix2 r k) = ((A.don (ρ r) k : ℝ) : EReal) := by
  pointwise [k0_pay54, h_v86, p46 h_v96 h_v212, p52 h_v99]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p55 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v96 : FVec Ideal S256x1024 .bf16} (h_v96 : ∀ (r : Fin 256) (k : Fin 1024), v96 (ix2 r k) = ((A.dx (ρ r) k : ℝ) : EReal)) {v97 : FVec Ideal S256x512 .f32} (h_v97 : ∀ (r : Fin 256) (k : Fin 512), v97 (ix2 r k) = ((A.of (ρ r) k : ℝ) : EReal)) {v98 : FVec Ideal S256x512 .f32} (h_v98 : ∀ (r : Fin 256) (k : Fin 512), v98 (ix2 r k) = ((A.or (ρ r) k : ℝ) : EReal)) {v99 : FVec Ideal S256x512 .f32} (h_v99 : ∀ (r : Fin 256) (k : Fin 512), v99 (ix2 r k) = ((A.hg (ρ r) k : ℝ) : EReal)) {v212 : FVec Ideal S512x1024 .bf16} (h_v212 : ∀ (r : Fin 512) (k : Fin 1024), v212 (ix2 r k) = ((A.w ⟨r.val, by omega⟩ k : ℝ) : EReal)) (r : Fin 256) (k : Fin 512) : k0_pay55 (F := Ideal) v54 v86 v96 v97 v98 v99 v212 (ix2 r k) = ((A.don (ρ r) k * A.on (ρ r) k : ℝ) : EReal) := by
  pointwise [k0_pay55, p54 h_v86 h_v96 h_v99 h_v212, p50 h_v54 h_v97 h_v98]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p56 {v54 : FVec Ideal S512x512 .bf16} (h_v54 : ∀ (r k : Fin 512), v54 (ix2 r k) = ((if r.val / 64 = (hd k).val then 1 else 0 : ℝ) : EReal)) {v236 : FVec Ideal S256x512 .f32} (h_v236 : ∀ (r : Fin 256) (k : Fin 512), v236 (ix2 r k) = ((A.rh (ρ r) (hd k) : ℝ) : EReal)) {v237 : FVec Ideal S256x512 .f32} (h_v237 : ∀ (r : Fin 256) (k : Fin 512), v237 (ix2 r k) = ((A.on (ρ r) k : ℝ) : EReal)) {v253 : FVec Ideal S256x512 .f32} (h_v253 : ∀ (r : Fin 256) (k : Fin 512), v253 (ix2 r k) = ((A.don (ρ r) k : ℝ) : EReal)) {v254 : FVec Ideal S256x512 .f32} (h_v254 : ∀ (r : Fin 256) (k : Fin 512), v254 (ix2 r k) = ((A.don (ρ r) k * A.on (ρ r) k : ℝ) : EReal)) (r : Fin 256) (k : Fin 512) : k0_pay56 (F := Ideal) v54 v236 v237 v253 v254 (ix2 r k) = ((A.do_ (ρ r) k : ℝ) : EReal) := by
  pointwise [k0_pay56, h_v54, h_v236, h_v237, h_v253, h_v254]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  first | rw [head_sum (fun k => A.don (ρ r) k * A.on (ρ r) k) (hd k)] | rw [head_sum (fun k => A.dya (ρ r) k * (A.hg (ρ r) k * sg (A.hg (ρ r) k)) * A.gh k * A.on (ρ r) k) (hd k)]
  exact congrArg _ (do_eq A (ρ r) k)

theorem p57 {v100 : FVec Ideal S256x512 .f32} (h_v100 : ∀ (r : Fin 256) (k : Fin 512), v100 (ix2 r k) = ((A.oa (ρ r) k : ℝ) : EReal)) (r : Fin 256) (z : Fin 1) : k0_pay57 (F := Ideal) v100 (ix2 r z) = ((rr 512 (A.oa (ρ r)) : ℝ) : EReal) := by
  pointwise [k0_pay57, h_v100]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  exact rsqrtE _ (ms_pos 512 (by norm_num) (A.oa (ρ r)))

theorem p58 {v100 : FVec Ideal S256x512 .f32} (h_v100 : ∀ (r : Fin 256) (k : Fin 512), v100 (ix2 r k) = ((A.oa (ρ r) k : ℝ) : EReal)) (r : Fin 256) (k : Fin 512) : k0_pay58 (F := Ideal) v100 (ix2 r k) = ((A.oa (ρ r) k * rr 512 (A.oa (ρ r)) : ℝ) : EReal) := by
  pointwise [k0_pay58, h_v100, p57 h_v100]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p59 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay59 (F := Ideal) v88 v100 v217 (ix2 r k) = ((A.doa (ρ r) k : ℝ) : EReal) := by
  pointwise [k0_pay59, h_v88, h_v217, p58 h_v100, p57 h_v100]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p60 {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay60 (F := Ideal) v100 v217 (ix2 r k) = ((A.dgmRow (ρ r) k : ℝ) : EReal) := by
  pointwise [k0_pay60, h_v217, p58 h_v100]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p61 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay61 (F := Ideal) v88 v100 v217 (ix2 r k) = ((A.doa (ρ r) k * A.oa (ρ r) k : ℝ) : EReal) := by
  pointwise [k0_pay61, h_v100, p59 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p62 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay62 (F := Ideal) v88 v100 v217 (ix2 r k) = ((A.doa (ρ r) k * A.oa (ρ r) k : ℝ) : EReal) := by
  pointwise [k0_pay62, p61 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p63 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay63 (F := Ideal) v88 v100 v217 (ix2 r k) = ((0 : ℝ) : EReal) := by
  pointwise [k0_pay63, p62 h_v88 h_v100 h_v217, p61 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p64 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay64 (F := Ideal) v88 v100 v217 (ix2 r k) = ((0 : ℝ) : EReal) := by
  pointwise [k0_pay64, p63 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p65 {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (r : Fin 256) (k : Fin 512) : k0_pay65 (F := Ideal) v88 v100 v217 (ix2 r k) = ((0 : ℝ) : EReal) := by
  pointwise [k0_pay65, p64 h_v88 h_v100 h_v217, p63 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p66 {v84 : FVec Ideal S8x512 .bf16} (h_v84 : ∀ (r : Fin 8) (k : Fin 512), v84 (ix2 r k) = ((if r.val = k.val / 128 then 1 else 0 : ℝ) : EReal)) {v88 : FVec Ideal S1x512 .f32} (h_v88 : ∀ (r : Fin 1) (k : Fin 512), v88 (ix2 r k) = ((A.gm k : ℝ) : EReal)) {v100 : FVec Ideal S256x512 .f32} (h_v100 : ∀ (r : Fin 256) (k : Fin 512), v100 (ix2 r k) = ((A.oa (ρ r) k : ℝ) : EReal)) {v217 : FVec Ideal S256x512 .f32} (h_v217 : ∀ (r : Fin 256) (k : Fin 512), v217 (ix2 r k) = ((A.dyb (ρ r) k : ℝ) : EReal)) (h : Fin 8) (r : Fin 256) : k0_pay66 (F := Ideal) v84 v88 v100 v217 (ix2 h r) = ((∑ k, (if h.val = k.val / 128 then 1 else 0) * (A.doa (ρ r) k * A.oa (ρ r) k) : ℝ) : EReal) := by
  pointwise [k0_pay66, h_v84, p62 h_v88 h_v100 h_v217]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p67 {v84 : FVec Ideal S8x512 .bf16} (h_v84 : ∀ (r : Fin 8) (k : Fin 512), v84 (ix2 r k) = ((if r.val = k.val / 128 then 1 else 0 : ℝ) : EReal)) {v299 : FVec Ideal S256x512 .bf16} (h_v299 : ∀ (r : Fin 256) (k : Fin 512), v299 (ix2 r k) = ((0 : ℝ) : EReal)) {v302 : FVec Ideal S256x512 .bf16} (h_v302 : ∀ (r : Fin 256) (k : Fin 512), v302 (ix2 r k) = ((0 : ℝ) : EReal)) {v303 : FVec Ideal S8x256 .f32} (h_v303 : ∀ (h : Fin 8) (r : Fin 256), v303 (ix2 h r) = ((∑ k, (if h.val = k.val / 128 then 1 else 0) * (A.doa (ρ r) k * A.oa (ρ r) k) : ℝ) : EReal)) {cst_105 : FVec Ideal S8x256 .f32} (h_cst_105 : ∀ (h : Fin 8) (r : Fin 256), cst_105 (ix2 h r) = ((0 : ℝ) : EReal)) (h : Fin 8) (r : Fin 256) : k0_pay67 (F := Ideal) v84 v299 v302 v303 cst_105 (ix2 h r) = ((∑ k, (if h.val = k.val / 128 then 1 else 0) * (A.doa (ρ r) k * A.oa (ρ r) k) : ℝ) : EReal) := by
  pointwise [k0_pay67, h_v84, h_v299, h_v302, h_v303, h_cst_105]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p68 {v293 : FVec Ideal S256x512 .f32} (h_v293 : ∀ (r : Fin 256) (k : Fin 512), v293 (ix2 r k) = ((A.doa (ρ r) k : ℝ) : EReal)) (r : Fin 256) (k : Fin 512) : k0_pay68 (F := Ideal) v293 (ix2 r k) = ((A.doa (ρ r) k : ℝ) : EReal) := by
  pointwise [k0_pay68, h_v293]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p69 {v214 : FVec Ideal S256x512 .f32} (h_v214 : ∀ (r : Fin 256) (k : Fin 512), v214 (ix2 r k) = ((A.dya (ρ r) k : ℝ) : EReal)) {v237 : FVec Ideal S256x512 .f32} (h_v237 : ∀ (r : Fin 256) (k : Fin 512), v237 (ix2 r k) = ((A.on (ρ r) k : ℝ) : EReal)) {v239 : FVec Ideal S256x512 .f32} (h_v239 : ∀ (r : Fin 256) (k : Fin 512), v239 (ix2 r k) = ((A.hg (ρ r) k * sg (A.hg (ρ r) k) : ℝ) : EReal)) (r : Fin 256) (k : Fin 512) : k0_pay69 (F := Ideal) v214 v237 v239 (ix2 r k) = ((A.dghRow (ρ r) k : ℝ) : EReal) := by
  pointwise [k0_pay69, h_v214, h_v237, h_v239]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p70 {v102 : FVec Ideal S256x1024 .bf16} (h_v102 : ∀ (r : Fin 256) (k : Fin 1024), v102 (ix2 r k) = ((A.dx (ρ r) k : ℝ) : EReal)) {v311 : FVec Ideal S512x1024 .bf16} (h_v311 : ∀ (r : Fin 512) (k : Fin 1024), v311 (ix2 r k) = ((A.w ⟨r.val, by omega⟩ k : ℝ) : EReal)) (r : Fin 256) (k : Fin 512) : k0_pay70 (F := Ideal) v102 v311 (ix2 r k) = ((A.dya (ρ r) k : ℝ) : EReal) := by
  pointwise [k0_pay70, h_v102, h_v311]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p71 {v102 : FVec Ideal S256x1024 .bf16} (h_v102 : ∀ (r : Fin 256) (k : Fin 1024), v102 (ix2 r k) = ((A.dx (ρ r) k : ℝ) : EReal)) {v314 : FVec Ideal S512x1024 .bf16} (h_v314 : ∀ (r : Fin 512) (k : Fin 1024), v314 (ix2 r k) = ((A.w ⟨512 + r.val, by omega⟩ k : ℝ) : EReal)) (r : Fin 256) (k : Fin 512) : k0_pay71 (F := Ideal) v102 v314 (ix2 r k) = ((A.dyb (ρ r) k : ℝ) : EReal) := by
  pointwise [k0_pay71, h_v102, h_v314]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p72 {v103 : FVec Ideal S256x512 .f32} (h_v103 : ∀ (r : Fin 256) (k : Fin 512), v103 (ix2 r k) = ((A.of (ρ r) k : ℝ) : EReal)) {v104 : FVec Ideal S256x512 .f32} (h_v104 : ∀ (r : Fin 256) (k : Fin 512), v104 (ix2 r k) = ((A.or (ρ r) k : ℝ) : EReal)) (r : Fin 256) (k : Fin 512) : k0_pay72 (F := Ideal) v103 v104 (ix2 r k) = ((A.o (ρ r) k : ℝ) : EReal) := by
  pointwise [k0_pay72, h_v103, h_v104]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p73 {v54 : FVec Ideal S512x512 .bf16} (h_v54 : ∀ (r k : Fin 512), v54 (ix2 r k) = ((if r.val / 64 = (hd k).val then 1 else 0 : ℝ) : EReal)) {v103 : FVec Ideal S256x512 .f32} (h_v103 : ∀ (r : Fin 256) (k : Fin 512), v103 (ix2 r k) = ((A.of (ρ r) k : ℝ) : EReal)) {v104 : FVec Ideal S256x512 .f32} (h_v104 : ∀ (r : Fin 256) (k : Fin 512), v104 (ix2 r k) = ((A.or (ρ r) k : ℝ) : EReal)) (r : Fin 256) (k : Fin 512) : k0_pay73 (F := Ideal) v54 v103 v104 (ix2 r k) = ((A.rh (ρ r) (hd k) : ℝ) : EReal) := by
  pointwise [k0_pay73, h_v54, p72 h_v103 h_v104]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  rw [head_sum (fun k => A.o (ρ r) k * A.o (ρ r) k) (hd k)]
  exact rsqrtE _ (ms_pos 64 (by norm_num) (A.oh (ρ r) (hd k)))

theorem p74 {v54 : FVec Ideal S512x512 .bf16} (h_v54 : ∀ (r k : Fin 512), v54 (ix2 r k) = ((if r.val / 64 = (hd k).val then 1 else 0 : ℝ) : EReal)) {v103 : FVec Ideal S256x512 .f32} (h_v103 : ∀ (r : Fin 256) (k : Fin 512), v103 (ix2 r k) = ((A.of (ρ r) k : ℝ) : EReal)) {v104 : FVec Ideal S256x512 .f32} (h_v104 : ∀ (r : Fin 256) (k : Fin 512), v104 (ix2 r k) = ((A.or (ρ r) k : ℝ) : EReal)) (r : Fin 256) (k : Fin 512) : k0_pay74 (F := Ideal) v54 v103 v104 (ix2 r k) = ((A.on (ρ r) k : ℝ) : EReal) := by
  pointwise [k0_pay74, p72 h_v103 h_v104, p73 h_v54 h_v103 h_v104]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p75 {v105 : FVec Ideal S256x512 .f32} (h_v105 : ∀ (r : Fin 256) (k : Fin 512), v105 (ix2 r k) = ((A.hg (ρ r) k : ℝ) : EReal)) (r : Fin 256) (k : Fin 512) : k0_pay75 (F := Ideal) v105 (ix2 r k) = ((sg (A.hg (ρ r) k) : ℝ) : EReal) := by
  pointwise [k0_pay75, h_v105]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p76 {v105 : FVec Ideal S256x512 .f32} (h_v105 : ∀ (r : Fin 256) (k : Fin 512), v105 (ix2 r k) = ((A.hg (ρ r) k : ℝ) : EReal)) (r : Fin 256) (k : Fin 512) : k0_pay76 (F := Ideal) v105 (ix2 r k) = ((A.hg (ρ r) k * sg (A.hg (ρ r) k) : ℝ) : EReal) := by
  pointwise [k0_pay76, h_v105, p75 h_v105]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p77 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v102 : FVec Ideal S256x1024 .bf16} (h_v102 : ∀ (r : Fin 256) (k : Fin 1024), v102 (ix2 r k) = ((A.dx (ρ r) k : ℝ) : EReal)) {v103 : FVec Ideal S256x512 .f32} (h_v103 : ∀ (r : Fin 256) (k : Fin 512), v103 (ix2 r k) = ((A.of (ρ r) k : ℝ) : EReal)) {v104 : FVec Ideal S256x512 .f32} (h_v104 : ∀ (r : Fin 256) (k : Fin 512), v104 (ix2 r k) = ((A.or (ρ r) k : ℝ) : EReal)) {v105 : FVec Ideal S256x512 .f32} (h_v105 : ∀ (r : Fin 256) (k : Fin 512), v105 (ix2 r k) = ((A.hg (ρ r) k : ℝ) : EReal)) {v311 : FVec Ideal S512x1024 .bf16} (h_v311 : ∀ (r : Fin 512) (k : Fin 1024), v311 (ix2 r k) = ((A.w ⟨r.val, by omega⟩ k : ℝ) : EReal)) (r : Fin 256) (k : Fin 512) : k0_pay77 (F := Ideal) v54 v86 v102 v103 v104 v105 v311 (ix2 r k) = ((A.dhg (ρ r) k : ℝ) : EReal) := by
  pointwise [k0_pay77, h_v86, h_v105, p74 h_v54 h_v103 h_v104, p70 h_v102 h_v311, p75 h_v105]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p78 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v313 : FVec Ideal S256x512 .f32} (h_v313 : ∀ (r : Fin 256) (k : Fin 512), v313 (ix2 r k) = ((A.dya (ρ r) k : ℝ) : EReal)) {v335 : FVec Ideal S256x512 .f32} (h_v335 : ∀ (r : Fin 256) (k : Fin 512), v335 (ix2 r k) = ((A.rh (ρ r) (hd k) : ℝ) : EReal)) {v336 : FVec Ideal S256x512 .f32} (h_v336 : ∀ (r : Fin 256) (k : Fin 512), v336 (ix2 r k) = ((A.on (ρ r) k : ℝ) : EReal)) {v338 : FVec Ideal S256x512 .f32} (h_v338 : ∀ (r : Fin 256) (k : Fin 512), v338 (ix2 r k) = ((A.hg (ρ r) k * sg (A.hg (ρ r) k) : ℝ) : EReal)) (r : Fin 256) (k : Fin 512) : k0_pay78 (F := Ideal) v54 v86 v313 v335 v336 v338 (ix2 r k) = ((A.do_ (ρ r) k : ℝ) : EReal) := by
  pointwise [k0_pay78, h_v54, h_v86, h_v313, h_v335, h_v336, h_v338]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  first | rw [head_sum (fun k => A.don (ρ r) k * A.on (ρ r) k) (hd k)] | rw [head_sum (fun k => A.dya (ρ r) k * (A.hg (ρ r) k * sg (A.hg (ρ r) k)) * A.gh k * A.on (ρ r) k) (hd k)]
  exact congrArg _ (do_eq A (ρ r) k)

theorem p79 {v106 : FVec Ideal S256x512 .f32} (h_v106 : ∀ (r : Fin 256) (k : Fin 512), v106 (ix2 r k) = ((A.oa (ρ r) k : ℝ) : EReal)) (r : Fin 256) (z : Fin 1) : k0_pay79 (F := Ideal) v106 (ix2 r z) = ((rr 512 (A.oa (ρ r)) : ℝ) : EReal) := by
  pointwise [k0_pay79, h_v106]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  exact rsqrtE _ (ms_pos 512 (by norm_num) (A.oa (ρ r)))

theorem p80 {v106 : FVec Ideal S256x512 .f32} (h_v106 : ∀ (r : Fin 256) (k : Fin 512), v106 (ix2 r k) = ((A.oa (ρ r) k : ℝ) : EReal)) (r : Fin 256) (k : Fin 512) : k0_pay80 (F := Ideal) v106 (ix2 r k) = ((A.oa (ρ r) k * rr 512 (A.oa (ρ r)) : ℝ) : EReal) := by
  pointwise [k0_pay80, h_v106, p79 h_v106]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p81 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay81 (F := Ideal) v88 v106 v316 (ix2 r k) = ((A.doa (ρ r) k : ℝ) : EReal) := by
  pointwise [k0_pay81, h_v88, h_v316, p80 h_v106, p79 h_v106]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p82 {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay82 (F := Ideal) v106 v316 (ix2 r k) = ((A.dgmRow (ρ r) k : ℝ) : EReal) := by
  pointwise [k0_pay82, h_v316, p80 h_v106]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p83 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay83 (F := Ideal) v88 v106 v316 (ix2 r k) = ((A.doa (ρ r) k * A.oa (ρ r) k : ℝ) : EReal) := by
  pointwise [k0_pay83, h_v106, p81 h_v88 h_v106 h_v316]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p84 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay84 (F := Ideal) v88 v106 v316 (ix2 r k) = ((A.doa (ρ r) k * A.oa (ρ r) k : ℝ) : EReal) := by
  pointwise [k0_pay84, p83 h_v88 h_v106 h_v316]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p85 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay85 (F := Ideal) v88 v106 v316 (ix2 r k) = ((0 : ℝ) : EReal) := by
  pointwise [k0_pay85, p84 h_v88 h_v106 h_v316, p83 h_v88 h_v106 h_v316]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p86 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay86 (F := Ideal) v88 v106 v316 (ix2 r k) = ((0 : ℝ) : EReal) := by
  pointwise [k0_pay86, p85 h_v88 h_v106 h_v316]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p87 {v88 : FVec Ideal S1x512 .f32} (h_v88 : ∀ (r : Fin 1) (k : Fin 512), v88 (ix2 r k) = ((A.gm k : ℝ) : EReal)) {v106 : FVec Ideal S256x512 .f32} (h_v106 : ∀ (r : Fin 256) (k : Fin 512), v106 (ix2 r k) = ((A.oa (ρ r) k : ℝ) : EReal)) {v316 : FVec Ideal S256x512 .f32} (h_v316 : ∀ (r : Fin 256) (k : Fin 512), v316 (ix2 r k) = ((A.dyb (ρ r) k : ℝ) : EReal)) (r : Fin 256) (k : Fin 512) : k0_pay87 (F := Ideal) v88 v106 v316 (ix2 r k) = ((0 : ℝ) : EReal) := by
  pointwise [k0_pay87, p86 h_v88 h_v106 h_v316, p85 h_v88 h_v106 h_v316]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p88 {v84 : FVec Ideal S8x512 .bf16} (h_v84 : ∀ (r : Fin 8) (k : Fin 512), v84 (ix2 r k) = ((if r.val = k.val / 128 then 1 else 0 : ℝ) : EReal)) {v395 : FVec Ideal S256x512 .bf16} (h_v395 : ∀ (r : Fin 256) (k : Fin 512), v395 (ix2 r k) = ((A.doa (ρ r) k * A.oa (ρ r) k : ℝ) : EReal)) {v398 : FVec Ideal S256x512 .bf16} (h_v398 : ∀ (r : Fin 256) (k : Fin 512), v398 (ix2 r k) = ((0 : ℝ) : EReal)) {v400 : FVec Ideal S256x512 .f32} (h_v400 : ∀ (r : Fin 256) (k : Fin 512), v400 (ix2 r k) = ((0 : ℝ) : EReal)) (h : Fin 8) (r : Fin 256) : k0_pay88 (F := Ideal) v84 v395 v398 v400 (ix2 h r) = ((∑ k, (if h.val = k.val / 128 then 1 else 0) * (A.doa (ρ r) k * A.oa (ρ r) k) : ℝ) : EReal) := by
  pointwise [k0_pay88, h_v84, h_v395, h_v398, h_v400]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p89 {v392 : FVec Ideal S256x512 .f32} (h_v392 : ∀ (r : Fin 256) (k : Fin 512), v392 (ix2 r k) = ((A.doa (ρ r) k : ℝ) : EReal)) (r : Fin 256) (k : Fin 512) : k0_pay89 (F := Ideal) v392 (ix2 r k) = ((A.doa (ρ r) k : ℝ) : EReal) := by
  pointwise [k0_pay89, h_v392]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p90 {v313 : FVec Ideal S256x512 .f32} (h_v313 : ∀ (r : Fin 256) (k : Fin 512), v313 (ix2 r k) = ((A.dya (ρ r) k : ℝ) : EReal)) {v336 : FVec Ideal S256x512 .f32} (h_v336 : ∀ (r : Fin 256) (k : Fin 512), v336 (ix2 r k) = ((A.on (ρ r) k : ℝ) : EReal)) {v338 : FVec Ideal S256x512 .f32} (h_v338 : ∀ (r : Fin 256) (k : Fin 512), v338 (ix2 r k) = ((A.hg (ρ r) k * sg (A.hg (ρ r) k) : ℝ) : EReal)) (r : Fin 256) (k : Fin 512) : k0_pay90 (F := Ideal) v313 v336 v338 (ix2 r k) = ((A.dghRow (ρ r) k : ℝ) : EReal) := by
  pointwise [k0_pay90, h_v313, h_v336, h_v338]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p91 {v108 : FVec Ideal S256x1024 .bf16} (h_v108 : ∀ (r : Fin 256) (k : Fin 1024), v108 (ix2 r k) = ((A.dx (ρ r) k : ℝ) : EReal)) {v410 : FVec Ideal S512x1024 .bf16} (h_v410 : ∀ (r : Fin 512) (k : Fin 1024), v410 (ix2 r k) = ((A.w ⟨r.val, by omega⟩ k : ℝ) : EReal)) (r : Fin 256) (k : Fin 512) : k0_pay91 (F := Ideal) v108 v410 (ix2 r k) = ((A.dya (ρ r) k : ℝ) : EReal) := by
  pointwise [k0_pay91, h_v108, h_v410]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p92 {v108 : FVec Ideal S256x1024 .bf16} (h_v108 : ∀ (r : Fin 256) (k : Fin 1024), v108 (ix2 r k) = ((A.dx (ρ r) k : ℝ) : EReal)) {v413 : FVec Ideal S512x1024 .bf16} (h_v413 : ∀ (r : Fin 512) (k : Fin 1024), v413 (ix2 r k) = ((A.w ⟨512 + r.val, by omega⟩ k : ℝ) : EReal)) (r : Fin 256) (k : Fin 512) : k0_pay92 (F := Ideal) v108 v413 (ix2 r k) = ((A.dyb (ρ r) k : ℝ) : EReal) := by
  pointwise [k0_pay92, h_v108, h_v413]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p93 {v109 : FVec Ideal S256x512 .f32} (h_v109 : ∀ (r : Fin 256) (k : Fin 512), v109 (ix2 r k) = ((A.of (ρ r) k : ℝ) : EReal)) {v110 : FVec Ideal S256x512 .f32} (h_v110 : ∀ (r : Fin 256) (k : Fin 512), v110 (ix2 r k) = ((A.or (ρ r) k : ℝ) : EReal)) (r : Fin 256) (k : Fin 512) : k0_pay93 (F := Ideal) v109 v110 (ix2 r k) = ((A.o (ρ r) k : ℝ) : EReal) := by
  pointwise [k0_pay93, h_v109, h_v110]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p94 {v54 : FVec Ideal S512x512 .bf16} (h_v54 : ∀ (r k : Fin 512), v54 (ix2 r k) = ((if r.val / 64 = (hd k).val then 1 else 0 : ℝ) : EReal)) {v109 : FVec Ideal S256x512 .f32} (h_v109 : ∀ (r : Fin 256) (k : Fin 512), v109 (ix2 r k) = ((A.of (ρ r) k : ℝ) : EReal)) {v110 : FVec Ideal S256x512 .f32} (h_v110 : ∀ (r : Fin 256) (k : Fin 512), v110 (ix2 r k) = ((A.or (ρ r) k : ℝ) : EReal)) (r : Fin 256) (k : Fin 512) : k0_pay94 (F := Ideal) v54 v109 v110 (ix2 r k) = ((A.rh (ρ r) (hd k) : ℝ) : EReal) := by
  pointwise [k0_pay94, h_v54, p93 h_v109 h_v110]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  rw [head_sum (fun k => A.o (ρ r) k * A.o (ρ r) k) (hd k)]
  exact rsqrtE _ (ms_pos 64 (by norm_num) (A.oh (ρ r) (hd k)))

theorem p95 {v54 : FVec Ideal S512x512 .bf16} (h_v54 : ∀ (r k : Fin 512), v54 (ix2 r k) = ((if r.val / 64 = (hd k).val then 1 else 0 : ℝ) : EReal)) {v109 : FVec Ideal S256x512 .f32} (h_v109 : ∀ (r : Fin 256) (k : Fin 512), v109 (ix2 r k) = ((A.of (ρ r) k : ℝ) : EReal)) {v110 : FVec Ideal S256x512 .f32} (h_v110 : ∀ (r : Fin 256) (k : Fin 512), v110 (ix2 r k) = ((A.or (ρ r) k : ℝ) : EReal)) (r : Fin 256) (k : Fin 512) : k0_pay95 (F := Ideal) v54 v109 v110 (ix2 r k) = ((A.on (ρ r) k : ℝ) : EReal) := by
  pointwise [k0_pay95, p93 h_v109 h_v110, p94 h_v54 h_v109 h_v110]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p96 {v111 : FVec Ideal S256x512 .f32} (h_v111 : ∀ (r : Fin 256) (k : Fin 512), v111 (ix2 r k) = ((A.hg (ρ r) k : ℝ) : EReal)) (r : Fin 256) (k : Fin 512) : k0_pay96 (F := Ideal) v111 (ix2 r k) = ((sg (A.hg (ρ r) k) : ℝ) : EReal) := by
  pointwise [k0_pay96, h_v111]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p97 {v111 : FVec Ideal S256x512 .f32} (h_v111 : ∀ (r : Fin 256) (k : Fin 512), v111 (ix2 r k) = ((A.hg (ρ r) k : ℝ) : EReal)) (r : Fin 256) (k : Fin 512) : k0_pay97 (F := Ideal) v111 (ix2 r k) = ((A.hg (ρ r) k * sg (A.hg (ρ r) k) : ℝ) : EReal) := by
  pointwise [k0_pay97, h_v111, p96 h_v111]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p98 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v108 : FVec Ideal S256x1024 .bf16} (h_v108 : ∀ (r : Fin 256) (k : Fin 1024), v108 (ix2 r k) = ((A.dx (ρ r) k : ℝ) : EReal)) {v109 : FVec Ideal S256x512 .f32} (h_v109 : ∀ (r : Fin 256) (k : Fin 512), v109 (ix2 r k) = ((A.of (ρ r) k : ℝ) : EReal)) {v110 : FVec Ideal S256x512 .f32} (h_v110 : ∀ (r : Fin 256) (k : Fin 512), v110 (ix2 r k) = ((A.or (ρ r) k : ℝ) : EReal)) {v410 : FVec Ideal S512x1024 .bf16} (h_v410 : ∀ (r : Fin 512) (k : Fin 1024), v410 (ix2 r k) = ((A.w ⟨r.val, by omega⟩ k : ℝ) : EReal)) (r : Fin 256) (k : Fin 512) : k0_pay98 (F := Ideal) v54 v86 v108 v109 v110 v410 (ix2 r k) = ((A.dya (ρ r) k * (A.on (ρ r) k * A.gh k) : ℝ) : EReal) := by
  pointwise [k0_pay98, h_v86, p95 h_v54 h_v109 h_v110, p91 h_v108 h_v410]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p99 {v111 : FVec Ideal S256x512 .f32} (h_v111 : ∀ (r : Fin 256) (k : Fin 512), v111 (ix2 r k) = ((A.hg (ρ r) k : ℝ) : EReal)) (r : Fin 256) (k : Fin 512) : k0_pay99 (F := Ideal) v111 (ix2 r k) = ((A.hg (ρ r) k * (1 - sg (A.hg (ρ r) k)) : ℝ) : EReal) := by
  pointwise [k0_pay99, h_v111, p96 h_v111]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p100  (r : Fin 256) (k : Fin 512) : k0_pay100 (F := Ideal) (ix2 r k) = ((1 : ℝ) : EReal) := by
  pointwise [k0_pay100]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p101 {v436 : FVec Ideal S256x512 .f32} (h_v436 : ∀ (r : Fin 256) (k : Fin 512), v436 (ix2 r k) = ((sg (A.hg (ρ r) k) : ℝ) : EReal)) {v440 : FVec Ideal S256x512 .f32} (h_v440 : ∀ (r : Fin 256) (k : Fin 512), v440 (ix2 r k) = ((A.dya (ρ r) k * (A.on (ρ r) k * A.gh k) : ℝ) : EReal)) {v443 : FVec Ideal S256x512 .f32} (h_v443 : ∀ (r : Fin 256) (k : Fin 512), v443 (ix2 r k) = ((A.hg (ρ r) k * (1 - sg (A.hg (ρ r) k)) : ℝ) : EReal)) {v444 : FVec Ideal S256x512 .f32} (h_v444 : ∀ (r : Fin 256) (k : Fin 512), v444 (ix2 r k) = ((1 : ℝ) : EReal)) (r : Fin 256) (k : Fin 512) : k0_pay101 (F := Ideal) v436 v440 v443 v444 (ix2 r k) = ((A.dhg (ρ r) k : ℝ) : EReal) := by
  pointwise [k0_pay101, h_v436, h_v440, h_v443, h_v444]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p102 {v54 : FVec Ideal S512x512 .bf16} (h_v54 : ∀ (r k : Fin 512), v54 (ix2 r k) = ((if r.val / 64 = (hd k).val then 1 else 0 : ℝ) : EReal)) {v86 : FVec Ideal S1x512 .f32} (h_v86 : ∀ (r : Fin 1) (k : Fin 512), v86 (ix2 r k) = ((A.gh k : ℝ) : EReal)) {v412 : FVec Ideal S256x512 .f32} (h_v412 : ∀ (r : Fin 256) (k : Fin 512), v412 (ix2 r k) = ((A.dya (ρ r) k : ℝ) : EReal)) {v434 : FVec Ideal S256x512 .f32} (h_v434 : ∀ (r : Fin 256) (k : Fin 512), v434 (ix2 r k) = ((A.rh (ρ r) (hd k) : ℝ) : EReal)) {v435 : FVec Ideal S256x512 .f32} (h_v435 : ∀ (r : Fin 256) (k : Fin 512), v435 (ix2 r k) = ((A.on (ρ r) k : ℝ) : EReal)) {v437 : FVec Ideal S256x512 .f32} (h_v437 : ∀ (r : Fin 256) (k : Fin 512), v437 (ix2 r k) = ((A.hg (ρ r) k * sg (A.hg (ρ r) k) : ℝ) : EReal)) (r : Fin 256) (k : Fin 512) : k0_pay102 (F := Ideal) v54 v86 v412 v434 v435 v437 (ix2 r k) = ((A.do_ (ρ r) k : ℝ) : EReal) := by
  pointwise [k0_pay102, h_v54, h_v86, h_v412, h_v434, h_v435, h_v437]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  first | rw [head_sum (fun k => A.don (ρ r) k * A.on (ρ r) k) (hd k)] | rw [head_sum (fun k => A.dya (ρ r) k * (A.hg (ρ r) k * sg (A.hg (ρ r) k)) * A.gh k * A.on (ρ r) k) (hd k)]
  exact congrArg _ (do_eq A (ρ r) k)

theorem p103 {v112 : FVec Ideal S256x512 .f32} (h_v112 : ∀ (r : Fin 256) (k : Fin 512), v112 (ix2 r k) = ((A.oa (ρ r) k : ℝ) : EReal)) (r : Fin 256) (z : Fin 1) : k0_pay103 (F := Ideal) v112 (ix2 r z) = ((rr 512 (A.oa (ρ r)) : ℝ) : EReal) := by
  pointwise [k0_pay103, h_v112]
  simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  exact rsqrtE _ (ms_pos 512 (by norm_num) (A.oa (ρ r)))

theorem p104 {v112 : FVec Ideal S256x512 .f32} (h_v112 : ∀ (r : Fin 256) (k : Fin 512), v112 (ix2 r k) = ((A.oa (ρ r) k : ℝ) : EReal)) (r : Fin 256) (k : Fin 512) : k0_pay104 (F := Ideal) v112 (ix2 r k) = ((A.oa (ρ r) k * rr 512 (A.oa (ρ r)) : ℝ) : EReal) := by
  pointwise [k0_pay104, h_v112, p103 h_v112]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p105 {v88 : FVec Ideal S1x512 .f32} (h_v88 : ∀ (r : Fin 1) (k : Fin 512), v88 (ix2 r k) = ((A.gm k : ℝ) : EReal)) {v112 : FVec Ideal S256x512 .f32} (h_v112 : ∀ (r : Fin 256) (k : Fin 512), v112 (ix2 r k) = ((A.oa (ρ r) k : ℝ) : EReal)) {v415 : FVec Ideal S256x512 .f32} (h_v415 : ∀ (r : Fin 256) (k : Fin 512), v415 (ix2 r k) = ((A.dyb (ρ r) k : ℝ) : EReal)) (r : Fin 256) (k : Fin 512) : k0_pay105 (F := Ideal) v88 v112 v415 (ix2 r k) = ((A.doa (ρ r) k : ℝ) : EReal) := by
  pointwise [k0_pay105, h_v88, h_v415, p104 h_v112, p103 h_v112]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p106 {v112 : FVec Ideal S256x512 .f32} (h_v112 : ∀ (r : Fin 256) (k : Fin 512), v112 (ix2 r k) = ((A.oa (ρ r) k : ℝ) : EReal)) {v415 : FVec Ideal S256x512 .f32} (h_v415 : ∀ (r : Fin 256) (k : Fin 512), v415 (ix2 r k) = ((A.dyb (ρ r) k : ℝ) : EReal)) (r : Fin 256) (k : Fin 512) : k0_pay106 (F := Ideal) v112 v415 (ix2 r k) = ((A.dgmRow (ρ r) k : ℝ) : EReal) := by
  pointwise [k0_pay106, h_v415, p104 h_v112]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p107 {v88 : FVec Ideal S1x512 .f32} (h_v88 : ∀ (r : Fin 1) (k : Fin 512), v88 (ix2 r k) = ((A.gm k : ℝ) : EReal)) {v112 : FVec Ideal S256x512 .f32} (h_v112 : ∀ (r : Fin 256) (k : Fin 512), v112 (ix2 r k) = ((A.oa (ρ r) k : ℝ) : EReal)) {v415 : FVec Ideal S256x512 .f32} (h_v415 : ∀ (r : Fin 256) (k : Fin 512), v415 (ix2 r k) = ((A.dyb (ρ r) k : ℝ) : EReal)) (r : Fin 256) (k : Fin 512) : k0_pay107 (F := Ideal) v88 v112 v415 (ix2 r k) = ((A.doa (ρ r) k * A.oa (ρ r) k : ℝ) : EReal) := by
  pointwise [k0_pay107, h_v112, p105 h_v88 h_v112 h_v415]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p108 {v88 : FVec Ideal S1x512 .f32} (h_v88 : ∀ (r : Fin 1) (k : Fin 512), v88 (ix2 r k) = ((A.gm k : ℝ) : EReal)) {v112 : FVec Ideal S256x512 .f32} (h_v112 : ∀ (r : Fin 256) (k : Fin 512), v112 (ix2 r k) = ((A.oa (ρ r) k : ℝ) : EReal)) {v415 : FVec Ideal S256x512 .f32} (h_v415 : ∀ (r : Fin 256) (k : Fin 512), v415 (ix2 r k) = ((A.dyb (ρ r) k : ℝ) : EReal)) (r : Fin 256) (k : Fin 512) : k0_pay108 (F := Ideal) v88 v112 v415 (ix2 r k) = ((A.doa (ρ r) k * A.oa (ρ r) k : ℝ) : EReal) := by
  pointwise [k0_pay108, p107 h_v88 h_v112 h_v415]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p109 {v88 : FVec Ideal S1x512 .f32} (h_v88 : ∀ (r : Fin 1) (k : Fin 512), v88 (ix2 r k) = ((A.gm k : ℝ) : EReal)) {v112 : FVec Ideal S256x512 .f32} (h_v112 : ∀ (r : Fin 256) (k : Fin 512), v112 (ix2 r k) = ((A.oa (ρ r) k : ℝ) : EReal)) {v415 : FVec Ideal S256x512 .f32} (h_v415 : ∀ (r : Fin 256) (k : Fin 512), v415 (ix2 r k) = ((A.dyb (ρ r) k : ℝ) : EReal)) (r : Fin 256) (k : Fin 512) : k0_pay109 (F := Ideal) v88 v112 v415 (ix2 r k) = ((A.doa (ρ r) k * A.oa (ρ r) k : ℝ) : EReal) := by
  pointwise [k0_pay109, p108 h_v88 h_v112 h_v415]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p110 {v84 : FVec Ideal S8x512 .bf16} (h_v84 : ∀ (r : Fin 8) (k : Fin 512), v84 (ix2 r k) = ((if r.val = k.val / 128 then 1 else 0 : ℝ) : EReal)) {v493 : FVec Ideal S256x512 .f32} (h_v493 : ∀ (r : Fin 256) (k : Fin 512), v493 (ix2 r k) = ((A.doa (ρ r) k * A.oa (ρ r) k : ℝ) : EReal)) {v494 : FVec Ideal S256x512 .bf16} (h_v494 : ∀ (r : Fin 256) (k : Fin 512), v494 (ix2 r k) = ((A.doa (ρ r) k * A.oa (ρ r) k : ℝ) : EReal)) {v495 : FVec Ideal S256x512 .f32} (h_v495 : ∀ (r : Fin 256) (k : Fin 512), v495 (ix2 r k) = ((A.doa (ρ r) k * A.oa (ρ r) k : ℝ) : EReal)) (h : Fin 8) (r : Fin 256) : k0_pay110 (F := Ideal) v84 v493 v494 v495 (ix2 h r) = ((∑ k, (if h.val = k.val / 128 then 1 else 0) * (A.doa (ρ r) k * A.oa (ρ r) k) : ℝ) : EReal) := by
  pointwise [k0_pay110, h_v84, h_v493, h_v494, h_v495]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p111 {v491 : FVec Ideal S256x512 .f32} (h_v491 : ∀ (r : Fin 256) (k : Fin 512), v491 (ix2 r k) = ((A.doa (ρ r) k : ℝ) : EReal)) (r : Fin 256) (k : Fin 512) : k0_pay111 (F := Ideal) v491 (ix2 r k) = ((A.doa (ρ r) k : ℝ) : EReal) := by
  pointwise [k0_pay111, h_v491]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

theorem p112 {v412 : FVec Ideal S256x512 .f32} (h_v412 : ∀ (r : Fin 256) (k : Fin 512), v412 (ix2 r k) = ((A.dya (ρ r) k : ℝ) : EReal)) {v435 : FVec Ideal S256x512 .f32} (h_v435 : ∀ (r : Fin 256) (k : Fin 512), v435 (ix2 r k) = ((A.on (ρ r) k : ℝ) : EReal)) {v437 : FVec Ideal S256x512 .f32} (h_v437 : ∀ (r : Fin 256) (k : Fin 512), v437 (ix2 r k) = ((A.hg (ρ r) k * sg (A.hg (ρ r) k) : ℝ) : EReal)) (r : Fin 256) (k : Fin 512) : k0_pay112 (F := Ideal) v412 v435 v437 (ix2 r k) = ((A.dghRow (ρ r) k : ℝ) : EReal) := by
  pointwise [k0_pay112, h_v412, h_v435, h_v437]
  all_goals try simp only [c_eps, c_512, c_inv64, zero_add, mulE, Fin.sum_univ_one, sumE, divE _ _ (by norm_num : (512 : ℝ) ≠ 0), addE, subE, ← EReal.coe_one, ← EReal.coe_zero, logisticE, sub_self, zero_mul, mul_zero, Finset.sum_const_zero, add_zero, sub_zero]
  all_goals try rfl

/-! The rows of the softmax correction. -/

theorem p1 {v : FVec Ideal S1x256 .f32} (h : ∀ (z : Fin 1) (r : Fin 256), v (ix2 z r) = (A.delta 2 (ρ r) : EReal)) (a b : Fin 1) (r : Fin 256) : k0_pay1 (F := Ideal) v (ix3 a b r) = (A.delta 2 (ρ r) : EReal) := by
  pointwise [k0_pay1, h]

theorem p2 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay2 (F := Ideal) v208 (ix3 a b r) = (A.delta 3 (ρ r) : EReal) := by
  pointwise [k0_pay2, h]
  exact congrArg _ (wide_sum (fun k => A.doa (ρ r) k * A.oa (ρ r) k) 3)

theorem p113 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay113 (F := Ideal) v208 (ix3 a b r) = (A.delta 0 (ρ r) : EReal) := by
  pointwise [k0_pay113, h]
  exact congrArg _ (wide_sum (fun k => A.doa (ρ r) k * A.oa (ρ r) k) 0)

theorem p114 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay114 (F := Ideal) v208 (ix3 a b r) = (A.delta 1 (ρ r) : EReal) := by
  pointwise [k0_pay114, h]
  exact congrArg _ (wide_sum (fun k => A.doa (ρ r) k * A.oa (ρ r) k) 1)

theorem p115 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay115 (F := Ideal) v208 (ix3 a b r) = (A.delta 2 (ρ r) : EReal) := by
  pointwise [k0_pay115, h]
  exact congrArg _ (wide_sum (fun k => A.doa (ρ r) k * A.oa (ρ r) k) 2)

theorem p116 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay116 (F := Ideal) v208 (ix3 a b r) = (A.delta 3 (ρ r) : EReal) := by
  pointwise [k0_pay116, h]
  exact congrArg _ (wide_sum (fun k => A.doa (ρ r) k * A.oa (ρ r) k) 3)

theorem p117 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay117 (F := Ideal) v208 (ix3 a b r) = (A.delta 0 (ρ r) : EReal) := by
  pointwise [k0_pay117, h]
  exact congrArg _ (wide_sum (fun k => A.doa (ρ r) k * A.oa (ρ r) k) 0)

theorem p118 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay118 (F := Ideal) v208 (ix3 a b r) = (A.delta 1 (ρ r) : EReal) := by
  pointwise [k0_pay118, h]
  exact congrArg _ (wide_sum (fun k => A.doa (ρ r) k * A.oa (ρ r) k) 1)

theorem p119 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay119 (F := Ideal) v208 (ix3 a b r) = (A.delta 2 (ρ r) : EReal) := by
  pointwise [k0_pay119, h]
  exact congrArg _ (wide_sum (fun k => A.doa (ρ r) k * A.oa (ρ r) k) 2)

theorem p120 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay120 (F := Ideal) v208 (ix3 a b r) = (A.delta 3 (ρ r) : EReal) := by
  pointwise [k0_pay120, h]
  exact congrArg _ (wide_sum (fun k => A.doa (ρ r) k * A.oa (ρ r) k) 3)

theorem p121 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (z : Fin 1) (r : Fin 256) : k0_pay121 (F := Ideal) v208 (ix2 z r) = (A.delta 0 (ρ r) : EReal) := by
  pointwise [k0_pay121, h]
  exact congrArg _ (wide_sum (fun k => A.doa (ρ r) k * A.oa (ρ r) k) 0)

theorem p122 {v : FVec Ideal S1x256 .f32} (h : ∀ (z : Fin 1) (r : Fin 256), v (ix2 z r) = (A.delta 0 (ρ r) : EReal)) (a b : Fin 1) (r : Fin 256) : k0_pay122 (F := Ideal) v (ix3 a b r) = (A.delta 0 (ρ r) : EReal) := by
  pointwise [k0_pay122, h]

theorem p123 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay123 (F := Ideal) v208 (ix3 a b r) = (A.delta 1 (ρ r) : EReal) := by
  pointwise [k0_pay123, h]
  exact congrArg _ (wide_sum (fun k => A.doa (ρ r) k * A.oa (ρ r) k) 1)

theorem p124 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay124 (F := Ideal) v208 (ix3 a b r) = (A.delta 2 (ρ r) : EReal) := by
  pointwise [k0_pay124, h]
  exact congrArg _ (wide_sum (fun k => A.doa (ρ r) k * A.oa (ρ r) k) 2)

theorem p125 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay125 (F := Ideal) v208 (ix3 a b r) = (A.delta 3 (ρ r) : EReal) := by
  pointwise [k0_pay125, h]
  exact congrArg _ (wide_sum (fun k => A.doa (ρ r) k * A.oa (ρ r) k) 3)

theorem p126 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay126 (F := Ideal) v208 (ix3 a b r) = (A.delta 0 (ρ r) : EReal) := by
  pointwise [k0_pay126, h]
  exact congrArg _ (wide_sum (fun k => A.doa (ρ r) k * A.oa (ρ r) k) 0)

theorem p127 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (a b : Fin 1) (r : Fin 256) : k0_pay127 (F := Ideal) v208 (ix3 a b r) = (A.delta 1 (ρ r) : EReal) := by
  pointwise [k0_pay127, h]
  exact congrArg _ (wide_sum (fun k => A.doa (ρ r) k * A.oa (ρ r) k) 1)

theorem p128 {v208 : FVec Ideal S8x256 .f32} (h : ∀ (h : Fin 8) (r : Fin 256), v208 (ix2 h r) = ((∑ k, (if h.val = k.val / 128 then 1 else 0) * (A.doa (ρ r) k * A.oa (ρ r) k) : ℝ) : EReal)) (z : Fin 1) (r : Fin 256) : k0_pay128 (F := Ideal) v208 (ix2 z r) = (A.delta 2 (ρ r) : EReal) := by
  pointwise [k0_pay128, h]
  exact congrArg _ (wide_sum (fun k => A.doa (ρ r) k * A.oa (ρ r) k) 2)

/-! The gains' gradients over the block's four groups. -/

/-- The rows of the four groups. -/
def row0 (r : Fin 256) : Fin 1024 := ⟨0 + r.val, by omega⟩
def row1 (r : Fin 256) : Fin 1024 := ⟨256 + r.val, by omega⟩
def row2 (r : Fin 256) : Fin 1024 := ⟨512 + r.val, by omega⟩
def row3 (r : Fin 256) : Fin 1024 := ⟨768 + r.val, by omega⟩

variable {T : Fin 1024 → Fin 8192} {f : Fin 8192 → Fin 512 → ℝ}
  {u1 u2 u3 u4 : FVec Ideal S256x512 .f32} {u : FVec Ideal S1x512 .f32}
  (h1 : ∀ r k, u1 (ix2 r k) = (f (T (row0 r)) k : EReal))
  (h2 : ∀ r k, u2 (ix2 r k) = (f (T (row1 r)) k : EReal))
  (h3 : ∀ r k, u3 (ix2 r k) = (f (T (row2 r)) k : EReal))
  (h4 : ∀ r k, u4 (ix2 r k) = (f (T (row3 r)) k : EReal))

theorem cat_sum (T : Fin 1024 → Fin 8192) (f : Fin 8192 → Fin 512 → ℝ) (k : Fin 512) :
    (∑ x : Fin 1024, if h : x.val < 256 then (f (T x) k : EReal)
      else if h : x.val - 256 < 256 then (f (T ⟨256 + (x.val - 256), by omega⟩) k : EReal)
      else if h : x.val - 256 - 256 < 256 then (f (T ⟨512 + (x.val - 256 - 256), by omega⟩) k : EReal)
      else (f (T ⟨768 + (x.val - 256 - 256 - 256), by omega⟩) k : EReal)) = ((∑ r, f (T r) k : ℝ) : EReal) := by
  rw [← sumE]
  refine Finset.sum_congr rfl fun x _ => ?_
  split_ifs
  · rfl
  · exact congrArg (fun i => (f (T i) k : EReal)) (Fin.ext (show 256 + (x.val - 256) = x.val by omega))
  · exact congrArg (fun i => (f (T i) k : EReal)) (Fin.ext (show 512 + (x.val - 256 - 256) = x.val by omega))
  · exact congrArg (fun i => (f (T i) k : EReal)) (Fin.ext (show 768 + (x.val - 256 - 256 - 256) = x.val by omega))

include h1 h2 h3 h4 in
theorem s3 (z : Fin 1) (k : Fin 512) : k0_pay3 (F := Ideal) u1 u2 u3 u4 (ix2 z k) = ((∑ r, f (T r) k : ℝ) : EReal) := by
  have g1 : ∀ r k, u1 (ix2 r k) = (f (T ⟨0 + r.val, by omega⟩) k : EReal) := h1
  have g2 : ∀ r k, u2 (ix2 r k) = (f (T ⟨256 + r.val, by omega⟩) k : EReal) := h2
  have g3 : ∀ r k, u3 (ix2 r k) = (f (T ⟨512 + r.val, by omega⟩) k : EReal) := h3
  have g4 : ∀ r k, u4 (ix2 r k) = (f (T ⟨768 + r.val, by omega⟩) k : EReal) := h4
  pointwise [k0_pay3, g1, g2, g3, g4]
  exact cat_sum T f k

include h1 h2 h3 h4 in
theorem s4 (z : Fin 1) (k : Fin 512) : k0_pay4 (F := Ideal) u1 u2 u3 u4 u (ix2 z k) = u (ix2 z k) + ((∑ r, f (T r) k : ℝ) : EReal) := by
  pointwise [k0_pay4, s3 h1 h2 h3 h4]

include h1 h2 h3 h4 in
theorem s5 (z : Fin 1) (k : Fin 512) : k0_pay5 (F := Ideal) u1 u2 u3 u4 (ix2 z k) = ((∑ r, f (T r) k : ℝ) : EReal) := by
  exact s3 h1 h2 h3 h4 z k

include h1 h2 h3 h4 in
theorem s6 (z : Fin 1) (k : Fin 512) : k0_pay6 (F := Ideal) u1 u2 u3 u4 u (ix2 z k) = u (ix2 z k) + ((∑ r, f (T r) k : ℝ) : EReal) := by
  pointwise [k0_pay6, s5 h1 h2 h3 h4]

end Cert.OutBwd.Ker
end
end
-- ==== Proof.OutBwd.Blocks.lean ====
/- What the host prepares and what a grid point's input blocks hold, over real arguments. -/
module

public import proofs.«01_k».proof.Proof.Gen.KernelOutBwdIdeal.Value
public import proofs.«01_k».proof.Proof.OutBwd.Ker
public import Idealize.ShloMosaic.Lib.Pipeline.ValueKit
public import Idealize.ShloMosaic.Lib.Claim

@[expose] public section

set_option maxRecDepth 16384

noncomputable section

namespace Cert.OutBwd.Ker

open Cert.KernelOutBwdIdeal Cert.KernelOutBwdIdeal.Gen
open Idealize.ShloMosaic Idealize.ShloMosaic.TcCoe Idealize.SL.Sem

theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_8.index t = ![t.val, 0] ∧ win0_9.index t = ![t.val, 0] ∧ win0_10.index t = ![t.val, 0] ∧ win0_11.index t = ![0, 0, t.val])
    ∧ (win0_5.index t = ![0, 0] ∧ win0_6.index t = ![0, 0] ∧ win0_7.index t = ![0, 0] ∧ win0_12.index t = ![0, 0] ∧ win0_13.index t = ![0, 0]) :=
  (by decide +kernel : ∀ t : Fin grid0.N, _)

/-- The token of row `r` of grid point `t`'s block. -/
def tok (t : Fin cfg0.N) (r : Fin 1024) : Fin 8192 :=
  ⟨t.val * 1024 + r.val, by have h : t.val < 8 := lt_of_lt_of_eq t.isLt N_0; omega⟩

/-- The launch memory's arguments on device `c` are the real numbers `A`. -/
structure Agree (m : (ℓ : Loc nD τ sig) → Buf (Elt Ideal) ℓ) (c : Dev nD) (A : OutBwd.Args) : Prop where
  a0 : ∀ a k, (m ((c : Thread nD τ).loc main_arg0) : FVec Ideal S8192x1024 .f32) (ix2 a k) = (A.dx a k : EReal)
  a1 : ∀ a k, (m ((c : Thread nD τ).loc main_arg1) : FVec Ideal S8192x512 .f32) (ix2 a k) = (A.of a k : EReal)
  a2 : ∀ a k, (m ((c : Thread nD τ).loc main_arg2) : FVec Ideal S8192x512 .f32) (ix2 a k) = (A.or a k : EReal)
  a3 : ∀ a k, (m ((c : Thread nD τ).loc main_arg3) : FVec Ideal S8192x512 .f32) (ix2 a k) = (A.hg a k : EReal)
  a4 : ∀ a k, (m ((c : Thread nD τ).loc main_arg4) : FVec Ideal S8192x512 .f32) (ix2 a k) = (A.oa a k : EReal)
  a5 : ∀ k, (m ((c : Thread nD τ).loc main_arg5) : FVec Ideal S512 .f32) (ix1 k) = (A.gh k : EReal)
  a6 : ∀ k, (m ((c : Thread nD τ).loc main_arg6) : FVec Ideal S512 .f32) (ix1 k) = (A.gm k : EReal)
  a7 : ∀ a k, (m ((c : Thread nD τ).loc main_arg7) : FVec Ideal S1024x1024 .f32) (ix2 a k) = (A.w a k : EReal)

variable {m : (ℓ : Loc nD τ sig) → Buf (Elt Ideal) ℓ} {c : Dev nD} {A : OutBwd.Args} (H : Agree m c A)

include H

theorem dx_host (a : Fin 8192) (k : Fin 1024) : (V m c main_v0 : FVec Ideal S8192x1024 .bf16) (ix2 a k) = (A.dx a k : EReal) := by
  entry_read
  pointwise [H.a0]

theorem gh_host (z : Fin 1) (k : Fin 512) : (V m c main_v1 : FVec Ideal S1x512 .f32) (ix2 z k) = (A.gh k : EReal) := by
  entry_read
  pointwise [H.a5]

theorem gm_host (z : Fin 1) (k : Fin 512) : (V m c main_v2 : FVec Ideal S1x512 .f32) (ix2 z k) = (A.gm k : EReal) := by
  entry_read
  pointwise [H.a6]

theorem w_host (j k : Fin 1024) : (V m c main_v3 : FVec Ideal S1024x1024 .bf16) (ix2 j k) = (A.w j k : EReal) := by
  entry_read
  pointwise [H.a7]

theorem b0 (t : Fin cfg0.N) (r : Fin 1024) (k : Fin 1024) : (iblk m c 0 t : FVec Ideal S1024x1024 .bf16) (ix2 r k) = (A.dx (tok t r) k : EReal) := by
  refine Eq.trans (b := (V m c main_v0 : FVec Ideal S8192x1024 .bf16) (ix2 (tok t r) k)) ?_ (dx_host H _ _)
  blk_ext [iblk, idx t, tok]

theorem b1 (t : Fin cfg0.N) (r : Fin 1024) (k : Fin 512) : (iblk m c 1 t : FVec Ideal S1024x512 .f32) (ix2 r k) = (A.of (tok t r) k : EReal) := by
  refine Eq.trans (b := ((m ((c : Thread nD τ).loc main_arg1) : FVec Ideal S8192x512 .f32)) (ix2 (tok t r) k)) ?_ (H.a1 _ _)
  blk_ext [iblk, V, idx t, tok]

theorem b2 (t : Fin cfg0.N) (r : Fin 1024) (k : Fin 512) : (iblk m c 2 t : FVec Ideal S1024x512 .f32) (ix2 r k) = (A.or (tok t r) k : EReal) := by
  refine Eq.trans (b := ((m ((c : Thread nD τ).loc main_arg2) : FVec Ideal S8192x512 .f32)) (ix2 (tok t r) k)) ?_ (H.a2 _ _)
  blk_ext [iblk, V, idx t, tok]

theorem b3 (t : Fin cfg0.N) (r : Fin 1024) (k : Fin 512) : (iblk m c 3 t : FVec Ideal S1024x512 .f32) (ix2 r k) = (A.hg (tok t r) k : EReal) := by
  refine Eq.trans (b := ((m ((c : Thread nD τ).loc main_arg3) : FVec Ideal S8192x512 .f32)) (ix2 (tok t r) k)) ?_ (H.a3 _ _)
  blk_ext [iblk, V, idx t, tok]

theorem b4 (t : Fin cfg0.N) (r : Fin 1024) (k : Fin 512) : (iblk m c 4 t : FVec Ideal S1024x512 .f32) (ix2 r k) = (A.oa (tok t r) k : EReal) := by
  refine Eq.trans (b := ((m ((c : Thread nD τ).loc main_arg4) : FVec Ideal S8192x512 .f32)) (ix2 (tok t r) k)) ?_ (H.a4 _ _)
  blk_ext [iblk, V, idx t, tok]

theorem b5 (t : Fin cfg0.N) (z : Fin 1) (k : Fin 512) : (iblk m c 5 t : FVec Ideal S1x512 .f32) (ix2 z k) = (A.gh k : EReal) := by
  refine Eq.trans (b := (V m c main_v1 : FVec Ideal S1x512 .f32) (ix2 z k)) ?_ (gh_host H _ _)
  blk_ext [iblk, idx t, tok]

theorem b6 (t : Fin cfg0.N) (z : Fin 1) (k : Fin 512) : (iblk m c 6 t : FVec Ideal S1x512 .f32) (ix2 z k) = (A.gm k : EReal) := by
  refine Eq.trans (b := (V m c main_v2 : FVec Ideal S1x512 .f32) (ix2 z k)) ?_ (gm_host H _ _)
  blk_ext [iblk, idx t, tok]

theorem b7 (t : Fin cfg0.N) (j k : Fin 1024) : (iblk m c 7 t : FVec Ideal S1024x1024 .bf16) (ix2 j k) = (A.w j k : EReal) := by
  refine Eq.trans (b := (V m c main_v3 : FVec Ideal S1024x1024 .bf16) (ix2 j k)) ?_ (w_host H _ _)
  blk_ext [iblk, idx t, tok]

end Cert.OutBwd.Ker
end
end
-- ==== Proof.OutBwd.Final.lean ====
/- The output arrays after the run, over real arguments. -/
module

public import proofs.«01_k».proof.Proof.OutBwd.Blocks

@[expose] public section

set_option maxRecDepth 16384

noncomputable section

namespace Cert.OutBwd.Ker

open Cert.KernelOutBwdIdeal Cert.KernelOutBwdIdeal.Gen
open Cert.Ffn (sumE addE arr2 arr2_ext)
open Idealize.ShloMosaic Idealize.ShloMosaic.TcCoe Idealize.SL.Sem

variable {m : (ℓ : Loc nD τ sig) → Buf (Elt Ideal) ℓ} {c : Dev nD} {A : OutBwd.Args} (H : Agree m c A)

theorem first (t : Fin cfg0.N) (h : t.val % 8 = 0) : ¬1 ≤ t.val := by
  have : t.val < 8 := lt_of_lt_of_eq t.isLt N_0
  omega

theorem later (t : Fin cfg0.N) (h : ¬t.val % 8 = 0) : 1 ≤ t.val := by omega

/-- Row `r` of the group of grid point `t`'s block that starts at row `o`. -/
def rows (t : Fin cfg0.N) (o : ℕ) (ho : o ≤ 768) (r : Fin 256) : Fin 8192 := tok t ⟨o + r.val, by omega⟩

theorem rows_eq {t : Fin cfg0.N} {o : ℕ} {ho : o ≤ 768} {a : Fin 1024} {r : Fin 256} (h : a.val = o + r.val) : rows t o ho r = tok t a :=
  congrArg (tok t) (Fin.ext h.symm)

theorem quad {i : Fin 4} {x : Fin 1} (q : ℕ) (hq : q < 4) (h : i.val = q + x.val) : (⟨q, hq⟩ : Fin 4) = i :=
  Fin.ext (show q = i.val by omega)

include H

theorem l113 (t : Fin cfg0.N) (r : Fin 512) (k : Fin 1024) :
    (View.ld (iblk m c 7 t) (Rect.unit ![0, 0] ![512, 1024] inb_S1024x1024_S512x1024_0_0) : FVec Ideal S512x1024 .bf16) (ix2 r k) = (A.w ⟨r.val, by omega⟩ k : EReal) := by
  pointwise [b7 H t]

theorem l116 (t : Fin cfg0.N) (r : Fin 512) (k : Fin 1024) :
    (View.ld (iblk m c 7 t) (Rect.unit ![512, 0] ![512, 1024] inb_S1024x1024_S512x1024_512_0) : FVec Ideal S512x1024 .bf16) (ix2 r k) = (A.w ⟨512 + r.val, by omega⟩ k : EReal) := by
  pointwise [b7 H t]

theorem l89_0 (t : Fin cfg0.N) (r : Fin 256) (k : Fin 1024) :
    (View.ld (iblk m c 0 t) (Rect.unit ![0, 0] ![256, 1024] inb_S1024x1024_S256x1024_0_0) : FVec Ideal S256x1024 .bf16) (ix2 r k) = (A.dx (rows t 0 (by decide) r) k : EReal) := by
  pointwise [b0 H t]
  exact congrArg (fun i => (A.dx (tok t i) k : EReal)) (Fin.ext (Nat.zero_add _).symm)

theorem l91_0 (t : Fin cfg0.N) (r : Fin 256) (k : Fin 512) :
    (View.ld (iblk m c 1 t) (Rect.unit ![0, 0] ![256, 512] inb_S1024x512_S256x512_0_0) : FVec Ideal S256x512 .f32) (ix2 r k) = (A.of (rows t 0 (by decide) r) k : EReal) := by
  pointwise [b1 H t]
  exact congrArg (fun i => (A.of (tok t i) k : EReal)) (Fin.ext (Nat.zero_add _).symm)

theorem l92_0 (t : Fin cfg0.N) (r : Fin 256) (k : Fin 512) :
    (View.ld (iblk m c 2 t) (Rect.unit ![0, 0] ![256, 512] inb_S1024x512_S256x512_0_0) : FVec Ideal S256x512 .f32) (ix2 r k) = (A.or (rows t 0 (by decide) r) k : EReal) := by
  pointwise [b2 H t]
  exact congrArg (fun i => (A.or (tok t i) k : EReal)) (Fin.ext (Nat.zero_add _).symm)

theorem l93_0 (t : Fin cfg0.N) (r : Fin 256) (k : Fin 512) :
    (View.ld (iblk m c 3 t) (Rect.unit ![0, 0] ![256, 512] inb_S1024x512_S256x512_0_0) : FVec Ideal S256x512 .f32) (ix2 r k) = (A.hg (rows t 0 (by decide) r) k : EReal) := by
  pointwise [b3 H t]
  exact congrArg (fun i => (A.hg (tok t i) k : EReal)) (Fin.ext (Nat.zero_add _).symm)

theorem l94_0 (t : Fin cfg0.N) (r : Fin 256) (k : Fin 512) :
    (View.ld (iblk m c 4 t) (Rect.unit ![0, 0] ![256, 512] inb_S1024x512_S256x512_0_0) : FVec Ideal S256x512 .f32) (ix2 r k) = (A.oa (rows t 0 (by decide) r) k : EReal) := by
  pointwise [b4 H t]
  exact congrArg (fun i => (A.oa (tok t i) k : EReal)) (Fin.ext (Nat.zero_add _).symm)

theorem l89_1 (t : Fin cfg0.N) (r : Fin 256) (k : Fin 1024) :
    (View.ld (iblk m c 0 t) (Rect.unit ![256, 0] ![256, 1024] inb_S1024x1024_S256x1024_256_0) : FVec Ideal S256x1024 .bf16) (ix2 r k) = (A.dx (rows t 256 (by decide) r) k : EReal) := by
  pointwise [b0 H t]
  rfl

theorem l91_1 (t : Fin cfg0.N) (r : Fin 256) (k : Fin 512) :
    (View.ld (iblk m c 1 t) (Rect.unit ![256, 0] ![256, 512] inb_S1024x512_S256x512_256_0) : FVec Ideal S256x512 .f32) (ix2 r k) = (A.of (rows t 256 (by decide) r) k : EReal) := by
  pointwise [b1 H t]
  rfl

theorem l92_1 (t : Fin cfg0.N) (r : Fin 256) (k : Fin 512) :
    (View.ld (iblk m c 2 t) (Rect.unit ![256, 0] ![256, 512] inb_S1024x512_S256x512_256_0) : FVec Ideal S256x512 .f32) (ix2 r k) = (A.or (rows t 256 (by decide) r) k : EReal) := by
  pointwise [b2 H t]
  rfl

theorem l93_1 (t : Fin cfg0.N) (r : Fin 256) (k : Fin 512) :
    (View.ld (iblk m c 3 t) (Rect.unit ![256, 0] ![256, 512] inb_S1024x512_S256x512_256_0) : FVec Ideal S256x512 .f32) (ix2 r k) = (A.hg (rows t 256 (by decide) r) k : EReal) := by
  pointwise [b3 H t]
  rfl

theorem l94_1 (t : Fin cfg0.N) (r : Fin 256) (k : Fin 512) :
    (View.ld (iblk m c 4 t) (Rect.unit ![256, 0] ![256, 512] inb_S1024x512_S256x512_256_0) : FVec Ideal S256x512 .f32) (ix2 r k) = (A.oa (rows t 256 (by decide) r) k : EReal) := by
  pointwise [b4 H t]
  rfl

theorem l89_2 (t : Fin cfg0.N) (r : Fin 256) (k : Fin 1024) :
    (View.ld (iblk m c 0 t) (Rect.unit ![512, 0] ![256, 1024] inb_S1024x1024_S256x1024_512_0) : FVec Ideal S256x1024 .bf16) (ix2 r k) = (A.dx (rows t 512 (by decide) r) k : EReal) := by
  pointwise [b0 H t]
  rfl

theorem l91_2 (t : Fin cfg0.N) (r : Fin 256) (k : Fin 512) :
    (View.ld (iblk m c 1 t) (Rect.unit ![512, 0] ![256, 512] inb_S1024x512_S256x512_512_0) : FVec Ideal S256x512 .f32) (ix2 r k) = (A.of (rows t 512 (by decide) r) k : EReal) := by
  pointwise [b1 H t]
  rfl

theorem l92_2 (t : Fin cfg0.N) (r : Fin 256) (k : Fin 512) :
    (View.ld (iblk m c 2 t) (Rect.unit ![512, 0] ![256, 512] inb_S1024x512_S256x512_512_0) : FVec Ideal S256x512 .f32) (ix2 r k) = (A.or (rows t 512 (by decide) r) k : EReal) := by
  pointwise [b2 H t]
  rfl

theorem l93_2 (t : Fin cfg0.N) (r : Fin 256) (k : Fin 512) :
    (View.ld (iblk m c 3 t) (Rect.unit ![512, 0] ![256, 512] inb_S1024x512_S256x512_512_0) : FVec Ideal S256x512 .f32) (ix2 r k) = (A.hg (rows t 512 (by decide) r) k : EReal) := by
  pointwise [b3 H t]
  rfl

theorem l94_2 (t : Fin cfg0.N) (r : Fin 256) (k : Fin 512) :
    (View.ld (iblk m c 4 t) (Rect.unit ![512, 0] ![256, 512] inb_S1024x512_S256x512_512_0) : FVec Ideal S256x512 .f32) (ix2 r k) = (A.oa (rows t 512 (by decide) r) k : EReal) := by
  pointwise [b4 H t]
  rfl

theorem l89_3 (t : Fin cfg0.N) (r : Fin 256) (k : Fin 1024) :
    (View.ld (iblk m c 0 t) (Rect.unit ![768, 0] ![256, 1024] inb_S1024x1024_S256x1024_768_0) : FVec Ideal S256x1024 .bf16) (ix2 r k) = (A.dx (rows t 768 (by decide) r) k : EReal) := by
  pointwise [b0 H t]
  rfl

theorem l91_3 (t : Fin cfg0.N) (r : Fin 256) (k : Fin 512) :
    (View.ld (iblk m c 1 t) (Rect.unit ![768, 0] ![256, 512] inb_S1024x512_S256x512_768_0) : FVec Ideal S256x512 .f32) (ix2 r k) = (A.of (rows t 768 (by decide) r) k : EReal) := by
  pointwise [b1 H t]
  rfl

theorem l92_3 (t : Fin cfg0.N) (r : Fin 256) (k : Fin 512) :
    (View.ld (iblk m c 2 t) (Rect.unit ![768, 0] ![256, 512] inb_S1024x512_S256x512_768_0) : FVec Ideal S256x512 .f32) (ix2 r k) = (A.or (rows t 768 (by decide) r) k : EReal) := by
  pointwise [b2 H t]
  rfl

theorem l93_3 (t : Fin cfg0.N) (r : Fin 256) (k : Fin 512) :
    (View.ld (iblk m c 3 t) (Rect.unit ![768, 0] ![256, 512] inb_S1024x512_S256x512_768_0) : FVec Ideal S256x512 .f32) (ix2 r k) = (A.hg (rows t 768 (by decide) r) k : EReal) := by
  pointwise [b3 H t]
  rfl

theorem l94_3 (t : Fin cfg0.N) (r : Fin 256) (k : Fin 512) :
    (View.ld (iblk m c 4 t) (Rect.unit ![768, 0] ![256, 512] inb_S1024x512_S256x512_768_0) : FVec Ideal S256x512 .f32) (ix2 r k) = (A.oa (rows t 768 (by decide) r) k : EReal) := by
  pointwise [b4 H t]
  rfl

theorem out8 (t : Fin cfg0.N) (y : S1024x512.Idx) :
    ((outsAt0 m c t.val t.isLt).1 : FVec Ideal S1024x512 .f32) y = (A.do_ (tok t (y 0)) (y 1) : EReal) := by
  by_cases g : t.val % 8 = 0
  · rw [outsAt0_A m c t g (first t g) g (first t g)]; frame_out
    canon_tiles x h
    · idx_vars x
      refine (p102 (ρ := rows t 768 (by decide)) ones_pay (p13 (A := A) (b5 H t)) (p91 (ρ := rows t 768 (by decide)) (p18 (ρ := rows t 768 (by decide)) (l89_3 H t)) (l113 H t)) (p94 (ρ := rows t 768 (by decide)) ones_pay (l91_3 H t) (l92_3 H t)) (p95 (ρ := rows t 768 (by decide)) ones_pay (l91_3 H t) (l92_3 H t)) (p97 (ρ := rows t 768 (by decide)) (l93_3 H t)) x0 x1).trans ?_
      exact congrArg _ (congrArg₂ A.do_ (rows_eq h0) (Fin.ext h1.symm))
    · idx_vars x
      refine (p78 (ρ := rows t 512 (by decide)) ones_pay (p13 (A := A) (b5 H t)) (p70 (ρ := rows t 512 (by decide)) (p17 (ρ := rows t 512 (by decide)) (l89_2 H t)) (l113 H t)) (p73 (ρ := rows t 512 (by decide)) ones_pay (l91_2 H t) (l92_2 H t)) (p74 (ρ := rows t 512 (by decide)) ones_pay (l91_2 H t) (l92_2 H t)) (p76 (ρ := rows t 512 (by decide)) (l93_2 H t)) x0 x1).trans ?_
      exact congrArg _ (congrArg₂ A.do_ (rows_eq h0) (Fin.ext h1.symm))
    · idx_vars x
      refine (p56 (ρ := rows t 256 (by decide)) ones_pay (p49 (ρ := rows t 256 (by decide)) ones_pay (l91_1 H t) (l92_1 H t)) (p50 (ρ := rows t 256 (by decide)) ones_pay (l91_1 H t) (l92_1 H t)) (p54 (ρ := rows t 256 (by decide)) (p13 (A := A) (b5 H t)) (p16 (ρ := rows t 256 (by decide)) (l89_1 H t)) (l93_1 H t) (l113 H t)) (p55 (ρ := rows t 256 (by decide)) ones_pay (p13 (A := A) (b5 H t)) (p16 (ρ := rows t 256 (by decide)) (l89_1 H t)) (l91_1 H t) (l92_1 H t) (l93_1 H t) (l113 H t)) x0 x1).trans ?_
      exact congrArg _ (congrArg₂ A.do_ (rows_eq h0) (Fin.ext h1.symm))
    · idx_vars x
      refine (p32 (ρ := rows t 0 (by decide)) ones_pay (p22 (ρ := rows t 0 (by decide)) ones_pay (l91_0 H t) (l92_0 H t)) (p23 (ρ := rows t 0 (by decide)) ones_pay (l91_0 H t) (l92_0 H t)) (p27 (ρ := rows t 0 (by decide)) (p13 (A := A) (b5 H t)) (p15 (ρ := rows t 0 (by decide)) (l89_0 H t)) (l93_0 H t) (l113 H t)) (p29 (ρ := rows t 0 (by decide)) ones_pay (p13 (A := A) (b5 H t)) (p15 (ρ := rows t 0 (by decide)) (l89_0 H t)) (l91_0 H t) (l92_0 H t) (l93_0 H t) (l113 H t)) (p30 (ρ := rows t 0 (by decide)) ones_pay (p13 (A := A) (b5 H t)) (p15 (ρ := rows t 0 (by decide)) (l89_0 H t)) (l91_0 H t) (l92_0 H t) (l93_0 H t) (l113 H t)) (p31 (ρ := rows t 0 (by decide)) ones_pay (p13 (A := A) (b5 H t)) (p15 (ρ := rows t 0 (by decide)) (l89_0 H t)) (l91_0 H t) (l92_0 H t) (l93_0 H t) (l113 H t)) x0 x1).trans ?_
      exact congrArg _ (congrArg₂ A.do_ (rows_eq (h0.trans (Nat.zero_add _).symm)) (Fin.ext h1.symm))
  · rw [outsAt0_B m c t g (later t g) g (later t g)]; frame_out
    canon_tiles x h
    · idx_vars x
      refine (p102 (ρ := rows t 768 (by decide)) ones_pay (p13 (A := A) (b5 H t)) (p91 (ρ := rows t 768 (by decide)) (p18 (ρ := rows t 768 (by decide)) (l89_3 H t)) (l113 H t)) (p94 (ρ := rows t 768 (by decide)) ones_pay (l91_3 H t) (l92_3 H t)) (p95 (ρ := rows t 768 (by decide)) ones_pay (l91_3 H t) (l92_3 H t)) (p97 (ρ := rows t 768 (by decide)) (l93_3 H t)) x0 x1).trans ?_
      exact congrArg _ (congrArg₂ A.do_ (rows_eq h0) (Fin.ext h1.symm))
    · idx_vars x
      refine (p78 (ρ := rows t 512 (by decide)) ones_pay (p13 (A := A) (b5 H t)) (p70 (ρ := rows t 512 (by decide)) (p17 (ρ := rows t 512 (by decide)) (l89_2 H t)) (l113 H t)) (p73 (ρ := rows t 512 (by decide)) ones_pay (l91_2 H t) (l92_2 H t)) (p74 (ρ := rows t 512 (by decide)) ones_pay (l91_2 H t) (l92_2 H t)) (p76 (ρ := rows t 512 (by decide)) (l93_2 H t)) x0 x1).trans ?_
      exact congrArg _ (congrArg₂ A.do_ (rows_eq h0) (Fin.ext h1.symm))
    · idx_vars x
      refine (p56 (ρ := rows t 256 (by decide)) ones_pay (p49 (ρ := rows t 256 (by decide)) ones_pay (l91_1 H t) (l92_1 H t)) (p50 (ρ := rows t 256 (by decide)) ones_pay (l91_1 H t) (l92_1 H t)) (p54 (ρ := rows t 256 (by decide)) (p13 (A := A) (b5 H t)) (p16 (ρ := rows t 256 (by decide)) (l89_1 H t)) (l93_1 H t) (l113 H t)) (p55 (ρ := rows t 256 (by decide)) ones_pay (p13 (A := A) (b5 H t)) (p16 (ρ := rows t 256 (by decide)) (l89_1 H t)) (l91_1 H t) (l92_1 H t) (l93_1 H t) (l113 H t)) x0 x1).trans ?_
      exact congrArg _ (congrArg₂ A.do_ (rows_eq h0) (Fin.ext h1.symm))
    · idx_vars x
      refine (p32 (ρ := rows t 0 (by decide)) ones_pay (p22 (ρ := rows t 0 (by decide)) ones_pay (l91_0 H t) (l92_0 H t)) (p23 (ρ := rows t 0 (by decide)) ones_pay (l91_0 H t) (l92_0 H t)) (p27 (ρ := rows t 0 (by decide)) (p13 (A := A) (b5 H t)) (p15 (ρ := rows t 0 (by decide)) (l89_0 H t)) (l93_0 H t) (l113 H t)) (p29 (ρ := rows t 0 (by decide)) ones_pay (p13 (A := A) (b5 H t)) (p15 (ρ := rows t 0 (by decide)) (l89_0 H t)) (l91_0 H t) (l92_0 H t) (l93_0 H t) (l113 H t)) (p30 (ρ := rows t 0 (by decide)) ones_pay (p13 (A := A) (b5 H t)) (p15 (ρ := rows t 0 (by decide)) (l89_0 H t)) (l91_0 H t) (l92_0 H t) (l93_0 H t) (l113 H t)) (p31 (ρ := rows t 0 (by decide)) ones_pay (p13 (A := A) (b5 H t)) (p15 (ρ := rows t 0 (by decide)) (l89_0 H t)) (l91_0 H t) (l92_0 H t) (l93_0 H t) (l113 H t)) x0 x1).trans ?_
      exact congrArg _ (congrArg₂ A.do_ (rows_eq (h0.trans (Nat.zero_add _).symm)) (Fin.ext h1.symm))

theorem out9 (t : Fin cfg0.N) (y : S1024x512.Idx) :
    ((outsAt0 m c t.val t.isLt).2.1 : FVec Ideal S1024x512 .bf16) y = (A.dhg (tok t (y 0)) (y 1) : EReal) := by
  by_cases g : t.val % 8 = 0
  · rw [outsAt0_A m c t g (first t g) g (first t g)]; frame_out
    canon_tiles x h
    · idx_vars x
      refine (p101 (ρ := rows t 768 (by decide)) (p96 (ρ := rows t 768 (by decide)) (l93_3 H t)) (p98 (ρ := rows t 768 (by decide)) ones_pay (p13 (A := A) (b5 H t)) (p18 (ρ := rows t 768 (by decide)) (l89_3 H t)) (l91_3 H t) (l92_3 H t) (l113 H t)) (p99 (ρ := rows t 768 (by decide)) (l93_3 H t)) p100 x0 x1).trans ?_
      exact congrArg _ (congrArg₂ A.dhg (rows_eq h0) (Fin.ext h1.symm))
    · idx_vars x
      refine (p77 (ρ := rows t 512 (by decide)) ones_pay (p13 (A := A) (b5 H t)) (p17 (ρ := rows t 512 (by decide)) (l89_2 H t)) (l91_2 H t) (l92_2 H t) (l93_2 H t) (l113 H t) x0 x1).trans ?_
      exact congrArg _ (congrArg₂ A.dhg (rows_eq h0) (Fin.ext h1.symm))
    · idx_vars x
      refine (p53 (ρ := rows t 256 (by decide)) ones_pay (p13 (A := A) (b5 H t)) (p16 (ρ := rows t 256 (by decide)) (l89_1 H t)) (l91_1 H t) (l92_1 H t) (l93_1 H t) (l113 H t) x0 x1).trans ?_
      exact congrArg _ (congrArg₂ A.dhg (rows_eq h0) (Fin.ext h1.symm))
    · idx_vars x
      refine (p26 (ρ := rows t 0 (by decide)) ones_pay (p13 (A := A) (b5 H t)) (p15 (ρ := rows t 0 (by decide)) (l89_0 H t)) (l91_0 H t) (l92_0 H t) (l93_0 H t) (l113 H t) x0 x1).trans ?_
      exact congrArg _ (congrArg₂ A.dhg (rows_eq (h0.trans (Nat.zero_add _).symm)) (Fin.ext h1.symm))
  · rw [outsAt0_B m c t g (later t g) g (later t g)]; frame_out
    canon_tiles x h
    · idx_vars x
      refine (p101 (ρ := rows t 768 (by decide)) (p96 (ρ := rows t 768 (by decide)) (l93_3 H t)) (p98 (ρ := rows t 768 (by decide)) ones_pay (p13 (A := A) (b5 H t)) (p18 (ρ := rows t 768 (by decide)) (l89_3 H t)) (l91_3 H t) (l92_3 H t) (l113 H t)) (p99 (ρ := rows t 768 (by decide)) (l93_3 H t)) p100 x0 x1).trans ?_
      exact congrArg _ (congrArg₂ A.dhg (rows_eq h0) (Fin.ext h1.symm))
    · idx_vars x
      refine (p77 (ρ := rows t 512 (by decide)) ones_pay (p13 (A := A) (b5 H t)) (p17 (ρ := rows t 512 (by decide)) (l89_2 H t)) (l91_2 H t) (l92_2 H t) (l93_2 H t) (l113 H t) x0 x1).trans ?_
      exact congrArg _ (congrArg₂ A.dhg (rows_eq h0) (Fin.ext h1.symm))
    · idx_vars x
      refine (p53 (ρ := rows t 256 (by decide)) ones_pay (p13 (A := A) (b5 H t)) (p16 (ρ := rows t 256 (by decide)) (l89_1 H t)) (l91_1 H t) (l92_1 H t) (l93_1 H t) (l113 H t) x0 x1).trans ?_
      exact congrArg _ (congrArg₂ A.dhg (rows_eq h0) (Fin.ext h1.symm))
    · idx_vars x
      refine (p26 (ρ := rows t 0 (by decide)) ones_pay (p13 (A := A) (b5 H t)) (p15 (ρ := rows t 0 (by decide)) (l89_0 H t)) (l91_0 H t) (l92_0 H t) (l93_0 H t) (l113 H t) x0 x1).trans ?_
      exact congrArg _ (congrArg₂ A.dhg (rows_eq (h0.trans (Nat.zero_add _).symm)) (Fin.ext h1.symm))

theorem out10 (t : Fin cfg0.N) (y : S1024x512.Idx) :
    ((outsAt0 m c t.val t.isLt).2.2.1 : FVec Ideal S1024x512 .bf16) y = (A.doa (tok t (y 0)) (y 1) : EReal) := by
  by_cases g : t.val % 8 = 0
  · rw [outsAt0_A m c t g (first t g) g (first t g)]; frame_out
    canon_tiles x h
    · idx_vars x
      refine (p111 (ρ := rows t 768 (by decide)) (p105 (ρ := rows t 768 (by decide)) (p14 (A := A) (b6 H t)) (l94_3 H t) (p92 (ρ := rows t 768 (by decide)) (p18 (ρ := rows t 768 (by decide)) (l89_3 H t)) (l116 H t))) x0 x1).trans ?_
      exact congrArg _ (congrArg₂ A.doa (rows_eq h0) (Fin.ext h1.symm))
    · idx_vars x
      refine (p89 (ρ := rows t 512 (by decide)) (p81 (ρ := rows t 512 (by decide)) (p14 (A := A) (b6 H t)) (l94_2 H t) (p71 (ρ := rows t 512 (by decide)) (p17 (ρ := rows t 512 (by decide)) (l89_2 H t)) (l116 H t))) x0 x1).trans ?_
      exact congrArg _ (congrArg₂ A.doa (rows_eq h0) (Fin.ext h1.symm))
    · idx_vars x
      refine (p68 (ρ := rows t 256 (by decide)) (p59 (ρ := rows t 256 (by decide)) (p14 (A := A) (b6 H t)) (l94_1 H t) (p47 (ρ := rows t 256 (by decide)) (p16 (ρ := rows t 256 (by decide)) (l89_1 H t)) (l116 H t))) x0 x1).trans ?_
      exact congrArg _ (congrArg₂ A.doa (rows_eq h0) (Fin.ext h1.symm))
    · idx_vars x
      refine (p44 (ρ := rows t 0 (by decide)) (p35 (ρ := rows t 0 (by decide)) (p14 (A := A) (b6 H t)) (l94_0 H t) (p20 (ρ := rows t 0 (by decide)) (p15 (ρ := rows t 0 (by decide)) (l89_0 H t)) (l116 H t))) x0 x1).trans ?_
      exact congrArg _ (congrArg₂ A.doa (rows_eq (h0.trans (Nat.zero_add _).symm)) (Fin.ext h1.symm))
  · rw [outsAt0_B m c t g (later t g) g (later t g)]; frame_out
    canon_tiles x h
    · idx_vars x
      refine (p111 (ρ := rows t 768 (by decide)) (p105 (ρ := rows t 768 (by decide)) (p14 (A := A) (b6 H t)) (l94_3 H t) (p92 (ρ := rows t 768 (by decide)) (p18 (ρ := rows t 768 (by decide)) (l89_3 H t)) (l116 H t))) x0 x1).trans ?_
      exact congrArg _ (congrArg₂ A.doa (rows_eq h0) (Fin.ext h1.symm))
    · idx_vars x
      refine (p89 (ρ := rows t 512 (by decide)) (p81 (ρ := rows t 512 (by decide)) (p14 (A := A) (b6 H t)) (l94_2 H t) (p71 (ρ := rows t 512 (by decide)) (p17 (ρ := rows t 512 (by decide)) (l89_2 H t)) (l116 H t))) x0 x1).trans ?_
      exact congrArg _ (congrArg₂ A.doa (rows_eq h0) (Fin.ext h1.symm))
    · idx_vars x
      refine (p68 (ρ := rows t 256 (by decide)) (p59 (ρ := rows t 256 (by decide)) (p14 (A := A) (b6 H t)) (l94_1 H t) (p47 (ρ := rows t 256 (by decide)) (p16 (ρ := rows t 256 (by decide)) (l89_1 H t)) (l116 H t))) x0 x1).trans ?_
      exact congrArg _ (congrArg₂ A.doa (rows_eq h0) (Fin.ext h1.symm))
    · idx_vars x
      refine (p44 (ρ := rows t 0 (by decide)) (p35 (ρ := rows t 0 (by decide)) (p14 (A := A) (b6 H t)) (l94_0 H t) (p20 (ρ := rows t 0 (by decide)) (p15 (ρ := rows t 0 (by decide)) (l89_0 H t)) (l116 H t))) x0 x1).trans ?_
      exact congrArg _ (congrArg₂ A.doa (rows_eq (h0.trans (Nat.zero_add _).symm)) (Fin.ext h1.symm))

theorem out11 (t : Fin cfg0.N) (y : S4x1x1024.Idx) :
    ((outsAt0 m c t.val t.isLt).2.2.2.1 : FVec Ideal S4x1x1024 .f32) y = (A.delta (y 0) (tok t (y 2)) : EReal) := by
  by_cases g : t.val % 8 = 0
  · rw [outsAt0_A m c t g (first t g) g (first t g)]; frame_out
    canon_tiles x h
    · idx_vars x
      refine (p2 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 3 (by decide) h0) (rows_eq h2))
    · idx_vars x
      refine (p1 (ρ := rows t 768 (by decide)) (p128 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t))))) x0 x1 x2).trans ?_
      exact congrArg _ (congrArg₂ A.delta (quad 2 (by decide) h0) (rows_eq h2))
    · idx_vars x
      refine (p127 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 1 (by decide) h0) (rows_eq h2))
    · idx_vars x
      refine (p126 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 0 (by decide) (h0.trans (Nat.zero_add _).symm)) (rows_eq h2))
    · idx_vars x
      refine (p125 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 3 (by decide) h0) (rows_eq h2))
    · idx_vars x
      refine (p124 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 2 (by decide) h0) (rows_eq h2))
    · idx_vars x
      refine (p123 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 1 (by decide) h0) (rows_eq h2))
    · idx_vars x
      refine (p122 (ρ := rows t 512 (by decide)) (p121 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t))))) x0 x1 x2).trans ?_
      exact congrArg _ (congrArg₂ A.delta (quad 0 (by decide) (h0.trans (Nat.zero_add _).symm)) (rows_eq h2))
    · idx_vars x
      refine (p120 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 3 (by decide) h0) (rows_eq h2))
    · idx_vars x
      refine (p119 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 2 (by decide) h0) (rows_eq h2))
    · idx_vars x
      refine (p118 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 1 (by decide) h0) (rows_eq h2))
    · idx_vars x
      refine (p117 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 0 (by decide) (h0.trans (Nat.zero_add _).symm)) (rows_eq h2))
    · idx_vars x
      refine (p116 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 3 (by decide) h0) (rows_eq (h2.trans (Nat.zero_add _).symm)))
    · idx_vars x
      refine (p115 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 2 (by decide) h0) (rows_eq (h2.trans (Nat.zero_add _).symm)))
    · idx_vars x
      refine (p114 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 1 (by decide) h0) (rows_eq (h2.trans (Nat.zero_add _).symm)))
    · idx_vars x
      refine (p113 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 0 (by decide) (h0.trans (Nat.zero_add _).symm)) (rows_eq (h2.trans (Nat.zero_add _).symm)))
  · rw [outsAt0_B m c t g (later t g) g (later t g)]; frame_out
    canon_tiles x h
    · idx_vars x
      refine (p2 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 3 (by decide) h0) (rows_eq h2))
    · idx_vars x
      refine (p1 (ρ := rows t 768 (by decide)) (p128 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t))))) x0 x1 x2).trans ?_
      exact congrArg _ (congrArg₂ A.delta (quad 2 (by decide) h0) (rows_eq h2))
    · idx_vars x
      refine (p127 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 1 (by decide) h0) (rows_eq h2))
    · idx_vars x
      refine (p126 (ρ := rows t 768 (by decide)) (p110 (ρ := rows t 768 (by decide)) sel_pay (p107 (ρ := rows t 768 (by decide)) (p14 (A := A) (b6 H t)) (l94_3 H t) (p92 (ρ := rows t 768 (by decide)) (p18 (ρ := rows t 768 (by decide)) (l89_3 H t)) (l116 H t))) (p108 (ρ := rows t 768 (by decide)) (p14 (A := A) (b6 H t)) (l94_3 H t) (p92 (ρ := rows t 768 (by decide)) (p18 (ρ := rows t 768 (by decide)) (l89_3 H t)) (l116 H t))) (p109 (ρ := rows t 768 (by decide)) (p14 (A := A) (b6 H t)) (l94_3 H t) (p92 (ρ := rows t 768 (by decide)) (p18 (ρ := rows t 768 (by decide)) (l89_3 H t)) (l116 H t)))) x0 x1 x2).trans ?_
      exact congrArg _ (congrArg₂ A.delta (quad 0 (by decide) (h0.trans (Nat.zero_add _).symm)) (rows_eq h2))
    · idx_vars x
      refine (p125 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 3 (by decide) h0) (rows_eq h2))
    · idx_vars x
      refine (p124 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 2 (by decide) h0) (rows_eq h2))
    · idx_vars x
      refine (p123 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t)))) x0 x1 x2).trans ?_
      exact congrArg _ (congrArg₂ A.delta (quad 1 (by decide) h0) (rows_eq h2))
    · idx_vars x
      refine (p122 (ρ := rows t 512 (by decide)) (p121 (ρ := rows t 512 (by decide)) (p88 (ρ := rows t 512 (by decide)) sel_pay (p84 (ρ := rows t 512 (by decide)) (p14 (A := A) (b6 H t)) (l94_2 H t) (p71 (ρ := rows t 512 (by decide)) (p17 (ρ := rows t 512 (by decide)) (l89_2 H t)) (l116 H t))) (p86 (ρ := rows t 512 (by decide)) (p14 (A := A) (b6 H t)) (l94_2 H t) (p71 (ρ := rows t 512 (by decide)) (p17 (ρ := rows t 512 (by decide)) (l89_2 H t)) (l116 H t))) (p87 (ρ := rows t 512 (by decide)) (p14 (A := A) (b6 H t)) (l94_2 H t) (p71 (ρ := rows t 512 (by decide)) (p17 (ρ := rows t 512 (by decide)) (l89_2 H t)) (l116 H t))))) x0 x1 x2).trans ?_
      exact congrArg _ (congrArg₂ A.delta (quad 0 (by decide) (h0.trans (Nat.zero_add _).symm)) (rows_eq h2))
    · idx_vars x
      refine (p120 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 3 (by decide) h0) (rows_eq h2))
    · idx_vars x
      refine (p119 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 2 (by decide) h0) (rows_eq h2))
    · idx_vars x
      refine (p118 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 1 (by decide) h0) (rows_eq h2))
    · idx_vars x
      refine (p117 (ρ := rows t 256 (by decide)) (p67 (ρ := rows t 256 (by decide)) sel_pay (p64 (ρ := rows t 256 (by decide)) (p14 (A := A) (b6 H t)) (l94_1 H t) (p47 (ρ := rows t 256 (by decide)) (p16 (ρ := rows t 256 (by decide)) (l89_1 H t)) (l116 H t))) (p65 (ρ := rows t 256 (by decide)) (p14 (A := A) (b6 H t)) (l94_1 H t) (p47 (ρ := rows t 256 (by decide)) (p16 (ρ := rows t 256 (by decide)) (l89_1 H t)) (l116 H t))) (p66 (ρ := rows t 256 (by decide)) sel_pay (p14 (A := A) (b6 H t)) (l94_1 H t) (p47 (ρ := rows t 256 (by decide)) (p16 (ρ := rows t 256 (by decide)) (l89_1 H t)) (l116 H t))) (fun h r => by pointwise []; exact EReal.coe_zero.symm)) x0 x1 x2).trans ?_
      exact congrArg _ (congrArg₂ A.delta (quad 0 (by decide) (h0.trans (Nat.zero_add _).symm)) (rows_eq h2))
    · idx_vars x
      refine (p116 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 3 (by decide) h0) (rows_eq (h2.trans (Nat.zero_add _).symm)))
    · idx_vars x
      refine (p115 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 2 (by decide) h0) (rows_eq (h2.trans (Nat.zero_add _).symm)))
    · idx_vars x
      refine (p114 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 1 (by decide) h0) (rows_eq (h2.trans (Nat.zero_add _).symm)))
    · idx_vars x
      refine (p113 (ρ := rows t 0 (by decide)) (p43 (ρ := rows t 0 (by decide)) (p41 (ρ := rows t 0 (by decide)) sel_pay (p14 (A := A) (b6 H t)) (l94_0 H t) (p20 (ρ := rows t 0 (by decide)) (p15 (ρ := rows t 0 (by decide)) (l89_0 H t)) (l116 H t))) (p42 (ρ := rows t 0 (by decide)) sel_pay (p14 (A := A) (b6 H t)) (l94_0 H t) (p20 (ρ := rows t 0 (by decide)) (p15 (ρ := rows t 0 (by decide)) (l89_0 H t)) (l116 H t)))) x0 x1 x2).trans ?_
      exact congrArg _ (congrArg₂ A.delta (quad 0 (by decide) (h0.trans (Nat.zero_add _).symm)) (rows_eq (h2.trans (Nat.zero_add _).symm)))

/-! ## The gains' gradients -/

theorem first12 (t : Fin cfg0.N) (h : t.val % 8 = 0) (z : Fin 1) (k : Fin 512) :
    ((outsAt0 m c t.val t.isLt).2.2.2.2.1 : FVec Ideal S1x512 .f32) (ix2 z k) = ((∑ r, A.dghRow (tok t r) k : ℝ) : EReal) := by
  rw [outsAt0_A m c t h (first t h) h (first t h)]; frame_out
  exact s3 (T := tok t) (f := A.dghRow) (p45 (ρ := rows t 0 (by decide)) (p19 (ρ := rows t 0 (by decide)) (p15 (ρ := rows t 0 (by decide)) (l89_0 H t)) (l113 H t)) (p23 (ρ := rows t 0 (by decide)) ones_pay (l91_0 H t) (l92_0 H t)) (p25 (ρ := rows t 0 (by decide)) (l93_0 H t))) (p69 (ρ := rows t 256 (by decide)) (p46 (ρ := rows t 256 (by decide)) (p16 (ρ := rows t 256 (by decide)) (l89_1 H t)) (l113 H t)) (p50 (ρ := rows t 256 (by decide)) ones_pay (l91_1 H t) (l92_1 H t)) (p52 (ρ := rows t 256 (by decide)) (l93_1 H t))) (p90 (ρ := rows t 512 (by decide)) (p70 (ρ := rows t 512 (by decide)) (p17 (ρ := rows t 512 (by decide)) (l89_2 H t)) (l113 H t)) (p74 (ρ := rows t 512 (by decide)) ones_pay (l91_2 H t) (l92_2 H t)) (p76 (ρ := rows t 512 (by decide)) (l93_2 H t))) (p112 (ρ := rows t 768 (by decide)) (p91 (ρ := rows t 768 (by decide)) (p18 (ρ := rows t 768 (by decide)) (l89_3 H t)) (l113 H t)) (p95 (ρ := rows t 768 (by decide)) ones_pay (l91_3 H t) (l92_3 H t)) (p97 (ρ := rows t 768 (by decide)) (l93_3 H t))) z k

theorem step12 (t : Fin cfg0.N) (h : ¬t.val % 8 = 0) (z : Fin 1) (k : Fin 512) :
    ((outsAt0 m c t.val t.isLt).2.2.2.2.1 : FVec Ideal S1x512 .f32) (ix2 z k) = ((outsAt0 m c (t.val - 1) (by omega)).2.2.2.2.1 : FVec Ideal S1x512 .f32) (ix2 z k) + ((∑ r, A.dghRow (tok t r) k : ℝ) : EReal) := by
  rw [outsAt0_B m c t h (later t h) h (later t h)]; frame_out
  exact s4 (T := tok t) (f := A.dghRow) (p45 (ρ := rows t 0 (by decide)) (p19 (ρ := rows t 0 (by decide)) (p15 (ρ := rows t 0 (by decide)) (l89_0 H t)) (l113 H t)) (p23 (ρ := rows t 0 (by decide)) ones_pay (l91_0 H t) (l92_0 H t)) (p25 (ρ := rows t 0 (by decide)) (l93_0 H t))) (p69 (ρ := rows t 256 (by decide)) (p46 (ρ := rows t 256 (by decide)) (p16 (ρ := rows t 256 (by decide)) (l89_1 H t)) (l113 H t)) (p50 (ρ := rows t 256 (by decide)) ones_pay (l91_1 H t) (l92_1 H t)) (p52 (ρ := rows t 256 (by decide)) (l93_1 H t))) (p90 (ρ := rows t 512 (by decide)) (p70 (ρ := rows t 512 (by decide)) (p17 (ρ := rows t 512 (by decide)) (l89_2 H t)) (l113 H t)) (p74 (ρ := rows t 512 (by decide)) ones_pay (l91_2 H t) (l92_2 H t)) (p76 (ρ := rows t 512 (by decide)) (l93_2 H t))) (p112 (ρ := rows t 768 (by decide)) (p91 (ρ := rows t 768 (by decide)) (p18 (ρ := rows t 768 (by decide)) (l89_3 H t)) (l113 H t)) (p95 (ρ := rows t 768 (by decide)) ones_pay (l91_3 H t) (l92_3 H t)) (p97 (ρ := rows t 768 (by decide)) (l93_3 H t))) z k

theorem first13 (t : Fin cfg0.N) (h : t.val % 8 = 0) (z : Fin 1) (k : Fin 512) :
    ((outsAt0 m c t.val t.isLt).2.2.2.2.2 : FVec Ideal S1x512 .f32) (ix2 z k) = ((∑ r, A.dgmRow (tok t r) k : ℝ) : EReal) := by
  rw [outsAt0_A m c t h (first t h) h (first t h)]; frame_out
  exact s5 (T := tok t) (f := A.dgmRow) (p36 (ρ := rows t 0 (by decide)) (l94_0 H t) (p20 (ρ := rows t 0 (by decide)) (p15 (ρ := rows t 0 (by decide)) (l89_0 H t)) (l116 H t))) (p60 (ρ := rows t 256 (by decide)) (l94_1 H t) (p47 (ρ := rows t 256 (by decide)) (p16 (ρ := rows t 256 (by decide)) (l89_1 H t)) (l116 H t))) (p82 (ρ := rows t 512 (by decide)) (l94_2 H t) (p71 (ρ := rows t 512 (by decide)) (p17 (ρ := rows t 512 (by decide)) (l89_2 H t)) (l116 H t))) (p106 (ρ := rows t 768 (by decide)) (l94_3 H t) (p92 (ρ := rows t 768 (by decide)) (p18 (ρ := rows t 768 (by decide)) (l89_3 H t)) (l116 H t))) z k

theorem step13 (t : Fin cfg0.N) (h : ¬t.val % 8 = 0) (z : Fin 1) (k : Fin 512) :
    ((outsAt0 m c t.val t.isLt).2.2.2.2.2 : FVec Ideal S1x512 .f32) (ix2 z k) = ((outsAt0 m c (t.val - 1) (by omega)).2.2.2.2.2 : FVec Ideal S1x512 .f32) (ix2 z k) + ((∑ r, A.dgmRow (tok t r) k : ℝ) : EReal) := by
  rw [outsAt0_B m c t h (later t h) h (later t h)]; frame_out
  exact s6 (T := tok t) (f := A.dgmRow) (p36 (ρ := rows t 0 (by decide)) (l94_0 H t) (p20 (ρ := rows t 0 (by decide)) (p15 (ρ := rows t 0 (by decide)) (l89_0 H t)) (l116 H t))) (p60 (ρ := rows t 256 (by decide)) (l94_1 H t) (p47 (ρ := rows t 256 (by decide)) (p16 (ρ := rows t 256 (by decide)) (l89_1 H t)) (l116 H t))) (p82 (ρ := rows t 512 (by decide)) (l94_2 H t) (p71 (ρ := rows t 512 (by decide)) (p17 (ρ := rows t 512 (by decide)) (l89_2 H t)) (l116 H t))) (p106 (ρ := rows t 768 (by decide)) (l94_3 H t) (p92 (ρ := rows t 768 (by decide)) (p18 (ρ := rows t 768 (by decide)) (l89_3 H t)) (l116 H t))) z k

/-! ## The whole arrays -/

theorem final8 : ((dats m 0 c).arrAt 8 cfg0.N : FVec Ideal S8192x512 .f32) = arr2 A.do_ := by
  refine (dats m 0 c).arrAt_eq_of_covers 8 _ (by decide +kernel) fun t hf y => ?_
  blk_simp
  rw [after0_8]
  refine (out8 H t y).trans ?_
  idx_vars y
  exact arr2_ext A.do_ (by blk_ext [idx t, tok])

theorem final9 : ((dats m 0 c).arrAt 9 cfg0.N : FVec Ideal S8192x512 .bf16) = arr2 A.dhg := by
  refine (dats m 0 c).arrAt_eq_of_covers 9 _ (by decide +kernel) fun t hf y => ?_
  blk_simp
  rw [after0_9]
  refine (out9 H t y).trans ?_
  idx_vars y
  exact arr2_ext A.dhg (by blk_ext [idx t, tok])

theorem final10 : ((dats m 0 c).arrAt 10 cfg0.N : FVec Ideal S8192x512 .bf16) = arr2 A.doa := by
  refine (dats m 0 c).arrAt_eq_of_covers 10 _ (by decide +kernel) fun t hf y => ?_
  blk_simp
  rw [after0_10]
  refine (out10 H t y).trans ?_
  idx_vars y
  exact arr2_ext A.doa (by blk_ext [idx t, tok])

theorem final11 : ((dats m 0 c).arrAt 11 cfg0.N : FVec Ideal S4x1x8192 .f32) = arr3 (fun h _ a => A.delta h a) := by
  refine (dats m 0 c).arrAt_eq_of_covers 11 _ (by decide +kernel) fun t hf y => ?_
  blk_simp
  rw [after0_11]
  refine (out11 H t y).trans ?_
  idx_vars y
  exact arr3_ext (fun h _ a => A.delta h a) (b := y1) (by blk_ext [idx t, tok])

omit H in
/-- A value that starts at its first term and adds a term at every later point is the sum of the terms so far. -/
theorem acc_sum (N : ℕ) (f : (n : ℕ) → n < N → EReal) (p : ℕ → ℝ) (h0 : ∀ h, f 0 h = (p 0 : EReal))
    (hs : ∀ n (h : n + 1 < N), f (n + 1) h = f n (Nat.lt_of_succ_lt h) + (p (n + 1) : EReal)) :
    ∀ n (h : n < N), f n h = ((∑ i ∈ Finset.range (n + 1), p i : ℝ) : EReal)
  | 0, h => by rw [h0]; simp
  | n + 1, h => by rw [hs, acc_sum N f p h0 hs n, addE, Finset.sum_range_succ _ (n + 1)]

/-- Row `r` of block `n`, for any number `n`. -/
def tokN (n : ℕ) (r : Fin 1024) : Fin 8192 := ⟨(n * 1024 + r.val) % 8192, Nat.mod_lt _ (by decide)⟩

omit H in
theorem tok_eq (t : Fin cfg0.N) (r : Fin 1024) : tok t r = tokN t.val r := by
  have h : t.val < 8 := lt_of_lt_of_eq t.isLt N_0
  have hr := r.isLt
  exact Fin.ext (show t.val * 1024 + r.val = (t.val * 1024 + r.val) % 8192 by omega)

omit H in
/-- The 8 blocks' rows are all rows. -/
theorem sum_tok (g : Fin 8192 → ℝ) : ∑ i ∈ Finset.range 8, ∑ r : Fin 1024, g (tokN i r) = ∑ a, g a := by
  rw [Finset.sum_range, Fin.sum_univ_tiles 8 1024 rfl g]
  refine Finset.sum_congr rfl fun i _ => Finset.sum_congr rfl fun r _ => congrArg g (Fin.ext ?_)
  have hi := i.isLt; have hr := r.isLt
  exact (show (i.val * 1024 + r.val) % 8192 = i.val * 1024 + r.val by omega)

theorem sum12 (z : Fin 1) (k : Fin 512) (n : ℕ) (hn : n < cfg0.N) :
    ((outsAt0 m c n hn).2.2.2.2.1 : FVec Ideal S1x512 .f32) (ix2 z k) = ((∑ n ∈ Finset.range (n + 1), (∑ r, A.dghRow (tokN n r) k) : ℝ) : EReal) := by
  refine acc_sum cfg0.N (fun n hn => ((outsAt0 m c n hn).2.2.2.2.1 : FVec Ideal S1x512 .f32) (ix2 z k)) (fun n => ∑ r, A.dghRow (tokN n r) k)
    (fun h => ?_) (fun n h => ?_) n hn
  · simp only [first12 H ⟨0, h⟩ rfl z k, tok_eq]
  · have h' : n + 1 < 8 := lt_of_lt_of_eq h N_0
    simp only [step12 H ⟨n + 1, h⟩ (show ¬(n + 1) % 8 = 0 by omega) z k, tok_eq]
    rfl

theorem final12 : ((dats m 0 c).arrAt 12 cfg0.N : FVec Ideal S1x512 .f32) = arr2 (fun _ k => ∑ a, A.dghRow a k) := by
  refine (dats m 0 c).arrAt_eq_of_covers 12 _ (by decide +kernel) fun t hf y => ?_
  have hl : t.val = 7 := by
    have h := (flush0_12 t).mp hf
    have h' : t.val < 8 := lt_of_lt_of_eq t.isLt N_0
    omega
  blk_simp
  rw [after0_12]
  idx_vars y
  refine (sum12 H y0 y1 t.val t.isLt).trans ?_
  rw [hl]
  refine (congrArg _ (sum_tok fun a => A.dghRow a y1 : _ = ((fun _ k => ∑ a, A.dghRow a k) : Fin 1 → Fin 512 → ℝ) y0 y1)).trans ?_
  exact arr2_ext (a := y0) (b := y1) (fun _ k => ∑ a, A.dghRow a k) (by blk_ext [idx t])

theorem sum13 (z : Fin 1) (k : Fin 512) (n : ℕ) (hn : n < cfg0.N) :
    ((outsAt0 m c n hn).2.2.2.2.2 : FVec Ideal S1x512 .f32) (ix2 z k) = ((∑ n ∈ Finset.range (n + 1), (∑ r, A.dgmRow (tokN n r) k) : ℝ) : EReal) := by
  refine acc_sum cfg0.N (fun n hn => ((outsAt0 m c n hn).2.2.2.2.2 : FVec Ideal S1x512 .f32) (ix2 z k)) (fun n => ∑ r, A.dgmRow (tokN n r) k)
    (fun h => ?_) (fun n h => ?_) n hn
  · simp only [first13 H ⟨0, h⟩ rfl z k, tok_eq]
  · have h' : n + 1 < 8 := lt_of_lt_of_eq h N_0
    simp only [step13 H ⟨n + 1, h⟩ (show ¬(n + 1) % 8 = 0 by omega) z k, tok_eq]
    rfl

theorem final13 : ((dats m 0 c).arrAt 13 cfg0.N : FVec Ideal S1x512 .f32) = arr2 (fun _ k => ∑ a, A.dgmRow a k) := by
  refine (dats m 0 c).arrAt_eq_of_covers 13 _ (by decide +kernel) fun t hf y => ?_
  have hl : t.val = 7 := by
    have h := (flush0_13 t).mp hf
    have h' : t.val < 8 := lt_of_lt_of_eq t.isLt N_0
    omega
  blk_simp
  rw [after0_13]
  idx_vars y
  refine (sum13 H y0 y1 t.val t.isLt).trans ?_
  rw [hl]
  refine (congrArg _ (sum_tok fun a => A.dgmRow a y1 : _ = ((fun _ k => ∑ a, A.dgmRow a k) : Fin 1 → Fin 512 → ℝ) y0 y1)).trans ?_
  exact arr2_ext (a := y0) (b := y1) (fun _ k => ∑ a, A.dgmRow a k) (by blk_ext [idx t])

end Cert.OutBwd.Ker
end
end
-- ==== Proof.OutBwd.Ref.lean ====
/- The reference's results over real arguments. -/
module

public import proofs.«01_k».proof.Proof.Gen.ReferenceOutBwdIdeal.Read
public import proofs.«01_k».proof.Proof.OutBwd.Real

@[expose] public section

set_option maxRecDepth 16384

noncomputable section

namespace Cert.OutBwd.Ref

open Cert.ReferenceOutBwdIdeal Cert.ReferenceOutBwdIdeal.Gen Cert.ReferenceOutBwdIdeal.Read
open Cert.Ffn (sg mulE addE subE negE sumE divE rsqrtE sg_host c_eps c_half c_neg_half c_two)
open Idealize.ShloMosaic Idealize.ShloMosaic.TcCoe Idealize.SL.Sem Idealize.ShloMosaic.StableHlo

variable {A : OutBwd.Args}
  {x0 : FVec Ideal S8192x1024 .f32} {x1 x2 x3 x4 : FVec Ideal S8192x512 .f32} {x5 x6 : FVec Ideal S512 .f32} {x7 : FVec Ideal S1024x1024 .f32}
  (h0 : ∀ a k, x0 (ix2 a k) = (A.dx a k : EReal))
  (h1 : ∀ a k, x1 (ix2 a k) = (A.of a k : EReal))
  (h2 : ∀ a k, x2 (ix2 a k) = (A.or a k : EReal))
  (h3 : ∀ a k, x3 (ix2 a k) = (A.hg a k : EReal))
  (h4 : ∀ a k, x4 (ix2 a k) = (A.oa a k : EReal))
  (h5 : ∀ k, x5 (ix1 k) = (A.gh k : EReal))
  (h6 : ∀ k, x6 (ix1 k) = (A.gm k : EReal))
  (h7 : ∀ a k, x7 (ix2 a k) = (A.w a k : EReal))

include h1 h2 in
theorem o_read (a : Fin 8192) (h : Fin 8) (l : Fin 64) : val_main_v1 (F := Ideal) x1 x2 (ix3 a h l) = (A.oh a h l : EReal) := by
  pointwise [val_main_v1, val_main_v0, h1, h2]
  simp only [addE]
  rfl

include h1 h2 in
theorem ms_read (a : Fin 8192) (h : Fin 8) (z : Fin 1) : val_main_v8 (F := Ideal) x1 x2 (ix3 a h z) = (ms 64 (A.oh a h) : EReal) := by
  pointwise [val_main_v8, val_main_v7, val_main_v6, val_main_v5, val_main_v4, val_main_v3, val_main_v2, val_main_cst, val_main_cst_0, val_main_cst_1, o_read h1 h2]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]
  rfl

include h1 h2 in
theorem rh_read (a : Fin 8192) (h : Fin 8) (z : Fin 1) : val_main_v9 (F := Ideal) x1 x2 (ix3 a h z) = (A.rh a h : EReal) := by
  pointwise [val_main_v9, ms_read h1 h2]
  rw [rsqrtE _ (ms_pos 64 (by norm_num) _)]
  rfl

include h1 h2 in
theorem onh_read (a : Fin 8192) (h : Fin 8) (l : Fin 64) : val_main_v14 (F := Ideal) x1 x2 (ix3 a h l) = ((A.oh a h l * A.rh a h : ℝ) : EReal) := by
  pointwise [val_main_v14, val_main_v13, o_read h1 h2, rh_read h1 h2]
  simp only [mulE]

include h1 h2 in
theorem on_read (a : Fin 8192) (j : Fin 512) : val_main_v15 (F := Ideal) x1 x2 (ix2 a j) = (A.on a j : EReal) := by
  pointwise [val_main_v15, onh_read h1 h2]
  exact congrArg (fun i => ((A.o a i * A.rh a (hd j) : ℝ) : EReal)) (lane_eq j)

include h3 in
theorem sg_read (a : Fin 8192) (j : Fin 512) : val_main_v19_2 (F := Ideal) x3 (ix2 a j) = (sg (A.hg a j) : EReal) := by
  pointwise [val_main_v19_2, val_main_call0_v4, val_main_call0_v3, val_main_call0_v2, val_main_call0_v1, val_main_call0_v0, val_main_call0_cst, val_main_call0_cst_0, h3]
  exact sg_host _

include h3 in
theorem dsg_read (a : Fin 8192) (j : Fin 512) : val_main_v19_1 (F := Ideal) x3 (ix2 a j) = ((sg (A.hg a j) * (1 - sg (A.hg a j)) : ℝ) : EReal) := by
  pointwise [val_main_v19_1, val_main_call0_v7, val_main_call0_v6, val_main_call0_cst_1, sg_read h3]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]

include h0 h7 in
theorem dya_read (a : Fin 8192) (j : Fin 512) : val_main_v40 (F := Ideal) x0 x7 (ix2 a j) = (A.dya a j : EReal) := by
  pointwise [val_main_v40, val_main_v39, h0, h7]
  simp only [mulE, sumE]
  rfl

include h0 h7 in
theorem dyb_read (a : Fin 8192) (j : Fin 512) : val_main_v41 (F := Ideal) x0 x7 (ix2 a j) = (A.dyb a j : EReal) := by
  pointwise [val_main_v41, val_main_v39, h0, h7]
  simp only [mulE, sumE]
  rfl

include h0 h1 h2 h3 h5 h7 in
theorem dhg_read (a : Fin 8192) (j : Fin 512) : val_main_v91 (F := Ideal) x0 x1 x2 x3 x5 x7 (ix2 a j) = (A.dhg a j : EReal) := by
  pointwise [val_main_v91, val_main_v64, val_main_call1_v2, val_main_call1_v1, val_main_call1_v0, val_main_v62, val_main_v18, val_main_v17, val_main_v16, h3, h5, on_read h1 h2, dya_read h0 h7, sg_read h3, dsg_read h3]
  simp only [mulE, addE]
  exact congrArg _ (by rw [Args.dhg]; ring)

include h0 h3 h7 in
theorem dsl_read (a : Fin 8192) (j : Fin 512) : val_main_v63 (F := Ideal) x0 x3 x7 (ix2 a j) = ((A.dya a j * (A.hg a j * sg (A.hg a j)) : ℝ) : EReal) := by
  pointwise [val_main_v63, val_main_v19_0, h3, dya_read h0 h7, sg_read h3]
  simp only [mulE]

include h0 h1 h2 h3 h7 in
theorem dgh_read (z : Fin 1) (j : Fin 512) : val_main_v94 (F := Ideal) x0 x1 x2 x3 x7 (ix2 z j) = ((∑ a, A.dghRow a j : ℝ) : EReal) := by
  pointwise [val_main_v94, val_main_v70, val_main_v67, val_main_v66, val_main_v65, val_main_cst_12, val_main_cst_13, on_read h1 h2, dsl_read h0 h3 h7]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]
  exact congrArg _ (Finset.sum_congr rfl fun a _ => mul_comm _ _)

include h0 h3 h5 h7 in
theorem don_read (a : Fin 8192) (h : Fin 8) (l : Fin 64) : val_main_v71 (F := Ideal) x0 x3 x5 x7 (ix3 a h l) = (A.don a (lane h l) : EReal) := by
  pointwise [val_main_v71, val_main_v69, val_main_v68, val_main_v16, h5, dsl_read h0 h3 h7]
  simp only [mulE]
  rfl

include h0 h1 h2 h3 h5 h7 in
theorem hmean_read (a : Fin 8192) (h : Fin 8) : val_main_v80 (F := Ideal) x0 x1 x2 x3 x5 x7 (ix2 a h) = (((∑ l, A.oh a h l * A.don a (lane h l)) * (-(1 / 2) * (A.rh a h * (1 / ms 64 (A.oh a h)))) * (1 / 64) : ℝ) : EReal) := by
  pointwise [val_main_v80, val_main_v79, val_main_v78, val_main_v77, val_main_v74, val_main_v73, val_main_v72, val_main_v12, val_main_v11, val_main_v10, val_main_cst_2, val_main_cst_14, val_main_cst_15, val_main_cst_16, o_read h1 h2, don_read h0 h3 h5 h7, rh_read h1 h2, ms_read h1 h2]
  simp only [c_eps, c_512, c_64, c_half, c_neg_half, c_two, zero_add, mulE, Fin.sum_univ_one, sumE, divE _ _ (by norm_num : (512 : ℝ) ≠ 0), divE _ _ (by norm_num : (64 : ℝ) ≠ 0), divE _ _ (ms_pos 64 (by norm_num) (A.oh a h)).ne', addE, subE, negE, ← EReal.coe_one, ← EReal.coe_zero]

include h0 h1 h2 h3 h5 h7 in
theorem do_read (a : Fin 8192) (j : Fin 512) : val_main_v86 (F := Ideal) x0 x1 x2 x3 x5 x7 (ix2 a j) = (A.do_ a j : EReal) := by
  pointwise [val_main_v86, val_main_v85, val_main_v84, val_main_v83, val_main_v82, val_main_v81, val_main_v76, val_main_v75, o_read h1 h2, don_read h0 h3 h5 h7, rh_read h1 h2, hmean_read h0 h1 h2 h3 h5 h7]
  simp only [mulE, addE]
  exact congrArg _ (rmsGrad_vjp 64 (by norm_num) (A.oh a (hd j)) (fun l => A.don a (lane (hd j) l)) (ln j))

include h4 in
theorem ma_read (a : Fin 8192) (z : Fin 1) : val_main_v27 (F := Ideal) x4 (ix2 a z) = (ms 512 (A.oa a) : EReal) := by
  pointwise [val_main_v27, val_main_v26, val_main_v25, val_main_v24, val_main_v23, val_main_v22, val_main_v21, val_main_cst_3, val_main_cst_4, val_main_cst_5, h4]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]
  rfl

include h4 in
theorem ra_read (a : Fin 8192) (z : Fin 1) : val_main_v28 (F := Ideal) x4 (ix2 a z) = (rr 512 (A.oa a) : EReal) := by
  pointwise [val_main_v28, ma_read h4]
  rw [rsqrtE _ (ms_pos 512 (by norm_num) _)]
  rfl

include h4 in
theorem xa_read (a : Fin 8192) (j : Fin 512) : val_main_v33 (F := Ideal) x4 (ix2 a j) = ((A.oa a j * rr 512 (A.oa a) : ℝ) : EReal) := by
  pointwise [val_main_v33, val_main_v32, h4, ra_read h4]
  simp only [mulE]

include h0 h4 h7 in
theorem dgm_read (z : Fin 1) (j : Fin 512) : val_main_v95 (F := Ideal) x0 x4 x7 (ix2 z j) = ((∑ a, A.dgmRow a j : ℝ) : EReal) := by
  pointwise [val_main_v95, val_main_v47, val_main_v44, val_main_v43, val_main_v42, val_main_cst_7, val_main_cst_8, xa_read h4, dyb_read h0 h7]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]
  exact congrArg _ (Finset.sum_congr rfl fun a _ => mul_comm _ _)

include h0 h6 h7 in
theorem dbm_read (a : Fin 8192) (j : Fin 512) : val_main_v46 (F := Ideal) x0 x6 x7 (ix2 a j) = ((A.dyb a j * A.gm j : ℝ) : EReal) := by
  pointwise [val_main_v46, val_main_v45, val_main_v34, h6, dyb_read h0 h7]
  simp only [mulE]

include h0 h4 h6 h7 in
theorem mean_read (a : Fin 8192) : val_main_v56 (F := Ideal) x0 x4 x6 x7 (ix1 a) = (((∑ l, A.oa a l * (A.dyb a l * A.gm l)) * (-(1 / 2) * (rr 512 (A.oa a) * (1 / ms 512 (A.oa a)))) * (1 / 512) : ℝ) : EReal) := by
  pointwise [val_main_v56, val_main_v55, val_main_v54, val_main_v53, val_main_v50, val_main_v49, val_main_v48, val_main_v31, val_main_v30, val_main_v29, val_main_cst_6, val_main_cst_9, val_main_cst_10, val_main_cst_11, h4, dbm_read h0 h6 h7, ra_read h4, ma_read h4]
  simp only [c_eps, c_512, c_64, c_half, c_neg_half, c_two, zero_add, mulE, Fin.sum_univ_one, sumE, divE _ _ (by norm_num : (512 : ℝ) ≠ 0), divE _ _ (by norm_num : (64 : ℝ) ≠ 0), divE _ _ (ms_pos 512 (by norm_num) (A.oa a)).ne', addE, subE, negE, ← EReal.coe_one, ← EReal.coe_zero]

include h0 h4 h6 h7 in
theorem doa_read (a : Fin 8192) (j : Fin 512) : val_main_v61 (F := Ideal) x0 x4 x6 x7 (ix2 a j) = (A.doa a j : EReal) := by
  pointwise [val_main_v61, val_main_v60, val_main_v59, val_main_v58, val_main_v57, val_main_v52, val_main_v51, h4, dbm_read h0 h6 h7, ra_read h4, mean_read h0 h4 h6 h7]
  simp only [mulE, addE]
  exact congrArg _ (rmsGrad_vjp 512 (by norm_num) (A.oa a) (fun l => A.dyb a l * A.gm l) j)

include h0 h4 h6 h7 in
theorem doa16_read (a : Fin 8192) (j : Fin 512) : val_main_v92 (F := Ideal) x0 x4 x6 x7 (ix2 a j) = (A.doa a j : EReal) := by
  pointwise [val_main_v92, doa_read h0 h4 h6 h7]

include h0 h4 h6 h7 in
theorem delta_read (h : Fin 4) (z : Fin 1) (a : Fin 8192) : val_main_v93 (F := Ideal) x0 x4 x6 x7 (ix3 h z a) = (A.delta h a : EReal) := by
  pointwise [val_main_v93, val_main_v90, val_main_v89, val_main_v88, val_main_v87, val_main_cst_17, h4, doa_read h0 h4 h6 h7]
  simp only [c_eps, c_512, c_64, c_half, c_neg_half, c_two, zero_add, mulE, Fin.sum_univ_one, sumE, divE _ _ (by norm_num : (512 : ℝ) ≠ 0), divE _ _ (by norm_num : (64 : ℝ) ≠ 0), addE, subE, negE, ← EReal.coe_one, ← EReal.coe_zero]
  rfl

end Cert.OutBwd.Ref
end
end
-- ==== Proof.OutBwd.RefRun.lean ====
/- The reference's run, its results stated over real arguments. -/
module

public import proofs.«01_k».proof.Proof.Gen.ReferenceOutBwdIdeal.Run
public import proofs.«01_k».proof.Proof.OutBwd.Ref

@[expose] public section

set_option maxRecDepth 16384

noncomputable section

namespace Cert.OutBwd.Ref

open Cert.ReferenceOutBwdIdeal Cert.ReferenceOutBwdIdeal.Gen Cert.ReferenceOutBwdIdeal.Read
open Cert.Ffn (arr2)
open Cert.OutBwd (arr3)
open Idealize.ShloMosaic Idealize.ShloMosaic.TcCoe Idealize.SL.Sem Idealize.ShloMosaic.StableHlo

/-- The launch memory's arguments on device `c` are the real numbers `A`. -/
structure Agree (m : (ℓ : Loc nD τ sig) → Buf (Elt Ideal) ℓ) (c : Dev nD) (A : OutBwd.Args) : Prop where
  a0 : ∀ a k, (m ((c : Thread nD τ).loc main_arg0) : FVec Ideal S8192x1024 .f32) (ix2 a k) = (A.dx a k : EReal)
  a1 : ∀ a k, (m ((c : Thread nD τ).loc main_arg1) : FVec Ideal S8192x512 .f32) (ix2 a k) = (A.of a k : EReal)
  a2 : ∀ a k, (m ((c : Thread nD τ).loc main_arg2) : FVec Ideal S8192x512 .f32) (ix2 a k) = (A.or a k : EReal)
  a3 : ∀ a k, (m ((c : Thread nD τ).loc main_arg3) : FVec Ideal S8192x512 .f32) (ix2 a k) = (A.hg a k : EReal)
  a4 : ∀ a k, (m ((c : Thread nD τ).loc main_arg4) : FVec Ideal S8192x512 .f32) (ix2 a k) = (A.oa a k : EReal)
  a5 : ∀ k, (m ((c : Thread nD τ).loc main_arg5) : FVec Ideal S512 .f32) (ix1 k) = (A.gh k : EReal)
  a6 : ∀ k, (m ((c : Thread nD τ).loc main_arg6) : FVec Ideal S512 .f32) (ix1 k) = (A.gm k : EReal)
  a7 : ∀ a k, (m ((c : Thread nD τ).loc main_arg7) : FVec Ideal S1024x1024 .f32) (ix2 a k) = (A.w a k : EReal)

variable {m : (ℓ : Loc nD τ sig) → Buf (Elt Ideal) ℓ}

/-- The reference's run, its results the arrays of `Args`. -/
theorem run (A : Dev nD → OutBwd.Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v86) : FVec Ideal S8192x512 .f32) = arr2 (A c).do_
      ∧ (r.2.mem ((c.tc : Thread nD τ).loc main_v91) : FVec Ideal S8192x512 .bf16) = arr2 (A c).dhg
      ∧ (r.2.mem ((c.tc : Thread nD τ).loc main_v92) : FVec Ideal S8192x512 .bf16) = arr2 (A c).doa
      ∧ (r.2.mem ((c.tc : Thread nD τ).loc main_v93) : FVec Ideal S4x1x8192 .f32) = arr3 (fun h _ a => (A c).delta h a)
      ∧ (r.2.mem ((c.tc : Thread nD τ).loc main_v94) : FVec Ideal S1x512 .f32) = arr2 (fun _ k => ∑ a, (A c).dghRow a k)
      ∧ (r.2.mem ((c.tc : Thread nD τ).loc main_v95) : FVec Ideal S1x512 .f32) = arr2 (fun _ k => ∑ a, (A c).dgmRow a k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.ReferenceOutBwdIdeal.Value.run m ρ)
  obtain ⟨h0, h1, h2, h3, h4, h5, hr⟩ := h c
  refine ⟨h0.trans ?_, h1.trans ?_, h2.trans ?_, h3.trans ?_, h4.trans ?_, h5.trans ?_, hr⟩
  · refine Eq.trans (val_main_v86_eq ..) (funext fun i => ?_)
    idx_vars i
    exact do_read (H c).a0 (H c).a1 (H c).a2 (H c).a3 (H c).a5 (H c).a7 i0 i1
  · refine Eq.trans (val_main_v91_eq ..) (funext fun i => ?_)
    idx_vars i
    exact dhg_read (H c).a0 (H c).a1 (H c).a2 (H c).a3 (H c).a5 (H c).a7 i0 i1
  · refine Eq.trans (val_main_v92_eq ..) (funext fun i => ?_)
    idx_vars i
    exact doa16_read (H c).a0 (H c).a4 (H c).a6 (H c).a7 i0 i1
  · refine Eq.trans (val_main_v93_eq ..) (funext fun i => ?_)
    idx_vars i
    exact delta_read (H c).a0 (H c).a4 (H c).a6 (H c).a7 i0 i1 i2
  · refine Eq.trans (val_main_v94_eq ..) (funext fun i => ?_)
    idx_vars i
    exact dgh_read (H c).a0 (H c).a1 (H c).a2 (H c).a3 (H c).a7 i0 i1
  · refine Eq.trans (val_main_v95_eq ..) (funext fun i => ?_)
    idx_vars i
    exact dgm_read (H c).a0 (H c).a4 (H c).a7 i0 i1

end Cert.OutBwd.Ref
end
end
-- ==== Proof.OutBwd.Claim.lean ====
/- The mixers' norms' and the output projection's gradient: the kernel's results equal the reference's, at equal arguments of real numbers. -/
module

public import proofs.«01_k».proof.Defs
public import proofs.«01_k».proof.Proof.Gen.KernelOutBwd
public import Idealize.ShloMosaic.Lib.Quiescent
public import proofs.«01_k».proof.Proof.OutBwd.Finite
public import proofs.«01_k».proof.Proof.OutBwd.Final
public import proofs.«01_k».proof.Proof.OutBwd.RefRun

@[expose] public section

set_option maxRecDepth 16384

noncomputable section

namespace Cert.OutBwd

open Idealize.ShloMosaic Idealize.ShloMosaic.TcCoe Idealize.SL.Sem Cert.KernelOutBwdIdeal

/-- The real numbers device `c`'s argument arrays hold. -/
def args (m : (ℓ : Loc nD τ sig) → Buf (Elt Ideal) ℓ) (c : Dev nD) : Args where
  dx a k := ((m ((c : Thread nD τ).loc main_arg0) : FVec Ideal S8192x1024 .f32) (ix2 a k)).toReal
  of a k := ((m ((c : Thread nD τ).loc main_arg1) : FVec Ideal S8192x512 .f32) (ix2 a k)).toReal
  or a k := ((m ((c : Thread nD τ).loc main_arg2) : FVec Ideal S8192x512 .f32) (ix2 a k)).toReal
  hg a k := ((m ((c : Thread nD τ).loc main_arg3) : FVec Ideal S8192x512 .f32) (ix2 a k)).toReal
  oa a k := ((m ((c : Thread nD τ).loc main_arg4) : FVec Ideal S8192x512 .f32) (ix2 a k)).toReal
  gh k := ((m ((c : Thread nD τ).loc main_arg5) : FVec Ideal S512 .f32) (ix1 k)).toReal
  gm k := ((m ((c : Thread nD τ).loc main_arg6) : FVec Ideal S512 .f32) (ix1 k)).toReal
  w a k := ((m ((c : Thread nD τ).loc main_arg7) : FVec Ideal S1024x1024 .f32) (ix2 a k)).toReal

theorem agree [Cert.Pre_finite_out_bwd.Facts] (m : (ℓ : Loc nD τ sig) → Buf (Elt Ideal) ℓ) (h : Cert.Pre_KernelOutBwdIdeal_finite_out_bwd m) (c : Dev nD) :
    Ker.Agree m c (args m c) := by
  obtain ⟨h0, h1, h2, h3, h4, h5, h6, h7⟩ := reals _ _ _ _ _ _ _ _ (h c)
  exact ⟨fun _ _ => h0 _, fun _ _ => h1 _, fun _ _ => h2 _, fun _ _ => h3 _, fun _ _ => h4 _, fun _ => h5 _, fun _ => h6 _, fun _ _ => h7 _⟩

theorem algebraic : Cert.algebraic_KernelOutBwdIdeal_ReferenceOutBwdIdeal_pre_finite_out_bwd := by
  pair_intro
  · run_from Cert.KernelOutBwdIdeal.Value.run_blocks m g
  · have H := agree m hpre
    have HR : ∀ c, Ref.Agree m' c (args m c) := fun c => by
      obtain ⟨e0, e1, e2, e3, e4, e5, e6, e7⟩ := hagree c
      have K := H c
      exact ⟨fun a k => (congrFun e0 _).trans (K.a0 a k), fun a k => (congrFun e1 _).trans (K.a1 a k), fun a k => (congrFun e2 _).trans (K.a2 a k), fun a k => (congrFun e3 _).trans (K.a3 a k), fun a k => (congrFun e4 _).trans (K.a4 a k), fun k => (congrFun e5 _).trans (K.a5 k), fun k => (congrFun e6 _).trans (K.a6 k), fun a k => (congrFun e7 _).trans (K.a7 a k)⟩
    run_from Ref.run _ HR g'
    · exact (Ker.final8 (H c)).symm
    · exact (Ker.final9 (H c)).symm
    · exact (Ker.final10 (H c)).symm
    · exact (Ker.final11 (H c)).symm
    · exact (Ker.final12 (H c)).symm
    · exact (Ker.final13 (H c)).symm

/-- The reference's frame, whatever the precondition. -/
theorem reference_frame : Cert.quiescent_ReferenceOutBwdIdeal := by
  intro m g _
  exact (θ_run Cert.ReferenceOutBwdIdeal.defs _ _).mono
    (fun r h => ⟨fun c => (h c).2.2.2.2.2.2, sem_eq_zero_of_no_sems (sig := Cert.ReferenceOutBwdIdeal.sig) rfl _⟩)
    (Cert.ReferenceOutBwdIdeal.Value.run m g)

end Cert.OutBwd
end
end
-- ==== Proof.AdaW.Claim.lean ====
/- The update of the gate's and the up product's weights, whose gradients the version keeps transposed. -/
module

public import proofs.«01_k».proof.Defs
public import proofs.«01_k».proof.Proof.Gen.KernelAdaWIdeal.Value
public import proofs.«01_k».proof.Proof.Gen.ReferenceAdaWIdeal.Run
public import proofs.«01_k».proof.Proof.Gen.ReferenceAdaWIdeal.Read
public import proofs.«01_k».proof.Proof.Adam.Step
public import Idealize.ShloMosaic.Lib.Claim
public import Idealize.ShloMosaic.Lib.Quiescent

@[expose] public section

set_option maxRecDepth 16384

noncomputable section

namespace Cert.AdaW

open Cert.KernelAdaWIdeal Cert.KernelAdaWIdeal.Gen Cert.Adam Cert.ReferenceAdaWIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 704) (j : Fin 1024) : EReal := (m ((c : Thread nD τ).loc main_arg0) : FVec Ideal S1024x704 .f32) (ix2 j a)
/-- The first moment at row `a` and column `j`, as the call is given it. -/
def m1 (a : Fin 704) (j : Fin 1024) : EReal := (m ((c : Thread nD τ).loc main_arg1) : FVec Ideal S1024x704 .f32) (ix2 j a)
/-- The second moment at row `a` and column `j`, as the call is given it. -/
def v1 (a : Fin 704) (j : Fin 1024) : EReal := (m ((c : Thread nD τ).loc main_arg2) : FVec Ideal S1024x704 .f32) (ix2 j a)
/-- The gradient's first half at row `a` and column `j`, as the call is given it. -/
def ga (a : Fin 704) (j : Fin 1024) : EReal := (m ((c : Thread nD τ).loc main_arg3) : FVec Ideal S704x1024 .f32) (ix2 a j)
/-- The gradient's second half at row `a` and column `j`, as the call is given it. -/
def gb (a : Fin 704) (j : Fin 1024) : EReal := (m ((c : Thread nD τ).loc main_arg4) : FVec Ideal S704x1024 .f32) (ix2 a j)

/-- The summed gradient. -/
def g (a : Fin 704) (j : Fin 1024) : EReal := ga m c a j + gb m c a j

/-- The row that row `r` of grid point `t`'s block is. -/
def row (t : Fin cfg0.N) (r : Fin 176) : Fin 704 := ⟨t.val * 176 + r.val, by have h : t.val < 4 := lt_of_lt_of_eq t.isLt N_0; omega⟩

theorem b0 (t : Fin cfg0.N) (r : Fin 176) (k : Fin 1024) : (iblk m c 0 t : FVec Ideal S176x1024 .f32) (ix2 r k) = w m c (row t r) k := by
  refine Eq.trans (b := (V m c main_v0 : FVec Ideal S704x1024 .f32) (ix2 (row t r) k)) ?_ ?_
  · blk_ext [iblk, idx t, row]
  · entry_read
    pointwise []
    rfl

theorem b1 (t : Fin cfg0.N) (r : Fin 176) (k : Fin 1024) : (iblk m c 1 t : FVec Ideal S176x1024 .f32) (ix2 r k) = m1 m c (row t r) k := by
  refine Eq.trans (b := (V m c main_v1 : FVec Ideal S704x1024 .f32) (ix2 (row t r) k)) ?_ ?_
  · blk_ext [iblk, idx t, row]
  · entry_read
    pointwise []
    rfl

theorem b2 (t : Fin cfg0.N) (r : Fin 176) (k : Fin 1024) : (iblk m c 2 t : FVec Ideal S176x1024 .f32) (ix2 r k) = v1 m c (row t r) k := by
  refine Eq.trans (b := (V m c main_v2 : FVec Ideal S704x1024 .f32) (ix2 (row t r) k)) ?_ ?_
  · blk_ext [iblk, idx t, row]
  · entry_read
    pointwise []
    rfl

theorem b3 (t : Fin cfg0.N) (r : Fin 176) (k : Fin 1024) : (iblk m c 3 t : FVec Ideal S176x1024 .f32) (ix2 r k) = ga m c (row t r) k := by
  refine Eq.trans (b := (V m c main_arg3 : FVec Ideal S704x1024 .f32) (ix2 (row t r) k)) ?_ ?_
  · blk_ext [iblk, idx t, row]
  · entry_read
    rfl

theorem b4 (t : Fin cfg0.N) (r : Fin 176) (k : Fin 1024) : (iblk m c 4 t : FVec Ideal S176x1024 .f32) (ix2 r k) = gb m c (row t r) k := by
  refine Eq.trans (b := (V m c main_arg4 : FVec Ideal S704x1024 .f32) (ix2 (row t r) k)) ?_ ?_
  · blk_ext [iblk, idx t, row]
  · entry_read
    rfl

theorem out5 (t : Fin cfg0.N) (r : Fin 176) (k : Fin 1024) :
    (out0_5 (iblk m c 0 t) (iblk m c 1 t) (iblk m c 2 t) (iblk m c 3 t) (iblk m c 4 t) : FVec Ideal S176x1024 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S704x1024 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 176) (k : Fin 1024) :
    (out0_6 (iblk m c 0 t) (iblk m c 1 t) (iblk m c 2 t) (iblk m c 3 t) (iblk m c 4 t) : FVec Ideal S176x1024 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S704x1024 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 176) (k : Fin 1024) :
    (out0_7 (iblk m c 0 t) (iblk m c 1 t) (iblk m c 2 t) (iblk m c 3 t) (iblk m c 4 t) : FVec Ideal S176x1024 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S704x1024 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 176) (k : Fin 1024) :
    (out0_8 (iblk m c 0 t) (iblk m c 1 t) (iblk m c 2 t) (iblk m c 3 t) (iblk m c 4 t) : FVec Ideal S176x1024 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S704x1024 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaWIdeal_ReferenceAdaWIdeal := by
  pair_intro
  · run_from Cert.KernelAdaWIdeal.Value.run_blocks m g
  · run_from Cert.ReferenceAdaWIdeal.Value.run m' g'
    · refine Eq.trans ?_ (final5 m c).symm
      refine (Cert.ReferenceAdaWIdeal.Read.val_main_v2_eq _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final6 m c).symm
      refine (Cert.ReferenceAdaWIdeal.Read.val_main_v27_eq _ _ _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final7 m c).symm
      refine (Cert.ReferenceAdaWIdeal.Read.val_main_v28_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final8 m c).symm
      refine (Cert.ReferenceAdaWIdeal.Read.val_main_v29_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl

/-- The reference's frame. -/
theorem reference_frame : Cert.quiescent_ReferenceAdaWIdeal := by
  intro m g _
  exact (θ_run Cert.ReferenceAdaWIdeal.defs _ _).mono
    (fun r h => ⟨fun c => (h c).2.2.2.2, sem_eq_zero_of_no_sems (sig := Cert.ReferenceAdaWIdeal.sig) rfl _⟩)
    (Cert.ReferenceAdaWIdeal.Value.run m g)

end Cert.AdaW
end
end
-- ==== Proof.AdaDown.Claim.lean ====
/- The update of the down product's weight. -/
module

public import proofs.«01_k».proof.Defs
public import proofs.«01_k».proof.Proof.Gen.KernelAdaDownIdeal.Value
public import proofs.«01_k».proof.Proof.Gen.ReferenceAdaDownIdeal.Run
public import proofs.«01_k».proof.Proof.Gen.ReferenceAdaDownIdeal.Read
public import proofs.«01_k».proof.Proof.Adam.Step
public import Idealize.ShloMosaic.Lib.Claim
public import Idealize.ShloMosaic.Lib.Quiescent

@[expose] public section

set_option maxRecDepth 16384

noncomputable section

namespace Cert.AdaDown

open Cert.KernelAdaDownIdeal Cert.KernelAdaDownIdeal.Gen Cert.Adam Cert.ReferenceAdaDownIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 704) (j : Fin 1024) : EReal := (m ((c : Thread nD τ).loc main_arg0) : FVec Ideal S704x1024 .f32) (ix2 a j)
/-- The first moment at row `a` and column `j`, as the call is given it. -/
def m1 (a : Fin 704) (j : Fin 1024) : EReal := (m ((c : Thread nD τ).loc main_arg1) : FVec Ideal S704x1024 .f32) (ix2 a j)
/-- The second moment at row `a` and column `j`, as the call is given it. -/
def v1 (a : Fin 704) (j : Fin 1024) : EReal := (m ((c : Thread nD τ).loc main_arg2) : FVec Ideal S704x1024 .f32) (ix2 a j)
/-- The gradient's first half at row `a` and column `j`, as the call is given it. -/
def ga (a : Fin 704) (j : Fin 1024) : EReal := (m ((c : Thread nD τ).loc main_arg3) : FVec Ideal S704x1024 .f32) (ix2 a j)
/-- The gradient's second half at row `a` and column `j`, as the call is given it. -/
def gb (a : Fin 704) (j : Fin 1024) : EReal := (m ((c : Thread nD τ).loc main_arg4) : FVec Ideal S704x1024 .f32) (ix2 a j)

/-- The summed gradient. -/
def g (a : Fin 704) (j : Fin 1024) : EReal := ga m c a j + gb m c a j

/-- The row that row `r` of grid point `t`'s block is. -/
def row (t : Fin cfg0.N) (r : Fin 176) : Fin 704 := ⟨t.val * 176 + r.val, by have h : t.val < 4 := lt_of_lt_of_eq t.isLt N_0; omega⟩

theorem b0 (t : Fin cfg0.N) (r : Fin 176) (k : Fin 1024) : (iblk m c 0 t : FVec Ideal S176x1024 .f32) (ix2 r k) = w m c (row t r) k := by
  refine Eq.trans (b := (V m c main_arg0 : FVec Ideal S704x1024 .f32) (ix2 (row t r) k)) ?_ ?_
  · blk_ext [iblk, idx t, row]
  · entry_read
    rfl

theorem b1 (t : Fin cfg0.N) (r : Fin 176) (k : Fin 1024) : (iblk m c 1 t : FVec Ideal S176x1024 .f32) (ix2 r k) = m1 m c (row t r) k := by
  refine Eq.trans (b := (V m c main_arg1 : FVec Ideal S704x1024 .f32) (ix2 (row t r) k)) ?_ ?_
  · blk_ext [iblk, idx t, row]
  · entry_read
    rfl

theorem b2 (t : Fin cfg0.N) (r : Fin 176) (k : Fin 1024) : (iblk m c 2 t : FVec Ideal S176x1024 .f32) (ix2 r k) = v1 m c (row t r) k := by
  refine Eq.trans (b := (V m c main_arg2 : FVec Ideal S704x1024 .f32) (ix2 (row t r) k)) ?_ ?_
  · blk_ext [iblk, idx t, row]
  · entry_read
    rfl

theorem b3 (t : Fin cfg0.N) (r : Fin 176) (k : Fin 1024) : (iblk m c 3 t : FVec Ideal S176x1024 .f32) (ix2 r k) = ga m c (row t r) k := by
  refine Eq.trans (b := (V m c main_arg3 : FVec Ideal S704x1024 .f32) (ix2 (row t r) k)) ?_ ?_
  · blk_ext [iblk, idx t, row]
  · entry_read
    rfl

theorem b4 (t : Fin cfg0.N) (r : Fin 176) (k : Fin 1024) : (iblk m c 4 t : FVec Ideal S176x1024 .f32) (ix2 r k) = gb m c (row t r) k := by
  refine Eq.trans (b := (V m c main_arg4 : FVec Ideal S704x1024 .f32) (ix2 (row t r) k)) ?_ ?_
  · blk_ext [iblk, idx t, row]
  · entry_read
    rfl

theorem out5 (t : Fin cfg0.N) (r : Fin 176) (k : Fin 1024) :
    (out0_5 (iblk m c 0 t) (iblk m c 1 t) (iblk m c 2 t) (iblk m c 3 t) (iblk m c 4 t) : FVec Ideal S176x1024 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S704x1024 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 176) (k : Fin 1024) :
    (out0_6 (iblk m c 0 t) (iblk m c 1 t) (iblk m c 2 t) (iblk m c 3 t) (iblk m c 4 t) : FVec Ideal S176x1024 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S704x1024 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 176) (k : Fin 1024) :
    (out0_7 (iblk m c 0 t) (iblk m c 1 t) (iblk m c 2 t) (iblk m c 3 t) (iblk m c 4 t) : FVec Ideal S176x1024 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S704x1024 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 176) (k : Fin 1024) :
    (out0_8 (iblk m c 0 t) (iblk m c 1 t) (iblk m c 2 t) (iblk m c 3 t) (iblk m c 4 t) : FVec Ideal S176x1024 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S704x1024 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaDownIdeal_ReferenceAdaDownIdeal := by
  pair_intro
  · run_from Cert.KernelAdaDownIdeal.Value.run_blocks m g
  · run_from Cert.ReferenceAdaDownIdeal.Value.run m' g'
    · refine Eq.trans ?_ (final5 m c).symm
      refine (Cert.ReferenceAdaDownIdeal.Read.val_main_v0_eq _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final6 m c).symm
      refine (Cert.ReferenceAdaDownIdeal.Read.val_main_v25_eq _ _ _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final7 m c).symm
      refine (Cert.ReferenceAdaDownIdeal.Read.val_main_v6_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final8 m c).symm
      refine (Cert.ReferenceAdaDownIdeal.Read.val_main_v12_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl

/-- The reference's frame. -/
theorem reference_frame : Cert.quiescent_ReferenceAdaDownIdeal := by
  intro m g _
  exact (θ_run Cert.ReferenceAdaDownIdeal.defs _ _).mono
    (fun r h => ⟨fun c => (h c).2.2.2.2, sem_eq_zero_of_no_sems (sig := Cert.ReferenceAdaDownIdeal.sig) rfl _⟩)
    (Cert.ReferenceAdaDownIdeal.Value.run m g)

end Cert.AdaDown
end
end
-- ==== Proof.AdaOut.Claim.lean ====
/- The update of the output projection's weight. -/
module

public import proofs.«01_k».proof.Defs
public import proofs.«01_k».proof.Proof.Gen.KernelAdaOutIdeal.Value
public import proofs.«01_k».proof.Proof.Gen.ReferenceAdaOutIdeal.Run
public import proofs.«01_k».proof.Proof.Gen.ReferenceAdaOutIdeal.Read
public import proofs.«01_k».proof.Proof.Adam.Step
public import Idealize.ShloMosaic.Lib.Claim
public import Idealize.ShloMosaic.Lib.Quiescent

@[expose] public section

set_option maxRecDepth 16384

noncomputable section

namespace Cert.AdaOut

open Cert.KernelAdaOutIdeal Cert.KernelAdaOutIdeal.Gen Cert.Adam Cert.ReferenceAdaOutIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 256) (j : Fin 1024) : EReal := (m ((c : Thread nD τ).loc main_arg0) : FVec Ideal S256x1024 .f32) (ix2 a j)
/-- The first moment at row `a` and column `j`, as the call is given it. -/
def m1 (a : Fin 256) (j : Fin 1024) : EReal := (m ((c : Thread nD τ).loc main_arg1) : FVec Ideal S256x1024 .f32) (ix2 a j)
/-- The second moment at row `a` and column `j`, as the call is given it. -/
def v1 (a : Fin 256) (j : Fin 1024) : EReal := (m ((c : Thread nD τ).loc main_arg2) : FVec Ideal S256x1024 .f32) (ix2 a j)
/-- The gradient's first half at row `a` and column `j`, as the call is given it. -/
def ga (a : Fin 256) (j : Fin 1024) : EReal := (m ((c : Thread nD τ).loc main_arg3) : FVec Ideal S256x1024 .f32) (ix2 a j)
/-- The gradient's second half at row `a` and column `j`, as the call is given it. -/
def gb (a : Fin 256) (j : Fin 1024) : EReal := (m ((c : Thread nD τ).loc main_arg4) : FVec Ideal S256x1024 .f32) (ix2 a j)

/-- The summed gradient. -/
def g (a : Fin 256) (j : Fin 1024) : EReal := ga m c a j + gb m c a j

/-- The row that row `r` of grid point `t`'s block is. -/
def row (t : Fin cfg0.N) (r : Fin 256) : Fin 256 := ⟨t.val * 256 + r.val, by have h : t.val < 1 := lt_of_lt_of_eq t.isLt N_0; omega⟩

theorem b0 (t : Fin cfg0.N) (r : Fin 256) (k : Fin 1024) : (iblk m c 0 t : FVec Ideal S256x1024 .f32) (ix2 r k) = w m c (row t r) k := by
  refine Eq.trans (b := (V m c main_arg0 : FVec Ideal S256x1024 .f32) (ix2 (row t r) k)) ?_ ?_
  · blk_ext [iblk, idx t, row]
  · entry_read
    rfl

theorem b1 (t : Fin cfg0.N) (r : Fin 256) (k : Fin 1024) : (iblk m c 1 t : FVec Ideal S256x1024 .f32) (ix2 r k) = m1 m c (row t r) k := by
  refine Eq.trans (b := (V m c main_arg1 : FVec Ideal S256x1024 .f32) (ix2 (row t r) k)) ?_ ?_
  · blk_ext [iblk, idx t, row]
  · entry_read
    rfl

theorem b2 (t : Fin cfg0.N) (r : Fin 256) (k : Fin 1024) : (iblk m c 2 t : FVec Ideal S256x1024 .f32) (ix2 r k) = v1 m c (row t r) k := by
  refine Eq.trans (b := (V m c main_arg2 : FVec Ideal S256x1024 .f32) (ix2 (row t r) k)) ?_ ?_
  · blk_ext [iblk, idx t, row]
  · entry_read
    rfl

theorem b3 (t : Fin cfg0.N) (r : Fin 256) (k : Fin 1024) : (iblk m c 3 t : FVec Ideal S256x1024 .f32) (ix2 r k) = ga m c (row t r) k := by
  refine Eq.trans (b := (V m c main_arg3 : FVec Ideal S256x1024 .f32) (ix2 (row t r) k)) ?_ ?_
  · blk_ext [iblk, idx t, row]
  · entry_read
    rfl

theorem b4 (t : Fin cfg0.N) (r : Fin 256) (k : Fin 1024) : (iblk m c 4 t : FVec Ideal S256x1024 .f32) (ix2 r k) = gb m c (row t r) k := by
  refine Eq.trans (b := (V m c main_arg4 : FVec Ideal S256x1024 .f32) (ix2 (row t r) k)) ?_ ?_
  · blk_ext [iblk, idx t, row]
  · entry_read
    rfl

theorem out5 (t : Fin cfg0.N) (r : Fin 256) (k : Fin 1024) :
    (out0_5 (iblk m c 0 t) (iblk m c 1 t) (iblk m c 2 t) (iblk m c 3 t) (iblk m c 4 t) : FVec Ideal S256x1024 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S256x1024 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 256) (k : Fin 1024) :
    (out0_6 (iblk m c 0 t) (iblk m c 1 t) (iblk m c 2 t) (iblk m c 3 t) (iblk m c 4 t) : FVec Ideal S256x1024 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S256x1024 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 256) (k : Fin 1024) :
    (out0_7 (iblk m c 0 t) (iblk m c 1 t) (iblk m c 2 t) (iblk m c 3 t) (iblk m c 4 t) : FVec Ideal S256x1024 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S256x1024 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 256) (k : Fin 1024) :
    (out0_8 (iblk m c 0 t) (iblk m c 1 t) (iblk m c 2 t) (iblk m c 3 t) (iblk m c 4 t) : FVec Ideal S256x1024 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S256x1024 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaOutIdeal_ReferenceAdaOutIdeal := by
  pair_intro
  · run_from Cert.KernelAdaOutIdeal.Value.run_blocks m g
  · run_from Cert.ReferenceAdaOutIdeal.Value.run m' g'
    · refine Eq.trans ?_ (final5 m c).symm
      refine (Cert.ReferenceAdaOutIdeal.Read.val_main_v0_eq _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final6 m c).symm
      refine (Cert.ReferenceAdaOutIdeal.Read.val_main_v25_eq _ _ _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final7 m c).symm
      refine (Cert.ReferenceAdaOutIdeal.Read.val_main_v6_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final8 m c).symm
      refine (Cert.ReferenceAdaOutIdeal.Read.val_main_v12_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl

/-- The reference's frame. -/
theorem reference_frame : Cert.quiescent_ReferenceAdaOutIdeal := by
  intro m g _
  exact (θ_run Cert.ReferenceAdaOutIdeal.defs _ _).mono
    (fun r h => ⟨fun c => (h c).2.2.2.2, sem_eq_zero_of_no_sems (sig := Cert.ReferenceAdaOutIdeal.sig) rfl _⟩)
    (Cert.ReferenceAdaOutIdeal.Value.run m g)

end Cert.AdaOut
end
end
-- ==== Proof.AdaKvb.Claim.lean ====
/- The update of the keys' and values' weight. -/
module

public import proofs.«01_k».proof.Defs
public import proofs.«01_k».proof.Proof.Gen.KernelAdaKvbIdeal.Value
public import proofs.«01_k».proof.Proof.Gen.ReferenceAdaKvbIdeal.Run
public import proofs.«01_k».proof.Proof.Gen.ReferenceAdaKvbIdeal.Read
public import proofs.«01_k».proof.Proof.Adam.Step
public import Idealize.ShloMosaic.Lib.Claim
public import Idealize.ShloMosaic.Lib.Quiescent

@[expose] public section

set_option maxRecDepth 16384

noncomputable section

namespace Cert.AdaKvb

open Cert.KernelAdaKvbIdeal Cert.KernelAdaKvbIdeal.Gen Cert.Adam Cert.ReferenceAdaKvbIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 256) (j : Fin 256) : EReal := (m ((c : Thread nD τ).loc main_arg0) : FVec Ideal S256x256 .f32) (ix2 a j)
/-- The first moment at row `a` and column `j`, as the call is given it. -/
def m1 (a : Fin 256) (j : Fin 256) : EReal := (m ((c : Thread nD τ).loc main_arg1) : FVec Ideal S256x256 .f32) (ix2 a j)
/-- The second moment at row `a` and column `j`, as the call is given it. -/
def v1 (a : Fin 256) (j : Fin 256) : EReal := (m ((c : Thread nD τ).loc main_arg2) : FVec Ideal S256x256 .f32) (ix2 a j)
/-- The gradient's first half at row `a` and column `j`, as the call is given it. -/
def ga (a : Fin 256) (j : Fin 256) : EReal := (m ((c : Thread nD τ).loc main_arg3) : FVec Ideal S256x256 .f32) (ix2 a j)
/-- The gradient's second half at row `a` and column `j`, as the call is given it. -/
def gb (a : Fin 256) (j : Fin 256) : EReal := (m ((c : Thread nD τ).loc main_arg4) : FVec Ideal S256x256 .f32) (ix2 a j)

/-- The summed gradient. -/
def g (a : Fin 256) (j : Fin 256) : EReal := ga m c a j + gb m c a j

/-- The row that row `r` of grid point `t`'s block is. -/
def row (t : Fin cfg0.N) (r : Fin 256) : Fin 256 := ⟨t.val * 256 + r.val, by have h : t.val < 1 := lt_of_lt_of_eq t.isLt N_0; omega⟩

theorem b0 (t : Fin cfg0.N) (r : Fin 256) (k : Fin 256) : (iblk m c 0 t : FVec Ideal S256x256 .f32) (ix2 r k) = w m c (row t r) k := by
  refine Eq.trans (b := (V m c main_arg0 : FVec Ideal S256x256 .f32) (ix2 (row t r) k)) ?_ ?_
  · blk_ext [iblk, idx t, row]
  · entry_read
    rfl

theorem b1 (t : Fin cfg0.N) (r : Fin 256) (k : Fin 256) : (iblk m c 1 t : FVec Ideal S256x256 .f32) (ix2 r k) = m1 m c (row t r) k := by
  refine Eq.trans (b := (V m c main_arg1 : FVec Ideal S256x256 .f32) (ix2 (row t r) k)) ?_ ?_
  · blk_ext [iblk, idx t, row]
  · entry_read
    rfl

theorem b2 (t : Fin cfg0.N) (r : Fin 256) (k : Fin 256) : (iblk m c 2 t : FVec Ideal S256x256 .f32) (ix2 r k) = v1 m c (row t r) k := by
  refine Eq.trans (b := (V m c main_arg2 : FVec Ideal S256x256 .f32) (ix2 (row t r) k)) ?_ ?_
  · blk_ext [iblk, idx t, row]
  · entry_read
    rfl

theorem b3 (t : Fin cfg0.N) (r : Fin 256) (k : Fin 256) : (iblk m c 3 t : FVec Ideal S256x256 .f32) (ix2 r k) = ga m c (row t r) k := by
  refine Eq.trans (b := (V m c main_arg3 : FVec Ideal S256x256 .f32) (ix2 (row t r) k)) ?_ ?_
  · blk_ext [iblk, idx t, row]
  · entry_read
    rfl

theorem b4 (t : Fin cfg0.N) (r : Fin 256) (k : Fin 256) : (iblk m c 4 t : FVec Ideal S256x256 .f32) (ix2 r k) = gb m c (row t r) k := by
  refine Eq.trans (b := (V m c main_arg4 : FVec Ideal S256x256 .f32) (ix2 (row t r) k)) ?_ ?_
  · blk_ext [iblk, idx t, row]
  · entry_read
    rfl

theorem out5 (t : Fin cfg0.N) (r : Fin 256) (k : Fin 256) :
    (out0_5 (iblk m c 0 t) (iblk m c 1 t) (iblk m c 2 t) (iblk m c 3 t) (iblk m c 4 t) : FVec Ideal S256x256 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S256x256 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 256) (k : Fin 256) :
    (out0_6 (iblk m c 0 t) (iblk m c 1 t) (iblk m c 2 t) (iblk m c 3 t) (iblk m c 4 t) : FVec Ideal S256x256 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S256x256 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 256) (k : Fin 256) :
    (out0_7 (iblk m c 0 t) (iblk m c 1 t) (iblk m c 2 t) (iblk m c 3 t) (iblk m c 4 t) : FVec Ideal S256x256 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S256x256 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 256) (k : Fin 256) :
    (out0_8 (iblk m c 0 t) (iblk m c 1 t) (iblk m c 2 t) (iblk m c 3 t) (iblk m c 4 t) : FVec Ideal S256x256 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S256x256 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaKvbIdeal_ReferenceAdaKvbIdeal := by
  pair_intro
  · run_from Cert.KernelAdaKvbIdeal.Value.run_blocks m g
  · run_from Cert.ReferenceAdaKvbIdeal.Value.run m' g'
    · refine Eq.trans ?_ (final5 m c).symm
      refine (Cert.ReferenceAdaKvbIdeal.Read.val_main_v0_eq _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final6 m c).symm
      refine (Cert.ReferenceAdaKvbIdeal.Read.val_main_v25_eq _ _ _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final7 m c).symm
      refine (Cert.ReferenceAdaKvbIdeal.Read.val_main_v6_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl
    · refine Eq.trans ?_ (final8 m c).symm
      refine (Cert.ReferenceAdaKvbIdeal.Read.val_main_v12_eq _ _ _ ).trans (funext fun i => ?_)
      idx_vars i
      pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
      rfl

/-- The reference's frame. -/
theorem reference_frame : Cert.quiescent_ReferenceAdaKvbIdeal := by
  intro m g _
  exact (θ_run Cert.ReferenceAdaKvbIdeal.defs _ _).mono
    (fun r h => ⟨fun c => (h c).2.2.2.2, sem_eq_zero_of_no_sems (sig := Cert.ReferenceAdaKvbIdeal.sig) rfl _⟩)
    (Cert.ReferenceAdaKvbIdeal.Value.run m g)

end Cert.AdaKvb
end
end
-- ==== Proof.AdaIn.Claim.lean ====
/- The update of the input projection's weight, whose gradient the version keeps transposed. -/
module

public import proofs.«01_k».proof.Defs
public import proofs.«01_k».proof.Proof.Gen.KernelAdaInIdeal.Value
public import proofs.«01_k».proof.Proof.Gen.ReferenceAdaInIdeal.Run
public import proofs.«01_k».proof.Proof.Gen.ReferenceAdaInIdeal.Read
public import proofs.«01_k».proof.Proof.Adam.Step
public import Idealize.ShloMosaic.Lib.Claim
public import Idealize.ShloMosaic.Lib.Quiescent

@[expose] public section

set_option maxRecDepth 16384

noncomputable section

namespace Cert.AdaIn

open Cert.KernelAdaInIdeal Cert.KernelAdaInIdeal.Gen Cert.Adam Cert.ReferenceAdaInIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 816) (j : Fin 1024) : EReal := (m ((c : Thread nD τ).loc main_arg0) : FVec Ideal S1024x816 .f32) (ix2 j a)
/-- The first moment at row `a` and column `j`, as the call is given it. -/
def m1 (a : Fin 816) (j : Fin 1024) : EReal := (m ((c : Thread nD τ).loc main_arg1) : FVec Ideal S1024x816 .f32) (ix2 j a)
/-- The second moment at row `a` and column `j`, as the call is given it. -/
def v1 (a : Fin 816) (j : Fin 1024) : EReal := (m ((c : Thread nD τ).loc main_arg2) : FVec Ideal S1024x816 .f32) (ix2 j a)
/-- The gradient's first half at row `a` and column `j`, as the call is given it. -/
def ga (a : Fin 816) (j : Fin 1024) : EReal := (m ((c : Thread nD τ).loc main_arg3) : FVec Ideal S816x1024 .f32) (ix2 a j)
/-- The gradient's second half at row `a` and column `j`, as the call is given it. -/
def gb (a : Fin 816) (j : Fin 1024) : EReal := (m ((c : Thread nD τ).loc main_arg4) : FVec Ideal S816x1024 .f32) (ix2 a j)

/-- The summed gradient. -/
def g (a : Fin 816) (j : Fin 1024) : EReal := ga m c a j + gb m c a j

/-- The row that row `r` of grid point `t`'s block is. -/
def row (t : Fin cfg0.N) (r : Fin 136) : Fin 816 := ⟨t.val * 136 + r.val, by have h : t.val < 6 := lt_of_lt_of_eq t.isLt N_0; omega⟩

theorem b0 (t : Fin cfg0.N) (r : Fin 136) (k : Fin 1024) : (iblk m c 0 t : FVec Ideal S136x1024 .f32) (ix2 r k) = w m c (row t r) k := by
  refine Eq.trans (b := (V m c main_v0 : FVec Ideal S816x1024 .f32) (ix2 (row t r) k)) ?_ ?_
  · blk_ext [iblk, idx t, row]
  · entry_read
    pointwise []
    rfl

theorem b1 (t : Fin cfg0.N) (r : Fin 136) (k : Fin 1024) : (iblk m c 1 t : FVec Ideal S136x1024 .f32) (ix2 r k) = m1 m c (row t r) k := by
  refine Eq.trans (b := (V m c main_v1 : FVec Ideal S816x1024 .f32) (ix2 (row t r) k)) ?_ ?_
  · blk_ext [iblk, idx t, row]
  · entry_read
    pointwise []
    rfl

theorem b2 (t : Fin cfg0.N) (r : Fin 136) (k : Fin 1024) : (iblk m c 2 t : FVec Ideal S136x1024 .f32) (ix2 r k) = v1 m c (row t r) k := by
  refine Eq.trans (b := (V m c main_v2 : FVec Ideal S816x1024 .f32) (ix2 (row t r) k)) ?_ ?_
  · blk_ext [iblk, idx t, row]
  · entry_read
    pointwise []
    rfl

theorem b3 (t : Fin cfg0.N) (r : Fin 136) (k : Fin 1024) : (iblk m c 3 t : FVec Ideal S136x1024 .f32) (ix2 r k) = ga m c (row t r) k := by
  refine Eq.trans (b := (V m c main_arg3 : FVec Ideal S816x1024 .f32) (ix2 (row t r) k)) ?_ ?_
  · blk_ext [iblk, idx t, row]
  · entry_read
    rfl

theorem b4 (t : Fin cfg0.N) (r : Fin 136) (k : Fin 1024) : (iblk m c 4 t : FVec Ideal S136x1024 .f32) (ix2 r k) = gb m c (row t r) k := by
  refine Eq.trans (b := (V m c main_arg4 : FVec Ideal S816x1024 .f32) (ix2 (row t r) k)) ?_ ?_
  · blk_ext [iblk, idx t, row]
  · entry_read
    rfl

theorem out5 (t : Fin cfg0.N) (r : Fin 136) (k : Fin 1024) :
    (out0_5 (iblk m c 0 t) (iblk m c 1 t) (iblk m c 2 t) (iblk m c 3 t) (iblk m c 4 t) : FVec Ideal S136x1024 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S816x1024 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 136) (k : Fin 1024) :
    (out0_6 (iblk m c 0 t) (iblk m c 1 t) (iblk m c 2 t) (iblk m c 3 t) (iblk m c 4 t) : FVec Ideal S136x1024 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S816x1024 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 136) (k : Fin 1024) :
    (out0_7 (iblk m c 0 t) (iblk m c 1 t) (iblk m c 2 t) (iblk m c 3 t) (iblk m c 4 t) : FVec Ideal S136x1024 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S816x1024 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 136) (k : Fin 1024) :
    (out0_8 (iblk m c 0 t) (iblk m c 1 t) (iblk m c 2 t) (iblk m c 3 t) (iblk m c 4 t) : FVec Ideal S136x1024 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S816x1024 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaInIdeal_ReferenceAdaInIdeal := by
  pair_intro
  · run_from Cert.KernelAdaInIdeal.Value.run_blocks m g
  · run_from Cert.ReferenceAdaInIdeal.Value.run m' g'
    · refine Eq.trans ?_ (final5 m c).symm
      refine (Cert.ReferenceAdaInIdeal.Read.val_main_v2_eq _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final6 m c).symm
      refine (Cert.ReferenceAdaInIdeal.Read.val_main_v27_eq _ _ _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final7 m c).symm
      refine (Cert.ReferenceAdaInIdeal.Read.val_main_v28_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final8 m c).symm
      refine (Cert.ReferenceAdaInIdeal.Read.val_main_v29_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl

/-- The reference's frame. -/
theorem reference_frame : Cert.quiescent_ReferenceAdaInIdeal := by
  intro m g _
  exact (θ_run Cert.ReferenceAdaInIdeal.defs _ _).mono
    (fun r h => ⟨fun c => (h c).2.2.2.2, sem_eq_zero_of_no_sems (sig := Cert.ReferenceAdaInIdeal.sig) rfl _⟩)
    (Cert.ReferenceAdaInIdeal.Value.run m g)

end Cert.AdaIn
end
end
-- ==== Proof.AdaQb.Claim.lean ====
/- The update of the queries' weight, whose gradient the version keeps transposed. -/
module

public import proofs.«01_k».proof.Defs
public import proofs.«01_k».proof.Proof.Gen.KernelAdaQbIdeal.Value
public import proofs.«01_k».proof.Proof.Gen.ReferenceAdaQbIdeal.Run
public import proofs.«01_k».proof.Proof.Gen.ReferenceAdaQbIdeal.Read
public import proofs.«01_k».proof.Proof.Adam.Step
public import Idealize.ShloMosaic.Lib.Claim
public import Idealize.ShloMosaic.Lib.Quiescent

@[expose] public section

set_option maxRecDepth 16384

noncomputable section

namespace Cert.AdaQb

open Cert.KernelAdaQbIdeal Cert.KernelAdaQbIdeal.Gen Cert.Adam Cert.ReferenceAdaQbIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 192) (j : Fin 384) : EReal := (m ((c : Thread nD τ).loc main_arg0) : FVec Ideal S384x192 .f32) (ix2 j a)
/-- The first moment at row `a` and column `j`, as the call is given it. -/
def m1 (a : Fin 192) (j : Fin 384) : EReal := (m ((c : Thread nD τ).loc main_arg1) : FVec Ideal S384x192 .f32) (ix2 j a)
/-- The second moment at row `a` and column `j`, as the call is given it. -/
def v1 (a : Fin 192) (j : Fin 384) : EReal := (m ((c : Thread nD τ).loc main_arg2) : FVec Ideal S384x192 .f32) (ix2 j a)
/-- The gradient's first half at row `a` and column `j`, as the call is given it. -/
def ga (a : Fin 192) (j : Fin 384) : EReal := (m ((c : Thread nD τ).loc main_arg3) : FVec Ideal S192x384 .f32) (ix2 a j)
/-- The gradient's second half at row `a` and column `j`, as the call is given it. -/
def gb (a : Fin 192) (j : Fin 384) : EReal := (m ((c : Thread nD τ).loc main_arg4) : FVec Ideal S192x384 .f32) (ix2 a j)

/-- The summed gradient. -/
def g (a : Fin 192) (j : Fin 384) : EReal := ga m c a j + gb m c a j

/-- The row that row `r` of grid point `t`'s block is. -/
def row (t : Fin cfg0.N) (r : Fin 192) : Fin 192 := ⟨t.val * 192 + r.val, by have h : t.val < 1 := lt_of_lt_of_eq t.isLt N_0; omega⟩

theorem b0 (t : Fin cfg0.N) (r : Fin 192) (k : Fin 384) : (iblk m c 0 t : FVec Ideal S192x384 .f32) (ix2 r k) = w m c (row t r) k := by
  refine Eq.trans (b := (V m c main_v0 : FVec Ideal S192x384 .f32) (ix2 (row t r) k)) ?_ ?_
  · blk_ext [iblk, idx t, row]
  · entry_read
    pointwise []
    rfl

theorem b1 (t : Fin cfg0.N) (r : Fin 192) (k : Fin 384) : (iblk m c 1 t : FVec Ideal S192x384 .f32) (ix2 r k) = m1 m c (row t r) k := by
  refine Eq.trans (b := (V m c main_v1 : FVec Ideal S192x384 .f32) (ix2 (row t r) k)) ?_ ?_
  · blk_ext [iblk, idx t, row]
  · entry_read
    pointwise []
    rfl

theorem b2 (t : Fin cfg0.N) (r : Fin 192) (k : Fin 384) : (iblk m c 2 t : FVec Ideal S192x384 .f32) (ix2 r k) = v1 m c (row t r) k := by
  refine Eq.trans (b := (V m c main_v2 : FVec Ideal S192x384 .f32) (ix2 (row t r) k)) ?_ ?_
  · blk_ext [iblk, idx t, row]
  · entry_read
    pointwise []
    rfl

theorem b3 (t : Fin cfg0.N) (r : Fin 192) (k : Fin 384) : (iblk m c 3 t : FVec Ideal S192x384 .f32) (ix2 r k) = ga m c (row t r) k := by
  refine Eq.trans (b := (V m c main_arg3 : FVec Ideal S192x384 .f32) (ix2 (row t r) k)) ?_ ?_
  · blk_ext [iblk, idx t, row]
  · entry_read
    rfl

theorem b4 (t : Fin cfg0.N) (r : Fin 192) (k : Fin 384) : (iblk m c 4 t : FVec Ideal S192x384 .f32) (ix2 r k) = gb m c (row t r) k := by
  refine Eq.trans (b := (V m c main_arg4 : FVec Ideal S192x384 .f32) (ix2 (row t r) k)) ?_ ?_
  · blk_ext [iblk, idx t, row]
  · entry_read
    rfl

theorem out5 (t : Fin cfg0.N) (r : Fin 192) (k : Fin 384) :
    (out0_5 (iblk m c 0 t) (iblk m c 1 t) (iblk m c 2 t) (iblk m c 3 t) (iblk m c 4 t) : FVec Ideal S192x384 .f32) (ix2 r k) = g m c (row t r) k := by
  frame_out
  pointwise [k0_pay1, k0_pay2, k0_pay3, k0_pay4, b0 m c t, b1 m c t, b2 m c t, b3 m c t, b4 m c t]
  rfl

theorem final5 : ((dats m 0 c).arrAt 5 cfg0.N : FVec Ideal S192x384 .f32) = arr2 (fun a j => g m c a j) := by
  refine (dats m 0 c).arrAt_eq_of_covers 5 _ (by decide +kernel) fun t hf y => ?_
  blk_simp
  rw [after0_5]
  idx_vars y
  refine (out5 m c t y0 y1).trans ?_
  exact arr2_ext (fun a j => g m c a j) (by blk_ext [idx t, row])

theorem out6 (t : Fin cfg0.N) (r : Fin 192) (k : Fin 384) :
    (out0_6 (iblk m c 0 t) (iblk m c 1 t) (iblk m c 2 t) (iblk m c 3 t) (iblk m c 4 t) : FVec Ideal S192x384 .f32) (ix2 r k) = delta (w m c (row t r) k) (m1 m c (row t r) k) (v1 m c (row t r) k) (g m c (row t r) k) := by
  frame_out
  pointwise [k0_pay1, k0_pay2, k0_pay3, k0_pay4, b0 m c t, b1 m c t, b2 m c t, b3 m c t, b4 m c t]
  rfl

theorem final6 : ((dats m 0 c).arrAt 6 cfg0.N : FVec Ideal S192x384 .f32) = arr2 (fun a j => delta (w m c a j) (m1 m c a j) (v1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => delta (w m c a j) (m1 m c a j) (v1 m c a j) (g m c a j)) (by blk_ext [idx t, row])

theorem out7 (t : Fin cfg0.N) (r : Fin 192) (k : Fin 384) :
    (out0_7 (iblk m c 0 t) (iblk m c 1 t) (iblk m c 2 t) (iblk m c 3 t) (iblk m c 4 t) : FVec Ideal S192x384 .f32) (ix2 r k) = mom1 (m1 m c (row t r) k) (g m c (row t r) k) := by
  frame_out
  pointwise [k0_pay1, k0_pay2, k0_pay3, k0_pay4, b0 m c t, b1 m c t, b2 m c t, b3 m c t, b4 m c t]
  rfl

theorem final7 : ((dats m 0 c).arrAt 7 cfg0.N : FVec Ideal S192x384 .f32) = arr2 (fun a j => mom1 (m1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom1 (m1 m c a j) (g m c a j)) (by blk_ext [idx t, row])

theorem out8 (t : Fin cfg0.N) (r : Fin 192) (k : Fin 384) :
    (out0_8 (iblk m c 0 t) (iblk m c 1 t) (iblk m c 2 t) (iblk m c 3 t) (iblk m c 4 t) : FVec Ideal S192x384 .f32) (ix2 r k) = mom2 (v1 m c (row t r) k) (g m c (row t r) k) := by
  frame_out
  pointwise [k0_pay1, k0_pay2, k0_pay3, k0_pay4, b0 m c t, b1 m c t, b2 m c t, b3 m c t, b4 m c t]
  rfl

theorem final8 : ((dats m 0 c).arrAt 8 cfg0.N : FVec Ideal S192x384 .f32) = arr2 (fun a j => mom2 (v1 m c a j) (g m c a j)) := by
  refine (dats m 0 c).arrAt_eq_of_covers 8 _ (by decide +kernel) fun t hf y => ?_
  blk_simp
  rw [after0_8]
  idx_vars y
  refine (out8 m c t y0 y1).trans ?_
  exact arr2_ext (fun a j => mom2 (v1 m c a j) (g m c a j)) (by blk_ext [idx t, row])

theorem algebraic : Cert.algebraic_KernelAdaQbIdeal_ReferenceAdaQbIdeal := by
  pair_intro
  · run_from Cert.KernelAdaQbIdeal.Value.run_blocks m g
  · run_from Cert.ReferenceAdaQbIdeal.Value.run m' g'
    · refine Eq.trans ?_ (final5 m c).symm
      refine (Cert.ReferenceAdaQbIdeal.Read.val_main_v2_eq _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final6 m c).symm
      refine (Cert.ReferenceAdaQbIdeal.Read.val_main_v27_eq _ _ _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final7 m c).symm
      refine (Cert.ReferenceAdaQbIdeal.Read.val_main_v28_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl
    · refine Eq.trans ?_ (final8 m c).symm
      refine (Cert.ReferenceAdaQbIdeal.Read.val_main_v29_eq _ _ _ ).trans (funext fun i => ?_)
      idx_vars i
      pointwise [val_main_v29, val_main_v28, val_main_v27, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
      rfl

/-- The reference's frame. -/
theorem reference_frame : Cert.quiescent_ReferenceAdaQbIdeal := by
  intro m g _
  exact (θ_run Cert.ReferenceAdaQbIdeal.defs _ _).mono
    (fun r h => ⟨fun c => (h c).2.2.2.2, sem_eq_zero_of_no_sems (sig := Cert.ReferenceAdaQbIdeal.sig) rfl _⟩)
    (Cert.ReferenceAdaQbIdeal.Value.run m g)

end Cert.AdaQb
end
end
-- ==== Proof.AdaSmall.Claim.lean ====
/- The update of the packed small weights. -/
module

public import proofs.«01_k».proof.Defs
public import proofs.«01_k».proof.Proof.Gen.KernelAdaSmallIdeal.Value
public import proofs.«01_k».proof.Proof.Gen.ReferenceAdaSmallIdeal.Run
public import proofs.«01_k».proof.Proof.Gen.ReferenceAdaSmallIdeal.Read
public import proofs.«01_k».proof.Proof.Adam.Step
public import Idealize.ShloMosaic.Lib.Claim
public import Idealize.ShloMosaic.Lib.Quiescent

@[expose] public section

set_option maxRecDepth 16384

noncomputable section

namespace Cert.AdaSmall

open Cert.KernelAdaSmallIdeal Cert.KernelAdaSmallIdeal.Gen Cert.Adam Cert.ReferenceAdaSmallIdeal.Read
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The weight at row `a` and column `j`, as the call is given it. -/
def w (a : Fin 48) (j : Fin 128) : EReal := (m ((c : Thread nD τ).loc main_arg0) : FVec Ideal S48x128 .f32) (ix2 a j)
/-- The first moment at row `a` and column `j`, as the call is given it. -/
def m1 (a : Fin 48) (j : Fin 128) : EReal := (m ((c : Thread nD τ).loc main_arg1) : FVec Ideal S48x128 .f32) (ix2 a j)
/-- The second moment at row `a` and column `j`, as the call is given it. -/
def v1 (a : Fin 48) (j : Fin 128) : EReal := (m ((c : Thread nD τ).loc main_arg2) : FVec Ideal S48x128 .f32) (ix2 a j)
/-- The gradient at row `a` and column `j`, as the call is given it. -/
def ga (a : Fin 48) (j : Fin 128) : EReal := (m ((c : Thread nD τ).loc main_arg3) : FVec Ideal S48x128 .f32) (ix2 a j)

/-- The summed gradient. -/
def g (a : Fin 48) (j : Fin 128) : EReal := ga m c a j

/-- The row that row `r` of grid point `t`'s block is. -/
def row (t : Fin cfg0.N) (r : Fin 48) : Fin 48 := ⟨t.val * 48 + r.val, by have h : t.val < 1 := lt_of_lt_of_eq t.isLt N_0; omega⟩

theorem b0 (t : Fin cfg0.N) (r : Fin 48) (k : Fin 128) : (iblk m c 0 t : FVec Ideal S48x128 .f32) (ix2 r k) = w m c (row t r) k := by
  refine Eq.trans (b := (V m c main_arg0 : FVec Ideal S48x128 .f32) (ix2 (row t r) k)) ?_ ?_
  · blk_ext [iblk, idx t, row]
  · entry_read
    rfl

theorem b1 (t : Fin cfg0.N) (r : Fin 48) (k : Fin 128) : (iblk m c 1 t : FVec Ideal S48x128 .f32) (ix2 r k) = m1 m c (row t r) k := by
  refine Eq.trans (b := (V m c main_arg1 : FVec Ideal S48x128 .f32) (ix2 (row t r) k)) ?_ ?_
  · blk_ext [iblk, idx t, row]
  · entry_read
    rfl

theorem b2 (t : Fin cfg0.N) (r : Fin 48) (k : Fin 128) : (iblk m c 2 t : FVec Ideal S48x128 .f32) (ix2 r k) = v1 m c (row t r) k := by
  refine Eq.trans (b := (V m c main_arg2 : FVec Ideal S48x128 .f32) (ix2 (row t r) k)) ?_ ?_
  · blk_ext [iblk, idx t, row]
  · entry_read
    rfl

theorem b3 (t : Fin cfg0.N) (r : Fin 48) (k : Fin 128) : (iblk m c 3 t : FVec Ideal S48x128 .f32) (ix2 r k) = ga m c (row t r) k := by
  refine Eq.trans (b := (V m c main_arg3 : FVec Ideal S48x128 .f32) (ix2 (row t r) k)) ?_ ?_
  · blk_ext [iblk, idx t, row]
  · entry_read
    rfl

theorem out4 (t : Fin cfg0.N) (r : Fin 48) (k : Fin 128) :
    (out0_4 (iblk m c 0 t) (iblk m c 1 t) (iblk m c 2 t) (iblk m c 3 t) : FVec Ideal S48x128 .f32) (ix2 r k) = g m c (row t r) k := by
  frame_out
  pointwise [k0_pay1, k0_pay2, k0_pay3, b0 m c t, b1 m c t, b2 m c t, b3 m c t]
  rfl

theorem final4 : ((dats m 0 c).arrAt 4 cfg0.N : FVec Ideal S48x128 .f32) = arr2 (fun a j => g m c a j) := by
  refine (dats m 0 c).arrAt_eq_of_covers 4 _ (by decide +kernel) fun t hf y => ?_
  blk_simp
  rw [after0_4]
  idx_vars y
  refine (out4 m c t y0 y1).trans ?_
  exact arr2_ext (fun a j => g m c a j) (by blk_ext [idx t, row])

theorem out5 (t : Fin cfg0.N) (r : Fin 48) (k : Fin 128) :
    (out0_5 (iblk m c 0 t) (iblk m c 1 t) (iblk m c 2 t) (iblk m c 3 t) : FVec Ideal S48x128 .f32) (ix2 r k) = delta (w m c (row t r) k) (m1 m c (row t r) k) (v1 m c (row t r) k) (g m c (row t r) k) := by
  frame_out
  pointwise [k0_pay1, k0_pay2, k0_pay3, b0 m c t, b1 m c t, b2 m c t, b3 m c t]
  rfl

theorem final5 : ((dats m 0 c).arrAt 5 cfg0.N : FVec Ideal S48x128 .f32) = arr2 (fun a j => delta (w m c a j) (m1 m c a j) (v1 m c a j) (g m c a j)) := by
  refine (dats m 0 c).arrAt_eq_of_covers 5 _ (by decide +kernel) fun t hf y => ?_
  blk_simp
  rw [after0_5]
  idx_vars y
  refine (out5 m c t y0 y1).trans ?_
  exact arr2_ext (fun a j => delta (w m c a j) (m1 m c a j) (v1 m c a j) (g m c a j)) (by blk_ext [idx t, row])

theorem out6 (t : Fin cfg0.N) (r : Fin 48) (k : Fin 128) :
    (out0_6 (iblk m c 0 t) (iblk m c 1 t) (iblk m c 2 t) (iblk m c 3 t) : FVec Ideal S48x128 .f32) (ix2 r k) = mom1 (m1 m c (row t r) k) (g m c (row t r) k) := by
  frame_out
  pointwise [k0_pay1, k0_pay2, k0_pay3, b0 m c t, b1 m c t, b2 m c t, b3 m c t]
  rfl

theorem final6 : ((dats m 0 c).arrAt 6 cfg0.N : FVec Ideal S48x128 .f32) = arr2 (fun a j => mom1 (m1 m c a j) (g m c a j)) := by
  refine (dats m 0 c).arrAt_eq_of_covers 6 _ (by decide +kernel) fun t hf y => ?_
  blk_simp
  rw [after0_6]
  idx_vars y
  refine (out6 m c t y0 y1).trans ?_
  exact arr2_ext (fun a j => mom1 (m1 m c a j) (g m c a j)) (by blk_ext [idx t, row])

theorem out7 (t : Fin cfg0.N) (r : Fin 48) (k : Fin 128) :
    (out0_7 (iblk m c 0 t) (iblk m c 1 t) (iblk m c 2 t) (iblk m c 3 t) : FVec Ideal S48x128 .f32) (ix2 r k) = mom2 (v1 m c (row t r) k) (g m c (row t r) k) := by
  frame_out
  pointwise [k0_pay1, k0_pay2, k0_pay3, b0 m c t, b1 m c t, b2 m c t, b3 m c t]
  rfl

theorem final7 : ((dats m 0 c).arrAt 7 cfg0.N : FVec Ideal S48x128 .f32) = arr2 (fun a j => mom2 (v1 m c a j) (g m c a j)) := by
  refine (dats m 0 c).arrAt_eq_of_covers 7 _ (by decide +kernel) fun t hf y => ?_
  blk_simp
  rw [after0_7]
  idx_vars y
  refine (out7 m c t y0 y1).trans ?_
  exact arr2_ext (fun a j => mom2 (v1 m c a j) (g m c a j)) (by blk_ext [idx t, row])

theorem algebraic : Cert.algebraic_KernelAdaSmallIdeal_ReferenceAdaSmallIdeal := by
  pair_intro
  · run_from Cert.KernelAdaSmallIdeal.Value.run_blocks m g
  · run_from Cert.ReferenceAdaSmallIdeal.Value.run m' g'
    · refine Eq.trans ?_ (final4 m c).symm
      refine funext fun i => ?_
      idx_vars i
      pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
      rfl
    · refine Eq.trans ?_ (final5 m c).symm
      refine (Cert.ReferenceAdaSmallIdeal.Read.val_main_v23_eq _ _ _ _ ).trans (funext fun i => ?_)
      idx_vars i
      pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
      rfl
    · refine Eq.trans ?_ (final6 m c).symm
      refine (Cert.ReferenceAdaSmallIdeal.Read.val_main_v4_eq _ _ ).trans (funext fun i => ?_)
      idx_vars i
      pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
      rfl
    · refine Eq.trans ?_ (final7 m c).symm
      refine (Cert.ReferenceAdaSmallIdeal.Read.val_main_v10_eq _ _ ).trans (funext fun i => ?_)
      idx_vars i
      pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
      rfl

/-- The reference's frame. -/
theorem reference_frame : Cert.quiescent_ReferenceAdaSmallIdeal := by
  intro m g _
  exact (θ_run Cert.ReferenceAdaSmallIdeal.defs _ _).mono
    (fun r h => ⟨fun c => (h c).2.2.2.2, sem_eq_zero_of_no_sems (sig := Cert.ReferenceAdaSmallIdeal.sig) rfl _⟩)
    (Cert.ReferenceAdaSmallIdeal.Value.run m g)

end Cert.AdaSmall
end
end
-- ==== Proof.OutFwd.Finite.lean ====
/- A precondition that says the recurrence's two results' elements are each a real number, read back. -/
module

public import proofs.«01_k».proof.Proof.Gen.Pre_finite_out_fwd
public import proofs.«01_k».proof.Proof.Finite

@[expose] public section

set_option maxRecDepth 16384

noncomputable section

namespace Cert.OutFwd

open Idealize.ShloMosaic Idealize.ShloMosaic.TcCoe Idealize.ShloMosaic.StableHlo Cert.Pre_finite_out_fwd Cert.Pre_finite_out_fwd.Facts
open Cert.Finite (all_real and_one)

variable [Cert.Pre_finite_out_fwd.Facts]

theorem reals (x0 : FVec Ideal S8192x512 .f32) (x1 : FVec Ideal S8192x512 .f32) (x2 : FVec Ideal S8192x512 .f32) (x3 : FVec Ideal S8192x512 .f32) (x4 : FVec Ideal S8192x1024 .f32) (x5 : FVec Ideal S512 .f32) (x6 : FVec Ideal S512 .f32) (x7 : FVec Ideal S1024x1024 .f32) (x8 : FVec Ideal S1024 .f32)
    (h : fn (F := Ideal) x0 x1 x2 x3 x4 x5 x6 x7 x8 = fun _ => 1#1) :
    (∀ i, x0 i = ((x0 i).toReal : EReal))
      ∧ (∀ i, x1 i = ((x1 i).toReal : EReal)) := by
  obtain ⟨e0, e1⟩ := and_one h
  exact ⟨all_real _ _ _ _ _ e0, all_real _ _ _ _ _ e1⟩

end Cert.OutFwd
end
end
-- ==== Proof.OutFwd.Real.lean ====
/- The mixers' norms and gate, the output projection and the second norm, token by token. -/
module

public import proofs.«01_k».proof.Proof.OutBwd.Real

@[expose] public section

set_option maxRecDepth 16384

noncomputable section

open Idealize.ShloMosaic

namespace Cert.OutFwd

open Cert.Ffn (sg eps)
open Cert.OutBwd (ms rr ms_pos hd ln lane lane_eq head_sum)

/-- The array of two axes whose entries are the function's. -/
def mat {n k : ℕ} (f : Fin n → Fin k → EReal) : (⟨2, ![n, k]⟩ : Shape).Idx → EReal := fun i => f (i 0) (i 1)

theorem mat_ext {n k : ℕ} (f : Fin n → Fin k → EReal) {a : Fin n} {b : Fin k} {i : (⟨2, ![n, k]⟩ : Shape).Idx}
    (h : ix2 a b = i) : f a b = mat f i := by subst h; rfl

/-- A row of the weight's first half, and of its second. -/
def lo (j : Fin 512) : Fin 1024 := ⟨j.val, by omega⟩
def hi (j : Fin 512) : Fin 1024 := ⟨512 + j.val, by omega⟩

theorem sum_halves (f : Fin 1024 → EReal) : ∑ k, f k = ∑ k, f (lo k) + ∑ k, f (hi k) :=
  Fin.sum_univ_add (a := 512) (b := 512) f

/-- The arguments: the recurrence's two results are real numbers, the others whatever they are. -/
structure Args where
  of : Fin 8192 → Fin 512 → ℝ
  or : Fin 8192 → Fin 512 → ℝ
  hg : Fin 8192 → Fin 512 → EReal
  oa : Fin 8192 → Fin 512 → EReal
  x : Fin 8192 → Fin 1024 → EReal
  gh : Fin 512 → EReal
  gm : Fin 512 → EReal
  w : Fin 1024 → Fin 1024 → EReal
  g2 : Fin 1024 → EReal

namespace Args
variable (A : Args)

/-- The recurrence's result, a head's lanes of it, and the reciprocal root of their mean square. -/
def o (a : Fin 8192) (j : Fin 512) : ℝ := A.of a j + A.or a j
def oh (a : Fin 8192) (h : Fin 8) (l : Fin 64) : ℝ := A.o a (lane h l)
def rh (a : Fin 8192) (h : Fin 8) : ℝ := rr 64 (A.oh a h)

/-- The recurrence's mixer: normed by head and gated. -/
def yh (a : Fin 8192) (j : Fin 512) : EReal := ((A.o a j * A.rh a (hd j) : ℝ) : EReal) * A.gh j * (A.hg a j * Ideal.logistic (A.hg a j))

/-- The attention's mixer: its mean square, and its norm. -/
def ma (a : Fin 8192) : EReal := Ideal.div (∑ k, A.oa a k * A.oa a k) ((512 : ℝ) : EReal)
def ym (a : Fin 8192) (j : Fin 512) : EReal := A.oa a j * Ideal.rsqrt (A.ma a + (eps : EReal)) * A.gm j

/-- Both side by side. -/
def y (a : Fin 8192) (j : Fin 1024) : EReal := if h : j.val < 512 then A.yh a ⟨j.val, h⟩ else A.ym a ⟨j.val - 512, by omega⟩

theorem y_lo {a : Fin 8192} {j : Fin 1024} {k : Fin 512} (h : j.val = k.val) : A.y a j = A.yh a k := by
  rw [y, dif_pos (by omega)]
  exact congrArg _ (Fin.ext h)

theorem y_hi {a : Fin 8192} {j : Fin 1024} {k : Fin 512} (h : j.val = 512 + k.val) : A.y a j = A.ym a k := by
  rw [y, dif_neg (by omega)]
  exact congrArg _ (Fin.ext (by simp only []; omega))

/-- The block's input plus the output projection, and its norm. -/
def x2 (a : Fin 8192) (k : Fin 1024) : EReal := A.x a k + ∑ j, A.yh a j * A.w (lo j) k + ∑ j, A.ym a j * A.w (hi j) k
def s2 (a : Fin 8192) : EReal := ∑ k, A.x2 a k * A.x2 a k
def h2 (a : Fin 8192) (k : Fin 1024) : EReal := A.x2 a k * Ideal.rsqrt (Ideal.div (A.s2 a) ((1024 : ℝ) : EReal) + (eps : EReal)) * A.g2 k

theorem x2_dot (a : Fin 8192) (k : Fin 1024) : A.x a k + ∑ j, A.y a j * A.w j k = A.x2 a k := by
  rw [sum_halves, ← add_assoc]
  unfold x2
  exact congrArg₂ (fun p q : EReal => p + q) (congrArg (fun p : EReal => A.x a k + p) (Finset.sum_congr rfl fun j _ => by rw [A.y_lo (k := j) rfl])) (Finset.sum_congr rfl fun j _ => by rw [A.y_hi (k := j) rfl])

/-- The sum over a head's lanes as the body takes it, and the reciprocal root of its mean. -/
theorem hs_eq (a : Fin 8192) (h : Fin 8) :
    ∑ k : Fin 512, (A.of a k + A.or a k) * (A.of a k + A.or a k) * (if k.val / 64 = h.val then 1 else 0) = ∑ l, A.oh a h l * A.oh a h l :=
  head_sum (fun k => A.o a k * A.o a k) h

theorem hs_eq' (a : Fin 8192) (h : Fin 8) :
    ∑ k : Fin 512, A.o a k * A.o a k * (if k.val / 64 = h.val then 1 else 0) = ∑ l, A.oh a h l * A.oh a h l :=
  head_sum (fun k => A.o a k * A.o a k) h

theorem rs_eq (a : Fin 8192) (h : Fin 8) :
    Ideal.rsqrt (((∑ l, A.oh a h l * A.oh a h l) * (1 / 64) + eps : ℝ) : EReal) = (A.rh a h : EReal) :=
  Cert.Ffn.rsqrtE _ (ms_pos 64 (by norm_num) (A.oh a h))

end Args
end Cert.OutFwd
end
end
-- ==== Proof.OutFwd.Ker.lean ====
/- The body's stored blocks. -/
module

public import proofs.«01_k».proof.Proof.Gen.KernelOutFwdIdeal.Skeleton
public import proofs.«01_k».proof.Proof.OutBwd.Ker
public import proofs.«01_k».proof.Proof.OutFwd.Real

@[expose] public section

set_option maxRecDepth 16384

noncomputable section

namespace Cert.OutFwd.Ker

open Cert.KernelOutFwdIdeal Cert.KernelOutFwdIdeal.Gen
open Cert.Ffn (sg mulE addE subE sumE eps c_eps c_1024)
open Cert.OutBwd (hd c_512 c_64 c_inv64)
open Cert.OutBwd.Ker (fdiv fdiv_64 bit bit_eq)
open Idealize.ShloMosaic Idealize.ShloMosaic.TcCoe

theorem row_pay (a b : Fin 512) : k0_pay1 (ix2 a b) = BitVec.ofNat 32 (a.val / 64) := by
  pointwise [k0_pay1]
  exact fdiv_64 a

theorem ones_pay (a b : Fin 512) : k0_pay5 (F := Ideal) k0_pay1 k0_pay2 k0_pay3 k0_pay4 (ix2 a b) = ((if a.val / 64 = (hd b).val then 1 else 0 : ℝ) : EReal) := by
  pointwise [k0_pay5, k0_pay2, k0_pay3, k0_pay4, row_pay]
  exact (congrArg (bit _) (fdiv_64 b)).trans (bit_eq (hd a) (hd b))

variable {A : OutFwd.Args} {ρ : Fin 256 → Fin 8192}

theorem p6 {v54 : FVec Ideal S1x512 .f32} (h_v54 : ∀ (r : Fin 1) (k : Fin 512), v54 (ix2 r k) = A.gh k) (r : Fin 1) (k : Fin 512) : k0_pay6 (F := Ideal) v54 (ix2 r k) = A.gh k := by
  pointwise [k0_pay6, h_v54]
  all_goals try simp only [c_eps, c_512, c_64, c_1024, c_inv64, zero_add, mulE, sumE, addE, subE, sub_self, zero_mul, mul_zero, Finset.sum_const_zero, add_zero]
  all_goals try rfl

theorem p7 {v56 : FVec Ideal S1x512 .f32} (h_v56 : ∀ (r : Fin 1) (k : Fin 512), v56 (ix2 r k) = A.gm k) (r : Fin 1) (k : Fin 512) : k0_pay7 (F := Ideal) v56 (ix2 r k) = A.gm k := by
  pointwise [k0_pay7, h_v56]
  all_goals try simp only [c_eps, c_512, c_64, c_1024, c_inv64, zero_add, mulE, sumE, addE, subE, sub_self, zero_mul, mul_zero, Finset.sum_const_zero, add_zero]
  all_goals try rfl

theorem p8 {v58 : FVec Ideal S1x1024 .f32} (h_v58 : ∀ (r : Fin 1) (k : Fin 1024), v58 (ix2 r k) = A.g2 k) (r : Fin 1) (k : Fin 1024) : k0_pay8 (F := Ideal) v58 (ix2 r k) = A.g2 k := by
  pointwise [k0_pay8, h_v58]
  all_goals try simp only [c_eps, c_512, c_64, c_1024, c_inv64, zero_add, mulE, sumE, addE, subE, sub_self, zero_mul, mul_zero, Finset.sum_const_zero, add_zero]
  all_goals try rfl

theorem p9 {v53 : FVec Ideal S512x512 .bf16} (h_v53 : ∀ (r k : Fin 512), v53 (ix2 r k) = ((if r.val / 64 = (hd k).val then 1 else 0 : ℝ) : EReal)) {v55 : FVec Ideal S1x512 .f32} (h_v55 : ∀ (r : Fin 1) (k : Fin 512), v55 (ix2 r k) = A.gh k) {v60 : FVec Ideal S256x512 .f32} (h_v60 : ∀ (r : Fin 256) (k : Fin 512), v60 (ix2 r k) = ((A.of (ρ r) k : ℝ) : EReal)) {v61 : FVec Ideal S256x512 .f32} (h_v61 : ∀ (r : Fin 256) (k : Fin 512), v61 (ix2 r k) = ((A.or (ρ r) k : ℝ) : EReal)) {v62 : FVec Ideal S256x512 .f32} (h_v62 : ∀ (r : Fin 256) (k : Fin 512), v62 (ix2 r k) = A.hg (ρ r) k) (r : Fin 256) (k : Fin 512) : k0_pay9 (F := Ideal) v53 v55 v60 v61 v62 (ix2 r k) = A.yh (ρ r) k := by
  pointwise [k0_pay9, h_v53, h_v55, h_v60, h_v61, h_v62]
  all_goals try simp only [c_eps, c_512, c_64, c_1024, c_inv64, zero_add, mulE, sumE, addE, subE, sub_self, zero_mul, mul_zero, Finset.sum_const_zero, add_zero]
  all_goals try first | rw [A.hs_eq] | rw [A.hs_eq']
  all_goals try rw [A.rs_eq]
  all_goals try simp only [mulE]
  all_goals try rfl

theorem p10 {v63 : FVec Ideal S256x512 .f32} (h_v63 : ∀ (r : Fin 256) (k : Fin 512), v63 (ix2 r k) = A.oa (ρ r) k) (r : Fin 256) (z : Fin 1) : k0_pay10 (F := Ideal) v63 (ix2 r z) = A.ma (ρ r) := by
  pointwise [k0_pay10, h_v63]
  all_goals try simp only [c_eps, c_512, c_64, c_1024, c_inv64, zero_add, mulE, sumE, addE, subE, sub_self, zero_mul, mul_zero, Finset.sum_const_zero, add_zero]
  all_goals try rfl

theorem p11 {v57 : FVec Ideal S1x512 .f32} (h_v57 : ∀ (r : Fin 1) (k : Fin 512), v57 (ix2 r k) = A.gm k) {v63 : FVec Ideal S256x512 .f32} (h_v63 : ∀ (r : Fin 256) (k : Fin 512), v63 (ix2 r k) = A.oa (ρ r) k) {v110 : FVec Ideal S256x1 .f32} (h_v110 : ∀ (r : Fin 256) (z : Fin 1), v110 (ix2 r z) = A.ma (ρ r)) {cst_59 : Ideal .f32} (h_cst_59 : cst_59 = ((eps : ℝ) : EReal)) (r : Fin 256) (k : Fin 512) : k0_pay11 (F := Ideal) v57 v63 v110 cst_59 (ix2 r k) = A.ym (ρ r) k := by
  pointwise [k0_pay11, h_v57, h_v63, h_v110, h_cst_59]
  all_goals try simp only [c_eps, c_512, c_64, c_1024, c_inv64, zero_add, mulE, sumE, addE, subE, sub_self, zero_mul, mul_zero, Finset.sum_const_zero, add_zero]
  all_goals try rfl

theorem p12 {v57 : FVec Ideal S1x512 .f32} (h_v57 : ∀ (r : Fin 1) (k : Fin 512), v57 (ix2 r k) = A.gm k) {v63 : FVec Ideal S256x512 .f32} (h_v63 : ∀ (r : Fin 256) (k : Fin 512), v63 (ix2 r k) = A.oa (ρ r) k) {v64 : FVec Ideal S256x1024 .f32} (h_v64 : ∀ (r : Fin 256) (k : Fin 1024), v64 (ix2 r k) = A.x (ρ r) k) {v105 : FVec Ideal S256x512 .bf16} (h_v105 : ∀ (r : Fin 256) (k : Fin 512), v105 (ix2 r k) = A.yh (ρ r) k) {v110 : FVec Ideal S256x1 .f32} (h_v110 : ∀ (r : Fin 256) (z : Fin 1), v110 (ix2 r z) = A.ma (ρ r)) {cst_59 : Ideal .f32} (h_cst_59 : cst_59 = ((eps : ℝ) : EReal)) {v119 : FVec Ideal S512x1024 .bf16} (h_v119 : ∀ (r : Fin 512) (k : Fin 1024), v119 (ix2 r k) = A.w (lo r) k) {v123 : FVec Ideal S512x1024 .bf16} (h_v123 : ∀ (r : Fin 512) (k : Fin 1024), v123 (ix2 r k) = A.w (hi r) k) (r : Fin 256) (k : Fin 1024) : k0_pay12 (F := Ideal) v57 v63 v64 v105 v110 cst_59 v119 v123 (ix2 r k) = A.x2 (ρ r) k := by
  pointwise [k0_pay12, h_v64, h_v105, h_v119, h_v123, p11 h_v57 h_v63 h_v110 h_cst_59]
  all_goals try simp only [c_eps, c_512, c_64, c_1024, c_inv64, zero_add, mulE, sumE, addE, subE, sub_self, zero_mul, mul_zero, Finset.sum_const_zero, add_zero]
  all_goals try rfl

theorem p13 {v57 : FVec Ideal S1x512 .f32} (h_v57 : ∀ (r : Fin 1) (k : Fin 512), v57 (ix2 r k) = A.gm k) {v59 : FVec Ideal S1x1024 .f32} (h_v59 : ∀ (r : Fin 1) (k : Fin 1024), v59 (ix2 r k) = A.g2 k) {v63 : FVec Ideal S256x512 .f32} (h_v63 : ∀ (r : Fin 256) (k : Fin 512), v63 (ix2 r k) = A.oa (ρ r) k) {v64 : FVec Ideal S256x1024 .f32} (h_v64 : ∀ (r : Fin 256) (k : Fin 1024), v64 (ix2 r k) = A.x (ρ r) k) {v105 : FVec Ideal S256x512 .bf16} (h_v105 : ∀ (r : Fin 256) (k : Fin 512), v105 (ix2 r k) = A.yh (ρ r) k) {v110 : FVec Ideal S256x1 .f32} (h_v110 : ∀ (r : Fin 256) (z : Fin 1), v110 (ix2 r z) = A.ma (ρ r)) {cst_59 : Ideal .f32} (h_cst_59 : cst_59 = ((eps : ℝ) : EReal)) {v119 : FVec Ideal S512x1024 .bf16} (h_v119 : ∀ (r : Fin 512) (k : Fin 1024), v119 (ix2 r k) = A.w (lo r) k) {v123 : FVec Ideal S512x1024 .bf16} (h_v123 : ∀ (r : Fin 512) (k : Fin 1024), v123 (ix2 r k) = A.w (hi r) k) (r : Fin 256) (k : Fin 1024) : k0_pay13 (F := Ideal) v57 v59 v63 v64 v105 v110 cst_59 v119 v123 (ix2 r k) = A.h2 (ρ r) k := by
  pointwise [k0_pay13, h_v59, p12 h_v57 h_v63 h_v64 h_v105 h_v110 h_cst_59 h_v119 h_v123]
  all_goals try simp only [c_eps, c_512, c_64, c_1024, c_inv64, zero_add, mulE, sumE, addE, subE, sub_self, zero_mul, mul_zero, Finset.sum_const_zero, add_zero]
  all_goals try rfl

theorem p14 {v65 : FVec Ideal S256x512 .f32} (h_v65 : ∀ (r : Fin 256) (k : Fin 512), v65 (ix2 r k) = ((A.of (ρ r) k : ℝ) : EReal)) {v66 : FVec Ideal S256x512 .f32} (h_v66 : ∀ (r : Fin 256) (k : Fin 512), v66 (ix2 r k) = ((A.or (ρ r) k : ℝ) : EReal)) (r : Fin 256) (k : Fin 512) : k0_pay14 (F := Ideal) v65 v66 (ix2 r k) = ((A.o (ρ r) k : ℝ) : EReal) := by
  pointwise [k0_pay14, h_v65, h_v66]
  all_goals try simp only [c_eps, c_512, c_64, c_1024, c_inv64, zero_add, mulE, sumE, addE, subE, sub_self, zero_mul, mul_zero, Finset.sum_const_zero, add_zero]
  all_goals try rfl

theorem p15 {v53 : FVec Ideal S512x512 .bf16} (h_v53 : ∀ (r k : Fin 512), v53 (ix2 r k) = ((if r.val / 64 = (hd k).val then 1 else 0 : ℝ) : EReal)) {v65 : FVec Ideal S256x512 .f32} (h_v65 : ∀ (r : Fin 256) (k : Fin 512), v65 (ix2 r k) = ((A.of (ρ r) k : ℝ) : EReal)) {v66 : FVec Ideal S256x512 .f32} (h_v66 : ∀ (r : Fin 256) (k : Fin 512), v66 (ix2 r k) = ((A.or (ρ r) k : ℝ) : EReal)) (r : Fin 256) (k : Fin 512) : k0_pay15 (F := Ideal) v53 v65 v66 (ix2 r k) = (((∑ l, A.oh (ρ r) (hd k) l * A.oh (ρ r) (hd k) l) * (1 / 64) : ℝ) : EReal) := by
  pointwise [k0_pay15, h_v53, p14 h_v65 h_v66]
  all_goals try simp only [c_eps, c_512, c_64, c_1024, c_inv64, zero_add, mulE, sumE, addE, subE, sub_self, zero_mul, mul_zero, Finset.sum_const_zero, add_zero]
  all_goals try first | rw [A.hs_eq] | rw [A.hs_eq']
  all_goals try rfl

theorem p16  (r : Fin 256) (k : Fin 512) : k0_pay16 (F := Ideal)  (ix2 r k) = ((eps : ℝ) : EReal) := by
  pointwise [k0_pay16]
  all_goals try simp only [c_eps, c_512, c_64, c_1024, c_inv64, zero_add, mulE, sumE, addE, subE, sub_self, zero_mul, mul_zero, Finset.sum_const_zero, add_zero]
  all_goals try rfl

theorem p17 {v55 : FVec Ideal S1x512 .f32} (h_v55 : ∀ (r : Fin 1) (k : Fin 512), v55 (ix2 r k) = A.gh k) {v67 : FVec Ideal S256x512 .f32} (h_v67 : ∀ (r : Fin 256) (k : Fin 512), v67 (ix2 r k) = A.hg (ρ r) k) {v140 : FVec Ideal S256x512 .f32} (h_v140 : ∀ (r : Fin 256) (k : Fin 512), v140 (ix2 r k) = ((A.o (ρ r) k : ℝ) : EReal)) {v155 : FVec Ideal S256x512 .f32} (h_v155 : ∀ (r : Fin 256) (k : Fin 512), v155 (ix2 r k) = (((∑ l, A.oh (ρ r) (hd k) l * A.oh (ρ r) (hd k) l) * (1 / 64) : ℝ) : EReal)) {v156 : FVec Ideal S256x512 .f32} (h_v156 : ∀ (r : Fin 256) (k : Fin 512), v156 (ix2 r k) = ((eps : ℝ) : EReal)) (r : Fin 256) (k : Fin 512) : k0_pay17 (F := Ideal) v55 v67 v140 v155 v156 (ix2 r k) = A.yh (ρ r) k := by
  pointwise [k0_pay17, h_v55, h_v67, h_v140, h_v155, h_v156]
  all_goals try simp only [c_eps, c_512, c_64, c_1024, c_inv64, zero_add, mulE, sumE, addE, subE, sub_self, zero_mul, mul_zero, Finset.sum_const_zero, add_zero]
  all_goals try first | rw [A.hs_eq] | rw [A.hs_eq']
  all_goals try rw [A.rs_eq]
  all_goals try simp only [mulE]
  all_goals try rfl

theorem p18 {v57 : FVec Ideal S1x512 .f32} (h_v57 : ∀ (r : Fin 1) (k : Fin 512), v57 (ix2 r k) = A.gm k) {v68 : FVec Ideal S256x512 .f32} (h_v68 : ∀ (r : Fin 256) (k : Fin 512), v68 (ix2 r k) = A.oa (ρ r) k) (r : Fin 256) (k : Fin 512) : k0_pay18 (F := Ideal) v57 v68 (ix2 r k) = A.ym (ρ r) k := by
  pointwise [k0_pay18, h_v57, h_v68]
  all_goals try simp only [c_eps, c_512, c_64, c_1024, c_inv64, zero_add, mulE, sumE, addE, subE, sub_self, zero_mul, mul_zero, Finset.sum_const_zero, add_zero]
  all_goals try rfl

theorem p19 {v55 : FVec Ideal S1x512 .f32} (h_v55 : ∀ (r : Fin 1) (k : Fin 512), v55 (ix2 r k) = A.gh k) {v57 : FVec Ideal S1x512 .f32} (h_v57 : ∀ (r : Fin 1) (k : Fin 512), v57 (ix2 r k) = A.gm k) {v67 : FVec Ideal S256x512 .f32} (h_v67 : ∀ (r : Fin 256) (k : Fin 512), v67 (ix2 r k) = A.hg (ρ r) k) {v68 : FVec Ideal S256x512 .f32} (h_v68 : ∀ (r : Fin 256) (k : Fin 512), v68 (ix2 r k) = A.oa (ρ r) k) {v69 : FVec Ideal S256x1024 .f32} (h_v69 : ∀ (r : Fin 256) (k : Fin 1024), v69 (ix2 r k) = A.x (ρ r) k) {v140 : FVec Ideal S256x512 .f32} (h_v140 : ∀ (r : Fin 256) (k : Fin 512), v140 (ix2 r k) = ((A.o (ρ r) k : ℝ) : EReal)) {v155 : FVec Ideal S256x512 .f32} (h_v155 : ∀ (r : Fin 256) (k : Fin 512), v155 (ix2 r k) = (((∑ l, A.oh (ρ r) (hd k) l * A.oh (ρ r) (hd k) l) * (1 / 64) : ℝ) : EReal)) {v156 : FVec Ideal S256x512 .f32} (h_v156 : ∀ (r : Fin 256) (k : Fin 512), v156 (ix2 r k) = ((eps : ℝ) : EReal)) {v179 : FVec Ideal S512x1024 .bf16} (h_v179 : ∀ (r : Fin 512) (k : Fin 1024), v179 (ix2 r k) = A.w (lo r) k) {v183 : FVec Ideal S512x1024 .bf16} (h_v183 : ∀ (r : Fin 512) (k : Fin 1024), v183 (ix2 r k) = A.w (hi r) k) (r : Fin 256) (k : Fin 1024) : k0_pay19 (F := Ideal) v55 v57 v67 v68 v69 v140 v155 v156 v179 v183 (ix2 r k) = A.x2 (ρ r) k := by
  pointwise [k0_pay19, h_v69, h_v179, h_v183, p17 h_v55 h_v67 h_v140 h_v155 h_v156, p18 h_v57 h_v68]
  all_goals try simp only [c_eps, c_512, c_64, c_1024, c_inv64, zero_add, mulE, sumE, addE, subE, sub_self, zero_mul, mul_zero, Finset.sum_const_zero, add_zero]
  all_goals try rfl

theorem p20 {v55 : FVec Ideal S1x512 .f32} (h_v55 : ∀ (r : Fin 1) (k : Fin 512), v55 (ix2 r k) = A.gh k) {v57 : FVec Ideal S1x512 .f32} (h_v57 : ∀ (r : Fin 1) (k : Fin 512), v57 (ix2 r k) = A.gm k) {v59 : FVec Ideal S1x1024 .f32} (h_v59 : ∀ (r : Fin 1) (k : Fin 1024), v59 (ix2 r k) = A.g2 k) {v67 : FVec Ideal S256x512 .f32} (h_v67 : ∀ (r : Fin 256) (k : Fin 512), v67 (ix2 r k) = A.hg (ρ r) k) {v68 : FVec Ideal S256x512 .f32} (h_v68 : ∀ (r : Fin 256) (k : Fin 512), v68 (ix2 r k) = A.oa (ρ r) k) {v69 : FVec Ideal S256x1024 .f32} (h_v69 : ∀ (r : Fin 256) (k : Fin 1024), v69 (ix2 r k) = A.x (ρ r) k) {v140 : FVec Ideal S256x512 .f32} (h_v140 : ∀ (r : Fin 256) (k : Fin 512), v140 (ix2 r k) = ((A.o (ρ r) k : ℝ) : EReal)) {v155 : FVec Ideal S256x512 .f32} (h_v155 : ∀ (r : Fin 256) (k : Fin 512), v155 (ix2 r k) = (((∑ l, A.oh (ρ r) (hd k) l * A.oh (ρ r) (hd k) l) * (1 / 64) : ℝ) : EReal)) {v156 : FVec Ideal S256x512 .f32} (h_v156 : ∀ (r : Fin 256) (k : Fin 512), v156 (ix2 r k) = ((eps : ℝ) : EReal)) {v179 : FVec Ideal S512x1024 .bf16} (h_v179 : ∀ (r : Fin 512) (k : Fin 1024), v179 (ix2 r k) = A.w (lo r) k) {v183 : FVec Ideal S512x1024 .bf16} (h_v183 : ∀ (r : Fin 512) (k : Fin 1024), v183 (ix2 r k) = A.w (hi r) k) (r : Fin 256) (k : Fin 1024) : k0_pay20 (F := Ideal) v55 v57 v59 v67 v68 v69 v140 v155 v156 v179 v183 (ix2 r k) = A.h2 (ρ r) k := by
  pointwise [k0_pay20, h_v59, p19 h_v55 h_v57 h_v67 h_v68 h_v69 h_v140 h_v155 h_v156 h_v179 h_v183]
  all_goals try simp only [c_eps, c_512, c_64, c_1024, c_inv64, zero_add, mulE, sumE, addE, subE, sub_self, zero_mul, mul_zero, Finset.sum_const_zero, add_zero]
  all_goals try rfl

theorem p21 {v70 : FVec Ideal S256x512 .f32} (h_v70 : ∀ (r : Fin 256) (k : Fin 512), v70 (ix2 r k) = ((A.of (ρ r) k : ℝ) : EReal)) {v71 : FVec Ideal S256x512 .f32} (h_v71 : ∀ (r : Fin 256) (k : Fin 512), v71 (ix2 r k) = ((A.or (ρ r) k : ℝ) : EReal)) (r : Fin 256) (k : Fin 512) : k0_pay21 (F := Ideal) v70 v71 (ix2 r k) = ((A.o (ρ r) k : ℝ) : EReal) := by
  pointwise [k0_pay21, h_v70, h_v71]
  all_goals try simp only [c_eps, c_512, c_64, c_1024, c_inv64, zero_add, mulE, sumE, addE, subE, sub_self, zero_mul, mul_zero, Finset.sum_const_zero, add_zero]
  all_goals try rfl

theorem p22 {v70 : FVec Ideal S256x512 .f32} (h_v70 : ∀ (r : Fin 256) (k : Fin 512), v70 (ix2 r k) = ((A.of (ρ r) k : ℝ) : EReal)) {v71 : FVec Ideal S256x512 .f32} (h_v71 : ∀ (r : Fin 256) (k : Fin 512), v71 (ix2 r k) = ((A.or (ρ r) k : ℝ) : EReal)) (r : Fin 256) (k : Fin 512) : k0_pay22 (F := Ideal) v70 v71 (ix2 r k) = ((A.o (ρ r) k * A.o (ρ r) k : ℝ) : EReal) := by
  pointwise [k0_pay22, p21 h_v70 h_v71]
  all_goals try simp only [c_eps, c_512, c_64, c_1024, c_inv64, zero_add, mulE, sumE, addE, subE, sub_self, zero_mul, mul_zero, Finset.sum_const_zero, add_zero]
  all_goals try rfl

theorem p23 {v70 : FVec Ideal S256x512 .f32} (h_v70 : ∀ (r : Fin 256) (k : Fin 512), v70 (ix2 r k) = ((A.of (ρ r) k : ℝ) : EReal)) {v71 : FVec Ideal S256x512 .f32} (h_v71 : ∀ (r : Fin 256) (k : Fin 512), v71 (ix2 r k) = ((A.or (ρ r) k : ℝ) : EReal)) (r : Fin 256) (k : Fin 512) : k0_pay23 (F := Ideal) v70 v71 (ix2 r k) = ((A.o (ρ r) k * A.o (ρ r) k : ℝ) : EReal) := by
  pointwise [k0_pay23, p22 h_v70 h_v71]
  all_goals try simp only [c_eps, c_512, c_64, c_1024, c_inv64, zero_add, mulE, sumE, addE, subE, sub_self, zero_mul, mul_zero, Finset.sum_const_zero, add_zero]
  all_goals try rfl

theorem p24 {v70 : FVec Ideal S256x512 .f32} (h_v70 : ∀ (r : Fin 256) (k : Fin 512), v70 (ix2 r k) = ((A.of (ρ r) k : ℝ) : EReal)) {v71 : FVec Ideal S256x512 .f32} (h_v71 : ∀ (r : Fin 256) (k : Fin 512), v71 (ix2 r k) = ((A.or (ρ r) k : ℝ) : EReal)) (r : Fin 256) (k : Fin 512) : k0_pay24 (F := Ideal) v70 v71 (ix2 r k) = ((0 : ℝ) : EReal) := by
  pointwise [k0_pay24, p23 h_v70 h_v71, p22 h_v70 h_v71]
  all_goals try simp only [c_eps, c_512, c_64, c_1024, c_inv64, zero_add, mulE, sumE, addE, subE, sub_self, zero_mul, mul_zero, Finset.sum_const_zero, add_zero]
  all_goals try rfl

theorem p25 {v53 : FVec Ideal S512x512 .bf16} (h_v53 : ∀ (r k : Fin 512), v53 (ix2 r k) = ((if r.val / 64 = (hd k).val then 1 else 0 : ℝ) : EReal)) {v55 : FVec Ideal S1x512 .f32} (h_v55 : ∀ (r : Fin 1) (k : Fin 512), v55 (ix2 r k) = A.gh k) {v72 : FVec Ideal S256x512 .f32} (h_v72 : ∀ (r : Fin 256) (k : Fin 512), v72 (ix2 r k) = A.hg (ρ r) k) {v200 : FVec Ideal S256x512 .f32} (h_v200 : ∀ (r : Fin 256) (k : Fin 512), v200 (ix2 r k) = ((A.o (ρ r) k : ℝ) : EReal)) {v202 : FVec Ideal S256x512 .bf16} (h_v202 : ∀ (r : Fin 256) (k : Fin 512), v202 (ix2 r k) = ((A.o (ρ r) k * A.o (ρ r) k : ℝ) : EReal)) {v204 : FVec Ideal S256x512 .f32} (h_v204 : ∀ (r : Fin 256) (k : Fin 512), v204 (ix2 r k) = ((0 : ℝ) : EReal)) (r : Fin 256) (k : Fin 512) : k0_pay25 (F := Ideal) v53 v55 v72 v200 v202 v204 (ix2 r k) = A.yh (ρ r) k := by
  pointwise [k0_pay25, h_v53, h_v55, h_v72, h_v200, h_v202, h_v204]
  all_goals try simp only [c_eps, c_512, c_64, c_1024, c_inv64, zero_add, mulE, sumE, addE, subE, sub_self, zero_mul, mul_zero, Finset.sum_const_zero, add_zero]
  all_goals try first | rw [A.hs_eq] | rw [A.hs_eq']
  all_goals try rw [A.rs_eq]
  all_goals try simp only [mulE]
  all_goals try rfl

theorem p26 {v57 : FVec Ideal S1x512 .f32} (h_v57 : ∀ (r : Fin 1) (k : Fin 512), v57 (ix2 r k) = A.gm k) {v73 : FVec Ideal S256x512 .f32} (h_v73 : ∀ (r : Fin 256) (k : Fin 512), v73 (ix2 r k) = A.oa (ρ r) k) (r : Fin 256) (k : Fin 512) : k0_pay26 (F := Ideal) v57 v73 (ix2 r k) = A.ym (ρ r) k := by
  pointwise [k0_pay26, h_v57, h_v73]
  all_goals try simp only [c_eps, c_512, c_64, c_1024, c_inv64, zero_add, mulE, sumE, addE, subE, sub_self, zero_mul, mul_zero, Finset.sum_const_zero, add_zero]
  all_goals try rfl

theorem p27 {v53 : FVec Ideal S512x512 .bf16} (h_v53 : ∀ (r k : Fin 512), v53 (ix2 r k) = ((if r.val / 64 = (hd k).val then 1 else 0 : ℝ) : EReal)) {v55 : FVec Ideal S1x512 .f32} (h_v55 : ∀ (r : Fin 1) (k : Fin 512), v55 (ix2 r k) = A.gh k) {v57 : FVec Ideal S1x512 .f32} (h_v57 : ∀ (r : Fin 1) (k : Fin 512), v57 (ix2 r k) = A.gm k) {v72 : FVec Ideal S256x512 .f32} (h_v72 : ∀ (r : Fin 256) (k : Fin 512), v72 (ix2 r k) = A.hg (ρ r) k) {v73 : FVec Ideal S256x512 .f32} (h_v73 : ∀ (r : Fin 256) (k : Fin 512), v73 (ix2 r k) = A.oa (ρ r) k) {v74 : FVec Ideal S256x1024 .f32} (h_v74 : ∀ (r : Fin 256) (k : Fin 1024), v74 (ix2 r k) = A.x (ρ r) k) {v200 : FVec Ideal S256x512 .f32} (h_v200 : ∀ (r : Fin 256) (k : Fin 512), v200 (ix2 r k) = ((A.o (ρ r) k : ℝ) : EReal)) {v202 : FVec Ideal S256x512 .bf16} (h_v202 : ∀ (r : Fin 256) (k : Fin 512), v202 (ix2 r k) = ((A.o (ρ r) k * A.o (ρ r) k : ℝ) : EReal)) {v204 : FVec Ideal S256x512 .f32} (h_v204 : ∀ (r : Fin 256) (k : Fin 512), v204 (ix2 r k) = ((0 : ℝ) : EReal)) {v239 : FVec Ideal S512x1024 .bf16} (h_v239 : ∀ (r : Fin 512) (k : Fin 1024), v239 (ix2 r k) = A.w (lo r) k) {v243 : FVec Ideal S512x1024 .bf16} (h_v243 : ∀ (r : Fin 512) (k : Fin 1024), v243 (ix2 r k) = A.w (hi r) k) (r : Fin 256) (k : Fin 1024) : k0_pay27 (F := Ideal) v53 v55 v57 v72 v73 v74 v200 v202 v204 v239 v243 (ix2 r k) = A.x2 (ρ r) k := by
  pointwise [k0_pay27, h_v74, h_v239, h_v243, p25 h_v53 h_v55 h_v72 h_v200 h_v202 h_v204, p26 h_v57 h_v73]
  all_goals try simp only [c_eps, c_512, c_64, c_1024, c_inv64, zero_add, mulE, sumE, addE, subE, sub_self, zero_mul, mul_zero, Finset.sum_const_zero, add_zero]
  all_goals try rfl

theorem p28 {v53 : FVec Ideal S512x512 .bf16} (h_v53 : ∀ (r k : Fin 512), v53 (ix2 r k) = ((if r.val / 64 = (hd k).val then 1 else 0 : ℝ) : EReal)) {v55 : FVec Ideal S1x512 .f32} (h_v55 : ∀ (r : Fin 1) (k : Fin 512), v55 (ix2 r k) = A.gh k) {v57 : FVec Ideal S1x512 .f32} (h_v57 : ∀ (r : Fin 1) (k : Fin 512), v57 (ix2 r k) = A.gm k) {v72 : FVec Ideal S256x512 .f32} (h_v72 : ∀ (r : Fin 256) (k : Fin 512), v72 (ix2 r k) = A.hg (ρ r) k) {v73 : FVec Ideal S256x512 .f32} (h_v73 : ∀ (r : Fin 256) (k : Fin 512), v73 (ix2 r k) = A.oa (ρ r) k) {v74 : FVec Ideal S256x1024 .f32} (h_v74 : ∀ (r : Fin 256) (k : Fin 1024), v74 (ix2 r k) = A.x (ρ r) k) {v200 : FVec Ideal S256x512 .f32} (h_v200 : ∀ (r : Fin 256) (k : Fin 512), v200 (ix2 r k) = ((A.o (ρ r) k : ℝ) : EReal)) {v202 : FVec Ideal S256x512 .bf16} (h_v202 : ∀ (r : Fin 256) (k : Fin 512), v202 (ix2 r k) = ((A.o (ρ r) k * A.o (ρ r) k : ℝ) : EReal)) {v204 : FVec Ideal S256x512 .f32} (h_v204 : ∀ (r : Fin 256) (k : Fin 512), v204 (ix2 r k) = ((0 : ℝ) : EReal)) {v239 : FVec Ideal S512x1024 .bf16} (h_v239 : ∀ (r : Fin 512) (k : Fin 1024), v239 (ix2 r k) = A.w (lo r) k) {v243 : FVec Ideal S512x1024 .bf16} (h_v243 : ∀ (r : Fin 512) (k : Fin 1024), v243 (ix2 r k) = A.w (hi r) k) (r : Fin 256) (z : Fin 1) : k0_pay28 (F := Ideal) v53 v55 v57 v72 v73 v74 v200 v202 v204 v239 v243 (ix2 r z) = A.s2 (ρ r) := by
  pointwise [k0_pay28, p27 h_v53 h_v55 h_v57 h_v72 h_v73 h_v74 h_v200 h_v202 h_v204 h_v239 h_v243]
  all_goals try simp only [c_eps, c_512, c_64, c_1024, c_inv64, zero_add, mulE, sumE, addE, subE, sub_self, zero_mul, mul_zero, Finset.sum_const_zero, add_zero]
  all_goals try rfl

theorem p29 {v59 : FVec Ideal S1x1024 .f32} (h_v59 : ∀ (r : Fin 1) (k : Fin 1024), v59 (ix2 r k) = A.g2 k) {v246 : FVec Ideal S256x1024 .f32} (h_v246 : ∀ (r : Fin 256) (k : Fin 1024), v246 (ix2 r k) = A.x2 (ρ r) k) {v249 : FVec Ideal S256x1 .f32} (h_v249 : ∀ (r : Fin 256) (z : Fin 1), v249 (ix2 r z) = A.s2 (ρ r)) (r : Fin 256) (k : Fin 1024) : k0_pay29 (F := Ideal) v59 v246 v249 (ix2 r k) = A.h2 (ρ r) k := by
  pointwise [k0_pay29, h_v59, h_v246, h_v249]
  all_goals try simp only [c_eps, c_512, c_64, c_1024, c_inv64, zero_add, mulE, sumE, addE, subE, sub_self, zero_mul, mul_zero, Finset.sum_const_zero, add_zero]
  all_goals try rfl

theorem p30 {v53 : FVec Ideal S512x512 .bf16} (h_v53 : ∀ (r k : Fin 512), v53 (ix2 r k) = ((if r.val / 64 = (hd k).val then 1 else 0 : ℝ) : EReal)) {v55 : FVec Ideal S1x512 .f32} (h_v55 : ∀ (r : Fin 1) (k : Fin 512), v55 (ix2 r k) = A.gh k) {v75 : FVec Ideal S256x512 .f32} (h_v75 : ∀ (r : Fin 256) (k : Fin 512), v75 (ix2 r k) = ((A.of (ρ r) k : ℝ) : EReal)) {v76 : FVec Ideal S256x512 .f32} (h_v76 : ∀ (r : Fin 256) (k : Fin 512), v76 (ix2 r k) = ((A.or (ρ r) k : ℝ) : EReal)) {v77 : FVec Ideal S256x512 .f32} (h_v77 : ∀ (r : Fin 256) (k : Fin 512), v77 (ix2 r k) = A.hg (ρ r) k) (r : Fin 256) (k : Fin 512) : k0_pay30 (F := Ideal) v53 v55 v75 v76 v77 (ix2 r k) = A.yh (ρ r) k := by
  pointwise [k0_pay30, h_v53, h_v55, h_v75, h_v76, h_v77]
  all_goals try simp only [c_eps, c_512, c_64, c_1024, c_inv64, zero_add, mulE, sumE, addE, subE, sub_self, zero_mul, mul_zero, Finset.sum_const_zero, add_zero]
  all_goals try first | rw [A.hs_eq] | rw [A.hs_eq']
  all_goals try rw [A.rs_eq]
  all_goals try simp only [mulE]
  all_goals try rfl

theorem p31 {v57 : FVec Ideal S1x512 .f32} (h_v57 : ∀ (r : Fin 1) (k : Fin 512), v57 (ix2 r k) = A.gm k) {v78 : FVec Ideal S256x512 .f32} (h_v78 : ∀ (r : Fin 256) (k : Fin 512), v78 (ix2 r k) = A.oa (ρ r) k) (r : Fin 256) (k : Fin 512) : k0_pay31 (F := Ideal) v57 v78 (ix2 r k) = A.ym (ρ r) k := by
  pointwise [k0_pay31, h_v57, h_v78]
  all_goals try simp only [c_eps, c_512, c_64, c_1024, c_inv64, zero_add, mulE, sumE, addE, subE, sub_self, zero_mul, mul_zero, Finset.sum_const_zero, add_zero]
  all_goals try rfl

theorem p32 {v79 : FVec Ideal S256x1024 .f32} (h_v79 : ∀ (r : Fin 256) (k : Fin 1024), v79 (ix2 r k) = A.x (ρ r) k) {v285 : FVec Ideal S256x512 .bf16} (h_v285 : ∀ (r : Fin 256) (k : Fin 512), v285 (ix2 r k) = A.yh (ρ r) k) {v298 : FVec Ideal S256x512 .bf16} (h_v298 : ∀ (r : Fin 256) (k : Fin 512), v298 (ix2 r k) = A.ym (ρ r) k) {v299 : FVec Ideal S512x1024 .bf16} (h_v299 : ∀ (r : Fin 512) (k : Fin 1024), v299 (ix2 r k) = A.w (lo r) k) {v303 : FVec Ideal S512x1024 .bf16} (h_v303 : ∀ (r : Fin 512) (k : Fin 1024), v303 (ix2 r k) = A.w (hi r) k) (r : Fin 256) (k : Fin 1024) : k0_pay32 (F := Ideal) v79 v285 v298 v299 v303 (ix2 r k) = A.x2 (ρ r) k := by
  pointwise [k0_pay32, h_v79, h_v285, h_v298, h_v299, h_v303]
  all_goals try simp only [c_eps, c_512, c_64, c_1024, c_inv64, zero_add, mulE, sumE, addE, subE, sub_self, zero_mul, mul_zero, Finset.sum_const_zero, add_zero]
  all_goals try rfl

theorem p33 {v59 : FVec Ideal S1x1024 .f32} (h_v59 : ∀ (r : Fin 1) (k : Fin 1024), v59 (ix2 r k) = A.g2 k) {v79 : FVec Ideal S256x1024 .f32} (h_v79 : ∀ (r : Fin 256) (k : Fin 1024), v79 (ix2 r k) = A.x (ρ r) k) {v285 : FVec Ideal S256x512 .bf16} (h_v285 : ∀ (r : Fin 256) (k : Fin 512), v285 (ix2 r k) = A.yh (ρ r) k) {v298 : FVec Ideal S256x512 .bf16} (h_v298 : ∀ (r : Fin 256) (k : Fin 512), v298 (ix2 r k) = A.ym (ρ r) k) {v299 : FVec Ideal S512x1024 .bf16} (h_v299 : ∀ (r : Fin 512) (k : Fin 1024), v299 (ix2 r k) = A.w (lo r) k) {v303 : FVec Ideal S512x1024 .bf16} (h_v303 : ∀ (r : Fin 512) (k : Fin 1024), v303 (ix2 r k) = A.w (hi r) k) (r : Fin 256) (k : Fin 1024) : k0_pay33 (F := Ideal) v59 v79 v285 v298 v299 v303 (ix2 r k) = A.h2 (ρ r) k := by
  pointwise [k0_pay33, h_v59, p32 h_v79 h_v285 h_v298 h_v299 h_v303]
  all_goals try simp only [c_eps, c_512, c_64, c_1024, c_inv64, zero_add, mulE, sumE, addE, subE, sub_self, zero_mul, mul_zero, Finset.sum_const_zero, add_zero]
  all_goals try rfl

end Cert.OutFwd.Ker
end
end
-- ==== Proof.OutFwd.Blocks.lean ====
/- What the host prepares and what a grid point's input blocks hold. -/
module

public import proofs.«01_k».proof.Proof.Gen.KernelOutFwdIdeal.Value
public import proofs.«01_k».proof.Proof.OutFwd.Ker
public import Idealize.ShloMosaic.Lib.Pipeline.ValueKit
public import Idealize.ShloMosaic.Lib.Claim

@[expose] public section

set_option maxRecDepth 16384

noncomputable section

namespace Cert.OutFwd.Ker

open Cert.KernelOutFwdIdeal Cert.KernelOutFwdIdeal.Gen
open Idealize.ShloMosaic Idealize.ShloMosaic.TcCoe Idealize.SL.Sem

theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_9.index t = ![t.val, 0] ∧ win0_10.index t = ![t.val, 0] ∧ win0_11.index t = ![t.val, 0])
    ∧ (win0_5.index t = ![0, 0] ∧ win0_6.index t = ![0, 0] ∧ win0_7.index t = ![0, 0] ∧ win0_8.index t = ![0, 0]) :=
  (by decide +kernel : ∀ t : Fin grid0.N, _)

/-- The token of row `r` of grid point `t`'s block. -/
def tok (t : Fin cfg0.N) (r : Fin 1024) : Fin 8192 :=
  ⟨t.val * 1024 + r.val, by have h : t.val < 8 := lt_of_lt_of_eq t.isLt N_0; omega⟩

/-- The launch memory's arguments on device `c` are `A`. -/
structure Agree (m : (ℓ : Loc nD τ sig) → Buf (Elt Ideal) ℓ) (c : Dev nD) (A : OutFwd.Args) : Prop where
  a0 : ∀ a k, (m ((c : Thread nD τ).loc main_arg0) : FVec Ideal S8192x512 .f32) (ix2 a k) = (A.of a k : EReal)
  a1 : ∀ a k, (m ((c : Thread nD τ).loc main_arg1) : FVec Ideal S8192x512 .f32) (ix2 a k) = (A.or a k : EReal)
  a2 : ∀ a k, (m ((c : Thread nD τ).loc main_arg2) : FVec Ideal S8192x512 .f32) (ix2 a k) = (A.hg a k : EReal)
  a3 : ∀ a k, (m ((c : Thread nD τ).loc main_arg3) : FVec Ideal S8192x512 .f32) (ix2 a k) = (A.oa a k : EReal)
  a4 : ∀ a k, (m ((c : Thread nD τ).loc main_arg4) : FVec Ideal S8192x1024 .f32) (ix2 a k) = (A.x a k : EReal)
  a5 : ∀ k, (m ((c : Thread nD τ).loc main_arg5) : FVec Ideal S512 .f32) (ix1 k) = (A.gh k : EReal)
  a6 : ∀ k, (m ((c : Thread nD τ).loc main_arg6) : FVec Ideal S512 .f32) (ix1 k) = (A.gm k : EReal)
  a7 : ∀ a k, (m ((c : Thread nD τ).loc main_arg7) : FVec Ideal S1024x1024 .f32) (ix2 a k) = (A.w a k : EReal)
  a8 : ∀ k, (m ((c : Thread nD τ).loc main_arg8) : FVec Ideal S1024 .f32) (ix1 k) = (A.g2 k : EReal)

variable {m : (ℓ : Loc nD τ sig) → Buf (Elt Ideal) ℓ} {c : Dev nD} {A : OutFwd.Args} (H : Agree m c A)

include H

theorem gh_host (z : Fin 1) (k : Fin 512) : (V m c main_v0 : FVec Ideal S1x512 .f32) (ix2 z k) = A.gh k := by
  entry_read
  pointwise [H.a5]

theorem b5 (t : Fin cfg0.N) (z : Fin 1) (k : Fin 512) : (iblk m c 5 t : FVec Ideal S1x512 .f32) (ix2 z k) = A.gh k := by
  refine Eq.trans (b := (V m c main_v0 : FVec Ideal S1x512 .f32) (ix2 z k)) ?_ (gh_host H _ _)
  blk_ext [iblk, idx t, tok]

theorem gm_host (z : Fin 1) (k : Fin 512) : (V m c main_v1 : FVec Ideal S1x512 .f32) (ix2 z k) = A.gm k := by
  entry_read
  pointwise [H.a6]

theorem b6 (t : Fin cfg0.N) (z : Fin 1) (k : Fin 512) : (iblk m c 6 t : FVec Ideal S1x512 .f32) (ix2 z k) = A.gm k := by
  refine Eq.trans (b := (V m c main_v1 : FVec Ideal S1x512 .f32) (ix2 z k)) ?_ (gm_host H _ _)
  blk_ext [iblk, idx t, tok]

theorem w_host (z k : Fin 1024) : (V m c main_v2 : FVec Ideal S1024x1024 .bf16) (ix2 z k) = A.w z k := by
  entry_read
  pointwise [H.a7]

theorem b7 (t : Fin cfg0.N) (z k : Fin 1024) : (iblk m c 7 t : FVec Ideal S1024x1024 .bf16) (ix2 z k) = A.w z k := by
  refine Eq.trans (b := (V m c main_v2 : FVec Ideal S1024x1024 .bf16) (ix2 z k)) ?_ (w_host H _ _)
  blk_ext [iblk, idx t, tok]

theorem g2_host (z : Fin 1) (k : Fin 1024) : (V m c main_v3 : FVec Ideal S1x1024 .f32) (ix2 z k) = A.g2 k := by
  entry_read
  pointwise [H.a8]

theorem b8 (t : Fin cfg0.N) (z : Fin 1) (k : Fin 1024) : (iblk m c 8 t : FVec Ideal S1x1024 .f32) (ix2 z k) = A.g2 k := by
  refine Eq.trans (b := (V m c main_v3 : FVec Ideal S1x1024 .f32) (ix2 z k)) ?_ (g2_host H _ _)
  blk_ext [iblk, idx t, tok]

theorem b0 (t : Fin cfg0.N) (r : Fin 1024) (k : Fin 512) : (iblk m c 0 t : FVec Ideal S1024x512 .f32) (ix2 r k) = (A.of (tok t r) k : EReal) := by
  refine Eq.trans (b := ((m ((c : Thread nD τ).loc main_arg0) : FVec Ideal S8192x512 .f32)) (ix2 (tok t r) k)) ?_ (H.a0 _ _)
  blk_ext [iblk, V, idx t, tok]

theorem b1 (t : Fin cfg0.N) (r : Fin 1024) (k : Fin 512) : (iblk m c 1 t : FVec Ideal S1024x512 .f32) (ix2 r k) = (A.or (tok t r) k : EReal) := by
  refine Eq.trans (b := ((m ((c : Thread nD τ).loc main_arg1) : FVec Ideal S8192x512 .f32)) (ix2 (tok t r) k)) ?_ (H.a1 _ _)
  blk_ext [iblk, V, idx t, tok]

theorem b2 (t : Fin cfg0.N) (r : Fin 1024) (k : Fin 512) : (iblk m c 2 t : FVec Ideal S1024x512 .f32) (ix2 r k) = (A.hg (tok t r) k : EReal) := by
  refine Eq.trans (b := ((m ((c : Thread nD τ).loc main_arg2) : FVec Ideal S8192x512 .f32)) (ix2 (tok t r) k)) ?_ (H.a2 _ _)
  blk_ext [iblk, V, idx t, tok]

theorem b3 (t : Fin cfg0.N) (r : Fin 1024) (k : Fin 512) : (iblk m c 3 t : FVec Ideal S1024x512 .f32) (ix2 r k) = (A.oa (tok t r) k : EReal) := by
  refine Eq.trans (b := ((m ((c : Thread nD τ).loc main_arg3) : FVec Ideal S8192x512 .f32)) (ix2 (tok t r) k)) ?_ (H.a3 _ _)
  blk_ext [iblk, V, idx t, tok]

theorem b4 (t : Fin cfg0.N) (r : Fin 1024) (k : Fin 1024) : (iblk m c 4 t : FVec Ideal S1024x1024 .f32) (ix2 r k) = (A.x (tok t r) k : EReal) := by
  refine Eq.trans (b := ((m ((c : Thread nD τ).loc main_arg4) : FVec Ideal S8192x1024 .f32)) (ix2 (tok t r) k)) ?_ (H.a4 _ _)
  blk_ext [iblk, V, idx t, tok]

end Cert.OutFwd.Ker
end
end
-- ==== Proof.OutFwd.Final.lean ====
/- The output arrays after the run. -/
module

public import proofs.«01_k».proof.Proof.OutFwd.Blocks

@[expose] public section

set_option maxRecDepth 16384

noncomputable section

namespace Cert.OutFwd.Ker

open Cert.KernelOutFwdIdeal Cert.KernelOutFwdIdeal.Gen
open Cert.Ffn (c_eps)
open Idealize.ShloMosaic Idealize.ShloMosaic.TcCoe Idealize.SL.Sem

variable {m : (ℓ : Loc nD τ sig) → Buf (Elt Ideal) ℓ} {c : Dev nD} {A : OutFwd.Args} (H : Agree m c A)

/-- Row `r` of the group of grid point `t`'s block that starts at row `o`. -/
def rows (t : Fin cfg0.N) (o : ℕ) (ho : o ≤ 768) (r : Fin 256) : Fin 8192 := tok t ⟨o + r.val, by omega⟩

theorem rows_eq {t : Fin cfg0.N} {o : ℕ} {ho : o ≤ 768} {a : Fin 1024} {r : Fin 256} (h : a.val = o + r.val) : rows t o ho r = tok t a :=
  congrArg (tok t) (Fin.ext h.symm)

include H

theorem l54 (t : Fin cfg0.N) (z : Fin 1) (k : Fin 512) :
    (View.ld (iblk m c 5 t) (Rect.unit ![0, 0] ![1, 512] inb_S1x512_S1x512_0_0) : FVec Ideal S1x512 .f32) (ix2 z k) = A.gh k := by
  pointwise [b5 H t]

theorem l56 (t : Fin cfg0.N) (z : Fin 1) (k : Fin 512) :
    (View.ld (iblk m c 6 t) (Rect.unit ![0, 0] ![1, 512] inb_S1x512_S1x512_0_0) : FVec Ideal S1x512 .f32) (ix2 z k) = A.gm k := by
  pointwise [b6 H t]

theorem l58 (t : Fin cfg0.N) (z : Fin 1) (k : Fin 1024) :
    (View.ld (iblk m c 8 t) (Rect.unit ![0, 0] ![1, 1024] inb_S1x1024_S1x1024_0_0) : FVec Ideal S1x1024 .f32) (ix2 z k) = A.g2 k := by
  pointwise [b8 H t]

theorem l119 (t : Fin cfg0.N) (r : Fin 512) (k : Fin 1024) :
    (View.ld (iblk m c 7 t) (Rect.unit ![0, 0] ![512, 1024] inb_S1024x1024_S512x1024_0_0) : FVec Ideal S512x1024 .bf16) (ix2 r k) = A.w (lo r) k := by
  pointwise [b7 H t]
  try rfl

theorem l123 (t : Fin cfg0.N) (r : Fin 512) (k : Fin 1024) :
    (View.ld (iblk m c 7 t) (Rect.unit ![512, 0] ![512, 1024] inb_S1024x1024_S512x1024_512_0) : FVec Ideal S512x1024 .bf16) (ix2 r k) = A.w (hi r) k := by
  pointwise [b7 H t]
  try rfl

theorem l60_0 (t : Fin cfg0.N) (r : Fin 256) (k : Fin 512) :
    (View.ld (iblk m c 0 t) (Rect.unit ![0, 0] ![256, 512] inb_S1024x512_S256x512_0_0) : FVec Ideal S256x512 .f32) (ix2 r k) = (A.of (rows t 0 (by decide) r) k : EReal) := by
  pointwise [b0 H t]
  exact congrArg (fun i => (A.of (tok t i) k : EReal)) (Fin.ext (Nat.zero_add _).symm)

theorem l61_0 (t : Fin cfg0.N) (r : Fin 256) (k : Fin 512) :
    (View.ld (iblk m c 1 t) (Rect.unit ![0, 0] ![256, 512] inb_S1024x512_S256x512_0_0) : FVec Ideal S256x512 .f32) (ix2 r k) = (A.or (rows t 0 (by decide) r) k : EReal) := by
  pointwise [b1 H t]
  exact congrArg (fun i => (A.or (tok t i) k : EReal)) (Fin.ext (Nat.zero_add _).symm)

theorem l62_0 (t : Fin cfg0.N) (r : Fin 256) (k : Fin 512) :
    (View.ld (iblk m c 2 t) (Rect.unit ![0, 0] ![256, 512] inb_S1024x512_S256x512_0_0) : FVec Ideal S256x512 .f32) (ix2 r k) = (A.hg (rows t 0 (by decide) r) k : EReal) := by
  pointwise [b2 H t]
  exact congrArg (fun i => (A.hg (tok t i) k : EReal)) (Fin.ext (Nat.zero_add _).symm)

theorem l63_0 (t : Fin cfg0.N) (r : Fin 256) (k : Fin 512) :
    (View.ld (iblk m c 3 t) (Rect.unit ![0, 0] ![256, 512] inb_S1024x512_S256x512_0_0) : FVec Ideal S256x512 .f32) (ix2 r k) = (A.oa (rows t 0 (by decide) r) k : EReal) := by
  pointwise [b3 H t]
  exact congrArg (fun i => (A.oa (tok t i) k : EReal)) (Fin.ext (Nat.zero_add _).symm)

theorem l64_0 (t : Fin cfg0.N) (r : Fin 256) (k : Fin 1024) :
    (View.ld (iblk m c 4 t) (Rect.unit ![0, 0] ![256, 1024] inb_S1024x1024_S256x1024_0_0) : FVec Ideal S256x1024 .f32) (ix2 r k) = (A.x (rows t 0 (by decide) r) k : EReal) := by
  pointwise [b4 H t]
  exact congrArg (fun i => (A.x (tok t i) k : EReal)) (Fin.ext (Nat.zero_add _).symm)

theorem l60_1 (t : Fin cfg0.N) (r : Fin 256) (k : Fin 512) :
    (View.ld (iblk m c 0 t) (Rect.unit ![256, 0] ![256, 512] inb_S1024x512_S256x512_256_0) : FVec Ideal S256x512 .f32) (ix2 r k) = (A.of (rows t 256 (by decide) r) k : EReal) := by
  pointwise [b0 H t]
  rfl

theorem l61_1 (t : Fin cfg0.N) (r : Fin 256) (k : Fin 512) :
    (View.ld (iblk m c 1 t) (Rect.unit ![256, 0] ![256, 512] inb_S1024x512_S256x512_256_0) : FVec Ideal S256x512 .f32) (ix2 r k) = (A.or (rows t 256 (by decide) r) k : EReal) := by
  pointwise [b1 H t]
  rfl

theorem l62_1 (t : Fin cfg0.N) (r : Fin 256) (k : Fin 512) :
    (View.ld (iblk m c 2 t) (Rect.unit ![256, 0] ![256, 512] inb_S1024x512_S256x512_256_0) : FVec Ideal S256x512 .f32) (ix2 r k) = (A.hg (rows t 256 (by decide) r) k : EReal) := by
  pointwise [b2 H t]
  rfl

theorem l63_1 (t : Fin cfg0.N) (r : Fin 256) (k : Fin 512) :
    (View.ld (iblk m c 3 t) (Rect.unit ![256, 0] ![256, 512] inb_S1024x512_S256x512_256_0) : FVec Ideal S256x512 .f32) (ix2 r k) = (A.oa (rows t 256 (by decide) r) k : EReal) := by
  pointwise [b3 H t]
  rfl

theorem l64_1 (t : Fin cfg0.N) (r : Fin 256) (k : Fin 1024) :
    (View.ld (iblk m c 4 t) (Rect.unit ![256, 0] ![256, 1024] inb_S1024x1024_S256x1024_256_0) : FVec Ideal S256x1024 .f32) (ix2 r k) = (A.x (rows t 256 (by decide) r) k : EReal) := by
  pointwise [b4 H t]
  rfl

theorem l60_2 (t : Fin cfg0.N) (r : Fin 256) (k : Fin 512) :
    (View.ld (iblk m c 0 t) (Rect.unit ![512, 0] ![256, 512] inb_S1024x512_S256x512_512_0) : FVec Ideal S256x512 .f32) (ix2 r k) = (A.of (rows t 512 (by decide) r) k : EReal) := by
  pointwise [b0 H t]
  rfl

theorem l61_2 (t : Fin cfg0.N) (r : Fin 256) (k : Fin 512) :
    (View.ld (iblk m c 1 t) (Rect.unit ![512, 0] ![256, 512] inb_S1024x512_S256x512_512_0) : FVec Ideal S256x512 .f32) (ix2 r k) = (A.or (rows t 512 (by decide) r) k : EReal) := by
  pointwise [b1 H t]
  rfl

theorem l62_2 (t : Fin cfg0.N) (r : Fin 256) (k : Fin 512) :
    (View.ld (iblk m c 2 t) (Rect.unit ![512, 0] ![256, 512] inb_S1024x512_S256x512_512_0) : FVec Ideal S256x512 .f32) (ix2 r k) = (A.hg (rows t 512 (by decide) r) k : EReal) := by
  pointwise [b2 H t]
  rfl

theorem l63_2 (t : Fin cfg0.N) (r : Fin 256) (k : Fin 512) :
    (View.ld (iblk m c 3 t) (Rect.unit ![512, 0] ![256, 512] inb_S1024x512_S256x512_512_0) : FVec Ideal S256x512 .f32) (ix2 r k) = (A.oa (rows t 512 (by decide) r) k : EReal) := by
  pointwise [b3 H t]
  rfl

theorem l64_2 (t : Fin cfg0.N) (r : Fin 256) (k : Fin 1024) :
    (View.ld (iblk m c 4 t) (Rect.unit ![512, 0] ![256, 1024] inb_S1024x1024_S256x1024_512_0) : FVec Ideal S256x1024 .f32) (ix2 r k) = (A.x (rows t 512 (by decide) r) k : EReal) := by
  pointwise [b4 H t]
  rfl

theorem l60_3 (t : Fin cfg0.N) (r : Fin 256) (k : Fin 512) :
    (View.ld (iblk m c 0 t) (Rect.unit ![768, 0] ![256, 512] inb_S1024x512_S256x512_768_0) : FVec Ideal S256x512 .f32) (ix2 r k) = (A.of (rows t 768 (by decide) r) k : EReal) := by
  pointwise [b0 H t]
  rfl

theorem l61_3 (t : Fin cfg0.N) (r : Fin 256) (k : Fin 512) :
    (View.ld (iblk m c 1 t) (Rect.unit ![768, 0] ![256, 512] inb_S1024x512_S256x512_768_0) : FVec Ideal S256x512 .f32) (ix2 r k) = (A.or (rows t 768 (by decide) r) k : EReal) := by
  pointwise [b1 H t]
  rfl

theorem l62_3 (t : Fin cfg0.N) (r : Fin 256) (k : Fin 512) :
    (View.ld (iblk m c 2 t) (Rect.unit ![768, 0] ![256, 512] inb_S1024x512_S256x512_768_0) : FVec Ideal S256x512 .f32) (ix2 r k) = (A.hg (rows t 768 (by decide) r) k : EReal) := by
  pointwise [b2 H t]
  rfl

theorem l63_3 (t : Fin cfg0.N) (r : Fin 256) (k : Fin 512) :
    (View.ld (iblk m c 3 t) (Rect.unit ![768, 0] ![256, 512] inb_S1024x512_S256x512_768_0) : FVec Ideal S256x512 .f32) (ix2 r k) = (A.oa (rows t 768 (by decide) r) k : EReal) := by
  pointwise [b3 H t]
  rfl

theorem l64_3 (t : Fin cfg0.N) (r : Fin 256) (k : Fin 1024) :
    (View.ld (iblk m c 4 t) (Rect.unit ![768, 0] ![256, 1024] inb_S1024x1024_S256x1024_768_0) : FVec Ideal S256x1024 .f32) (ix2 r k) = (A.x (rows t 768 (by decide) r) k : EReal) := by
  pointwise [b4 H t]
  rfl

theorem out9 (t : Fin cfg0.N) (y : S1024x1024.Idx) :
    (out0_9 (iblk m c 0 t) (iblk m c 1 t) (iblk m c 2 t) (iblk m c 3 t) (iblk m c 4 t) (iblk m c 5 t) (iblk m c 6 t) (iblk m c 7 t) (iblk m c 8 t) : FVec Ideal S1024x1024 .bf16) y = A.y (tok t (y 0)) (y 1) := by
  frame_out
  canon_tiles x h
  · idx_vars x
    refine (p31 (A := A) (ρ := rows t 768 (by decide)) (p7 (A := A) (l56 H t)) (l63_3 H t) x0 x1).trans ?_
    exact (congrArg (fun a => A.ym a x1) (rows_eq h0)).trans (A.y_hi h1).symm
  · idx_vars x
    refine (p30 (A := A) (ρ := rows t 768 (by decide)) ones_pay (p6 (A := A) (l54 H t)) (l60_3 H t) (l61_3 H t) (l62_3 H t) x0 x1).trans ?_
    exact (congrArg (fun a => A.yh a x1) (rows_eq h0)).trans (A.y_lo h1).symm
  · idx_vars x
    refine (p26 (A := A) (ρ := rows t 512 (by decide)) (p7 (A := A) (l56 H t)) (l63_2 H t) x0 x1).trans ?_
    exact (congrArg (fun a => A.ym a x1) (rows_eq h0)).trans (A.y_hi h1).symm
  · idx_vars x
    refine (p25 (A := A) (ρ := rows t 512 (by decide)) ones_pay (p6 (A := A) (l54 H t)) (l62_2 H t) (p21 (A := A) (ρ := rows t 512 (by decide)) (l60_2 H t) (l61_2 H t)) (p23 (A := A) (ρ := rows t 512 (by decide)) (l60_2 H t) (l61_2 H t)) (p24 (A := A) (ρ := rows t 512 (by decide)) (l60_2 H t) (l61_2 H t)) x0 x1).trans ?_
    exact (congrArg (fun a => A.yh a x1) (rows_eq h0)).trans (A.y_lo h1).symm
  · idx_vars x
    refine (p18 (A := A) (ρ := rows t 256 (by decide)) (p7 (A := A) (l56 H t)) (l63_1 H t) x0 x1).trans ?_
    exact (congrArg (fun a => A.ym a x1) (rows_eq h0)).trans (A.y_hi h1).symm
  · idx_vars x
    refine (p17 (A := A) (ρ := rows t 256 (by decide)) (p6 (A := A) (l54 H t)) (l62_1 H t) (p14 (A := A) (ρ := rows t 256 (by decide)) (l60_1 H t) (l61_1 H t)) (p15 (A := A) (ρ := rows t 256 (by decide)) ones_pay (l60_1 H t) (l61_1 H t)) (p16) x0 x1).trans ?_
    exact (congrArg (fun a => A.yh a x1) (rows_eq h0)).trans (A.y_lo h1).symm
  · idx_vars x
    refine (p11 (A := A) (ρ := rows t 0 (by decide)) (p7 (A := A) (l56 H t)) (l63_0 H t) (p10 (A := A) (ρ := rows t 0 (by decide)) (l63_0 H t)) c_eps x0 x1).trans ?_
    exact (congrArg (fun a => A.ym a x1) (rows_eq (h0.trans (Nat.zero_add _).symm))).trans (A.y_hi h1).symm
  · idx_vars x
    refine (p9 (A := A) (ρ := rows t 0 (by decide)) ones_pay (p6 (A := A) (l54 H t)) (l60_0 H t) (l61_0 H t) (l62_0 H t) x0 x1).trans ?_
    exact (congrArg (fun a => A.yh a x1) (rows_eq (h0.trans (Nat.zero_add _).symm))).trans (A.y_lo h1).symm

theorem final9 : ((dats m 0 c).arrAt 9 cfg0.N : FVec Ideal S8192x1024 .bf16) = mat A.y := by
  refine (dats m 0 c).arrAt_eq_of_covers 9 _ (by decide +kernel) fun t hf y => ?_
  blk_simp
  rw [after0_9]
  idx_vars y
  refine (out9 H t _).trans ?_
  exact mat_ext A.y (by blk_ext [idx t, tok])

theorem out10 (t : Fin cfg0.N) (y : S1024x1024.Idx) :
    (out0_10 (iblk m c 0 t) (iblk m c 1 t) (iblk m c 2 t) (iblk m c 3 t) (iblk m c 4 t) (iblk m c 5 t) (iblk m c 6 t) (iblk m c 7 t) (iblk m c 8 t) : FVec Ideal S1024x1024 .f32) y = A.x2 (tok t (y 0)) (y 1) := by
  frame_out
  canon_tiles x h
  · idx_vars x
    refine (p32 (A := A) (ρ := rows t 768 (by decide)) (l64_3 H t) (p30 (A := A) (ρ := rows t 768 (by decide)) ones_pay (p6 (A := A) (l54 H t)) (l60_3 H t) (l61_3 H t) (l62_3 H t)) (p31 (A := A) (ρ := rows t 768 (by decide)) (p7 (A := A) (l56 H t)) (l63_3 H t)) (l119 H t) (l123 H t) x0 x1).trans ?_
    exact congrArg₂ A.x2 (rows_eq h0) (Fin.ext h1.symm)
  · idx_vars x
    refine (p27 (A := A) (ρ := rows t 512 (by decide)) ones_pay (p6 (A := A) (l54 H t)) (p7 (A := A) (l56 H t)) (l62_2 H t) (l63_2 H t) (l64_2 H t) (p21 (A := A) (ρ := rows t 512 (by decide)) (l60_2 H t) (l61_2 H t)) (p23 (A := A) (ρ := rows t 512 (by decide)) (l60_2 H t) (l61_2 H t)) (p24 (A := A) (ρ := rows t 512 (by decide)) (l60_2 H t) (l61_2 H t)) (l119 H t) (l123 H t) x0 x1).trans ?_
    exact congrArg₂ A.x2 (rows_eq h0) (Fin.ext h1.symm)
  · idx_vars x
    refine (p19 (A := A) (ρ := rows t 256 (by decide)) (p6 (A := A) (l54 H t)) (p7 (A := A) (l56 H t)) (l62_1 H t) (l63_1 H t) (l64_1 H t) (p14 (A := A) (ρ := rows t 256 (by decide)) (l60_1 H t) (l61_1 H t)) (p15 (A := A) (ρ := rows t 256 (by decide)) ones_pay (l60_1 H t) (l61_1 H t)) (p16) (l119 H t) (l123 H t) x0 x1).trans ?_
    exact congrArg₂ A.x2 (rows_eq h0) (Fin.ext h1.symm)
  · idx_vars x
    refine (p12 (A := A) (ρ := rows t 0 (by decide)) (p7 (A := A) (l56 H t)) (l63_0 H t) (l64_0 H t) (p9 (A := A) (ρ := rows t 0 (by decide)) ones_pay (p6 (A := A) (l54 H t)) (l60_0 H t) (l61_0 H t) (l62_0 H t)) (p10 (A := A) (ρ := rows t 0 (by decide)) (l63_0 H t)) c_eps (l119 H t) (l123 H t) x0 x1).trans ?_
    exact congrArg₂ A.x2 (rows_eq (h0.trans (Nat.zero_add _).symm)) (Fin.ext h1.symm)

theorem final10 : ((dats m 0 c).arrAt 10 cfg0.N : FVec Ideal S8192x1024 .f32) = mat A.x2 := by
  refine (dats m 0 c).arrAt_eq_of_covers 10 _ (by decide +kernel) fun t hf y => ?_
  blk_simp
  rw [after0_10]
  idx_vars y
  refine (out10 H t _).trans ?_
  exact mat_ext A.x2 (by blk_ext [idx t, tok])

theorem out11 (t : Fin cfg0.N) (y : S1024x1024.Idx) :
    (out0_11 (iblk m c 0 t) (iblk m c 1 t) (iblk m c 2 t) (iblk m c 3 t) (iblk m c 4 t) (iblk m c 5 t) (iblk m c 6 t) (iblk m c 7 t) (iblk m c 8 t) : FVec Ideal S1024x1024 .bf16) y = A.h2 (tok t (y 0)) (y 1) := by
  frame_out
  canon_tiles x h
  · idx_vars x
    refine (p33 (A := A) (ρ := rows t 768 (by decide)) (p8 (A := A) (l58 H t)) (l64_3 H t) (p30 (A := A) (ρ := rows t 768 (by decide)) ones_pay (p6 (A := A) (l54 H t)) (l60_3 H t) (l61_3 H t) (l62_3 H t)) (p31 (A := A) (ρ := rows t 768 (by decide)) (p7 (A := A) (l56 H t)) (l63_3 H t)) (l119 H t) (l123 H t) x0 x1).trans ?_
    exact congrArg₂ A.h2 (rows_eq h0) (Fin.ext h1.symm)
  · idx_vars x
    refine (p29 (A := A) (ρ := rows t 512 (by decide)) (p8 (A := A) (l58 H t)) (p27 (A := A) (ρ := rows t 512 (by decide)) ones_pay (p6 (A := A) (l54 H t)) (p7 (A := A) (l56 H t)) (l62_2 H t) (l63_2 H t) (l64_2 H t) (p21 (A := A) (ρ := rows t 512 (by decide)) (l60_2 H t) (l61_2 H t)) (p23 (A := A) (ρ := rows t 512 (by decide)) (l60_2 H t) (l61_2 H t)) (p24 (A := A) (ρ := rows t 512 (by decide)) (l60_2 H t) (l61_2 H t)) (l119 H t) (l123 H t)) (p28 (A := A) (ρ := rows t 512 (by decide)) ones_pay (p6 (A := A) (l54 H t)) (p7 (A := A) (l56 H t)) (l62_2 H t) (l63_2 H t) (l64_2 H t) (p21 (A := A) (ρ := rows t 512 (by decide)) (l60_2 H t) (l61_2 H t)) (p23 (A := A) (ρ := rows t 512 (by decide)) (l60_2 H t) (l61_2 H t)) (p24 (A := A) (ρ := rows t 512 (by decide)) (l60_2 H t) (l61_2 H t)) (l119 H t) (l123 H t)) x0 x1).trans ?_
    exact congrArg₂ A.h2 (rows_eq h0) (Fin.ext h1.symm)
  · idx_vars x
    refine (p20 (A := A) (ρ := rows t 256 (by decide)) (p6 (A := A) (l54 H t)) (p7 (A := A) (l56 H t)) (p8 (A := A) (l58 H t)) (l62_1 H t) (l63_1 H t) (l64_1 H t) (p14 (A := A) (ρ := rows t 256 (by decide)) (l60_1 H t) (l61_1 H t)) (p15 (A := A) (ρ := rows t 256 (by decide)) ones_pay (l60_1 H t) (l61_1 H t)) (p16) (l119 H t) (l123 H t) x0 x1).trans ?_
    exact congrArg₂ A.h2 (rows_eq h0) (Fin.ext h1.symm)
  · idx_vars x
    refine (p13 (A := A) (ρ := rows t 0 (by decide)) (p7 (A := A) (l56 H t)) (p8 (A := A) (l58 H t)) (l63_0 H t) (l64_0 H t) (p9 (A := A) (ρ := rows t 0 (by decide)) ones_pay (p6 (A := A) (l54 H t)) (l60_0 H t) (l61_0 H t) (l62_0 H t)) (p10 (A := A) (ρ := rows t 0 (by decide)) (l63_0 H t)) c_eps (l119 H t) (l123 H t) x0 x1).trans ?_
    exact congrArg₂ A.h2 (rows_eq (h0.trans (Nat.zero_add _).symm)) (Fin.ext h1.symm)

theorem final11 : ((dats m 0 c).arrAt 11 cfg0.N : FVec Ideal S8192x1024 .bf16) = mat A.h2 := by
  refine (dats m 0 c).arrAt_eq_of_covers 11 _ (by decide +kernel) fun t hf y => ?_
  blk_simp
  rw [after0_11]
  idx_vars y
  refine (out11 H t _).trans ?_
  exact mat_ext A.h2 (by blk_ext [idx t, tok])

end Cert.OutFwd.Ker
end
end
-- ==== Proof.OutFwd.Ref.lean ====
/- The reference's results, from its arguments' elements. -/
module

public import proofs.«01_k».proof.Proof.Gen.ReferenceOutFwdIdeal.Read
public import proofs.«01_k».proof.Proof.OutFwd.Real

@[expose] public section

set_option maxRecDepth 16384

noncomputable section

namespace Cert.OutFwd.Ref

open Cert.ReferenceOutFwdIdeal Cert.ReferenceOutFwdIdeal.Gen Cert.ReferenceOutFwdIdeal.Read
open Cert.Ffn (sg mulE addE subE sumE divE eps c_eps c_1024)
open Cert.OutBwd (hd ln lane lane_eq c_512 c_64)
open Idealize.ShloMosaic Idealize.ShloMosaic.TcCoe Idealize.SL.Sem Idealize.ShloMosaic.StableHlo

variable {A : OutFwd.Args}
  {x0 : FVec Ideal S8192x512 .f32} (h0 : ∀ a k, x0 (ix2 a k) = (A.of a k : EReal))
  {x1 : FVec Ideal S8192x512 .f32} (h1 : ∀ a k, x1 (ix2 a k) = (A.or a k : EReal))
  {x2 : FVec Ideal S8192x512 .f32} (h2 : ∀ a k, x2 (ix2 a k) = (A.hg a k : EReal))
  {x3 : FVec Ideal S8192x512 .f32} (h3 : ∀ a k, x3 (ix2 a k) = (A.oa a k : EReal))
  {x4 : FVec Ideal S8192x1024 .f32} (h4 : ∀ a k, x4 (ix2 a k) = (A.x a k : EReal))
  {x5 : FVec Ideal S512 .f32} (h5 : ∀ k, x5 (ix1 k) = (A.gh k : EReal))
  {x6 : FVec Ideal S512 .f32} (h6 : ∀ k, x6 (ix1 k) = (A.gm k : EReal))
  {x7 : FVec Ideal S1024x1024 .f32} (h7 : ∀ a k, x7 (ix2 a k) = (A.w a k : EReal))
  {x8 : FVec Ideal S1024 .f32} (h8 : ∀ k, x8 (ix1 k) = (A.g2 k : EReal))

include h0 h1 in
theorem o_read (a : Fin 8192) (h : Fin 8) (l : Fin 64) : val_main_v1 (F := Ideal) x0 x1 (ix3 a h l) = (A.oh a h l : EReal) := by
  pointwise [val_main_v1, val_main_v0, h0, h1]
  simp only [addE]
  rfl

include h0 h1 in
theorem rh_read (a : Fin 8192) (h : Fin 8) (z : Fin 1) : val_main_v9 (F := Ideal) x0 x1 (ix3 a h z) = (A.rh a h : EReal) := by
  pointwise [val_main_v9, val_main_v8, val_main_v7, val_main_v6, val_main_v5, val_main_v4, val_main_v3, val_main_v2, val_main_cst, val_main_cst_0, val_main_cst_1, o_read h0 h1]
  simp only [c_eps, c_64, zero_add, mulE, sumE, divE _ _ (by norm_num : (64 : ℝ) ≠ 0), addE]
  exact A.rs_eq a h

include h0 h1 in
theorem onh_read (a : Fin 8192) (h : Fin 8) (l : Fin 64) : val_main_v11 (F := Ideal) x0 x1 (ix3 a h l) = ((A.oh a h l * A.rh a h : ℝ) : EReal) := by
  pointwise [val_main_v11, val_main_v10, o_read h0 h1, rh_read h0 h1]
  simp only [mulE]

include h0 h1 in
theorem on_read (a : Fin 8192) (j : Fin 512) : val_main_v12 (F := Ideal) x0 x1 (ix2 a j) = ((A.o a j * A.rh a (hd j) : ℝ) : EReal) := by
  pointwise [val_main_v12, onh_read h0 h1]
  exact congrArg (fun i => ((A.o a i * A.rh a (hd j) : ℝ) : EReal)) (lane_eq j)

theorem one_eq : Ideal.ofBits .f32 0x3F800000#32 = (1 : EReal) := by
  have h : Ideal.ofBits .f32 0x3F800000#32 = ((1 : ℝ) : EReal) := by
    simp [Ideal.ofBits, Ideal.ieee]
    exact_mod_cast (show (8388608 : ℝ) * (2 ^ 23)⁻¹ = 1 by norm_num)
  exact h

include h0 h1 h2 h5 in
theorem yh_read (a : Fin 8192) (j : Fin 512) : val_main_v17 (F := Ideal) x0 x1 x2 x5 (ix2 a j) = A.yh a j := by
  pointwise [val_main_v17, val_main_v16, val_main_v15, val_main_v14, val_main_v13, val_main_call0_v5, val_main_call0_v4, val_main_call0_v3, val_main_call0_v2, val_main_call0_v1, val_main_call0_v0, val_main_call0_cst, val_main_call0_cst_0, on_read h0 h1, h2, h5]
  try simp only [one_eq]
  rfl

include h3 h6 in
theorem ym_read (a : Fin 8192) (j : Fin 512) : val_main_v30 (F := Ideal) x3 x6 (ix2 a j) = A.ym a j := by
  pointwise [val_main_v30, val_main_v29, val_main_v28, val_main_v27, val_main_v26, val_main_v25, val_main_v24, val_main_v23, val_main_v22, val_main_v21, val_main_v20, val_main_v19, val_main_v18, val_main_cst_2, val_main_cst_3, val_main_cst_4, h3, h6]
  try simp only [zero_add, c_eps, c_512]
  rfl

include h0 h1 h2 h3 h5 h6 in
theorem y_read (a : Fin 8192) (j : Fin 1024) : val_main_v31 (F := Ideal) x0 x1 x2 x3 x5 x6 (ix2 a j) = A.y a j := by
  pointwise [val_main_v31, yh_read h0 h1 h2 h5, ym_read h3 h6]
  rfl

include h0 h1 h2 h3 h5 h6 in
theorem y16_read (a : Fin 8192) (j : Fin 1024) : val_main_v34 (F := Ideal) x0 x1 x2 x3 x5 x6 (ix2 a j) = A.y a j := by
  pointwise [val_main_v34, y_read h0 h1 h2 h3 h5 h6]

include h0 h1 h2 h3 h4 h5 h6 h7 in
theorem x2_read (a : Fin 8192) (k : Fin 1024) : val_main_v33 (F := Ideal) x0 x1 x2 x3 x4 x5 x6 x7 (ix2 a k) = A.x2 a k := by
  pointwise [val_main_v33, val_main_v32, y_read h0 h1 h2 h3 h5 h6, h4, h7]
  exact A.x2_dot a k

include h0 h1 h2 h3 h4 h5 h6 h7 h8 in
theorem h2_read (a : Fin 8192) (k : Fin 1024) : val_main_v48 (F := Ideal) x0 x1 x2 x3 x4 x5 x6 x7 x8 (ix2 a k) = A.h2 a k := by
  pointwise [val_main_v48, val_main_v47, val_main_v46, val_main_v45, val_main_v44, val_main_v43, val_main_v42, val_main_v41, val_main_v40, val_main_v39, val_main_v38, val_main_v37, val_main_v36, val_main_v35, val_main_cst_5, val_main_cst_6, val_main_cst_7, x2_read h0 h1 h2 h3 h4 h5 h6 h7, h8]
  try simp only [zero_add, c_eps, c_1024]
  rfl

end Cert.OutFwd.Ref
end
end
-- ==== Proof.OutFwd.RefRun.lean ====
/- The reference's run, its results stated. -/
module

public import proofs.«01_k».proof.Proof.Gen.ReferenceOutFwdIdeal.Run
public import proofs.«01_k».proof.Proof.OutFwd.Ref

@[expose] public section

set_option maxRecDepth 16384

noncomputable section

namespace Cert.OutFwd.Ref

open Cert.ReferenceOutFwdIdeal Cert.ReferenceOutFwdIdeal.Gen Cert.ReferenceOutFwdIdeal.Read
open Idealize.ShloMosaic Idealize.ShloMosaic.TcCoe Idealize.SL.Sem Idealize.ShloMosaic.StableHlo

/-- The launch memory's arguments on device `c` are `A`. -/
structure Agree (m : (ℓ : Loc nD τ sig) → Buf (Elt Ideal) ℓ) (c : Dev nD) (A : OutFwd.Args) : Prop where
  a0 : ∀ a k, (m ((c : Thread nD τ).loc main_arg0) : FVec Ideal S8192x512 .f32) (ix2 a k) = (A.of a k : EReal)
  a1 : ∀ a k, (m ((c : Thread nD τ).loc main_arg1) : FVec Ideal S8192x512 .f32) (ix2 a k) = (A.or a k : EReal)
  a2 : ∀ a k, (m ((c : Thread nD τ).loc main_arg2) : FVec Ideal S8192x512 .f32) (ix2 a k) = (A.hg a k : EReal)
  a3 : ∀ a k, (m ((c : Thread nD τ).loc main_arg3) : FVec Ideal S8192x512 .f32) (ix2 a k) = (A.oa a k : EReal)
  a4 : ∀ a k, (m ((c : Thread nD τ).loc main_arg4) : FVec Ideal S8192x1024 .f32) (ix2 a k) = (A.x a k : EReal)
  a5 : ∀ k, (m ((c : Thread nD τ).loc main_arg5) : FVec Ideal S512 .f32) (ix1 k) = (A.gh k : EReal)
  a6 : ∀ k, (m ((c : Thread nD τ).loc main_arg6) : FVec Ideal S512 .f32) (ix1 k) = (A.gm k : EReal)
  a7 : ∀ a k, (m ((c : Thread nD τ).loc main_arg7) : FVec Ideal S1024x1024 .f32) (ix2 a k) = (A.w a k : EReal)
  a8 : ∀ k, (m ((c : Thread nD τ).loc main_arg8) : FVec Ideal S1024 .f32) (ix1 k) = (A.g2 k : EReal)

variable {m : (ℓ : Loc nD τ sig) → Buf (Elt Ideal) ℓ}

/-- The reference's run, its results the arrays of `Args`. -/
theorem run (A : Dev nD → OutFwd.Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v34) : FVec Ideal S8192x1024 .bf16) = mat (A c).y
      ∧ (r.2.mem ((c.tc : Thread nD τ).loc main_v33) : FVec Ideal S8192x1024 .f32) = mat (A c).x2
      ∧ (r.2.mem ((c.tc : Thread nD τ).loc main_v48) : FVec Ideal S8192x1024 .bf16) = mat (A c).h2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.ReferenceOutFwdIdeal.Value.run m ρ)
  obtain ⟨h0, h1, h2, hr⟩ := h c
  refine ⟨h0.trans ?_, h1.trans ?_, h2.trans ?_, hr⟩
  · refine Eq.trans (val_main_v34_eq ..) (funext fun i => ?_)
    idx_vars i
    exact y16_read (H c).a0 (H c).a1 (H c).a2 (H c).a3 (H c).a5 (H c).a6 i0 i1
  · refine Eq.trans (val_main_v33_eq ..) (funext fun i => ?_)
    idx_vars i
    exact x2_read (H c).a0 (H c).a1 (H c).a2 (H c).a3 (H c).a4 (H c).a5 (H c).a6 (H c).a7 i0 i1
  · refine Eq.trans (val_main_v48_eq ..) (funext fun i => ?_)
    idx_vars i
    exact h2_read (H c).a0 (H c).a1 (H c).a2 (H c).a3 (H c).a4 (H c).a5 (H c).a6 (H c).a7 (H c).a8 i0 i1

end Cert.OutFwd.Ref
end
end
-- ==== Proof.OutFwd.Claim.lean ====
/- The mixers' norms, the output projection and the second norm: the kernel's results equal the reference's, at equal arguments, the recurrence's results real numbers. -/
module

public import proofs.«01_k».proof.Defs
public import proofs.«01_k».proof.Proof.Gen.KernelOutFwd
public import Idealize.ShloMosaic.Lib.Quiescent
public import proofs.«01_k».proof.Proof.OutFwd.Finite
public import proofs.«01_k».proof.Proof.OutFwd.Final
public import proofs.«01_k».proof.Proof.OutFwd.RefRun

@[expose] public section

set_option maxRecDepth 16384

noncomputable section

namespace Cert.OutFwd

open Idealize.ShloMosaic Idealize.ShloMosaic.TcCoe Idealize.SL.Sem Cert.KernelOutFwdIdeal

/-- What device `c`'s argument arrays hold. -/
def args (m : (ℓ : Loc nD τ sig) → Buf (Elt Ideal) ℓ) (c : Dev nD) : Args where
  of a k := ((m ((c : Thread nD τ).loc main_arg0) : FVec Ideal S8192x512 .f32) (ix2 a k)).toReal
  or a k := ((m ((c : Thread nD τ).loc main_arg1) : FVec Ideal S8192x512 .f32) (ix2 a k)).toReal
  hg a k := (m ((c : Thread nD τ).loc main_arg2) : FVec Ideal S8192x512 .f32) (ix2 a k)
  oa a k := (m ((c : Thread nD τ).loc main_arg3) : FVec Ideal S8192x512 .f32) (ix2 a k)
  x a k := (m ((c : Thread nD τ).loc main_arg4) : FVec Ideal S8192x1024 .f32) (ix2 a k)
  gh k := (m ((c : Thread nD τ).loc main_arg5) : FVec Ideal S512 .f32) (ix1 k)
  gm k := (m ((c : Thread nD τ).loc main_arg6) : FVec Ideal S512 .f32) (ix1 k)
  w a k := (m ((c : Thread nD τ).loc main_arg7) : FVec Ideal S1024x1024 .f32) (ix2 a k)
  g2 k := (m ((c : Thread nD τ).loc main_arg8) : FVec Ideal S1024 .f32) (ix1 k)

theorem agree [Cert.Pre_finite_out_fwd.Facts] (m : (ℓ : Loc nD τ sig) → Buf (Elt Ideal) ℓ) (h : Cert.Pre_KernelOutFwdIdeal_finite_out_fwd m) (c : Dev nD) :
    Ker.Agree m c (args m c) := by
  obtain ⟨h0, h1⟩ := reals _ _ _ _ _ _ _ _ _ (h c)
  exact ⟨fun _ _ => h0 _, fun _ _ => h1 _, fun _ _ => rfl, fun _ _ => rfl, fun _ _ => rfl, fun _ => rfl, fun _ => rfl, fun _ _ => rfl, fun _ => rfl⟩

theorem algebraic : Cert.algebraic_KernelOutFwdIdeal_ReferenceOutFwdIdeal_pre_finite_out_fwd := by
  pair_intro
  · run_from Cert.KernelOutFwdIdeal.Value.run_blocks m g
  · have H := agree m hpre
    have HR : ∀ c, Ref.Agree m' c (args m c) := fun c => by
      obtain ⟨e0, e1, e2, e3, e4, e5, e6, e7, e8⟩ := hagree c
      have K := H c
      exact ⟨fun a k => (congrFun e0 _).trans (K.a0 a k), fun a k => (congrFun e1 _).trans (K.a1 a k), fun a k => (congrFun e2 _).trans (K.a2 a k), fun a k => (congrFun e3 _).trans (K.a3 a k), fun a k => (congrFun e4 _).trans (K.a4 a k), fun k => (congrFun e5 _).trans (K.a5 k), fun k => (congrFun e6 _).trans (K.a6 k), fun a k => (congrFun e7 _).trans (K.a7 a k), fun k => (congrFun e8 _).trans (K.a8 k)⟩
    run_from Ref.run _ HR g'
    · exact (Ker.final9 (H c)).symm
    · exact (Ker.final10 (H c)).symm
    · exact (Ker.final11 (H c)).symm

/-- The reference's frame, whatever the precondition. -/
theorem reference_frame : Cert.quiescent_ReferenceOutFwdIdeal := by
  intro m g _
  exact (θ_run Cert.ReferenceOutFwdIdeal.defs _ _).mono
    (fun r h => ⟨fun c => (h c).2.2.2, sem_eq_zero_of_no_sems (sig := Cert.ReferenceOutFwdIdeal.sig) rfl _⟩)
    (Cert.ReferenceOutFwdIdeal.Value.run m g)

end Cert.OutFwd
end
end
-- ==== Proof.Prep.Real.lean ====
/- The attention's latent norms, projections and rotary embedding, token by token. -/
module

public import proofs.«01_k».proof.Proof.OutFwd.Real

@[expose] public section

set_option maxRecDepth 16384

noncomputable section

open Idealize.ShloMosaic

namespace Cert.Prep

open Cert.Ffn (eps)

/-- The arguments. -/
structure Args where
  cq : Fin 8192 → Fin 384 → EReal
  ckv : Fin 8192 → Fin 256 → EReal
  kr : Fin 8192 → Fin 64 → EReal
  gq : Fin 384 → EReal
  gv : Fin 256 → EReal
  wq : Fin 384 → Fin 768 → EReal
  wv : Fin 256 → Fin 1024 → EReal
  cs : Fin 4096 → Fin 32 → EReal
  sn : Fin 4096 → Fin 32 → EReal

/-- The other half's lane of the rotated lanes, as the rotation by 32 lanes or back by them reaches it. -/
def sw (l : Fin 128) : Fin 128 := if l.val < 32 then ⟨(l.val + 32) % 128, Nat.mod_lt _ (by norm_num)⟩ else ⟨(l.val + 96) % 128, Nat.mod_lt _ (by norm_num)⟩

/-- A token's place in its sequence. -/
def pos (a : Fin 8192) : Fin 4096 := ⟨a.val % 4096, Nat.mod_lt _ (by norm_num)⟩

/-- Lane `d` of head `h`'s 192 query columns, and of its 256 key and value columns. -/
def qc (h : Fin 4) (d : Fin 192) : Fin 768 := ⟨h.val * 192 + d.val, by omega⟩
def vc (h : Fin 4) (d : Fin 256) : Fin 1024 := ⟨h.val * 256 + d.val, by omega⟩

namespace Args
variable (A : Args)

/-- The normed latents. -/
def qn (a : Fin 8192) (k : Fin 384) : EReal := A.cq a k * Ideal.rsqrt (Ideal.div (∑ j, A.cq a j * A.cq a j) ((384 : ℝ) : EReal) + (eps : EReal)) * A.gq k
def vn (a : Fin 8192) (k : Fin 256) : EReal := A.ckv a k * Ideal.rsqrt (Ideal.div (∑ j, A.ckv a j * A.ckv a j) ((256 : ℝ) : EReal) + (eps : EReal)) * A.gv k

/-- A head's queries, and its keys and values, before the rotation. -/
def qh (a : Fin 8192) (h : Fin 4) (d : Fin 192) : EReal := ∑ k, A.qn a k * A.wq k (qc h d)
def vh (a : Fin 8192) (h : Fin 4) (d : Fin 256) : EReal := ∑ k, A.vn a k * A.wv k (vc h d)

/-- 64 features rotated, followed by zeros. -/
def rot (f : Fin 64 → EReal) (p : Fin 4096) (l : Fin 128) : EReal :=
  if h : l.val < 32 then f ⟨l.val, by omega⟩ * A.cs p ⟨l.val, h⟩ - f ⟨32 + l.val, by omega⟩ * A.sn p ⟨l.val, h⟩
  else if h' : l.val < 64 then f ⟨l.val - 32, by omega⟩ * A.sn p ⟨l.val - 32, by omega⟩ + f ⟨l.val, h'⟩ * A.cs p ⟨l.val - 32, by omega⟩
  else 0

/-- The queries and the keys as they are laid out: 128 plain lanes, then the rotated ones. -/
def q (a : Fin 8192) (h : Fin 4) (l : Fin 256) : EReal :=
  if h' : l.val < 128 then A.qh a h ⟨l.val, by omega⟩ else A.rot (fun i => A.qh a h ⟨128 + i.val, by omega⟩) (pos a) ⟨l.val - 128, by omega⟩
def k (a : Fin 8192) (h : Fin 4) (l : Fin 256) : EReal :=
  if h' : l.val < 128 then A.vh a h ⟨l.val, by omega⟩ else A.rot (A.kr a) (pos a) ⟨l.val - 128, by omega⟩

/-- Column `j` of the 1024 as a head and its lane. -/
def Q (a : Fin 8192) (j : Fin 1024) : EReal := A.q a ⟨j.val / 256, by omega⟩ ⟨j.val % 256, Nat.mod_lt _ (by norm_num)⟩
def K (a : Fin 8192) (j : Fin 1024) : EReal := A.k a ⟨j.val / 256, by omega⟩ ⟨j.val % 256, Nat.mod_lt _ (by norm_num)⟩
def V (a : Fin 8192) (j : Fin 512) : EReal := A.vh a ⟨j.val / 128, by omega⟩ ⟨128 + j.val % 128, by omega⟩

/-- What the host lays out: the padded queries' weights by rows, the keys' and values' apart, the padded shared key and tables. -/
def WQ (i : Fin 1024) (k : Fin 384) : EReal := if h : i.val % 256 < 192 then A.wq k (qc ⟨i.val / 256, by omega⟩ ⟨i.val % 256, h⟩) else 0
def WV (k : Fin 256) (j : Fin 1024) : EReal :=
  if h : j.val < 512 then A.wv k (vc ⟨j.val / 128, by omega⟩ ⟨j.val % 128, by omega⟩)
  else A.wv k (vc ⟨(j.val - 512) / 128, by omega⟩ ⟨128 + (j.val - 512) % 128, by omega⟩)
def KR (a : Fin 8192) (l : Fin 128) : EReal := if h : l.val < 64 then A.kr a ⟨l.val, h⟩ else 0
def cx (p : Fin 4096) (l : Fin 128) : EReal := if h : l.val < 32 then A.cs p ⟨l.val, h⟩ else if h' : l.val < 64 then A.cs p ⟨l.val - 32, by omega⟩ else 0
def sx (p : Fin 4096) (l : Fin 128) : EReal := if h : l.val < 32 then -A.sn p ⟨l.val, h⟩ else if h' : l.val < 64 then A.sn p ⟨l.val - 32, by omega⟩ else 0

/-- The body's rotation of 128 lanes, whose first 64 are `f`. -/
theorem rope_eq (F : Fin 128 → EReal) (f : Fin 64 → EReal) (hf : ∀ l : Fin 64, F ⟨l.val, by omega⟩ = f l) (p : Fin 4096) (l : Fin 128) :
    F l * A.cx p l + F (sw l) * A.sx p l = A.rot f p l := by
  unfold cx sx rot sw
  by_cases h : l.val < 32
  · have e : (l.val + 32) % 128 = 32 + l.val := by omega
    simp only [h, dif_pos, if_pos]
    rw [mul_neg, sub_eq_add_neg, ← hf, ← hf]
    exact congrArg (fun i => F l * A.cs p ⟨l.val, h⟩ + -(F i * A.sn p ⟨l.val, h⟩)) (Fin.ext e)
  · by_cases h' : l.val < 64
    · have e : (l.val + 96) % 128 = l.val - 32 := by omega
      simp only [h, h', dif_pos, dif_neg, if_neg, not_false_eq_true]
      rw [add_comm, ← hf, ← hf]
      exact congrArg (fun i => F i * A.sn p ⟨l.val - 32, by omega⟩ + F l * A.cs p ⟨l.val - 32, by omega⟩) (Fin.ext e)
    · simp only [h, h', dif_neg, not_false_eq_true, mul_zero, add_zero]

/-- The product of the body's rows of padded weights. -/
theorem q_dot (a : Fin 8192) (h : Fin 4) (d : Fin 192) {i : Fin 1024} (hi : i.val = h.val * 256 + d.val) :
    ∑ k, A.qn a k * A.WQ i k = A.qh a h d := by
  unfold qh
  refine Finset.sum_congr rfl fun k _ => ?_
  unfold WQ
  rw [dif_pos (by omega)]
  exact congrArg (fun j => A.qn a k * A.wq k j) (Fin.ext (show i.val / 256 * 192 + i.val % 256 = h.val * 192 + d.val by omega))

theorem k_dot (a : Fin 8192) (h : Fin 4) (d : Fin 128) {j : Fin 1024} (hj : j.val = h.val * 128 + d.val) :
    ∑ k, A.vn a k * A.WV k j = A.vh a h ⟨d.val, by omega⟩ := by
  unfold vh
  refine Finset.sum_congr rfl fun k _ => ?_
  unfold WV
  rw [dif_pos (by omega)]
  exact congrArg (fun i => A.vn a k * A.wv k i) (Fin.ext (show j.val / 128 * 256 + j.val % 128 = h.val * 256 + d.val by omega))

theorem v_dot (a : Fin 8192) (j : Fin 512) {i : Fin 1024} (hi : i.val = 512 + j.val) : ∑ k, A.vn a k * A.WV k i = A.V a j := by
  unfold V vh
  refine Finset.sum_congr rfl fun k _ => ?_
  unfold WV
  rw [dif_neg (by omega)]
  exact congrArg (fun i => A.vn a k * A.wv k i) (Fin.ext (show (i.val - 512) / 128 * 256 + (128 + (i.val - 512) % 128) = j.val / 128 * 256 + (128 + j.val % 128) by omega))

/-- The body's rotated queries and keys. -/
theorem q_rope (a : Fin 8192) (h : Fin 4) (l : Fin 128) {w : Fin 128 → Fin 1024} (hw : ∀ i, (w i).val = h.val * 256 + 128 + i.val) {p : Fin 4096} (hp : p = pos a) :
    (∑ k, A.qn a k * A.WQ (w l) k) * A.cx p l + (∑ k, A.qn a k * A.WQ (w (sw l)) k) * A.sx p l
      = A.rot (fun i => A.qh a h ⟨128 + i.val, by omega⟩) (pos a) l := by
  subst hp
  exact A.rope_eq (fun l => ∑ k, A.qn a k * A.WQ (w l) k) _ (fun i => A.q_dot a h ⟨128 + i.val, by omega⟩ ((hw _).trans (by simp only []; omega))) _ l

theorem k_rope (a : Fin 8192) (l : Fin 128) {p : Fin 4096} (hp : p = pos a) :
    A.KR a l * A.cx p l + A.KR a (sw l) * A.sx p l = A.rot (A.kr a) (pos a) l := by
  subst hp
  exact A.rope_eq (A.KR a) _ (fun i => by unfold KR; rw [dif_pos (show (⟨i.val, by omega⟩ : Fin 128).val < 64 from i.isLt)]) _ l

/-- A column of the plain lanes, and of the rotated ones. -/
theorem Q_lo (a : Fin 8192) (h : Fin 4) (d : Fin 192) (hd : d.val < 128) {j : Fin 1024} (hj : j.val = h.val * 256 + d.val) : A.Q a j = A.qh a h d := by
  unfold Q q
  rw [dif_pos (show j.val % 256 < 128 by omega)]
  exact congrArg₂ (A.qh a) (Fin.ext (show j.val / 256 = h.val by omega)) (Fin.ext (show j.val % 256 = d.val by omega))

theorem Q_hi (a : Fin 8192) (h : Fin 4) (l : Fin 128) {j : Fin 1024} (hj : j.val = h.val * 256 + 128 + l.val) :
    A.Q a j = A.rot (fun i => A.qh a h ⟨128 + i.val, by omega⟩) (pos a) l := by
  unfold Q q
  rw [dif_neg (show ¬j.val % 256 < 128 by omega)]
  have e : (⟨j.val / 256, by omega⟩ : Fin 4) = h := Fin.ext (show j.val / 256 = h.val by omega)
  rw [e]
  exact congrArg (A.rot (fun i => A.qh a h ⟨128 + i.val, by omega⟩) (pos a)) (Fin.ext (show j.val % 256 - 128 = l.val by omega))

theorem K_lo (a : Fin 8192) (h : Fin 4) (d : Fin 128) {j : Fin 1024} (hj : j.val = h.val * 256 + d.val) : A.K a j = A.vh a h ⟨d.val, by omega⟩ := by
  unfold K k
  rw [dif_pos (show j.val % 256 < 128 by omega)]
  exact congrArg₂ (A.vh a) (Fin.ext (show j.val / 256 = h.val by omega)) (Fin.ext (show j.val % 256 = d.val by omega))

theorem K_hi (a : Fin 8192) (h : Fin 4) (l : Fin 128) {j : Fin 1024} (hj : j.val = h.val * 256 + 128 + l.val) : A.K a j = A.rot (A.kr a) (pos a) l := by
  unfold K k
  rw [dif_neg (show ¬j.val % 256 < 128 by omega)]
  exact congrArg (A.rot (A.kr a) (pos a)) (Fin.ext (show j.val % 256 - 128 = l.val by omega))

end Args
end Cert.Prep
end
end
-- ==== Proof.Prep.Ker.lean ====
/- The body's stored blocks. -/
module

public import proofs.«01_k».proof.Proof.Gen.KernelPrepIdeal.Skeleton
public import proofs.«01_k».proof.Proof.Prep.Real

@[expose] public section

set_option maxRecDepth 16384

noncomputable section

namespace Cert.Prep.Ker

open Cert.KernelPrepIdeal Cert.KernelPrepIdeal.Gen
open Cert.Ffn (eps c_eps)
open Idealize.ShloMosaic Idealize.ShloMosaic.TcCoe

theorem c_384 : Ideal.ofBits .f32 0x43C00000#32 = ((384 : ℝ) : EReal) := by
  simp [Ideal.ofBits, Ideal.ieee, -EReal.coe_mul]; norm_num
theorem c_256 : Ideal.ofBits .f32 0x43800000#32 = ((256 : ℝ) : EReal) := by
  simp [Ideal.ofBits, Ideal.ieee, -EReal.coe_mul]; norm_num

/-- The choice of the rotation by 32 lanes or back. -/
theorem sel (F : Fin 128 → EReal) (l : Fin 128) :
    Scalar.select (IntOp.cmpi CmpIPredicate.slt (BitVec.ofNat 32 l.val) 32#32) (F ⟨(l.val + 128 - 96) % 128, Nat.mod_lt _ (by norm_num)⟩) (F ⟨(l.val + 128 - 32) % 128, Nat.mod_lt _ (by norm_num)⟩) = F (sw l) := by
  have e : IntOp.cmpi CmpIPredicate.slt (BitVec.ofNat 32 l.val) 32#32 = if l.val < 32 then 1#1 else 0#1 :=
    (by decide +kernel : ∀ l : Fin 128, IntOp.cmpi CmpIPredicate.slt (BitVec.ofNat 32 l.val) 32#32 = if l.val < 32 then 1#1 else 0#1) l
  rw [e]
  unfold sw
  by_cases h : l.val < 32
  · rw [if_pos h, if_pos h]
    exact congrArg F (Fin.ext (show (l.val + 128 - 96) % 128 = (l.val + 32) % 128 by omega))
  · rw [if_neg h, if_neg h]
    exact congrArg F (Fin.ext (show (l.val + 128 - 32) % 128 = (l.val + 96) % 128 by omega))

variable {A : Prep.Args} {ρ : Fin 1024 → Fin 8192}

theorem p6 {v4 : FVec Ideal S1024x384 .f32} (h4 : ∀ (r : Fin 1024) (k : Fin 384), v4 (ix2 r k) = A.cq (ρ r) k) {v5 : FVec Ideal S1x384 .f32} (h5 : ∀ (z : Fin 1) (k : Fin 384), v5 (ix2 z k) = A.gq k)
    (r : Fin 1024) (k : Fin 384) : k0_pay6 (F := Ideal) v4 v5 (ix2 r k) = A.qn (ρ r) k := by
  pointwise [k0_pay6, h4, h5]
  simp only [c_eps, c_384, zero_add]
  rfl

theorem p7 {v20 : FVec Ideal S1024x256 .f32} (h4 : ∀ (r : Fin 1024) (k : Fin 256), v20 (ix2 r k) = A.ckv (ρ r) k) {v21 : FVec Ideal S1x256 .f32} (h5 : ∀ (z : Fin 1) (k : Fin 256), v21 (ix2 z k) = A.gv k)
    (r : Fin 1024) (k : Fin 256) : k0_pay7 (F := Ideal) v20 v21 (ix2 r k) = A.vn (ρ r) k := by
  pointwise [k0_pay7, h4, h5]
  simp only [c_eps, c_256, zero_add]
  rfl

theorem p8 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l)
    {v38 : FVec Ideal S1024x128 .f32} (h38 : ∀ (r : Fin 1024) (l : Fin 128), v38 (ix2 r l) = A.KR (ρ r) l) (r : Fin 1024) (l : Fin 128) :
    k0_pay8 (F := Ideal) v1 v3 v38 (ix2 r l) = A.rot (A.kr (ρ r)) (pos (ρ r)) l := by
  pointwise [k0_pay8, h1, h3, h38]
  exact (congrArg (fun z : EReal => A.KR (ρ r) l * A.cx (pos (ρ r)) l + z * A.sx (pos (ρ r)) l) (sel (A.KR (ρ r)) l)).trans (A.k_rope (ρ r) l rfl)

theorem p4 (v : FVec Ideal S1024x128 .f32) (r : Fin 1024) (l : Fin 128) : k0_pay4 (F := Ideal) v (ix2 r l) = v (ix2 r l) := by
  pointwise [k0_pay4]

theorem p5 (v : FVec Ideal S1024x128 .f32) (r : Fin 1024) (l : Fin 128) : k0_pay5 (F := Ideal) v (ix2 r l) = v (ix2 r l) := by
  pointwise [k0_pay5]

theorem p9 {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + i.val) (r : Fin 1024) (l : Fin 128) : k0_pay9 (F := Ideal) v19 w (ix2 r l) = A.qh (ρ r) h ⟨l.val, by omega⟩ := by
  pointwise [k0_pay9, hn, hw]
  try simp only [zero_add]
  exact A.q_dot (ρ r) h ⟨l.val, by omega⟩ (hc l)

theorem p13 {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + i.val) (r : Fin 1024) (l : Fin 128) : k0_pay13 (F := Ideal) v19 w (ix2 r l) = A.qh (ρ r) h ⟨l.val, by omega⟩ := by
  pointwise [k0_pay13, hn, hw]
  try simp only [zero_add]
  exact A.q_dot (ρ r) h ⟨l.val, by omega⟩ (hc l)

theorem p16 {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + i.val) (r : Fin 1024) (l : Fin 128) : k0_pay16 (F := Ideal) v19 w (ix2 r l) = A.qh (ρ r) h ⟨l.val, by omega⟩ := by
  pointwise [k0_pay16, hn, hw]
  try simp only [zero_add]
  exact A.q_dot (ρ r) h ⟨l.val, by omega⟩ (hc l)

theorem p19 {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + i.val) (r : Fin 1024) (l : Fin 128) : k0_pay19 (F := Ideal) v19 w (ix2 r l) = A.qh (ρ r) h ⟨l.val, by omega⟩ := by
  pointwise [k0_pay19, hn, hw]
  try simp only [zero_add]
  exact A.q_dot (ρ r) h ⟨l.val, by omega⟩ (hc l)

theorem p10 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l)
    {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + 128 + i.val) (r : Fin 1024) (l : Fin 128) : k0_pay10 (F := Ideal) v1 v3 v19 w (ix2 r l) = A.rot (fun i => A.qh (ρ r) h ⟨128 + i.val, by omega⟩) (pos (ρ r)) l := by
  pointwise [k0_pay10, hn, hw, h1, h3]
  try simp only [zero_add]
  exact (congrArg (fun z : EReal => (∑ k, A.qn (ρ r) k * A.WQ (c l) k) * A.cx (pos (ρ r)) l + z * A.sx (pos (ρ r)) l) (sel (fun l => ∑ k, A.qn (ρ r) k * A.WQ (c l) k) l)).trans
    (A.q_rope (ρ r) h l hc rfl)

theorem p14 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l)
    {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + 128 + i.val) (r : Fin 1024) (l : Fin 128) : k0_pay14 (F := Ideal) v1 v3 v19 w (ix2 r l) = A.rot (fun i => A.qh (ρ r) h ⟨128 + i.val, by omega⟩) (pos (ρ r)) l := by
  pointwise [k0_pay14, hn, hw, h1, h3]
  try simp only [zero_add]
  exact (congrArg (fun z : EReal => (∑ k, A.qn (ρ r) k * A.WQ (c l) k) * A.cx (pos (ρ r)) l + z * A.sx (pos (ρ r)) l) (sel (fun l => ∑ k, A.qn (ρ r) k * A.WQ (c l) k) l)).trans
    (A.q_rope (ρ r) h l hc rfl)

theorem p17 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l)
    {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + 128 + i.val) (r : Fin 1024) (l : Fin 128) : k0_pay17 (F := Ideal) v1 v3 v19 w (ix2 r l) = A.rot (fun i => A.qh (ρ r) h ⟨128 + i.val, by omega⟩) (pos (ρ r)) l := by
  pointwise [k0_pay17, hn, hw, h1, h3]
  try simp only [zero_add]
  exact (congrArg (fun z : EReal => (∑ k, A.qn (ρ r) k * A.WQ (c l) k) * A.cx (pos (ρ r)) l + z * A.sx (pos (ρ r)) l) (sel (fun l => ∑ k, A.qn (ρ r) k * A.WQ (c l) k) l)).trans
    (A.q_rope (ρ r) h l hc rfl)

theorem p1 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l)
    {v19 : FVec Ideal S1024x384 .bf16} (hn : ∀ (r : Fin 1024) (k : Fin 384), v19 (ix2 r k) = A.qn (ρ r) k) {w : FVec Ideal S128x384 .bf16} {c : Fin 128 → Fin 1024} (hw : ∀ (i : Fin 128) (k : Fin 384), w (ix2 i k) = A.WQ (c i) k)
    {h : Fin 4} (hc : ∀ i, (c i).val = h.val * 256 + 128 + i.val) (r : Fin 1024) (l : Fin 128) : k0_pay1 (F := Ideal) v1 v3 v19 w (ix2 r l) = A.rot (fun i => A.qh (ρ r) h ⟨128 + i.val, by omega⟩) (pos (ρ r)) l := by
  pointwise [k0_pay1, hn, hw, h1, h3]
  try simp only [zero_add]
  exact (congrArg (fun z : EReal => (∑ k, A.qn (ρ r) k * A.WQ (c l) k) * A.cx (pos (ρ r)) l + z * A.sx (pos (ρ r)) l) (sel (fun l => ∑ k, A.qn (ρ r) k * A.WQ (c l) k) l)).trans
    (A.q_rope (ρ r) h l hc rfl)

theorem p11 {v35 : FVec Ideal S1024x256 .bf16} (hn : ∀ (r : Fin 1024) (k : Fin 256), v35 (ix2 r k) = A.vn (ρ r) k) {w : FVec Ideal S256x128 .bf16} {c : Fin 128 → Fin 1024} (hw : ∀ (k : Fin 256) (i : Fin 128), w (ix2 k i) = A.WV k (c i))
    {h : Fin 4} (hc : ∀ i, (c i).val = h.val * 128 + i.val) (r : Fin 1024) (l : Fin 128) : k0_pay11 (F := Ideal) v35 w (ix2 r l) = A.vh (ρ r) h ⟨l.val, by omega⟩ := by
  pointwise [k0_pay11, hn, hw]
  try simp only [zero_add]
  exact A.k_dot (ρ r) h l (hc l)

theorem p15 {v35 : FVec Ideal S1024x256 .bf16} (hn : ∀ (r : Fin 1024) (k : Fin 256), v35 (ix2 r k) = A.vn (ρ r) k) {w : FVec Ideal S256x128 .bf16} {c : Fin 128 → Fin 1024} (hw : ∀ (k : Fin 256) (i : Fin 128), w (ix2 k i) = A.WV k (c i))
    {h : Fin 4} (hc : ∀ i, (c i).val = h.val * 128 + i.val) (r : Fin 1024) (l : Fin 128) : k0_pay15 (F := Ideal) v35 w (ix2 r l) = A.vh (ρ r) h ⟨l.val, by omega⟩ := by
  pointwise [k0_pay15, hn, hw]
  try simp only [zero_add]
  exact A.k_dot (ρ r) h l (hc l)

theorem p18 {v35 : FVec Ideal S1024x256 .bf16} (hn : ∀ (r : Fin 1024) (k : Fin 256), v35 (ix2 r k) = A.vn (ρ r) k) {w : FVec Ideal S256x128 .bf16} {c : Fin 128 → Fin 1024} (hw : ∀ (k : Fin 256) (i : Fin 128), w (ix2 k i) = A.WV k (c i))
    {h : Fin 4} (hc : ∀ i, (c i).val = h.val * 128 + i.val) (r : Fin 1024) (l : Fin 128) : k0_pay18 (F := Ideal) v35 w (ix2 r l) = A.vh (ρ r) h ⟨l.val, by omega⟩ := by
  pointwise [k0_pay18, hn, hw]
  try simp only [zero_add]
  exact A.k_dot (ρ r) h l (hc l)

theorem p2 {v35 : FVec Ideal S1024x256 .bf16} (hn : ∀ (r : Fin 1024) (k : Fin 256), v35 (ix2 r k) = A.vn (ρ r) k) {w : FVec Ideal S256x128 .bf16} {c : Fin 128 → Fin 1024} (hw : ∀ (k : Fin 256) (i : Fin 128), w (ix2 k i) = A.WV k (c i))
    {h : Fin 4} (hc : ∀ i, (c i).val = h.val * 128 + i.val) (r : Fin 1024) (l : Fin 128) : k0_pay2 (F := Ideal) v35 w (ix2 r l) = A.vh (ρ r) h ⟨l.val, by omega⟩ := by
  pointwise [k0_pay2, hn, hw]
  try simp only [zero_add]
  exact A.k_dot (ρ r) h l (hc l)

theorem p12 (v : FVec Ideal S1024x128 .f32) (r : Fin 1024) (l : Fin 128) : k0_pay12 (F := Ideal) v (ix2 r l) = v (ix2 r l) := by
  pointwise [k0_pay12]

theorem p3 {v35 : FVec Ideal S1024x256 .bf16} (hn : ∀ (r : Fin 1024) (k : Fin 256), v35 (ix2 r k) = A.vn (ρ r) k) {w : FVec Ideal S256x512 .bf16} {c : Fin 512 → Fin 1024} (hw : ∀ (k : Fin 256) (i : Fin 512), w (ix2 k i) = A.WV k (c i))
    (hc : ∀ i, (c i).val = 512 + i.val) (r : Fin 1024) (l : Fin 512) : k0_pay3 (F := Ideal) v35 w (ix2 r l) = A.V (ρ r) l := by
  pointwise [k0_pay3, hn, hw]
  try simp only [zero_add]
  exact A.v_dot (ρ r) l (hc l)

end Cert.Prep.Ker
end
end
-- ==== Proof.Prep.Blocks.lean ====
/- What the host prepares and what a grid point's input blocks hold. -/
module

public import proofs.«01_k».proof.Proof.Gen.KernelPrepIdeal.Value
public import proofs.«01_k».proof.Proof.Prep.Ker
public import Idealize.ShloMosaic.Lib.Pipeline.ValueKit
public import Idealize.ShloMosaic.Lib.Claim

@[expose] public section

set_option maxRecDepth 16384

noncomputable section

namespace Cert.Prep.Ker

open Cert.KernelPrepIdeal Cert.KernelPrepIdeal.Gen
open Idealize.ShloMosaic Idealize.ShloMosaic.TcCoe Idealize.SL.Sem

theorem idx : ∀ t : Fin cfg0.N, (win0_0.index t = ![t.val, 0] ∧ win0_1.index t = ![t.val, 0] ∧ win0_2.index t = ![t.val, 0] ∧ win0_9.index t = ![t.val, 0] ∧ win0_10.index t = ![t.val, 0] ∧ win0_11.index t = ![t.val, 0] ∧ win0_12.index t = ![t.val, 0] ∧ win0_13.index t = ![t.val, 0])
    ∧ (win0_3.index t = ![0, 0] ∧ win0_4.index t = ![0, 0] ∧ win0_5.index t = ![0, 0] ∧ win0_6.index t = ![0, 0]) ∧ (win0_7.index t = ![t.val % 4, 0] ∧ win0_8.index t = ![t.val % 4, 0]) :=
  (by decide +kernel : ∀ t : Fin grid0.N, _)

/-- The token of row `r` of grid point `t`'s block. -/
def tok (t : Fin cfg0.N) (r : Fin 1024) : Fin 8192 :=
  ⟨t.val * 1024 + r.val, by have h : t.val < 8 := lt_of_lt_of_eq t.isLt N_0; omega⟩

theorem pos_tok (t : Fin cfg0.N) (r : Fin 1024) : (pos (tok t r)).val = t.val % 4 * 1024 + r.val := by
  show (t.val * 1024 + r.val) % 4096 = _
  omega

/-- The launch memory's arguments on device `c` are `A`. -/
structure Agree (m : (ℓ : Loc nD τ sig) → Buf (Elt Ideal) ℓ) (c : Dev nD) (A : Prep.Args) : Prop where
  a0 : ∀ a k, (m ((c : Thread nD τ).loc main_arg0) : FVec Ideal S8192x384 .f32) (ix2 a k) = A.cq a k
  a1 : ∀ a k, (m ((c : Thread nD τ).loc main_arg1) : FVec Ideal S8192x256 .f32) (ix2 a k) = A.ckv a k
  a2 : ∀ a k, (m ((c : Thread nD τ).loc main_arg2) : FVec Ideal S8192x64 .f32) (ix2 a k) = A.kr a k
  a3 : ∀ k, (m ((c : Thread nD τ).loc main_arg3) : FVec Ideal S384 .f32) (ix1 k) = A.gq k
  a4 : ∀ k, (m ((c : Thread nD τ).loc main_arg4) : FVec Ideal S256 .f32) (ix1 k) = A.gv k
  a5 : ∀ a k, (m ((c : Thread nD τ).loc main_arg5) : FVec Ideal S384x768 .f32) (ix2 a k) = A.wq a k
  a6 : ∀ a k, (m ((c : Thread nD τ).loc main_arg6) : FVec Ideal S256x1024 .f32) (ix2 a k) = A.wv a k
  a7 : ∀ a k, (m ((c : Thread nD τ).loc main_arg7) : FVec Ideal S4096x32 .f32) (ix2 a k) = A.cs a k
  a8 : ∀ a k, (m ((c : Thread nD τ).loc main_arg8) : FVec Ideal S4096x32 .f32) (ix2 a k) = A.sn a k

variable {m : (ℓ : Loc nD τ sig) → Buf (Elt Ideal) ℓ} {c : Dev nD} {A : Prep.Args} (H : Agree m c A)

include H

theorem kr_host (a : Fin 8192) (l : Fin 128) : (V m c main_v0 : FVec Ideal S8192x128 .f32) (ix2 a l) = A.KR a l := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a2]
  unfold Args.KR
  split_ifs with h
  · rfl
  · simp [FloatOps.sitofp]

theorem gq_host (z : Fin 1) (k : Fin 384) : (V m c main_v1 : FVec Ideal S1x384 .f32) (ix2 z k) = A.gq k := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a3]

theorem gv_host (z : Fin 1) (k : Fin 256) : (V m c main_v2 : FVec Ideal S1x256 .f32) (ix2 z k) = A.gv k := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a4]

theorem wq_host (i : Fin 1024) (k : Fin 384) : (V m c main_v7 : FVec Ideal S1024x384 .bf16) (ix2 i k) = A.WQ i k := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a5]
  unfold Args.WQ
  split_ifs with h h' h'
  · rfl
  · exact absurd h.2 h'
  · exact absurd ⟨by omega, h'⟩ h
  · simp [FloatOps.sitofp]

theorem wv_host (k : Fin 256) (j : Fin 1024) : (V m c main_v14 : FVec Ideal S256x1024 .bf16) (ix2 k j) = A.WV k j := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a6]
  rfl

theorem cs_host (p : Fin 4096) (l : Fin 128) : (V m c main_v16 : FVec Ideal S4096x128 .f32) (ix2 p l) = A.cx p l := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a7]
  unfold Args.cx
  by_cases h : l.val < 32
  · simp only [h, dif_pos]
  · by_cases h' : l.val < 64
    · have e : l.val - 32 < 32 := by omega
      simp only [h, h', e, dif_pos, dif_neg, not_false_eq_true]
    · have e : ¬l.val - 32 < 32 := by omega
      simp only [h, h', e, dif_neg, not_false_eq_true]
      after_results_simp
      pointwise []

theorem sn_host (p : Fin 4096) (l : Fin 128) : (V m c main_v18 : FVec Ideal S4096x128 .f32) (ix2 p l) = A.sx p l := by
  simp only [V, hostOps0, hostOps0_1, hostOps0_2, hostOps0_3, hostOps0_4, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a8]
  unfold Args.sx
  by_cases h : l.val < 32
  · simp only [h, dif_pos]
    after_results_simp
    pointwise [H.a8]
  · by_cases h' : l.val < 64
    · have e : l.val - 32 < 32 := by omega
      simp only [h, h', e, dif_pos, dif_neg, not_false_eq_true]
    · have e : ¬l.val - 32 < 32 := by omega
      simp only [h, h', e, dif_neg, not_false_eq_true]
      after_results_simp
      pointwise []

theorem b2 (t : Fin cfg0.N) (r : Fin 1024) (l : Fin 128) : (iblk m c 2 t : FVec Ideal S1024x128 .f32) (ix2 r l) = A.KR (tok t r) l := by
  refine Eq.trans (b := (V m c main_v0 : FVec Ideal S8192x128 .f32) (ix2 (tok t r) l)) ?_ (kr_host H _ _)
  blk_ext [iblk, idx t, tok]

theorem b3 (t : Fin cfg0.N) (z : Fin 1) (k : Fin 384) : (iblk m c 3 t : FVec Ideal S1x384 .f32) (ix2 z k) = A.gq k := by
  refine Eq.trans (b := (V m c main_v1 : FVec Ideal S1x384 .f32) (ix2 z k)) ?_ (gq_host H _ _)
  blk_ext [iblk, idx t, tok]

theorem b4 (t : Fin cfg0.N) (z : Fin 1) (k : Fin 256) : (iblk m c 4 t : FVec Ideal S1x256 .f32) (ix2 z k) = A.gv k := by
  refine Eq.trans (b := (V m c main_v2 : FVec Ideal S1x256 .f32) (ix2 z k)) ?_ (gv_host H _ _)
  blk_ext [iblk, idx t, tok]

theorem b5 (t : Fin cfg0.N) (i : Fin 1024) (k : Fin 384) : (iblk m c 5 t : FVec Ideal S1024x384 .bf16) (ix2 i k) = A.WQ i k := by
  refine Eq.trans (b := (V m c main_v7 : FVec Ideal S1024x384 .bf16) (ix2 i k)) ?_ (wq_host H _ _)
  blk_ext [iblk, idx t, tok]

theorem b6 (t : Fin cfg0.N) (k : Fin 256) (j : Fin 1024) : (iblk m c 6 t : FVec Ideal S256x1024 .bf16) (ix2 k j) = A.WV k j := by
  refine Eq.trans (b := (V m c main_v14 : FVec Ideal S256x1024 .bf16) (ix2 k j)) ?_ (wv_host H _ _)
  blk_ext [iblk, idx t, tok]

theorem b7 (t : Fin cfg0.N) (r : Fin 1024) (l : Fin 128) : (iblk m c 7 t : FVec Ideal S1024x128 .f32) (ix2 r l) = A.cx (pos (tok t r)) l := by
  refine Eq.trans (b := (V m c main_v16 : FVec Ideal S4096x128 .f32) (ix2 (pos (tok t r)) l)) ?_ (cs_host H _ _)
  blk_ext [iblk, idx t, pos_tok t r]

theorem b8 (t : Fin cfg0.N) (r : Fin 1024) (l : Fin 128) : (iblk m c 8 t : FVec Ideal S1024x128 .f32) (ix2 r l) = A.sx (pos (tok t r)) l := by
  refine Eq.trans (b := (V m c main_v18 : FVec Ideal S4096x128 .f32) (ix2 (pos (tok t r)) l)) ?_ (sn_host H _ _)
  blk_ext [iblk, idx t, pos_tok t r]

theorem b0 (t : Fin cfg0.N) (r : Fin 1024) (k : Fin 384) : (iblk m c 0 t : FVec Ideal S1024x384 .f32) (ix2 r k) = A.cq (tok t r) k := by
  refine Eq.trans (b := ((m ((c : Thread nD τ).loc main_arg0) : FVec Ideal S8192x384 .f32)) (ix2 (tok t r) k)) ?_ (H.a0 _ _)
  blk_ext [iblk, V, idx t, tok]

theorem b1 (t : Fin cfg0.N) (r : Fin 1024) (k : Fin 256) : (iblk m c 1 t : FVec Ideal S1024x256 .f32) (ix2 r k) = A.ckv (tok t r) k := by
  refine Eq.trans (b := ((m ((c : Thread nD τ).loc main_arg1) : FVec Ideal S8192x256 .f32)) (ix2 (tok t r) k)) ?_ (H.a1 _ _)
  blk_ext [iblk, V, idx t, tok]

end Cert.Prep.Ker
end
end
-- ==== Proof.Prep.Final.lean ====
/- The output arrays after the run. -/
module

public import proofs.«01_k».proof.Proof.Prep.Blocks

@[expose] public section

set_option maxRecDepth 16384

noncomputable section

namespace Cert.Prep.Ker

open Cert.KernelPrepIdeal Cert.KernelPrepIdeal.Gen
open Cert.OutFwd (mat mat_ext)
open Idealize.ShloMosaic Idealize.ShloMosaic.TcCoe Idealize.SL.Sem

variable {m : (ℓ : Loc nD τ sig) → Buf (Elt Ideal) ℓ} {c : Dev nD} {A : Prep.Args} (H : Agree m c A)

/-- Place `i` after `o`, and a head. -/
def at1 (o : ℕ) (ho : o ≤ 896) (i : Fin 128) : Fin 1024 := ⟨o + i.val, by omega⟩
def at5 (i : Fin 512) : Fin 1024 := ⟨512 + i.val, by omega⟩
def hd0 : Fin 4 := ⟨0, by decide⟩
def hd1 : Fin 4 := ⟨1, by decide⟩
def hd2 : Fin 4 := ⟨2, by decide⟩
def hd3 : Fin 4 := ⟨3, by decide⟩
def dq (x : Fin 128) : Fin 192 := ⟨x.val, by omega⟩

theorem tok_eq {t : Fin cfg0.N} {a r : Fin 1024} (h : a.val = r.val) : tok t r = tok t a := congrArg (tok t) (Fin.ext h.symm)

include H

theorem l0 (t : Fin cfg0.N) (r : Fin 1024) (k : Fin 384) :
    (View.ld (iblk m c 0 t) (Rect.unit ![0, 0] ![1024, 384] inb_S1024x384_S1024x384_0_0) : FVec Ideal S1024x384 .f32) (ix2 r k) = A.cq (tok t r) k := by
  pointwise [b0 H t]

theorem l1 (t : Fin cfg0.N) (r : Fin 1024) (k : Fin 256) :
    (View.ld (iblk m c 1 t) (Rect.unit ![0, 0] ![1024, 256] inb_S1024x256_S1024x256_0_0) : FVec Ideal S1024x256 .f32) (ix2 r k) = A.ckv (tok t r) k := by
  pointwise [b1 H t]

theorem l2 (t : Fin cfg0.N) (r : Fin 1024) (k : Fin 128) :
    (View.ld (iblk m c 2 t) (Rect.unit ![0, 0] ![1024, 128] inb_S1024x128_S1024x128_0_0) : FVec Ideal S1024x128 .f32) (ix2 r k) = A.KR (tok t r) k := by
  pointwise [b2 H t]

theorem l3 (t : Fin cfg0.N) (r : Fin 1) (k : Fin 384) :
    (View.ld (iblk m c 3 t) (Rect.unit ![0, 0] ![1, 384] inb_S1x384_S1x384_0_0) : FVec Ideal S1x384 .f32) (ix2 r k) = A.gq k := by
  pointwise [b3 H t]

theorem l4 (t : Fin cfg0.N) (r : Fin 1) (k : Fin 256) :
    (View.ld (iblk m c 4 t) (Rect.unit ![0, 0] ![1, 256] inb_S1x256_S1x256_0_0) : FVec Ideal S1x256 .f32) (ix2 r k) = A.gv k := by
  pointwise [b4 H t]

theorem l7 (t : Fin cfg0.N) (r : Fin 1024) (k : Fin 128) :
    (View.ld (iblk m c 7 t) (Rect.unit ![0, 0] ![1024, 128] inb_S1024x128_S1024x128_0_0) : FVec Ideal S1024x128 .f32) (ix2 r k) = A.cx (pos (tok t r)) k := by
  pointwise [b7 H t]

theorem l8 (t : Fin cfg0.N) (r : Fin 1024) (k : Fin 128) :
    (View.ld (iblk m c 8 t) (Rect.unit ![0, 0] ![1024, 128] inb_S1024x128_S1024x128_0_0) : FVec Ideal S1024x128 .f32) (ix2 r k) = A.sx (pos (tok t r)) k := by
  pointwise [b8 H t]

theorem l5_0 (t : Fin cfg0.N) (i : Fin 128) (k : Fin 384) :
    (View.ld (iblk m c 5 t) (Rect.unit ![0, 0] ![128, 384] inb_S1024x384_S128x384_0_0) : FVec Ideal S128x384 .bf16) (ix2 i k) = A.WQ (at1 0 (by decide) i) k := by
  pointwise [b5 H t]
  exact congrArg (fun i => A.WQ i k) (Fin.ext (Nat.zero_add _).symm)

theorem l5_128 (t : Fin cfg0.N) (i : Fin 128) (k : Fin 384) :
    (View.ld (iblk m c 5 t) (Rect.unit ![128, 0] ![128, 384] inb_S1024x384_S128x384_128_0) : FVec Ideal S128x384 .bf16) (ix2 i k) = A.WQ (at1 128 (by decide) i) k := by
  pointwise [b5 H t]
  rfl

theorem l5_256 (t : Fin cfg0.N) (i : Fin 128) (k : Fin 384) :
    (View.ld (iblk m c 5 t) (Rect.unit ![256, 0] ![128, 384] inb_S1024x384_S128x384_256_0) : FVec Ideal S128x384 .bf16) (ix2 i k) = A.WQ (at1 256 (by decide) i) k := by
  pointwise [b5 H t]
  rfl

theorem l5_384 (t : Fin cfg0.N) (i : Fin 128) (k : Fin 384) :
    (View.ld (iblk m c 5 t) (Rect.unit ![384, 0] ![128, 384] inb_S1024x384_S128x384_384_0) : FVec Ideal S128x384 .bf16) (ix2 i k) = A.WQ (at1 384 (by decide) i) k := by
  pointwise [b5 H t]
  rfl

theorem l5_512 (t : Fin cfg0.N) (i : Fin 128) (k : Fin 384) :
    (View.ld (iblk m c 5 t) (Rect.unit ![512, 0] ![128, 384] inb_S1024x384_S128x384_512_0) : FVec Ideal S128x384 .bf16) (ix2 i k) = A.WQ (at1 512 (by decide) i) k := by
  pointwise [b5 H t]
  rfl

theorem l5_640 (t : Fin cfg0.N) (i : Fin 128) (k : Fin 384) :
    (View.ld (iblk m c 5 t) (Rect.unit ![640, 0] ![128, 384] inb_S1024x384_S128x384_640_0) : FVec Ideal S128x384 .bf16) (ix2 i k) = A.WQ (at1 640 (by decide) i) k := by
  pointwise [b5 H t]
  rfl

theorem l5_768 (t : Fin cfg0.N) (i : Fin 128) (k : Fin 384) :
    (View.ld (iblk m c 5 t) (Rect.unit ![768, 0] ![128, 384] inb_S1024x384_S128x384_768_0) : FVec Ideal S128x384 .bf16) (ix2 i k) = A.WQ (at1 768 (by decide) i) k := by
  pointwise [b5 H t]
  rfl

theorem l5_896 (t : Fin cfg0.N) (i : Fin 128) (k : Fin 384) :
    (View.ld (iblk m c 5 t) (Rect.unit ![896, 0] ![128, 384] inb_S1024x384_S128x384_896_0) : FVec Ideal S128x384 .bf16) (ix2 i k) = A.WQ (at1 896 (by decide) i) k := by
  pointwise [b5 H t]
  rfl

theorem l6_0 (t : Fin cfg0.N) (k : Fin 256) (i : Fin 128) :
    (View.ld (iblk m c 6 t) (Rect.unit ![0, 0] ![256, 128] inb_S256x1024_S256x128_0_0) : FVec Ideal S256x128 .bf16) (ix2 k i) = A.WV k (at1 0 (by decide) i) := by
  pointwise [b6 H t]
  exact congrArg (fun i => A.WV k i) (Fin.ext (Nat.zero_add _).symm)

theorem l6_128 (t : Fin cfg0.N) (k : Fin 256) (i : Fin 128) :
    (View.ld (iblk m c 6 t) (Rect.unit ![0, 128] ![256, 128] inb_S256x1024_S256x128_0_128) : FVec Ideal S256x128 .bf16) (ix2 k i) = A.WV k (at1 128 (by decide) i) := by
  pointwise [b6 H t]
  rfl

theorem l6_256 (t : Fin cfg0.N) (k : Fin 256) (i : Fin 128) :
    (View.ld (iblk m c 6 t) (Rect.unit ![0, 256] ![256, 128] inb_S256x1024_S256x128_0_256) : FVec Ideal S256x128 .bf16) (ix2 k i) = A.WV k (at1 256 (by decide) i) := by
  pointwise [b6 H t]
  rfl

theorem l6_384 (t : Fin cfg0.N) (k : Fin 256) (i : Fin 128) :
    (View.ld (iblk m c 6 t) (Rect.unit ![0, 384] ![256, 128] inb_S256x1024_S256x128_0_384) : FVec Ideal S256x128 .bf16) (ix2 k i) = A.WV k (at1 384 (by decide) i) := by
  pointwise [b6 H t]
  rfl

theorem l6_512 (t : Fin cfg0.N) (k : Fin 256) (i : Fin 512) :
    (View.ld (iblk m c 6 t) (Rect.unit ![0, 512] ![256, 512] inb_S256x1024_S256x512_0_512) : FVec Ideal S256x512 .bf16) (ix2 k i) = A.WV k (at5 i) := by
  pointwise [b6 H t]
  rfl

theorem out9 (t : Fin cfg0.N) (y : S1024x1024.Idx) :
    (out0_9 (iblk m c 0 t) (iblk m c 1 t) (iblk m c 2 t) (iblk m c 3 t) (iblk m c 4 t) (iblk m c 5 t) (iblk m c 6 t) (iblk m c 7 t) (iblk m c 8 t) : FVec Ideal S1024x1024 .bf16) y = A.Q (tok t (y 0)) (y 1) := by
  frame_out
  canon_tiles x h
  · idx_vars x
    refine (p1 (A := A) (ρ := tok t) (fun r l => (p4 _ r l).trans (l7 H t r l)) (fun r l => (p5 _ r l).trans (l8 H t r l)) (p6 (A := A) (ρ := tok t) (l0 H t) (l3 H t)) (l5_896 H t) (h := hd3) (fun _ => rfl) x0 x1).trans ?_
    exact (congrArg (fun a => A.rot (fun i => A.qh a hd3 ⟨128 + i.val, by omega⟩) (pos a) x1) (tok_eq h0)).trans (A.Q_hi _ hd3 x1 h1).symm
  · idx_vars x
    refine (p19 (A := A) (ρ := tok t) (p6 (A := A) (ρ := tok t) (l0 H t) (l3 H t)) (l5_768 H t) (h := hd3) (fun _ => rfl) x0 x1).trans ?_
    exact (congrArg (fun a => A.qh a hd3 (dq x1)) (tok_eq h0)).trans (A.Q_lo _ hd3 (dq x1) x1.isLt h1).symm
  · idx_vars x
    refine (p17 (A := A) (ρ := tok t) (fun r l => (p4 _ r l).trans (l7 H t r l)) (fun r l => (p5 _ r l).trans (l8 H t r l)) (p6 (A := A) (ρ := tok t) (l0 H t) (l3 H t)) (l5_640 H t) (h := hd2) (fun _ => rfl) x0 x1).trans ?_
    exact (congrArg (fun a => A.rot (fun i => A.qh a hd2 ⟨128 + i.val, by omega⟩) (pos a) x1) (tok_eq h0)).trans (A.Q_hi _ hd2 x1 h1).symm
  · idx_vars x
    refine (p16 (A := A) (ρ := tok t) (p6 (A := A) (ρ := tok t) (l0 H t) (l3 H t)) (l5_512 H t) (h := hd2) (fun _ => rfl) x0 x1).trans ?_
    exact (congrArg (fun a => A.qh a hd2 (dq x1)) (tok_eq h0)).trans (A.Q_lo _ hd2 (dq x1) x1.isLt h1).symm
  · idx_vars x
    refine (p14 (A := A) (ρ := tok t) (fun r l => (p4 _ r l).trans (l7 H t r l)) (fun r l => (p5 _ r l).trans (l8 H t r l)) (p6 (A := A) (ρ := tok t) (l0 H t) (l3 H t)) (l5_384 H t) (h := hd1) (fun _ => rfl) x0 x1).trans ?_
    exact (congrArg (fun a => A.rot (fun i => A.qh a hd1 ⟨128 + i.val, by omega⟩) (pos a) x1) (tok_eq h0)).trans (A.Q_hi _ hd1 x1 h1).symm
  · idx_vars x
    refine (p13 (A := A) (ρ := tok t) (p6 (A := A) (ρ := tok t) (l0 H t) (l3 H t)) (l5_256 H t) (h := hd1) (fun _ => rfl) x0 x1).trans ?_
    exact (congrArg (fun a => A.qh a hd1 (dq x1)) (tok_eq h0)).trans (A.Q_lo _ hd1 (dq x1) x1.isLt h1).symm
  · idx_vars x
    refine (p10 (A := A) (ρ := tok t) (fun r l => (p4 _ r l).trans (l7 H t r l)) (fun r l => (p5 _ r l).trans (l8 H t r l)) (p6 (A := A) (ρ := tok t) (l0 H t) (l3 H t)) (l5_128 H t) (h := hd0) (fun _ => rfl) x0 x1).trans ?_
    exact (congrArg (fun a => A.rot (fun i => A.qh a hd0 ⟨128 + i.val, by omega⟩) (pos a) x1) (tok_eq h0)).trans (A.Q_hi _ hd0 x1 h1).symm
  · idx_vars x
    refine (p9 (A := A) (ρ := tok t) (p6 (A := A) (ρ := tok t) (l0 H t) (l3 H t)) (l5_0 H t) (h := hd0) (fun _ => rfl) x0 x1).trans ?_
    exact (congrArg (fun a => A.qh a hd0 (dq x1)) (tok_eq h0)).trans (A.Q_lo _ hd0 (dq x1) x1.isLt (h1.trans (Nat.zero_add _).symm)).symm

theorem final9 : ((dats m 0 c).arrAt 9 cfg0.N : FVec Ideal S8192x1024 .bf16) = mat A.Q := by
  refine (dats m 0 c).arrAt_eq_of_covers 9 _ (by decide +kernel) fun t hf y => ?_
  blk_simp
  rw [after0_9]
  idx_vars y
  refine (out9 H t _).trans ?_
  exact mat_ext A.Q (by blk_ext [idx t, tok])

theorem out10 (t : Fin cfg0.N) (y : S1024x1024.Idx) :
    (out0_10 (iblk m c 0 t) (iblk m c 1 t) (iblk m c 2 t) (iblk m c 3 t) (iblk m c 4 t) (iblk m c 5 t) (iblk m c 6 t) (iblk m c 7 t) (iblk m c 8 t) : FVec Ideal S1024x1024 .bf16) y = A.K (tok t (y 0)) (y 1) := by
  frame_out
  canon_tiles x h
  · idx_vars x
    refine (p8 (A := A) (ρ := tok t) (fun r l => (p4 _ r l).trans (l7 H t r l)) (fun r l => (p5 _ r l).trans (l8 H t r l)) (l2 H t) x0 x1).trans ?_
    exact (congrArg (fun a => A.rot (A.kr a) (pos a) x1) (tok_eq h0)).trans (A.K_hi _ hd3 x1 h1).symm
  · idx_vars x
    refine (p2 (A := A) (ρ := tok t) (p7 (A := A) (ρ := tok t) (l1 H t) (l4 H t)) (l6_384 H t) (h := hd3) (fun _ => rfl) x0 x1).trans ?_
    exact (congrArg (fun a => A.vh a hd3 ⟨x1.val, by omega⟩) (tok_eq h0)).trans (A.K_lo _ hd3 x1 h1).symm
  · idx_vars x
    refine (p8 (A := A) (ρ := tok t) (fun r l => (p4 _ r l).trans (l7 H t r l)) (fun r l => (p5 _ r l).trans (l8 H t r l)) (l2 H t) x0 x1).trans ?_
    exact (congrArg (fun a => A.rot (A.kr a) (pos a) x1) (tok_eq h0)).trans (A.K_hi _ hd2 x1 h1).symm
  · idx_vars x
    refine (p18 (A := A) (ρ := tok t) (p7 (A := A) (ρ := tok t) (l1 H t) (l4 H t)) (l6_256 H t) (h := hd2) (fun _ => rfl) x0 x1).trans ?_
    exact (congrArg (fun a => A.vh a hd2 ⟨x1.val, by omega⟩) (tok_eq h0)).trans (A.K_lo _ hd2 x1 h1).symm
  · idx_vars x
    refine (p8 (A := A) (ρ := tok t) (fun r l => (p4 _ r l).trans (l7 H t r l)) (fun r l => (p5 _ r l).trans (l8 H t r l)) (l2 H t) x0 x1).trans ?_
    exact (congrArg (fun a => A.rot (A.kr a) (pos a) x1) (tok_eq h0)).trans (A.K_hi _ hd1 x1 h1).symm
  · idx_vars x
    refine (p15 (A := A) (ρ := tok t) (p7 (A := A) (ρ := tok t) (l1 H t) (l4 H t)) (l6_128 H t) (h := hd1) (fun _ => rfl) x0 x1).trans ?_
    exact (congrArg (fun a => A.vh a hd1 ⟨x1.val, by omega⟩) (tok_eq h0)).trans (A.K_lo _ hd1 x1 h1).symm
  · idx_vars x
    refine (p8 (A := A) (ρ := tok t) (fun r l => (p4 _ r l).trans (l7 H t r l)) (fun r l => (p5 _ r l).trans (l8 H t r l)) (l2 H t) x0 x1).trans ?_
    exact (congrArg (fun a => A.rot (A.kr a) (pos a) x1) (tok_eq h0)).trans (A.K_hi _ hd0 x1 h1).symm
  · idx_vars x
    refine (((p12 _ x0 x1).trans (p11 (A := A) (ρ := tok t) (p7 (A := A) (ρ := tok t) (l1 H t) (l4 H t)) (l6_0 H t) (h := hd0) (fun _ => rfl) x0 x1))).trans ?_
    exact (congrArg (fun a => A.vh a hd0 ⟨x1.val, by omega⟩) (tok_eq h0)).trans (A.K_lo _ hd0 x1 (h1.trans (Nat.zero_add _).symm)).symm

theorem final10 : ((dats m 0 c).arrAt 10 cfg0.N : FVec Ideal S8192x1024 .bf16) = mat A.K := by
  refine (dats m 0 c).arrAt_eq_of_covers 10 _ (by decide +kernel) fun t hf y => ?_
  blk_simp
  rw [after0_10]
  idx_vars y
  refine (out10 H t _).trans ?_
  exact mat_ext A.K (by blk_ext [idx t, tok])

theorem out11 (t : Fin cfg0.N) (y : S1024x512.Idx) :
    (out0_11 (iblk m c 0 t) (iblk m c 1 t) (iblk m c 2 t) (iblk m c 3 t) (iblk m c 4 t) (iblk m c 5 t) (iblk m c 6 t) (iblk m c 7 t) (iblk m c 8 t) : FVec Ideal S1024x512 .bf16) y = A.V (tok t (y 0)) (y 1) := by
  frame_out
  idx_vars y
  exact p3 (A := A) (ρ := tok t) (p7 (A := A) (ρ := tok t) (l1 H t) (l4 H t)) (l6_512 H t) (fun _ => rfl) y0 y1

theorem final11 : ((dats m 0 c).arrAt 11 cfg0.N : FVec Ideal S8192x512 .bf16) = mat A.V := by
  refine (dats m 0 c).arrAt_eq_of_covers 11 _ (by decide +kernel) fun t hf y => ?_
  blk_simp
  rw [after0_11]
  idx_vars y
  refine (out11 H t _).trans ?_
  exact mat_ext A.V (by blk_ext [idx t, tok])

theorem out12 (t : Fin cfg0.N) (y : S1024x384.Idx) :
    (out0_12 (iblk m c 0 t) (iblk m c 1 t) (iblk m c 2 t) (iblk m c 3 t) (iblk m c 4 t) (iblk m c 5 t) (iblk m c 6 t) (iblk m c 7 t) (iblk m c 8 t) : FVec Ideal S1024x384 .bf16) y = A.qn (tok t (y 0)) (y 1) := by
  frame_out
  idx_vars y
  exact p6 (A := A) (ρ := tok t) (b0 H t) (b3 H t) y0 y1

theorem final12 : ((dats m 0 c).arrAt 12 cfg0.N : FVec Ideal S8192x384 .bf16) = mat A.qn := by
  refine (dats m 0 c).arrAt_eq_of_covers 12 _ (by decide +kernel) fun t hf y => ?_
  blk_simp
  rw [after0_12]
  idx_vars y
  refine (out12 H t _).trans ?_
  exact mat_ext A.qn (by blk_ext [idx t, tok])

theorem out13 (t : Fin cfg0.N) (y : S1024x256.Idx) :
    (out0_13 (iblk m c 0 t) (iblk m c 1 t) (iblk m c 2 t) (iblk m c 3 t) (iblk m c 4 t) (iblk m c 5 t) (iblk m c 6 t) (iblk m c 7 t) (iblk m c 8 t) : FVec Ideal S1024x256 .bf16) y = A.vn (tok t (y 0)) (y 1) := by
  frame_out
  idx_vars y
  exact (p7 (A := A) (ρ := tok t) (l1 H t) (l4 H t)) y0 y1

theorem final13 : ((dats m 0 c).arrAt 13 cfg0.N : FVec Ideal S8192x256 .bf16) = mat A.vn := by
  refine (dats m 0 c).arrAt_eq_of_covers 13 _ (by decide +kernel) fun t hf y => ?_
  blk_simp
  rw [after0_13]
  idx_vars y
  refine (out13 H t _).trans ?_
  exact mat_ext A.vn (by blk_ext [idx t, tok])

end Cert.Prep.Ker
end
end
-- ==== Proof.Prep.Ref.lean ====
/- The reference's results, from its arguments' elements. -/
module

public import proofs.«01_k».proof.Proof.Gen.ReferencePrepIdeal.Read
public import proofs.«01_k».proof.Proof.Prep.Real

@[expose] public section

set_option maxRecDepth 16384

noncomputable section

namespace Cert.Prep.Ref

open Cert.ReferencePrepIdeal Cert.ReferencePrepIdeal.Gen Cert.ReferencePrepIdeal.Read
open Cert.Ffn (eps c_eps)
open Idealize.ShloMosaic Idealize.ShloMosaic.TcCoe Idealize.SL.Sem Idealize.ShloMosaic.StableHlo

theorem c_384 : Ideal.ofBits .f32 0x43C00000#32 = ((384 : ℝ) : EReal) := by
  simp [Ideal.ofBits, Ideal.ieee]
  exact_mod_cast (by norm_num)

theorem c_256 : Ideal.ofBits .f32 0x43800000#32 = ((256 : ℝ) : EReal) := by
  simp [Ideal.ofBits, Ideal.ieee]
  exact_mod_cast (by norm_num)

variable {A : Prep.Args}
  {x0 : FVec Ideal S8192x384 .f32} (h0 : ∀ a k, x0 (ix2 a k) = A.cq a k)
  {x1 : FVec Ideal S8192x256 .f32} (h1 : ∀ a k, x1 (ix2 a k) = A.ckv a k)
  {x2 : FVec Ideal S8192x64 .f32} (h2 : ∀ a k, x2 (ix2 a k) = A.kr a k)
  {x3 : FVec Ideal S384 .f32} (h3 : ∀ k, x3 (ix1 k) = A.gq k)
  {x4 : FVec Ideal S256 .f32} (h4 : ∀ k, x4 (ix1 k) = A.gv k)
  {x5 : FVec Ideal S384x768 .f32} (h5 : ∀ a k, x5 (ix2 a k) = A.wq a k)
  {x6 : FVec Ideal S256x1024 .f32} (h6 : ∀ a k, x6 (ix2 a k) = A.wv a k)
  {x7 : FVec Ideal S4096x32 .f32} (h7 : ∀ a k, x7 (ix2 a k) = A.cs a k)
  {x8 : FVec Ideal S4096x32 .f32} (h8 : ∀ a k, x8 (ix2 a k) = A.sn a k)

include h0 h3 in
theorem qn_read (a : Fin 8192) (k : Fin 384) : val_main_v18 (F := Ideal) x0 x3 (ix2 a k) = A.qn a k := by
  pointwise [val_main_v18, val_main_v17, val_main_v16, val_main_v15, val_main_v14, val_main_v13, val_main_v12, val_main_v11, val_main_v10, val_main_v9, val_main_v8, val_main_v7, val_main_v6, val_main_cst, val_main_cst_0, val_main_cst_1, h0, h3]
  try simp only [zero_add, c_eps, c_384]
  rfl

include h1 h4 in
theorem vn_read (a : Fin 8192) (k : Fin 256) : val_main_v31 (F := Ideal) x1 x4 (ix2 a k) = A.vn a k := by
  pointwise [val_main_v31, val_main_v30, val_main_v29, val_main_v28, val_main_v27, val_main_v26, val_main_v25, val_main_v24, val_main_v23, val_main_v22, val_main_v21, val_main_v20, val_main_v19, val_main_cst_2, val_main_cst_3, val_main_cst_4, h1, h4]
  try simp only [zero_add, c_eps, c_256]
  rfl

include h0 h3 h5 in
theorem qh_read (a : Fin 8192) (h : Fin 4) (d : Fin 192) : val_main_v33 (F := Ideal) x0 x3 x5 (ix3 a h d) = A.qh a h d := by
  pointwise [val_main_v33, val_main_v32, qn_read h0 h3, h5]
  rfl

include h1 h4 h6 in
theorem vh_read (a : Fin 8192) (h : Fin 4) (d : Fin 256) : val_main_v35 (F := Ideal) x1 x4 x6 (ix3 a h d) = A.vh a h d := by
  pointwise [val_main_v35, val_main_v34, vn_read h1 h4, h6]
  rfl

include h7 in
theorem cs_read (a : Fin 8192) (i : Fin 32) : val_main_v2 (F := Ideal) x7 (ix2 a i) = A.cs (pos a) i := by
  pointwise [val_main_v2, val_main_v1, val_main_v0, h7]
  rfl

include h8 in
theorem sn_read (a : Fin 8192) (i : Fin 32) : val_main_v5 (F := Ideal) x8 (ix2 a i) = A.sn (pos a) i := by
  pointwise [val_main_v5, val_main_v4, val_main_v3, h8]
  rfl

include h0 h3 h5 h7 h8 in
theorem qr_read (a : Fin 8192) (h : Fin 4) (j : Fin 64) : val_main_v51 (F := Ideal) x0 x3 x5 x7 x8 (ix3 a h j) = A.rot (fun i => A.qh a h ⟨128 + i.val, by omega⟩) (pos a) ⟨j.val, by omega⟩ := by
  pointwise [val_main_v51, val_main_v50, val_main_v49, val_main_v48, val_main_v47, val_main_v46, val_main_v45, val_main_v44, val_main_v43, val_main_v42, val_main_v41, val_main_v40, val_main_v39, val_main_v38, val_main_v37, val_main_v36, qh_read h0 h3 h5, cs_read h7, sn_read h8]
  unfold Args.rot
  by_cases h' : j.val < 32
  · simp only [h', dif_pos]
  · simp only [h', dif_neg, not_false_eq_true, dif_pos (show j.val < 64 from j.isLt)]
    exact congrArg (fun i => _ + A.qh a h i * A.cs (pos a) ⟨j.val - 32, by omega⟩) (Fin.ext (show 128 + (32 + (j.val - 32)) = 128 + j.val by omega))

include h2 h7 h8 in
theorem kr_read (a : Fin 8192) (j : Fin 64) : val_main_v62 (F := Ideal) x2 x7 x8 (ix2 a j) = A.rot (A.kr a) (pos a) ⟨j.val, by omega⟩ := by
  pointwise [val_main_v62, val_main_v61, val_main_v60, val_main_v59, val_main_v58, val_main_v57, val_main_v56, val_main_v55, val_main_v54, h2, cs_read h7, sn_read h8]
  unfold Args.rot
  by_cases h' : j.val < 32
  · simp only [h', dif_pos]
  · simp only [h', dif_neg, not_false_eq_true, dif_pos (show j.val < 64 from j.isLt)]
    exact congrArg (fun i => _ + A.kr a i * A.cs (pos a) ⟨j.val - 32, by omega⟩) (Fin.ext (show 32 + (j.val - 32) = j.val by omega))

include h0 h3 h5 h7 h8 in
theorem q_read (a : Fin 8192) (h : Fin 4) (l : Fin 256) : val_main_v67 (F := Ideal) x0 x3 x5 x7 x8 (ix3 a h l) = A.q a h l := by
  pointwise [val_main_v67, val_main_v66, val_main_v52, val_main_cst_5, qr_read h0 h3 h5 h7 h8, qh_read h0 h3 h5]
  unfold Args.q
  by_cases h' : l.val < 128
  · simp only [h', dif_pos]
  · simp only [h', dif_neg, not_false_eq_true]
    by_cases h'' : l.val - 128 < 64
    · rw [dif_pos h'']
    · rw [dif_neg h'']
      unfold Args.rot
      rw [dif_neg (show ¬l.val - 128 < 32 by omega), dif_neg h'']
      try simp

include h1 h2 h4 h6 h7 h8 in
theorem k_read (a : Fin 8192) (h : Fin 4) (l : Fin 256) : val_main_v69 (F := Ideal) x1 x2 x4 x6 x7 x8 (ix3 a h l) = A.k a h l := by
  pointwise [val_main_v69, val_main_v66, val_main_v53, val_main_v65, val_main_v64, val_main_cst_5, kr_read h2 h7 h8, vh_read h1 h4 h6]
  unfold Args.k
  by_cases h' : l.val < 128
  · simp only [h', dif_pos]
  · simp only [h', dif_neg, not_false_eq_true]
    by_cases h'' : l.val - 128 < 64
    · rw [dif_pos h'']
    · rw [dif_neg h'']
      unfold Args.rot
      rw [dif_neg (show ¬l.val - 128 < 32 by omega), dif_neg h'']
      try simp

include h0 h3 h5 h7 h8 in
theorem Q_read (a : Fin 8192) (j : Fin 1024) : val_main_v71 (F := Ideal) x0 x3 x5 x7 x8 (ix2 a j) = A.Q a j := by
  pointwise [val_main_v71, val_main_v68, q_read h0 h3 h5 h7 h8]
  rfl

include h1 h2 h4 h6 h7 h8 in
theorem K_read (a : Fin 8192) (j : Fin 1024) : val_main_v72 (F := Ideal) x1 x2 x4 x6 x7 x8 (ix2 a j) = A.K a j := by
  pointwise [val_main_v72, val_main_v70, k_read h1 h2 h4 h6 h7 h8]
  rfl

include h1 h4 h6 in
theorem V_read (a : Fin 8192) (j : Fin 512) : val_main_v74 (F := Ideal) x1 x4 x6 (ix2 a j) = A.V a j := by
  pointwise [val_main_v74, val_main_v73, val_main_v63, vh_read h1 h4 h6]
  rfl

include h0 h3 in
theorem qn16_read (a : Fin 8192) (k : Fin 384) : val_main_v75 (F := Ideal) x0 x3 (ix2 a k) = A.qn a k := by
  pointwise [val_main_v75, qn_read h0 h3]

include h1 h4 in
theorem vn16_read (a : Fin 8192) (k : Fin 256) : val_main_v76 (F := Ideal) x1 x4 (ix2 a k) = A.vn a k := by
  pointwise [val_main_v76, vn_read h1 h4]

end Cert.Prep.Ref
end
end
-- ==== Proof.Prep.RefRun.lean ====
/- The reference's run, its results stated. -/
module

public import proofs.«01_k».proof.Proof.Gen.ReferencePrepIdeal.Run
public import proofs.«01_k».proof.Proof.Prep.Ref

@[expose] public section

set_option maxRecDepth 16384

noncomputable section

namespace Cert.Prep.Ref

open Cert.ReferencePrepIdeal Cert.ReferencePrepIdeal.Gen Cert.ReferencePrepIdeal.Read
open Cert.OutFwd (mat)
open Idealize.ShloMosaic Idealize.ShloMosaic.TcCoe Idealize.SL.Sem Idealize.ShloMosaic.StableHlo

/-- The launch memory's arguments on device `c` are `A`. -/
structure Agree (m : (ℓ : Loc nD τ sig) → Buf (Elt Ideal) ℓ) (c : Dev nD) (A : Prep.Args) : Prop where
  a0 : ∀ a k, (m ((c : Thread nD τ).loc main_arg0) : FVec Ideal S8192x384 .f32) (ix2 a k) = A.cq a k
  a1 : ∀ a k, (m ((c : Thread nD τ).loc main_arg1) : FVec Ideal S8192x256 .f32) (ix2 a k) = A.ckv a k
  a2 : ∀ a k, (m ((c : Thread nD τ).loc main_arg2) : FVec Ideal S8192x64 .f32) (ix2 a k) = A.kr a k
  a3 : ∀ k, (m ((c : Thread nD τ).loc main_arg3) : FVec Ideal S384 .f32) (ix1 k) = A.gq k
  a4 : ∀ k, (m ((c : Thread nD τ).loc main_arg4) : FVec Ideal S256 .f32) (ix1 k) = A.gv k
  a5 : ∀ a k, (m ((c : Thread nD τ).loc main_arg5) : FVec Ideal S384x768 .f32) (ix2 a k) = A.wq a k
  a6 : ∀ a k, (m ((c : Thread nD τ).loc main_arg6) : FVec Ideal S256x1024 .f32) (ix2 a k) = A.wv a k
  a7 : ∀ a k, (m ((c : Thread nD τ).loc main_arg7) : FVec Ideal S4096x32 .f32) (ix2 a k) = A.cs a k
  a8 : ∀ a k, (m ((c : Thread nD τ).loc main_arg8) : FVec Ideal S4096x32 .f32) (ix2 a k) = A.sn a k

variable {m : (ℓ : Loc nD τ sig) → Buf (Elt Ideal) ℓ}

/-- The reference's run, its results the arrays of `Args`. -/
theorem run (A : Dev nD → Prep.Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v71) : FVec Ideal S8192x1024 .bf16) = mat (A c).Q
      ∧ (r.2.mem ((c.tc : Thread nD τ).loc main_v72) : FVec Ideal S8192x1024 .bf16) = mat (A c).K
      ∧ (r.2.mem ((c.tc : Thread nD τ).loc main_v74) : FVec Ideal S8192x512 .bf16) = mat (A c).V
      ∧ (r.2.mem ((c.tc : Thread nD τ).loc main_v75) : FVec Ideal S8192x384 .bf16) = mat (A c).qn
      ∧ (r.2.mem ((c.tc : Thread nD τ).loc main_v76) : FVec Ideal S8192x256 .bf16) = mat (A c).vn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.ReferencePrepIdeal.Value.run m ρ)
  obtain ⟨h0, h1, h2, h3, h4, hr⟩ := h c
  refine ⟨h0.trans ?_, h1.trans ?_, h2.trans ?_, h3.trans ?_, h4.trans ?_, hr⟩
  · refine Eq.trans (val_main_v71_eq ..) (funext fun i => ?_)
    idx_vars i
    exact Q_read (H c).a0 (H c).a3 (H c).a5 (H c).a7 (H c).a8 i0 i1
  · refine Eq.trans (val_main_v72_eq ..) (funext fun i => ?_)
    idx_vars i
    exact K_read (H c).a1 (H c).a2 (H c).a4 (H c).a6 (H c).a7 (H c).a8 i0 i1
  · refine Eq.trans (val_main_v74_eq ..) (funext fun i => ?_)
    idx_vars i
    exact V_read (H c).a1 (H c).a4 (H c).a6 i0 i1
  · refine Eq.trans (val_main_v75_eq ..) (funext fun i => ?_)
    idx_vars i
    exact qn16_read (H c).a0 (H c).a3 i0 i1
  · refine Eq.trans (val_main_v76_eq ..) (funext fun i => ?_)
    idx_vars i
    exact vn16_read (H c).a1 (H c).a4 i0 i1

end Cert.Prep.Ref
end
end
-- ==== Proof.Prep.Claim.lean ====
/- The attention's latent norms, projections and rotary embedding: the kernel's results equal the reference's, at equal arguments. -/
module

public import proofs.«01_k».proof.Defs
public import proofs.«01_k».proof.Proof.Gen.KernelPrep
public import Idealize.ShloMosaic.Lib.Quiescent
public import Idealize.ShloMosaic.Lib.Claim
public import proofs.«01_k».proof.Proof.Prep.Final
public import proofs.«01_k».proof.Proof.Prep.RefRun

@[expose] public section

set_option maxRecDepth 16384

noncomputable section

namespace Cert.Prep

open Idealize.ShloMosaic Idealize.ShloMosaic.TcCoe Idealize.SL.Sem Cert.KernelPrepIdeal

/-- What device `c`'s argument arrays hold. -/
def args (m : (ℓ : Loc nD τ sig) → Buf (Elt Ideal) ℓ) (c : Dev nD) : Args where
  cq a k := (m ((c : Thread nD τ).loc main_arg0) : FVec Ideal S8192x384 .f32) (ix2 a k)
  ckv a k := (m ((c : Thread nD τ).loc main_arg1) : FVec Ideal S8192x256 .f32) (ix2 a k)
  kr a k := (m ((c : Thread nD τ).loc main_arg2) : FVec Ideal S8192x64 .f32) (ix2 a k)
  gq k := (m ((c : Thread nD τ).loc main_arg3) : FVec Ideal S384 .f32) (ix1 k)
  gv k := (m ((c : Thread nD τ).loc main_arg4) : FVec Ideal S256 .f32) (ix1 k)
  wq a k := (m ((c : Thread nD τ).loc main_arg5) : FVec Ideal S384x768 .f32) (ix2 a k)
  wv a k := (m ((c : Thread nD τ).loc main_arg6) : FVec Ideal S256x1024 .f32) (ix2 a k)
  cs a k := (m ((c : Thread nD τ).loc main_arg7) : FVec Ideal S4096x32 .f32) (ix2 a k)
  sn a k := (m ((c : Thread nD τ).loc main_arg8) : FVec Ideal S4096x32 .f32) (ix2 a k)

theorem agree (m : (ℓ : Loc nD τ sig) → Buf (Elt Ideal) ℓ) (c : Dev nD) : Ker.Agree m c (args m c) :=
  ⟨fun _ _ => rfl, fun _ _ => rfl, fun _ _ => rfl, fun _ => rfl, fun _ => rfl, fun _ _ => rfl, fun _ _ => rfl, fun _ _ => rfl, fun _ _ => rfl⟩

theorem algebraic : Cert.algebraic_KernelPrepIdeal_ReferencePrepIdeal := by
  pair_intro
  · run_from Cert.KernelPrepIdeal.Value.run_blocks m g
  · have H := agree m
    have HR : ∀ c, Ref.Agree m' c (args m c) := fun c => by
      obtain ⟨e0, e1, e2, e3, e4, e5, e6, e7, e8⟩ := hagree c
      have K := H c
      exact ⟨fun a k => (congrFun e0 _).trans (K.a0 a k), fun a k => (congrFun e1 _).trans (K.a1 a k), fun a k => (congrFun e2 _).trans (K.a2 a k), fun k => (congrFun e3 _).trans (K.a3 k), fun k => (congrFun e4 _).trans (K.a4 k), fun a k => (congrFun e5 _).trans (K.a5 a k), fun a k => (congrFun e6 _).trans (K.a6 a k), fun a k => (congrFun e7 _).trans (K.a7 a k), fun a k => (congrFun e8 _).trans (K.a8 a k)⟩
    run_from Ref.run _ HR g'
    · exact (Ker.final9 (H c)).symm
    · exact (Ker.final10 (H c)).symm
    · exact (Ker.final11 (H c)).symm
    · exact (Ker.final12 (H c)).symm
    · exact (Ker.final13 (H c)).symm

/-- The reference's frame. -/
theorem reference_frame : Cert.quiescent_ReferencePrepIdeal := by
  intro m g _
  exact (θ_run Cert.ReferencePrepIdeal.defs _ _).mono
    (fun r h => ⟨fun c => (h c).2.2.2.2.2, sem_eq_zero_of_no_sems (sig := Cert.ReferencePrepIdeal.sig) rfl _⟩)
    (Cert.ReferencePrepIdeal.Value.run m g)

end Cert.Prep
end
end
-- ==== Proof.PrepBwd.Finite.lean ====
/- A precondition that says every argument element is a real number, read back. -/
module

public import proofs.«01_k».proof.Proof.Gen.Pre_finite_mla_prep_bwd
public import proofs.«01_k».proof.Proof.Finite

@[expose] public section

set_option maxRecDepth 16384

noncomputable section

namespace Cert.PrepBwd

open Idealize.ShloMosaic Idealize.ShloMosaic.TcCoe Idealize.ShloMosaic.StableHlo Cert.Pre_finite_mla_prep_bwd Cert.Pre_finite_mla_prep_bwd.Facts
open Cert.Finite (all_real and_one)

variable [Cert.Pre_finite_mla_prep_bwd.Facts]

theorem reals (x0 : FVec Ideal S8192x1024 .f32) (x1 : FVec Ideal S8192x1024 .f32) (x2 : FVec Ideal S8192x512 .f32) (x3 : FVec Ideal S8192x384 .f32) (x4 : FVec Ideal S8192x256 .f32) (x5 : FVec Ideal S384 .f32) (x6 : FVec Ideal S256 .f32) (x7 : FVec Ideal S384x768 .f32) (x8 : FVec Ideal S256x1024 .f32) (x9 : FVec Ideal S4096x32 .f32) (x10 : FVec Ideal S4096x32 .f32)
    (h : fn (F := Ideal) x0 x1 x2 x3 x4 x5 x6 x7 x8 x9 x10 = fun _ => 1#1) :
    (∀ i, x0 i = ((x0 i).toReal : EReal))
      ∧ (∀ i, x1 i = ((x1 i).toReal : EReal))
      ∧ (∀ i, x2 i = ((x2 i).toReal : EReal))
      ∧ (∀ i, x3 i = ((x3 i).toReal : EReal))
      ∧ (∀ i, x4 i = ((x4 i).toReal : EReal))
      ∧ (∀ i, x5 i = ((x5 i).toReal : EReal))
      ∧ (∀ i, x6 i = ((x6 i).toReal : EReal))
      ∧ (∀ i, x7 i = ((x7 i).toReal : EReal))
      ∧ (∀ i, x8 i = ((x8 i).toReal : EReal))
      ∧ (∀ i, x9 i = ((x9 i).toReal : EReal))
      ∧ (∀ i, x10 i = ((x10 i).toReal : EReal)) := by
  obtain ⟨h, e10⟩ := and_one h
  obtain ⟨h, e9⟩ := and_one h
  obtain ⟨h, e8⟩ := and_one h
  obtain ⟨h, e7⟩ := and_one h
  obtain ⟨h, e6⟩ := and_one h
  obtain ⟨h, e5⟩ := and_one h
  obtain ⟨h, e4⟩ := and_one h
  obtain ⟨h, e3⟩ := and_one h
  obtain ⟨h, e2⟩ := and_one h
  obtain ⟨e0, e1⟩ := and_one h
  exact ⟨all_real _ _ _ _ _ e0, all_real _ _ _ _ _ e1, all_real _ _ _ _ _ e2, all_real _ _ _ _ _ e3, all_real _ _ _ _ _ e4, all_real _ _ _ _ _ e5, all_real _ _ _ _ _ e6, all_real _ _ _ _ _ e7, all_real _ _ _ _ _ e8, all_real _ _ _ _ _ e9, all_real _ _ _ _ _ e10⟩

end Cert.PrepBwd
end
end
-- ==== Proof.PrepBwd.Real.lean ====
/- The gradients of the attention's latent norms, projections and rotary embedding on real numbers, token by token. -/
module

public import proofs.«01_k».proof.Proof.Prep.Real

@[expose] public section

set_option maxRecDepth 16384

noncomputable section

open Idealize.ShloMosaic

namespace Cert.PrepBwd

open Cert.Ffn (eps)
open Cert.OutBwd (rr ms rmsGrad)
open Cert.Prep (sw pos qc vc)

theorem sum_split {n : ℕ} (p q : ℕ) (h : p + q = n) (f : Fin n → ℝ) :
    ∑ i, f i = (∑ i : Fin p, f ⟨i.val, by omega⟩) + ∑ i : Fin q, f ⟨p + i.val, by omega⟩ := by
  subst h; exact Fin.sum_univ_add f

theorem add_eight (a b c d e f g h : ℝ) : a + b + c + d + (e + f + g + h) = a + e + (b + f) + (c + g) + (d + h) := by ring

theorem rot_neg (x y z w : ℝ) : x * y + -z * w = x * y - z * w := by ring

/-- The arguments, as real numbers. -/
structure Args where
  dq : Fin 8192 → Fin 1024 → ℝ
  dk : Fin 8192 → Fin 1024 → ℝ
  dv : Fin 8192 → Fin 512 → ℝ
  cq : Fin 8192 → Fin 384 → ℝ
  ckv : Fin 8192 → Fin 256 → ℝ
  gq : Fin 384 → ℝ
  gv : Fin 256 → ℝ
  wq : Fin 384 → Fin 768 → ℝ
  wv : Fin 256 → Fin 1024 → ℝ
  cs : Fin 4096 → Fin 32 → ℝ
  sn : Fin 4096 → Fin 32 → ℝ

/-- A plain lane and a rotated lane of a head's 256, and lane `l` of head `h`'s 128 keys. -/
def pl (l : Fin 128) : Fin 256 := ⟨l.val, by omega⟩
def rl (l : Fin 128) : Fin 256 := ⟨128 + l.val, by omega⟩
def kc (h : Fin 4) (l : Fin 128) : Fin 1024 := ⟨h.val * 128 + l.val, by omega⟩
def vl (j : Fin 512) : Fin 1024 := ⟨512 + j.val, by omega⟩

namespace Args
variable (A : Args)

/-- The rotation's gradient; lanes 64 to 95 hold the second half's products with the sines. -/
def un (F : Fin 128 → ℝ) (p : Fin 4096) (l : Fin 128) : ℝ :=
  if h : l.val < 32 then F l * A.cs p ⟨l.val, h⟩ + F ⟨32 + l.val, by omega⟩ * A.sn p ⟨l.val, h⟩
  else if h' : l.val < 64 then F l * A.cs p ⟨l.val - 32, by omega⟩ - F ⟨l.val - 32, by omega⟩ * A.sn p ⟨l.val - 32, by omega⟩
  else if h'' : l.val < 96 then F ⟨l.val - 32, by omega⟩ * A.sn p ⟨l.val - 64, by omega⟩ else 0

/-- The gradient at the rotated queries' and at the shared key's features. -/
def dqr (a : Fin 8192) (h : Fin 4) (l : Fin 128) : ℝ := A.un (fun i => A.dq a (vc h (rl i))) (pos a) l
def dkr (a : Fin 8192) (l : Fin 128) : ℝ := A.un (fun i => ∑ h, A.dk a (vc h (rl i))) (pos a) l

/-- The gradients at the projections' results, in the version's layouts. -/
def dqp (a : Fin 8192) (j : Fin 1024) : ℝ :=
  if h : j.val % 256 < 128 then A.dq a j else A.dqr a ⟨j.val / 256, by omega⟩ ⟨j.val % 256 - 128, by omega⟩
def dkp (a : Fin 8192) (j : Fin 1024) : ℝ :=
  if h : j.val < 512 then A.dk a (vc ⟨j.val / 128, by omega⟩ ⟨j.val % 128, by omega⟩) else A.dv a ⟨j.val - 512, by omega⟩

/-- The same gradients in the weights' layouts, and at the normed latents. -/
def dq7 (a : Fin 8192) (j : Fin 768) : ℝ :=
  if h : j.val % 192 < 128 then A.dq a (vc ⟨j.val / 192, by omega⟩ ⟨j.val % 192, by omega⟩) else A.dqr a ⟨j.val / 192, by omega⟩ ⟨j.val % 192 - 128, by omega⟩
def dkv (a : Fin 8192) (j : Fin 1024) : ℝ :=
  if h : j.val % 256 < 128 then A.dk a (vc ⟨j.val / 256, by omega⟩ ⟨j.val % 256, by omega⟩) else A.dv a ⟨j.val / 256 * 128 + (j.val % 256 - 128), by omega⟩
def dcqn (a : Fin 8192) (k : Fin 384) : ℝ := ∑ j, A.dq7 a j * A.wq k j
def dckvn (a : Fin 8192) (k : Fin 256) : ℝ := ∑ j, A.dkv a j * A.wv k j

/-- The gradients at the latents, and a token's terms of the gains' gradients. -/
def dcq (a : Fin 8192) (k : Fin 384) : ℝ := rmsGrad 384 (A.cq a) (fun l => A.dcqn a l * A.gq l) k
def dckv (a : Fin 8192) (k : Fin 256) : ℝ := rmsGrad 256 (A.ckv a) (fun l => A.dckvn a l * A.gv l) k
def dgqRow (a : Fin 8192) (k : Fin 384) : ℝ := A.dcqn a k * (A.cq a k * rr 384 (A.cq a))
def dgvRow (a : Fin 8192) (k : Fin 256) : ℝ := A.dckvn a k * (A.ckv a k * rr 256 (A.ckv a))

/-- What the host lays out: the padded queries' weights by rows, the keys' and values' apart, the padded tables. -/
def WQ (i : Fin 1024) (k : Fin 384) : ℝ := if h : i.val % 256 < 192 then A.wq k (qc ⟨i.val / 256, by omega⟩ ⟨i.val % 256, h⟩) else 0
def WV (k : Fin 256) (j : Fin 1024) : ℝ :=
  if h : j.val < 512 then A.wv k (vc ⟨j.val / 128, by omega⟩ ⟨j.val % 128, by omega⟩)
  else A.wv k (vc ⟨(j.val - 512) / 128, by omega⟩ ⟨128 + (j.val - 512) % 128, by omega⟩)
def cx (p : Fin 4096) (l : Fin 128) : ℝ := if h : l.val < 32 then A.cs p ⟨l.val, h⟩ else if h' : l.val < 64 then A.cs p ⟨l.val - 32, by omega⟩ else 0
def sx (p : Fin 4096) (l : Fin 128) : ℝ := if h : l.val < 32 then -A.sn p ⟨l.val, h⟩ else if h' : l.val < 64 then A.sn p ⟨l.val - 32, by omega⟩ else 0

theorem cx_lo (p : Fin 4096) (l : Fin 128) (h : l.val < 32) : A.cx p l = A.cs p ⟨l.val, h⟩ := by unfold cx; rw [dif_pos h]
theorem cx_mid (p : Fin 4096) (l : Fin 128) (i : Fin 32) (h : l.val = 32 + i.val) : A.cx p l = A.cs p i := by
  unfold cx
  rw [dif_neg (by omega), dif_pos (by omega)]
  exact congrArg (A.cs p) (Fin.ext (show l.val - 32 = i.val by omega))
theorem cx_hi (p : Fin 4096) (l : Fin 128) (h : ¬l.val < 64) : A.cx p l = 0 := by unfold cx; rw [dif_neg (by omega), dif_neg h]
theorem sx_lo (p : Fin 4096) (l : Fin 128) (h : l.val < 32) : A.sx p l = -A.sn p ⟨l.val, h⟩ := by unfold sx; rw [dif_pos h]
theorem sx_mid (p : Fin 4096) (l : Fin 128) (i : Fin 32) (h : l.val = 32 + i.val) : A.sx p l = A.sn p i := by
  unfold sx
  rw [dif_neg (by omega), dif_pos (by omega)]
  exact congrArg (A.sn p) (Fin.ext (show l.val - 32 = i.val by omega))
theorem sx_hi (p : Fin 4096) (l : Fin 128) (h : ¬l.val < 64) : A.sx p l = 0 := by unfold sx; rw [dif_neg (by omega), dif_neg h]

/-- The body's gradient of the rotation of 128 lanes. -/
theorem un_eq (F : Fin 128 → ℝ) (p : Fin 4096) (l : Fin 128) : F l * A.cx p l + F (sw l) * A.sx p (sw l) = A.un F p l := by
  by_cases h : l.val < 32
  · have e : sw l = ⟨32 + l.val, by omega⟩ := by
      unfold sw
      rw [if_pos h]
      exact Fin.ext (show (l.val + 32) % 128 = 32 + l.val by omega)
    rw [e, A.cx_lo p l h, A.sx_mid p _ ⟨l.val, h⟩ rfl, un, dif_pos h]
  · have e : sw l = ⟨l.val - 32, by omega⟩ := by
      unfold sw
      rw [if_neg h]
      exact Fin.ext (show (l.val + 96) % 128 = l.val - 32 by omega)
    rw [e]
    by_cases h' : l.val < 64
    · rw [A.cx_mid p l ⟨l.val - 32, by omega⟩ (show l.val = 32 + (l.val - 32) by omega), A.sx_lo p _ (show l.val - 32 < 32 by omega), un, dif_neg h, dif_pos h']
      ring
    · rw [A.cx_hi p l h', un, dif_neg h, dif_neg h']
      by_cases h'' : l.val < 96
      · rw [A.sx_mid p _ ⟨l.val - 64, by omega⟩ (show l.val - 32 = 32 + (l.val - 64) by omega), dif_pos h'']
        ring
      · rw [A.sx_hi p _ (show ¬l.val - 32 < 64 by omega), dif_neg h'']
        ring

theorem un_lo (F : Fin 128 → ℝ) (p : Fin 4096) (i : Fin 32) {l : Fin 128} (h : l.val = i.val) : A.un F p l = F l * A.cs p i + F ⟨32 + i.val, by omega⟩ * A.sn p i := by
  obtain ⟨l, hl⟩ := l
  obtain rfl : l = i.val := h
  unfold un
  rw [dif_pos (show i.val < 32 from i.isLt)]

theorem un_mid (F : Fin 128 → ℝ) (p : Fin 4096) (i : Fin 32) {l : Fin 128} (h : l.val = 32 + i.val) : A.un F p l = F l * A.cs p i - F ⟨i.val, by omega⟩ * A.sn p i := by
  have e : (⟨l.val - 32, by omega⟩ : Fin 32) = i := Fin.ext (show l.val - 32 = i.val by omega)
  have e' : (⟨l.val - 32, by omega⟩ : Fin 128) = ⟨i.val, by omega⟩ := Fin.ext (show l.val - 32 = i.val by omega)
  unfold un
  rw [dif_neg (by omega), dif_pos (by omega), e, e']

theorem un_hi (F : Fin 128 → ℝ) (p : Fin 4096) (i : Fin 32) {l : Fin 128} (h : l.val = 64 + i.val) : A.un F p l = F ⟨32 + i.val, by omega⟩ * A.sn p i := by
  have e : (⟨l.val - 64, by omega⟩ : Fin 32) = i := Fin.ext (show l.val - 64 = i.val by omega)
  have e' : (⟨l.val - 32, by omega⟩ : Fin 128) = ⟨32 + i.val, by omega⟩ := Fin.ext (show l.val - 32 = 32 + i.val by omega)
  unfold un
  rw [dif_neg (by omega), dif_neg (by omega), dif_pos (by omega), e, e']

theorem un_top (F : Fin 128 → ℝ) (p : Fin 4096) {l : Fin 128} (h : 96 ≤ l.val) : A.un F p l = 0 := by
  unfold un
  rw [dif_neg (by omega), dif_neg (by omega), dif_neg (by omega)]

/-- The columns of the layouts. -/
theorem dqp_lo (a : Fin 8192) (h : Fin 4) (l : Fin 128) {j : Fin 1024} (hj : j.val = h.val * 256 + l.val) : A.dqp a j = A.dq a (vc h (pl l)) := by
  unfold dqp
  rw [dif_pos (by omega)]
  exact congrArg (A.dq a) (Fin.ext hj)

theorem dqp_hi (a : Fin 8192) (h : Fin 4) (l : Fin 128) {j : Fin 1024} (hj : j.val = h.val * 256 + 128 + l.val) : A.dqp a j = A.dqr a h l := by
  unfold dqp
  rw [dif_neg (by omega)]
  exact congrArg₂ (A.dqr a) (Fin.ext (show j.val / 256 = h.val by omega)) (Fin.ext (show j.val % 256 - 128 = l.val by omega))

theorem dkp_lo (a : Fin 8192) (h : Fin 4) (l : Fin 128) {j : Fin 1024} (hj : j.val = h.val * 128 + l.val) : A.dkp a j = A.dk a (vc h (pl l)) := by
  unfold dkp
  rw [dif_pos (by omega)]
  exact congrArg (A.dk a) (congrArg₂ vc (Fin.ext (show j.val / 128 = h.val by omega)) (Fin.ext (show j.val % 128 = l.val by omega)))

theorem dkp_hi (a : Fin 8192) (i : Fin 512) {j : Fin 1024} (hj : j.val = 512 + i.val) : A.dkp a j = A.dv a i := by
  unfold dkp
  rw [dif_neg (by omega)]
  exact congrArg (A.dv a) (Fin.ext (show j.val - 512 = i.val by omega))

/-- A head's products with the queries' weights, and with the keys'. -/
def hq (a : Fin 8192) (h : Fin 4) (k : Fin 384) : ℝ :=
  (∑ l : Fin 128, A.dq a (vc h (pl l)) * A.WQ (vc h (pl l)) k) + ∑ l : Fin 128, A.dqr a h l * A.WQ (vc h (rl l)) k
def hk (a : Fin 8192) (h : Fin 4) (k : Fin 256) : ℝ := ∑ l : Fin 128, A.dk a (vc h (pl l)) * A.WV k (kc h l)

theorem dq7_lo (a : Fin 8192) (h : Fin 4) (l : Fin 128) {j : Fin 768} (hj : j.val = h.val * 192 + l.val) : A.dq7 a j = A.dq a (vc h (pl l)) := by
  unfold dq7
  rw [dif_pos (by omega)]
  exact congrArg (A.dq a) (congrArg₂ vc (Fin.ext (show j.val / 192 = h.val by omega)) (Fin.ext (show j.val % 192 = l.val by omega)))

theorem dq7_hi (a : Fin 8192) (h : Fin 4) (l : Fin 128) (hl : l.val < 64) {j : Fin 768} (hj : j.val = h.val * 192 + (128 + l.val)) : A.dq7 a j = A.dqr a h l := by
  unfold dq7
  rw [dif_neg (by omega)]
  exact congrArg₂ (A.dqr a) (Fin.ext (show j.val / 192 = h.val by omega)) (Fin.ext (show j.val % 192 - 128 = l.val by omega))

theorem WQ_lo (h : Fin 4) (d : Fin 192) (k : Fin 384) {i : Fin 1024} (hi : i.val = h.val * 256 + d.val) : A.WQ i k = A.wq k (qc h d) := by
  unfold WQ
  rw [dif_pos (by omega)]
  exact congrArg (A.wq k) (congrArg₂ qc (Fin.ext (show i.val / 256 = h.val by omega)) (Fin.ext (show i.val % 256 = d.val by omega)))

theorem WQ_hi (k : Fin 384) {i : Fin 1024} (hi : ¬i.val % 256 < 192) : A.WQ i k = 0 := by
  unfold WQ
  rw [dif_neg hi]

theorem dkv_lo (a : Fin 8192) (h : Fin 4) (l : Fin 128) {j : Fin 1024} (hj : j.val = h.val * 256 + l.val) : A.dkv a j = A.dk a (vc h (pl l)) := by
  unfold dkv
  rw [dif_pos (by omega)]
  exact congrArg (A.dk a) (congrArg₂ vc (Fin.ext (show j.val / 256 = h.val by omega)) (Fin.ext (show j.val % 256 = l.val by omega)))

theorem dkv_hi (a : Fin 8192) (h : Fin 4) (l : Fin 128) {j : Fin 1024} {i : Fin 512} (hj : j.val = h.val * 256 + (128 + l.val)) (hi : i.val = h.val * 128 + l.val) :
    A.dkv a j = A.dv a i := by
  unfold dkv
  rw [dif_neg (by omega)]
  exact congrArg (A.dv a) (Fin.ext (show j.val / 256 * 128 + (j.val % 256 - 128) = i.val by omega))

theorem WV_lo (k : Fin 256) (h : Fin 4) (l : Fin 128) {j : Fin 1024} (hj : j.val = h.val * 128 + l.val) : A.WV k j = A.wv k (vc h (pl l)) := by
  unfold WV
  rw [dif_pos (by omega)]
  exact congrArg (A.wv k) (congrArg₂ vc (Fin.ext (show j.val / 128 = h.val by omega)) (Fin.ext (show j.val % 128 = l.val by omega)))

theorem WV_hi (k : Fin 256) (h : Fin 4) (l : Fin 128) {j : Fin 1024} (hj : j.val = 512 + (h.val * 128 + l.val)) : A.WV k j = A.wv k (vc h (rl l)) := by
  unfold WV
  rw [dif_neg (by omega)]
  exact congrArg (A.wv k) (congrArg₂ vc (Fin.ext (show (j.val - 512) / 128 = h.val by omega)) (Fin.ext (show 128 + (j.val - 512) % 128 = 128 + l.val by omega)))

theorem hq_eq (a : Fin 8192) (h : Fin 4) (k : Fin 384) : A.hq a h k = ∑ d, A.dq7 a (qc h d) * A.wq k (qc h d) := by
  rw [sum_split 128 64 rfl fun d => A.dq7 a (qc h d) * A.wq k (qc h d)]
  unfold hq
  refine congrArg₂ (· + ·) (Finset.sum_congr rfl fun l _ => ?_) ?_
  · rw [A.dq7_lo a h l rfl, A.WQ_lo h ⟨l.val, by omega⟩ k rfl]
  · rw [sum_split 64 64 rfl fun l => A.dqr a h l * A.WQ (vc h (rl l)) k, Finset.sum_eq_zero (f := fun i : Fin 64 => A.dqr a h ⟨64 + i.val, by omega⟩ * A.WQ (vc h (rl ⟨64 + i.val, by omega⟩)) k), add_zero]
    · exact Finset.sum_congr rfl fun l _ => by rw [A.dq7_hi a h ⟨l.val, by omega⟩ l.isLt rfl, A.WQ_lo h ⟨128 + l.val, by omega⟩ k rfl]
    · exact fun i _ => by rw [A.WQ_hi k (show ¬(h.val * 256 + (128 + (64 + i.val))) % 256 < 192 by omega), mul_zero]

theorem dcqn_eq (a : Fin 8192) (k : Fin 384) : A.hq a 0 k + A.hq a 1 k + A.hq a 2 k + A.hq a 3 k = A.dcqn a k := by
  unfold dcqn
  rw [Fin.sum_univ_tiles 4 192 rfl, Fin.sum_univ_four]
  simp only [hq_eq]
  rfl

theorem dckvn_eq (a : Fin 8192) (k : Fin 256) :
    A.hk a 0 k + A.hk a 1 k + A.hk a 2 k + A.hk a 3 k + ∑ j, A.dv a j * A.WV k (vl j) = A.dckvn a k := by
  have hb : ∀ h : Fin 4, ∑ d : Fin 256, A.dkv a (vc h d) * A.wv k (vc h d) = A.hk a h k + ∑ l : Fin 128, A.dv a ⟨h.val * 128 + l.val, by omega⟩ * A.WV k ⟨512 + (h.val * 128 + l.val), by omega⟩ := fun h => by
    rw [sum_split 128 128 rfl fun d => A.dkv a (vc h d) * A.wv k (vc h d)]
    unfold hk
    refine congrArg₂ (· + ·) (Finset.sum_congr rfl fun l _ => ?_) (Finset.sum_congr rfl fun l _ => ?_)
    · rw [A.dkv_lo a h l rfl, A.WV_lo k h l rfl]
      rfl
    · rw [A.dkv_hi a h l (i := ⟨h.val * 128 + l.val, by omega⟩) rfl rfl, A.WV_hi k h l rfl]
      rfl
  unfold dckvn
  rw [Fin.sum_univ_tiles 4 256 rfl, Fin.sum_univ_tiles 4 128 rfl fun j => A.dv a j * A.WV k (vl j), Fin.sum_univ_four, Fin.sum_univ_four]
  exact (add_eight _ _ _ _ _ _ _ _).trans (congrArg₂ (· + ·) (congrArg₂ (· + ·) (congrArg₂ (· + ·) (hb 0) (hb 1)) (hb 2)) (hb 3)).symm

/-- The body's gradient of a norm, as one product and one mean. -/
theorem dcq_eq (a : Fin 8192) (k : Fin 384) :
    rr 384 (A.cq a) * (A.dcqn a k * A.gq k - A.cq a k * rr 384 (A.cq a) * ((∑ l, A.dcqn a l * A.gq l * (A.cq a l * rr 384 (A.cq a))) * (1 / 384))) = A.dcq a k := rfl
theorem dckv_eq (a : Fin 8192) (k : Fin 256) :
    rr 256 (A.ckv a) * (A.dckvn a k * A.gv k - A.ckv a k * rr 256 (A.ckv a) * ((∑ l, A.dckvn a l * A.gv l * (A.ckv a l * rr 256 (A.ckv a))) * (1 / 256))) = A.dckv a k := rfl

end Args
end Cert.PrepBwd
end
end
-- ==== Proof.PrepBwd.Ker.lean ====
/- The body's stored blocks. -/
module

public import proofs.«01_k».proof.Proof.Gen.KernelPrepBwdIdeal.Skeleton
public import proofs.«01_k».proof.Proof.PrepBwd.Real
public import proofs.«01_k».proof.Proof.Prep.Ker

@[expose] public section

set_option maxRecDepth 16384

noncomputable section

namespace Cert.PrepBwd.Ker

open Cert.KernelPrepBwdIdeal Cert.KernelPrepBwdIdeal.Gen
open Cert.Ffn (eps c_eps mulE addE subE negE sumE divE rsqrtE)
open Cert.OutBwd (rr ms ms_pos)
open Cert.Prep (sw pos vc)
open Cert.Prep.Ker (c_384 c_256 sel)
open Idealize.ShloMosaic Idealize.ShloMosaic.TcCoe

variable {A : PrepBwd.Args} {ρ : Fin 1024 → Fin 8192}

theorem un_eqE (F : Fin 128 → ℝ) (p : Fin 4096) (l : Fin 128) : (F l : EReal) * A.cx p l + (F (sw l) : EReal) * A.sx p (sw l) = (A.un F p l : ℝ) := by
  rw [mulE, mulE, addE]
  exact congrArg _ (A.un_eq F p l)

theorem p6 (v : FVec Ideal S1024x128 .f32) (r : Fin 1024) (l : Fin 128) : k0_pay6 (F := Ideal) v (ix2 r l) = v (ix2 r l) := by
  pointwise [k0_pay6]

theorem p7 (v : FVec Ideal S1024x128 .f32) (r : Fin 1024) (l : Fin 128) : k0_pay7 (F := Ideal) v (ix2 r l) = v (ix2 r l) := by
  pointwise [k0_pay7]

theorem p9 {d : FVec Ideal S256x1024 .f32} {h : Fin 4} (hd : ∀ (i : Fin 256) (r : Fin 1024), d (ix2 i r) = A.dq (ρ r) (vc h i)) (r : Fin 1024) (l : Fin 128) : k0_pay9 (F := Ideal) d (ix2 r l) = A.dq (ρ r) (vc h (pl l)) := by
  pointwise [k0_pay9, k0_pay8, hd]
  first | done | rfl

theorem p15 {d : FVec Ideal S256x1024 .f32} {h : Fin 4} (hd : ∀ (i : Fin 256) (r : Fin 1024), d (ix2 i r) = A.dq (ρ r) (vc h i)) (r : Fin 1024) (l : Fin 128) : k0_pay15 (F := Ideal) d (ix2 r l) = A.dq (ρ r) (vc h (pl l)) := by
  pointwise [k0_pay15, k0_pay14, hd]
  first | done | rfl

theorem p22 {d : FVec Ideal S256x1024 .f32} {h : Fin 4} (hd : ∀ (i : Fin 256) (r : Fin 1024), d (ix2 i r) = A.dq (ρ r) (vc h i)) (r : Fin 1024) (l : Fin 128) : k0_pay22 (F := Ideal) d (ix2 r l) = A.dq (ρ r) (vc h (pl l)) := by
  pointwise [k0_pay22, k0_pay21, hd]
  first | done | rfl

theorem p29 {d : FVec Ideal S256x1024 .f32} {h : Fin 4} (hd : ∀ (i : Fin 256) (r : Fin 1024), d (ix2 i r) = A.dq (ρ r) (vc h i)) (r : Fin 1024) (l : Fin 128) : k0_pay29 (F := Ideal) d (ix2 r l) = A.dq (ρ r) (vc h (pl l)) := by
  pointwise [k0_pay29, k0_pay28, hd]
  first | done | rfl

theorem p10 {v0 v2 : FVec Ideal S1024x128 .f32} (h1 : ∀ (r : Fin 1024) (l : Fin 128), v0 (ix2 r l) = A.cx (pos (ρ r)) l) (h3 : ∀ (r : Fin 1024) (l : Fin 128), v2 (ix2 r l) = A.sx (pos (ρ r)) l) {d : FVec Ideal S256x1024 .f32} {h : Fin 4} (hd : ∀ (i : Fin 256) (r : Fin 1024), d (ix2 i r) = A.dq (ρ r) (vc h i)) (r : Fin 1024) (l : Fin 128) : k0_pay10 (F := Ideal) v0 v2 d (ix2 r l) = A.dqr (ρ r) h l := by
  pointwise [k0_pay10, k0_pay6, k0_pay7, k0_pay8, h1, h3, hd]
  exact (congrArg (fun z : EReal => (A.dq (ρ r) (vc h (rl l)) : EReal) * A.cx (pos (ρ r)) l + z) (sel (fun i => (A.dq (ρ r) (vc h (rl i)) : EReal) * A.sx (pos (ρ r)) i) l)).trans (un_eqE (fun i => A.dq (ρ r) (vc h (rl i))) (pos (ρ r)) l)

theorem p16 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) (r : Fin 1024) (l : Fin 128) : k0_pay16 (F := Ideal) v1 v3 d (ix2 r l) = A.dqr (ρ r) h l := by
  pointwise [k0_pay16, k0_pay14, h1, h3, hd]
  exact (congrArg (fun z : EReal => (A.dq (ρ r) (vc h (rl l)) : EReal) * A.cx (pos (ρ r)) l + z) (sel (fun i => (A.dq (ρ r) (vc h (rl i)) : EReal) * A.sx (pos (ρ r)) i) l)).trans (un_eqE (fun i => A.dq (ρ r) (vc h (rl i))) (pos (ρ r)) l)

theorem p23 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) (r : Fin 1024) (l : Fin 128) : k0_pay23 (F := Ideal) v1 v3 d (ix2 r l) = A.dqr (ρ r) h l := by
  pointwise [k0_pay23, k0_pay21, h1, h3, hd]
  exact (congrArg (fun z : EReal => (A.dq (ρ r) (vc h (rl l)) : EReal) * A.cx (pos (ρ r)) l + z) (sel (fun i => (A.dq (ρ r) (vc h (rl i)) : EReal) * A.sx (pos (ρ r)) i) l)).trans (un_eqE (fun i => A.dq (ρ r) (vc h (rl i))) (pos (ρ r)) l)

theorem p30 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) (r : Fin 1024) (l : Fin 128) : k0_pay30 (F := Ideal) v1 v3 d (ix2 r l) = A.dqr (ρ r) h l := by
  pointwise [k0_pay30, k0_pay28, h1, h3, hd]
  exact (congrArg (fun z : EReal => (A.dq (ρ r) (vc h (rl l)) : EReal) * A.cx (pos (ρ r)) l + z) (sel (fun i => (A.dq (ρ r) (vc h (rl i)) : EReal) * A.sx (pos (ρ r)) i) l)).trans (un_eqE (fun i => A.dq (ρ r) (vc h (rl i))) (pos (ρ r)) l)

theorem p11 {v0 v2 : FVec Ideal S1024x128 .f32} (h1 : ∀ (r : Fin 1024) (l : Fin 128), v0 (ix2 r l) = A.cx (pos (ρ r)) l) (h3 : ∀ (r : Fin 1024) (l : Fin 128), v2 (ix2 r l) = A.sx (pos (ρ r)) l) {d : FVec Ideal S256x1024 .f32} {h : Fin 4} (hd : ∀ (i : Fin 256) (r : Fin 1024), d (ix2 i r) = A.dq (ρ r) (vc h i)) {wa wb : FVec Ideal S128x384 .bf16} (ha : ∀ (l : Fin 128) (k : Fin 384), wa (ix2 l k) = A.WQ (vc h (pl l)) k) (hb : ∀ (l : Fin 128) (k : Fin 384), wb (ix2 l k) = A.WQ (vc h (rl l)) k) (r : Fin 1024) (k : Fin 384) : k0_pay11 (F := Ideal) v0 v2 d wa wb (ix2 r k) = A.hq (ρ r) h k := by
  pointwise [k0_pay11, p9 hd, p10 h1 h3 hd, ha, hb]
  simp only [zero_add, mulE, sumE, addE]
  rfl

theorem p17 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) {wa wb : FVec Ideal S128x384 .bf16} (ha : ∀ (l : Fin 128) (k : Fin 384), wa (ix2 l k) = A.WQ (vc h (pl l)) k) (hb : ∀ (l : Fin 128) (k : Fin 384), wb (ix2 l k) = A.WQ (vc h (rl l)) k) {s : Fin 1024 → Fin 384 → ℝ} {v : FVec Ideal S1024x384 .f32} (hv : ∀ (r : Fin 1024) (k : Fin 384), v (ix2 r k) = s r k) (r : Fin 1024) (k : Fin 384) : k0_pay17 (F := Ideal) v1 v3 v d wa wb (ix2 r k) = ((s r k + A.hq (ρ r) h k : ℝ) : EReal) := by
  pointwise [k0_pay17, p15 hd, p16 h1 h3 hd, ha, hb, hv]
  simp only [zero_add, mulE, sumE, addE]
  rfl

theorem p24 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) {wa wb : FVec Ideal S128x384 .bf16} (ha : ∀ (l : Fin 128) (k : Fin 384), wa (ix2 l k) = A.WQ (vc h (pl l)) k) (hb : ∀ (l : Fin 128) (k : Fin 384), wb (ix2 l k) = A.WQ (vc h (rl l)) k) {s : Fin 1024 → Fin 384 → ℝ} {v : FVec Ideal S1024x384 .f32} (hv : ∀ (r : Fin 1024) (k : Fin 384), v (ix2 r k) = s r k) (r : Fin 1024) (k : Fin 384) : k0_pay24 (F := Ideal) v1 v3 v d wa wb (ix2 r k) = ((s r k + A.hq (ρ r) h k : ℝ) : EReal) := by
  pointwise [k0_pay24, p22 hd, p23 h1 h3 hd, ha, hb, hv]
  simp only [zero_add, mulE, sumE, addE]
  rfl

theorem p31 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {d : FVec Ideal S256x1024 .f32} {h : Fin 4} (hd : ∀ (i : Fin 256) (r : Fin 1024), d (ix2 i r) = A.dq (ρ r) (vc h i)) {wa wb : FVec Ideal S128x384 .bf16} (ha : ∀ (l : Fin 128) (k : Fin 384), wa (ix2 l k) = A.WQ (vc h (pl l)) k) (hb : ∀ (l : Fin 128) (k : Fin 384), wb (ix2 l k) = A.WQ (vc h (rl l)) k) {s : Fin 1024 → Fin 384 → ℝ} {v : FVec Ideal S1024x384 .f32} (hv : ∀ (r : Fin 1024) (k : Fin 384), v (ix2 r k) = s r k) (r : Fin 1024) (k : Fin 384) : k0_pay31 (F := Ideal) v1 v3 v d wa wb (ix2 r k) = ((s r k + A.hq (ρ r) h k : ℝ) : EReal) := by
  pointwise [k0_pay31, p29 hd, p30 h1 h3 hd, ha, hb, hv]
  simp only [zero_add, mulE, sumE, addE]
  rfl

theorem p12 (v : FVec Ideal S1024x128 .f32) (r : Fin 1024) (l : Fin 128) : k0_pay12 (F := Ideal) v (ix2 r l) = v (ix2 r l) := by
  pointwise [k0_pay12]

theorem p18 (v : FVec Ideal S1024x128 .f32) (r : Fin 1024) (l : Fin 128) : k0_pay18 (F := Ideal) v (ix2 r l) = v (ix2 r l) := by
  pointwise [k0_pay18]

theorem p25 (v : FVec Ideal S1024x128 .f32) (r : Fin 1024) (l : Fin 128) : k0_pay25 (F := Ideal) v (ix2 r l) = v (ix2 r l) := by
  pointwise [k0_pay25]

theorem p32 (v : FVec Ideal S1024x128 .f32) (r : Fin 1024) (l : Fin 128) : k0_pay32 (F := Ideal) v (ix2 r l) = v (ix2 r l) := by
  pointwise [k0_pay32]

theorem p33 (v : FVec Ideal S1024x512 .f32) (r : Fin 1024) (j : Fin 512) : k0_pay33 (F := Ideal) v (ix2 r j) = v (ix2 r j) := by
  pointwise [k0_pay33]

theorem p13 {h : Fin 4} {u : FVec Ideal S1024x128 .bf16} (hu : ∀ (r : Fin 1024) (l : Fin 128), u (ix2 r l) = A.dk (ρ r) (vc h (pl l))) {w : FVec Ideal S256x128 .bf16} (hw : ∀ (k : Fin 256) (l : Fin 128), w (ix2 k l) = A.WV k (kc h l)) (r : Fin 1024) (k : Fin 256) : k0_pay13 (F := Ideal) u w (ix2 r k) = A.hk (ρ r) h k := by
  pointwise [k0_pay13, hu, hw]
  simp only [zero_add, mulE, sumE]
  rfl

theorem p19 {h : Fin 4} {u : FVec Ideal S1024x128 .bf16} (hu : ∀ (r : Fin 1024) (l : Fin 128), u (ix2 r l) = A.dk (ρ r) (vc h (pl l))) {w : FVec Ideal S256x128 .bf16} (hw : ∀ (k : Fin 256) (l : Fin 128), w (ix2 k l) = A.WV k (kc h l)) {s : Fin 1024 → Fin 256 → ℝ} {v : FVec Ideal S1024x256 .f32} (hv : ∀ (r : Fin 1024) (k : Fin 256), v (ix2 r k) = s r k) (r : Fin 1024) (k : Fin 256) : k0_pay19 (F := Ideal) v u w (ix2 r k) = ((s r k + A.hk (ρ r) h k : ℝ) : EReal) := by
  pointwise [k0_pay19, hu, hw, hv]
  simp only [zero_add, mulE, sumE, addE]
  rfl

theorem p26 {h : Fin 4} {u : FVec Ideal S1024x128 .bf16} (hu : ∀ (r : Fin 1024) (l : Fin 128), u (ix2 r l) = A.dk (ρ r) (vc h (pl l))) {w : FVec Ideal S256x128 .bf16} (hw : ∀ (k : Fin 256) (l : Fin 128), w (ix2 k l) = A.WV k (kc h l)) {s : Fin 1024 → Fin 256 → ℝ} {v : FVec Ideal S1024x256 .f32} (hv : ∀ (r : Fin 1024) (k : Fin 256), v (ix2 r k) = s r k) (r : Fin 1024) (k : Fin 256) : k0_pay26 (F := Ideal) v u w (ix2 r k) = ((s r k + A.hk (ρ r) h k : ℝ) : EReal) := by
  pointwise [k0_pay26, hu, hw, hv]
  simp only [zero_add, mulE, sumE, addE]
  rfl

theorem p34 {v : FVec Ideal S1024x256 .f32} (hv : ∀ (r : Fin 1024) (k : Fin 256), v (ix2 r k) = ((A.hk (ρ r) 0 k + A.hk (ρ r) 1 k + A.hk (ρ r) 2 k : ℝ) : EReal)) {u : FVec Ideal S1024x128 .f32} (hu : ∀ (r : Fin 1024) (l : Fin 128), u (ix2 r l) = A.dk (ρ r) (vc 3 (pl l))) {w : FVec Ideal S256x128 .bf16} (hw : ∀ (k : Fin 256) (l : Fin 128), w (ix2 k l) = A.WV k (kc 3 l)) {e : FVec Ideal S1024x512 .f32} (he : ∀ (r : Fin 1024) (j : Fin 512), e (ix2 r j) = A.dv (ρ r) j) {x : FVec Ideal S256x512 .bf16} (hx : ∀ (k : Fin 256) (j : Fin 512), x (ix2 k j) = A.WV k (vl j)) (r : Fin 1024) (k : Fin 256) : k0_pay34 (F := Ideal) v u w e x (ix2 r k) = A.dckvn (ρ r) k := by
  pointwise [k0_pay34, p32, p33, hv, hu, hw, he, hx]
  simp only [zero_add, mulE, sumE, addE]
  exact congrArg _ (A.dckvn_eq (ρ r) k)

theorem p20 {a : FVec Ideal S1024x128 .f32} (ha : ∀ (r : Fin 1024) (l : Fin 128), a (ix2 r l) = A.dk (ρ r) (vc 0 (rl l))) {b : FVec Ideal S1024x128 .f32} (hb : ∀ (r : Fin 1024) (l : Fin 128), b (ix2 r l) = A.dk (ρ r) (vc 1 (rl l))) (r : Fin 1024) (l : Fin 128) : k0_pay20 (F := Ideal) a b (ix2 r l) = ((A.dk (ρ r) (vc 0 (rl l)) + A.dk (ρ r) (vc 1 (rl l)) : ℝ) : EReal) := by
  pointwise [k0_pay20, ha, hb]
  first | done | simp only [addE]

theorem p27 {v : FVec Ideal S1024x128 .f32} (hv : ∀ (r : Fin 1024) (l : Fin 128), v (ix2 r l) = ((A.dk (ρ r) (vc 0 (rl l)) + A.dk (ρ r) (vc 1 (rl l)) : ℝ) : EReal)) {b : FVec Ideal S1024x128 .f32} (hb : ∀ (r : Fin 1024) (l : Fin 128), b (ix2 r l) = A.dk (ρ r) (vc 2 (rl l))) (r : Fin 1024) (l : Fin 128) : k0_pay27 (F := Ideal) v b (ix2 r l) = ((A.dk (ρ r) (vc 0 (rl l)) + A.dk (ρ r) (vc 1 (rl l)) + A.dk (ρ r) (vc 2 (rl l)) : ℝ) : EReal) := by
  pointwise [k0_pay27, hv, hb]
  simp only [addE]

theorem p35 {v1 v3 : FVec Ideal S1024x128 .f32} (h1 : ∀ (r : Fin 1024) (l : Fin 128), v1 (ix2 r l) = A.cx (pos (ρ r)) l) (h3 : ∀ (r : Fin 1024) (l : Fin 128), v3 (ix2 r l) = A.sx (pos (ρ r)) l) {v : FVec Ideal S1024x128 .f32} (hv : ∀ (r : Fin 1024) (l : Fin 128), v (ix2 r l) = ((A.dk (ρ r) (vc 0 (rl l)) + A.dk (ρ r) (vc 1 (rl l)) + A.dk (ρ r) (vc 2 (rl l)) : ℝ) : EReal)) {b : FVec Ideal S1024x128 .f32} (hb : ∀ (r : Fin 1024) (l : Fin 128), b (ix2 r l) = A.dk (ρ r) (vc 3 (rl l))) (r : Fin 1024) (l : Fin 128) : k0_pay35 (F := Ideal) v1 v3 v b (ix2 r l) = A.dkr (ρ r) l := by
  have e : ∀ i : Fin 128, A.dk (ρ r) (vc 0 (rl i)) + A.dk (ρ r) (vc 1 (rl i)) + A.dk (ρ r) (vc 2 (rl i)) + A.dk (ρ r) (vc 3 (rl i)) = ∑ h, A.dk (ρ r) (vc h (rl i)) := fun i => (Fin.sum_univ_four fun h => A.dk (ρ r) (vc h (rl i))).symm
  pointwise [k0_pay35, h1, h3, hv, hb]
  simp only [addE, e]
  exact (congrArg (fun z : EReal => ((∑ h, A.dk (ρ r) (vc h (rl l)) : ℝ) : EReal) * A.cx (pos (ρ r)) l + z) (sel (fun i => ((∑ h, A.dk (ρ r) (vc h (rl i)) : ℝ) : EReal) * A.sx (pos (ρ r)) i) l)).trans (un_eqE (fun i => ∑ h, A.dk (ρ r) (vc h (rl i))) (pos (ρ r)) l)

theorem p36 {g : FVec Ideal S1x384 .f32} (hg : ∀ (z : Fin 1) (k : Fin 384), g (ix2 z k) = A.gq k) (z : Fin 1) (k : Fin 384) : k0_pay36 (F := Ideal) g (ix2 z k) = A.gq k := by
  pointwise [k0_pay36, hg]

theorem p37 {x : FVec Ideal S1024x384 .f32} (hx : ∀ (r : Fin 1024) (k : Fin 384), x (ix2 r k) = A.cq (ρ r) k) (r : Fin 1024) (z : Fin 1) : k0_pay37 (F := Ideal) x (ix2 r z) = ((∑ l, A.cq (ρ r) l * A.cq (ρ r) l : ℝ) : EReal) := by
  pointwise [k0_pay37, hx]
  simp only [zero_add, mulE, sumE]

theorem p38 {q : FVec Ideal S1024x1 .f32} (hq : ∀ (r : Fin 1024) (z : Fin 1), q (ix2 r z) = ((∑ l, A.cq (ρ r) l * A.cq (ρ r) l : ℝ) : EReal)) (r : Fin 1024) (z : Fin 1) : k0_pay38 (F := Ideal) q (Ideal.ofBits .f32 0x43C00000#32) (ix2 r z) = ((rr 384 (A.cq (ρ r)) : ℝ) : EReal) := by
  pointwise [k0_pay38, hq]
  simp only [c_eps, c_384, divE _ _ (by norm_num : (384 : ℝ) ≠ 0), addE]
  exact rsqrtE _ (ms_pos 384 (by norm_num) (A.cq (ρ r)))

theorem p39 {x : FVec Ideal S1024x384 .f32} (hx : ∀ (r : Fin 1024) (k : Fin 384), x (ix2 r k) = A.cq (ρ r) k) {q : FVec Ideal S1024x1 .f32} (hq : ∀ (r : Fin 1024) (z : Fin 1), q (ix2 r z) = ((∑ l, A.cq (ρ r) l * A.cq (ρ r) l : ℝ) : EReal)) (r : Fin 1024) (k : Fin 384) : k0_pay39 (F := Ideal) x q (Ideal.ofBits .f32 0x43C00000#32) (ix2 r k) = ((A.cq (ρ r) k * rr 384 (A.cq (ρ r)) : ℝ) : EReal) := by
  pointwise [k0_pay39, p38 hq, hx]
  simp only [mulE]

theorem p40 {n : FVec Ideal S1024x384 .f32} (hn : ∀ (r : Fin 1024) (k : Fin 384), n (ix2 r k) = A.dcqn (ρ r) k) {x : FVec Ideal S1024x384 .f32} (hx : ∀ (r : Fin 1024) (k : Fin 384), x (ix2 r k) = A.cq (ρ r) k) {q : FVec Ideal S1024x1 .f32} (hq : ∀ (r : Fin 1024) (z : Fin 1), q (ix2 r z) = ((∑ l, A.cq (ρ r) l * A.cq (ρ r) l : ℝ) : EReal)) (r : Fin 1024) (k : Fin 384) : k0_pay40 (F := Ideal) n x q (Ideal.ofBits .f32 0x43C00000#32) (ix2 r k) = A.dgqRow (ρ r) k := by
  pointwise [k0_pay40, p39 hx hq, hn]
  simp only [mulE]
  rfl

theorem p45 {n : FVec Ideal S1024x384 .f32} (hn : ∀ (r : Fin 1024) (k : Fin 384), n (ix2 r k) = A.dcqn (ρ r) k) {x : FVec Ideal S1024x384 .f32} (hx : ∀ (r : Fin 1024) (k : Fin 384), x (ix2 r k) = A.cq (ρ r) k) {g : FVec Ideal S1x384 .f32} (hg : ∀ (z : Fin 1) (k : Fin 384), g (ix2 z k) = A.gq k) {q : FVec Ideal S1024x1 .f32} (hq : ∀ (r : Fin 1024) (z : Fin 1), q (ix2 r z) = ((∑ l, A.cq (ρ r) l * A.cq (ρ r) l : ℝ) : EReal)) (r : Fin 1024) (k : Fin 384) : k0_pay45 (F := Ideal) n x g q (Ideal.ofBits .f32 0x43C00000#32) (ix2 r k) = A.dcq (ρ r) k := by
  pointwise [k0_pay45, p38 hq, p39 hx hq, hn, hg]
  simp only [zero_add, c_384, mulE, sumE, divE _ _ (by norm_num : (384 : ℝ) ≠ 0), subE]
  exact congrArg _ (A.dcq_eq (ρ r) k)

theorem p41 {x : FVec Ideal S1024x256 .f32} (hx : ∀ (r : Fin 1024) (k : Fin 256), x (ix2 r k) = A.ckv (ρ r) k) (r : Fin 1024) (z : Fin 1) : k0_pay41 (F := Ideal) x (ix2 r z) = ((rr 256 (A.ckv (ρ r)) : ℝ) : EReal) := by
  pointwise [k0_pay41, hx]
  simp only [zero_add, mulE, sumE, c_eps, c_256, divE _ _ (by norm_num : (256 : ℝ) ≠ 0), addE]
  exact rsqrtE _ (ms_pos 256 (by norm_num) (A.ckv (ρ r)))

theorem p42 {x : FVec Ideal S1024x256 .f32} (hx : ∀ (r : Fin 1024) (k : Fin 256), x (ix2 r k) = A.ckv (ρ r) k) (r : Fin 1024) (k : Fin 256) : k0_pay42 (F := Ideal) x (ix2 r k) = ((A.ckv (ρ r) k * rr 256 (A.ckv (ρ r)) : ℝ) : EReal) := by
  pointwise [k0_pay42, p41 hx, hx]
  simp only [mulE]

theorem p43 {n : FVec Ideal S1024x256 .f32} (hn : ∀ (r : Fin 1024) (k : Fin 256), n (ix2 r k) = A.dckvn (ρ r) k) {x : FVec Ideal S1024x256 .f32} (hx : ∀ (r : Fin 1024) (k : Fin 256), x (ix2 r k) = A.ckv (ρ r) k) {g : FVec Ideal S1x256 .f32} (hg : ∀ (z : Fin 1) (k : Fin 256), g (ix2 z k) = A.gv k) (r : Fin 1024) (k : Fin 256) : k0_pay43 (F := Ideal) n x g (ix2 r k) = A.dckv (ρ r) k := by
  pointwise [k0_pay43, p41 hx, p42 hx, hn, hg]
  simp only [zero_add, c_256, mulE, sumE, divE _ _ (by norm_num : (256 : ℝ) ≠ 0), subE]
  exact congrArg _ (A.dckv_eq (ρ r) k)

theorem p44 {n : FVec Ideal S1024x256 .f32} (hn : ∀ (r : Fin 1024) (k : Fin 256), n (ix2 r k) = A.dckvn (ρ r) k) {x : FVec Ideal S1024x256 .f32} (hx : ∀ (r : Fin 1024) (k : Fin 256), x (ix2 r k) = A.ckv (ρ r) k) (r : Fin 1024) (k : Fin 256) : k0_pay44 (F := Ideal) n x (ix2 r k) = A.dgvRow (ρ r) k := by
  pointwise [k0_pay44, p42 hx, hn]
  simp only [mulE]
  rfl

theorem p1 (v : FVec Ideal S1024x256 .f32) (r : Fin 1024) (k : Fin 256) : k0_pay1 (F := Ideal) v (ix2 r k) = v (ix2 r k) := by
  pointwise [k0_pay1]

theorem p2 {s : Fin 1024 → Fin 384 → ℝ} {v : FVec Ideal S1024x384 .f32} (hv : ∀ (r : Fin 1024) (k : Fin 384), v (ix2 r k) = s r k) (z : Fin 1) (k : Fin 384) : k0_pay2 (F := Ideal) v (ix2 z k) = ((∑ r, s r k : ℝ) : EReal) := by
  pointwise [k0_pay2, hv]
  simp only [zero_add, sumE]

theorem p3 {s : Fin 1024 → Fin 384 → ℝ} {v : FVec Ideal S1024x384 .f32} (hv : ∀ (r : Fin 1024) (k : Fin 384), v (ix2 r k) = s r k) (u : FVec Ideal S1x384 .f32) (z : Fin 1) (k : Fin 384) : k0_pay3 (F := Ideal) v u (ix2 z k) = u (ix2 z k) + ((∑ r, s r k : ℝ) : EReal) := by
  pointwise [k0_pay3, p2 hv]

theorem p4 {s : Fin 1024 → Fin 256 → ℝ} {v : FVec Ideal S1024x256 .f32} (hv : ∀ (r : Fin 1024) (k : Fin 256), v (ix2 r k) = s r k) (z : Fin 1) (k : Fin 256) : k0_pay4 (F := Ideal) v (ix2 z k) = ((∑ r, s r k : ℝ) : EReal) := by
  pointwise [k0_pay4, hv]
  simp only [zero_add, sumE]

theorem p5 {s : Fin 1024 → Fin 256 → ℝ} {v : FVec Ideal S1024x256 .f32} (hv : ∀ (r : Fin 1024) (k : Fin 256), v (ix2 r k) = s r k) (u : FVec Ideal S1x256 .f32) (z : Fin 1) (k : Fin 256) : k0_pay5 (F := Ideal) v u (ix2 z k) = u (ix2 z k) + ((∑ r, s r k : ℝ) : EReal) := by
  pointwise [k0_pay5, p4 hv]

end Cert.PrepBwd.Ker
end
end
-- ==== Proof.PrepBwd.Blocks.lean ====
/- What the host prepares and what a grid point's input blocks hold. -/
module

public import proofs.«01_k».proof.Proof.Gen.KernelPrepBwdIdeal.Value
public import proofs.«01_k».proof.Proof.PrepBwd.Ker
public import Idealize.ShloMosaic.Lib.Pipeline.ValueKit
public import Idealize.ShloMosaic.Lib.Claim

@[expose] public section

set_option maxRecDepth 16384

noncomputable section

namespace Cert.PrepBwd.Ker

open Cert.KernelPrepBwdIdeal Cert.KernelPrepBwdIdeal.Gen
open Cert.Prep (pos vc)
open Idealize.ShloMosaic Idealize.ShloMosaic.TcCoe Idealize.SL.Sem

theorem idx : ∀ t : Fin cfg0.N, (win0_1.index t = ![t.val, 0] ∧ win0_2.index t = ![t.val, 0] ∧ win0_3.index t = ![t.val, 0] ∧ win0_4.index t = ![t.val, 0] ∧ win0_11.index t = ![t.val, 0] ∧ win0_12.index t = ![t.val, 0] ∧ win0_13.index t = ![t.val, 0] ∧ win0_14.index t = ![t.val, 0] ∧ win0_15.index t = ![t.val, 0])
    ∧ (win0_5.index t = ![0, 0] ∧ win0_6.index t = ![0, 0] ∧ win0_7.index t = ![0, 0] ∧ win0_8.index t = ![0, 0] ∧ win0_16.index t = ![0, 0] ∧ win0_17.index t = ![0, 0]) ∧ (win0_0.index t = ![0, t.val] ∧ win0_9.index t = ![t.val % 4, 0] ∧ win0_10.index t = ![t.val % 4, 0]) :=
  (by decide +kernel : ∀ t : Fin grid0.N, _)

/-- The token of row `r` of grid point `t`'s block. -/
def tok (t : Fin cfg0.N) (r : Fin 1024) : Fin 8192 :=
  ⟨t.val * 1024 + r.val, by have h : t.val < 8 := lt_of_lt_of_eq t.isLt N_0; omega⟩

theorem pos_tok (t : Fin cfg0.N) (r : Fin 1024) : (pos (tok t r)).val = t.val % 4 * 1024 + r.val := by
  show (t.val * 1024 + r.val) % 4096 = _
  omega

/-- The launch memory's arguments on device `c` are `A`. -/
structure Agree (m : (ℓ : Loc nD τ sig) → Buf (Elt Ideal) ℓ) (c : Dev nD) (A : PrepBwd.Args) : Prop where
  a0 : ∀ a k, (m ((c : Thread nD τ).loc main_arg0) : FVec Ideal S8192x1024 .f32) (ix2 a k) = (A.dq a k : EReal)
  a1 : ∀ a k, (m ((c : Thread nD τ).loc main_arg1) : FVec Ideal S8192x1024 .f32) (ix2 a k) = (A.dk a k : EReal)
  a2 : ∀ a k, (m ((c : Thread nD τ).loc main_arg2) : FVec Ideal S8192x512 .f32) (ix2 a k) = (A.dv a k : EReal)
  a3 : ∀ a k, (m ((c : Thread nD τ).loc main_arg3) : FVec Ideal S8192x384 .f32) (ix2 a k) = (A.cq a k : EReal)
  a4 : ∀ a k, (m ((c : Thread nD τ).loc main_arg4) : FVec Ideal S8192x256 .f32) (ix2 a k) = (A.ckv a k : EReal)
  a5 : ∀ k, (m ((c : Thread nD τ).loc main_arg5) : FVec Ideal S384 .f32) (ix1 k) = (A.gq k : EReal)
  a6 : ∀ k, (m ((c : Thread nD τ).loc main_arg6) : FVec Ideal S256 .f32) (ix1 k) = (A.gv k : EReal)
  a7 : ∀ a k, (m ((c : Thread nD τ).loc main_arg7) : FVec Ideal S384x768 .f32) (ix2 a k) = (A.wq a k : EReal)
  a8 : ∀ a k, (m ((c : Thread nD τ).loc main_arg8) : FVec Ideal S256x1024 .f32) (ix2 a k) = (A.wv a k : EReal)
  a9 : ∀ a k, (m ((c : Thread nD τ).loc main_arg9) : FVec Ideal S4096x32 .f32) (ix2 a k) = (A.cs a k : EReal)
  a10 : ∀ a k, (m ((c : Thread nD τ).loc main_arg10) : FVec Ideal S4096x32 .f32) (ix2 a k) = (A.sn a k : EReal)

variable {m : (ℓ : Loc nD τ sig) → Buf (Elt Ideal) ℓ} {c : Dev nD} {A : PrepBwd.Args} (H : Agree m c A)

include H

theorem dq_host (j : Fin 1024) (a : Fin 8192) : (V m c main_v0 : FVec Ideal S1024x8192 .f32) (ix2 j a) = (A.dq a j : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a0]

theorem gq_host (z : Fin 1) (k : Fin 384) : (V m c main_v1 : FVec Ideal S1x384 .f32) (ix2 z k) = (A.gq k : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a5]

theorem gv_host (z : Fin 1) (k : Fin 256) : (V m c main_v2 : FVec Ideal S1x256 .f32) (ix2 z k) = (A.gv k : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a6]

theorem wq_host (i : Fin 1024) (k : Fin 384) : (V m c main_v7 : FVec Ideal S1024x384 .bf16) (ix2 i k) = (A.WQ i k : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a7]
  unfold Args.WQ
  split_ifs with h h' h'
  · rfl
  · exact absurd h.2 h'
  · exact absurd ⟨by omega, h'⟩ h
  · simp [FloatOps.sitofp]

theorem wv_host (k : Fin 256) (j : Fin 1024) : (V m c main_v14 : FVec Ideal S256x1024 .bf16) (ix2 k j) = (A.WV k j : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a8]
  unfold Args.WV
  split_ifs <;> rfl

theorem cs_host (p : Fin 4096) (l : Fin 128) : (V m c main_v16 : FVec Ideal S4096x128 .f32) (ix2 p l) = (A.cx p l : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a9]
  unfold Args.cx
  by_cases h : l.val < 32
  · simp only [h, dif_pos]
  · by_cases h' : l.val < 64
    · have e : l.val - 32 < 32 := by omega
      simp only [h, h', e, dif_pos, dif_neg, not_false_eq_true]
    · have e : ¬l.val - 32 < 32 := by omega
      simp only [h, h', e, dif_neg, not_false_eq_true]
      after_results_simp
      pointwise []
      simp

theorem sn_host (p : Fin 4096) (l : Fin 128) : (V m c main_v18 : FVec Ideal S4096x128 .f32) (ix2 p l) = (A.sx p l : EReal) := by
  simp only [V, hostOps0, hostOps0_1, hostOps0_2, List.flatten_cons, List.flatten_nil, List.cons_append, List.nil_append, List.append_nil]
  simp only [StableHlo.TRef.unary, StableHlo.TRef.binary, StableHlo.TRef.of]
  after_results_simp
  try simp only [StableHlo.TRef.toBuf, StableHlo.TRef.ofBuf, cast_eq]
  pointwise [H.a10]
  unfold Args.sx
  by_cases h : l.val < 32
  · simp only [h, dif_pos]
    after_results_simp
    pointwise [H.a10]
    exact (EReal.coe_neg _).symm
  · by_cases h' : l.val < 64
    · have e : l.val - 32 < 32 := by omega
      simp only [h, h', e, dif_pos, dif_neg, not_false_eq_true]
    · have e : ¬l.val - 32 < 32 := by omega
      simp only [h, h', e, dif_neg, not_false_eq_true]
      after_results_simp
      pointwise []
      simp

theorem b0 (t : Fin cfg0.N) (j : Fin 1024) (r : Fin 1024) : (iblk m c 0 t : FVec Ideal S1024x1024 .f32) (ix2 j r) = (A.dq (tok t r) j : EReal) := by
  refine Eq.trans (b := (V m c main_v0 : FVec Ideal S1024x8192 .f32) (ix2 j (tok t r))) ?_ (dq_host H _ _)
  blk_ext [iblk, idx t, tok]

theorem b5 (t : Fin cfg0.N) (z : Fin 1) (k : Fin 384) : (iblk m c 5 t : FVec Ideal S1x384 .f32) (ix2 z k) = (A.gq k : EReal) := by
  refine Eq.trans (b := (V m c main_v1 : FVec Ideal S1x384 .f32) (ix2 z k)) ?_ (gq_host H _ _)
  blk_ext [iblk, idx t, tok]

theorem b6 (t : Fin cfg0.N) (z : Fin 1) (k : Fin 256) : (iblk m c 6 t : FVec Ideal S1x256 .f32) (ix2 z k) = (A.gv k : EReal) := by
  refine Eq.trans (b := (V m c main_v2 : FVec Ideal S1x256 .f32) (ix2 z k)) ?_ (gv_host H _ _)
  blk_ext [iblk, idx t, tok]

theorem b7 (t : Fin cfg0.N) (i : Fin 1024) (k : Fin 384) : (iblk m c 7 t : FVec Ideal S1024x384 .bf16) (ix2 i k) = (A.WQ i k : EReal) := by
  refine Eq.trans (b := (V m c main_v7 : FVec Ideal S1024x384 .bf16) (ix2 i k)) ?_ (wq_host H _ _)
  blk_ext [iblk, idx t, tok]

theorem b8 (t : Fin cfg0.N) (k : Fin 256) (j : Fin 1024) : (iblk m c 8 t : FVec Ideal S256x1024 .bf16) (ix2 k j) = (A.WV k j : EReal) := by
  refine Eq.trans (b := (V m c main_v14 : FVec Ideal S256x1024 .bf16) (ix2 k j)) ?_ (wv_host H _ _)
  blk_ext [iblk, idx t, tok]

theorem b9 (t : Fin cfg0.N) (r : Fin 1024) (l : Fin 128) : (iblk m c 9 t : FVec Ideal S1024x128 .f32) (ix2 r l) = (A.cx (pos (tok t r)) l : EReal) := by
  refine Eq.trans (b := (V m c main_v16 : FVec Ideal S4096x128 .f32) (ix2 (pos (tok t r)) l)) ?_ (cs_host H _ _)
  blk_ext [iblk, idx t, pos_tok t r]

theorem b10 (t : Fin cfg0.N) (r : Fin 1024) (l : Fin 128) : (iblk m c 10 t : FVec Ideal S1024x128 .f32) (ix2 r l) = (A.sx (pos (tok t r)) l : EReal) := by
  refine Eq.trans (b := (V m c main_v18 : FVec Ideal S4096x128 .f32) (ix2 (pos (tok t r)) l)) ?_ (sn_host H _ _)
  blk_ext [iblk, idx t, pos_tok t r]

theorem b1 (t : Fin cfg0.N) (r : Fin 1024) (k : Fin 1024) : (iblk m c 1 t : FVec Ideal S1024x1024 .f32) (ix2 r k) = (A.dk (tok t r) k : EReal) := by
  refine Eq.trans (b := ((m ((c : Thread nD τ).loc main_arg1) : FVec Ideal S8192x1024 .f32)) (ix2 (tok t r) k)) ?_ (H.a1 _ _)
  blk_ext [iblk, V, idx t, tok]

theorem b2 (t : Fin cfg0.N) (r : Fin 1024) (k : Fin 512) : (iblk m c 2 t : FVec Ideal S1024x512 .f32) (ix2 r k) = (A.dv (tok t r) k : EReal) := by
  refine Eq.trans (b := ((m ((c : Thread nD τ).loc main_arg2) : FVec Ideal S8192x512 .f32)) (ix2 (tok t r) k)) ?_ (H.a2 _ _)
  blk_ext [iblk, V, idx t, tok]

theorem b3 (t : Fin cfg0.N) (r : Fin 1024) (k : Fin 384) : (iblk m c 3 t : FVec Ideal S1024x384 .f32) (ix2 r k) = (A.cq (tok t r) k : EReal) := by
  refine Eq.trans (b := ((m ((c : Thread nD τ).loc main_arg3) : FVec Ideal S8192x384 .f32)) (ix2 (tok t r) k)) ?_ (H.a3 _ _)
  blk_ext [iblk, V, idx t, tok]

theorem b4 (t : Fin cfg0.N) (r : Fin 1024) (k : Fin 256) : (iblk m c 4 t : FVec Ideal S1024x256 .f32) (ix2 r k) = (A.ckv (tok t r) k : EReal) := by
  refine Eq.trans (b := ((m ((c : Thread nD τ).loc main_arg4) : FVec Ideal S8192x256 .f32)) (ix2 (tok t r) k)) ?_ (H.a4 _ _)
  blk_ext [iblk, V, idx t, tok]

end Cert.PrepBwd.Ker
end
end
-- ==== Proof.PrepBwd.Final.lean ====
/- The output arrays after the run, over real arguments. -/
module

public import proofs.«01_k».proof.Proof.PrepBwd.Blocks

@[expose] public section

set_option maxRecDepth 16384

noncomputable section

namespace Cert.PrepBwd.Ker

open Cert.KernelPrepBwdIdeal Cert.KernelPrepBwdIdeal.Gen
open Cert.Ffn (sumE addE arr2 arr2_ext)
open Cert.Prep (pos vc)
open Idealize.ShloMosaic Idealize.ShloMosaic.TcCoe Idealize.SL.Sem

variable {m : (ℓ : Loc nD τ sig) → Buf (Elt Ideal) ℓ} {c : Dev nD} {A : PrepBwd.Args} (H : Agree m c A)

theorem first (t : Fin cfg0.N) (h : t.val % 8 = 0) : ¬1 ≤ t.val := by
  have : t.val < 8 := lt_of_lt_of_eq t.isLt N_0
  omega

theorem later (t : Fin cfg0.N) (h : ¬t.val % 8 = 0) : 1 ≤ t.val := by omega

theorem row_eq {t : Fin cfg0.N} {a r : Fin 1024} (h : a.val = r.val) : tok t r = tok t a := congrArg (tok t) (Fin.ext h.symm)

include H

theorem l0_0 (t : Fin cfg0.N) (i : Fin 256) (r : Fin 1024) :
    (View.ld (iblk m c 0 t) (Rect.unit ![0, 0] ![256, 1024] inb_S1024x1024_S256x1024_0_0) : FVec Ideal S256x1024 .f32) (ix2 i r) = (A.dq (tok t r) (vc 0 i) : EReal) := by
  pointwise [b0 H t]
  exact congrArg (fun i => (A.dq (tok t r) i : EReal)) (Fin.ext (show i.val = 0 * 256 + i.val by omega))

theorem l1_0 (t : Fin cfg0.N) (r : Fin 1024) (l : Fin 128) :
    (View.ld (iblk m c 1 t) (Rect.unit ![0, 0] ![1024, 128] inb_S1024x1024_S1024x128_0_0) : FVec Ideal S1024x128 .f32) (ix2 r l) = (A.dk (tok t r) (vc 0 (pl l)) : EReal) := by
  pointwise [b1 H t]
  exact congrArg (fun i => (A.dk (tok t r) i : EReal)) (Fin.ext (show l.val = 0 * 256 + l.val by omega))

theorem l1r_0 (t : Fin cfg0.N) (r : Fin 1024) (l : Fin 128) :
    (View.ld (iblk m c 1 t) (Rect.unit ![0, 128] ![1024, 128] inb_S1024x1024_S1024x128_0_128) : FVec Ideal S1024x128 .f32) (ix2 r l) = (A.dk (tok t r) (vc 0 (rl l)) : EReal) := by
  pointwise [b1 H t]
  exact congrArg (fun i => (A.dk (tok t r) i : EReal)) (Fin.ext (show 128 + l.val = 0 * 256 + (128 + l.val) by omega))

theorem l7_0 (t : Fin cfg0.N) (l : Fin 128) (k : Fin 384) :
    (View.ld (iblk m c 7 t) (Rect.unit ![0, 0] ![128, 384] inb_S1024x384_S128x384_0_0) : FVec Ideal S128x384 .bf16) (ix2 l k) = (A.WQ (vc 0 (pl l)) k : EReal) := by
  pointwise [b7 H t]
  exact congrArg (fun i => (A.WQ i k : EReal)) (Fin.ext (show l.val = 0 * 256 + l.val by omega))

theorem l7r_0 (t : Fin cfg0.N) (l : Fin 128) (k : Fin 384) :
    (View.ld (iblk m c 7 t) (Rect.unit ![128, 0] ![128, 384] inb_S1024x384_S128x384_128_0) : FVec Ideal S128x384 .bf16) (ix2 l k) = (A.WQ (vc 0 (rl l)) k : EReal) := by
  pointwise [b7 H t]
  exact congrArg (fun i => (A.WQ i k : EReal)) (Fin.ext (show 128 + l.val = 0 * 256 + (128 + l.val) by omega))

theorem l8_0 (t : Fin cfg0.N) (k : Fin 256) (l : Fin 128) :
    (View.ld (iblk m c 8 t) (Rect.unit ![0, 0] ![256, 128] inb_S256x1024_S256x128_0_0) : FVec Ideal S256x128 .bf16) (ix2 k l) = (A.WV k (kc 0 l) : EReal) := by
  pointwise [b8 H t]
  exact congrArg (fun i => (A.WV k i : EReal)) (Fin.ext (show l.val = 0 * 128 + l.val by omega))

theorem l0_1 (t : Fin cfg0.N) (i : Fin 256) (r : Fin 1024) :
    (View.ld (iblk m c 0 t) (Rect.unit ![256, 0] ![256, 1024] inb_S1024x1024_S256x1024_256_0) : FVec Ideal S256x1024 .f32) (ix2 i r) = (A.dq (tok t r) (vc 1 i) : EReal) := by
  pointwise [b0 H t]
  exact congrArg (fun i => (A.dq (tok t r) i : EReal)) (Fin.ext (show 256 + i.val = 1 * 256 + i.val by omega))

theorem l1_1 (t : Fin cfg0.N) (r : Fin 1024) (l : Fin 128) :
    (View.ld (iblk m c 1 t) (Rect.unit ![0, 256] ![1024, 128] inb_S1024x1024_S1024x128_0_256) : FVec Ideal S1024x128 .f32) (ix2 r l) = (A.dk (tok t r) (vc 1 (pl l)) : EReal) := by
  pointwise [b1 H t]
  exact congrArg (fun i => (A.dk (tok t r) i : EReal)) (Fin.ext (show 256 + l.val = 1 * 256 + l.val by omega))

theorem l1r_1 (t : Fin cfg0.N) (r : Fin 1024) (l : Fin 128) :
    (View.ld (iblk m c 1 t) (Rect.unit ![0, 384] ![1024, 128] inb_S1024x1024_S1024x128_0_384) : FVec Ideal S1024x128 .f32) (ix2 r l) = (A.dk (tok t r) (vc 1 (rl l)) : EReal) := by
  pointwise [b1 H t]
  exact congrArg (fun i => (A.dk (tok t r) i : EReal)) (Fin.ext (show 384 + l.val = 1 * 256 + (128 + l.val) by omega))

theorem l7_1 (t : Fin cfg0.N) (l : Fin 128) (k : Fin 384) :
    (View.ld (iblk m c 7 t) (Rect.unit ![256, 0] ![128, 384] inb_S1024x384_S128x384_256_0) : FVec Ideal S128x384 .bf16) (ix2 l k) = (A.WQ (vc 1 (pl l)) k : EReal) := by
  pointwise [b7 H t]
  exact congrArg (fun i => (A.WQ i k : EReal)) (Fin.ext (show 256 + l.val = 1 * 256 + l.val by omega))

theorem l7r_1 (t : Fin cfg0.N) (l : Fin 128) (k : Fin 384) :
    (View.ld (iblk m c 7 t) (Rect.unit ![384, 0] ![128, 384] inb_S1024x384_S128x384_384_0) : FVec Ideal S128x384 .bf16) (ix2 l k) = (A.WQ (vc 1 (rl l)) k : EReal) := by
  pointwise [b7 H t]
  exact congrArg (fun i => (A.WQ i k : EReal)) (Fin.ext (show 384 + l.val = 1 * 256 + (128 + l.val) by omega))

theorem l8_1 (t : Fin cfg0.N) (k : Fin 256) (l : Fin 128) :
    (View.ld (iblk m c 8 t) (Rect.unit ![0, 128] ![256, 128] inb_S256x1024_S256x128_0_128) : FVec Ideal S256x128 .bf16) (ix2 k l) = (A.WV k (kc 1 l) : EReal) := by
  pointwise [b8 H t]
  exact congrArg (fun i => (A.WV k i : EReal)) (Fin.ext (show 128 + l.val = 1 * 128 + l.val by omega))

theorem l0_2 (t : Fin cfg0.N) (i : Fin 256) (r : Fin 1024) :
    (View.ld (iblk m c 0 t) (Rect.unit ![512, 0] ![256, 1024] inb_S1024x1024_S256x1024_512_0) : FVec Ideal S256x1024 .f32) (ix2 i r) = (A.dq (tok t r) (vc 2 i) : EReal) := by
  pointwise [b0 H t]
  exact congrArg (fun i => (A.dq (tok t r) i : EReal)) (Fin.ext (show 512 + i.val = 2 * 256 + i.val by omega))

theorem l1_2 (t : Fin cfg0.N) (r : Fin 1024) (l : Fin 128) :
    (View.ld (iblk m c 1 t) (Rect.unit ![0, 512] ![1024, 128] inb_S1024x1024_S1024x128_0_512) : FVec Ideal S1024x128 .f32) (ix2 r l) = (A.dk (tok t r) (vc 2 (pl l)) : EReal) := by
  pointwise [b1 H t]
  exact congrArg (fun i => (A.dk (tok t r) i : EReal)) (Fin.ext (show 512 + l.val = 2 * 256 + l.val by omega))

theorem l1r_2 (t : Fin cfg0.N) (r : Fin 1024) (l : Fin 128) :
    (View.ld (iblk m c 1 t) (Rect.unit ![0, 640] ![1024, 128] inb_S1024x1024_S1024x128_0_640) : FVec Ideal S1024x128 .f32) (ix2 r l) = (A.dk (tok t r) (vc 2 (rl l)) : EReal) := by
  pointwise [b1 H t]
  exact congrArg (fun i => (A.dk (tok t r) i : EReal)) (Fin.ext (show 640 + l.val = 2 * 256 + (128 + l.val) by omega))

theorem l7_2 (t : Fin cfg0.N) (l : Fin 128) (k : Fin 384) :
    (View.ld (iblk m c 7 t) (Rect.unit ![512, 0] ![128, 384] inb_S1024x384_S128x384_512_0) : FVec Ideal S128x384 .bf16) (ix2 l k) = (A.WQ (vc 2 (pl l)) k : EReal) := by
  pointwise [b7 H t]
  exact congrArg (fun i => (A.WQ i k : EReal)) (Fin.ext (show 512 + l.val = 2 * 256 + l.val by omega))

theorem l7r_2 (t : Fin cfg0.N) (l : Fin 128) (k : Fin 384) :
    (View.ld (iblk m c 7 t) (Rect.unit ![640, 0] ![128, 384] inb_S1024x384_S128x384_640_0) : FVec Ideal S128x384 .bf16) (ix2 l k) = (A.WQ (vc 2 (rl l)) k : EReal) := by
  pointwise [b7 H t]
  exact congrArg (fun i => (A.WQ i k : EReal)) (Fin.ext (show 640 + l.val = 2 * 256 + (128 + l.val) by omega))

theorem l8_2 (t : Fin cfg0.N) (k : Fin 256) (l : Fin 128) :
    (View.ld (iblk m c 8 t) (Rect.unit ![0, 256] ![256, 128] inb_S256x1024_S256x128_0_256) : FVec Ideal S256x128 .bf16) (ix2 k l) = (A.WV k (kc 2 l) : EReal) := by
  pointwise [b8 H t]
  exact congrArg (fun i => (A.WV k i : EReal)) (Fin.ext (show 256 + l.val = 2 * 128 + l.val by omega))

theorem l0_3 (t : Fin cfg0.N) (i : Fin 256) (r : Fin 1024) :
    (View.ld (iblk m c 0 t) (Rect.unit ![768, 0] ![256, 1024] inb_S1024x1024_S256x1024_768_0) : FVec Ideal S256x1024 .f32) (ix2 i r) = (A.dq (tok t r) (vc 3 i) : EReal) := by
  pointwise [b0 H t]
  exact congrArg (fun i => (A.dq (tok t r) i : EReal)) (Fin.ext (show 768 + i.val = 3 * 256 + i.val by omega))

theorem l1_3 (t : Fin cfg0.N) (r : Fin 1024) (l : Fin 128) :
    (View.ld (iblk m c 1 t) (Rect.unit ![0, 768] ![1024, 128] inb_S1024x1024_S1024x128_0_768) : FVec Ideal S1024x128 .f32) (ix2 r l) = (A.dk (tok t r) (vc 3 (pl l)) : EReal) := by
  pointwise [b1 H t]
  exact congrArg (fun i => (A.dk (tok t r) i : EReal)) (Fin.ext (show 768 + l.val = 3 * 256 + l.val by omega))

theorem l1r_3 (t : Fin cfg0.N) (r : Fin 1024) (l : Fin 128) :
    (View.ld (iblk m c 1 t) (Rect.unit ![0, 896] ![1024, 128] inb_S1024x1024_S1024x128_0_896) : FVec Ideal S1024x128 .f32) (ix2 r l) = (A.dk (tok t r) (vc 3 (rl l)) : EReal) := by
  pointwise [b1 H t]
  exact congrArg (fun i => (A.dk (tok t r) i : EReal)) (Fin.ext (show 896 + l.val = 3 * 256 + (128 + l.val) by omega))

theorem l7_3 (t : Fin cfg0.N) (l : Fin 128) (k : Fin 384) :
    (View.ld (iblk m c 7 t) (Rect.unit ![768, 0] ![128, 384] inb_S1024x384_S128x384_768_0) : FVec Ideal S128x384 .bf16) (ix2 l k) = (A.WQ (vc 3 (pl l)) k : EReal) := by
  pointwise [b7 H t]
  exact congrArg (fun i => (A.WQ i k : EReal)) (Fin.ext (show 768 + l.val = 3 * 256 + l.val by omega))

theorem l7r_3 (t : Fin cfg0.N) (l : Fin 128) (k : Fin 384) :
    (View.ld (iblk m c 7 t) (Rect.unit ![896, 0] ![128, 384] inb_S1024x384_S128x384_896_0) : FVec Ideal S128x384 .bf16) (ix2 l k) = (A.WQ (vc 3 (rl l)) k : EReal) := by
  pointwise [b7 H t]
  exact congrArg (fun i => (A.WQ i k : EReal)) (Fin.ext (show 896 + l.val = 3 * 256 + (128 + l.val) by omega))

theorem l8_3 (t : Fin cfg0.N) (k : Fin 256) (l : Fin 128) :
    (View.ld (iblk m c 8 t) (Rect.unit ![0, 384] ![256, 128] inb_S256x1024_S256x128_0_384) : FVec Ideal S256x128 .bf16) (ix2 k l) = (A.WV k (kc 3 l) : EReal) := by
  pointwise [b8 H t]
  exact congrArg (fun i => (A.WV k i : EReal)) (Fin.ext (show 384 + l.val = 3 * 128 + l.val by omega))

theorem l8v (t : Fin cfg0.N) (k : Fin 256) (j : Fin 512) :
    (View.ld (iblk m c 8 t) (Rect.unit ![0, 512] ![256, 512] inb_S256x1024_S256x512_0_512) : FVec Ideal S256x512 .bf16) (ix2 k j) = (A.WV k (vl j) : EReal) := by
  pointwise [b8 H t]
  rfl

theorem out11 (t : Fin cfg0.N) (y : S1024x384.Idx) :
    ((outsAt0 m c t.val t.isLt).1 : FVec Ideal S1024x384 .bf16) y = (A.dcq (tok t (y 0)) (y 1) : EReal) := by
  by_cases g : t.val % 8 = 0
  · rw [outsAt0_A m c t g (first t g) g (first t g)]; frame_out
    idx_vars y
    exact p45 (A := A) (ρ := tok t) (fun r k => (p31 (A := A) (ρ := tok t) (fun r l => (p6 _ r l).trans (b9 H t r l)) (fun r l => (p7 _ r l).trans (b10 H t r l)) (l0_3 H t) (l7_3 H t) (l7r_3 H t) (p24 (A := A) (ρ := tok t) (fun r l => (p6 _ r l).trans (b9 H t r l)) (fun r l => (p7 _ r l).trans (b10 H t r l)) (l0_2 H t) (l7_2 H t) (l7r_2 H t) (p17 (A := A) (ρ := tok t) (fun r l => (p6 _ r l).trans (b9 H t r l)) (fun r l => (p7 _ r l).trans (b10 H t r l)) (l0_1 H t) (l7_1 H t) (l7r_1 H t) (p11 (A := A) (ρ := tok t) (b9 H t) (b10 H t) (l0_0 H t) (l7_0 H t) (l7r_0 H t)))) r k).trans (congrArg _ (A.dcqn_eq (tok t r) k))) (b3 H t) (p36 (A := A) (b5 H t)) (p37 (A := A) (ρ := tok t) (b3 H t)) y0 y1
  · rw [outsAt0_B m c t g (later t g) g (later t g)]; frame_out
    idx_vars y
    exact p45 (A := A) (ρ := tok t) (fun r k => (p31 (A := A) (ρ := tok t) (fun r l => (p6 _ r l).trans (b9 H t r l)) (fun r l => (p7 _ r l).trans (b10 H t r l)) (l0_3 H t) (l7_3 H t) (l7r_3 H t) (p24 (A := A) (ρ := tok t) (fun r l => (p6 _ r l).trans (b9 H t r l)) (fun r l => (p7 _ r l).trans (b10 H t r l)) (l0_2 H t) (l7_2 H t) (l7r_2 H t) (p17 (A := A) (ρ := tok t) (fun r l => (p6 _ r l).trans (b9 H t r l)) (fun r l => (p7 _ r l).trans (b10 H t r l)) (l0_1 H t) (l7_1 H t) (l7r_1 H t) (p11 (A := A) (ρ := tok t) (b9 H t) (b10 H t) (l0_0 H t) (l7_0 H t) (l7r_0 H t)))) r k).trans (congrArg _ (A.dcqn_eq (tok t r) k))) (b3 H t) (p36 (A := A) (b5 H t)) (p37 (A := A) (ρ := tok t) (b3 H t)) y0 y1

theorem out12 (t : Fin cfg0.N) (y : S1024x256.Idx) :
    ((outsAt0 m c t.val t.isLt).2.1 : FVec Ideal S1024x256 .bf16) y = (A.dckv (tok t (y 0)) (y 1) : EReal) := by
  by_cases g : t.val % 8 = 0
  · rw [outsAt0_A m c t g (first t g) g (first t g)]; frame_out
    idx_vars y
    exact (p1 _ y0 y1).trans (p43 (A := A) (ρ := tok t) (p34 (A := A) (ρ := tok t) (p26 (A := A) (ρ := tok t) (h := 2) (fun r l => (p25 _ r l).trans (l1_2 H t r l)) (l8_2 H t) (p19 (A := A) (ρ := tok t) (h := 1) (fun r l => (p18 _ r l).trans (l1_1 H t r l)) (l8_1 H t) (p13 (A := A) (ρ := tok t) (h := 0) (fun r l => (p12 _ r l).trans (l1_0 H t r l)) (l8_0 H t)))) (l1_3 H t) (l8_3 H t) (b2 H t) (l8v H t)) (b4 H t) (b6 H t) y0 y1)
  · rw [outsAt0_B m c t g (later t g) g (later t g)]; frame_out
    idx_vars y
    exact (p1 _ y0 y1).trans (p43 (A := A) (ρ := tok t) (p34 (A := A) (ρ := tok t) (p26 (A := A) (ρ := tok t) (h := 2) (fun r l => (p25 _ r l).trans (l1_2 H t r l)) (l8_2 H t) (p19 (A := A) (ρ := tok t) (h := 1) (fun r l => (p18 _ r l).trans (l1_1 H t r l)) (l8_1 H t) (p13 (A := A) (ρ := tok t) (h := 0) (fun r l => (p12 _ r l).trans (l1_0 H t r l)) (l8_0 H t)))) (l1_3 H t) (l8_3 H t) (b2 H t) (l8v H t)) (b4 H t) (b6 H t) y0 y1)

theorem out13 (t : Fin cfg0.N) (y : S1024x128.Idx) :
    ((outsAt0 m c t.val t.isLt).2.2.1 : FVec Ideal S1024x128 .bf16) y = (A.dkr (tok t (y 0)) (y 1) : EReal) := by
  by_cases g : t.val % 8 = 0
  · rw [outsAt0_A m c t g (first t g) g (first t g)]; frame_out
    idx_vars y
    exact p35 (A := A) (ρ := tok t) (fun r l => (p6 _ r l).trans (b9 H t r l)) (fun r l => (p7 _ r l).trans (b10 H t r l)) (p27 (A := A) (ρ := tok t) (p20 (A := A) (ρ := tok t) (l1r_0 H t) (l1r_1 H t)) (l1r_2 H t)) (l1r_3 H t) y0 y1
  · rw [outsAt0_B m c t g (later t g) g (later t g)]; frame_out
    idx_vars y
    exact p35 (A := A) (ρ := tok t) (fun r l => (p6 _ r l).trans (b9 H t r l)) (fun r l => (p7 _ r l).trans (b10 H t r l)) (p27 (A := A) (ρ := tok t) (p20 (A := A) (ρ := tok t) (l1r_0 H t) (l1r_1 H t)) (l1r_2 H t)) (l1r_3 H t) y0 y1

theorem out14 (t : Fin cfg0.N) (y : S1024x1024.Idx) :
    ((outsAt0 m c t.val t.isLt).2.2.2.1 : FVec Ideal S1024x1024 .bf16) y = (A.dqp (tok t (y 0)) (y 1) : EReal) := by
  by_cases g : t.val % 8 = 0
  · rw [outsAt0_A m c t g (first t g) g (first t g)]; frame_out
    canon_tiles x h
    · idx_vars x
      refine (p30 (A := A) (ρ := tok t) (fun r l => (p6 _ r l).trans (b9 H t r l)) (fun r l => (p7 _ r l).trans (b10 H t r l)) (l0_3 H t) x0 x1).trans ?_
      exact (congrArg (fun a => (A.dqr a 3 x1 : EReal)) (row_eq h0)).trans (congrArg _ (A.dqp_hi _ 3 x1 (h1.trans (show 896 + x1.val = 3 * 256 + 128 + x1.val by omega)))).symm
    · idx_vars x
      refine (p29 (A := A) (ρ := tok t) (l0_3 H t) x0 x1).trans ?_
      exact (congrArg (fun a => (A.dq a (vc 3 (pl x1)) : EReal)) (row_eq h0)).trans (congrArg _ (A.dqp_lo _ 3 x1 (h1.trans (show 768 + x1.val = 3 * 256 + x1.val by omega)))).symm
    · idx_vars x
      refine (p23 (A := A) (ρ := tok t) (fun r l => (p6 _ r l).trans (b9 H t r l)) (fun r l => (p7 _ r l).trans (b10 H t r l)) (l0_2 H t) x0 x1).trans ?_
      exact (congrArg (fun a => (A.dqr a 2 x1 : EReal)) (row_eq h0)).trans (congrArg _ (A.dqp_hi _ 2 x1 (h1.trans (show 640 + x1.val = 2 * 256 + 128 + x1.val by omega)))).symm
    · idx_vars x
      refine (p22 (A := A) (ρ := tok t) (l0_2 H t) x0 x1).trans ?_
      exact (congrArg (fun a => (A.dq a (vc 2 (pl x1)) : EReal)) (row_eq h0)).trans (congrArg _ (A.dqp_lo _ 2 x1 (h1.trans (show 512 + x1.val = 2 * 256 + x1.val by omega)))).symm
    · idx_vars x
      refine (p16 (A := A) (ρ := tok t) (fun r l => (p6 _ r l).trans (b9 H t r l)) (fun r l => (p7 _ r l).trans (b10 H t r l)) (l0_1 H t) x0 x1).trans ?_
      exact (congrArg (fun a => (A.dqr a 1 x1 : EReal)) (row_eq h0)).trans (congrArg _ (A.dqp_hi _ 1 x1 (h1.trans (show 384 + x1.val = 1 * 256 + 128 + x1.val by omega)))).symm
    · idx_vars x
      refine (p15 (A := A) (ρ := tok t) (l0_1 H t) x0 x1).trans ?_
      exact (congrArg (fun a => (A.dq a (vc 1 (pl x1)) : EReal)) (row_eq h0)).trans (congrArg _ (A.dqp_lo _ 1 x1 (h1.trans (show 256 + x1.val = 1 * 256 + x1.val by omega)))).symm
    · idx_vars x
      refine (p10 (A := A) (ρ := tok t) (b9 H t) (b10 H t) (l0_0 H t) x0 x1).trans ?_
      exact (congrArg (fun a => (A.dqr a 0 x1 : EReal)) (row_eq h0)).trans (congrArg _ (A.dqp_hi _ 0 x1 (h1.trans (show 128 + x1.val = 0 * 256 + 128 + x1.val by omega)))).symm
    · idx_vars x
      refine (p9 (A := A) (ρ := tok t) (l0_0 H t) x0 x1).trans ?_
      exact (congrArg (fun a => (A.dq a (vc 0 (pl x1)) : EReal)) (row_eq h0)).trans (congrArg _ (A.dqp_lo _ 0 x1 (h1.trans (show x1.val = 0 * 256 + x1.val by omega)))).symm
  · rw [outsAt0_B m c t g (later t g) g (later t g)]; frame_out
    canon_tiles x h
    · idx_vars x
      refine (p30 (A := A) (ρ := tok t) (fun r l => (p6 _ r l).trans (b9 H t r l)) (fun r l => (p7 _ r l).trans (b10 H t r l)) (l0_3 H t) x0 x1).trans ?_
      exact (congrArg (fun a => (A.dqr a 3 x1 : EReal)) (row_eq h0)).trans (congrArg _ (A.dqp_hi _ 3 x1 (h1.trans (show 896 + x1.val = 3 * 256 + 128 + x1.val by omega)))).symm
    · idx_vars x
      refine (p29 (A := A) (ρ := tok t) (l0_3 H t) x0 x1).trans ?_
      exact (congrArg (fun a => (A.dq a (vc 3 (pl x1)) : EReal)) (row_eq h0)).trans (congrArg _ (A.dqp_lo _ 3 x1 (h1.trans (show 768 + x1.val = 3 * 256 + x1.val by omega)))).symm
    · idx_vars x
      refine (p23 (A := A) (ρ := tok t) (fun r l => (p6 _ r l).trans (b9 H t r l)) (fun r l => (p7 _ r l).trans (b10 H t r l)) (l0_2 H t) x0 x1).trans ?_
      exact (congrArg (fun a => (A.dqr a 2 x1 : EReal)) (row_eq h0)).trans (congrArg _ (A.dqp_hi _ 2 x1 (h1.trans (show 640 + x1.val = 2 * 256 + 128 + x1.val by omega)))).symm
    · idx_vars x
      refine (p22 (A := A) (ρ := tok t) (l0_2 H t) x0 x1).trans ?_
      exact (congrArg (fun a => (A.dq a (vc 2 (pl x1)) : EReal)) (row_eq h0)).trans (congrArg _ (A.dqp_lo _ 2 x1 (h1.trans (show 512 + x1.val = 2 * 256 + x1.val by omega)))).symm
    · idx_vars x
      refine (p16 (A := A) (ρ := tok t) (fun r l => (p6 _ r l).trans (b9 H t r l)) (fun r l => (p7 _ r l).trans (b10 H t r l)) (l0_1 H t) x0 x1).trans ?_
      exact (congrArg (fun a => (A.dqr a 1 x1 : EReal)) (row_eq h0)).trans (congrArg _ (A.dqp_hi _ 1 x1 (h1.trans (show 384 + x1.val = 1 * 256 + 128 + x1.val by omega)))).symm
    · idx_vars x
      refine (p15 (A := A) (ρ := tok t) (l0_1 H t) x0 x1).trans ?_
      exact (congrArg (fun a => (A.dq a (vc 1 (pl x1)) : EReal)) (row_eq h0)).trans (congrArg _ (A.dqp_lo _ 1 x1 (h1.trans (show 256 + x1.val = 1 * 256 + x1.val by omega)))).symm
    · idx_vars x
      refine (p10 (A := A) (ρ := tok t) (b9 H t) (b10 H t) (l0_0 H t) x0 x1).trans ?_
      exact (congrArg (fun a => (A.dqr a 0 x1 : EReal)) (row_eq h0)).trans (congrArg _ (A.dqp_hi _ 0 x1 (h1.trans (show 128 + x1.val = 0 * 256 + 128 + x1.val by omega)))).symm
    · idx_vars x
      refine (p9 (A := A) (ρ := tok t) (l0_0 H t) x0 x1).trans ?_
      exact (congrArg (fun a => (A.dq a (vc 0 (pl x1)) : EReal)) (row_eq h0)).trans (congrArg _ (A.dqp_lo _ 0 x1 (h1.trans (show x1.val = 0 * 256 + x1.val by omega)))).symm

theorem out15 (t : Fin cfg0.N) (y : S1024x1024.Idx) :
    ((outsAt0 m c t.val t.isLt).2.2.2.2.1 : FVec Ideal S1024x1024 .bf16) y = (A.dkp (tok t (y 0)) (y 1) : EReal) := by
  by_cases g : t.val % 8 = 0
  · rw [outsAt0_A m c t g (first t g) g (first t g)]; frame_out
    canon_tiles x h using (View.cover_of_tiledBy _ ![1024, 128] (by sl_kernel_rfl) y)
    · idx_vars x
      refine ((p33 _ x0 x1).trans (b2 H t x0 x1)).trans ?_
      exact (congrArg (fun a => (A.dv a x1 : EReal)) (row_eq h0)).trans (congrArg _ (A.dkp_hi _ x1 h1)).symm
    · idx_vars x
      refine ((p32 _ x0 x1).trans (l1_3 H t x0 x1)).trans ?_
      exact (congrArg (fun a => (A.dk a (vc 3 (pl x1)) : EReal)) (row_eq h0)).trans (congrArg _ (A.dkp_lo _ 3 x1 (h1.trans (show 384 + x1.val = 3 * 128 + x1.val by omega)))).symm
    · idx_vars x
      refine ((p25 _ x0 x1).trans (l1_2 H t x0 x1)).trans ?_
      exact (congrArg (fun a => (A.dk a (vc 2 (pl x1)) : EReal)) (row_eq h0)).trans (congrArg _ (A.dkp_lo _ 2 x1 (h1.trans (show 256 + x1.val = 2 * 128 + x1.val by omega)))).symm
    · idx_vars x
      refine ((p18 _ x0 x1).trans (l1_1 H t x0 x1)).trans ?_
      exact (congrArg (fun a => (A.dk a (vc 1 (pl x1)) : EReal)) (row_eq h0)).trans (congrArg _ (A.dkp_lo _ 1 x1 (h1.trans (show 128 + x1.val = 1 * 128 + x1.val by omega)))).symm
    · idx_vars x
      refine ((p12 _ x0 x1).trans (l1_0 H t x0 x1)).trans ?_
      exact (congrArg (fun a => (A.dk a (vc 0 (pl x1)) : EReal)) (row_eq h0)).trans (congrArg _ (A.dkp_lo _ 0 x1 (h1.trans (show x1.val = 0 * 128 + x1.val by omega)))).symm
  · rw [outsAt0_B m c t g (later t g) g (later t g)]; frame_out
    canon_tiles x h using (View.cover_of_tiledBy _ ![1024, 128] (by sl_kernel_rfl) y)
    · idx_vars x
      refine ((p33 _ x0 x1).trans (b2 H t x0 x1)).trans ?_
      exact (congrArg (fun a => (A.dv a x1 : EReal)) (row_eq h0)).trans (congrArg _ (A.dkp_hi _ x1 h1)).symm
    · idx_vars x
      refine ((p32 _ x0 x1).trans (l1_3 H t x0 x1)).trans ?_
      exact (congrArg (fun a => (A.dk a (vc 3 (pl x1)) : EReal)) (row_eq h0)).trans (congrArg _ (A.dkp_lo _ 3 x1 (h1.trans (show 384 + x1.val = 3 * 128 + x1.val by omega)))).symm
    · idx_vars x
      refine ((p25 _ x0 x1).trans (l1_2 H t x0 x1)).trans ?_
      exact (congrArg (fun a => (A.dk a (vc 2 (pl x1)) : EReal)) (row_eq h0)).trans (congrArg _ (A.dkp_lo _ 2 x1 (h1.trans (show 256 + x1.val = 2 * 128 + x1.val by omega)))).symm
    · idx_vars x
      refine ((p18 _ x0 x1).trans (l1_1 H t x0 x1)).trans ?_
      exact (congrArg (fun a => (A.dk a (vc 1 (pl x1)) : EReal)) (row_eq h0)).trans (congrArg _ (A.dkp_lo _ 1 x1 (h1.trans (show 128 + x1.val = 1 * 128 + x1.val by omega)))).symm
    · idx_vars x
      refine ((p12 _ x0 x1).trans (l1_0 H t x0 x1)).trans ?_
      exact (congrArg (fun a => (A.dk a (vc 0 (pl x1)) : EReal)) (row_eq h0)).trans (congrArg _ (A.dkp_lo _ 0 x1 (h1.trans (show x1.val = 0 * 128 + x1.val by omega)))).symm

/-! ## The gains' gradients -/

theorem first16 (t : Fin cfg0.N) (h : t.val % 8 = 0) (z : Fin 1) (k : Fin 384) :
    ((outsAt0 m c t.val t.isLt).2.2.2.2.2.1 : FVec Ideal S1x384 .f32) (ix2 z k) = ((∑ r, A.dgqRow (tok t r) k : ℝ) : EReal) := by
  rw [outsAt0_A m c t h (first t h) h (first t h)]; frame_out
  exact p2 (s := fun r k => A.dgqRow (tok t r) k) (p40 (A := A) (ρ := tok t) (fun r k => (p31 (A := A) (ρ := tok t) (fun r l => (p6 _ r l).trans (b9 H t r l)) (fun r l => (p7 _ r l).trans (b10 H t r l)) (l0_3 H t) (l7_3 H t) (l7r_3 H t) (p24 (A := A) (ρ := tok t) (fun r l => (p6 _ r l).trans (b9 H t r l)) (fun r l => (p7 _ r l).trans (b10 H t r l)) (l0_2 H t) (l7_2 H t) (l7r_2 H t) (p17 (A := A) (ρ := tok t) (fun r l => (p6 _ r l).trans (b9 H t r l)) (fun r l => (p7 _ r l).trans (b10 H t r l)) (l0_1 H t) (l7_1 H t) (l7r_1 H t) (p11 (A := A) (ρ := tok t) (b9 H t) (b10 H t) (l0_0 H t) (l7_0 H t) (l7r_0 H t)))) r k).trans (congrArg _ (A.dcqn_eq (tok t r) k))) (b3 H t) (p37 (A := A) (ρ := tok t) (b3 H t))) z k

theorem step16 (t : Fin cfg0.N) (h : ¬t.val % 8 = 0) (z : Fin 1) (k : Fin 384) :
    ((outsAt0 m c t.val t.isLt).2.2.2.2.2.1 : FVec Ideal S1x384 .f32) (ix2 z k) = ((outsAt0 m c (t.val - 1) (by omega)).2.2.2.2.2.1 : FVec Ideal S1x384 .f32) (ix2 z k) + ((∑ r, A.dgqRow (tok t r) k : ℝ) : EReal) := by
  rw [outsAt0_B m c t h (later t h) h (later t h)]; frame_out
  exact p3 (s := fun r k => A.dgqRow (tok t r) k) (p40 (A := A) (ρ := tok t) (fun r k => (p31 (A := A) (ρ := tok t) (fun r l => (p6 _ r l).trans (b9 H t r l)) (fun r l => (p7 _ r l).trans (b10 H t r l)) (l0_3 H t) (l7_3 H t) (l7r_3 H t) (p24 (A := A) (ρ := tok t) (fun r l => (p6 _ r l).trans (b9 H t r l)) (fun r l => (p7 _ r l).trans (b10 H t r l)) (l0_2 H t) (l7_2 H t) (l7r_2 H t) (p17 (A := A) (ρ := tok t) (fun r l => (p6 _ r l).trans (b9 H t r l)) (fun r l => (p7 _ r l).trans (b10 H t r l)) (l0_1 H t) (l7_1 H t) (l7r_1 H t) (p11 (A := A) (ρ := tok t) (b9 H t) (b10 H t) (l0_0 H t) (l7_0 H t) (l7r_0 H t)))) r k).trans (congrArg _ (A.dcqn_eq (tok t r) k))) (b3 H t) (p37 (A := A) (ρ := tok t) (b3 H t))) _ z k

theorem first17 (t : Fin cfg0.N) (h : t.val % 8 = 0) (z : Fin 1) (k : Fin 256) :
    ((outsAt0 m c t.val t.isLt).2.2.2.2.2.2 : FVec Ideal S1x256 .f32) (ix2 z k) = ((∑ r, A.dgvRow (tok t r) k : ℝ) : EReal) := by
  rw [outsAt0_A m c t h (first t h) h (first t h)]; frame_out
  exact p4 (s := fun r k => A.dgvRow (tok t r) k) (p44 (A := A) (ρ := tok t) (p34 (A := A) (ρ := tok t) (p26 (A := A) (ρ := tok t) (h := 2) (fun r l => (p25 _ r l).trans (l1_2 H t r l)) (l8_2 H t) (p19 (A := A) (ρ := tok t) (h := 1) (fun r l => (p18 _ r l).trans (l1_1 H t r l)) (l8_1 H t) (p13 (A := A) (ρ := tok t) (h := 0) (fun r l => (p12 _ r l).trans (l1_0 H t r l)) (l8_0 H t)))) (l1_3 H t) (l8_3 H t) (b2 H t) (l8v H t)) (b4 H t)) z k

theorem step17 (t : Fin cfg0.N) (h : ¬t.val % 8 = 0) (z : Fin 1) (k : Fin 256) :
    ((outsAt0 m c t.val t.isLt).2.2.2.2.2.2 : FVec Ideal S1x256 .f32) (ix2 z k) = ((outsAt0 m c (t.val - 1) (by omega)).2.2.2.2.2.2 : FVec Ideal S1x256 .f32) (ix2 z k) + ((∑ r, A.dgvRow (tok t r) k : ℝ) : EReal) := by
  rw [outsAt0_B m c t h (later t h) h (later t h)]; frame_out
  exact p5 (s := fun r k => A.dgvRow (tok t r) k) (p44 (A := A) (ρ := tok t) (p34 (A := A) (ρ := tok t) (p26 (A := A) (ρ := tok t) (h := 2) (fun r l => (p25 _ r l).trans (l1_2 H t r l)) (l8_2 H t) (p19 (A := A) (ρ := tok t) (h := 1) (fun r l => (p18 _ r l).trans (l1_1 H t r l)) (l8_1 H t) (p13 (A := A) (ρ := tok t) (h := 0) (fun r l => (p12 _ r l).trans (l1_0 H t r l)) (l8_0 H t)))) (l1_3 H t) (l8_3 H t) (b2 H t) (l8v H t)) (b4 H t)) _ z k

/-! ## The whole arrays -/

theorem final11 : ((dats m 0 c).arrAt 11 cfg0.N : FVec Ideal S8192x384 .bf16) = arr2 A.dcq := by
  refine (dats m 0 c).arrAt_eq_of_covers 11 _ (by decide +kernel) fun t hf y => ?_
  blk_simp
  rw [after0_11]
  refine (out11 H t y).trans ?_
  idx_vars y
  exact arr2_ext A.dcq (by blk_ext [idx t, tok])

theorem final12 : ((dats m 0 c).arrAt 12 cfg0.N : FVec Ideal S8192x256 .bf16) = arr2 A.dckv := by
  refine (dats m 0 c).arrAt_eq_of_covers 12 _ (by decide +kernel) fun t hf y => ?_
  blk_simp
  rw [after0_12]
  refine (out12 H t y).trans ?_
  idx_vars y
  exact arr2_ext A.dckv (by blk_ext [idx t, tok])

theorem final13 : ((dats m 0 c).arrAt 13 cfg0.N : FVec Ideal S8192x128 .bf16) = arr2 A.dkr := by
  refine (dats m 0 c).arrAt_eq_of_covers 13 _ (by decide +kernel) fun t hf y => ?_
  blk_simp
  rw [after0_13]
  refine (out13 H t y).trans ?_
  idx_vars y
  exact arr2_ext A.dkr (by blk_ext [idx t, tok])

theorem final14 : ((dats m 0 c).arrAt 14 cfg0.N : FVec Ideal S8192x1024 .bf16) = arr2 A.dqp := by
  refine (dats m 0 c).arrAt_eq_of_covers 14 _ (by decide +kernel) fun t hf y => ?_
  blk_simp
  rw [after0_14]
  refine (out14 H t y).trans ?_
  idx_vars y
  exact arr2_ext A.dqp (by blk_ext [idx t, tok])

theorem final15 : ((dats m 0 c).arrAt 15 cfg0.N : FVec Ideal S8192x1024 .bf16) = arr2 A.dkp := by
  refine (dats m 0 c).arrAt_eq_of_covers 15 _ (by decide +kernel) fun t hf y => ?_
  blk_simp
  rw [after0_15]
  refine (out15 H t y).trans ?_
  idx_vars y
  exact arr2_ext A.dkp (by blk_ext [idx t, tok])

omit H in
/-- A value that starts at its first term and adds a term at every later point is the sum of the terms so far. -/
theorem acc_sum (N : ℕ) (f : (n : ℕ) → n < N → EReal) (p : ℕ → ℝ) (h0 : ∀ h, f 0 h = (p 0 : EReal))
    (hs : ∀ n (h : n + 1 < N), f (n + 1) h = f n (Nat.lt_of_succ_lt h) + (p (n + 1) : EReal)) :
    ∀ n (h : n < N), f n h = ((∑ i ∈ Finset.range (n + 1), p i : ℝ) : EReal)
  | 0, h => by rw [h0]; simp
  | n + 1, h => by rw [hs, acc_sum N f p h0 hs n, addE, Finset.sum_range_succ _ (n + 1)]

/-- Row `r` of block `n`, for any number `n`. -/
def tokN (n : ℕ) (r : Fin 1024) : Fin 8192 := ⟨(n * 1024 + r.val) % 8192, Nat.mod_lt _ (by decide)⟩

omit H in
theorem tok_eq (t : Fin cfg0.N) (r : Fin 1024) : tok t r = tokN t.val r := by
  have h : t.val < 8 := lt_of_lt_of_eq t.isLt N_0
  have hr := r.isLt
  exact Fin.ext (show t.val * 1024 + r.val = (t.val * 1024 + r.val) % 8192 by omega)

omit H in
/-- The 8 blocks' rows are all rows. -/
theorem sum_tok (g : Fin 8192 → ℝ) : ∑ i ∈ Finset.range 8, ∑ r : Fin 1024, g (tokN i r) = ∑ a, g a := by
  rw [Finset.sum_range, Fin.sum_univ_tiles 8 1024 rfl g]
  refine Finset.sum_congr rfl fun i _ => Finset.sum_congr rfl fun r _ => congrArg g (Fin.ext ?_)
  have hi := i.isLt; have hr := r.isLt
  exact (show (i.val * 1024 + r.val) % 8192 = i.val * 1024 + r.val by omega)

theorem sum16 (z : Fin 1) (k : Fin 384) (n : ℕ) (hn : n < cfg0.N) :
    ((outsAt0 m c n hn).2.2.2.2.2.1 : FVec Ideal S1x384 .f32) (ix2 z k) = ((∑ n ∈ Finset.range (n + 1), (∑ r, A.dgqRow (tokN n r) k) : ℝ) : EReal) := by
  refine acc_sum cfg0.N (fun n hn => ((outsAt0 m c n hn).2.2.2.2.2.1 : FVec Ideal S1x384 .f32) (ix2 z k)) (fun n => ∑ r, A.dgqRow (tokN n r) k)
    (fun h => ?_) (fun n h => ?_) n hn
  · simp only [first16 H ⟨0, h⟩ rfl z k, tok_eq]
  · have h' : n + 1 < 8 := lt_of_lt_of_eq h N_0
    simp only [step16 H ⟨n + 1, h⟩ (show ¬(n + 1) % 8 = 0 by omega) z k, tok_eq]
    rfl

theorem final16 : ((dats m 0 c).arrAt 16 cfg0.N : FVec Ideal S1x384 .f32) = arr2 (fun _ k => ∑ a, A.dgqRow a k) := by
  refine (dats m 0 c).arrAt_eq_of_covers 16 _ (by decide +kernel) fun t hf y => ?_
  have hl : t.val = 7 := by
    have h := (flush0_16 t).mp hf
    have h' : t.val < 8 := lt_of_lt_of_eq t.isLt N_0
    omega
  blk_simp
  rw [after0_16]
  idx_vars y
  refine (sum16 H y0 y1 t.val t.isLt).trans ?_
  rw [hl]
  refine (congrArg _ (sum_tok fun a => A.dgqRow a y1 : _ = ((fun _ k => ∑ a, A.dgqRow a k) : Fin 1 → Fin 384 → ℝ) y0 y1)).trans ?_
  exact arr2_ext (a := y0) (b := y1) (fun _ k => ∑ a, A.dgqRow a k) (by blk_ext [idx t])

theorem sum17 (z : Fin 1) (k : Fin 256) (n : ℕ) (hn : n < cfg0.N) :
    ((outsAt0 m c n hn).2.2.2.2.2.2 : FVec Ideal S1x256 .f32) (ix2 z k) = ((∑ n ∈ Finset.range (n + 1), (∑ r, A.dgvRow (tokN n r) k) : ℝ) : EReal) := by
  refine acc_sum cfg0.N (fun n hn => ((outsAt0 m c n hn).2.2.2.2.2.2 : FVec Ideal S1x256 .f32) (ix2 z k)) (fun n => ∑ r, A.dgvRow (tokN n r) k)
    (fun h => ?_) (fun n h => ?_) n hn
  · simp only [first17 H ⟨0, h⟩ rfl z k, tok_eq]
  · have h' : n + 1 < 8 := lt_of_lt_of_eq h N_0
    simp only [step17 H ⟨n + 1, h⟩ (show ¬(n + 1) % 8 = 0 by omega) z k, tok_eq]
    rfl

theorem final17 : ((dats m 0 c).arrAt 17 cfg0.N : FVec Ideal S1x256 .f32) = arr2 (fun _ k => ∑ a, A.dgvRow a k) := by
  refine (dats m 0 c).arrAt_eq_of_covers 17 _ (by decide +kernel) fun t hf y => ?_
  have hl : t.val = 7 := by
    have h := (flush0_17 t).mp hf
    have h' : t.val < 8 := lt_of_lt_of_eq t.isLt N_0
    omega
  blk_simp
  rw [after0_17]
  idx_vars y
  refine (sum17 H y0 y1 t.val t.isLt).trans ?_
  rw [hl]
  refine (congrArg _ (sum_tok fun a => A.dgvRow a y1 : _ = ((fun _ k => ∑ a, A.dgvRow a k) : Fin 1 → Fin 256 → ℝ) y0 y1)).trans ?_
  exact arr2_ext (a := y0) (b := y1) (fun _ k => ∑ a, A.dgvRow a k) (by blk_ext [idx t])

end Cert.PrepBwd.Ker
end
end
-- ==== Proof.PrepBwd.Ref.lean ====
/- The reference's values, pointwise. -/
module

public import proofs.«01_k».proof.Proof.Gen.ReferencePrepBwdIdeal.Read
public import proofs.«01_k».proof.Proof.PrepBwd.Real
public import proofs.«01_k».proof.Proof.Prep.Ker

@[expose] public section

set_option maxRecDepth 16384

noncomputable section

namespace Cert.PrepBwd.Ref

open Cert.ReferencePrepBwdIdeal Cert.ReferencePrepBwdIdeal.Gen Cert.ReferencePrepBwdIdeal.Read
open Cert.Ffn (mulE addE subE negE sumE divE rsqrtE c_eps c_neg_half)
open Cert.OutBwd (rr ms ms_pos rmsGrad_vjp)
open Cert.Prep (pos vc)
open Cert.Prep.Ker (c_384 c_256)
open Idealize.ShloMosaic Idealize.ShloMosaic.TcCoe Idealize.SL.Sem Idealize.ShloMosaic.StableHlo

variable {A : PrepBwd.Args}
  {x0 : FVec Ideal S8192x1024 .f32} (h0 : ∀ a k, x0 (ix2 a k) = (A.dq a k : EReal))
  {x1 : FVec Ideal S8192x1024 .f32} (h1 : ∀ a k, x1 (ix2 a k) = (A.dk a k : EReal))
  {x2 : FVec Ideal S8192x512 .f32} (h2 : ∀ a k, x2 (ix2 a k) = (A.dv a k : EReal))
  {x3 : FVec Ideal S8192x384 .f32} (h3 : ∀ a k, x3 (ix2 a k) = (A.cq a k : EReal))
  {x4 : FVec Ideal S8192x256 .f32} (h4 : ∀ a k, x4 (ix2 a k) = (A.ckv a k : EReal))
  {x5 : FVec Ideal S384 .f32} (h5 : ∀ k, x5 (ix1 k) = (A.gq k : EReal))
  {x6 : FVec Ideal S256 .f32} (h6 : ∀ k, x6 (ix1 k) = (A.gv k : EReal))
  {x7 : FVec Ideal S384x768 .f32} (h7 : ∀ a k, x7 (ix2 a k) = (A.wq a k : EReal))
  {x8 : FVec Ideal S256x1024 .f32} (h8 : ∀ a k, x8 (ix2 a k) = (A.wv a k : EReal))
  {x9 : FVec Ideal S4096x32 .f32} (h9 : ∀ a k, x9 (ix2 a k) = (A.cs a k : EReal))
  {x10 : FVec Ideal S4096x32 .f32} (h10 : ∀ a k, x10 (ix2 a k) = (A.sn a k : EReal))

include h9 in
theorem cs_read (a : Fin 8192) (i : Fin 32) : val_main_v2 (F := Ideal) x9 (ix2 a i) = ((A.cs (pos a) i : ℝ) : EReal) := by
  pointwise [val_main_v2, val_main_v1, val_main_v0, h9]
  rfl

include h10 in
theorem sn_read (a : Fin 8192) (i : Fin 32) : val_main_v5 (F := Ideal) x10 (ix2 a i) = ((A.sn (pos a) i : ℝ) : EReal) := by
  pointwise [val_main_v5, val_main_v4, val_main_v3, h10]
  rfl

include h0 in
theorem dqh_read (a : Fin 8192) (h : Fin 4) (d : Fin 256) : val_main_v66 (F := Ideal) x0 (ix3 a h d) = ((A.dq a (vc h d) : ℝ) : EReal) := by
  pointwise [val_main_v66, h0]
  rfl

include h1 in
theorem dkh_read (a : Fin 8192) (h : Fin 4) (d : Fin 256) : val_main_v67 (F := Ideal) x1 (ix3 a h d) = ((A.dk a (vc h d) : ℝ) : EReal) := by
  pointwise [val_main_v67, h1]
  rfl

include h2 in
theorem dvh_read (a : Fin 8192) (h : Fin 4) (l : Fin 128) : val_main_v85 (F := Ideal) x2 (ix3 a h l) = ((A.dv a ⟨h.val * 128 + l.val, by omega⟩ : ℝ) : EReal) := by
  pointwise [val_main_v85, h2]
  first | done | rfl

include h0 h9 h10 in
theorem qr_read (a : Fin 8192) (h : Fin 4) (j : Fin 64) : val_main_v83 (F := Ideal) x0 x9 x10 (ix3 a h j) = ((A.dqr a h ⟨j.val, by omega⟩ : ℝ) : EReal) := by
  pointwise [val_main_v83, val_main_v82, val_main_v81, val_main_v80, val_main_v79, val_main_v78, val_main_v77, val_main_v76, val_main_v75, val_main_v74, val_main_v73, val_main_v72, val_main_v71, val_main_v70, val_main_v69, val_main_v68, val_main_v7, val_main_v8, dqh_read h0, cs_read h9, sn_read h10]
  by_cases h' : j.val < 32
  · simp only [h', dif_pos, mulE, addE, negE]
    exact congrArg _ ((add_comm _ _).trans (A.un_lo (fun i => A.dq a (vc h (rl i))) (pos a) ⟨j.val, h'⟩ (l := ⟨j.val, by omega⟩) rfl).symm)
  · simp only [h', dif_neg, not_false_eq_true, mulE, addE, negE]
    exact congrArg _ ((rot_neg _ _ _ _).trans ((A.un_mid (fun i => A.dq a (vc h (rl i))) (pos a) ⟨j.val - 32, by omega⟩ (l := ⟨32 + (j.val - 32), by omega⟩) rfl).symm.trans (congrArg (A.dqr a h) (Fin.ext (show 32 + (j.val - 32) = j.val by omega)))))

include h1 in
theorem kr_read (a : Fin 8192) (j : Fin 64) : val_main_v89 (F := Ideal) x1 (ix2 a j) = ((∑ h, A.dk a (vc h (rl ⟨j.val, by omega⟩)) : ℝ) : EReal) := by
  pointwise [val_main_v89, val_main_v88, val_main_v87, val_main_v86, val_main_cst_9, val_main_cst_10, dkh_read h1]
  simp only [zero_add, Fin.sum_univ_one, sumE]
  rfl

include h1 h9 h10 in
theorem krr_read (a : Fin 8192) (j : Fin 64) : val_main_v99 (F := Ideal) x1 x9 x10 (ix2 a j) = ((A.dkr a ⟨j.val, by omega⟩ : ℝ) : EReal) := by
  pointwise [val_main_v99, val_main_v98, val_main_v97, val_main_v96, val_main_v95, val_main_v94, val_main_v93, val_main_v92, val_main_v91, val_main_v90, kr_read h1, cs_read h9, sn_read h10]
  by_cases h' : j.val < 32
  · simp only [h', dif_pos, mulE, addE, negE]
    exact congrArg _ ((add_comm _ _).trans (A.un_lo (fun i => ∑ h, A.dk a (vc h (rl i))) (pos a) ⟨j.val, h'⟩ (l := ⟨j.val, by omega⟩) rfl).symm)
  · simp only [h', dif_neg, not_false_eq_true, mulE, addE, negE]
    exact congrArg _ ((rot_neg _ _ _ _).trans ((A.un_mid (fun i => ∑ h, A.dk a (vc h (rl i))) (pos a) ⟨j.val - 32, by omega⟩ (l := ⟨32 + (j.val - 32), by omega⟩) rfl).symm.trans (congrArg (A.dkr a) (Fin.ext (show 32 + (j.val - 32) = j.val by omega)))))

include h1 h10 in
theorem krt_read (a : Fin 8192) (j : Fin 64) : val_main_v158 (F := Ideal) x1 x10 (ix2 a j) = ((A.dkr a ⟨64 + j.val, by omega⟩ : ℝ) : EReal) := by
  pointwise [val_main_v158, val_main_v157, val_main_v156, val_main_v155, val_main_v154, val_main_cst_22, val_main_cst_23, dkh_read h1, sn_read h10]
  by_cases h' : j.val < 32
  · simp only [h', dif_pos, zero_add, sumE, mulE]
    refine congrArg _ (Eq.trans ?_ (A.un_hi (fun i => ∑ h, A.dk a (vc h (rl i))) (pos a) ⟨j.val, h'⟩ (l := ⟨64 + j.val, by omega⟩) rfl).symm)
    exact congrArg (· * A.sn (pos a) ⟨j.val, h'⟩) (Finset.sum_congr rfl fun h _ => congrArg (fun i => A.dk a (vc h i)) (Fin.ext (show 160 + j.val = 128 + (32 + j.val) by omega)))
  · simp only [h', dif_neg, not_false_eq_true]
    rw [Args.dkr, A.un_top _ _ (show 96 ≤ 64 + j.val by omega)]
    simp

include h0 h10 in
theorem qrt_read (a : Fin 8192) (h : Fin 4) (j : Fin 64) : val_main_v153 (F := Ideal) x0 x10 (ix3 a h j) = ((A.dqr a h ⟨64 + j.val, by omega⟩ : ℝ) : EReal) := by
  pointwise [val_main_v153, val_main_v152, val_main_v151, val_main_v150, val_main_v149, val_main_v148, val_main_cst_21, dqh_read h0, sn_read h10]
  by_cases h' : j.val < 32
  · simp only [h', dif_pos, mulE]
    refine congrArg _ (Eq.trans ?_ (A.un_hi (fun i => A.dq a (vc h (rl i))) (pos a) ⟨j.val, h'⟩ (l := ⟨64 + j.val, by omega⟩) rfl).symm)
    exact congrArg (fun i => A.dq a (vc h i) * A.sn (pos a) ⟨j.val, h'⟩) (Fin.ext (show 160 + j.val = 128 + (32 + j.val) by omega))
  · simp only [h', dif_neg, not_false_eq_true]
    rw [Args.dqr, A.un_top _ _ (show 96 ≤ 64 + j.val by omega)]
    simp

include h1 h9 h10 in
theorem dkr_read (a : Fin 8192) (l : Fin 128) : val_main_v162 (F := Ideal) x1 x9 x10 (ix2 a l) = ((A.dkr a l : ℝ) : EReal) := by
  pointwise [val_main_v162, val_main_v161, krr_read h1 h9 h10, krt_read h1 h10]
  by_cases h' : l.val < 64
  · simp only [h', dif_pos]
  · simp only [h', dif_neg, not_false_eq_true]
    exact congrArg (fun i => (A.dkr a i : EReal)) (Fin.ext (show 64 + (l.val - 64) = l.val by omega))

include h0 h9 h10 in
theorem dqx_read (a : Fin 8192) (h : Fin 4) (l : Fin 256) : val_main_v163 (F := Ideal) x0 x9 x10 (ix3 a h l) = ((A.dqp a (vc h l) : ℝ) : EReal) := by
  pointwise [val_main_v163, val_main_v68, dqh_read h0, qr_read h0 h9 h10, qrt_read h0 h10]
  by_cases h' : l.val < 128
  · simp only [h', dif_pos]
    exact congrArg _ (A.dqp_lo a h ⟨l.val, h'⟩ (j := vc h l) rfl).symm
  · have e : A.dqp a (vc h l) = A.dqr a h ⟨l.val - 128, by omega⟩ := A.dqp_hi a h ⟨l.val - 128, by omega⟩ (show h.val * 256 + l.val = h.val * 256 + 128 + (l.val - 128) by omega)
    rw [e]
    by_cases h'' : l.val - 128 < 64
    · simp only [h', h'', dif_pos, dif_neg, not_false_eq_true]
    · simp only [h', h'', dif_neg, not_false_eq_true]
      exact congrArg (fun i => (A.dqr a h i : EReal)) (Fin.ext (show 64 + (l.val - 128 - 64) = l.val - 128 by omega))

include h0 h9 h10 in
theorem dqp_read (a : Fin 8192) (j : Fin 1024) : val_main_v165 (F := Ideal) x0 x9 x10 (ix2 a j) = ((A.dqp a j : ℝ) : EReal) := by
  pointwise [val_main_v165, val_main_v164, dqx_read h0 h9 h10]
  exact congrArg (fun i => (A.dqp a i : EReal)) (Fin.ext (show j.val / 256 * 256 + j.val % 256 = j.val by omega))

include h1 h2 in
theorem dkp_read (a : Fin 8192) (j : Fin 1024) : val_main_v169 (F := Ideal) x1 x2 (ix2 a j) = ((A.dkp a j : ℝ) : EReal) := by
  pointwise [val_main_v169, val_main_v168, val_main_v167, val_main_v166, val_main_v84, dkh_read h1, dvh_read h2]
  unfold Args.dkp
  by_cases h' : j.val < 512
  · simp only [h', dif_pos]
    first | done | rfl
  · simp only [h', dif_neg, not_false_eq_true]
    exact congrArg (fun i => (A.dv a i : EReal)) (Fin.ext (show (j.val - 512) / 128 * 128 + (j.val - 512) % 128 = j.val - 512 by omega))

include h0 h9 h10 in
theorem dq7_read (a : Fin 8192) (j : Fin 768) : val_main_v101 (F := Ideal) x0 x9 x10 (ix2 a j) = ((A.dq7 a j : ℝ) : EReal) := by
  pointwise [val_main_v101, val_main_v100, val_main_v68, dqh_read h0, qr_read h0 h9 h10]
  unfold Args.dq7
  by_cases h' : j.val % 192 < 128
  · simp only [h', dif_pos]
    first | done | rfl
  · simp only [h', dif_neg, not_false_eq_true]
    first | done | rfl

include h1 h2 in
theorem dkv_read (a : Fin 8192) (j : Fin 1024) : val_main_v103 (F := Ideal) x1 x2 (ix2 a j) = ((A.dkv a j : ℝ) : EReal) := by
  pointwise [val_main_v103, val_main_v102, val_main_v84, dkh_read h1, dvh_read h2]
  unfold Args.dkv
  by_cases h' : j.val % 256 < 128
  · simp only [h', dif_pos]
    first | done | rfl
  · simp only [h', dif_neg, not_false_eq_true]
    first | done | rfl

include h3 in
theorem qm (a : Fin 8192) (z : Fin 1) : val_main_v40 (F := Ideal) x3 (ix2 a z) = ((ms 384 (A.cq a) : ℝ) : EReal) := by
  pointwise [val_main_v40, val_main_v39, val_main_v38, val_main_v37, val_main_v36, val_main_v35, val_main_v34, val_main_cst_1, val_main_cst_2, val_main_cst_3, h3]
  simp only [c_eps, c_384, c_256, c_neg_half, zero_add, mulE, Fin.sum_univ_one, sumE, divE _ _ (by norm_num : (384 : ℝ) ≠ 0), divE _ _ (by norm_num : (256 : ℝ) ≠ 0), addE, subE, negE]
  rfl

include h3 in
theorem qr (a : Fin 8192) (z : Fin 1) : val_main_v41 (F := Ideal) x3 (ix2 a z) = ((rr 384 (A.cq a) : ℝ) : EReal) := by
  pointwise [val_main_v41, qm h3]
  rw [rsqrtE _ (ms_pos 384 (by norm_num) _)]
  rfl

include h3 in
theorem qx (a : Fin 8192) (k : Fin 384) : val_main_v46 (F := Ideal) x3 (ix2 a k) = ((A.cq a k * rr 384 (A.cq a) : ℝ) : EReal) := by
  pointwise [val_main_v46, val_main_v45, h3, qr h3]
  simp only [mulE]

include h0 h7 h9 h10 in
theorem qn (a : Fin 8192) (k : Fin 384) : val_main_v105 (F := Ideal) x0 x7 x9 x10 (ix2 a k) = ((A.dcqn a k : ℝ) : EReal) := by
  pointwise [val_main_v105, dq7_read h0 h9 h10, h7]
  simp only [mulE, sumE]
  rfl

include h0 h3 h7 h9 h10 in
theorem qg_read (z : Fin 1) (k : Fin 384) : val_main_v170 (F := Ideal) x0 x3 x7 x9 x10 (ix2 z k) = ((∑ a, A.dgqRow a k : ℝ) : EReal) := by
  pointwise [val_main_v170, val_main_v111, val_main_v108, val_main_v107, val_main_v106, val_main_cst_11, val_main_cst_12, qx h3, qn h0 h7 h9 h10]
  simp only [c_eps, c_384, c_256, c_neg_half, zero_add, mulE, Fin.sum_univ_one, sumE, divE _ _ (by norm_num : (384 : ℝ) ≠ 0), divE _ _ (by norm_num : (256 : ℝ) ≠ 0), addE, subE, negE]
  exact congrArg _ (Finset.sum_congr rfl fun a _ => mul_comm _ _)

include h0 h5 h7 h9 h10 in
theorem qb (a : Fin 8192) (k : Fin 384) : val_main_v110 (F := Ideal) x0 x5 x7 x9 x10 (ix2 a k) = ((A.dcqn a k * A.gq k : ℝ) : EReal) := by
  pointwise [val_main_v110, val_main_v109, val_main_v47, h5, qn h0 h7 h9 h10]
  simp only [mulE]

include h0 h3 h5 h7 h9 h10 in
theorem qmean (a : Fin 8192) : val_main_v120 (F := Ideal) x0 x3 x5 x7 x9 x10 (ix1 a) = (((∑ l, A.cq a l * (A.dcqn a l * A.gq l)) * (-(1 / 2) * (rr 384 (A.cq a) * (1 / ms 384 (A.cq a)))) * (1 / 384) : ℝ) : EReal) := by
  pointwise [val_main_v120, val_main_v119, val_main_v118, val_main_v117, val_main_v114, val_main_v113, val_main_v112, val_main_v44, val_main_v43, val_main_v42, val_main_cst_4, val_main_cst_13, val_main_cst_14, val_main_cst_15, h3, qb h0 h5 h7 h9 h10, qr h3, qm h3]
  simp only [c_eps, c_384, c_256, c_neg_half, zero_add, mulE, Fin.sum_univ_one, sumE, divE _ _ (by norm_num : (384 : ℝ) ≠ 0), divE _ _ (by norm_num : (256 : ℝ) ≠ 0), divE _ _ (ms_pos 384 (by norm_num) (A.cq a)).ne', addE, subE, negE]

include h0 h3 h5 h7 h9 h10 in
theorem qd (a : Fin 8192) (k : Fin 384) : val_main_v125 (F := Ideal) x0 x3 x5 x7 x9 x10 (ix2 a k) = ((A.dcq a k : ℝ) : EReal) := by
  pointwise [val_main_v125, val_main_v124, val_main_v123, val_main_v122, val_main_v121, val_main_v116, val_main_v115, h3, qb h0 h5 h7 h9 h10, qr h3, qmean h0 h3 h5 h7 h9 h10]
  simp only [mulE, addE]
  exact congrArg _ (rmsGrad_vjp 384 (by norm_num) (A.cq a) (fun l => A.dcqn a l * A.gq l) k)

include h4 in
theorem vm (a : Fin 8192) (z : Fin 1) : val_main_v56 (F := Ideal) x4 (ix2 a z) = ((ms 256 (A.ckv a) : ℝ) : EReal) := by
  pointwise [val_main_v56, val_main_v55, val_main_v54, val_main_v53, val_main_v52, val_main_v51, val_main_v50, val_main_cst_5, val_main_cst_6, val_main_cst_7, h4]
  simp only [c_eps, c_384, c_256, c_neg_half, zero_add, mulE, Fin.sum_univ_one, sumE, divE _ _ (by norm_num : (384 : ℝ) ≠ 0), divE _ _ (by norm_num : (256 : ℝ) ≠ 0), addE, subE, negE]
  rfl

include h4 in
theorem vr (a : Fin 8192) (z : Fin 1) : val_main_v57 (F := Ideal) x4 (ix2 a z) = ((rr 256 (A.ckv a) : ℝ) : EReal) := by
  pointwise [val_main_v57, vm h4]
  rw [rsqrtE _ (ms_pos 256 (by norm_num) _)]
  rfl

include h4 in
theorem vx (a : Fin 8192) (k : Fin 256) : val_main_v62 (F := Ideal) x4 (ix2 a k) = ((A.ckv a k * rr 256 (A.ckv a) : ℝ) : EReal) := by
  pointwise [val_main_v62, val_main_v61, h4, vr h4]
  simp only [mulE]

include h1 h2 h8 in
theorem vn (a : Fin 8192) (k : Fin 256) : val_main_v127 (F := Ideal) x1 x2 x8 (ix2 a k) = ((A.dckvn a k : ℝ) : EReal) := by
  pointwise [val_main_v127, dkv_read h1 h2, h8]
  simp only [mulE, sumE]
  rfl

include h1 h2 h4 h8 in
theorem vg_read (z : Fin 1) (k : Fin 256) : val_main_v171 (F := Ideal) x1 x2 x4 x8 (ix2 z k) = ((∑ a, A.dgvRow a k : ℝ) : EReal) := by
  pointwise [val_main_v171, val_main_v133, val_main_v130, val_main_v129, val_main_v128, val_main_cst_16, val_main_cst_17, vx h4, vn h1 h2 h8]
  simp only [c_eps, c_384, c_256, c_neg_half, zero_add, mulE, Fin.sum_univ_one, sumE, divE _ _ (by norm_num : (384 : ℝ) ≠ 0), divE _ _ (by norm_num : (256 : ℝ) ≠ 0), addE, subE, negE]
  exact congrArg _ (Finset.sum_congr rfl fun a _ => mul_comm _ _)

include h1 h2 h6 h8 in
theorem vb (a : Fin 8192) (k : Fin 256) : val_main_v132 (F := Ideal) x1 x2 x6 x8 (ix2 a k) = ((A.dckvn a k * A.gv k : ℝ) : EReal) := by
  pointwise [val_main_v132, val_main_v131, val_main_v63, h6, vn h1 h2 h8]
  simp only [mulE]

include h1 h2 h4 h6 h8 in
theorem vmean (a : Fin 8192) : val_main_v142 (F := Ideal) x1 x2 x4 x6 x8 (ix1 a) = (((∑ l, A.ckv a l * (A.dckvn a l * A.gv l)) * (-(1 / 2) * (rr 256 (A.ckv a) * (1 / ms 256 (A.ckv a)))) * (1 / 256) : ℝ) : EReal) := by
  pointwise [val_main_v142, val_main_v141, val_main_v140, val_main_v139, val_main_v136, val_main_v135, val_main_v134, val_main_v60, val_main_v59, val_main_v58, val_main_cst_8, val_main_cst_18, val_main_cst_19, val_main_cst_20, h4, vb h1 h2 h6 h8, vr h4, vm h4]
  simp only [c_eps, c_384, c_256, c_neg_half, zero_add, mulE, Fin.sum_univ_one, sumE, divE _ _ (by norm_num : (384 : ℝ) ≠ 0), divE _ _ (by norm_num : (256 : ℝ) ≠ 0), divE _ _ (ms_pos 256 (by norm_num) (A.ckv a)).ne', addE, subE, negE]

include h1 h2 h4 h6 h8 in
theorem vd (a : Fin 8192) (k : Fin 256) : val_main_v147 (F := Ideal) x1 x2 x4 x6 x8 (ix2 a k) = ((A.dckv a k : ℝ) : EReal) := by
  pointwise [val_main_v147, val_main_v146, val_main_v145, val_main_v144, val_main_v143, val_main_v138, val_main_v137, h4, vb h1 h2 h6 h8, vr h4, vmean h1 h2 h4 h6 h8]
  simp only [mulE, addE]
  exact congrArg _ (rmsGrad_vjp 256 (by norm_num) (A.ckv a) (fun l => A.dckvn a l * A.gv l) k)

include h0 h3 h5 h7 h9 h10 in
theorem qd16 (a : Fin 8192) (k : Fin 384) : val_main_v159 (F := Ideal) x0 x3 x5 x7 x9 x10 (ix2 a k) = ((A.dcq a k : ℝ) : EReal) := by
  pointwise [val_main_v159, qd h0 h3 h5 h7 h9 h10]

include h1 h2 h4 h6 h8 in
theorem vd16 (a : Fin 8192) (k : Fin 256) : val_main_v160 (F := Ideal) x1 x2 x4 x6 x8 (ix2 a k) = ((A.dckv a k : ℝ) : EReal) := by
  pointwise [val_main_v160, vd h1 h2 h4 h6 h8]

end Cert.PrepBwd.Ref
end
end
-- ==== Proof.PrepBwd.RefRun.lean ====
/- The reference's run, its results stated over real arguments. -/
module

public import proofs.«01_k».proof.Proof.Gen.ReferencePrepBwdIdeal.Run
public import proofs.«01_k».proof.Proof.PrepBwd.Ref

@[expose] public section

set_option maxRecDepth 16384

noncomputable section

namespace Cert.PrepBwd.Ref

open Cert.ReferencePrepBwdIdeal Cert.ReferencePrepBwdIdeal.Gen Cert.ReferencePrepBwdIdeal.Read
open Cert.Ffn (arr2)
open Cert.OutBwd (arr3)
open Idealize.ShloMosaic Idealize.ShloMosaic.TcCoe Idealize.SL.Sem Idealize.ShloMosaic.StableHlo

/-- The launch memory's arguments on device `c` are the real numbers `A`. -/
structure Agree (m : (ℓ : Loc nD τ sig) → Buf (Elt Ideal) ℓ) (c : Dev nD) (A : PrepBwd.Args) : Prop where
  a0 : ∀ a k, (m ((c : Thread nD τ).loc main_arg0) : FVec Ideal S8192x1024 .f32) (ix2 a k) = (A.dq a k : EReal)
  a1 : ∀ a k, (m ((c : Thread nD τ).loc main_arg1) : FVec Ideal S8192x1024 .f32) (ix2 a k) = (A.dk a k : EReal)
  a2 : ∀ a k, (m ((c : Thread nD τ).loc main_arg2) : FVec Ideal S8192x512 .f32) (ix2 a k) = (A.dv a k : EReal)
  a3 : ∀ a k, (m ((c : Thread nD τ).loc main_arg3) : FVec Ideal S8192x384 .f32) (ix2 a k) = (A.cq a k : EReal)
  a4 : ∀ a k, (m ((c : Thread nD τ).loc main_arg4) : FVec Ideal S8192x256 .f32) (ix2 a k) = (A.ckv a k : EReal)
  a5 : ∀ k, (m ((c : Thread nD τ).loc main_arg5) : FVec Ideal S384 .f32) (ix1 k) = (A.gq k : EReal)
  a6 : ∀ k, (m ((c : Thread nD τ).loc main_arg6) : FVec Ideal S256 .f32) (ix1 k) = (A.gv k : EReal)
  a7 : ∀ a k, (m ((c : Thread nD τ).loc main_arg7) : FVec Ideal S384x768 .f32) (ix2 a k) = (A.wq a k : EReal)
  a8 : ∀ a k, (m ((c : Thread nD τ).loc main_arg8) : FVec Ideal S256x1024 .f32) (ix2 a k) = (A.wv a k : EReal)
  a9 : ∀ a k, (m ((c : Thread nD τ).loc main_arg9) : FVec Ideal S4096x32 .f32) (ix2 a k) = (A.cs a k : EReal)
  a10 : ∀ a k, (m ((c : Thread nD τ).loc main_arg10) : FVec Ideal S4096x32 .f32) (ix2 a k) = (A.sn a k : EReal)

variable {m : (ℓ : Loc nD τ sig) → Buf (Elt Ideal) ℓ}

/-- The reference's run, its results the arrays of `Args`. -/
theorem run (A : Dev nD → PrepBwd.Args) (H : ∀ c, Agree m c (A c)) (ρ : Dev nD → PrngReg) :
    θ_run defs (onTc (τ := τ) (main (F := Ideal))) ⟨m, fun _ => 0, ρ⟩ fun r => ∀ c : Dev nD,
      (r.2.mem ((c.tc : Thread nD τ).loc main_v159) : FVec Ideal S8192x384 .bf16) = arr2 (A c).dcq
      ∧ (r.2.mem ((c.tc : Thread nD τ).loc main_v160) : FVec Ideal S8192x256 .bf16) = arr2 (A c).dckv
      ∧ (r.2.mem ((c.tc : Thread nD τ).loc main_v162) : FVec Ideal S8192x128 .bf16) = arr2 (A c).dkr
      ∧ (r.2.mem ((c.tc : Thread nD τ).loc main_v165) : FVec Ideal S8192x1024 .bf16) = arr2 (A c).dqp
      ∧ (r.2.mem ((c.tc : Thread nD τ).loc main_v169) : FVec Ideal S8192x1024 .bf16) = arr2 (A c).dkp
      ∧ (r.2.mem ((c.tc : Thread nD τ).loc main_v170) : FVec Ideal S1x384 .f32) = arr2 (fun _ k => ∑ a, (A c).dgqRow a k)
      ∧ (r.2.mem ((c.tc : Thread nD τ).loc main_v171) : FVec Ideal S1x256 .f32) = arr2 (fun _ k => ∑ a, (A c).dgvRow a k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Cert.ReferencePrepBwdIdeal.Value.run m ρ)
  obtain ⟨h0, h1, h2, h3, h4, h5, h6, hr⟩ := h c
  refine ⟨h0.trans ?_, h1.trans ?_, h2.trans ?_, h3.trans ?_, h4.trans ?_, h5.trans ?_, h6.trans ?_, hr⟩
  · refine Eq.trans (val_main_v159_eq ..) (funext fun i => ?_)
    idx_vars i
    exact qd16 (H c).a0 (H c).a3 (H c).a5 (H c).a7 (H c).a9 (H c).a10 i0 i1
  · refine Eq.trans (val_main_v160_eq ..) (funext fun i => ?_)
    idx_vars i
    exact vd16 (H c).a1 (H c).a2 (H c).a4 (H c).a6 (H c).a8 i0 i1
  · refine Eq.trans (val_main_v162_eq ..) (funext fun i => ?_)
    idx_vars i
    exact dkr_read (H c).a1 (H c).a9 (H c).a10 i0 i1
  · refine Eq.trans (val_main_v165_eq ..) (funext fun i => ?_)
    idx_vars i
    exact dqp_read (H c).a0 (H c).a9 (H c).a10 i0 i1
  · refine Eq.trans (val_main_v169_eq ..) (funext fun i => ?_)
    idx_vars i
    exact dkp_read (H c).a1 (H c).a2 i0 i1
  · refine Eq.trans (val_main_v170_eq ..) (funext fun i => ?_)
    idx_vars i
    exact qg_read (H c).a0 (H c).a3 (H c).a7 (H c).a9 (H c).a10 i0 i1
  · refine Eq.trans (val_main_v171_eq ..) (funext fun i => ?_)
    idx_vars i
    exact vg_read (H c).a1 (H c).a2 (H c).a4 (H c).a8 i0 i1

end Cert.PrepBwd.Ref
end
end
-- ==== Proof.PrepBwd.Claim.lean ====
/- The attention's latent norms, projections and rotary embedding, backward: the kernel's results equal the reference's, at equal arguments of real numbers. -/
module

public import proofs.«01_k».proof.Defs
public import proofs.«01_k».proof.Proof.Gen.KernelPrepBwd
public import Idealize.ShloMosaic.Lib.Quiescent
public import proofs.«01_k».proof.Proof.PrepBwd.Finite
public import proofs.«01_k».proof.Proof.PrepBwd.Final
public import proofs.«01_k».proof.Proof.PrepBwd.RefRun

@[expose] public section

set_option maxRecDepth 16384

noncomputable section

namespace Cert.PrepBwd

open Idealize.ShloMosaic Idealize.ShloMosaic.TcCoe Idealize.SL.Sem Cert.KernelPrepBwdIdeal

/-- The real numbers device `c`'s argument arrays hold. -/
def args (m : (ℓ : Loc nD τ sig) → Buf (Elt Ideal) ℓ) (c : Dev nD) : Args where
  dq a k := ((m ((c : Thread nD τ).loc main_arg0) : FVec Ideal S8192x1024 .f32) (ix2 a k)).toReal
  dk a k := ((m ((c : Thread nD τ).loc main_arg1) : FVec Ideal S8192x1024 .f32) (ix2 a k)).toReal
  dv a k := ((m ((c : Thread nD τ).loc main_arg2) : FVec Ideal S8192x512 .f32) (ix2 a k)).toReal
  cq a k := ((m ((c : Thread nD τ).loc main_arg3) : FVec Ideal S8192x384 .f32) (ix2 a k)).toReal
  ckv a k := ((m ((c : Thread nD τ).loc main_arg4) : FVec Ideal S8192x256 .f32) (ix2 a k)).toReal
  gq k := ((m ((c : Thread nD τ).loc main_arg5) : FVec Ideal S384 .f32) (ix1 k)).toReal
  gv k := ((m ((c : Thread nD τ).loc main_arg6) : FVec Ideal S256 .f32) (ix1 k)).toReal
  wq a k := ((m ((c : Thread nD τ).loc main_arg7) : FVec Ideal S384x768 .f32) (ix2 a k)).toReal
  wv a k := ((m ((c : Thread nD τ).loc main_arg8) : FVec Ideal S256x1024 .f32) (ix2 a k)).toReal
  cs a k := ((m ((c : Thread nD τ).loc main_arg9) : FVec Ideal S4096x32 .f32) (ix2 a k)).toReal
  sn a k := ((m ((c : Thread nD τ).loc main_arg10) : FVec Ideal S4096x32 .f32) (ix2 a k)).toReal

theorem agree [Cert.Pre_finite_mla_prep_bwd.Facts] (m : (ℓ : Loc nD τ sig) → Buf (Elt Ideal) ℓ) (h : Cert.Pre_KernelPrepBwdIdeal_finite_mla_prep_bwd m) (c : Dev nD) :
    Ker.Agree m c (args m c) := by
  obtain ⟨h0, h1, h2, h3, h4, h5, h6, h7, h8, h9, h10⟩ := reals _ _ _ _ _ _ _ _ _ _ _ (h c)
  exact ⟨fun _ _ => h0 _, fun _ _ => h1 _, fun _ _ => h2 _, fun _ _ => h3 _, fun _ _ => h4 _, fun _ => h5 _, fun _ => h6 _, fun _ _ => h7 _, fun _ _ => h8 _, fun _ _ => h9 _, fun _ _ => h10 _⟩

theorem algebraic : Cert.algebraic_KernelPrepBwdIdeal_ReferencePrepBwdIdeal_pre_finite_mla_prep_bwd := by
  pair_intro
  · run_from Cert.KernelPrepBwdIdeal.Value.run_blocks m g
  · have H := agree m hpre
    have HR : ∀ c, Ref.Agree m' c (args m c) := fun c => by
      obtain ⟨e0, e1, e2, e3, e4, e5, e6, e7, e8, e9, e10⟩ := hagree c
      have K := H c
      exact ⟨fun a k => (congrFun e0 _).trans (K.a0 a k), fun a k => (congrFun e1 _).trans (K.a1 a k), fun a k => (congrFun e2 _).trans (K.a2 a k), fun a k => (congrFun e3 _).trans (K.a3 a k), fun a k => (congrFun e4 _).trans (K.a4 a k), fun k => (congrFun e5 _).trans (K.a5 k), fun k => (congrFun e6 _).trans (K.a6 k), fun a k => (congrFun e7 _).trans (K.a7 a k), fun a k => (congrFun e8 _).trans (K.a8 a k), fun a k => (congrFun e9 _).trans (K.a9 a k), fun a k => (congrFun e10 _).trans (K.a10 a k)⟩
    run_from Ref.run _ HR g'
    · exact (Ker.final11 (H c)).symm
    · exact (Ker.final12 (H c)).symm
    · exact (Ker.final13 (H c)).symm
    · exact (Ker.final14 (H c)).symm
    · exact (Ker.final15 (H c)).symm
    · exact (Ker.final16 (H c)).symm
    · exact (Ker.final17 (H c)).symm

/-- The reference's frame, whatever the precondition. -/
theorem reference_frame : Cert.quiescent_ReferencePrepBwdIdeal := by
  intro m g _
  exact (θ_run Cert.ReferencePrepBwdIdeal.defs _ _).mono
    (fun r h => ⟨fun c => (h c).2.2.2.2.2.2.2, sem_eq_zero_of_no_sems (sig := Cert.ReferencePrepBwdIdeal.sig) rfl _⟩)
    (Cert.ReferencePrepBwdIdeal.Value.run m g)

end Cert.PrepBwd
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Ffn.Claim
public import proofs.«01_k».proof.Proof.Wgrad.Gate
public import proofs.«01_k».proof.Proof.Wgrad.Down
public import proofs.«01_k».proof.Proof.Wgrad.Out
public import proofs.«01_k».proof.Proof.Wgrad.In
public import proofs.«01_k».proof.Proof.Wgrad.Qb
public import proofs.«01_k».proof.Proof.Wgrad.Kvb
public import proofs.«01_k».proof.Proof.Gen.KernelGate
public import proofs.«01_k».proof.Proof.Gen.KernelGate.Frame
public import proofs.«01_k».proof.Proof.Gen.KernelGateIdeal
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelQb
public import proofs.«01_k».proof.Proof.Gen.KernelQb.Frame
public import proofs.«01_k».proof.Proof.Gen.KernelQbIdeal
public import proofs.«01_k».proof.Proof.Gen.KernelQbIdeal.Frame
public import proofs.«01_k».proof.Proof.Gen.KernelQbIdeal.Value
public import proofs.«01_k».proof.Proof.Gen.ReferenceQbIdeal
public import proofs.«01_k».proof.Proof.Gen.ReferenceQbIdeal.Run
public import proofs.«01_k».proof.Proof.Gen.ReferenceQbIdeal.Read
public import proofs.«01_k».proof.Proof.Gen.KernelKvb
public import proofs.«01_k».proof.Proof.Gen.KernelKvb.Frame
public import proofs.«01_k».proof.Proof.Gen.KernelKvbIdeal
public import proofs.«01_k».proof.Proof.Gen.KernelKvbIdeal.Frame
public import proofs.«01_k».proof.Proof.Gen.KernelKvbIdeal.Value
public import proofs.«01_k».proof.Proof.Gen.ReferenceKvbIdeal
public import proofs.«01_k».proof.Proof.Gen.ReferenceKvbIdeal.Run
public import proofs.«01_k».proof.Proof.Gen.ReferenceKvbIdeal.Read
public import proofs.«01_k».proof.Proof.InBwd.Claim
public import proofs.«01_k».proof.Proof.Gen.Pre_finite_in_bwd
public import proofs.«01_k».proof.Proof.Gen.KernelInBwd
public import proofs.«01_k».proof.Proof.Gen.KernelInBwd.Frame
public import proofs.«01_k».proof.Proof.Gen.KernelInBwdIdeal
public import proofs.«01_k».proof.Proof.Gen.KernelInBwdIdeal.Frame
public import proofs.«01_k».proof.Proof.Gen.KernelInBwdIdeal.Value
public import proofs.«01_k».proof.Proof.Gen.ReferenceInBwdIdeal
public import proofs.«01_k».proof.Proof.Gen.ReferenceInBwdIdeal.Run
public import proofs.«01_k».proof.Proof.Gen.ReferenceInBwdIdeal.Read
public import proofs.«01_k».proof.Proof.InFwd.Claim
public import proofs.«01_k».proof.Proof.Gen.KernelInFwd
public import proofs.«01_k».proof.Proof.Gen.KernelInFwd.Frame
public import proofs.«01_k».proof.Proof.Gen.KernelInFwdIdeal
public import proofs.«01_k».proof.Proof.Gen.KernelInFwdIdeal.Frame
public import proofs.«01_k».proof.Proof.Gen.KernelInFwdIdeal.Value
public import proofs.«01_k».proof.Proof.Gen.ReferenceInFwdIdeal
public import proofs.«01_k».proof.Proof.Gen.ReferenceInFwdIdeal.Run
public import proofs.«01_k».proof.Proof.Gen.ReferenceInFwdIdeal.Read
public import proofs.«01_k».proof.Proof.OutBwd.Claim
public import proofs.«01_k».proof.Proof.Gen.Pre_finite_out_bwd
public import proofs.«01_k».proof.Proof.Gen.KernelOutBwd
public import proofs.«01_k».proof.Proof.Gen.KernelOutBwd.Frame
public import proofs.«01_k».proof.Proof.Gen.KernelOutBwdIdeal
public import proofs.«01_k».proof.Proof.Gen.KernelOutBwdIdeal.Frame
public import proofs.«01_k».proof.Proof.Gen.KernelOutBwdIdeal.Value
public import proofs.«01_k».proof.Proof.Gen.ReferenceOutBwdIdeal
public import proofs.«01_k».proof.Proof.Gen.ReferenceOutBwdIdeal.Run
public import proofs.«01_k».proof.Proof.Gen.ReferenceOutBwdIdeal.Read
public import proofs.«01_k».proof.Proof.AdaW.Claim
public import proofs.«01_k».proof.Proof.Gen.KernelAdaW
public import proofs.«01_k».proof.Proof.Gen.KernelAdaW.Frame
public import proofs.«01_k».proof.Proof.Gen.KernelAdaWIdeal
public import proofs.«01_k».proof.Proof.Gen.KernelAdaWIdeal.Frame
public import proofs.«01_k».proof.Proof.Gen.KernelAdaWIdeal.Value
public import proofs.«01_k».proof.Proof.Gen.ReferenceAdaWIdeal
public import proofs.«01_k».proof.Proof.Gen.ReferenceAdaWIdeal.Run
public import proofs.«01_k».proof.Proof.Gen.ReferenceAdaWIdeal.Read
public import proofs.«01_k».proof.Proof.AdaDown.Claim
public import proofs.«01_k».proof.Proof.Gen.KernelAdaDown
public import proofs.«01_k».proof.Proof.Gen.KernelAdaDown.Frame
public import proofs.«01_k».proof.Proof.Gen.KernelAdaDownIdeal
public import proofs.«01_k».proof.Proof.Gen.KernelAdaDownIdeal.Frame
public import proofs.«01_k».proof.Proof.Gen.KernelAdaDownIdeal.Value
public import proofs.«01_k».proof.Proof.Gen.ReferenceAdaDownIdeal
public import proofs.«01_k».proof.Proof.Gen.ReferenceAdaDownIdeal.Run
public import proofs.«01_k».proof.Proof.Gen.ReferenceAdaDownIdeal.Read
public import proofs.«01_k».proof.Proof.AdaOut.Claim
public import proofs.«01_k».proof.Proof.Gen.KernelAdaOut
public import proofs.«01_k».proof.Proof.Gen.KernelAdaOut.Frame
public import proofs.«01_k».proof.Proof.Gen.KernelAdaOutIdeal
public import proofs.«01_k».proof.Proof.Gen.KernelAdaOutIdeal.Frame
public import proofs.«01_k».proof.Proof.Gen.KernelAdaOutIdeal.Value
public import proofs.«01_k».proof.Proof.Gen.ReferenceAdaOutIdeal
public import proofs.«01_k».proof.Proof.Gen.ReferenceAdaOutIdeal.Run
public import proofs.«01_k».proof.Proof.Gen.ReferenceAdaOutIdeal.Read
public import proofs.«01_k».proof.Proof.AdaKvb.Claim
public import proofs.«01_k».proof.Proof.Gen.KernelAdaKvb
public import proofs.«01_k».proof.Proof.Gen.KernelAdaKvb.Frame
public import proofs.«01_k».proof.Proof.Gen.KernelAdaKvbIdeal
public import proofs.«01_k».proof.Proof.Gen.KernelAdaKvbIdeal.Frame
public import proofs.«01_k».proof.Proof.Gen.KernelAdaKvbIdeal.Value
public import proofs.«01_k».proof.Proof.Gen.ReferenceAdaKvbIdeal
public import proofs.«01_k».proof.Proof.Gen.ReferenceAdaKvbIdeal.Run
public import proofs.«01_k».proof.Proof.Gen.ReferenceAdaKvbIdeal.Read
public import proofs.«01_k».proof.Proof.AdaIn.Claim
public import proofs.«01_k».proof.Proof.Gen.KernelAdaIn
public import proofs.«01_k».proof.Proof.Gen.KernelAdaIn.Frame
public import proofs.«01_k».proof.Proof.Gen.KernelAdaInIdeal
public import proofs.«01_k».proof.Proof.Gen.KernelAdaInIdeal.Frame
public import proofs.«01_k».proof.Proof.Gen.KernelAdaInIdeal.Value
public import proofs.«01_k».proof.Proof.Gen.ReferenceAdaInIdeal
public import proofs.«01_k».proof.Proof.Gen.ReferenceAdaInIdeal.Run
public import proofs.«01_k».proof.Proof.Gen.ReferenceAdaInIdeal.Read
public import proofs.«01_k».proof.Proof.AdaQb.Claim
public import proofs.«01_k».proof.Proof.Gen.KernelAdaQb
public import proofs.«01_k».proof.Proof.Gen.KernelAdaQb.Frame
public import proofs.«01_k».proof.Proof.Gen.KernelAdaQbIdeal
public import proofs.«01_k».proof.Proof.Gen.KernelAdaQbIdeal.Frame
public import proofs.«01_k».proof.Proof.Gen.KernelAdaQbIdeal.Value
public import proofs.«01_k».proof.Proof.Gen.ReferenceAdaQbIdeal
public import proofs.«01_k».proof.Proof.Gen.ReferenceAdaQbIdeal.Run
public import proofs.«01_k».proof.Proof.Gen.ReferenceAdaQbIdeal.Read
public import proofs.«01_k».proof.Proof.AdaSmall.Claim
public import proofs.«01_k».proof.Proof.Gen.KernelAdaSmall
public import proofs.«01_k».proof.Proof.Gen.KernelAdaSmall.Frame
public import proofs.«01_k».proof.Proof.Gen.KernelAdaSmallIdeal
public import proofs.«01_k».proof.Proof.Gen.KernelAdaSmallIdeal.Frame
public import proofs.«01_k».proof.Proof.Gen.KernelAdaSmallIdeal.Value
public import proofs.«01_k».proof.Proof.Gen.ReferenceAdaSmallIdeal
public import proofs.«01_k».proof.Proof.Gen.ReferenceAdaSmallIdeal.Run
public import proofs.«01_k».proof.Proof.Gen.ReferenceAdaSmallIdeal.Read
public import proofs.«01_k».proof.Proof.OutFwd.Claim
public import proofs.«01_k».proof.Proof.Gen.Pre_finite_out_fwd
public import proofs.«01_k».proof.Proof.Gen.KernelOutFwd
public import proofs.«01_k».proof.Proof.Gen.KernelOutFwd.Frame
public import proofs.«01_k».proof.Proof.Gen.KernelOutFwdIdeal
public import proofs.«01_k».proof.Proof.Gen.KernelOutFwdIdeal.Frame
public import proofs.«01_k».proof.Proof.Gen.KernelOutFwdIdeal.Value
public import proofs.«01_k».proof.Proof.Gen.ReferenceOutFwdIdeal
public import proofs.«01_k».proof.Proof.Gen.ReferenceOutFwdIdeal.Run
public import proofs.«01_k».proof.Proof.Gen.ReferenceOutFwdIdeal.Read
public import proofs.«01_k».proof.Proof.Prep.Claim
public import proofs.«01_k».proof.Proof.Gen.KernelPrep
public import proofs.«01_k».proof.Proof.Gen.KernelPrep.Frame
public import proofs.«01_k».proof.Proof.Gen.KernelPrepIdeal
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.ReferencePrepIdeal.Read
public import proofs.«01_k».proof.Proof.PrepBwd.Claim
public import proofs.«01_k».proof.Proof.Gen.Pre_finite_mla_prep_bwd
public import proofs.«01_k».proof.Proof.Gen.KernelPrepBwd
public import proofs.«01_k».proof.Proof.Gen.KernelPrepBwd.Frame
public import proofs.«01_k».proof.Proof.Gen.KernelPrepBwdIdeal
public import proofs.«01_k».proof.Proof.Gen.KernelPrepBwdIdeal.Frame
public import proofs.«01_k».proof.Proof.Gen.KernelPrepBwdIdeal.Value
public import proofs.«01_k».proof.Proof.Gen.ReferencePrepBwdIdeal
public import proofs.«01_k».proof.Proof.Gen.ReferencePrepBwdIdeal.Run
public import proofs.«01_k».proof.Proof.Gen.ReferencePrepBwdIdeal.Read
public import Idealize.ShloMosaic.Adequacy
public import Idealize.ShloMosaic.Init

@[expose] public section

noncomputable section

namespace Cert.Proof

open Idealize.ShloMosaic Idealize.SL.Sem Cert.Kernel

/-- The reference's frame, whatever the precondition. -/
theorem reference_frame : Cert.quiescent_ReferenceIdeal := by
  intro m g _
  exact (θ_run Cert.ReferenceIdeal.defs _ _).mono
    (fun r h => ⟨fun c => (h c).2.2.2.2.2.2.2.2.2, sem_eq_zero_of_no_sems (sig := Cert.ReferenceIdeal.sig) rfl _⟩)
    (Cert.ReferenceIdeal.Value.run m g)

theorem claim : Cert.Claim :=
  ⟨Cert.Kernel.Gen.facts, Cert.KernelIdeal.Gen.facts, Cert.ReferenceIdeal.Gen.facts, Cert.KernelGate.Gen.facts, Cert.KernelGateIdeal.Gen.facts,
    Cert.ReferenceGateIdeal.Gen.facts, Cert.KernelDown.Gen.facts, Cert.KernelDownIdeal.Gen.facts, Cert.ReferenceDownIdeal.Gen.facts,
    Cert.KernelOut.Gen.facts, Cert.KernelOutIdeal.Gen.facts, Cert.ReferenceOutIdeal.Gen.facts, Cert.KernelIn.Gen.facts, Cert.KernelInIdeal.Gen.facts,
    Cert.ReferenceInIdeal.Gen.facts, Cert.KernelQb.Gen.facts, Cert.KernelQbIdeal.Gen.facts, Cert.ReferenceQbIdeal.Gen.facts, Cert.KernelKvb.Gen.facts,
    Cert.KernelKvbIdeal.Gen.facts, Cert.ReferenceKvbIdeal.Gen.facts, Cert.KernelInBwd.Gen.facts, Cert.KernelInBwdIdeal.Gen.facts,
    Cert.ReferenceInBwdIdeal.Gen.facts, Cert.KernelInFwd.Gen.facts, Cert.KernelInFwdIdeal.Gen.facts, Cert.ReferenceInFwdIdeal.Gen.facts,
    Cert.KernelOutBwd.Gen.facts, Cert.KernelOutBwdIdeal.Gen.facts, Cert.ReferenceOutBwdIdeal.Gen.facts, Cert.KernelAdaW.Gen.facts,
    Cert.KernelAdaWIdeal.Gen.facts, Cert.ReferenceAdaWIdeal.Gen.facts, Cert.KernelAdaDown.Gen.facts, Cert.KernelAdaDownIdeal.Gen.facts,
    Cert.ReferenceAdaDownIdeal.Gen.facts, Cert.KernelAdaOut.Gen.facts, Cert.KernelAdaOutIdeal.Gen.facts, Cert.ReferenceAdaOutIdeal.Gen.facts,
    Cert.KernelAdaKvb.Gen.facts, Cert.KernelAdaKvbIdeal.Gen.facts, Cert.ReferenceAdaKvbIdeal.Gen.facts, Cert.KernelAdaIn.Gen.facts,
    Cert.KernelAdaInIdeal.Gen.facts, Cert.ReferenceAdaInIdeal.Gen.facts, Cert.KernelAdaQb.Gen.facts, Cert.KernelAdaQbIdeal.Gen.facts,
    Cert.ReferenceAdaQbIdeal.Gen.facts, Cert.KernelAdaSmall.Gen.facts, Cert.KernelAdaSmallIdeal.Gen.facts, Cert.ReferenceAdaSmallIdeal.Gen.facts,
    Cert.KernelOutFwd.Gen.facts, Cert.KernelOutFwdIdeal.Gen.facts, Cert.ReferenceOutFwdIdeal.Gen.facts, Cert.KernelPrep.Gen.facts,
    Cert.KernelPrepIdeal.Gen.facts, Cert.ReferencePrepIdeal.Gen.facts, Cert.KernelPrepBwd.Gen.facts, Cert.KernelPrepBwdIdeal.Gen.facts,
    Cert.ReferencePrepBwdIdeal.Gen.facts, Cert.Pre_finite.Gen.facts, Cert.Pre_finite_in_bwd.Gen.facts, Cert.Pre_finite_out_bwd.Gen.facts,
    Cert.Pre_finite_out_fwd.Gen.facts, Cert.Pre_finite_mla_prep_bwd.Gen.facts, fun m g _ => Cert.Kernel.Gen.frame m g,
    fun m g _ => Cert.KernelIdeal.Gen.frame m g, fun m g _ => Cert.KernelIdeal.Gen.frame m g, reference_frame,
    fun m g _ => reference_frame m g trivial, fun m g _ => Cert.KernelGate.Gen.frame m g, fun m g _ => Cert.KernelGateIdeal.Gen.frame m g,
    Cert.Wgrad.Gate.reference_frame, fun m g _ => Cert.KernelDown.Gen.frame m g, fun m g _ => Cert.KernelDownIdeal.Gen.frame m g,
    Cert.Wgrad.Down.reference_frame, fun m g _ => Cert.KernelOut.Gen.frame m g, fun m g _ => Cert.KernelOutIdeal.Gen.frame m g,
    Cert.Wgrad.Out.reference_frame, fun m g _ => Cert.KernelIn.Gen.frame m g, fun m g _ => Cert.KernelInIdeal.Gen.frame m g,
    Cert.Wgrad.In.reference_frame, fun m g _ => Cert.KernelQb.Gen.frame m g, fun m g _ => Cert.KernelQbIdeal.Gen.frame m g,
    Cert.Wgrad.Qb.reference_frame, fun m g _ => Cert.KernelKvb.Gen.frame m g, fun m g _ => Cert.KernelKvbIdeal.Gen.frame m g,
    Cert.Wgrad.Kvb.reference_frame, fun m g _ => Cert.KernelInBwd.Gen.frame m g, fun m g _ => Cert.KernelInBwdIdeal.Gen.frame m g,
    fun m g _ => Cert.KernelInBwdIdeal.Gen.frame m g, Cert.InBwd.reference_frame, fun m g _ => Cert.InBwd.reference_frame m g trivial,
    fun m g _ => Cert.KernelInFwd.Gen.frame m g, fun m g _ => Cert.KernelInFwdIdeal.Gen.frame m g, Cert.InFwd.reference_frame,
    fun m g _ => Cert.KernelOutBwd.Gen.frame m g, fun m g _ => Cert.KernelOutBwdIdeal.Gen.frame m g,
    fun m g _ => Cert.KernelOutBwdIdeal.Gen.frame m g, Cert.OutBwd.reference_frame, fun m g _ => Cert.OutBwd.reference_frame m g trivial,
    fun m g _ => Cert.KernelAdaW.Gen.frame m g, fun m g _ => Cert.KernelAdaWIdeal.Gen.frame m g, Cert.AdaW.reference_frame,
    fun m g _ => Cert.KernelAdaDown.Gen.frame m g, fun m g _ => Cert.KernelAdaDownIdeal.Gen.frame m g, Cert.AdaDown.reference_frame,
    fun m g _ => Cert.KernelAdaOut.Gen.frame m g, fun m g _ => Cert.KernelAdaOutIdeal.Gen.frame m g, Cert.AdaOut.reference_frame,
    fun m g _ => Cert.KernelAdaKvb.Gen.frame m g, fun m g _ => Cert.KernelAdaKvbIdeal.Gen.frame m g, Cert.AdaKvb.reference_frame,
    fun m g _ => Cert.KernelAdaIn.Gen.frame m g, fun m g _ => Cert.KernelAdaInIdeal.Gen.frame m g, Cert.AdaIn.reference_frame,
    fun m g _ => Cert.KernelAdaQb.Gen.frame m g, fun m g _ => Cert.KernelAdaQbIdeal.Gen.frame m g, Cert.AdaQb.reference_frame,
    fun m g _ => Cert.KernelAdaSmall.Gen.frame m g, fun m g _ => Cert.KernelAdaSmallIdeal.Gen.frame m g, Cert.AdaSmall.reference_frame,
    fun m g _ => Cert.KernelOutFwd.Gen.frame m g, fun m g _ => Cert.KernelOutFwdIdeal.Gen.frame m g,
    fun m g _ => Cert.KernelOutFwdIdeal.Gen.frame m g, Cert.OutFwd.reference_frame, fun m g _ => Cert.OutFwd.reference_frame m g trivial,
    fun m g _ => Cert.KernelPrep.Gen.frame m g, fun m g _ => Cert.KernelPrepIdeal.Gen.frame m g, Cert.Prep.reference_frame,
    fun m g _ => Cert.KernelPrepBwd.Gen.frame m g, fun m g _ => Cert.KernelPrepBwdIdeal.Gen.frame m g,
    fun m g _ => Cert.KernelPrepBwdIdeal.Gen.frame m g, Cert.PrepBwd.reference_frame, fun m g _ => Cert.PrepBwd.reference_frame m g trivial, trivial,
    Cert.Ffn.algebraic, trivial, Cert.Wgrad.Gate.algebraic, trivial, Cert.Wgrad.Down.algebraic, trivial, Cert.Wgrad.Out.algebraic, trivial,
    Cert.Wgrad.In.algebraic, trivial, Cert.Wgrad.Qb.algebraic, trivial, Cert.Wgrad.Kvb.algebraic, trivial, Cert.InBwd.algebraic, trivial,
    Cert.InFwd.algebraic, trivial, Cert.OutBwd.algebraic, trivial, Cert.AdaW.algebraic, trivial, Cert.AdaDown.algebraic, trivial,
    Cert.AdaOut.algebraic, trivial, Cert.AdaKvb.algebraic, trivial, Cert.AdaIn.algebraic, trivial, Cert.AdaQb.algebraic, trivial,
    Cert.AdaSmall.algebraic, trivial, Cert.OutFwd.algebraic, trivial, Cert.Prep.algebraic, trivial, Cert.PrepBwd.algebraic⟩

end Cert.Proof

end
